-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.PackStatement Cert.KernelIdeal.S20x256
  ∧ IdealRules.bf16_pair.Statement Cert.KernelIdeal.S1x1x1x40x256 Cert.KernelIdeal.S1x1x1x20x256
  ∧ IdealRules.bf16_pair.Statement Cert.KernelIdeal.S1x1x1x2x256 Cert.KernelIdeal.S1x1x1x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x2560 : Shape := ⟨3, ![2, 1, 2560]⟩
abbrev S2560x1024 : Shape := ⟨2, ![2560, 1024]⟩
abbrev S20x10240 : Shape := ⟨2, ![20, 10240]⟩
abbrev S2x10240 : Shape := ⟨2, ![2, 10240]⟩
abbrev S2x2560 : Shape := ⟨2, ![2, 2560]⟩
abbrev S2x4x2560x256 : Shape := ⟨4, ![2, 4, 2560, 256]⟩
abbrev S2x20x10240 : Shape := ⟨3, ![2, 20, 10240]⟩
abbrev S2x4x10x48x256 : Shape := ⟨5, ![2, 4, 10, 48, 256]⟩
abbrev S16x10240 : Shape := ⟨2, ![16, 10240]⟩
abbrev S16x5120 : Shape := ⟨2, ![16, 5120]⟩
abbrev S2x2x10240 : Shape := ⟨3, ![2, 2, 10240]⟩
abbrev S2x4x20x256 : Shape := ⟨4, ![2, 4, 20, 256]⟩
abbrev S20x2 : Shape := ⟨2, ![20, 2]⟩
abbrev S6 : Shape := ⟨1, ![6]⟩
abbrev S_ : Shape := ⟨0, ![]⟩
abbrev S1 : Shape := ⟨1, ![1]⟩
abbrev S1x20x10240 : Shape := ⟨3, ![1, 20, 10240]⟩
abbrev S1x2x10240 : Shape := ⟨3, ![1, 2, 10240]⟩
abbrev S1x1 : Shape := ⟨2, ![1, 1]⟩
abbrev S1x1x512x256 : Shape := ⟨4, ![1, 1, 512, 256]⟩
abbrev S512x256 : Shape := ⟨2, ![512, 256]⟩
abbrev S8x128 : Shape := ⟨2, ![8, 128]⟩
abbrev S8x2560 : Shape := ⟨2, ![8, 2560]⟩
abbrev S8x128x1 : Shape := ⟨3, ![8, 128, 1]⟩
abbrev S16x128 : Shape := ⟨2, ![16, 128]⟩
abbrev S1x20x256 : Shape := ⟨3, ![1, 20, 256]⟩
abbrev S20x256 : Shape := ⟨2, ![20, 256]⟩
abbrev S2x4x10x24x256 : Shape := ⟨5, ![2, 4, 10, 24, 256]⟩
abbrev S1x1x1x20x256 : Shape := ⟨5, ![1, 1, 1, 20, 256]⟩
abbrev S1x1x1x40x256 : Shape := ⟨5, ![1, 1, 1, 40, 256]⟩
abbrev S1x2x256 : Shape := ⟨3, ![1, 2, 256]⟩
abbrev S2x256 : Shape := ⟨2, ![2, 256]⟩
abbrev S1x1x2x256 : Shape := ⟨4, ![1, 1, 2, 256]⟩
abbrev S8x256 : Shape := ⟨2, ![8, 256]⟩
abbrev S16x256 : Shape := ⟨2, ![16, 256]⟩
abbrev S1x1x1x1x256 : Shape := ⟨5, ![1, 1, 1, 1, 256]⟩
abbrev S1x1x1x2x256 : Shape := ⟨5, ![1, 1, 1, 2, 256]⟩
abbrev S1x256 : Shape := ⟨2, ![1, 256]⟩
abbrev S256x256 : Shape := ⟨2, ![256, 256]⟩
abbrev S1x1x64x256 : Shape := ⟨4, ![1, 1, 64, 256]⟩
abbrev S64x256 : Shape := ⟨2, ![64, 256]⟩
abbrev S1x1x128x256 : Shape := ⟨4, ![1, 1, 128, 256]⟩
abbrev S128x256 : Shape := ⟨2, ![128, 256]⟩
abbrev S1x1x8x256 : Shape := ⟨4, ![1, 1, 8, 256]⟩
abbrev S4x256 : Shape := ⟨2, ![4, 256]⟩
abbrev S1x1x4x256 : Shape := ⟨4, ![1, 1, 4, 256]⟩

abbrev nBuf : Space → Nat
  | .hbm => 11
  | .vmem => 10
  | .smem => 0
  | _ => 0

abbrev bufTy : (tb : Table) → Fin (tcTables nBuf tb) → BufTy
  | .hbm, ⟨0, _⟩ => ⟨S2x1x2560, .bf16⟩
  | .hbm, ⟨1, _⟩ => ⟨S2560x1024, .i32⟩
  | .hbm, ⟨2, _⟩ => ⟨S20x10240, .bf16⟩
  | .hbm, ⟨3, _⟩ => ⟨S20x10240, .i8⟩
  | .hbm, ⟨4, _⟩ => ⟨S2x10240, .f32⟩
  | .hbm, ⟨5, _⟩ => ⟨S2560x1024, .i32⟩
  | .hbm, ⟨6, _⟩ => ⟨S20x10240, .bf16⟩
  | .hbm, ⟨7, _⟩ => ⟨S20x10240, .i8⟩
  | .hbm, ⟨8, _⟩ => ⟨S2x10240, .f32⟩
  | .hbm, ⟨9, _⟩ => ⟨S2x2560, .bf16⟩
  | .hbm, ⟨10, _⟩ => ⟨S2x10240, .bf16⟩
  | .local _ .vmem, ⟨0, _⟩ => ⟨S2x4x2560x256, .i32⟩
  | .local _ .vmem, ⟨1, _⟩ => ⟨S2x20x10240, .bf16⟩
  | .local _ .vmem, ⟨2, _⟩ => ⟨S2x20x10240, .i8⟩
  | .local _ .vmem, ⟨3, _⟩ => ⟨S2x2560, .bf16⟩
  | .local _ .vmem, ⟨4, _⟩ => ⟨S2x4x10x48x256, .bf16⟩
  | .local _ .vmem, ⟨5, _⟩ => ⟨S16x10240, .bf16⟩
  | .local _ .vmem, ⟨6, _⟩ => ⟨S16x5120, .bf16⟩
  | .local _ .vmem, ⟨7, _⟩ => ⟨S2x2x10240, .f32⟩
  | .local _ .vmem, ⟨8, _⟩ => ⟨S2x4x20x256, .f32⟩
  | .local _ .vmem, ⟨9, _⟩ => ⟨S2x10240, .bf16⟩
  | _, _ => ⟨S2x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩

abbrev nD : Nat := 1
abbrev τ : Topo := Topo.v7x

variable {F : FTy → Type} [BitOps F]

abbrev grid0 : Pipeline.Grid := .none

def k0_mult1 : BitVec 32 :=
  let c0_i32_18 : BitVec 32 := 0#32
  c0_i32_18
def k0_mult2 : BitVec 32 :=
  let c0_i32_19 : BitVec 32 := 0#32
  c0_i32_19
def k0_mult3 : BitVec 32 :=
  let c0_i32_25 : BitVec 32 := 0#32
  c0_i32_25
def k0_mult4 : BitVec 32 :=
  let c0_i32_26 : BitVec 32 := 0#32
  c0_i32_26
def k0_mult5 : BitVec 32 :=
  let c512_i32 : BitVec 32 := 512#32
  c512_i32
def k0_mult6 : BitVec 32 :=
  let c0_i32_32 : BitVec 32 := 0#32
  c0_i32_32
def k0_mult7 : BitVec 32 :=
  let c512_i32_38 : BitVec 32 := 512#32
  c512_i32_38
def k0_mult8 : BitVec 32 :=
  let c0_i32_39 : BitVec 32 := 0#32
  c0_i32_39
def k0_mult9 : BitVec 32 :=
  let c1024_i32 : BitVec 32 := 1024#32
  c1024_i32
def k0_mult10 : BitVec 32 :=
  let c0_i32_45 : BitVec 32 := 0#32
  c0_i32_45
def k0_mult11 : BitVec 32 :=
  let c1024_i32_51 : BitVec 32 := 1024#32
  c1024_i32_51
def k0_mult12 : BitVec 32 :=
  let c0_i32_52 : BitVec 32 := 0#32
  c0_i32_52
@[reducible] def k0_t1_loop : Scf.Loop 32 :=
  let c0_i32_3120 : BitVec 32 := 0#32
  let c4_i32_3121 : BitVec 32 := 4#32
  let v10056 : BitVec 32 := Scalar.addi c0_i32_3120 c4_i32_3121
  let c1_i32_3122 : BitVec 32 := 1#32
  ⟨c0_i32_3120, v10056, c1_i32_3122⟩
def k0_mult13 (k0_t1 : Fin k0_t1_loop.trips) : BitVec 32 :=
  let c0_i32_3131 : BitVec 32 := 0#32
  let c0_i32_3120 : BitVec 32 := 0#32
  let c1_i32_3122 : BitVec 32 := 1#32
  let arg24 : BitVec 32 := Scf.iv c0_i32_3120 c1_i32_3122 k0_t1
  let c256_i32 : BitVec 32 := 256#32
  let v10076 : BitVec 32 := Scalar.muli arg24 c256_i32
  let v10077 : BitVec 32 := Scalar.addi c0_i32_3131 v10076
  v10077
def k0_off1 (k0_t1 : Fin k0_t1_loop.trips) (c0_i32_3131 : BitVec 32) : Fin 3 → Nat :=
  let c0_3132 : Index := 0#32
  let c0_3133 : Index := 0#32
  let c0_i32_3120 : BitVec 32 := 0#32
  let c1_i32_3122 : BitVec 32 := 1#32
  let arg24 : BitVec 32 := Scf.iv c0_i32_3120 c1_i32_3122 k0_t1
  let c256_i32 : BitVec 32 := 256#32
  let v10076 : BitVec 32 := Scalar.muli arg24 c256_i32
  let v10077 : BitVec 32 := Scalar.addi c0_i32_3131 v10076
  let v10078 : BitVec 32 := v10077
  let v10079 : Index := Scalar.indexCast v10078
  ![0, 0, v10079.toNat]
def k0_mult14 (k0_t1 : Fin k0_t1_loop.trips) : BitVec 32 :=
  let c3072_i32 : BitVec 32 := 3072#32
  let c0_i32_3120 : BitVec 32 := 0#32
  let c1_i32_3122 : BitVec 32 := 1#32
  let arg24 : BitVec 32 := Scf.iv c0_i32_3120 c1_i32_3122 k0_t1
  let c256_i32_3137 : BitVec 32 := 256#32
  let v10090 : BitVec 32 := Scalar.muli arg24 c256_i32_3137
  let v10091 : BitVec 32 := Scalar.addi c3072_i32 v10090
  v10091
def k0_off2 (k0_t1 : Fin k0_t1_loop.trips) : Fin 5 → Nat :=
  let c0_3143 : Index := 0#32
  let c0_i32_3120 : BitVec 32 := 0#32
  let c1_i32_3122 : BitVec 32 := 1#32
  let arg24 : BitVec 32 := Scf.iv c0_i32_3120 c1_i32_3122 k0_t1
  let v10106 : Index := Scalar.indexCast arg24
  let c0_3144 : Index := 0#32
  let c0_3146 : Index := 0#32
  ![0, v10106.toNat, 0, 0, 0]
def k0_off3 (k0_t1 : Fin k0_t1_loop.trips) : Fin 5 → Nat :=
  let c0_3147 : Index := 0#32
  let c0_i32_3120 : BitVec 32 := 0#32
  let c1_i32_3122 : BitVec 32 := 1#32
  let arg24 : BitVec 32 := Scf.iv c0_i32_3120 c1_i32_3122 k0_t1
  let v10112 : Index := Scalar.indexCast arg24
  let c5 : Index := 5#32
  let c0_3149 : Index := 0#32
  ![0, v10112.toNat, 5, 0, 0]
def k0_mult15 (k0_t1 : Fin k0_t1_loop.trips) : BitVec 32 :=
  let c6144_i32 : BitVec 32 := 6144#32
  let c0_i32_3120 : BitVec 32 := 0#32
  let c1_i32_3122 : BitVec 32 := 1#32
  let arg24 : BitVec 32 := Scf.iv c0_i32_3120 c1_i32_3122 k0_t1
  let c256_i32_3150 : BitVec 32 := 256#32
  let v10116 : BitVec 32 := Scalar.muli arg24 c256_i32_3150
  let v10117 : BitVec 32 := Scalar.addi c6144_i32 v10116
  v10117
def k0_mult16 (k0_t1 : Fin k0_t1_loop.trips) : BitVec 32 :=
  let c8192_i32 : BitVec 32 := 8192#32
  let c0_i32_3120 : BitVec 32 := 0#32
  let c1_i32_3122 : BitVec 32 := 1#32
  let arg24 : BitVec 32 := Scf.iv c0_i32_3120 c1_i32_3122 k0_t1
  let c256_i32_3156 : BitVec 32 := 256#32
  let v10130 : BitVec 32 := Scalar.muli arg24 c256_i32_3156
  let v10131 : BitVec 32 := Scalar.addi c8192_i32 v10130
  v10131
def k0_off4 (k0_t1 : Fin k0_t1_loop.trips) : Fin 5 → Nat :=
  let c0_3162 : Index := 0#32
  let c0_i32_3120 : BitVec 32 := 0#32
  let c1_i32_3122 : BitVec 32 := 1#32
  let arg24 : BitVec 32 := Scf.iv c0_i32_3120 c1_i32_3122 k0_t1
  let v10146 : Index := Scalar.indexCast arg24
  let c1 : Index := 1#32
  let c0_3164 : Index := 0#32
  ![0, v10146.toNat, 1, 0, 0]
def k0_off5 (k0_t1 : Fin k0_t1_loop.trips) : Fin 5 → Nat :=
  let c0_3165 : Index := 0#32
  let c0_i32_3120 : BitVec 32 := 0#32
  let c1_i32_3122 : BitVec 32 := 1#32
  let arg24 : BitVec 32 := Scf.iv c0_i32_3120 c1_i32_3122 k0_t1
  let v10152 : Index := Scalar.indexCast arg24
  let c6 : Index := 6#32
  let c0_3167 : Index := 0#32
  ![0, v10152.toNat, 6, 0, 0]
def k0_mult17 (k0_t1 : Fin k0_t1_loop.trips) : BitVec 32 :=
  let c2048_i32 : BitVec 32 := 2048#32
  let c0_i32_3120 : BitVec 32 := 0#32
  let c1_i32_3122 : BitVec 32 := 1#32
  let arg24 : BitVec 32 := Scf.iv c0_i32_3120 c1_i32_3122 k0_t1
  let c256_i32_3168 : BitVec 32 := 256#32
  let v10156 : BitVec 32 := Scalar.muli arg24 c256_i32_3168
  let v10157 : BitVec 32 := Scalar.addi c2048_i32 v10156
  v10157
def k0_mult18 (k0_t1 : Fin k0_t1_loop.trips) : BitVec 32 :=
  let c5120_i32 : BitVec 32 := 5120#32
  let c0_i32_3120 : BitVec 32 := 0#32
  let c1_i32_3122 : BitVec 32 := 1#32
  let arg24 : BitVec 32 := Scf.iv c0_i32_3120 c1_i32_3122 k0_t1
  let c256_i32_3174 : BitVec 32 := 256#32
  let v10170 : BitVec 32 := Scalar.muli arg24 c256_i32_3174
  let v10171 : BitVec 32 := Scalar.addi c5120_i32 v10170
  v10171
def k0_off6 (k0_t1 : Fin k0_t1_loop.trips) : Fin 5 → Nat :=
  let c0_3180 : Index := 0#32
  let c0_i32_3120 : BitVec 32 := 0#32
  let c1_i32_3122 : BitVec 32 := 1#32
  let arg24 : BitVec 32 := Scf.iv c0_i32_3120 c1_i32_3122 k0_t1
  let v10186 : Index := Scalar.indexCast arg24
  let c2 : Index := 2#32
  let c0_3182 : Index := 0#32
  ![0, v10186.toNat, 2, 0, 0]
def k0_off7 (k0_t1 : Fin k0_t1_loop.trips) : Fin 5 → Nat :=
  let c0_3183 : Index := 0#32
  let c0_i32_3120 : BitVec 32 := 0#32
  let c1_i32_3122 : BitVec 32 := 1#32
  let arg24 : BitVec 32 := Scf.iv c0_i32_3120 c1_i32_3122 k0_t1
  let v10192 : Index := Scalar.indexCast arg24
  let c7 : Index := 7#32
  let c0_3185 : Index := 0#32
  ![0, v10192.toNat, 7, 0, 0]
def k0_mult19 (k0_t1 : Fin k0_t1_loop.trips) : BitVec 32 :=
  let c7168_i32 : BitVec 32 := 7168#32
  let c0_i32_3120 : BitVec 32 := 0#32
  let c1_i32_3122 : BitVec 32 := 1#32
  let arg24 : BitVec 32 := Scf.iv c0_i32_3120 c1_i32_3122 k0_t1
  let c256_i32_3186 : BitVec 32 := 256#32
  let v10196 : BitVec 32 := Scalar.muli arg24 c256_i32_3186
  let v10197 : BitVec 32 := Scalar.addi c7168_i32 v10196
  v10197
def k0_mult20 (k0_t1 : Fin k0_t1_loop.trips) : BitVec 32 :=
  let c9216_i32 : BitVec 32 := 9216#32
  let c0_i32_3120 : BitVec 32 := 0#32
  let c1_i32_3122 : BitVec 32 := 1#32
  let arg24 : BitVec 32 := Scf.iv c0_i32_3120 c1_i32_3122 k0_t1
  let c256_i32_3192 : BitVec 32 := 256#32
  let v10210 : BitVec 32 := Scalar.muli arg24 c256_i32_3192
  let v10211 : BitVec 32 := Scalar.addi c9216_i32 v10210
  v10211
def k0_off8 (k0_t1 : Fin k0_t1_loop.trips) : Fin 5 → Nat :=
  let c0_3198 : Index := 0#32
  let c0_i32_3120 : BitVec 32 := 0#32
  let c1_i32_3122 : BitVec 32 := 1#32
  let arg24 : BitVec 32 := Scf.iv c0_i32_3120 c1_i32_3122 k0_t1
  let v10226 : Index := Scalar.indexCast arg24
  let c3 : Index := 3#32
  let c0_3200 : Index := 0#32
  ![0, v10226.toNat, 3, 0, 0]
def k0_off9 (k0_t1 : Fin k0_t1_loop.trips) : Fin 5 → Nat :=
  let c0_3201 : Index := 0#32
  let c0_i32_3120 : BitVec 32 := 0#32
  let c1_i32_3122 : BitVec 32 := 1#32
  let arg24 : BitVec 32 := Scf.iv c0_i32_3120 c1_i32_3122 k0_t1
  let v10232 : Index := Scalar.indexCast arg24
  let c8 : Index := 8#32
  let c0_3203 : Index := 0#32
  ![0, v10232.toNat, 8, 0, 0]
def k0_mult21 (k0_t1 : Fin k0_t1_loop.trips) : BitVec 32 :=
  let c1024_i32_3205 : BitVec 32 := 1024#32
  let c0_i32_3120 : BitVec 32 := 0#32
  let c1_i32_3122 : BitVec 32 := 1#32
  let arg24 : BitVec 32 := Scf.iv c0_i32_3120 c1_i32_3122 k0_t1
  let c256_i32_3204 : BitVec 32 := 256#32
  let v10236 : BitVec 32 := Scalar.muli arg24 c256_i32_3204
  let v10237 : BitVec 32 := Scalar.addi c1024_i32_3205 v10236
  v10237
def k0_mult22 (k0_t1 : Fin k0_t1_loop.trips) : BitVec 32 :=
  let c4096_i32 : BitVec 32 := 4096#32
  let c0_i32_3120 : BitVec 32 := 0#32
  let c1_i32_3122 : BitVec 32 := 1#32
  let arg24 : BitVec 32 := Scf.iv c0_i32_3120 c1_i32_3122 k0_t1
  let c256_i32_3211 : BitVec 32 := 256#32
  let v10250 : BitVec 32 := Scalar.muli arg24 c256_i32_3211
  let v10251 : BitVec 32 := Scalar.addi c4096_i32 v10250
  v10251
def k0_off10 (k0_t1 : Fin k0_t1_loop.trips) : Fin 5 → Nat :=
  let c0_3217 : Index := 0#32
  let c0_i32_3120 : BitVec 32 := 0#32
  let c1_i32_3122 : BitVec 32 := 1#32
  let arg24 : BitVec 32 := Scf.iv c0_i32_3120 c1_i32_3122 k0_t1
  let v10266 : Index := Scalar.indexCast arg24
  let c4 : Index := 4#32
  let c0_3219 : Index := 0#32
  ![0, v10266.toNat, 4, 0, 0]
def k0_off11 (k0_t1 : Fin k0_t1_loop.trips) : Fin 5 → Nat :=
  let c0_3220 : Index := 0#32
  let c0_i32_3120 : BitVec 32 := 0#32
  let c1_i32_3122 : BitVec 32 := 1#32
  let arg24 : BitVec 32 := Scf.iv c0_i32_3120 c1_i32_3122 k0_t1
  let v10272 : Index := Scalar.indexCast arg24
  let c9 : Index := 9#32
  let c0_3222 : Index := 0#32
  ![0, v10272.toNat, 9, 0, 0]
def k0_mult23 (k0_t1 : Fin k0_t1_loop.trips) : BitVec 32 :=
  let c0_i32_3224 : BitVec 32 := 0#32
  let c0_i32_3120 : BitVec 32 := 0#32
  let c1_i32_3122 : BitVec 32 := 1#32
  let arg24 : BitVec 32 := Scf.iv c0_i32_3120 c1_i32_3122 k0_t1
  let c256_i32_3223 : BitVec 32 := 256#32
  let v10276 : BitVec 32 := Scalar.muli arg24 c256_i32_3223
  let v10277 : BitVec 32 := Scalar.addi c0_i32_3224 v10276
  v10277
def k0_off12 (k0_t1 : Fin k0_t1_loop.trips) (c0_i32_3224 : BitVec 32) : Fin 3 → Nat :=
  let c0_3225 : Index := 0#32
  let c0_3226 : Index := 0#32
  let c0_i32_3120 : BitVec 32 := 0#32
  let c1_i32_3122 : BitVec 32 := 1#32
  let arg24 : BitVec 32 := Scf.iv c0_i32_3120 c1_i32_3122 k0_t1
  let c256_i32_3223 : BitVec 32 := 256#32
  let v10276 : BitVec 32 := Scalar.muli arg24 c256_i32_3223
  let v10277 : BitVec 32 := Scalar.addi c0_i32_3224 v10276
  let v10278 : BitVec 32 := v10277
  let v10279 : Index := Scalar.indexCast v10278
  ![0, 0, v10279.toNat]
def k0_off13 (k0_t1 : Fin k0_t1_loop.trips) : Fin 4 → Nat :=
  let c0_3227 : Index := 0#32
  let c0_i32_3120 : BitVec 32 := 0#32
  let c1_i32_3122 : BitVec 32 := 1#32
  let arg24 : BitVec 32 := Scf.iv c0_i32_3120 c1_i32_3122 k0_t1
  let v10282 : Index := Scalar.indexCast arg24
  let c0_3228 : Index := 0#32
  let c0_3229 : Index := 0#32
  ![0, v10282.toNat, 0, 0]
def k0_mult24 (k0_t1 : Fin k0_t1_loop.trips) : BitVec 32 :=
  let c1024_i32_3231 : BitVec 32 := 1024#32
  let c0_i32_3120 : BitVec 32 := 0#32
  let c1_i32_3122 : BitVec 32 := 1#32
  let arg24 : BitVec 32 := Scf.iv c0_i32_3120 c1_i32_3122 k0_t1
  let c256_i32_3230 : BitVec 32 := 256#32
  let v10286 : BitVec 32 := Scalar.muli arg24 c256_i32_3230
  let v10287 : BitVec 32 := Scalar.addi c1024_i32_3231 v10286
  v10287
def k0_off14 (k0_t1 : Fin k0_t1_loop.trips) : Fin 4 → Nat :=
  let c0_3234 : Index := 0#32
  let c0_i32_3120 : BitVec 32 := 0#32
  let c1_i32_3122 : BitVec 32 := 1#32
  let arg24 : BitVec 32 := Scf.iv c0_i32_3120 c1_i32_3122 k0_t1
  let v10292 : Index := Scalar.indexCast arg24
  let c16 : Index := 16#32
  let c0_3235 : Index := 0#32
  ![0, v10292.toNat, 16, 0]
def k0_mult25 (k0_t1 : Fin k0_t1_loop.trips) : BitVec 32 :=
  let c2048_i32_3237 : BitVec 32 := 2048#32
  let c0_i32_3120 : BitVec 32 := 0#32
  let c1_i32_3122 : BitVec 32 := 1#32
  let arg24 : BitVec 32 := Scf.iv c0_i32_3120 c1_i32_3122 k0_t1
  let c256_i32_3236 : BitVec 32 := 256#32
  let v10296 : BitVec 32 := Scalar.muli arg24 c256_i32_3236
  let v10297 : BitVec 32 := Scalar.addi c2048_i32_3237 v10296
  v10297
def k0_off15 (k0_t1 : Fin k0_t1_loop.trips) : Fin 4 → Nat :=
  let c0_3240 : Index := 0#32
  let c0_i32_3120 : BitVec 32 := 0#32
  let c1_i32_3122 : BitVec 32 := 1#32
  let arg24 : BitVec 32 := Scf.iv c0_i32_3120 c1_i32_3122 k0_t1
  let v10302 : Index := Scalar.indexCast arg24
  let c8_3241 : Index := 8#32
  let c0_3242 : Index := 0#32
  ![0, v10302.toNat, 8, 0]
def k0_mult26 (k0_t1 : Fin k0_t1_loop.trips) : BitVec 32 :=
  let c3072_i32_3244 : BitVec 32 := 3072#32
  let c0_i32_3120 : BitVec 32 := 0#32
  let c1_i32_3122 : BitVec 32 := 1#32
  let arg24 : BitVec 32 := Scf.iv c0_i32_3120 c1_i32_3122 k0_t1
  let c256_i32_3243 : BitVec 32 := 256#32
  let v10306 : BitVec 32 := Scalar.muli arg24 c256_i32_3243
  let v10307 : BitVec 32 := Scalar.addi c3072_i32_3244 v10306
  v10307
def k0_off16 (k0_t1 : Fin k0_t1_loop.trips) : Fin 4 → Nat :=
  let c0_3247 : Index := 0#32
  let c0_i32_3120 : BitVec 32 := 0#32
  let c1_i32_3122 : BitVec 32 := 1#32
  let arg24 : BitVec 32 := Scf.iv c0_i32_3120 c1_i32_3122 k0_t1
  let v10312 : Index := Scalar.indexCast arg24
  let c2_3248 : Index := 2#32
  let c0_3249 : Index := 0#32
  ![0, v10312.toNat, 2, 0]
def k0_mult27 (k0_t1 : Fin k0_t1_loop.trips) : BitVec 32 :=
  let c4096_i32_3251 : BitVec 32 := 4096#32
  let c0_i32_3120 : BitVec 32 := 0#32
  let c1_i32_3122 : BitVec 32 := 1#32
  let arg24 : BitVec 32 := Scf.iv c0_i32_3120 c1_i32_3122 k0_t1
  let c256_i32_3250 : BitVec 32 := 256#32
  let v10316 : BitVec 32 := Scalar.muli arg24 c256_i32_3250
  let v10317 : BitVec 32 := Scalar.addi c4096_i32_3251 v10316
  v10317
def k0_off17 (k0_t1 : Fin k0_t1_loop.trips) : Fin 4 → Nat :=
  let c0_3254 : Index := 0#32
  let c0_i32_3120 : BitVec 32 := 0#32
  let c1_i32_3122 : BitVec 32 := 1#32
  let arg24 : BitVec 32 := Scf.iv c0_i32_3120 c1_i32_3122 k0_t1
  let v10322 : Index := Scalar.indexCast arg24
  let c18 : Index := 18#32
  let c0_3255 : Index := 0#32
  ![0, v10322.toNat, 18, 0]
def k0_mult28 (k0_t1 : Fin k0_t1_loop.trips) : BitVec 32 :=
  let c5120_i32_3257 : BitVec 32 := 5120#32
  let c0_i32_3120 : BitVec 32 := 0#32
  let c1_i32_3122 : BitVec 32 := 1#32
  let arg24 : BitVec 32 := Scf.iv c0_i32_3120 c1_i32_3122 k0_t1
  let c256_i32_3256 : BitVec 32 := 256#32
  let v10326 : BitVec 32 := Scalar.muli arg24 c256_i32_3256
  let v10327 : BitVec 32 := Scalar.addi c5120_i32_3257 v10326
  v10327
def k0_off18 (k0_t1 : Fin k0_t1_loop.trips) : Fin 4 → Nat :=
  let c0_3260 : Index := 0#32
  let c0_i32_3120 : BitVec 32 := 0#32
  let c1_i32_3122 : BitVec 32 := 1#32
  let arg24 : BitVec 32 := Scf.iv c0_i32_3120 c1_i32_3122 k0_t1
  let v10332 : Index := Scalar.indexCast arg24
  let c10 : Index := 10#32
  let c0_3261 : Index := 0#32
  ![0, v10332.toNat, 10, 0]
def k0_mult29 (k0_t1 : Fin k0_t1_loop.trips) : BitVec 32 :=
  let c6144_i32_3263 : BitVec 32 := 6144#32
  let c0_i32_3120 : BitVec 32 := 0#32
  let c1_i32_3122 : BitVec 32 := 1#32
  let arg24 : BitVec 32 := Scf.iv c0_i32_3120 c1_i32_3122 k0_t1
  let c256_i32_3262 : BitVec 32 := 256#32
  let v10336 : BitVec 32 := Scalar.muli arg24 c256_i32_3262
  let v10337 : BitVec 32 := Scalar.addi c6144_i32_3263 v10336
  v10337
def k0_off19 (k0_t1 : Fin k0_t1_loop.trips) : Fin 4 → Nat :=
  let c0_3266 : Index := 0#32
  let c0_i32_3120 : BitVec 32 := 0#32
  let c1_i32_3122 : BitVec 32 := 1#32
  let arg24 : BitVec 32 := Scf.iv c0_i32_3120 c1_i32_3122 k0_t1
  let v10342 : Index := Scalar.indexCast arg24
  let c4_3267 : Index := 4#32
  let c0_3268 : Index := 0#32
  ![0, v10342.toNat, 4, 0]
def k0_mult30 (k0_t1 : Fin k0_t1_loop.trips) : BitVec 32 :=
  let c7168_i32_3270 : BitVec 32 := 7168#32
  let c0_i32_3120 : BitVec 32 := 0#32
  let c1_i32_3122 : BitVec 32 := 1#32
  let arg24 : BitVec 32 := Scf.iv c0_i32_3120 c1_i32_3122 k0_t1
  let c256_i32_3269 : BitVec 32 := 256#32
  let v10346 : BitVec 32 := Scalar.muli arg24 c256_i32_3269
  let v10347 : BitVec 32 := Scalar.addi c7168_i32_3270 v10346
  v10347
def k0_off20 (k0_t1 : Fin k0_t1_loop.trips) : Fin 4 → Nat :=
  let c0_3273 : Index := 0#32
  let c0_i32_3120 : BitVec 32 := 0#32
  let c1_i32_3122 : BitVec 32 := 1#32
  let arg24 : BitVec 32 := Scf.iv c0_i32_3120 c1_i32_3122 k0_t1
  let v10352 : Index := Scalar.indexCast arg24
  let c12 : Index := 12#32
  let c0_3274 : Index := 0#32
  ![0, v10352.toNat, 12, 0]
def k0_mult31 (k0_t1 : Fin k0_t1_loop.trips) : BitVec 32 :=
  let c8192_i32_3276 : BitVec 32 := 8192#32
  let c0_i32_3120 : BitVec 32 := 0#32
  let c1_i32_3122 : BitVec 32 := 1#32
  let arg24 : BitVec 32 := Scf.iv c0_i32_3120 c1_i32_3122 k0_t1
  let c256_i32_3275 : BitVec 32 := 256#32
  let v10356 : BitVec 32 := Scalar.muli arg24 c256_i32_3275
  let v10357 : BitVec 32 := Scalar.addi c8192_i32_3276 v10356
  v10357
def k0_off21 (k0_t1 : Fin k0_t1_loop.trips) : Fin 4 → Nat :=
  let c0_3279 : Index := 0#32
  let c0_i32_3120 : BitVec 32 := 0#32
  let c1_i32_3122 : BitVec 32 := 1#32
  let arg24 : BitVec 32 := Scf.iv c0_i32_3120 c1_i32_3122 k0_t1
  let v10362 : Index := Scalar.indexCast arg24
  let c6_3280 : Index := 6#32
  let c0_3281 : Index := 0#32
  ![0, v10362.toNat, 6, 0]
def k0_mult32 (k0_t1 : Fin k0_t1_loop.trips) : BitVec 32 :=
  let c9216_i32_3283 : BitVec 32 := 9216#32
  let c0_i32_3120 : BitVec 32 := 0#32
  let c1_i32_3122 : BitVec 32 := 1#32
  let arg24 : BitVec 32 := Scf.iv c0_i32_3120 c1_i32_3122 k0_t1
  let c256_i32_3282 : BitVec 32 := 256#32
  let v10366 : BitVec 32 := Scalar.muli arg24 c256_i32_3282
  let v10367 : BitVec 32 := Scalar.addi c9216_i32_3283 v10366
  v10367
def k0_off22 (k0_t1 : Fin k0_t1_loop.trips) : Fin 4 → Nat :=
  let c0_3286 : Index := 0#32
  let c0_i32_3120 : BitVec 32 := 0#32
  let c1_i32_3122 : BitVec 32 := 1#32
  let arg24 : BitVec 32 := Scf.iv c0_i32_3120 c1_i32_3122 k0_t1
  let v10372 : Index := Scalar.indexCast arg24
  let c14 : Index := 14#32
  let c0_3287 : Index := 0#32
  ![0, v10372.toNat, 14, 0]
def k0_mult33 (k0_t1 : Fin k0_t1_loop.trips) : BitVec 32 :=
  let c0_i32_3289 : BitVec 32 := 0#32
  let c0_i32_3120 : BitVec 32 := 0#32
  let c1_i32_3122 : BitVec 32 := 1#32
  let arg24 : BitVec 32 := Scf.iv c0_i32_3120 c1_i32_3122 k0_t1
  let c256_i32_3288 : BitVec 32 := 256#32
  let v10376 : BitVec 32 := Scalar.muli arg24 c256_i32_3288
  let v10377 : BitVec 32 := Scalar.addi c0_i32_3289 v10376
  v10377
def k0_off23 (k0_t1 : Fin k0_t1_loop.trips) (c0_i32_3289 : BitVec 32) : Fin 3 → Nat :=
  let c1_3290 : Index := 1#32
  let c0_3291 : Index := 0#32
  let c0_i32_3120 : BitVec 32 := 0#32
  let c1_i32_3122 : BitVec 32 := 1#32
  let arg24 : BitVec 32 := Scf.iv c0_i32_3120 c1_i32_3122 k0_t1
  let c256_i32_3288 : BitVec 32 := 256#32
  let v10376 : BitVec 32 := Scalar.muli arg24 c256_i32_3288
  let v10377 : BitVec 32 := Scalar.addi c0_i32_3289 v10376
  let v10378 : BitVec 32 := v10377
  let v10379 : Index := Scalar.indexCast v10378
  ![1, 0, v10379.toNat]
def k0_mult34 (k0_t1 : Fin k0_t1_loop.trips) : BitVec 32 :=
  let c3072_i32_3296 : BitVec 32 := 3072#32
  let c0_i32_3120 : BitVec 32 := 0#32
  let c1_i32_3122 : BitVec 32 := 1#32
  let arg24 : BitVec 32 := Scf.iv c0_i32_3120 c1_i32_3122 k0_t1
  let c256_i32_3295 : BitVec 32 := 256#32
  let v10390 : BitVec 32 := Scalar.muli arg24 c256_i32_3295
  let v10391 : BitVec 32 := Scalar.addi c3072_i32_3296 v10390
  v10391
def k0_off24 (k0_t1 : Fin k0_t1_loop.trips) : Fin 5 → Nat :=
  let c1_3302 : Index := 1#32
  let c0_i32_3120 : BitVec 32 := 0#32
  let c1_i32_3122 : BitVec 32 := 1#32
  let arg24 : BitVec 32 := Scf.iv c0_i32_3120 c1_i32_3122 k0_t1
  let v10406 : Index := Scalar.indexCast arg24
  let c0_3303 : Index := 0#32
  let c0_3305 : Index := 0#32
  ![1, v10406.toNat, 0, 0, 0]
def k0_off25 (k0_t1 : Fin k0_t1_loop.trips) : Fin 5 → Nat :=
  let c1_3306 : Index := 1#32
  let c0_i32_3120 : BitVec 32 := 0#32
  let c1_i32_3122 : BitVec 32 := 1#32
  let arg24 : BitVec 32 := Scf.iv c0_i32_3120 c1_i32_3122 k0_t1
  let v10412 : Index := Scalar.indexCast arg24
  let c5_3307 : Index := 5#32
  let c0_3309 : Index := 0#32
  ![1, v10412.toNat, 5, 0, 0]
def k0_mult35 (k0_t1 : Fin k0_t1_loop.trips) : BitVec 32 :=
  let c6144_i32_3311 : BitVec 32 := 6144#32
  let c0_i32_3120 : BitVec 32 := 0#32
  let c1_i32_3122 : BitVec 32 := 1#32
  let arg24 : BitVec 32 := Scf.iv c0_i32_3120 c1_i32_3122 k0_t1
  let c256_i32_3310 : BitVec 32 := 256#32
  let v10416 : BitVec 32 := Scalar.muli arg24 c256_i32_3310
  let v10417 : BitVec 32 := Scalar.addi c6144_i32_3311 v10416
  v10417
def k0_mult36 (k0_t1 : Fin k0_t1_loop.trips) : BitVec 32 :=
  let c8192_i32_3318 : BitVec 32 := 8192#32
  let c0_i32_3120 : BitVec 32 := 0#32
  let c1_i32_3122 : BitVec 32 := 1#32
  let arg24 : BitVec 32 := Scf.iv c0_i32_3120 c1_i32_3122 k0_t1
  let c256_i32_3317 : BitVec 32 := 256#32
  let v10430 : BitVec 32 := Scalar.muli arg24 c256_i32_3317
  let v10431 : BitVec 32 := Scalar.addi c8192_i32_3318 v10430
  v10431
def k0_off26 (k0_t1 : Fin k0_t1_loop.trips) : Fin 5 → Nat :=
  let c1_3324 : Index := 1#32
  let c0_i32_3120 : BitVec 32 := 0#32
  let c1_i32_3122 : BitVec 32 := 1#32
  let arg24 : BitVec 32 := Scf.iv c0_i32_3120 c1_i32_3122 k0_t1
  let v10446 : Index := Scalar.indexCast arg24
  let c1_3325 : Index := 1#32
  let c0_3327 : Index := 0#32
  ![1, v10446.toNat, 1, 0, 0]
def k0_off27 (k0_t1 : Fin k0_t1_loop.trips) : Fin 5 → Nat :=
  let c1_3328 : Index := 1#32
  let c0_i32_3120 : BitVec 32 := 0#32
  let c1_i32_3122 : BitVec 32 := 1#32
  let arg24 : BitVec 32 := Scf.iv c0_i32_3120 c1_i32_3122 k0_t1
  let v10452 : Index := Scalar.indexCast arg24
  let c6_3329 : Index := 6#32
  let c0_3331 : Index := 0#32
  ![1, v10452.toNat, 6, 0, 0]
def k0_mult37 (k0_t1 : Fin k0_t1_loop.trips) : BitVec 32 :=
  let c2048_i32_3333 : BitVec 32 := 2048#32
  let c0_i32_3120 : BitVec 32 := 0#32
  let c1_i32_3122 : BitVec 32 := 1#32
  let arg24 : BitVec 32 := Scf.iv c0_i32_3120 c1_i32_3122 k0_t1
  let c256_i32_3332 : BitVec 32 := 256#32
  let v10456 : BitVec 32 := Scalar.muli arg24 c256_i32_3332
  let v10457 : BitVec 32 := Scalar.addi c2048_i32_3333 v10456
  v10457
def k0_mult38 (k0_t1 : Fin k0_t1_loop.trips) : BitVec 32 :=
  let c5120_i32_3340 : BitVec 32 := 5120#32
  let c0_i32_3120 : BitVec 32 := 0#32
  let c1_i32_3122 : BitVec 32 := 1#32
  let arg24 : BitVec 32 := Scf.iv c0_i32_3120 c1_i32_3122 k0_t1
  let c256_i32_3339 : BitVec 32 := 256#32
  let v10470 : BitVec 32 := Scalar.muli arg24 c256_i32_3339
  let v10471 : BitVec 32 := Scalar.addi c5120_i32_3340 v10470
  v10471
def k0_off28 (k0_t1 : Fin k0_t1_loop.trips) : Fin 5 → Nat :=
  let c1_3346 : Index := 1#32
  let c0_i32_3120 : BitVec 32 := 0#32
  let c1_i32_3122 : BitVec 32 := 1#32
  let arg24 : BitVec 32 := Scf.iv c0_i32_3120 c1_i32_3122 k0_t1
  let v10486 : Index := Scalar.indexCast arg24
  let c2_3347 : Index := 2#32
  let c0_3349 : Index := 0#32
  ![1, v10486.toNat, 2, 0, 0]
def k0_off29 (k0_t1 : Fin k0_t1_loop.trips) : Fin 5 → Nat :=
  let c1_3350 : Index := 1#32
  let c0_i32_3120 : BitVec 32 := 0#32
  let c1_i32_3122 : BitVec 32 := 1#32
  let arg24 : BitVec 32 := Scf.iv c0_i32_3120 c1_i32_3122 k0_t1
  let v10492 : Index := Scalar.indexCast arg24
  let c7_3351 : Index := 7#32
  let c0_3353 : Index := 0#32
  ![1, v10492.toNat, 7, 0, 0]
def k0_mult39 (k0_t1 : Fin k0_t1_loop.trips) : BitVec 32 :=
  let c7168_i32_3355 : BitVec 32 := 7168#32
  let c0_i32_3120 : BitVec 32 := 0#32
  let c1_i32_3122 : BitVec 32 := 1#32
  let arg24 : BitVec 32 := Scf.iv c0_i32_3120 c1_i32_3122 k0_t1
  let c256_i32_3354 : BitVec 32 := 256#32
  let v10496 : BitVec 32 := Scalar.muli arg24 c256_i32_3354
  let v10497 : BitVec 32 := Scalar.addi c7168_i32_3355 v10496
  v10497
def k0_mult40 (k0_t1 : Fin k0_t1_loop.trips) : BitVec 32 :=
  let c9216_i32_3362 : BitVec 32 := 9216#32
  let c0_i32_3120 : BitVec 32 := 0#32
  let c1_i32_3122 : BitVec 32 := 1#32
  let arg24 : BitVec 32 := Scf.iv c0_i32_3120 c1_i32_3122 k0_t1
  let c256_i32_3361 : BitVec 32 := 256#32
  let v10510 : BitVec 32 := Scalar.muli arg24 c256_i32_3361
  let v10511 : BitVec 32 := Scalar.addi c9216_i32_3362 v10510
  v10511
def k0_off30 (k0_t1 : Fin k0_t1_loop.trips) : Fin 5 → Nat :=
  let c1_3368 : Index := 1#32
  let c0_i32_3120 : BitVec 32 := 0#32
  let c1_i32_3122 : BitVec 32 := 1#32
  let arg24 : BitVec 32 := Scf.iv c0_i32_3120 c1_i32_3122 k0_t1
  let v10526 : Index := Scalar.indexCast arg24
  let c3_3369 : Index := 3#32
  let c0_3371 : Index := 0#32
  ![1, v10526.toNat, 3, 0, 0]
def k0_off31 (k0_t1 : Fin k0_t1_loop.trips) : Fin 5 → Nat :=
  let c1_3372 : Index := 1#32
  let c0_i32_3120 : BitVec 32 := 0#32
  let c1_i32_3122 : BitVec 32 := 1#32
  let arg24 : BitVec 32 := Scf.iv c0_i32_3120 c1_i32_3122 k0_t1
  let v10532 : Index := Scalar.indexCast arg24
  let c8_3373 : Index := 8#32
  let c0_3375 : Index := 0#32
  ![1, v10532.toNat, 8, 0, 0]
def k0_mult41 (k0_t1 : Fin k0_t1_loop.trips) : BitVec 32 :=
  let c1024_i32_3377 : BitVec 32 := 1024#32
  let c0_i32_3120 : BitVec 32 := 0#32
  let c1_i32_3122 : BitVec 32 := 1#32
  let arg24 : BitVec 32 := Scf.iv c0_i32_3120 c1_i32_3122 k0_t1
  let c256_i32_3376 : BitVec 32 := 256#32
  let v10536 : BitVec 32 := Scalar.muli arg24 c256_i32_3376
  let v10537 : BitVec 32 := Scalar.addi c1024_i32_3377 v10536
  v10537
def k0_mult42 (k0_t1 : Fin k0_t1_loop.trips) : BitVec 32 :=
  let c4096_i32_3384 : BitVec 32 := 4096#32
  let c0_i32_3120 : BitVec 32 := 0#32
  let c1_i32_3122 : BitVec 32 := 1#32
  let arg24 : BitVec 32 := Scf.iv c0_i32_3120 c1_i32_3122 k0_t1
  let c256_i32_3383 : BitVec 32 := 256#32
  let v10550 : BitVec 32 := Scalar.muli arg24 c256_i32_3383
  let v10551 : BitVec 32 := Scalar.addi c4096_i32_3384 v10550
  v10551
def k0_off32 (k0_t1 : Fin k0_t1_loop.trips) : Fin 5 → Nat :=
  let c1_3390 : Index := 1#32
  let c0_i32_3120 : BitVec 32 := 0#32
  let c1_i32_3122 : BitVec 32 := 1#32
  let arg24 : BitVec 32 := Scf.iv c0_i32_3120 c1_i32_3122 k0_t1
  let v10566 : Index := Scalar.indexCast arg24
  let c4_3391 : Index := 4#32
  let c0_3393 : Index := 0#32
  ![1, v10566.toNat, 4, 0, 0]
def k0_off33 (k0_t1 : Fin k0_t1_loop.trips) : Fin 5 → Nat :=
  let c1_3394 : Index := 1#32
  let c0_i32_3120 : BitVec 32 := 0#32
  let c1_i32_3122 : BitVec 32 := 1#32
  let arg24 : BitVec 32 := Scf.iv c0_i32_3120 c1_i32_3122 k0_t1
  let v10572 : Index := Scalar.indexCast arg24
  let c9_3395 : Index := 9#32
  let c0_3397 : Index := 0#32
  ![1, v10572.toNat, 9, 0, 0]
def k0_mult43 (k0_t1 : Fin k0_t1_loop.trips) : BitVec 32 :=
  let c0_i32_3399 : BitVec 32 := 0#32
  let c0_i32_3120 : BitVec 32 := 0#32
  let c1_i32_3122 : BitVec 32 := 1#32
  let arg24 : BitVec 32 := Scf.iv c0_i32_3120 c1_i32_3122 k0_t1
  let c256_i32_3398 : BitVec 32 := 256#32
  let v10576 : BitVec 32 := Scalar.muli arg24 c256_i32_3398
  let v10577 : BitVec 32 := Scalar.addi c0_i32_3399 v10576
  v10577
def k0_off34 (k0_t1 : Fin k0_t1_loop.trips) (c0_i32_3399 : BitVec 32) : Fin 3 → Nat :=
  let c1_3400 : Index := 1#32
  let c0_3401 : Index := 0#32
  let c0_i32_3120 : BitVec 32 := 0#32
  let c1_i32_3122 : BitVec 32 := 1#32
  let arg24 : BitVec 32 := Scf.iv c0_i32_3120 c1_i32_3122 k0_t1
  let c256_i32_3398 : BitVec 32 := 256#32
  let v10576 : BitVec 32 := Scalar.muli arg24 c256_i32_3398
  let v10577 : BitVec 32 := Scalar.addi c0_i32_3399 v10576
  let v10578 : BitVec 32 := v10577
  let v10579 : Index := Scalar.indexCast v10578
  ![1, 0, v10579.toNat]
def k0_off35 (k0_t1 : Fin k0_t1_loop.trips) : Fin 4 → Nat :=
  let c1_3402 : Index := 1#32
  let c0_i32_3120 : BitVec 32 := 0#32
  let c1_i32_3122 : BitVec 32 := 1#32
  let arg24 : BitVec 32 := Scf.iv c0_i32_3120 c1_i32_3122 k0_t1
  let v10582 : Index := Scalar.indexCast arg24
  let c0_3403 : Index := 0#32
  let c0_3404 : Index := 0#32
  ![1, v10582.toNat, 0, 0]
def k0_mult44 (k0_t1 : Fin k0_t1_loop.trips) : BitVec 32 :=
  let c1024_i32_3406 : BitVec 32 := 1024#32
  let c0_i32_3120 : BitVec 32 := 0#32
  let c1_i32_3122 : BitVec 32 := 1#32
  let arg24 : BitVec 32 := Scf.iv c0_i32_3120 c1_i32_3122 k0_t1
  let c256_i32_3405 : BitVec 32 := 256#32
  let v10586 : BitVec 32 := Scalar.muli arg24 c256_i32_3405
  let v10587 : BitVec 32 := Scalar.addi c1024_i32_3406 v10586
  v10587
def k0_off36 (k0_t1 : Fin k0_t1_loop.trips) : Fin 4 → Nat :=
  let c1_3409 : Index := 1#32
  let c0_i32_3120 : BitVec 32 := 0#32
  let c1_i32_3122 : BitVec 32 := 1#32
  let arg24 : BitVec 32 := Scf.iv c0_i32_3120 c1_i32_3122 k0_t1
  let v10592 : Index := Scalar.indexCast arg24
  let c16_3410 : Index := 16#32
  let c0_3411 : Index := 0#32
  ![1, v10592.toNat, 16, 0]
def k0_mult45 (k0_t1 : Fin k0_t1_loop.trips) : BitVec 32 :=
  let c2048_i32_3413 : BitVec 32 := 2048#32
  let c0_i32_3120 : BitVec 32 := 0#32
  let c1_i32_3122 : BitVec 32 := 1#32
  let arg24 : BitVec 32 := Scf.iv c0_i32_3120 c1_i32_3122 k0_t1
  let c256_i32_3412 : BitVec 32 := 256#32
  let v10596 : BitVec 32 := Scalar.muli arg24 c256_i32_3412
  let v10597 : BitVec 32 := Scalar.addi c2048_i32_3413 v10596
  v10597
def k0_off37 (k0_t1 : Fin k0_t1_loop.trips) : Fin 4 → Nat :=
  let c1_3416 : Index := 1#32
  let c0_i32_3120 : BitVec 32 := 0#32
  let c1_i32_3122 : BitVec 32 := 1#32
  let arg24 : BitVec 32 := Scf.iv c0_i32_3120 c1_i32_3122 k0_t1
  let v10602 : Index := Scalar.indexCast arg24
  let c8_3417 : Index := 8#32
  let c0_3418 : Index := 0#32
  ![1, v10602.toNat, 8, 0]
def k0_mult46 (k0_t1 : Fin k0_t1_loop.trips) : BitVec 32 :=
  let c3072_i32_3420 : BitVec 32 := 3072#32
  let c0_i32_3120 : BitVec 32 := 0#32
  let c1_i32_3122 : BitVec 32 := 1#32
  let arg24 : BitVec 32 := Scf.iv c0_i32_3120 c1_i32_3122 k0_t1
  let c256_i32_3419 : BitVec 32 := 256#32
  let v10606 : BitVec 32 := Scalar.muli arg24 c256_i32_3419
  let v10607 : BitVec 32 := Scalar.addi c3072_i32_3420 v10606
  v10607
def k0_off38 (k0_t1 : Fin k0_t1_loop.trips) : Fin 4 → Nat :=
  let c1_3423 : Index := 1#32
  let c0_i32_3120 : BitVec 32 := 0#32
  let c1_i32_3122 : BitVec 32 := 1#32
  let arg24 : BitVec 32 := Scf.iv c0_i32_3120 c1_i32_3122 k0_t1
  let v10612 : Index := Scalar.indexCast arg24
  let c2_3424 : Index := 2#32
  let c0_3425 : Index := 0#32
  ![1, v10612.toNat, 2, 0]
def k0_mult47 (k0_t1 : Fin k0_t1_loop.trips) : BitVec 32 :=
  let c4096_i32_3427 : BitVec 32 := 4096#32
  let c0_i32_3120 : BitVec 32 := 0#32
  let c1_i32_3122 : BitVec 32 := 1#32
  let arg24 : BitVec 32 := Scf.iv c0_i32_3120 c1_i32_3122 k0_t1
  let c256_i32_3426 : BitVec 32 := 256#32
  let v10616 : BitVec 32 := Scalar.muli arg24 c256_i32_3426
  let v10617 : BitVec 32 := Scalar.addi c4096_i32_3427 v10616
  v10617
def k0_off39 (k0_t1 : Fin k0_t1_loop.trips) : Fin 4 → Nat :=
  let c1_3430 : Index := 1#32
  let c0_i32_3120 : BitVec 32 := 0#32
  let c1_i32_3122 : BitVec 32 := 1#32
  let arg24 : BitVec 32 := Scf.iv c0_i32_3120 c1_i32_3122 k0_t1
  let v10622 : Index := Scalar.indexCast arg24
  let c18_3431 : Index := 18#32
  let c0_3432 : Index := 0#32
  ![1, v10622.toNat, 18, 0]
def k0_mult48 (k0_t1 : Fin k0_t1_loop.trips) : BitVec 32 :=
  let c5120_i32_3434 : BitVec 32 := 5120#32
  let c0_i32_3120 : BitVec 32 := 0#32
  let c1_i32_3122 : BitVec 32 := 1#32
  let arg24 : BitVec 32 := Scf.iv c0_i32_3120 c1_i32_3122 k0_t1
  let c256_i32_3433 : BitVec 32 := 256#32
  let v10626 : BitVec 32 := Scalar.muli arg24 c256_i32_3433
  let v10627 : BitVec 32 := Scalar.addi c5120_i32_3434 v10626
  v10627
def k0_off40 (k0_t1 : Fin k0_t1_loop.trips) : Fin 4 → Nat :=
  let c1_3437 : Index := 1#32
  let c0_i32_3120 : BitVec 32 := 0#32
  let c1_i32_3122 : BitVec 32 := 1#32
  let arg24 : BitVec 32 := Scf.iv c0_i32_3120 c1_i32_3122 k0_t1
  let v10632 : Index := Scalar.indexCast arg24
  let c10_3438 : Index := 10#32
  let c0_3439 : Index := 0#32
  ![1, v10632.toNat, 10, 0]
def k0_mult49 (k0_t1 : Fin k0_t1_loop.trips) : BitVec 32 :=
  let c6144_i32_3441 : BitVec 32 := 6144#32
  let c0_i32_3120 : BitVec 32 := 0#32
  let c1_i32_3122 : BitVec 32 := 1#32
  let arg24 : BitVec 32 := Scf.iv c0_i32_3120 c1_i32_3122 k0_t1
  let c256_i32_3440 : BitVec 32 := 256#32
  let v10636 : BitVec 32 := Scalar.muli arg24 c256_i32_3440
  let v10637 : BitVec 32 := Scalar.addi c6144_i32_3441 v10636
  v10637
def k0_off41 (k0_t1 : Fin k0_t1_loop.trips) : Fin 4 → Nat :=
  let c1_3444 : Index := 1#32
  let c0_i32_3120 : BitVec 32 := 0#32
  let c1_i32_3122 : BitVec 32 := 1#32
  let arg24 : BitVec 32 := Scf.iv c0_i32_3120 c1_i32_3122 k0_t1
  let v10642 : Index := Scalar.indexCast arg24
  let c4_3445 : Index := 4#32
  let c0_3446 : Index := 0#32
  ![1, v10642.toNat, 4, 0]
def k0_mult50 (k0_t1 : Fin k0_t1_loop.trips) : BitVec 32 :=
  let c7168_i32_3448 : BitVec 32 := 7168#32
  let c0_i32_3120 : BitVec 32 := 0#32
  let c1_i32_3122 : BitVec 32 := 1#32
  let arg24 : BitVec 32 := Scf.iv c0_i32_3120 c1_i32_3122 k0_t1
  let c256_i32_3447 : BitVec 32 := 256#32
  let v10646 : BitVec 32 := Scalar.muli arg24 c256_i32_3447
  let v10647 : BitVec 32 := Scalar.addi c7168_i32_3448 v10646
  v10647
def k0_off42 (k0_t1 : Fin k0_t1_loop.trips) : Fin 4 → Nat :=
  let c1_3451 : Index := 1#32
  let c0_i32_3120 : BitVec 32 := 0#32
  let c1_i32_3122 : BitVec 32 := 1#32
  let arg24 : BitVec 32 := Scf.iv c0_i32_3120 c1_i32_3122 k0_t1
  let v10652 : Index := Scalar.indexCast arg24
  let c12_3452 : Index := 12#32
  let c0_3453 : Index := 0#32
  ![1, v10652.toNat, 12, 0]
def k0_mult51 (k0_t1 : Fin k0_t1_loop.trips) : BitVec 32 :=
  let c8192_i32_3455 : BitVec 32 := 8192#32
  let c0_i32_3120 : BitVec 32 := 0#32
  let c1_i32_3122 : BitVec 32 := 1#32
  let arg24 : BitVec 32 := Scf.iv c0_i32_3120 c1_i32_3122 k0_t1
  let c256_i32_3454 : BitVec 32 := 256#32
  let v10656 : BitVec 32 := Scalar.muli arg24 c256_i32_3454
  let v10657 : BitVec 32 := Scalar.addi c8192_i32_3455 v10656
  v10657
def k0_off43 (k0_t1 : Fin k0_t1_loop.trips) : Fin 4 → Nat :=
  let c1_3458 : Index := 1#32
  let c0_i32_3120 : BitVec 32 := 0#32
  let c1_i32_3122 : BitVec 32 := 1#32
  let arg24 : BitVec 32 := Scf.iv c0_i32_3120 c1_i32_3122 k0_t1
  let v10662 : Index := Scalar.indexCast arg24
  let c6_3459 : Index := 6#32
  let c0_3460 : Index := 0#32
  ![1, v10662.toNat, 6, 0]
def k0_mult52 (k0_t1 : Fin k0_t1_loop.trips) : BitVec 32 :=
  let c9216_i32_3462 : BitVec 32 := 9216#32
  let c0_i32_3120 : BitVec 32 := 0#32
  let c1_i32_3122 : BitVec 32 := 1#32
  let arg24 : BitVec 32 := Scf.iv c0_i32_3120 c1_i32_3122 k0_t1
  let c256_i32_3461 : BitVec 32 := 256#32
  let v10666 : BitVec 32 := Scalar.muli arg24 c256_i32_3461
  let v10667 : BitVec 32 := Scalar.addi c9216_i32_3462 v10666
  v10667
def k0_off44 (k0_t1 : Fin k0_t1_loop.trips) : Fin 4 → Nat :=
  let c1_3465 : Index := 1#32
  let c0_i32_3120 : BitVec 32 := 0#32
  let c1_i32_3122 : BitVec 32 := 1#32
  let arg24 : BitVec 32 := Scf.iv c0_i32_3120 c1_i32_3122 k0_t1
  let v10672 : Index := Scalar.indexCast arg24
  let c14_3466 : Index := 14#32
  let c0_3467 : Index := 0#32
  ![1, v10672.toNat, 14, 0]
@[reducible] def k0_t2_loop : Scf.Loop 32 :=
  let c0_i32_3225_r0 : BitVec 32 := 0#32
  let c4_i32_3226_r0 : BitVec 32 := 4#32
  let v10366_r0 : BitVec 32 := Scalar.addi c0_i32_3225_r0 c4_i32_3226_r0
  let c1_i32_3227_r0 : BitVec 32 := 1#32
  ⟨c0_i32_3225_r0, v10366_r0, c1_i32_3227_r0⟩
@[reducible] def k0_t3_loop : Scf.Loop 32 :=
  let c0_i32_3230_r0 : BitVec 32 := 0#32
  let c5_i32_3231_r0 : BitVec 32 := 5#32
  let v10368_r0 : BitVec 32 := Scalar.addi c0_i32_3230_r0 c5_i32_3231_r0
  let c1_i32_3232_r0 : BitVec 32 := 1#32
  ⟨c0_i32_3230_r0, v10368_r0, c1_i32_3232_r0⟩
def k0_cond1 (k0_t2 : Fin k0_t2_loop.trips) (k0_t3 : Fin k0_t3_loop.trips) : BitVec 1 :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c20_i32_r0 : BitVec 32 := 20#32
  let v10516_r0 : BitVec 1 := Scalar.cmpi .slt v10515_r0 c20_i32_r0
  let v10517_r0 : BitVec 32 := Scalar.extui v10516_r0
  let c0_i32_3273_r0 : BitVec 32 := 0#32
  let v10518_r0 : BitVec 1 := Scalar.cmpi .ne v10517_r0 c0_i32_3273_r0
  v10518_r0

def k0_mult53 (k0_t2 : Fin k0_t2_loop.trips) (k0_t3 : Fin k0_t3_loop.trips) : BitVec 32 :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c5_i32_3760_r0 : BitVec 32 := 5#32
  let c0_i32_3761_r0 : BitVec 32 := 0#32
  let v11768_r0 : BitVec 1 := Scalar.cmpi .eq c5_i32_3760_r0 c0_i32_3761_r0
  let c1_i32_3762_r0 : BitVec 32 := 1#32
  let v11769_r0 : BitVec 32 := Scalar.select v11768_r0 c1_i32_3762_r0 c5_i32_3760_r0
  let v11770_r0 : BitVec 32 := Scalar.remsi v10515_r0 v11769_r0
  let c0_i32_3764_r0 : BitVec 32 := 0#32
  let v11772_r0 : BitVec 1 := Scalar.cmpi .slt v11770_r0 c0_i32_3764_r0
  let c0_i32_3765_r0 : BitVec 32 := 0#32
  let v11773_r0 : BitVec 1 := Scalar.cmpi .slt v11769_r0 c0_i32_3765_r0
  let v11774_r0 : BitVec 1 := Scalar.xori v11772_r0 v11773_r0
  let c0_i32_3763_r0 : BitVec 32 := 0#32
  let v11771_r0 : BitVec 1 := Scalar.cmpi .ne v11770_r0 c0_i32_3763_r0
  let v11775_r0 : BitVec 1 := Scalar.andi v11774_r0 v11771_r0
  let v11776_r0 : BitVec 32 := Scalar.addi v11770_r0 v11769_r0
  let v11777_r0 : BitVec 32 := Scalar.select v11775_r0 v11776_r0 v11770_r0
  let c512_i32_3766_r0 : BitVec 32 := 512#32
  let v11778_r0 : BitVec 32 := Scalar.muli v11777_r0 c512_i32_3766_r0
  v11778_r0
def k0_mult54 (k0_t2 : Fin k0_t2_loop.trips) (k0_t3 : Fin k0_t3_loop.trips) : BitVec 32 :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c0_i32_3754_r0 : BitVec 32 := 0#32
  let v11752_r0 : BitVec 1 := Scalar.cmpi .sgt v10515_r0 c0_i32_3754_r0
  let v11753_r0 : BitVec 32 := Scalar.extui v11752_r0
  let c0_i32_3755_r0 : BitVec 32 := 0#32
  let v11754_r0 : BitVec 1 := Scalar.cmpi .slt v10515_r0 c0_i32_3755_r0
  let v11755_r0 : BitVec 32 := Scalar.extui v11754_r0
  let v11756_r0 : BitVec 32 := Scalar.subi v11753_r0 v11755_r0
  let c5_i32_3753_r0 : BitVec 32 := 5#32
  let c0_i32_3756_r0 : BitVec 32 := 0#32
  let v11757_r0 : BitVec 1 := Scalar.cmpi .sgt c5_i32_3753_r0 c0_i32_3756_r0
  let v11758_r0 : BitVec 32 := Scalar.extui v11757_r0
  let c0_i32_3757_r0 : BitVec 32 := 0#32
  let v11759_r0 : BitVec 1 := Scalar.cmpi .slt c5_i32_3753_r0 c0_i32_3757_r0
  let v11760_r0 : BitVec 32 := Scalar.extui v11759_r0
  let v11761_r0 : BitVec 32 := Scalar.subi v11758_r0 v11760_r0
  let v11762_r0 : BitVec 1 := Scalar.cmpi .ne v11756_r0 v11761_r0
  let v11763_r0 : BitVec 32 := Scalar.remsi v10515_r0 c5_i32_3753_r0
  let c0_i32_3758_r0 : BitVec 32 := 0#32
  let v11764_r0 : BitVec 1 := Scalar.cmpi .ne v11763_r0 c0_i32_3758_r0
  let v11765_r0 : BitVec 1 := Scalar.andi v11762_r0 v11764_r0
  let v11751_r0 : BitVec 32 := Scalar.divsi v10515_r0 c5_i32_3753_r0
  let c1_i32_3759_r0 : BitVec 32 := 1#32
  let v11766_r0 : BitVec 32 := Scalar.subi v11751_r0 c1_i32_3759_r0
  let v11767_r0 : BitVec 32 := Scalar.select v11765_r0 v11766_r0 v11751_r0
  let c256_i32_3767_r0 : BitVec 32 := 256#32
  let v11780_r0 : BitVec 32 := Scalar.muli v11767_r0 c256_i32_3767_r0
  v11780_r0
def k0_off45 (k0_t2 : Fin k0_t2_loop.trips) (k0_t3 : Fin k0_t3_loop.trips) : Fin 2 → Nat :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c0_i32_3769_r0 : BitVec 32 := 0#32
  ![v10515_r0.toNat, 0]
def k0_off46 (k0_t2 : Fin k0_t2_loop.trips) (k0_t3 : Fin k0_t3_loop.trips) : Fin 4 → Nat :=
  let c0_i32_3768_r0 : BitVec 32 := 0#32
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c0_i32_3754_r0 : BitVec 32 := 0#32
  let v11752_r0 : BitVec 1 := Scalar.cmpi .sgt v10515_r0 c0_i32_3754_r0
  let v11753_r0 : BitVec 32 := Scalar.extui v11752_r0
  let c0_i32_3755_r0 : BitVec 32 := 0#32
  let v11754_r0 : BitVec 1 := Scalar.cmpi .slt v10515_r0 c0_i32_3755_r0
  let v11755_r0 : BitVec 32 := Scalar.extui v11754_r0
  let v11756_r0 : BitVec 32 := Scalar.subi v11753_r0 v11755_r0
  let c5_i32_3753_r0 : BitVec 32 := 5#32
  let c0_i32_3756_r0 : BitVec 32 := 0#32
  let v11757_r0 : BitVec 1 := Scalar.cmpi .sgt c5_i32_3753_r0 c0_i32_3756_r0
  let v11758_r0 : BitVec 32 := Scalar.extui v11757_r0
  let c0_i32_3757_r0 : BitVec 32 := 0#32
  let v11759_r0 : BitVec 1 := Scalar.cmpi .slt c5_i32_3753_r0 c0_i32_3757_r0
  let v11760_r0 : BitVec 32 := Scalar.extui v11759_r0
  let v11761_r0 : BitVec 32 := Scalar.subi v11758_r0 v11760_r0
  let v11762_r0 : BitVec 1 := Scalar.cmpi .ne v11756_r0 v11761_r0
  let v11763_r0 : BitVec 32 := Scalar.remsi v10515_r0 c5_i32_3753_r0
  let c0_i32_3758_r0 : BitVec 32 := 0#32
  let v11764_r0 : BitVec 1 := Scalar.cmpi .ne v11763_r0 c0_i32_3758_r0
  let v11765_r0 : BitVec 1 := Scalar.andi v11762_r0 v11764_r0
  let v11751_r0 : BitVec 32 := Scalar.divsi v10515_r0 c5_i32_3753_r0
  let c1_i32_3759_r0 : BitVec 32 := 1#32
  let v11766_r0 : BitVec 32 := Scalar.subi v11751_r0 c1_i32_3759_r0
  let v11767_r0 : BitVec 32 := Scalar.select v11765_r0 v11766_r0 v11751_r0
  let c5_i32_3760_r0 : BitVec 32 := 5#32
  let c0_i32_3761_r0 : BitVec 32 := 0#32
  let v11768_r0 : BitVec 1 := Scalar.cmpi .eq c5_i32_3760_r0 c0_i32_3761_r0
  let c1_i32_3762_r0 : BitVec 32 := 1#32
  let v11769_r0 : BitVec 32 := Scalar.select v11768_r0 c1_i32_3762_r0 c5_i32_3760_r0
  let v11770_r0 : BitVec 32 := Scalar.remsi v10515_r0 v11769_r0
  let c0_i32_3764_r0 : BitVec 32 := 0#32
  let v11772_r0 : BitVec 1 := Scalar.cmpi .slt v11770_r0 c0_i32_3764_r0
  let c0_i32_3765_r0 : BitVec 32 := 0#32
  let v11773_r0 : BitVec 1 := Scalar.cmpi .slt v11769_r0 c0_i32_3765_r0
  let v11774_r0 : BitVec 1 := Scalar.xori v11772_r0 v11773_r0
  let c0_i32_3763_r0 : BitVec 32 := 0#32
  let v11771_r0 : BitVec 1 := Scalar.cmpi .ne v11770_r0 c0_i32_3763_r0
  let v11775_r0 : BitVec 1 := Scalar.andi v11774_r0 v11771_r0
  let v11776_r0 : BitVec 32 := Scalar.addi v11770_r0 v11769_r0
  let v11777_r0 : BitVec 32 := Scalar.select v11775_r0 v11776_r0 v11770_r0
  let c512_i32_3766_r0 : BitVec 32 := 512#32
  let v11778_r0 : BitVec 32 := Scalar.muli v11777_r0 c512_i32_3766_r0
  let v11779_r0 : BitVec 32 := v11778_r0
  let c0_i32_3770_r0 : BitVec 32 := 0#32
  ![0, v11767_r0.toNat, v11779_r0.toNat, 0]
def k0_off47 (k0_t2 : Fin k0_t2_loop.trips) (k0_t3 : Fin k0_t3_loop.trips) : Fin 2 → Nat :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c5_i32_3760_r0 : BitVec 32 := 5#32
  let c0_i32_3761_r0 : BitVec 32 := 0#32
  let v11768_r0 : BitVec 1 := Scalar.cmpi .eq c5_i32_3760_r0 c0_i32_3761_r0
  let c1_i32_3762_r0 : BitVec 32 := 1#32
  let v11769_r0 : BitVec 32 := Scalar.select v11768_r0 c1_i32_3762_r0 c5_i32_3760_r0
  let v11770_r0 : BitVec 32 := Scalar.remsi v10515_r0 v11769_r0
  let c0_i32_3764_r0 : BitVec 32 := 0#32
  let v11772_r0 : BitVec 1 := Scalar.cmpi .slt v11770_r0 c0_i32_3764_r0
  let c0_i32_3765_r0 : BitVec 32 := 0#32
  let v11773_r0 : BitVec 1 := Scalar.cmpi .slt v11769_r0 c0_i32_3765_r0
  let v11774_r0 : BitVec 1 := Scalar.xori v11772_r0 v11773_r0
  let c0_i32_3763_r0 : BitVec 32 := 0#32
  let v11771_r0 : BitVec 1 := Scalar.cmpi .ne v11770_r0 c0_i32_3763_r0
  let v11775_r0 : BitVec 1 := Scalar.andi v11774_r0 v11771_r0
  let v11776_r0 : BitVec 32 := Scalar.addi v11770_r0 v11769_r0
  let v11777_r0 : BitVec 32 := Scalar.select v11775_r0 v11776_r0 v11770_r0
  let c512_i32_3766_r0 : BitVec 32 := 512#32
  let v11778_r0 : BitVec 32 := Scalar.muli v11777_r0 c512_i32_3766_r0
  let v11779_r0 : BitVec 32 := v11778_r0
  let c0_i32_3754_r0 : BitVec 32 := 0#32
  let v11752_r0 : BitVec 1 := Scalar.cmpi .sgt v10515_r0 c0_i32_3754_r0
  let v11753_r0 : BitVec 32 := Scalar.extui v11752_r0
  let c0_i32_3755_r0 : BitVec 32 := 0#32
  let v11754_r0 : BitVec 1 := Scalar.cmpi .slt v10515_r0 c0_i32_3755_r0
  let v11755_r0 : BitVec 32 := Scalar.extui v11754_r0
  let v11756_r0 : BitVec 32 := Scalar.subi v11753_r0 v11755_r0
  let c5_i32_3753_r0 : BitVec 32 := 5#32
  let c0_i32_3756_r0 : BitVec 32 := 0#32
  let v11757_r0 : BitVec 1 := Scalar.cmpi .sgt c5_i32_3753_r0 c0_i32_3756_r0
  let v11758_r0 : BitVec 32 := Scalar.extui v11757_r0
  let c0_i32_3757_r0 : BitVec 32 := 0#32
  let v11759_r0 : BitVec 1 := Scalar.cmpi .slt c5_i32_3753_r0 c0_i32_3757_r0
  let v11760_r0 : BitVec 32 := Scalar.extui v11759_r0
  let v11761_r0 : BitVec 32 := Scalar.subi v11758_r0 v11760_r0
  let v11762_r0 : BitVec 1 := Scalar.cmpi .ne v11756_r0 v11761_r0
  let v11763_r0 : BitVec 32 := Scalar.remsi v10515_r0 c5_i32_3753_r0
  let c0_i32_3758_r0 : BitVec 32 := 0#32
  let v11764_r0 : BitVec 1 := Scalar.cmpi .ne v11763_r0 c0_i32_3758_r0
  let v11765_r0 : BitVec 1 := Scalar.andi v11762_r0 v11764_r0
  let v11751_r0 : BitVec 32 := Scalar.divsi v10515_r0 c5_i32_3753_r0
  let c1_i32_3759_r0 : BitVec 32 := 1#32
  let v11766_r0 : BitVec 32 := Scalar.subi v11751_r0 c1_i32_3759_r0
  let v11767_r0 : BitVec 32 := Scalar.select v11765_r0 v11766_r0 v11751_r0
  let c256_i32_3767_r0 : BitVec 32 := 256#32
  let v11780_r0 : BitVec 32 := Scalar.muli v11767_r0 c256_i32_3767_r0
  let v11781_r0 : BitVec 32 := v11780_r0
  ![v11779_r0.toNat, v11781_r0.toNat]
def k0_mult55 (k0_t2 : Fin k0_t2_loop.trips) (k0_t3 : Fin k0_t3_loop.trips) : BitVec 32 :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c5_i32_3778_r0 : BitVec 32 := 5#32
  let c0_i32_3779_r0 : BitVec 32 := 0#32
  let v11804_r0 : BitVec 1 := Scalar.cmpi .eq c5_i32_3778_r0 c0_i32_3779_r0
  let c1_i32_3780_r0 : BitVec 32 := 1#32
  let v11805_r0 : BitVec 32 := Scalar.select v11804_r0 c1_i32_3780_r0 c5_i32_3778_r0
  let v11806_r0 : BitVec 32 := Scalar.remsi v10515_r0 v11805_r0
  let c0_i32_3782_r0 : BitVec 32 := 0#32
  let v11808_r0 : BitVec 1 := Scalar.cmpi .slt v11806_r0 c0_i32_3782_r0
  let c0_i32_3783_r0 : BitVec 32 := 0#32
  let v11809_r0 : BitVec 1 := Scalar.cmpi .slt v11805_r0 c0_i32_3783_r0
  let v11810_r0 : BitVec 1 := Scalar.xori v11808_r0 v11809_r0
  let c0_i32_3781_r0 : BitVec 32 := 0#32
  let v11807_r0 : BitVec 1 := Scalar.cmpi .ne v11806_r0 c0_i32_3781_r0
  let v11811_r0 : BitVec 1 := Scalar.andi v11810_r0 v11807_r0
  let v11812_r0 : BitVec 32 := Scalar.addi v11806_r0 v11805_r0
  let v11813_r0 : BitVec 32 := Scalar.select v11811_r0 v11812_r0 v11806_r0
  let c512_i32_3784_r0 : BitVec 32 := 512#32
  let v11814_r0 : BitVec 32 := Scalar.muli v11813_r0 c512_i32_3784_r0
  v11814_r0
def k0_mult56 (k0_t2 : Fin k0_t2_loop.trips) (k0_t3 : Fin k0_t3_loop.trips) : BitVec 32 :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c0_i32_3772_r0 : BitVec 32 := 0#32
  let v11788_r0 : BitVec 1 := Scalar.cmpi .sgt v10515_r0 c0_i32_3772_r0
  let v11789_r0 : BitVec 32 := Scalar.extui v11788_r0
  let c0_i32_3773_r0 : BitVec 32 := 0#32
  let v11790_r0 : BitVec 1 := Scalar.cmpi .slt v10515_r0 c0_i32_3773_r0
  let v11791_r0 : BitVec 32 := Scalar.extui v11790_r0
  let v11792_r0 : BitVec 32 := Scalar.subi v11789_r0 v11791_r0
  let c5_i32_3771_r0 : BitVec 32 := 5#32
  let c0_i32_3774_r0 : BitVec 32 := 0#32
  let v11793_r0 : BitVec 1 := Scalar.cmpi .sgt c5_i32_3771_r0 c0_i32_3774_r0
  let v11794_r0 : BitVec 32 := Scalar.extui v11793_r0
  let c0_i32_3775_r0 : BitVec 32 := 0#32
  let v11795_r0 : BitVec 1 := Scalar.cmpi .slt c5_i32_3771_r0 c0_i32_3775_r0
  let v11796_r0 : BitVec 32 := Scalar.extui v11795_r0
  let v11797_r0 : BitVec 32 := Scalar.subi v11794_r0 v11796_r0
  let v11798_r0 : BitVec 1 := Scalar.cmpi .ne v11792_r0 v11797_r0
  let v11799_r0 : BitVec 32 := Scalar.remsi v10515_r0 c5_i32_3771_r0
  let c0_i32_3776_r0 : BitVec 32 := 0#32
  let v11800_r0 : BitVec 1 := Scalar.cmpi .ne v11799_r0 c0_i32_3776_r0
  let v11801_r0 : BitVec 1 := Scalar.andi v11798_r0 v11800_r0
  let v11787_r0 : BitVec 32 := Scalar.divsi v10515_r0 c5_i32_3771_r0
  let c1_i32_3777_r0 : BitVec 32 := 1#32
  let v11802_r0 : BitVec 32 := Scalar.subi v11787_r0 c1_i32_3777_r0
  let v11803_r0 : BitVec 32 := Scalar.select v11801_r0 v11802_r0 v11787_r0
  let c256_i32_3785_r0 : BitVec 32 := 256#32
  let v11816_r0 : BitVec 32 := Scalar.muli v11803_r0 c256_i32_3785_r0
  v11816_r0
def k0_off48 (k0_t2 : Fin k0_t2_loop.trips) (k0_t3 : Fin k0_t3_loop.trips) : Fin 2 → Nat :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c1_i32_3787_r0 : BitVec 32 := 1#32
  ![v10515_r0.toNat, 1]
def k0_off49 (k0_t2 : Fin k0_t2_loop.trips) (k0_t3 : Fin k0_t3_loop.trips) : Fin 4 → Nat :=
  let c1_i32_3786_r0 : BitVec 32 := 1#32
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c3_i32_3272_r0 : BitVec 32 := 3#32
  let v10515_r0 : BitVec 32 := Scalar.addi v10514_r0 c3_i32_3272_r0
  let c0_i32_3772_r0 : BitVec 32 := 0#32
  let v11788_r0 : BitVec 1 := Scalar.cmpi .sgt v10515_r0 c0_i32_3772_r0
  let v11789_r0 : BitVec 32 := Scalar.extui v11788_r0
  let c0_i32_3773_r0 : BitVec 32 := 0#32
  let v11790_r0 : BitVec 1 := Scalar.cmpi .slt v10515_r0 c0_i32_3773_r0
  let v11791_r0 : BitVec 32 := Scalar.extui v11790_r0
  let v11792_r0 : BitVec 32 := Scalar.subi v11789_r0 v11791_r0
  let c5_i32_3771_r0 : BitVec 32 := 5#32
  let c0_i32_3774_r0 : BitVec 32 := 0#32
  let v11793_r0 : BitVec 1 := Scalar.cmpi .sgt c5_i32_3771_r0 c0_i32_3774_r0
  let v11794_r0 : BitVec 32 := Scalar.extui v11793_r0
  let c0_i32_3775_r0 : BitVec 32 := 0#32
  let v11795_r0 : BitVec 1 := Scalar.cmpi .slt c5_i32_3771_r0 c0_i32_3775_r0
  let v11796_r0 : BitVec 32 := Scalar.extui v11795_r0
  let v11797_r0 : BitVec 32 := Scalar.subi v11794_r0 v11796_r0
  let v11798_r0 : BitVec 1 := Scalar.cmpi .ne v11792_r0 v11797_r0
  let v11799_r0 : BitVec 32 := Scalar.remsi v10515_r0 c5_i32_3771_r0
  let c0_i32_3776_r0 : BitVec 32 := 0#32
  let v11800_r0 : BitVec 1 := Scalar.cmpi .ne v11799_r0 c0_i32_3776_r0
  let v11801_r0 : BitVec 1 := Scalar.andi v11798_r0 v11800_r0
  let v11787_r0 : BitVec 32 := Scalar.divsi v10515_r0 c5_i32_3771_r0
  let c1_i32_3777_r0 : BitVec 32 := 1#32
  let v11802_r0 : BitVec 32 := Scalar.subi v11787_r0 c1_i32_3777_r0
  let v11803_r0 : BitVec 32 := Scalar.select v11801_r0 v11802_r0 v11787_r0
  let c5_i32_3778_r0 : BitVec 32 := 5#32
  let c0_i32_3779_r0 : BitVec 32 := 0#32
  let v11804_r0 : BitVec 1 := Scalar.cmpi .eq c5_i32_3778_r0 c0_i32_3779_r0
  let c1_i32_3780_r0 : BitVec 32 := 1#32
  let v11805_r0 : BitVec 32 := Scalar.select v11804_r0 c1_i32_3780_r0 c5_i32_3778_r0
  let v11806_r0 : BitVec 32 := Scalar.remsi v10515_r0 v11805_r0
  let c0_i32_3782_r0 : BitVec 32 := 0#32
  let v11808_r0 : BitVec 1 := Scalar.cmpi .slt v11806_r0 c0_i32_3782_r0
  let c0_i32_3783_r0 : BitVec 32 := 0#32
  let v11809_r0 : BitVec 1 := Scalar.cmpi .slt v11805_r0 c0_i32_3783_r0
  let v11810_r0 : BitVec 1 := Scalar.xori v11808_r0 v11809_r0
  let c0_i32_3781_r0 : BitVec 32 := 0#32
  let v11807_r0 : BitVec 1 := Scalar.cmpi .ne v11806_r0 c0_i32_3781_r0
  let v11811_r0 : BitVec 1 := Scalar.andi v11810_r0 v11807_r0
  let v11812_r0 : BitVec 32 := Scalar.addi v11806_r0 v11805_r0
  let v11813_r0 : BitVec 32 := Scalar.select v11811_r0 v11812_r0 v11806_r0
  let c512_i32_3784_r0 : BitVec 32 := 512#32
  let v11814_r0 : BitVec 32 := Scalar.muli v11813_r0 c512_i32_3784_r0
  let v11815_r0 : BitVec 32 := v11814_r0
  let c0_i32_3788_r0 : BitVec 32 := 0#32
  ![1, v11803_r0.toNat, v11815_r0.toNat, 0]
def k0_mult57 (k0_t2 : Fin k0_t2_loop.trips) (k0_t3 : Fin k0_t3_loop.trips) : BitVec 32 :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c5_i32_3281_r0 : BitVec 32 := 5#32
  let c0_i32_3282_r0 : BitVec 32 := 0#32
  let v10536_r0 : BitVec 1 := Scalar.cmpi .eq c5_i32_3281_r0 c0_i32_3282_r0
  let c1_i32_3283_r0 : BitVec 32 := 1#32
  let v10537_r0 : BitVec 32 := Scalar.select v10536_r0 c1_i32_3283_r0 c5_i32_3281_r0
  let v10538_r0 : BitVec 32 := Scalar.remsi v10514_r0 v10537_r0
  let c0_i32_3285_r0 : BitVec 32 := 0#32
  let v10540_r0 : BitVec 1 := Scalar.cmpi .slt v10538_r0 c0_i32_3285_r0
  let c0_i32_3286_r0 : BitVec 32 := 0#32
  let v10541_r0 : BitVec 1 := Scalar.cmpi .slt v10537_r0 c0_i32_3286_r0
  let v10542_r0 : BitVec 1 := Scalar.xori v10540_r0 v10541_r0
  let c0_i32_3284_r0 : BitVec 32 := 0#32
  let v10539_r0 : BitVec 1 := Scalar.cmpi .ne v10538_r0 c0_i32_3284_r0
  let v10543_r0 : BitVec 1 := Scalar.andi v10542_r0 v10539_r0
  let v10544_r0 : BitVec 32 := Scalar.addi v10538_r0 v10537_r0
  let v10545_r0 : BitVec 32 := Scalar.select v10543_r0 v10544_r0 v10538_r0
  let c512_i32_3287_r0 : BitVec 32 := 512#32
  let v10546_r0 : BitVec 32 := Scalar.muli v10545_r0 c512_i32_3287_r0
  v10546_r0
def k0_mult58 (k0_t2 : Fin k0_t2_loop.trips) (k0_t3 : Fin k0_t3_loop.trips) : BitVec 32 :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c0_i32_3275_r0 : BitVec 32 := 0#32
  let v10520_r0 : BitVec 1 := Scalar.cmpi .sgt v10514_r0 c0_i32_3275_r0
  let v10521_r0 : BitVec 32 := Scalar.extui v10520_r0
  let c0_i32_3276_r0 : BitVec 32 := 0#32
  let v10522_r0 : BitVec 1 := Scalar.cmpi .slt v10514_r0 c0_i32_3276_r0
  let v10523_r0 : BitVec 32 := Scalar.extui v10522_r0
  let v10524_r0 : BitVec 32 := Scalar.subi v10521_r0 v10523_r0
  let c5_i32_3274_r0 : BitVec 32 := 5#32
  let c0_i32_3277_r0 : BitVec 32 := 0#32
  let v10525_r0 : BitVec 1 := Scalar.cmpi .sgt c5_i32_3274_r0 c0_i32_3277_r0
  let v10526_r0 : BitVec 32 := Scalar.extui v10525_r0
  let c0_i32_3278_r0 : BitVec 32 := 0#32
  let v10527_r0 : BitVec 1 := Scalar.cmpi .slt c5_i32_3274_r0 c0_i32_3278_r0
  let v10528_r0 : BitVec 32 := Scalar.extui v10527_r0
  let v10529_r0 : BitVec 32 := Scalar.subi v10526_r0 v10528_r0
  let v10530_r0 : BitVec 1 := Scalar.cmpi .ne v10524_r0 v10529_r0
  let v10531_r0 : BitVec 32 := Scalar.remsi v10514_r0 c5_i32_3274_r0
  let c0_i32_3279_r0 : BitVec 32 := 0#32
  let v10532_r0 : BitVec 1 := Scalar.cmpi .ne v10531_r0 c0_i32_3279_r0
  let v10533_r0 : BitVec 1 := Scalar.andi v10530_r0 v10532_r0
  let v10519_r0 : BitVec 32 := Scalar.divsi v10514_r0 c5_i32_3274_r0
  let c1_i32_3280_r0 : BitVec 32 := 1#32
  let v10534_r0 : BitVec 32 := Scalar.subi v10519_r0 c1_i32_3280_r0
  let v10535_r0 : BitVec 32 := Scalar.select v10533_r0 v10534_r0 v10519_r0
  let c256_i32_3288_r0 : BitVec 32 := 256#32
  let v10548_r0 : BitVec 32 := Scalar.muli v10535_r0 c256_i32_3288_r0
  v10548_r0
def k0_off50 (k0_t2 : Fin k0_t2_loop.trips) (k0_t3 : Fin k0_t3_loop.trips) : Fin 2 → Nat :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c0_i32_3290_r0 : BitVec 32 := 0#32
  ![v10514_r0.toNat, 0]
def k0_off51 (k0_t2 : Fin k0_t2_loop.trips) (k0_t3 : Fin k0_t3_loop.trips) : Fin 4 → Nat :=
  let c0_i32_3289_r0 : BitVec 32 := 0#32
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c0_i32_3275_r0 : BitVec 32 := 0#32
  let v10520_r0 : BitVec 1 := Scalar.cmpi .sgt v10514_r0 c0_i32_3275_r0
  let v10521_r0 : BitVec 32 := Scalar.extui v10520_r0
  let c0_i32_3276_r0 : BitVec 32 := 0#32
  let v10522_r0 : BitVec 1 := Scalar.cmpi .slt v10514_r0 c0_i32_3276_r0
  let v10523_r0 : BitVec 32 := Scalar.extui v10522_r0
  let v10524_r0 : BitVec 32 := Scalar.subi v10521_r0 v10523_r0
  let c5_i32_3274_r0 : BitVec 32 := 5#32
  let c0_i32_3277_r0 : BitVec 32 := 0#32
  let v10525_r0 : BitVec 1 := Scalar.cmpi .sgt c5_i32_3274_r0 c0_i32_3277_r0
  let v10526_r0 : BitVec 32 := Scalar.extui v10525_r0
  let c0_i32_3278_r0 : BitVec 32 := 0#32
  let v10527_r0 : BitVec 1 := Scalar.cmpi .slt c5_i32_3274_r0 c0_i32_3278_r0
  let v10528_r0 : BitVec 32 := Scalar.extui v10527_r0
  let v10529_r0 : BitVec 32 := Scalar.subi v10526_r0 v10528_r0
  let v10530_r0 : BitVec 1 := Scalar.cmpi .ne v10524_r0 v10529_r0
  let v10531_r0 : BitVec 32 := Scalar.remsi v10514_r0 c5_i32_3274_r0
  let c0_i32_3279_r0 : BitVec 32 := 0#32
  let v10532_r0 : BitVec 1 := Scalar.cmpi .ne v10531_r0 c0_i32_3279_r0
  let v10533_r0 : BitVec 1 := Scalar.andi v10530_r0 v10532_r0
  let v10519_r0 : BitVec 32 := Scalar.divsi v10514_r0 c5_i32_3274_r0
  let c1_i32_3280_r0 : BitVec 32 := 1#32
  let v10534_r0 : BitVec 32 := Scalar.subi v10519_r0 c1_i32_3280_r0
  let v10535_r0 : BitVec 32 := Scalar.select v10533_r0 v10534_r0 v10519_r0
  let c5_i32_3281_r0 : BitVec 32 := 5#32
  let c0_i32_3282_r0 : BitVec 32 := 0#32
  let v10536_r0 : BitVec 1 := Scalar.cmpi .eq c5_i32_3281_r0 c0_i32_3282_r0
  let c1_i32_3283_r0 : BitVec 32 := 1#32
  let v10537_r0 : BitVec 32 := Scalar.select v10536_r0 c1_i32_3283_r0 c5_i32_3281_r0
  let v10538_r0 : BitVec 32 := Scalar.remsi v10514_r0 v10537_r0
  let c0_i32_3285_r0 : BitVec 32 := 0#32
  let v10540_r0 : BitVec 1 := Scalar.cmpi .slt v10538_r0 c0_i32_3285_r0
  let c0_i32_3286_r0 : BitVec 32 := 0#32
  let v10541_r0 : BitVec 1 := Scalar.cmpi .slt v10537_r0 c0_i32_3286_r0
  let v10542_r0 : BitVec 1 := Scalar.xori v10540_r0 v10541_r0
  let c0_i32_3284_r0 : BitVec 32 := 0#32
  let v10539_r0 : BitVec 1 := Scalar.cmpi .ne v10538_r0 c0_i32_3284_r0
  let v10543_r0 : BitVec 1 := Scalar.andi v10542_r0 v10539_r0
  let v10544_r0 : BitVec 32 := Scalar.addi v10538_r0 v10537_r0
  let v10545_r0 : BitVec 32 := Scalar.select v10543_r0 v10544_r0 v10538_r0
  let c512_i32_3287_r0 : BitVec 32 := 512#32
  let v10546_r0 : BitVec 32 := Scalar.muli v10545_r0 c512_i32_3287_r0
  let v10547_r0 : BitVec 32 := v10546_r0
  let c0_i32_3291_r0 : BitVec 32 := 0#32
  ![0, v10535_r0.toNat, v10547_r0.toNat, 0]
def k0_off52 (k0_t2 : Fin k0_t2_loop.trips) (k0_t3 : Fin k0_t3_loop.trips) : Fin 2 → Nat :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c5_i32_3281_r0 : BitVec 32 := 5#32
  let c0_i32_3282_r0 : BitVec 32 := 0#32
  let v10536_r0 : BitVec 1 := Scalar.cmpi .eq c5_i32_3281_r0 c0_i32_3282_r0
  let c1_i32_3283_r0 : BitVec 32 := 1#32
  let v10537_r0 : BitVec 32 := Scalar.select v10536_r0 c1_i32_3283_r0 c5_i32_3281_r0
  let v10538_r0 : BitVec 32 := Scalar.remsi v10514_r0 v10537_r0
  let c0_i32_3285_r0 : BitVec 32 := 0#32
  let v10540_r0 : BitVec 1 := Scalar.cmpi .slt v10538_r0 c0_i32_3285_r0
  let c0_i32_3286_r0 : BitVec 32 := 0#32
  let v10541_r0 : BitVec 1 := Scalar.cmpi .slt v10537_r0 c0_i32_3286_r0
  let v10542_r0 : BitVec 1 := Scalar.xori v10540_r0 v10541_r0
  let c0_i32_3284_r0 : BitVec 32 := 0#32
  let v10539_r0 : BitVec 1 := Scalar.cmpi .ne v10538_r0 c0_i32_3284_r0
  let v10543_r0 : BitVec 1 := Scalar.andi v10542_r0 v10539_r0
  let v10544_r0 : BitVec 32 := Scalar.addi v10538_r0 v10537_r0
  let v10545_r0 : BitVec 32 := Scalar.select v10543_r0 v10544_r0 v10538_r0
  let c512_i32_3287_r0 : BitVec 32 := 512#32
  let v10546_r0 : BitVec 32 := Scalar.muli v10545_r0 c512_i32_3287_r0
  let v10547_r0 : BitVec 32 := v10546_r0
  let c0_i32_3275_r0 : BitVec 32 := 0#32
  let v10520_r0 : BitVec 1 := Scalar.cmpi .sgt v10514_r0 c0_i32_3275_r0
  let v10521_r0 : BitVec 32 := Scalar.extui v10520_r0
  let c0_i32_3276_r0 : BitVec 32 := 0#32
  let v10522_r0 : BitVec 1 := Scalar.cmpi .slt v10514_r0 c0_i32_3276_r0
  let v10523_r0 : BitVec 32 := Scalar.extui v10522_r0
  let v10524_r0 : BitVec 32 := Scalar.subi v10521_r0 v10523_r0
  let c5_i32_3274_r0 : BitVec 32 := 5#32
  let c0_i32_3277_r0 : BitVec 32 := 0#32
  let v10525_r0 : BitVec 1 := Scalar.cmpi .sgt c5_i32_3274_r0 c0_i32_3277_r0
  let v10526_r0 : BitVec 32 := Scalar.extui v10525_r0
  let c0_i32_3278_r0 : BitVec 32 := 0#32
  let v10527_r0 : BitVec 1 := Scalar.cmpi .slt c5_i32_3274_r0 c0_i32_3278_r0
  let v10528_r0 : BitVec 32 := Scalar.extui v10527_r0
  let v10529_r0 : BitVec 32 := Scalar.subi v10526_r0 v10528_r0
  let v10530_r0 : BitVec 1 := Scalar.cmpi .ne v10524_r0 v10529_r0
  let v10531_r0 : BitVec 32 := Scalar.remsi v10514_r0 c5_i32_3274_r0
  let c0_i32_3279_r0 : BitVec 32 := 0#32
  let v10532_r0 : BitVec 1 := Scalar.cmpi .ne v10531_r0 c0_i32_3279_r0
  let v10533_r0 : BitVec 1 := Scalar.andi v10530_r0 v10532_r0
  let v10519_r0 : BitVec 32 := Scalar.divsi v10514_r0 c5_i32_3274_r0
  let c1_i32_3280_r0 : BitVec 32 := 1#32
  let v10534_r0 : BitVec 32 := Scalar.subi v10519_r0 c1_i32_3280_r0
  let v10535_r0 : BitVec 32 := Scalar.select v10533_r0 v10534_r0 v10519_r0
  let c256_i32_3288_r0 : BitVec 32 := 256#32
  let v10548_r0 : BitVec 32 := Scalar.muli v10535_r0 c256_i32_3288_r0
  let v10549_r0 : BitVec 32 := v10548_r0
  ![v10547_r0.toNat, v10549_r0.toNat]
def k0_mult59 (k0_t2 : Fin k0_t2_loop.trips) (k0_t3 : Fin k0_t3_loop.trips) : BitVec 32 :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c5_i32_3299_r0 : BitVec 32 := 5#32
  let c0_i32_3300_r0 : BitVec 32 := 0#32
  let v10572_r0 : BitVec 1 := Scalar.cmpi .eq c5_i32_3299_r0 c0_i32_3300_r0
  let c1_i32_3301_r0 : BitVec 32 := 1#32
  let v10573_r0 : BitVec 32 := Scalar.select v10572_r0 c1_i32_3301_r0 c5_i32_3299_r0
  let v10574_r0 : BitVec 32 := Scalar.remsi v10514_r0 v10573_r0
  let c0_i32_3303_r0 : BitVec 32 := 0#32
  let v10576_r0 : BitVec 1 := Scalar.cmpi .slt v10574_r0 c0_i32_3303_r0
  let c0_i32_3304_r0 : BitVec 32 := 0#32
  let v10577_r0 : BitVec 1 := Scalar.cmpi .slt v10573_r0 c0_i32_3304_r0
  let v10578_r0 : BitVec 1 := Scalar.xori v10576_r0 v10577_r0
  let c0_i32_3302_r0 : BitVec 32 := 0#32
  let v10575_r0 : BitVec 1 := Scalar.cmpi .ne v10574_r0 c0_i32_3302_r0
  let v10579_r0 : BitVec 1 := Scalar.andi v10578_r0 v10575_r0
  let v10580_r0 : BitVec 32 := Scalar.addi v10574_r0 v10573_r0
  let v10581_r0 : BitVec 32 := Scalar.select v10579_r0 v10580_r0 v10574_r0
  let c512_i32_3305_r0 : BitVec 32 := 512#32
  let v10582_r0 : BitVec 32 := Scalar.muli v10581_r0 c512_i32_3305_r0
  v10582_r0
def k0_mult60 (k0_t2 : Fin k0_t2_loop.trips) (k0_t3 : Fin k0_t3_loop.trips) : BitVec 32 :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c0_i32_3293_r0 : BitVec 32 := 0#32
  let v10556_r0 : BitVec 1 := Scalar.cmpi .sgt v10514_r0 c0_i32_3293_r0
  let v10557_r0 : BitVec 32 := Scalar.extui v10556_r0
  let c0_i32_3294_r0 : BitVec 32 := 0#32
  let v10558_r0 : BitVec 1 := Scalar.cmpi .slt v10514_r0 c0_i32_3294_r0
  let v10559_r0 : BitVec 32 := Scalar.extui v10558_r0
  let v10560_r0 : BitVec 32 := Scalar.subi v10557_r0 v10559_r0
  let c5_i32_3292_r0 : BitVec 32 := 5#32
  let c0_i32_3295_r0 : BitVec 32 := 0#32
  let v10561_r0 : BitVec 1 := Scalar.cmpi .sgt c5_i32_3292_r0 c0_i32_3295_r0
  let v10562_r0 : BitVec 32 := Scalar.extui v10561_r0
  let c0_i32_3296_r0 : BitVec 32 := 0#32
  let v10563_r0 : BitVec 1 := Scalar.cmpi .slt c5_i32_3292_r0 c0_i32_3296_r0
  let v10564_r0 : BitVec 32 := Scalar.extui v10563_r0
  let v10565_r0 : BitVec 32 := Scalar.subi v10562_r0 v10564_r0
  let v10566_r0 : BitVec 1 := Scalar.cmpi .ne v10560_r0 v10565_r0
  let v10567_r0 : BitVec 32 := Scalar.remsi v10514_r0 c5_i32_3292_r0
  let c0_i32_3297_r0 : BitVec 32 := 0#32
  let v10568_r0 : BitVec 1 := Scalar.cmpi .ne v10567_r0 c0_i32_3297_r0
  let v10569_r0 : BitVec 1 := Scalar.andi v10566_r0 v10568_r0
  let v10555_r0 : BitVec 32 := Scalar.divsi v10514_r0 c5_i32_3292_r0
  let c1_i32_3298_r0 : BitVec 32 := 1#32
  let v10570_r0 : BitVec 32 := Scalar.subi v10555_r0 c1_i32_3298_r0
  let v10571_r0 : BitVec 32 := Scalar.select v10569_r0 v10570_r0 v10555_r0
  let c256_i32_3306_r0 : BitVec 32 := 256#32
  let v10584_r0 : BitVec 32 := Scalar.muli v10571_r0 c256_i32_3306_r0
  v10584_r0
def k0_off53 (k0_t2 : Fin k0_t2_loop.trips) (k0_t3 : Fin k0_t3_loop.trips) : Fin 2 → Nat :=
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c1_i32_3308_r0 : BitVec 32 := 1#32
  ![v10514_r0.toNat, 1]
def k0_off54 (k0_t2 : Fin k0_t2_loop.trips) (k0_t3 : Fin k0_t3_loop.trips) : Fin 4 → Nat :=
  let c1_i32_3307_r0 : BitVec 32 := 1#32
  let c0_i32_3225_r0 : BitVec 32 := 0#32
  let c1_i32_3227_r0 : BitVec 32 := 1#32
  let arg24_r0 : BitVec 32 := Scf.iv c0_i32_3225_r0 c1_i32_3227_r0 k0_t2
  let c5_i32_3271_r0 : BitVec 32 := 5#32
  let v10513_r0 : BitVec 32 := Scalar.muli arg24_r0 c5_i32_3271_r0
  let c0_i32_3230_r0 : BitVec 32 := 0#32
  let c1_i32_3232_r0 : BitVec 32 := 1#32
  let arg26_r0 : BitVec 32 := Scf.iv c0_i32_3230_r0 c1_i32_3232_r0 k0_t3
  let v10514_r0 : BitVec 32 := Scalar.addi v10513_r0 arg26_r0
  let c0_i32_3293_r0 : BitVec 32 := 0#32
  let v10556_r0 : BitVec 1 := Scalar.cmpi .sgt v10514_r0 c0_i32_3293_r0
  let v10557_r0 : BitVec 32 := Scalar.extui v10556_r0
  let c0_i32_3294_r0 : BitVec 32 := 0#32
  let v10558_r0 : BitVec 1 := Scalar.cmpi .slt v10514_r0 c0_i32_3294_r0
  let v10559_r0 : BitVec 32 := Scalar.extui v10558_r0
  let v10560_r0 : BitVec 32 := Scalar.subi v10557_r0 v10559_r0
  let c5_i32_3292_r0 : BitVec 32 := 5#32
  let c0_i32_3295_r0 : BitVec 32 := 0#32
  let v10561_r0 : BitVec 1 := Scalar.cmpi .sgt c5_i32_3292_r0 c0_i32_3295_r0
  let v10562_r0 : BitVec 32 := Scalar.extui v10561_r0
  let c0_i32_3296_r0 : BitVec 32 := 0#32
  let v10563_r0 : BitVec 1 := Scalar.cmpi .slt c5_i32_3292_r0 c0_i32_3296_r0
  let v10564_r0 : BitVec 32 := Scalar.extui v10563_r0
  let v10565_r0 : BitVec 32 := Scalar.subi v10562_r0 v10564_r0
  let v10566_r0 : BitVec 1 := Scalar.cmpi .ne v10560_r0 v10565_r0
  let v10567_r0 : BitVec 32 := Scalar.remsi v10514_r0 c5_i32_3292_r0
  let c0_i32_3297_r0 : BitVec 32 := 0#32
  let v10568_r0 : BitVec 1 := Scalar.cmpi .ne v10567_r0 c0_i32_3297_r0
  let v10569_r0 : BitVec 1 := Scalar.andi v10566_r0 v10568_r0
  let v10555_r0 : BitVec 32 := Scalar.divsi v10514_r0 c5_i32_3292_r0
  let c1_i32_3298_r0 : BitVec 32 := 1#32
  let v10570_r0 : BitVec 32 := Scalar.subi v10555_r0 c1_i32_3298_r0
  let v10571_r0 : BitVec 32 := Scalar.select v10569_r0 v10570_r0 v10555_r0
  let c5_i32_3299_r0 : BitVec 32 := 5#32
  let c0_i32_3300_r0 : BitVec 32 := 0#32
  let v10572_r0 : BitVec 1 := Scalar.cmpi .eq c5_i32_3299_r0 c0_i32_3300_r0
  let c1_i32_3301_r0 : BitVec 32 := 1#32
  let v10573_r0 : BitVec 32 := Scalar.select v10572_r0 c1_i32_3301_r0 c5_i32_3299_r0
  let v10574_r0 : BitVec 32 := Scalar.remsi v10514_r0 v10573_r0
  let c0_i32_3303_r0 : BitVec 32 := 0#32
  let v10576_r0 : BitVec 1 := Scalar.cmpi .slt v10574_r0 c0_i32_3303_r0
  let c0_i32_3304_r0 : BitVec 32 := 0#32
  let v10577_r0 : BitVec 1 := Scalar.cmpi .slt v10573_r0 c0_i32_3304_r0
  let v10578_r0 : BitVec 1 := Scalar.xori v10576_r0 v10577_r0
  let c0_i32_3302_r0 : BitVec 32 := 0#32
  let v10575_r0 : BitVec 1 := Scalar.cmpi .ne v10574_r0 c0_i32_3302_r0
  let v10579_r0 : BitVec 1 := Scalar.andi v10578_r0 v10575_r0
  let v10580_r0 : BitVec 32 := Scalar.addi v10574_r0 v10573_r0
  let v10581_r0 : BitVec 32 := Scalar.select v10579_r0 v10580_r0 v10574_r0
  let c512_i32_3305_r0 : BitVec 32 := 512#32
  let v10582_r0 : BitVec 32 := Scalar.muli v10581_r0 c512_i32_3305_r0
  let v10583_r0 : BitVec 32 := v10582_r0
  let c0_i32_3309_r0 : BitVec 32 := 0#32
  ![1, v10571_r0.toNat, v10583_r0.toNat, 0]
def k0_mult61 (k0_t3 : Fin k0_t3_loop.trips) : BitVec 32 :=
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let c0_i32_3311_r0 : BitVec 32 := 0#32
  let v10592_r0 : BitVec 32 := Scalar.addi v10591_r0 c0_i32_3311_r0
  let c128_i32_3312_r0 : BitVec 32 := 128#32
  let v10593_r0 : BitVec 32 := Scalar.muli v10592_r0 c128_i32_3312_r0
  v10593_r0
def k0_off55 (k0_t2 : Fin k0_t2_loop.trips) (k0_t3 : Fin k0_t3_loop.trips) (c0_i32_3311_r0 : BitVec 32) : Fin 5 → Nat :=
  let c0_3313_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10596_r0 : Index := Scalar.indexCast arg24_r0
  let c0_3314_r0 : Index := 0#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10597_r0 : Index := Scalar.indexCast v10592_r0
  let c0_3315_r0 : Index := 0#32
  ![0, v10596_r0.toNat, 0, Nat.mul 2 v10597_r0.toNat, 0]
def k0_off56 (k0_t2 : Fin k0_t2_loop.trips) (k0_t3 : Fin k0_t3_loop.trips) (c0_i32_3311_r0 : BitVec 32) : Fin 5 → Nat :=
  let c0_3316_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10602_r0 : Index := Scalar.indexCast arg24_r0
  let c1_3317_r0 : Index := 1#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10603_r0 : Index := Scalar.indexCast v10592_r0
  let c0_3318_r0 : Index := 0#32
  ![0, v10602_r0.toNat, 1, Nat.mul 2 v10603_r0.toNat, 0]
def k0_off57 (k0_t2 : Fin k0_t2_loop.trips) (k0_t3 : Fin k0_t3_loop.trips) (c0_i32_3311_r0 : BitVec 32) : Fin 5 → Nat :=
  let c0_3319_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10611_r0 : Index := Scalar.indexCast arg24_r0
  let c2_r0 : Index := 2#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10612_r0 : Index := Scalar.indexCast v10592_r0
  let c0_3320_r0 : Index := 0#32
  ![0, v10611_r0.toNat, 2, Nat.mul 2 v10612_r0.toNat, 0]
def k0_off58 (k0_t2 : Fin k0_t2_loop.trips) (k0_t3 : Fin k0_t3_loop.trips) (c0_i32_3311_r0 : BitVec 32) : Fin 5 → Nat :=
  let c0_3321_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10617_r0 : Index := Scalar.indexCast arg24_r0
  let c3_r0 : Index := 3#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10618_r0 : Index := Scalar.indexCast v10592_r0
  let c0_3322_r0 : Index := 0#32
  ![0, v10617_r0.toNat, 3, Nat.mul 2 v10618_r0.toNat, 0]
def k0_off59 (k0_t2 : Fin k0_t2_loop.trips) (k0_t3 : Fin k0_t3_loop.trips) (c0_i32_3311_r0 : BitVec 32) : Fin 5 → Nat :=
  let c0_3323_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10626_r0 : Index := Scalar.indexCast arg24_r0
  let c4_r0 : Index := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10627_r0 : Index := Scalar.indexCast v10592_r0
  let c0_3324_r0 : Index := 0#32
  ![0, v10626_r0.toNat, 4, Nat.mul 2 v10627_r0.toNat, 0]
def k0_off60 (k0_t2 : Fin k0_t2_loop.trips) (k0_t3 : Fin k0_t3_loop.trips) (c0_i32_3311_r0 : BitVec 32) : Fin 5 → Nat :=
  let c1_3325_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10634_r0 : Index := Scalar.indexCast arg24_r0
  let c0_3326_r0 : Index := 0#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10635_r0 : Index := Scalar.indexCast v10592_r0
  let c0_3327_r0 : Index := 0#32
  ![1, v10634_r0.toNat, 0, Nat.mul 2 v10635_r0.toNat, 0]
def k0_off61 (k0_t2 : Fin k0_t2_loop.trips) (k0_t3 : Fin k0_t3_loop.trips) (c0_i32_3311_r0 : BitVec 32) : Fin 5 → Nat :=
  let c1_3328_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10640_r0 : Index := Scalar.indexCast arg24_r0
  let c1_3329_r0 : Index := 1#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10641_r0 : Index := Scalar.indexCast v10592_r0
  let c0_3330_r0 : Index := 0#32
  ![1, v10640_r0.toNat, 1, Nat.mul 2 v10641_r0.toNat, 0]
def k0_off62 (k0_t2 : Fin k0_t2_loop.trips) (k0_t3 : Fin k0_t3_loop.trips) (c0_i32_3311_r0 : BitVec 32) : Fin 5 → Nat :=
  let c1_3331_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10649_r0 : Index := Scalar.indexCast arg24_r0
  let c2_3332_r0 : Index := 2#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10650_r0 : Index := Scalar.indexCast v10592_r0
  let c0_3333_r0 : Index := 0#32
  ![1, v10649_r0.toNat, 2, Nat.mul 2 v10650_r0.toNat, 0]
def k0_off63 (k0_t2 : Fin k0_t2_loop.trips) (k0_t3 : Fin k0_t3_loop.trips) (c0_i32_3311_r0 : BitVec 32) : Fin 5 → Nat :=
  let c1_3334_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10655_r0 : Index := Scalar.indexCast arg24_r0
  let c3_3335_r0 : Index := 3#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10656_r0 : Index := Scalar.indexCast v10592_r0
  let c0_3336_r0 : Index := 0#32
  ![1, v10655_r0.toNat, 3, Nat.mul 2 v10656_r0.toNat, 0]
def k0_off64 (k0_t2 : Fin k0_t2_loop.trips) (k0_t3 : Fin k0_t3_loop.trips) (c0_i32_3311_r0 : BitVec 32) : Fin 5 → Nat :=
  let c1_3337_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10664_r0 : Index := Scalar.indexCast arg24_r0
  let c4_3338_r0 : Index := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10665_r0 : Index := Scalar.indexCast v10592_r0
  let c0_3339_r0 : Index := 0#32
  ![1, v10664_r0.toNat, 4, Nat.mul 2 v10665_r0.toNat, 0]
def k0_off65 (k0_t2 : Fin k0_t2_loop.trips) (k0_t3 : Fin k0_t3_loop.trips) (c0_i32_3311_r0 : BitVec 32) : Fin 5 → Nat :=
  let c0_3340_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10672_r0 : Index := Scalar.indexCast arg24_r0
  let c5_r0 : Index := 5#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10673_r0 : Index := Scalar.indexCast v10592_r0
  let c0_3341_r0 : Index := 0#32
  ![0, v10672_r0.toNat, 5, Nat.mul 2 v10673_r0.toNat, 0]
def k0_off66 (k0_t2 : Fin k0_t2_loop.trips) (k0_t3 : Fin k0_t3_loop.trips) (c0_i32_3311_r0 : BitVec 32) : Fin 5 → Nat :=
  let c0_3342_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10678_r0 : Index := Scalar.indexCast arg24_r0
  let c6_r0 : Index := 6#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10679_r0 : Index := Scalar.indexCast v10592_r0
  let c0_3343_r0 : Index := 0#32
  ![0, v10678_r0.toNat, 6, Nat.mul 2 v10679_r0.toNat, 0]
def k0_off67 (k0_t2 : Fin k0_t2_loop.trips) (k0_t3 : Fin k0_t3_loop.trips) (c0_i32_3311_r0 : BitVec 32) : Fin 5 → Nat :=
  let c0_3344_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10687_r0 : Index := Scalar.indexCast arg24_r0
  let c7_r0 : Index := 7#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10688_r0 : Index := Scalar.indexCast v10592_r0
  let c0_3345_r0 : Index := 0#32
  ![0, v10687_r0.toNat, 7, Nat.mul 2 v10688_r0.toNat, 0]
def k0_off68 (k0_t2 : Fin k0_t2_loop.trips) (k0_t3 : Fin k0_t3_loop.trips) (c0_i32_3311_r0 : BitVec 32) : Fin 5 → Nat :=
  let c0_3346_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10693_r0 : Index := Scalar.indexCast arg24_r0
  let c8_3347_r0 : Index := 8#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10694_r0 : Index := Scalar.indexCast v10592_r0
  let c0_3348_r0 : Index := 0#32
  ![0, v10693_r0.toNat, 8, Nat.mul 2 v10694_r0.toNat, 0]
def k0_off69 (k0_t2 : Fin k0_t2_loop.trips) (k0_t3 : Fin k0_t3_loop.trips) (c0_i32_3311_r0 : BitVec 32) : Fin 5 → Nat :=
  let c0_3349_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10702_r0 : Index := Scalar.indexCast arg24_r0
  let c9_r0 : Index := 9#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10703_r0 : Index := Scalar.indexCast v10592_r0
  let c0_3350_r0 : Index := 0#32
  ![0, v10702_r0.toNat, 9, Nat.mul 2 v10703_r0.toNat, 0]
def k0_off70 (k0_t2 : Fin k0_t2_loop.trips) (k0_t3 : Fin k0_t3_loop.trips) (c0_i32_3311_r0 : BitVec 32) : Fin 5 → Nat :=
  let c1_3351_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10710_r0 : Index := Scalar.indexCast arg24_r0
  let c5_3352_r0 : Index := 5#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10711_r0 : Index := Scalar.indexCast v10592_r0
  let c0_3353_r0 : Index := 0#32
  ![1, v10710_r0.toNat, 5, Nat.mul 2 v10711_r0.toNat, 0]
def k0_off71 (k0_t2 : Fin k0_t2_loop.trips) (k0_t3 : Fin k0_t3_loop.trips) (c0_i32_3311_r0 : BitVec 32) : Fin 5 → Nat :=
  let c1_3354_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10716_r0 : Index := Scalar.indexCast arg24_r0
  let c6_3355_r0 : Index := 6#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10717_r0 : Index := Scalar.indexCast v10592_r0
  let c0_3356_r0 : Index := 0#32
  ![1, v10716_r0.toNat, 6, Nat.mul 2 v10717_r0.toNat, 0]
def k0_off72 (k0_t2 : Fin k0_t2_loop.trips) (k0_t3 : Fin k0_t3_loop.trips) (c0_i32_3311_r0 : BitVec 32) : Fin 5 → Nat :=
  let c1_3357_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10725_r0 : Index := Scalar.indexCast arg24_r0
  let c7_3358_r0 : Index := 7#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10726_r0 : Index := Scalar.indexCast v10592_r0
  let c0_3359_r0 : Index := 0#32
  ![1, v10725_r0.toNat, 7, Nat.mul 2 v10726_r0.toNat, 0]
def k0_off73 (k0_t2 : Fin k0_t2_loop.trips) (k0_t3 : Fin k0_t3_loop.trips) (c0_i32_3311_r0 : BitVec 32) : Fin 5 → Nat :=
  let c1_3360_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10731_r0 : Index := Scalar.indexCast arg24_r0
  let c8_3361_r0 : Index := 8#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10732_r0 : Index := Scalar.indexCast v10592_r0
  let c0_3362_r0 : Index := 0#32
  ![1, v10731_r0.toNat, 8, Nat.mul 2 v10732_r0.toNat, 0]
def k0_off74 (k0_t2 : Fin k0_t2_loop.trips) (k0_t3 : Fin k0_t3_loop.trips) (c0_i32_3311_r0 : BitVec 32) : Fin 5 → Nat :=
  let c1_3363_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10740_r0 : Index := Scalar.indexCast arg24_r0
  let c9_3364_r0 : Index := 9#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let v10741_r0 : Index := Scalar.indexCast v10592_r0
  let c0_3365_r0 : Index := 0#32
  ![1, v10740_r0.toNat, 9, Nat.mul 2 v10741_r0.toNat, 0]
def k0_mult62 (k0_t3 : Fin k0_t3_loop.trips) : BitVec 32 :=
  let c4_i32_3367_r0 : BitVec 32 := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let c0_i32_3311_r0 : BitVec 32 := 0#32
  let v10592_r0 : BitVec 32 := Scalar.addi v10591_r0 c0_i32_3311_r0
  let c128_i32_3312_r0 : BitVec 32 := 128#32
  let v10593_r0 : BitVec 32 := Scalar.muli v10592_r0 c128_i32_3312_r0
  let v10594_r0 : BitVec 32 := v10593_r0
  let c0_i32_3366_r0 : BitVec 32 := 0#32
  let v10747_r0 : BitVec 32 := Scalar.addi v10594_r0 c0_i32_3366_r0
  let v10748_r0 : BitVec 32 := Scalar.muli c4_i32_3367_r0 v10747_r0
  v10748_r0
def k0_off75 (k0_t3 : Fin k0_t3_loop.trips) (c0_i32_3311_r0 : BitVec 32) (c0_i32_3366_r0 : BitVec 32) : Fin 2 → Nat :=
  let c0_3368_r0 : Index := 0#32
  let c4_i32_3367_r0 : BitVec 32 := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let c128_i32_3312_r0 : BitVec 32 := 128#32
  let v10593_r0 : BitVec 32 := Scalar.muli v10592_r0 c128_i32_3312_r0
  let v10594_r0 : BitVec 32 := v10593_r0
  let v10747_r0 : BitVec 32 := Scalar.addi v10594_r0 c0_i32_3366_r0
  let v10748_r0 : BitVec 32 := Scalar.muli c4_i32_3367_r0 v10747_r0
  let v10749_r0 : BitVec 32 := v10748_r0
  let v10750_r0 : Index := Scalar.indexCast v10749_r0
  ![0, v10750_r0.toNat]
def k0_off76 (k0_t2 : Fin k0_t2_loop.trips) (k0_t3 : Fin k0_t3_loop.trips) (c0_i32_3311_r0 : BitVec 32) (c0_i32_3369_r0 : BitVec 32) : Fin 4 → Nat :=
  let c0_3370_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10753_r0 : Index := Scalar.indexCast arg24_r0
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let c128_i32_3312_r0 : BitVec 32 := 128#32
  let v10593_r0 : BitVec 32 := Scalar.muli v10592_r0 c128_i32_3312_r0
  let v10594_r0 : BitVec 32 := v10593_r0
  let v10752_r0 : BitVec 32 := Scalar.addi v10594_r0 c0_i32_3369_r0
  let v10754_r0 : Index := Scalar.indexCast v10752_r0
  let c0_3371_r0 : Index := 0#32
  ![0, v10753_r0.toNat, v10754_r0.toNat, 0]
def k0_off77 (k0_t2 : Fin k0_t2_loop.trips) (k0_t3 : Fin k0_t3_loop.trips) (c0_i32_3311_r0 : BitVec 32) (c0_i32_3372_r0 : BitVec 32) : Fin 4 → Nat :=
  let c1_3373_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10764_r0 : Index := Scalar.indexCast arg24_r0
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let c128_i32_3312_r0 : BitVec 32 := 128#32
  let v10593_r0 : BitVec 32 := Scalar.muli v10592_r0 c128_i32_3312_r0
  let v10594_r0 : BitVec 32 := v10593_r0
  let v10763_r0 : BitVec 32 := Scalar.addi v10594_r0 c0_i32_3372_r0
  let v10765_r0 : Index := Scalar.indexCast v10763_r0
  let c0_3374_r0 : Index := 0#32
  ![1, v10764_r0.toNat, v10765_r0.toNat, 0]
def k0_mult63 (k0_t3 : Fin k0_t3_loop.trips) : BitVec 32 :=
  let c4_i32_3386_r0 : BitVec 32 := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let c0_i32_3311_r0 : BitVec 32 := 0#32
  let v10592_r0 : BitVec 32 := Scalar.addi v10591_r0 c0_i32_3311_r0
  let c128_i32_3312_r0 : BitVec 32 := 128#32
  let v10593_r0 : BitVec 32 := Scalar.muli v10592_r0 c128_i32_3312_r0
  let v10594_r0 : BitVec 32 := v10593_r0
  let c64_i32_3385_r0 : BitVec 32 := 64#32
  let v10800_r0 : BitVec 32 := Scalar.addi v10594_r0 c64_i32_3385_r0
  let v10801_r0 : BitVec 32 := Scalar.muli c4_i32_3386_r0 v10800_r0
  v10801_r0
def k0_mult64 (k0_t3 : Fin k0_t3_loop.trips) : BitVec 32 :=
  let c2_i32_3406_r0 : BitVec 32 := 2#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let c0_i32_3311_r0 : BitVec 32 := 0#32
  let v10592_r0 : BitVec 32 := Scalar.addi v10591_r0 c0_i32_3311_r0
  let c128_i32_3312_r0 : BitVec 32 := 128#32
  let v10593_r0 : BitVec 32 := Scalar.muli v10592_r0 c128_i32_3312_r0
  let v10594_r0 : BitVec 32 := v10593_r0
  let v10853_r0 : BitVec 32 := Scalar.muli c2_i32_3406_r0 v10594_r0
  v10853_r0
def k0_off78 (k0_t3 : Fin k0_t3_loop.trips) (c0_i32_3311_r0 : BitVec 32) : Fin 2 → Nat :=
  let c0_3407_r0 : Index := 0#32
  let c2_i32_3406_r0 : BitVec 32 := 2#32
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let c128_i32_3312_r0 : BitVec 32 := 128#32
  let v10593_r0 : BitVec 32 := Scalar.muli v10592_r0 c128_i32_3312_r0
  let v10594_r0 : BitVec 32 := v10593_r0
  let v10853_r0 : BitVec 32 := Scalar.muli c2_i32_3406_r0 v10594_r0
  let v10854_r0 : BitVec 32 := v10853_r0
  let v10855_r0 : Index := Scalar.indexCast v10854_r0
  ![0, v10855_r0.toNat]
def k0_off79 (k0_t2 : Fin k0_t2_loop.trips) (k0_t3 : Fin k0_t3_loop.trips) (c0_i32_3311_r0 : BitVec 32) : Fin 4 → Nat :=
  let c0_3408_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10857_r0 : Index := Scalar.indexCast arg24_r0
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let c128_i32_3312_r0 : BitVec 32 := 128#32
  let v10593_r0 : BitVec 32 := Scalar.muli v10592_r0 c128_i32_3312_r0
  let v10594_r0 : BitVec 32 := v10593_r0
  let v10858_r0 : Index := Scalar.indexCast v10594_r0
  let c0_3409_r0 : Index := 0#32
  ![0, v10857_r0.toNat, v10858_r0.toNat, 0]
def k0_off80 (k0_t2 : Fin k0_t2_loop.trips) (k0_t3 : Fin k0_t3_loop.trips) (c0_i32_3311_r0 : BitVec 32) : Fin 4 → Nat :=
  let c1_3410_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10869_r0 : Index := Scalar.indexCast arg24_r0
  let c0_i32_3230_r0 : BitVec 32 := 0#32
  let c1_i32_3232_r0 : BitVec 32 := 1#32
  let arg26_r0 : BitVec 32 := Scf.iv c0_i32_3230_r0 c1_i32_3232_r0 k0_t3
  let c4_i32_3310_r0 : BitVec 32 := 4#32
  let v10591_r0 : BitVec 32 := Scalar.muli arg26_r0 c4_i32_3310_r0
  let v10592_r0 : BitVec 32 := Scalar.addi v10591_r0 c0_i32_3311_r0
  let c128_i32_3312_r0 : BitVec 32 := 128#32
  let v10593_r0 : BitVec 32 := Scalar.muli v10592_r0 c128_i32_3312_r0
  let v10594_r0 : BitVec 32 := v10593_r0
  let v10870_r0 : Index := Scalar.indexCast v10594_r0
  let c0_3411_r0 : Index := 0#32
  ![1, v10869_r0.toNat, v10870_r0.toNat, 0]
def k0_mult65 (k0_t3 : Fin k0_t3_loop.trips) : BitVec 32 :=
  let c0_i32_3230_r0 : BitVec 32 := 0#32
  let c1_i32_3232_r0 : BitVec 32 := 1#32
  let arg26_r0 : BitVec 32 := Scf.iv c0_i32_3230_r0 c1_i32_3232_r0 k0_t3
  let c4_i32_3413_r0 : BitVec 32 := 4#32
  let v10881_r0 : BitVec 32 := Scalar.muli arg26_r0 c4_i32_3413_r0
  let c1_i32_3414_r0 : BitVec 32 := 1#32
  let v10882_r0 : BitVec 32 := Scalar.addi v10881_r0 c1_i32_3414_r0
  let c128_i32_3415_r0 : BitVec 32 := 128#32
  let v10883_r0 : BitVec 32 := Scalar.muli v10882_r0 c128_i32_3415_r0
  v10883_r0
def k0_mult66 (k0_t3 : Fin k0_t3_loop.trips) : BitVec 32 :=
  let c4_i32_3477_r0 : BitVec 32 := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3413_r0 : BitVec 32 := 4#32
  let v10881_r0 : BitVec 32 := Scalar.muli arg26_r0 c4_i32_3413_r0
  let c1_i32_3414_r0 : BitVec 32 := 1#32
  let v10882_r0 : BitVec 32 := Scalar.addi v10881_r0 c1_i32_3414_r0
  let c128_i32_3415_r0 : BitVec 32 := 128#32
  let v10883_r0 : BitVec 32 := Scalar.muli v10882_r0 c128_i32_3415_r0
  let v10884_r0 : BitVec 32 := v10883_r0
  let c0_i32_3476_r0 : BitVec 32 := 0#32
  let v11037_r0 : BitVec 32 := Scalar.addi v10884_r0 c0_i32_3476_r0
  let v11038_r0 : BitVec 32 := Scalar.muli c4_i32_3477_r0 v11037_r0
  v11038_r0
def k0_mult67 (k0_t3 : Fin k0_t3_loop.trips) : BitVec 32 :=
  let c4_i32_3498_r0 : BitVec 32 := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3413_r0 : BitVec 32 := 4#32
  let v10881_r0 : BitVec 32 := Scalar.muli arg26_r0 c4_i32_3413_r0
  let c1_i32_3414_r0 : BitVec 32 := 1#32
  let v10882_r0 : BitVec 32 := Scalar.addi v10881_r0 c1_i32_3414_r0
  let c128_i32_3415_r0 : BitVec 32 := 128#32
  let v10883_r0 : BitVec 32 := Scalar.muli v10882_r0 c128_i32_3415_r0
  let v10884_r0 : BitVec 32 := v10883_r0
  let c64_i32_3497_r0 : BitVec 32 := 64#32
  let v11090_r0 : BitVec 32 := Scalar.addi v10884_r0 c64_i32_3497_r0
  let v11091_r0 : BitVec 32 := Scalar.muli c4_i32_3498_r0 v11090_r0
  v11091_r0
def k0_mult68 (k0_t3 : Fin k0_t3_loop.trips) : BitVec 32 :=
  let c2_i32_3518_r0 : BitVec 32 := 2#32
  let c0_i32_3230_r0 : BitVec 32 := 0#32
  let c1_i32_3232_r0 : BitVec 32 := 1#32
  let arg26_r0 : BitVec 32 := Scf.iv c0_i32_3230_r0 c1_i32_3232_r0 k0_t3
  let c4_i32_3413_r0 : BitVec 32 := 4#32
  let v10881_r0 : BitVec 32 := Scalar.muli arg26_r0 c4_i32_3413_r0
  let c1_i32_3414_r0 : BitVec 32 := 1#32
  let v10882_r0 : BitVec 32 := Scalar.addi v10881_r0 c1_i32_3414_r0
  let c128_i32_3415_r0 : BitVec 32 := 128#32
  let v10883_r0 : BitVec 32 := Scalar.muli v10882_r0 c128_i32_3415_r0
  let v10884_r0 : BitVec 32 := v10883_r0
  let v11143_r0 : BitVec 32 := Scalar.muli c2_i32_3518_r0 v10884_r0
  v11143_r0
def k0_mult69 (k0_t3 : Fin k0_t3_loop.trips) : BitVec 32 :=
  let c0_i32_3230_r0 : BitVec 32 := 0#32
  let c1_i32_3232_r0 : BitVec 32 := 1#32
  let arg26_r0 : BitVec 32 := Scf.iv c0_i32_3230_r0 c1_i32_3232_r0 k0_t3
  let c4_i32_3526_r0 : BitVec 32 := 4#32
  let v11171_r0 : BitVec 32 := Scalar.muli arg26_r0 c4_i32_3526_r0
  let c2_i32_3527_r0 : BitVec 32 := 2#32
  let v11172_r0 : BitVec 32 := Scalar.addi v11171_r0 c2_i32_3527_r0
  let c128_i32_3528_r0 : BitVec 32 := 128#32
  let v11173_r0 : BitVec 32 := Scalar.muli v11172_r0 c128_i32_3528_r0
  v11173_r0
def k0_mult70 (k0_t3 : Fin k0_t3_loop.trips) : BitVec 32 :=
  let c4_i32_3590_r0 : BitVec 32 := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3526_r0 : BitVec 32 := 4#32
  let v11171_r0 : BitVec 32 := Scalar.muli arg26_r0 c4_i32_3526_r0
  let c2_i32_3527_r0 : BitVec 32 := 2#32
  let v11172_r0 : BitVec 32 := Scalar.addi v11171_r0 c2_i32_3527_r0
  let c128_i32_3528_r0 : BitVec 32 := 128#32
  let v11173_r0 : BitVec 32 := Scalar.muli v11172_r0 c128_i32_3528_r0
  let v11174_r0 : BitVec 32 := v11173_r0
  let c0_i32_3589_r0 : BitVec 32 := 0#32
  let v11327_r0 : BitVec 32 := Scalar.addi v11174_r0 c0_i32_3589_r0
  let v11328_r0 : BitVec 32 := Scalar.muli c4_i32_3590_r0 v11327_r0
  v11328_r0
def k0_mult71 (k0_t3 : Fin k0_t3_loop.trips) : BitVec 32 :=
  let c4_i32_3611_r0 : BitVec 32 := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3526_r0 : BitVec 32 := 4#32
  let v11171_r0 : BitVec 32 := Scalar.muli arg26_r0 c4_i32_3526_r0
  let c2_i32_3527_r0 : BitVec 32 := 2#32
  let v11172_r0 : BitVec 32 := Scalar.addi v11171_r0 c2_i32_3527_r0
  let c128_i32_3528_r0 : BitVec 32 := 128#32
  let v11173_r0 : BitVec 32 := Scalar.muli v11172_r0 c128_i32_3528_r0
  let v11174_r0 : BitVec 32 := v11173_r0
  let c64_i32_3610_r0 : BitVec 32 := 64#32
  let v11380_r0 : BitVec 32 := Scalar.addi v11174_r0 c64_i32_3610_r0
  let v11381_r0 : BitVec 32 := Scalar.muli c4_i32_3611_r0 v11380_r0
  v11381_r0
def k0_mult72 (k0_t3 : Fin k0_t3_loop.trips) : BitVec 32 :=
  let c2_i32_3631_r0 : BitVec 32 := 2#32
  let c0_i32_3230_r0 : BitVec 32 := 0#32
  let c1_i32_3232_r0 : BitVec 32 := 1#32
  let arg26_r0 : BitVec 32 := Scf.iv c0_i32_3230_r0 c1_i32_3232_r0 k0_t3
  let c4_i32_3526_r0 : BitVec 32 := 4#32
  let v11171_r0 : BitVec 32 := Scalar.muli arg26_r0 c4_i32_3526_r0
  let c2_i32_3527_r0 : BitVec 32 := 2#32
  let v11172_r0 : BitVec 32 := Scalar.addi v11171_r0 c2_i32_3527_r0
  let c128_i32_3528_r0 : BitVec 32 := 128#32
  let v11173_r0 : BitVec 32 := Scalar.muli v11172_r0 c128_i32_3528_r0
  let v11174_r0 : BitVec 32 := v11173_r0
  let v11433_r0 : BitVec 32 := Scalar.muli c2_i32_3631_r0 v11174_r0
  v11433_r0
def k0_mult73 (k0_t3 : Fin k0_t3_loop.trips) : BitVec 32 :=
  let c0_i32_3230_r0 : BitVec 32 := 0#32
  let c1_i32_3232_r0 : BitVec 32 := 1#32
  let arg26_r0 : BitVec 32 := Scf.iv c0_i32_3230_r0 c1_i32_3232_r0 k0_t3
  let c4_i32_3639_r0 : BitVec 32 := 4#32
  let v11461_r0 : BitVec 32 := Scalar.muli arg26_r0 c4_i32_3639_r0
  let c3_i32_3640_r0 : BitVec 32 := 3#32
  let v11462_r0 : BitVec 32 := Scalar.addi v11461_r0 c3_i32_3640_r0
  let c128_i32_3641_r0 : BitVec 32 := 128#32
  let v11463_r0 : BitVec 32 := Scalar.muli v11462_r0 c128_i32_3641_r0
  v11463_r0
def k0_mult74 (k0_t3 : Fin k0_t3_loop.trips) : BitVec 32 :=
  let c4_i32_3703_r0 : BitVec 32 := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3639_r0 : BitVec 32 := 4#32
  let v11461_r0 : BitVec 32 := Scalar.muli arg26_r0 c4_i32_3639_r0
  let c3_i32_3640_r0 : BitVec 32 := 3#32
  let v11462_r0 : BitVec 32 := Scalar.addi v11461_r0 c3_i32_3640_r0
  let c128_i32_3641_r0 : BitVec 32 := 128#32
  let v11463_r0 : BitVec 32 := Scalar.muli v11462_r0 c128_i32_3641_r0
  let v11464_r0 : BitVec 32 := v11463_r0
  let c0_i32_3702_r0 : BitVec 32 := 0#32
  let v11617_r0 : BitVec 32 := Scalar.addi v11464_r0 c0_i32_3702_r0
  let v11618_r0 : BitVec 32 := Scalar.muli c4_i32_3703_r0 v11617_r0
  v11618_r0
def k0_mult75 (k0_t3 : Fin k0_t3_loop.trips) : BitVec 32 :=
  let c4_i32_3724_r0 : BitVec 32 := 4#32
  let c0_i32_3230_r0 : BitVec 32 := 0#32
  let c1_i32_3232_r0 : BitVec 32 := 1#32
  let arg26_r0 : BitVec 32 := Scf.iv c0_i32_3230_r0 c1_i32_3232_r0 k0_t3
  let c4_i32_3639_r0 : BitVec 32 := 4#32
  let v11461_r0 : BitVec 32 := Scalar.muli arg26_r0 c4_i32_3639_r0
  let c3_i32_3640_r0 : BitVec 32 := 3#32
  let v11462_r0 : BitVec 32 := Scalar.addi v11461_r0 c3_i32_3640_r0
  let c128_i32_3641_r0 : BitVec 32 := 128#32
  let v11463_r0 : BitVec 32 := Scalar.muli v11462_r0 c128_i32_3641_r0
  let v11464_r0 : BitVec 32 := v11463_r0
  let c64_i32_3723_r0 : BitVec 32 := 64#32
  let v11670_r0 : BitVec 32 := Scalar.addi v11464_r0 c64_i32_3723_r0
  let v11671_r0 : BitVec 32 := Scalar.muli c4_i32_3724_r0 v11670_r0
  v11671_r0
def k0_mult76 (k0_t3 : Fin k0_t3_loop.trips) : BitVec 32 :=
  let c2_i32_3744_r0 : BitVec 32 := 2#32
  let c0_i32_3230_r0 : BitVec 32 := 0#32
  let c1_i32_3232_r0 : BitVec 32 := 1#32
  let arg26_r0 : BitVec 32 := Scf.iv c0_i32_3230_r0 c1_i32_3232_r0 k0_t3
  let c4_i32_3639_r0 : BitVec 32 := 4#32
  let v11461_r0 : BitVec 32 := Scalar.muli arg26_r0 c4_i32_3639_r0
  let c3_i32_3640_r0 : BitVec 32 := 3#32
  let v11462_r0 : BitVec 32 := Scalar.addi v11461_r0 c3_i32_3640_r0
  let c128_i32_3641_r0 : BitVec 32 := 128#32
  let v11463_r0 : BitVec 32 := Scalar.muli v11462_r0 c128_i32_3641_r0
  let v11464_r0 : BitVec 32 := v11463_r0
  let v11723_r0 : BitVec 32 := Scalar.muli c2_i32_3744_r0 v11464_r0
  v11723_r0
def k0_off81 (k0_t2 : Fin k0_t2_loop.trips) : Fin 4 → Nat :=
  let c0_3234_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10373_r0 : Index := Scalar.indexCast arg24_r0
  let c0_3235_r0 : Index := 0#32
  let c0_3236_r0 : Index := 0#32
  ![0, v10373_r0.toNat, 0, 0]
def k0_off82 (k0_t2 : Fin k0_t2_loop.trips) : Fin 4 → Nat :=
  let c1_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10380_r0 : Index := Scalar.indexCast arg24_r0
  let c0_3237_r0 : Index := 0#32
  let c0_3238_r0 : Index := 0#32
  ![1, v10380_r0.toNat, 0, 0]
def k0_mult77 (k0_t2 : Fin k0_t2_loop.trips) : BitVec 32 :=
  let c0_i32_3239_r0 : BitVec 32 := 0#32
  let c0_i32_3225_r0 : BitVec 32 := 0#32
  let c1_i32_3227_r0 : BitVec 32 := 1#32
  let arg24_r0 : BitVec 32 := Scf.iv c0_i32_3225_r0 c1_i32_3227_r0 k0_t2
  let c256_i32_r0 : BitVec 32 := 256#32
  let v10387_r0 : BitVec 32 := Scalar.muli arg24_r0 c256_i32_r0
  let v10388_r0 : BitVec 32 := Scalar.addi c0_i32_3239_r0 v10387_r0
  v10388_r0
def k0_off83 (k0_t2 : Fin k0_t2_loop.trips) (c0_i32_3239_r0 : BitVec 32) : Fin 2 → Nat :=
  let c0_3240_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let c256_i32_r0 : BitVec 32 := 256#32
  let v10387_r0 : BitVec 32 := Scalar.muli arg24_r0 c256_i32_r0
  let v10388_r0 : BitVec 32 := Scalar.addi c0_i32_3239_r0 v10387_r0
  let v10389_r0 : BitVec 32 := v10388_r0
  let v10392_r0 : Index := Scalar.indexCast v10389_r0
  ![0, v10392_r0.toNat]
def k0_mult78 (k0_t2 : Fin k0_t2_loop.trips) : BitVec 32 :=
  let c3072_i32_r0 : BitVec 32 := 3072#32
  let c0_i32_3225_r0 : BitVec 32 := 0#32
  let c1_i32_3227_r0 : BitVec 32 := 1#32
  let arg24_r0 : BitVec 32 := Scf.iv c0_i32_3225_r0 c1_i32_3227_r0 k0_t2
  let c256_i32_3241_r0 : BitVec 32 := 256#32
  let v10396_r0 : BitVec 32 := Scalar.muli arg24_r0 c256_i32_3241_r0
  let v10397_r0 : BitVec 32 := Scalar.addi c3072_i32_r0 v10396_r0
  v10397_r0
def k0_mult79 (k0_t2 : Fin k0_t2_loop.trips) : BitVec 32 :=
  let c6144_i32_r0 : BitVec 32 := 6144#32
  let c0_i32_3225_r0 : BitVec 32 := 0#32
  let c1_i32_3227_r0 : BitVec 32 := 1#32
  let arg24_r0 : BitVec 32 := Scf.iv c0_i32_3225_r0 c1_i32_3227_r0 k0_t2
  let c256_i32_3243_r0 : BitVec 32 := 256#32
  let v10405_r0 : BitVec 32 := Scalar.muli arg24_r0 c256_i32_3243_r0
  let v10406_r0 : BitVec 32 := Scalar.addi c6144_i32_r0 v10405_r0
  v10406_r0
def k0_mult80 (k0_t2 : Fin k0_t2_loop.trips) : BitVec 32 :=
  let c8192_i32_r0 : BitVec 32 := 8192#32
  let c0_i32_3225_r0 : BitVec 32 := 0#32
  let c1_i32_3227_r0 : BitVec 32 := 1#32
  let arg24_r0 : BitVec 32 := Scf.iv c0_i32_3225_r0 c1_i32_3227_r0 k0_t2
  let c256_i32_3245_r0 : BitVec 32 := 256#32
  let v10414_r0 : BitVec 32 := Scalar.muli arg24_r0 c256_i32_3245_r0
  let v10415_r0 : BitVec 32 := Scalar.addi c8192_i32_r0 v10414_r0
  v10415_r0
def k0_off84 (k0_t2 : Fin k0_t2_loop.trips) : Fin 4 → Nat :=
  let c0_3247_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10426_r0 : Index := Scalar.indexCast arg24_r0
  let c8_r0 : Index := 8#32
  let c0_3248_r0 : Index := 0#32
  ![0, v10426_r0.toNat, 8, 0]
def k0_off85 (k0_t2 : Fin k0_t2_loop.trips) : Fin 4 → Nat :=
  let c1_3249_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10433_r0 : Index := Scalar.indexCast arg24_r0
  let c8_3250_r0 : Index := 8#32
  let c0_3251_r0 : Index := 0#32
  ![1, v10433_r0.toNat, 8, 0]
def k0_mult81 (k0_t2 : Fin k0_t2_loop.trips) : BitVec 32 :=
  let c2048_i32_r0 : BitVec 32 := 2048#32
  let c0_i32_3225_r0 : BitVec 32 := 0#32
  let c1_i32_3227_r0 : BitVec 32 := 1#32
  let arg24_r0 : BitVec 32 := Scf.iv c0_i32_3225_r0 c1_i32_3227_r0 k0_t2
  let c256_i32_3252_r0 : BitVec 32 := 256#32
  let v10440_r0 : BitVec 32 := Scalar.muli arg24_r0 c256_i32_3252_r0
  let v10441_r0 : BitVec 32 := Scalar.addi c2048_i32_r0 v10440_r0
  v10441_r0
def k0_mult82 (k0_t2 : Fin k0_t2_loop.trips) : BitVec 32 :=
  let c5120_i32_r0 : BitVec 32 := 5120#32
  let c0_i32_3225_r0 : BitVec 32 := 0#32
  let c1_i32_3227_r0 : BitVec 32 := 1#32
  let arg24_r0 : BitVec 32 := Scf.iv c0_i32_3225_r0 c1_i32_3227_r0 k0_t2
  let c256_i32_3254_r0 : BitVec 32 := 256#32
  let v10449_r0 : BitVec 32 := Scalar.muli arg24_r0 c256_i32_3254_r0
  let v10450_r0 : BitVec 32 := Scalar.addi c5120_i32_r0 v10449_r0
  v10450_r0
def k0_mult83 (k0_t2 : Fin k0_t2_loop.trips) : BitVec 32 :=
  let c7168_i32_r0 : BitVec 32 := 7168#32
  let c0_i32_3225_r0 : BitVec 32 := 0#32
  let c1_i32_3227_r0 : BitVec 32 := 1#32
  let arg24_r0 : BitVec 32 := Scf.iv c0_i32_3225_r0 c1_i32_3227_r0 k0_t2
  let c256_i32_3256_r0 : BitVec 32 := 256#32
  let v10458_r0 : BitVec 32 := Scalar.muli arg24_r0 c256_i32_3256_r0
  let v10459_r0 : BitVec 32 := Scalar.addi c7168_i32_r0 v10458_r0
  v10459_r0
def k0_mult84 (k0_t2 : Fin k0_t2_loop.trips) : BitVec 32 :=
  let c9216_i32_r0 : BitVec 32 := 9216#32
  let c0_i32_3225_r0 : BitVec 32 := 0#32
  let c1_i32_3227_r0 : BitVec 32 := 1#32
  let arg24_r0 : BitVec 32 := Scf.iv c0_i32_3225_r0 c1_i32_3227_r0 k0_t2
  let c256_i32_3258_r0 : BitVec 32 := 256#32
  let v10467_r0 : BitVec 32 := Scalar.muli arg24_r0 c256_i32_3258_r0
  let v10468_r0 : BitVec 32 := Scalar.addi c9216_i32_r0 v10467_r0
  v10468_r0
def k0_off86 (k0_t2 : Fin k0_t2_loop.trips) : Fin 4 → Nat :=
  let c0_3260_r0 : Index := 0#32
  let c0_i32_3225_r0 : BitVec 32 := 0#32
  let c1_i32_3227_r0 : BitVec 32 := 1#32
  let arg24_r0 : BitVec 32 := Scf.iv c0_i32_3225_r0 c1_i32_3227_r0 k0_t2
  let v10480_r0 : Index := Scalar.indexCast arg24_r0
  let c16_r0 : Index := 16#32
  let c0_3261_r0 : Index := 0#32
  ![0, v10480_r0.toNat, 16, 0]
def k0_off87 (k0_t2 : Fin k0_t2_loop.trips) : Fin 4 → Nat :=
  let c1_3262_r0 : Index := 1#32
  let c0_i32_3225_r0 : BitVec 32 := 0#32
  let c1_i32_3227_r0 : BitVec 32 := 1#32
  let arg24_r0 : BitVec 32 := Scf.iv c0_i32_3225_r0 c1_i32_3227_r0 k0_t2
  let v10488_r0 : Index := Scalar.indexCast arg24_r0
  let c16_3263_r0 : Index := 16#32
  let c0_3264_r0 : Index := 0#32
  ![1, v10488_r0.toNat, 16, 0]
def k0_mult85 (k0_t2 : Fin k0_t2_loop.trips) : BitVec 32 :=
  let c1024_i32_3266_r0 : BitVec 32 := 1024#32
  let c0_i32_3225_r0 : BitVec 32 := 0#32
  let c1_i32_3227_r0 : BitVec 32 := 1#32
  let arg24_r0 : BitVec 32 := Scf.iv c0_i32_3225_r0 c1_i32_3227_r0 k0_t2
  let c256_i32_3265_r0 : BitVec 32 := 256#32
  let v10495_r0 : BitVec 32 := Scalar.muli arg24_r0 c256_i32_3265_r0
  let v10496_r0 : BitVec 32 := Scalar.addi c1024_i32_3266_r0 v10495_r0
  v10496_r0
def k0_mult86 (k0_t2 : Fin k0_t2_loop.trips) : BitVec 32 :=
  let c4096_i32_r0 : BitVec 32 := 4096#32
  let c0_i32_3225_r0 : BitVec 32 := 0#32
  let c1_i32_3227_r0 : BitVec 32 := 1#32
  let arg24_r0 : BitVec 32 := Scf.iv c0_i32_3225_r0 c1_i32_3227_r0 k0_t2
  let c256_i32_3268_r0 : BitVec 32 := 256#32
  let v10504_r0 : BitVec 32 := Scalar.muli arg24_r0 c256_i32_3268_r0
  let v10505_r0 : BitVec 32 := Scalar.addi c4096_i32_r0 v10504_r0
  v10505_r0
-- ==== KernelIdeal.lean ====
variable {F : FTy → Type} [FloatOps F]
-- ==== ReferenceIdeal.lean ====
abbrev S2x1x2560 : Shape := ⟨3, ![2, 1, 2560]⟩
abbrev S2560x1024 : Shape := ⟨2, ![2560, 1024]⟩
abbrev S20x10240 : Shape := ⟨2, ![20, 10240]⟩
abbrev S2x10240 : Shape := ⟨2, ![2, 10240]⟩
abbrev S10 : Shape := ⟨1, ![10]⟩
abbrev S_ : Shape := ⟨0, ![]⟩
abbrev S10x1x1 : Shape := ⟨3, ![10, 1, 1]⟩
abbrev S1x2560x1024 : Shape := ⟨3, ![1, 2560, 1024]⟩
abbrev S10x2560x1024 : Shape := ⟨3, ![10, 2560, 1024]⟩
abbrev S20x10x1024 : Shape := ⟨3, ![20, 10, 1024]⟩
abbrev S10x20x1024 : Shape := ⟨3, ![10, 20, 1024]⟩
abbrev S10x20x128x1024 : Shape := ⟨4, ![10, 20, 128, 1024]⟩
abbrev S10x20x1x1024 : Shape := ⟨4, ![10, 20, 1, 1024]⟩
abbrev S2x1x10x1024 : Shape := ⟨4, ![2, 1, 10, 1024]⟩
abbrev S2x1x10240 : Shape := ⟨3, ![2, 1, 10240]⟩

abbrev nBuf : Space → Nat
  | .hbm => 88
  | .vmem => 0
  | .smem => 0
  | _ => 0

abbrev bufTy : (tb : Table) → Fin (tcTables nBuf tb) → BufTy
  | .hbm, ⟨0, _⟩ => ⟨S2x1x2560, .bf16⟩
  | .hbm, ⟨1, _⟩ => ⟨S2560x1024, .i32⟩
  | .hbm, ⟨2, _⟩ => ⟨S20x10240, .bf16⟩
  | .hbm, ⟨3, _⟩ => ⟨S20x10240, .i8⟩
  | .hbm, ⟨4, _⟩ => ⟨S2x10240, .f32⟩
  | .hbm, ⟨5, _⟩ => ⟨S2560x1024, .i32⟩
  | .hbm, ⟨6, _⟩ => ⟨S20x10240, .bf16⟩
  | .hbm, ⟨7, _⟩ => ⟨S20x10240, .i8⟩
  | .hbm, ⟨8, _⟩ => ⟨S2x10240, .f32⟩
  | .hbm, ⟨9, _⟩ => ⟨S10, .i32⟩
  | .hbm, ⟨10, _⟩ => ⟨S_, .i32⟩
  | .hbm, ⟨11, _⟩ => ⟨S10, .i32⟩
  | .hbm, ⟨12, _⟩ => ⟨S10, .i32⟩
  | .hbm, ⟨13, _⟩ => ⟨S10x1x1, .i32⟩
  | .hbm, ⟨14, _⟩ => ⟨S1x2560x1024, .i32⟩
  | .hbm, ⟨15, _⟩ => ⟨S10x2560x1024, .i32⟩
  | .hbm, ⟨16, _⟩ => ⟨S10x2560x1024, .i32⟩
  | .hbm, ⟨17, _⟩ => ⟨S10x2560x1024, .i32⟩
  | .hbm, ⟨18, _⟩ => ⟨S_, .i32⟩
  | .hbm, ⟨19, _⟩ => ⟨S10x2560x1024, .i32⟩
  | .hbm, ⟨20, _⟩ => ⟨S10x2560x1024, .i32⟩
  | .hbm, ⟨21, _⟩ => ⟨S10x2560x1024, .i32⟩
  | .hbm, ⟨22, _⟩ => ⟨S10x2560x1024, .f32⟩
  | .hbm, ⟨23, _⟩ => ⟨S10x2560x1024, .bf16⟩
  | .hbm, ⟨24, _⟩ => ⟨S20x10x1024, .i8⟩
  | .hbm, ⟨25, _⟩ => ⟨S10x20x1024, .i8⟩
  | .hbm, ⟨26, _⟩ => ⟨S10x20x1024, .i32⟩
  | .hbm, ⟨27, _⟩ => ⟨S10x20x1024, .f32⟩
  | .hbm, ⟨28, _⟩ => ⟨S10x20x1024, .bf16⟩
  | .hbm, ⟨29, _⟩ => ⟨S20x10x1024, .bf16⟩
  | .hbm, ⟨30, _⟩ => ⟨S10x20x1024, .bf16⟩
  | .hbm, ⟨31, _⟩ => ⟨S10x20x128x1024, .bf16⟩
  | .hbm, ⟨32, _⟩ => ⟨S10x20x1x1024, .bf16⟩
  | .hbm, ⟨33, _⟩ => ⟨S10x20x128x1024, .bf16⟩
  | .hbm, ⟨34, _⟩ => ⟨S10x20x128x1024, .bf16⟩
  | .hbm, ⟨35, _⟩ => ⟨S10x20x1x1024, .bf16⟩
  | .hbm, ⟨36, _⟩ => ⟨S10x20x128x1024, .bf16⟩
  | .hbm, ⟨37, _⟩ => ⟨S10x20x128x1024, .bf16⟩
  | .hbm, ⟨38, _⟩ => ⟨S10x2560x1024, .bf16⟩
  | .hbm, ⟨39, _⟩ => ⟨S2x1x10x1024, .f32⟩
  | .hbm, ⟨40, _⟩ => ⟨S2x1x10240, .f32⟩
  | .hbm, ⟨41, _⟩ => ⟨S2x10240, .f32⟩
  | .hbm, ⟨42, _⟩ => ⟨S10, .i32⟩
  | .hbm, ⟨43, _⟩ => ⟨S_, .i32⟩
  | .hbm, ⟨44, _⟩ => ⟨S10, .i32⟩
  | .hbm, ⟨45, _⟩ => ⟨S10, .i32⟩
  | .hbm, ⟨46, _⟩ => ⟨S10x1x1, .i32⟩
  | .hbm, ⟨47, _⟩ => ⟨S1x2560x1024, .i32⟩
  | .hbm, ⟨48, _⟩ => ⟨S10x2560x1024, .i32⟩
  | .hbm, ⟨49, _⟩ => ⟨S10x2560x1024, .i32⟩
  | .hbm, ⟨50, _⟩ => ⟨S10x2560x1024, .i32⟩
  | .hbm, ⟨51, _⟩ => ⟨S_, .i32⟩
  | .hbm, ⟨52, _⟩ => ⟨S10x2560x1024, .i32⟩
  | .hbm, ⟨53, _⟩ => ⟨S10x2560x1024, .i32⟩
  | .hbm, ⟨54, _⟩ => ⟨S10x2560x1024, .i32⟩
  | .hbm, ⟨55, _⟩ => ⟨S10x2560x1024, .f32⟩
  | .hbm, ⟨56, _⟩ => ⟨S10x2560x1024, .bf16⟩
  | .hbm, ⟨57, _⟩ => ⟨S20x10x1024, .i8⟩
  | .hbm, ⟨58, _⟩ => ⟨S10x20x1024, .i8⟩
  | .hbm, ⟨59, _⟩ => ⟨S10x20x1024, .i32⟩
  | .hbm, ⟨60, _⟩ => ⟨S10x20x1024, .f32⟩
  | .hbm, ⟨61, _⟩ => ⟨S10x20x1024, .bf16⟩
  | .hbm, ⟨62, _⟩ => ⟨S20x10x1024, .bf16⟩
  | .hbm, ⟨63, _⟩ => ⟨S10x20x1024, .bf16⟩
  | .hbm, ⟨64, _⟩ => ⟨S10x20x128x1024, .bf16⟩
  | .hbm, ⟨65, _⟩ => ⟨S10x20x1x1024, .bf16⟩
  | .hbm, ⟨66, _⟩ => ⟨S10x20x128x1024, .bf16⟩
  | .hbm, ⟨67, _⟩ => ⟨S10x20x128x1024, .bf16⟩
  | .hbm, ⟨68, _⟩ => ⟨S10x20x1x1024, .bf16⟩
  | .hbm, ⟨69, _⟩ => ⟨S10x20x128x1024, .bf16⟩
  | .hbm, ⟨70, _⟩ => ⟨S10x20x128x1024, .bf16⟩
  | .hbm, ⟨71, _⟩ => ⟨S10x2560x1024, .bf16⟩
  | .hbm, ⟨72, _⟩ => ⟨S2x1x10x1024, .f32⟩
  | .hbm, ⟨73, _⟩ => ⟨S2x1x10240, .f32⟩
  | .hbm, ⟨74, _⟩ => ⟨S2x10240, .f32⟩
  | .hbm, ⟨75, _⟩ => ⟨S2x10240, .f32⟩
  | .hbm, ⟨76, _⟩ => ⟨S2x10240, .f32⟩
  | .hbm, ⟨77, _⟩ => ⟨S2x10240, .f32⟩
  | .hbm, ⟨78, _⟩ => ⟨S2x10240, .f32⟩
  | .hbm, ⟨79, _⟩ => ⟨S_, .f32⟩
  | .hbm, ⟨80, _⟩ => ⟨S2x10240, .f32⟩
  | .hbm, ⟨81, _⟩ => ⟨S2x10240, .f32⟩
  | .hbm, ⟨82, _⟩ => ⟨S_, .f32⟩
  | .hbm, ⟨83, _⟩ => ⟨S2x10240, .f32⟩
  | .hbm, ⟨84, _⟩ => ⟨S2x10240, .f32⟩
  | .hbm, ⟨85, _⟩ => ⟨S2x10240, .f32⟩
  | .hbm, ⟨86, _⟩ => ⟨S2x10240, .f32⟩
  | .hbm, ⟨87, _⟩ => ⟨S2x10240, .bf16⟩
  | _, _ => ⟨S2x1x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Proof.Kernel.Trip.lean ====
/-
  One trip of the inner loop: start the copies of the step three ahead, wait for the copies of this step, and feed the
  four groups of the step to the two matrix units.
-/
module

public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Mxu.Lemmas

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## Offsets of the windows of one step -/

theorem off46_eq : ∀ (t2 : Fin k0_t2_loop.trips) (t3 : Fin k0_t3_loop.trips), k0_cond1 t2 t3 = 1#1 → k0_off46 t2 t3 = ![0, (5 * t2.val + t3.val + 3) / 5, 512 * ((5 * t2.val + t3.val + 3) % 5), 0] := by decide +kernel
theorem off49_eq : ∀ (t2 : Fin k0_t2_loop.trips) (t3 : Fin k0_t3_loop.trips), k0_cond1 t2 t3 = 1#1 → k0_off49 t2 t3 = ![1, (5 * t2.val + t3.val + 3) / 5, 512 * ((5 * t2.val + t3.val + 3) % 5), 0] := by decide +kernel
theorem off47_eq : ∀ (t2 : Fin k0_t2_loop.trips) (t3 : Fin k0_t3_loop.trips), k0_cond1 t2 t3 = 1#1 → k0_off47 t2 t3 = ![512 * ((5 * t2.val + t3.val + 3) % 5), 256 * ((5 * t2.val + t3.val + 3) / 5)] := by decide +kernel
theorem off51_eq : ∀ (t2 : Fin k0_t2_loop.trips) (t3 : Fin k0_t3_loop.trips), k0_off51 t2 t3 = ![0, t2.val, 512 * t3.val, 0] := by decide +kernel
theorem off54_eq : ∀ (t2 : Fin k0_t2_loop.trips) (t3 : Fin k0_t3_loop.trips), k0_off54 t2 t3 = ![1, t2.val, 512 * t3.val, 0] := by decide +kernel
theorem off52_eq : ∀ (t2 : Fin k0_t2_loop.trips) (t3 : Fin k0_t3_loop.trips), k0_off52 t2 t3 = ![512 * t3.val, 256 * t2.val] := by decide +kernel
theorem cond1_iff : ∀ (t2 : Fin k0_t2_loop.trips) (t3 : Fin k0_t3_loop.trips), k0_cond1 t2 t3 = 1#1 ↔ 5 * t2.val + t3.val + 3 < 20 := by decide +kernel

instance closedOff_off51 (t2 : Fin k0_t2_loop.trips) (t3 : Fin k0_t3_loop.trips) : ClosedOff (k0_off51 t2 t3) := ⟨_, off51_eq t2 t3⟩
instance closedOff_off54 (t2 : Fin k0_t2_loop.trips) (t3 : Fin k0_t3_loop.trips) : ClosedOff (k0_off54 t2 t3) := ⟨_, off54_eq t2 t3⟩

/-! ## The windows a copy goes between, and its semaphore -/

section Windows

variable (arg10 : Memref sig .tc .vmem S2x4x2560x256 .i32) (arg20 : DmaSems sig S20x2)

/-- 512 rows of the block buffer, from the offset. -/
def slotW (off : Fin 4 → ℕ) (h : ∀ a, off a + S1x1x512x256.size a ≤ S2x4x2560x256.size a) : Memref sig .tc .vmem S512x256 .i32 :=
  (arg10.slice (Rect.unit (s := S2x4x2560x256) off S1x1x512x256.size h) (fun _ => rfl)).squeeze S512x256 squeezes_S1x1x512x256_S512x256

/-- 512 × 256 words of a weight array, from the offset. -/
def srcW (arg : Memref sig .tc .hbm S2560x1024 .i32) (off : Fin 2 → ℕ) (h : ∀ a, off a + S512x256.size a ≤ S2560x1024.size a) : Memref sig .tc .hbm S512x256 .i32 :=
  arg.slice (Rect.unit (s := S2560x1024) off S512x256.size h) (fun _ => rfl)

/-- One semaphore of the ring. -/
def cellW (off : Fin 2 → ℕ) (h : ∀ a, off a + S1x1.size a ≤ S20x2.size a) : DmaSems sig S_ :=
  (arg20.slice (Rect.unit (s := S20x2) off S1x1.size h)).squeeze S_ squeezes_S1x1_S_

/-- The window of a weight array, held. -/
abbrev srcAt (c : Dev nD) (arg : Memref sig .tc .hbm S2560x1024 .i32) (X : BufTy.Contents (Elt F) arg.view.ty) (off : Fin 2 → ℕ) (h : ∀ a, off a + S512x256.size a ≤ S2560x1024.size a) : sProp 𝕄 :=
  iprop((srcW arg off h).view.loc (c : Thread nD τ) ↦[(srcW arg off h).view.set]{fullShare} X)

/-- The window of the block buffer, held. -/
abbrev slotAt (c : Dev nD) (f : BufTy.Contents (Elt F) arg10.view.ty) (off : Fin 4 → ℕ) (h : ∀ a, off a + S1x1x512x256.size a ≤ S2x4x2560x256.size a) : sProp 𝕄 :=
  iprop((slotW arg10 off h).view.loc (c : Thread nD τ) ↦[(slotW arg10 off h).view.set]{fullShare} f)

/-- The window of the block buffer, holding what the copy brought. -/
abbrev landedAt (c : Dev nD) (arg : Memref sig .tc .hbm S2560x1024 .i32) (X : BufTy.Contents (Elt F) arg.view.ty)
    (off : Fin 4 → ℕ) (h : ∀ a, off a + S1x1x512x256.size a ≤ S2x4x2560x256.size a) (off' : Fin 2 → ℕ) (h' : ∀ a, off' a + S512x256.size a ≤ S2560x1024.size a) : sProp 𝕄 :=
  iprop((slotW arg10 off h).view.loc (c : Thread nD τ) ↦[(slotW arg10 off h).view.set]{fullShare}
    (slotW arg10 off h).view.writes (Elt F) (slotW arg10 off h).view.junk [⟨Rect.whole _, ReadAs.same.apply ((srcW arg off' h').view.read (Elt F) X)⟩])

/-- A copy under way. -/
abbrev flightAt (c : Dev nD) (arg : Memref sig .tc .hbm S2560x1024 .i32) (X : BufTy.Contents (Elt F) arg.view.ty) (X10 : BufTy.Contents (Elt F) arg10.view.ty)
    (offc : Fin 2 → ℕ) (hc : ∀ a, offc a + S1x1.size a ≤ S20x2.size a)
    (off : Fin 4 → ℕ) (h : ∀ a, off a + S1x1x512x256.size a ≤ S2x4x2560x256.size a) (off' : Fin 2 → ℕ) (h' : ∀ a, off' a + S512x256.size a ≤ S2560x1024.size a) : sProp 𝕄 :=
  Transfers.Flight (countersEmb (U := Pipeline.UD sig nD τ)) (c : Thread nD τ) (.dma (cellW arg20 offc hc).sem) () (slotW arg10 off h).view.dmaCredit
    iprop(((slotW arg10 off h).view.loc (c : Thread nD τ) ↦[(slotW arg10 off h).view.set]{fullShare}
      (slotW arg10 off h).view.writes (Elt F) X10 [⟨Rect.whole _, ReadAs.same.apply ((srcW arg off' h').view.read (Elt F) X)⟩]) ∗ srcAt c arg X off' h')

/-- A semaphore of the ring at zero. -/
abbrev cellAt (c : Dev nD) (offc : Fin 2 → ℕ) (hc : ∀ a, offc a + S1x1.size a ≤ S20x2.size a) : sProp 𝕄 :=
  semVal ((c : Thread nD τ), .dma (cellW arg20 offc hc).sem) 0

end Windows

/-! ## The trip -/

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- What the arithmetic of a trip reads. -/
abbrev Held (c : Dev nD) (X14 : BufTy.Contents (Elt F) arg14.view.ty) (X15 : BufTy.Contents (Elt F) arg15.view.ty) (X16 : BufTy.Contents (Elt F) arg16.view.ty) : sProp 𝕄 :=
  iprop((arg14.view.loc (c : Thread nD τ) ↦[arg14.view.set]{fullShare} X14) ∗ (arg15.view.loc (c : Thread nD τ) ↦[arg15.view.set]{fullShare} X15)
    ∗ (arg16.view.loc (c : Thread nD τ) ↦[arg16.view.set]{fullShare} X16))

/-- The start of the copies of the step three ahead. -/
abbrev issueCall (t2 : Fin k0_t2_loop.trips) (t3 : Fin k0_t3_loop.trips) (a24 : BitVec 32) :=
  k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3

set_option maxHeartbeats 2000000 in
/-- When there is a step three ahead, both its copies are started. -/
theorem issue_some (c : Dev nD) (X1 : BufTy.Contents (Elt F) arg1.view.ty) (X5 : BufTy.Contents (Elt F) arg5.view.ty) (X10 : BufTy.Contents (Elt F) arg10.view.ty)
    (t2 : Fin k0_t2_loop.trips) (t3 : Fin k0_t3_loop.trips) (a24 : BitVec 32) (h : k0_cond1 t2 t3 = 1#1) :
    iprop((cellAt arg20 c (k0_off45 t2 t3) (k0_off45_inb t2 t3 h) ∗ slotAt arg10 c X10 (k0_off46 t2 t3) (k0_off46_inb t2 t3 h) ∗ srcAt c arg1 X1 (k0_off47 t2 t3) (k0_off47_inb t2 t3 h))
        ∗ (cellAt arg20 c (k0_off48 t2 t3) (k0_off48_inb t2 t3 h) ∗ slotAt arg10 c X10 (k0_off49 t2 t3) (k0_off49_inb t2 t3 h) ∗ srcAt c arg5 X5 (k0_off47 t2 t3) (k0_off47_inb t2 t3 h)))
      ⊢ wp Idealize.ShloMosaic.frame (wpE (defs₀ (F := F)) Variants.none (c : Thread nD τ) none) Set.univ
          (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3)
          (fun _ => iprop(flightAt arg10 arg20 c arg1 X1 X10 (k0_off45 t2 t3) (k0_off45_inb t2 t3 h) (k0_off46 t2 t3) (k0_off46_inb t2 t3 h) (k0_off47 t2 t3) (k0_off47_inb t2 t3 h)
            ∗ flightAt arg10 arg20 c arg5 X5 X10 (k0_off48 t2 t3) (k0_off48_inb t2 t3 h) (k0_off49 t2 t3) (k0_off49_inb t2 t3 h) (k0_off47 t2 t3) (k0_off47_inb t2 t3 h))) := by
  iintro ⟨⟨Hc0, Hd0, Hs0⟩, ⟨Hc1, Hd1, Hs1⟩⟩
  rw [k0_part19_eq_skeleton]
  unfold k0_part19_skel
  sl_exec
  sl_step
  isplitl [Hc0]; · iexact Hc0
  iexact Hc1

/-- When there is none, nothing is started. -/
theorem issue_none (c : Dev nD) (t2 : Fin k0_t2_loop.trips) (t3 : Fin k0_t3_loop.trips) (a24 : BitVec 32) (h : ¬ k0_cond1 t2 t3 = 1#1) (R : sProp 𝕄) :
    R
      ⊢ wp Idealize.ShloMosaic.frame (wpE (defs₀ (F := F)) Variants.none (c : Thread nD τ) none) Set.univ
          (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3)
          (fun _ => R) := by
  iintro H
  rw [k0_part19_eq_skeleton]
  unfold k0_part19_skel
  sl_exec
  sl_step
  iexact H

set_option maxHeartbeats 2000000 in
/-- One trip from any state of the matrix units whose staging registers are empty: `R` is what starting the copies of the
    step three ahead takes, `R'` what it leaves. -/
@[irreducible] def trip (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips)
    (gmr : Fin 2 → Option (Mxu.Staged F)) (acc : Fin 2 → Fin 1024 → Fin 256 → F .f32) (live : Fin 2 → Fin 1024 → Bool)
    (clean : ∀ q R C, live q R = false → acc q R C = FloatOps.ofBits .f32 0) :
    {m' : Mxu F // ∀ (W : Waits sig Unit) (R R' : sProp 𝕄) (X10 : BufTy.Contents (Elt F) arg10.view.ty) (v10197 : FVec F S8x256 .f32) (z o a24 a : BitVec 32) (m8 : Mxu F),
      (R ⊢ wp Idealize.ShloMosaic.frame (wpE (defs₀ (F := F)) Variants.none (c : Thread nD τ) none) Set.univ
          (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3) (fun _ => R')) →
      iprop(owes (c : Thread nD τ) 0 W ∗ Held arg14 arg15 arg16 c X14 X15 X16 ∗ R
          ∗ flightAt arg10 arg20 c arg1 X1 X10 (k0_off50 t2 t3) (k0_off50_inb t2 t3) (k0_off51 t2 t3) (k0_off51_inb t2 t3) (k0_off52 t2 t3) (k0_off52_inb t2 t3)
          ∗ flightAt arg10 arg20 c arg5 X5 X10 (k0_off53 t2 t3) (k0_off53_inb t2 t3) (k0_off54 t2 t3) (k0_off54_inb t2 t3) (k0_off52 t2 t3) (k0_off52_inb t2 t3))
      ⊢ wp Idealize.ShloMosaic.frame (wpE (defs₀ (F := F)) Variants.none (c : Thread nD τ) none) Set.univ
          (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v10075 v10197 z o t2 m8 a24 t3 (a, ⟨fun _ _ => none, gmr, acc, live, clean⟩))
          (fun r => iprop(⌜r = (0#32, m')⌝ ∗ (∃ W, owes (c : Thread nD τ) 0 W) ∗ Held arg14 arg15 arg16 c X14 X15 X16 ∗ R'
            ∗ (cellAt arg20 c (k0_off50 t2 t3) (k0_off50_inb t2 t3) ∗ landedAt arg10 c arg1 X1 (k0_off51 t2 t3) (k0_off51_inb t2 t3) (k0_off52 t2 t3) (k0_off52_inb t2 t3) ∗ srcAt c arg1 X1 (k0_off52 t2 t3) (k0_off52_inb t2 t3))
            ∗ (cellAt arg20 c (k0_off53 t2 t3) (k0_off53_inb t2 t3) ∗ landedAt arg10 c arg5 X5 (k0_off54 t2 t3) (k0_off54_inb t2 t3) (k0_off52 t2 t3) (k0_off52_inb t2 t3) ∗ srcAt c arg5 X5 (k0_off52 t2 t3) (k0_off52_inb t2 t3)))) } := by
  have h2 : t2.val < 4 := t2.isLt
  have h3 : t3.val < 5 := t3.isLt
  refine ⟨?_, fun W R R' X10 v10197 z o a24 a m8 hcut => ?run⟩
  case run =>
    iintro ⟨HO, ⟨H14, H15, H16⟩, HR, Hf0, Hf1⟩
    unfold k0_t3_body
    sl_exec
    sl_step
    sl_close

end Cert.Kernel

end
-- ==== Proof.Kernel.Feeds.lean ====
/-
  What one trip of the inner loop does to the two matrix units: forty products, each of a tile of x by a tile of weights,
  pushed and accumulated one after the other.
-/
module

public import proofs.«01_k».proof.Proof.Kernel.Trip

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- One product: the unit, its register, the address, the rows of x and the tile of weights. -/
structure Feed (F : FTy → Type) where
  q : Fin 2
  r : Fin 2
  A : ℕ
  lhs : FVec F S16x256 .bf16
  tile : FVec F S256x256 .bf16
  fits : Mxu.Fits A 16

/-- A unit's state after the product. -/
def Feed.go (m : Mxu F) (f : Feed F) : Mxu F := (m.pushed f.q f.r false f.tile).accLhs f.q f.r f.A f.lhs f.fits

theorem Feed.go_reg (m : Mxu F) (f : Feed F) (h : m.reg = fun _ _ => none) : (f.go m).reg = fun _ _ => none := by
  funext q r
  show (if q = f.q ∧ r = f.r then none else (m.pushed f.q f.r false f.tile).reg q r) = none
  split
  · rfl
  · rename_i hne
    rw [Mxu.reg_pushed_ne _ _ _ _ _ _ _ hne, h]

theorem Feed.go_live (m : Mxu F) (f : Feed F) (q : Fin 2) (R : Fin 1024) (hR : 4 * f.A + 16 ≤ R.val) : (f.go m).live q R = m.live q R := by
  show (if q = f.q ∧ 4 * f.A ≤ R.val ∧ R.val < 4 * f.A + 16 then true else (m.pushed f.q f.r false f.tile).live q R) = _
  rw [if_neg (by omega), Mxu.live_pushed]

theorem Feed.goes_reg (l : List (Feed F)) : ∀ (m : Mxu F), (m.reg = fun _ _ => none) → (l.foldl Feed.go m).reg = fun _ _ => none := by
  induction l with
  | nil => intro m h; exact h
  | cons f l ih => intro m h; exact ih _ (f.go_reg m h)

theorem Feed.goes_live (l : List (Feed F)) (q : Fin 2) (R : Fin 1024) (hR : 48 ≤ R.val) (hl : ∀ f ∈ l, f.A ≤ 8) :
    ∀ (m : Mxu F), (l.foldl Feed.go m).live q R = m.live q R := by
  induction l with
  | nil => intro m; rfl
  | cons f l ih =>
    intro m
    have h1 := hl f (List.mem_cons_self ..)
    exact (ih (fun g hg => hl g (List.mem_cons_of_mem _ hg)) _).trans (f.go_live m q R (by omega))

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The rows of x that the products of views 0 and 1 take: group g of the step, half h. -/
def xaOf (X15 : BufTy.Contents (Elt F) arg15.view.ty) (t3 : Fin k0_t3_loop.trips) (g h : BitVec 32) (hh : ∀ a, (k0_off75 t3 g h) a + S16x256.size a ≤ S16x10240.size a) : FVec F S16x256 .bf16 :=
  View.readAt (Elt F) arg15.view (Rect.unit (s := S16x10240) (k0_off75 t3 g h) S16x256.size hh).toLoadRect X15

/-- The rows of x that the products of view 2 take. -/
def xcOf (X16 : BufTy.Contents (Elt F) arg16.view.ty) (t3 : Fin k0_t3_loop.trips) (g : BitVec 32) (hh : ∀ a, (k0_off78 t3 g) a + S16x256.size a ≤ S16x5120.size a) : FVec F S16x256 .bf16 :=
  View.readAt (Elt F) arg16.view (Rect.unit (s := S16x5120) (k0_off78 t3 g) S16x256.size hh).toLoadRect X16

/-- The forty products of a step. -/
def feeds (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) : List (Feed F) := [
    ⟨0, 0, 0, xaOf arg15 X15 t3 0#32 0#32 (k0_off75_inb t3 0 0),
      k0_pay82 (trip.sl.r arg14 X14 v10075 t2 t3) (trip.sl.r_7 arg14 X14 v10075 t2 t3) (trip.sl.r_15 arg1 arg10 X1 t2 t3), fits_0_16⟩,
    ⟨1, 0, 0, xaOf arg15 X15 t3 0#32 0#32 (k0_off75_inb t3 0 0),
      k0_pay83 (trip.sl.r_4 arg14 X14 v10075 t2 t3) (trip.sl.r_11 arg14 X14 v10075 t2 t3) (trip.sl.v10766_r0 arg5 arg10 X5 t2 t3), fits_0_16⟩,
    ⟨0, 1, 4, xaOf arg15 X15 t3 0#32 0#32 (k0_off75_inb t3 0 0),
      k0_pay84 (trip.sl.r_1 arg14 X14 v10075 t2 t3) (trip.sl.r_8 arg14 X14 v10075 t2 t3) (trip.sl.v10755_r0 arg1 arg10 X1 t2 t3), fits_4_16⟩,
    ⟨1, 1, 4, xaOf arg15 X15 t3 0#32 0#32 (k0_off75_inb t3 0 0),
      k0_pay86 (trip.sl.r_12 arg14 X14 v10075 t2 t3) (trip.sl.r_19 arg5 arg10 arg14 X5 X14 v10075 t2 t3), fits_4_16⟩,
    ⟨0, 0, 0, xaOf arg15 X15 t3 0#32 64#32 (k0_off75_inb t3 0 1),
      k0_pay87 (trip.sl.r arg14 X14 v10075 t2 t3) (trip.sl.r_7 arg14 X14 v10075 t2 t3) (trip.sl.v10808_r0 arg1 arg10 X1 t2 t3), fits_0_16⟩,
    ⟨1, 0, 0, xaOf arg15 X15 t3 0#32 64#32 (k0_off75_inb t3 0 1),
      k0_pay88 (trip.sl.r_4 arg14 X14 v10075 t2 t3) (trip.sl.r_11 arg14 X14 v10075 t2 t3) (trip.sl.v10819_r0 arg5 arg10 X5 t2 t3), fits_0_16⟩,
    ⟨0, 1, 4, xaOf arg15 X15 t3 0#32 64#32 (k0_off75_inb t3 0 1),
      k0_pay90 (trip.sl.r_1 arg14 X14 v10075 t2 t3) (trip.sl.r_8 arg14 X14 v10075 t2 t3) (trip.sl.r_24 arg1 arg10 X1 t2 t3), fits_4_16⟩,
    ⟨1, 1, 4, xaOf arg15 X15 t3 0#32 64#32 (k0_off75_inb t3 0 1),
      k0_pay91 (trip.sl.r_5 arg14 X14 v10075 t2 t3) (trip.sl.r_12 arg14 X14 v10075 t2 t3) (trip.sl.v10819_r0 arg5 arg10 X5 t2 t3), fits_4_16⟩,
    ⟨0, 0, 8, xcOf arg16 X16 t3 0#32 (k0_off78_inb t3 0),
      k0_pay92 (trip.sl.r_3 arg14 X14 t2 t3) (trip.sl.r_9 arg14 X14 t2 t3) (trip.sl.v10859_r0 arg1 arg10 X1 t2 t3), fits_8_16⟩,
    ⟨1, 0, 8, xcOf arg16 X16 t3 0#32 (k0_off78_inb t3 0),
      k0_pay94 (trip.sl.r_6 arg14 X14 t2 t3) (trip.sl.r_13 arg14 X14 t2 t3) (trip.sl.r_29 arg5 arg10 X5 t2 t3), fits_8_16⟩,
    ⟨0, 0, 0, xaOf arg15 X15 t3 1#32 0#32 (k0_off75_inb t3 1 0),
      k0_pay109 (trip.sl.r_31 arg14 X14 v10075 t2 t3) (trip.sl.r_38 arg14 X14 v10075 t2 t3) (trip.sl.r_46 arg1 arg10 X1 t2 t3), fits_0_16⟩,
    ⟨1, 0, 0, xaOf arg15 X15 t3 1#32 0#32 (k0_off75_inb t3 1 0),
      k0_pay110 (trip.sl.r_35 arg14 X14 v10075 t2 t3) (trip.sl.r_42 arg14 X14 v10075 t2 t3) (trip.sl.v11056_r0 arg5 arg10 X5 t2 t3), fits_0_16⟩,
    ⟨0, 1, 4, xaOf arg15 X15 t3 1#32 0#32 (k0_off75_inb t3 1 0),
      k0_pay111 (trip.sl.r_32 arg14 X14 v10075 t2 t3) (trip.sl.r_39 arg14 X14 v10075 t2 t3) (trip.sl.v11045_r0 arg1 arg10 X1 t2 t3), fits_4_16⟩,
    ⟨1, 1, 4, xaOf arg15 X15 t3 1#32 0#32 (k0_off75_inb t3 1 0),
      k0_pay113 (trip.sl.r_36 arg14 X14 v10075 t2 t3) (trip.sl.r_43 arg14 X14 v10075 t2 t3) (trip.sl.r_50 arg5 arg10 X5 t2 t3), fits_4_16⟩,
    ⟨0, 0, 0, xaOf arg15 X15 t3 1#32 64#32 (k0_off75_inb t3 1 1),
      k0_pay114 (trip.sl.r_31 arg14 X14 v10075 t2 t3) (trip.sl.r_38 arg14 X14 v10075 t2 t3) (trip.sl.v11098_r0 arg1 arg10 X1 t2 t3), fits_0_16⟩,
    ⟨1, 0, 0, xaOf arg15 X15 t3 1#32 64#32 (k0_off75_inb t3 1 1),
      k0_pay115 (trip.sl.r_35 arg14 X14 v10075 t2 t3) (trip.sl.r_42 arg14 X14 v10075 t2 t3) (trip.sl.v11109_r0 arg5 arg10 X5 t2 t3), fits_0_16⟩,
    ⟨0, 1, 4, xaOf arg15 X15 t3 1#32 64#32 (k0_off75_inb t3 1 1),
      k0_pay117 (trip.sl.r_32 arg14 X14 v10075 t2 t3) (trip.sl.r_39 arg14 X14 v10075 t2 t3) (trip.sl.r_55 arg1 arg10 X1 t2 t3) 119304248#32, fits_4_16⟩,
    ⟨1, 1, 4, xaOf arg15 X15 t3 1#32 64#32 (k0_off75_inb t3 1 1),
      k0_pay118 (trip.sl.r_36 arg14 X14 v10075 t2 t3) (trip.sl.r_43 arg14 X14 v10075 t2 t3) (trip.sl.v11109_r0 arg5 arg10 X5 t2 t3), fits_4_16⟩,
    ⟨0, 0, 8, xcOf arg16 X16 t3 1#32 (k0_off78_inb t3 1),
      k0_pay119 (trip.sl.r_34 arg14 X14 t2 t3) (trip.sl.r_40 arg14 X14 t2 t3) (trip.sl.v11149_r0 arg1 arg10 X1 t2 t3), fits_8_16⟩,
    ⟨1, 0, 8, xcOf arg16 X16 t3 1#32 (k0_off78_inb t3 1),
      k0_pay122 (trip.sl.r_37 arg14 X14 t2 t3) (trip.sl.r_44 arg14 X14 t2 t3) (trip.sl.r_60 arg5 arg10 X5 t2 t3) k0_pay121, fits_8_16⟩,
    ⟨0, 0, 0, xaOf arg15 X15 t3 2#32 0#32 (k0_off75_inb t3 2 0),
      k0_pay136 (trip.sl.r_62 arg14 X14 v10075 t2 t3) (trip.sl.r_69 arg14 X14 v10075 t2 t3) (trip.sl.v11335_r0 arg1 arg10 X1 t2 t3), fits_0_16⟩,
    ⟨1, 0, 0, xaOf arg15 X15 t3 2#32 0#32 (k0_off75_inb t3 2 0),
      k0_pay137 (trip.sl.r_65 arg14 X14 v10075 t2 t3) (trip.sl.r_73 arg14 X14 v10075 t2 t3) (trip.sl.v11346_r0 arg5 arg10 X5 t2 t3), fits_0_16⟩,
    ⟨0, 1, 4, xaOf arg15 X15 t3 2#32 0#32 (k0_off75_inb t3 2 0),
      k0_pay138 (trip.sl.r_63 arg14 X14 v10075 t2 t3) (trip.sl.r_70 arg14 X14 v10075 t2 t3) (trip.sl.v11335_r0 arg1 arg10 X1 t2 t3), fits_4_16⟩,
    ⟨1, 1, 4, xaOf arg15 X15 t3 2#32 0#32 (k0_off75_inb t3 2 0),
      k0_pay140 (trip.sl.r_66 arg14 X14 v10075 t2 t3) (trip.sl.r_74 arg14 X14 v10075 t2 t3) (trip.sl.r_80 arg5 arg10 X5 t2 t3), fits_4_16⟩,
    ⟨0, 0, 0, xaOf arg15 X15 t3 2#32 64#32 (k0_off75_inb t3 2 1),
      k0_pay141 (trip.sl.r_62 arg14 X14 v10075 t2 t3) (trip.sl.r_69 arg14 X14 v10075 t2 t3) (trip.sl.v11388_r0 arg1 arg10 X1 t2 t3), fits_0_16⟩,
    ⟨1, 0, 0, xaOf arg15 X15 t3 2#32 64#32 (k0_off75_inb t3 2 1),
      k0_pay142 (trip.sl.r_65 arg14 X14 v10075 t2 t3) (trip.sl.r_73 arg14 X14 v10075 t2 t3) (trip.sl.v11399_r0 arg5 arg10 X5 t2 t3), fits_0_16⟩,
    ⟨0, 1, 4, xaOf arg15 X15 t3 2#32 64#32 (k0_off75_inb t3 2 1),
      k0_pay144 (trip.sl.r_63 arg14 X14 v10075 t2 t3) (trip.sl.r_70 arg14 X14 v10075 t2 t3) (trip.sl.r_85 arg1 arg10 X1 t2 t3) 3#32, fits_4_16⟩,
    ⟨1, 1, 4, xaOf arg15 X15 t3 2#32 64#32 (k0_off75_inb t3 2 1),
      k0_pay145 (trip.sl.r_66 arg14 X14 v10075 t2 t3) (trip.sl.r_74 arg14 X14 v10075 t2 t3) (trip.sl.v11399_r0 arg5 arg10 X5 t2 t3), fits_4_16⟩,
    ⟨0, 0, 8, xcOf arg16 X16 t3 2#32 (k0_off78_inb t3 2),
      k0_pay146 (trip.sl.r_64 arg14 X14 t2 t3) (trip.sl.r_71 arg14 X14 t2 t3) (trip.sl.v11439_r0 arg1 arg10 X1 t2 t3), fits_8_16⟩,
    ⟨1, 0, 8, xcOf arg16 X16 t3 2#32 (k0_off78_inb t3 2),
      k0_pay148 (trip.sl.r_68 arg14 X14 t2 t3) (trip.sl.r_75 arg14 X14 t2 t3) (trip.sl.r_90 arg5 arg10 X5 t2 t3), fits_8_16⟩,
    ⟨0, 0, 0, xaOf arg15 X15 t3 3#32 0#32 (k0_off75_inb t3 3 0),
      k0_pay162 (trip.sl.r_92 arg14 X14 v10075 t2 t3) (trip.sl.r_99 arg14 X14 v10075 t2 t3) (trip.sl.v11625_r0 arg1 arg10 X1 t2 t3), fits_0_16⟩,
    ⟨1, 0, 0, xaOf arg15 X15 t3 3#32 0#32 (k0_off75_inb t3 3 0),
      k0_pay163 (trip.sl.r_95 arg14 X14 v10075 t2 t3) (trip.sl.r_102 arg14 X14 v10075 t2 t3) (trip.sl.v11636_r0 arg5 arg10 X5 t2 t3), fits_0_16⟩,
    ⟨0, 1, 4, xaOf arg15 X15 t3 3#32 0#32 (k0_off75_inb t3 3 0),
      k0_pay164 (trip.sl.r_93 arg14 X14 v10075 t2 t3) (trip.sl.r_100 arg14 X14 v10075 t2 t3) (trip.sl.v11625_r0 arg1 arg10 X1 t2 t3), fits_4_16⟩,
    ⟨1, 1, 4, xaOf arg15 X15 t3 3#32 0#32 (k0_off75_inb t3 3 0),
      k0_pay166 (trip.sl.r_96 arg14 X14 v10075 t2 t3) (trip.sl.r_103 arg14 X14 v10075 t2 t3) (trip.sl.r_109 arg5 arg10 X5 t2 t3), fits_4_16⟩,
    ⟨0, 0, 0, xaOf arg15 X15 t3 3#32 64#32 (k0_off75_inb t3 3 1),
      k0_pay167 (trip.sl.r_92 arg14 X14 v10075 t2 t3) (trip.sl.r_99 arg14 X14 v10075 t2 t3) (trip.sl.v11678_r0 arg1 arg10 X1 t2 t3), fits_0_16⟩,
    ⟨1, 0, 0, xaOf arg15 X15 t3 3#32 64#32 (k0_off75_inb t3 3 1),
      k0_pay168 (trip.sl.r_95 arg14 X14 v10075 t2 t3) (trip.sl.r_102 arg14 X14 v10075 t2 t3) (trip.sl.v11689_r0 arg5 arg10 X5 t2 t3), fits_0_16⟩,
    ⟨0, 1, 4, xaOf arg15 X15 t3 3#32 64#32 (k0_off75_inb t3 3 1),
      k0_pay169 (trip.sl.r_93 arg14 X14 v10075 t2 t3) (trip.sl.r_100 arg14 X14 v10075 t2 t3) (trip.sl.v11678_r0 arg1 arg10 X1 t2 t3), fits_4_16⟩,
    ⟨1, 1, 4, xaOf arg15 X15 t3 3#32 64#32 (k0_off75_inb t3 3 1),
      k0_pay170 (trip.sl.r_96 arg14 X14 v10075 t2 t3) (trip.sl.r_103 arg14 X14 v10075 t2 t3) (trip.sl.v11689_r0 arg5 arg10 X5 t2 t3), fits_4_16⟩,
    ⟨0, 0, 8, xcOf arg16 X16 t3 3#32 (k0_off78_inb t3 3),
      k0_pay171 (trip.sl.r_94 arg14 X14 t2 t3) (trip.sl.r_101 arg14 X14 t2 t3) (trip.sl.v11729_r0 arg1 arg10 X1 t2 t3), fits_8_16⟩,
    ⟨1, 0, 8, xcOf arg16 X16 t3 3#32 (k0_off78_inb t3 3),
      k0_pay172 (trip.sl.r_98 arg14 X14 t2 t3) (trip.sl.r_104 arg14 X14 t2 t3) (trip.sl.v11741_r0 arg5 arg10 X5 t2 t3), fits_8_16⟩]

/-- The matrix units after trip t3 of column block t2. -/
def mxAfter (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) (m : Mxu F) : Mxu F :=
  (trip (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 m.gmr m.acc m.live m.clean).1

theorem mxAfter_eq (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) (m : Mxu F) :
    mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 m
      = (feeds arg1 arg5 arg10 arg14 arg15 arg16 X1 X5 X14 X15 X16 v10075 t2 t3).foldl Feed.go ⟨fun _ _ => none, m.gmr, m.acc, m.live, m.clean⟩ := by
  unfold mxAfter trip
  simp only [trip.sl.k0_mxu13, trip.sl.k0_mxu15, trip.sl.r_16, trip.sl.r_17, trip.sl.k0_mxu17, trip.sl.r_18, trip.sl.k0_mxu19, trip.sl.r_20, trip.sl.r_21, trip.sl.k0_mxu21, trip.sl.r_22, trip.sl.k0_mxu23, trip.sl.r_25, trip.sl.k0_mxu25, trip.sl.r_26, trip.sl.r_27, trip.sl.k0_mxu27, trip.sl.k0_mxu29, trip.sl.r_30, trip.sl.k0_mxu31, trip.sl.k0_mxu33, trip.sl.k0_mxu35, trip.sl.k0_mxu37, trip.sl.k0_mxu39, trip.sl.k0_mxu41, trip.sl.k0_mxu43, trip.sl.k0_mxu45, trip.sl.r_47, trip.sl.k0_mxu47, trip.sl.r_48, trip.sl.r_49, trip.sl.k0_mxu49, trip.sl.r_51, trip.sl.k0_mxu51, trip.sl.r_52, trip.sl.r_53, trip.sl.k0_mxu53, trip.sl.k0_mxu55, trip.sl.r_56, trip.sl.r_57, trip.sl.k0_mxu57, trip.sl.r_58, trip.sl.k0_mxu59, trip.sl.r_61, trip.sl.k0_mxu61, trip.sl.k0_mxu63, trip.sl.k0_mxu65, trip.sl.k0_mxu67, trip.sl.k0_mxu69, trip.sl.k0_mxu71, trip.sl.k0_mxu73, trip.sl.k0_mxu75, trip.sl.r_77, trip.sl.k0_mxu77, trip.sl.r_78, trip.sl.r_79, trip.sl.k0_mxu79, trip.sl.r_81, trip.sl.k0_mxu81, trip.sl.r_82, trip.sl.r_83, trip.sl.k0_mxu83, trip.sl.k0_mxu85, trip.sl.r_86, trip.sl.r_87, trip.sl.k0_mxu87, trip.sl.r_88, trip.sl.k0_mxu89, trip.sl.r_91, trip.sl.k0_mxu91, trip.sl.r_106, trip.sl.r_107, trip.sl.r_108, trip.sl.r_110, trip.sl.r_111, trip.sl.r_112, trip.sl.r_114, trip.sl.r_115, trip.sl.r_116, trip.sl.r_118, feeds, Feed.go, List.foldl_cons, List.foldl_nil]
  rfl

theorem mxAfter_reg (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) (m : Mxu F) :
    (mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 m).reg = fun _ _ => none := by
  rw [mxAfter_eq]; exact Feed.goes_reg _ _ rfl

theorem mxAfter_live (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) (m : Mxu F) (q : Fin 2) (R : Fin 1024) (hR : 48 ≤ R.val) :
    (mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 m).live q R = m.live q R := by
  rw [mxAfter_eq]
  refine Feed.goes_live _ q R hR ?_ _
  unfold feeds
  simp only [List.mem_cons, List.not_mem_nil, or_false, forall_eq_or_imp, forall_eq]
  omega

end Cert.Kernel

end
-- ==== Proof.Kernel.Ring.lean ====
/-
  The inner loop by its invariant: before trip k of column block t2 the copies of the steps before 5·t2 + k have landed,
  the next three are under way and the rest have not been started; the matrix units' state is the trips' before.
-/
module

public import proofs.«01_k».proof.Proof.Kernel.Feeds

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The windows of step s, for array w -/

theorem cell_inb (s : Fin 20) (w : Fin 2) : ∀ a, (![s.val, w.val] : Fin 2 → ℕ) a + S1x1.size a ≤ S20x2.size a := by revert s w; decide +kernel
theorem slot_inb (s : Fin 20) (w : Fin 2) : ∀ a, (![w.val, s.val / 5, 512 * (s.val % 5), 0] : Fin 4 → ℕ) a + S1x1x512x256.size a ≤ S2x4x2560x256.size a := by revert s w; decide +kernel
theorem src_inb (s : Fin 20) : ∀ a, (![512 * (s.val % 5), 256 * (s.val / 5)] : Fin 2 → ℕ) a + S512x256.size a ≤ S2560x1024.size a := by revert s; decide +kernel

section Families

variable (arg1 : Memref sig .tc .hbm S2560x1024 .i32) (arg5 : Memref sig .tc .hbm S2560x1024 .i32) (arg10 : Memref sig .tc .vmem S2x4x2560x256 .i32) (arg20 : DmaSems sig S20x2)
  (c : Dev nD) (X1 : BufTy.Contents (Elt F) arg1.view.ty) (X5 : BufTy.Contents (Elt F) arg5.view.ty) (X10 : BufTy.Contents (Elt F) arg10.view.ty)

/-- Both copies of a step not started. -/
def idle (s : Fin 20) : sProp 𝕄 :=
  iprop((cellAt arg20 c _ (cell_inb s 0) ∗ slotAt arg10 c X10 _ (slot_inb s 0) ∗ srcAt c arg1 X1 _ (src_inb s))
    ∗ (cellAt arg20 c _ (cell_inb s 1) ∗ slotAt arg10 c X10 _ (slot_inb s 1) ∗ srcAt c arg5 X5 _ (src_inb s)))

/-- Both copies of a step under way. -/
def flying (s : Fin 20) : sProp 𝕄 :=
  iprop(flightAt arg10 arg20 c arg1 X1 X10 _ (cell_inb s 0) _ (slot_inb s 0) _ (src_inb s)
    ∗ flightAt arg10 arg20 c arg5 X5 X10 _ (cell_inb s 1) _ (slot_inb s 1) _ (src_inb s))

/-- Both copies of a step landed. -/
def landed (s : Fin 20) : sProp 𝕄 :=
  iprop((cellAt arg20 c _ (cell_inb s 0) ∗ landedAt arg10 c arg1 X1 _ (slot_inb s 0) _ (src_inb s) ∗ srcAt c arg1 X1 _ (src_inb s))
    ∗ (cellAt arg20 c _ (cell_inb s 1) ∗ landedAt arg10 c arg5 X5 _ (slot_inb s 1) _ (src_inb s) ∗ srcAt c arg5 X5 _ (src_inb s)))

/-- All copies, n steps done. -/
def ring (n : ℕ) : sProp 𝕄 :=
  iprop(bigSep (Ring.rangeSet 20 (n + 3) 20) (idle arg1 arg5 arg10 arg20 c X1 X5 X10)
    ∗ bigSep (Ring.rangeSet 20 n (n + 3)) (flying arg1 arg5 arg10 arg20 c X1 X5 X10)
    ∗ bigSep (Ring.rangeSet 20 0 n) (landed arg1 arg5 arg10 arg20 c X1 X5))

/-- What starting the copies three steps ahead takes. -/
def issueIn (n : ℕ) : sProp 𝕄 := if h : n + 3 < 20 then idle arg1 arg5 arg10 arg20 c X1 X5 X10 ⟨n + 3, h⟩ else iprop(emp)
/-- What it leaves. -/
def issueOut (n : ℕ) : sProp 𝕄 := if h : n + 3 < 20 then flying arg1 arg5 arg10 arg20 c X1 X5 X10 ⟨n + 3, h⟩ else iprop(emp)

/-- The copies but those of step n and three ahead. -/
def ringRest (n : ℕ) : sProp 𝕄 :=
  iprop(bigSep (Ring.rangeSet 20 (n + 4) 20) (idle arg1 arg5 arg10 arg20 c X1 X5 X10)
    ∗ bigSep (Ring.rangeSet 20 (n + 1) (n + 3)) (flying arg1 arg5 arg10 arg20 c X1 X5 X10)
    ∗ bigSep (Ring.rangeSet 20 0 n) (landed arg1 arg5 arg10 arg20 c X1 X5))

theorem ring_here (n : ℕ) (hn : n < 20) : ring arg1 arg5 arg10 arg20 c X1 X5 X10 n
    ⊢ iprop(issueIn arg1 arg5 arg10 arg20 c X1 X5 X10 n ∗ flying arg1 arg5 arg10 arg20 c X1 X5 X10 ⟨n, hn⟩ ∗ ringRest arg1 arg5 arg10 arg20 c X1 X5 X10 n) := by
  unfold ring ringRest issueIn
  rw [Ring.bigSep_rangeSet_head (lo := n) (hi := n + 3) (by omega) hn]
  by_cases h : n + 3 < 20
  · rw [dif_pos h, Ring.bigSep_rangeSet_head (lo := n + 3) (hi := 20) (by omega) h]
    iintro ⟨⟨H1, H2⟩, ⟨H3, H4⟩, H5⟩
    isplitl [H1]; · iexact H1
    isplitl [H3]; · iexact H3
    isplitl [H2]; · iexact H2
    isplitl [H4]; · iexact H4
    iexact H5
  · rw [dif_neg h, Ring.bigSep_rangeSet_empty (lo := n + 3) (hi := 20) (by omega), Ring.bigSep_rangeSet_empty (lo := n + 4) (hi := 20) (by omega)]
    iintro ⟨H1, ⟨H3, H4⟩, H5⟩
    isplitl []; · exact Entails.rfl
    isplitl [H3]; · iexact H3
    isplitl [H1]; · iexact H1
    isplitl [H4]; · iexact H4
    iexact H5

theorem ring_next (n : ℕ) (hn : n < 20) : iprop(issueOut arg1 arg5 arg10 arg20 c X1 X5 X10 n ∗ landed arg1 arg5 arg10 arg20 c X1 X5 ⟨n, hn⟩ ∗ ringRest arg1 arg5 arg10 arg20 c X1 X5 X10 n)
    ⊢ ring arg1 arg5 arg10 arg20 c X1 X5 X10 (n + 1) := by
  unfold ring ringRest issueOut
  rw [Ring.bigSep_rangeSet_last (lo := 0) (hi := n + 1) (by omega) (by omega)]
  by_cases h : n + 3 < 20
  · rw [dif_pos h, Ring.bigSep_rangeSet_last (lo := n + 1) (hi := n + 1 + 3) (by omega) (by omega)]
    iintro ⟨H1, H2, H3, H4, H5⟩
    isplitl [H3]; · iexact H3
    isplitl [H1 H4]
    · isplitl [H1]; · iexact H1
      iexact H4
    isplitl [H2]; · iexact H2
    iexact H5
  · rw [dif_neg h, show Ring.rangeSet 20 (n + 1) (n + 1 + 3) = Ring.rangeSet 20 (n + 1) (n + 3) from by
      ext b; rw [Ring.mem_rangeSet, Ring.mem_rangeSet]; have := b.isLt; omega]
    iintro ⟨H1, H2, H3, H4, H5⟩
    isplitl [H3]; · iexact H3
    isplitl [H4]; · iexact H4
    isplitl [H2]; · iexact H2
    iexact H5

end Families

/-! ## The trip's windows are those of its step -/

theorem flight_congr {arg : Memref sig .tc .hbm S2560x1024 .i32} {arg10 : Memref sig .tc .vmem S2x4x2560x256 .i32} {arg20 : DmaSems sig S20x2} {c : Dev nD}
    {X : BufTy.Contents (Elt F) arg.view.ty} {X10 : BufTy.Contents (Elt F) arg10.view.ty}
    {o₁ p₁ : Fin 2 → ℕ} {o₂ p₂ : Fin 4 → ℕ} {o₃ p₃ : Fin 2 → ℕ} (e₁ : o₁ = p₁) (e₂ : o₂ = p₂) (e₃ : o₃ = p₃) {h₁ h₂ h₃} {k₁ k₂ k₃} :
    flightAt (F := F) arg10 arg20 c arg X X10 o₁ h₁ o₂ h₂ o₃ h₃ = flightAt arg10 arg20 c arg X X10 p₁ k₁ p₂ k₂ p₃ k₃ := by
  subst e₁ e₂ e₃; rfl

theorem idle_congr {arg : Memref sig .tc .hbm S2560x1024 .i32} {arg10 : Memref sig .tc .vmem S2x4x2560x256 .i32} {arg20 : DmaSems sig S20x2} {c : Dev nD}
    {X : BufTy.Contents (Elt F) arg.view.ty} {X10 : BufTy.Contents (Elt F) arg10.view.ty}
    {o₁ p₁ : Fin 2 → ℕ} {o₂ p₂ : Fin 4 → ℕ} {o₃ p₃ : Fin 2 → ℕ} (e₁ : o₁ = p₁) (e₂ : o₂ = p₂) (e₃ : o₃ = p₃) {h₁ h₂ h₃} {k₁ k₂ k₃} :
    iprop(cellAt (F := F) arg20 c o₁ h₁ ∗ slotAt arg10 c X10 o₂ h₂ ∗ srcAt c arg X o₃ h₃) = iprop(cellAt arg20 c p₁ k₁ ∗ slotAt arg10 c X10 p₂ k₂ ∗ srcAt c arg X p₃ k₃) := by
  subst e₁ e₂ e₃; rfl

theorem landed_congr {arg : Memref sig .tc .hbm S2560x1024 .i32} {arg10 : Memref sig .tc .vmem S2x4x2560x256 .i32} {arg20 : DmaSems sig S20x2} {c : Dev nD}
    {X : BufTy.Contents (Elt F) arg.view.ty}
    {o₁ p₁ : Fin 2 → ℕ} {o₂ p₂ : Fin 4 → ℕ} {o₃ p₃ : Fin 2 → ℕ} (e₁ : o₁ = p₁) (e₂ : o₂ = p₂) (e₃ : o₃ = p₃) {h₁ h₂ h₃} {k₁ k₂ k₃} :
    iprop(cellAt (F := F) arg20 c o₁ h₁ ∗ landedAt arg10 c arg X o₂ h₂ o₃ h₃ ∗ srcAt c arg X o₃ h₃) = iprop(cellAt arg20 c p₁ k₁ ∗ landedAt arg10 c arg X p₂ k₂ p₃ k₃ ∗ srcAt c arg X p₃ k₃) := by
  subst e₁ e₂ e₃; rfl

theorem off51_eq' : ∀ (t2 : Fin k0_t2_loop.trips) (t3 : Fin k0_t3_loop.trips), k0_off51 t2 t3 = ![0, (5 * t2.val + t3.val) / 5, 512 * ((5 * t2.val + t3.val) % 5), 0] := by decide +kernel
theorem off54_eq' : ∀ (t2 : Fin k0_t2_loop.trips) (t3 : Fin k0_t3_loop.trips), k0_off54 t2 t3 = ![1, (5 * t2.val + t3.val) / 5, 512 * ((5 * t2.val + t3.val) % 5), 0] := by decide +kernel
theorem off52_eq' : ∀ (t2 : Fin k0_t2_loop.trips) (t3 : Fin k0_t3_loop.trips), k0_off52 t2 t3 = ![512 * ((5 * t2.val + t3.val) % 5), 256 * ((5 * t2.val + t3.val) / 5)] := by decide +kernel
theorem off45_eq' : ∀ (t2 : Fin k0_t2_loop.trips) (t3 : Fin k0_t3_loop.trips), k0_off45 t2 t3 = ![5 * t2.val + t3.val + 3, 0] := by decide +kernel
theorem off48_eq' : ∀ (t2 : Fin k0_t2_loop.trips) (t3 : Fin k0_t3_loop.trips), k0_off48 t2 t3 = ![5 * t2.val + t3.val + 3, 1] := by decide +kernel
theorem off50_eq' : ∀ (t2 : Fin k0_t2_loop.trips) (t3 : Fin k0_t3_loop.trips), k0_off50 t2 t3 = ![5 * t2.val + t3.val, 0] := by decide +kernel
theorem off53_eq' : ∀ (t2 : Fin k0_t2_loop.trips) (t3 : Fin k0_t3_loop.trips), k0_off53 t2 t3 = ![5 * t2.val + t3.val, 1] := by decide +kernel

theorem step_lt (t2 : Fin k0_t2_loop.trips) (t3 : Fin k0_t3_loop.trips) : 5 * t2.val + t3.val < 20 := by revert t2 t3; decide +kernel

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The start of the copies of the step three ahead, whether there is one or not. -/
theorem issue (c : Dev nD) (X1 : BufTy.Contents (Elt F) arg1.view.ty) (X5 : BufTy.Contents (Elt F) arg5.view.ty) (X10 : BufTy.Contents (Elt F) arg10.view.ty)
    (t2 : Fin k0_t2_loop.trips) (t3 : Fin k0_t3_loop.trips) (a24 : BitVec 32) :
    issueIn arg1 arg5 arg10 arg20 c X1 X5 X10 (5 * t2.val + t3.val)
      ⊢ wp Idealize.ShloMosaic.frame (wpE (defs₀ (F := F)) Variants.none (c : Thread nD τ) none) Set.univ
          (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3)
          (fun _ => issueOut arg1 arg5 arg10 arg20 c X1 X5 X10 (5 * t2.val + t3.val)) := by
  by_cases h : k0_cond1 t2 t3 = 1#1
  · have h' := (cond1_iff t2 t3).mp h
    have e := issue_some (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 t2 t3 a24 h
    unfold issueIn issueOut
    rw [dif_pos h']
    unfold idle
    have w1 := off45_eq' t2 t3
    have w2 := off46_eq t2 t3 h
    have w3 := off47_eq t2 t3 h
    have w4 := off48_eq' t2 t3
    have w5 := off49_eq t2 t3 h
    have I1 : iprop(cellAt (F := F) arg20 c _ (cell_inb ⟨_, h'⟩ 0) ∗ slotAt arg10 c X10 _ (slot_inb ⟨_, h'⟩ 0) ∗ srcAt c arg1 X1 _ (src_inb ⟨_, h'⟩))
        = iprop(cellAt arg20 c _ (k0_off45_inb t2 t3 h) ∗ slotAt arg10 c X10 _ (k0_off46_inb t2 t3 h) ∗ srcAt c arg1 X1 _ (k0_off47_inb t2 t3 h)) := idle_congr w1.symm w2.symm w3.symm
    have I2 : iprop(cellAt (F := F) arg20 c _ (cell_inb ⟨_, h'⟩ 1) ∗ slotAt arg10 c X10 _ (slot_inb ⟨_, h'⟩ 1) ∗ srcAt c arg5 X5 _ (src_inb ⟨_, h'⟩))
        = iprop(cellAt arg20 c _ (k0_off48_inb t2 t3 h) ∗ slotAt arg10 c X10 _ (k0_off49_inb t2 t3 h) ∗ srcAt c arg5 X5 _ (k0_off47_inb t2 t3 h)) := idle_congr w4.symm w5.symm w3.symm
    have F1 : flightAt (F := F) arg10 arg20 c arg1 X1 X10 _ (cell_inb ⟨_, h'⟩ 0) _ (slot_inb ⟨_, h'⟩ 0) _ (src_inb ⟨_, h'⟩)
        = flightAt arg10 arg20 c arg1 X1 X10 _ (k0_off45_inb t2 t3 h) _ (k0_off46_inb t2 t3 h) _ (k0_off47_inb t2 t3 h) := flight_congr w1.symm w2.symm w3.symm
    have F2 : flightAt (F := F) arg10 arg20 c arg5 X5 X10 _ (cell_inb ⟨_, h'⟩ 1) _ (slot_inb ⟨_, h'⟩ 1) _ (src_inb ⟨_, h'⟩)
        = flightAt arg10 arg20 c arg5 X5 X10 _ (k0_off48_inb t2 t3 h) _ (k0_off49_inb t2 t3 h) _ (k0_off47_inb t2 t3 h) := flight_congr w4.symm w5.symm w3.symm
    rw [I1, I2]
    simp only [dif_pos h', flying]
    rw [F1, F2]
    exact e
  · have h' : ¬ 5 * t2.val + t3.val + 3 < 20 := fun q => h ((cond1_iff t2 t3).mpr q)
    have e := issue_none (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c t2 t3 a24 h (issueIn arg1 arg5 arg10 arg20 c X1 X5 X10 (5 * t2.val + t3.val))
    have e1 : issueOut (F := F) arg1 arg5 arg10 arg20 c X1 X5 X10 (5 * t2.val + t3.val) = issueIn arg1 arg5 arg10 arg20 c X1 X5 X10 (5 * t2.val + t3.val) := by
      unfold issueIn issueOut
      rw [dif_neg h', dif_neg h']
    rw [e1]
    exact e

end Cert.Kernel

end
-- ==== Proof.Kernel.Loop3.lean ====
/-
  The inner loop's invariant: before trip k of column block t2 the copies stand as the ring says, and the matrix units
  are as the trips before left them.
-/
module

public import proofs.«01_k».proof.Proof.Kernel.Ring

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The matrix units after k trips of column block t2. -/
def mx3 (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (m : Mxu F) : ℕ → Mxu F
  | 0 => m
  | k + 1 => if h : k < k0_t3_loop.trips then mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 ⟨k, h⟩ (mx3 c X1 X5 X14 X15 X16 v10075 t2 m k)
      else mx3 c X1 X5 X14 X15 X16 v10075 t2 m k

/-- What holds before trip k of the inner loop. -/
abbrev inv3 (c : Dev nD) (X1 : BufTy.Contents (Elt F) arg1.view.ty) (X5 : BufTy.Contents (Elt F) arg5.view.ty) (X10 : BufTy.Contents (Elt F) arg10.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (m8 : Mxu F) (k : ℕ) (acc : BitVec 32 × Mxu F) : sProp 𝕄 :=
  iprop(⌜acc.2.reg = fun _ _ => none⌝ ∗ ⌜acc = (0#32, mx3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 m8 k)⌝
    ∗ (∃ W, owes (c : Thread nD τ) 0 W) ∗ Held arg14 arg15 arg16 c X14 X15 X16 ∗ ring arg1 arg5 arg10 arg20 c X1 X5 X10 (5 * t2.val + k))

/-- A run framed by what it does not touch. -/
theorem wp_framed {α : Type} {c : Dev nD} {p : Prog (TpuEff nD τ sig (Elt F) Λ₀ .tc) α} {P R : sProp 𝕄} {Q Q' : α → sProp 𝕄}
    (T : P ⊢ wp Idealize.ShloMosaic.frame (wpE (defs₀ (F := F)) Variants.none (c : Thread nD τ) none) Set.univ p Q)
    (K : ∀ r, iprop(Q r ∗ R) ⊢ Q' r) :
    iprop(P ∗ R) ⊢ wp Idealize.ShloMosaic.frame (wpE (defs₀ (F := F)) Variants.none (c : Thread nD τ) none) Set.univ p Q' :=
  (sep_mono_l T).trans ((wp_frame_r _ _ _).trans (wp_mono _ _ _ K))

set_option maxHeartbeats 2000000 in
theorem step3 (c : Dev nD) (X1 : BufTy.Contents (Elt F) arg1.view.ty) (X5 : BufTy.Contents (Elt F) arg5.view.ty) (X10 : BufTy.Contents (Elt F) arg10.view.ty)
    (X14 : BufTy.Contents (Elt F) arg14.view.ty) (X15 : BufTy.Contents (Elt F) arg15.view.ty) (X16 : BufTy.Contents (Elt F) arg16.view.ty)
    (v10075 : IVec S8x256 1) (v10197_r0 : FVec F S8x256 .f32) (t2 : Fin k0_t2_loop.trips) (m8 : Mxu F) (a24 z o : BitVec 32)
    (t3 : Fin k0_t3_loop.trips) (acc : BitVec 32 × Mxu F) :
    inv3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 t2 m8 t3.val acc
      ⊢ wp Idealize.ShloMosaic.frame (wpE (defs₀ (F := F)) Variants.none (c : Thread nD τ) none) Set.univ
          (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v10075 v10197_r0 z o t2 m8 a24 t3 acc)
          (fun r => inv3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 t2 m8 (t3.val + 1) r) := by
  have w1 := off50_eq' t2 t3
  have w2 := off51_eq' t2 t3
  have w3 := off52_eq' t2 t3
  have w4 := off53_eq' t2 t3
  have w5 := off54_eq' t2 t3
  have hn := step_lt t2 t3
  have F1 : flightAt (F := F) arg10 arg20 c arg1 X1 X10 _ (cell_inb ⟨_, hn⟩ 0) _ (slot_inb ⟨_, hn⟩ 0) _ (src_inb ⟨_, hn⟩)
        = flightAt arg10 arg20 c arg1 X1 X10 _ (k0_off50_inb t2 t3) _ (k0_off51_inb t2 t3) _ (k0_off52_inb t2 t3) := flight_congr w1.symm w2.symm w3.symm
  have F2 : flightAt (F := F) arg10 arg20 c arg5 X5 X10 _ (cell_inb ⟨_, hn⟩ 1) _ (slot_inb ⟨_, hn⟩ 1) _ (src_inb ⟨_, hn⟩)
        = flightAt arg10 arg20 c arg5 X5 X10 _ (k0_off53_inb t2 t3) _ (k0_off54_inb t2 t3) _ (k0_off52_inb t2 t3) := flight_congr w4.symm w5.symm w3.symm
  have L1 : iprop(cellAt (F := F) arg20 c _ (cell_inb ⟨_, hn⟩ 0) ∗ landedAt arg10 c arg1 X1 _ (slot_inb ⟨_, hn⟩ 0) _ (src_inb ⟨_, hn⟩) ∗ srcAt c arg1 X1 _ (src_inb ⟨_, hn⟩))
        = iprop(cellAt arg20 c _ (k0_off50_inb t2 t3) ∗ landedAt arg10 c arg1 X1 _ (k0_off51_inb t2 t3) _ (k0_off52_inb t2 t3) ∗ srcAt c arg1 X1 _ (k0_off52_inb t2 t3)) := landed_congr w1.symm w2.symm w3.symm
  have L2 : iprop(cellAt (F := F) arg20 c _ (cell_inb ⟨_, hn⟩ 1) ∗ landedAt arg10 c arg5 X5 _ (slot_inb ⟨_, hn⟩ 1) _ (src_inb ⟨_, hn⟩) ∗ srcAt c arg5 X5 _ (src_inb ⟨_, hn⟩))
        = iprop(cellAt arg20 c _ (k0_off53_inb t2 t3) ∗ landedAt arg10 c arg5 X5 _ (k0_off54_inb t2 t3) _ (k0_off52_inb t2 t3) ∗ srcAt c arg5 X5 _ (k0_off52_inb t2 t3)) := landed_congr w4.symm w5.symm w3.symm
  obtain ⟨a, m⟩ := acc
  unfold inv3
  iintro ⟨%hr, %hm, Ho, HH, HR⟩
  icases Ho with ⟨%W, Ho⟩
  icases (ring_here arg1 arg5 arg10 arg20 c X1 X5 X10 _ hn) $$ HR with ⟨HI, HF, HR⟩
  unfold flying
  rw [F1, F2]
  icases HF with ⟨HF1, HF2⟩
  obtain ⟨reg, gmr, acc', live, clean⟩ := m
  replace hm := congrArg Prod.snd hm
  dsimp only at hr hm
  subst hr
  have T := (trip (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 gmr acc' live clean).2 W _ _ X10 v10197_r0 z o a24 a m8
    (issue (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 t2 t3 a24)
  have S := wp_framed (R := ringRest arg1 arg5 arg10 arg20 c X1 X5 X10 (5 * t2.val + t3.val)) (Q' := fun r => inv3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 t2 m8 (t3.val + 1) r) T (fun r => by
    unfold inv3
    iintro ⟨⟨%hres, Ho, HH, HI, HL1, HL2⟩, HR⟩
    have hres' : r.2 = mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 ⟨fun _ _ => none, gmr, acc', live, clean⟩ := by rw [hres]; rfl
    isplitr [Ho HH HI HL1 HL2 HR]
    · ipureintro
      rw [hres']
      exact mxAfter_reg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 _
    isplitr [Ho HH HI HL1 HL2 HR]
    · ipureintro
      rw [hres, mx3, dif_pos t3.isLt, ← hm]
      rfl
    isplitl [Ho]; · iexact Ho
    isplitl [HH]; · iexact HH
    rw [← Nat.add_assoc]
    iapply (ring_next arg1 arg5 arg10 arg20 c X1 X5 X10 _ hn)
    isplitl [HI]; · iexact HI
    isplitr [HR]
    · unfold landed
      rw [L1, L2]
      isplitl [HL1]; · iexact HL1
      iexact HL2
    iexact HR)
  unfold inv3 at S
  iapply S
  isplitr [HR]
  · isplitl [Ho]; · iexact Ho
    isplitl [HH]; · iexact HH
    isplitl [HI]; · iexact HI
    isplitl [HF1]; · iexact HF1
    iexact HF2
  iexact HR

end Cert.Kernel

end
-- ==== Proof.Kernel.Trip2.lean ====
/-
  One trip of the outer loop: the five trips of the inner loop, then the sums are taken off the matrix units, unscaled,
  joined with the residual products, and the ten pieces of the result are stored.
-/
module

public import proofs.«01_k».proof.Proof.Kernel.Loop3

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- What the outer loop holds besides the copies: what it reads. -/
abbrev Held2 (c : Dev nD) (X14 : BufTy.Contents (Elt F) arg14.view.ty) (X15 : BufTy.Contents (Elt F) arg15.view.ty) (X16 : BufTy.Contents (Elt F) arg16.view.ty) (X18 : BufTy.Contents (Elt F) arg18.view.ty) : sProp 𝕄 :=
  iprop(Held arg14 arg15 arg16 c X14 X15 X16 ∗ (arg18.view.loc (c : Thread nD τ) ↦[arg18.view.set]{fullShare} X18))

set_option maxHeartbeats 2000000 in
@[irreducible] def trip2 (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (X18 : BufTy.Contents (Elt F) arg18.view.ty) (X19 : BufTy.Contents (Elt F) arg19.view.ty)
    (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32)
    (t2 : Fin k0_t2_loop.trips)
    (gmr : Fin 2 → Option (Mxu.Staged F)) (acc : Fin 2 → Fin 1024 → Fin 256 → F .f32) (live : Fin 2 → Fin 1024 → Bool)
    (clean : ∀ q R C, live q R = false → acc q R C = FloatOps.ofBits .f32 0) :
    {p : Mxu F × BufTy.Contents (Elt F) arg19.view.ty // ∀ (W : Waits sig Unit) (X10 : BufTy.Contents (Elt F) arg10.view.ty) (a : BitVec 32),
      iprop(owes (c : Thread nD τ) 0 W ∗ Held2 arg14 arg15 arg16 arg18 c X14 X15 X16 X18 ∗ ring arg1 arg5 arg10 arg20 c X1 X5 X10 (5 * t2.val + 0)
          ∗ (arg19.view.loc (c : Thread nD τ) ↦[arg19.view.set]{fullShare} X19))
      ⊢ wp Idealize.ShloMosaic.frame (wpE (defs₀ (F := F)) Variants.none (c : Thread nD τ) none) Set.univ
          (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v10075 v10085_r0 v10197_r0 v10309_r0 v10337_r0 c2_i32_3215_r0 v10339_r0 v10346_r0 v10348_r0 c0_i32_3219_r0 t2 (a, ⟨fun _ _ => none, gmr, acc, live, clean⟩))
          (fun r => iprop(⌜r = (0#32, p.1)⌝ ∗ (∃ W, owes (c : Thread nD τ) 0 W) ∗ Held2 arg14 arg15 arg16 arg18 c X14 X15 X16 X18
            ∗ ring arg1 arg5 arg10 arg20 c X1 X5 X10 (5 * t2.val + 5) ∗ (arg19.view.loc (c : Thread nD τ) ↦[arg19.view.set]{fullShare} p.2))) } := by
  have h2 : t2.val < 4 := t2.isLt
  refine ⟨(?m, ?f), fun W X10 a => ?run⟩
  case run =>
    dsimp only
    iintro ⟨HO, ⟨⟨H14, H15, H16⟩, H18⟩, HR, H19⟩
    unfold k0_t2_body
    sl_exec
    iapply (Scf.wp_for_bind _ _ _ _ _ _ _ _ _ (inv3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 t2 ⟨fun _ _ => none, gmr, acc, live, clean⟩) (step3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 v10197_r0 t2 ⟨fun _ _ => none, gmr, acc, live, clean⟩ (Scf.iv 0#32 1#32 t2) 0#32 1#32)) $$ [HO H14 H15 H16 HR]
    · isplitr [HO H14 H15 H16 HR]
      · ipureintro; rfl
      isplitr [HO H14 H15 H16 HR]
      · ipureintro; rfl
      isplitl [HO]
      · iexists W; iexact HO
      isplitr [HR]
      · isplitl [H14]; · iexact H14
        isplitl [H15]; · iexact H15
        iexact H16
      iexact HR
    iintro %acc2 ⟨%hr, %hacc, ⟨%W', HO⟩, ⟨H14, H15, H16⟩, HR⟩
    subst hacc
    sl_exec
    sl_step
    sl_close

end Cert.Kernel

end
-- ==== Proof.Kernel.Outer.lean ====
/-
  The outer loop by its invariant: the matrix units and the result's rows as the trips before left them.
-/
module

public import proofs.«01_k».proof.Proof.Kernel.Trip2

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

theorem mx3_reg (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (t2 : Fin k0_t2_loop.trips) (m : Mxu F) (h : m.reg = fun _ _ => none) :
    ∀ k, (mx3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 m k).reg = fun _ _ => none
  | 0 => h
  | k + 1 => by
    unfold mx3
    split
    · exact mxAfter_reg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 _ _
    · exact mx3_reg c X1 X5 X14 X15 X16 X18 v10075 t2 m h k

theorem mx3_live (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (t2 : Fin k0_t2_loop.trips) (m : Mxu F) (q : Fin 2) (R : Fin 1024) (hR : 48 ≤ R.val) :
    ∀ k, (mx3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 m k).live q R = m.live q R
  | 0 => rfl
  | k + 1 => by
    unfold mx3
    split
    · exact (mxAfter_live (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 _ _ q R hR).trans (mx3_live c X1 X5 X14 X15 X16 X18 v10075 t2 m q R hR k)
    · exact mx3_live c X1 X5 X14 X15 X16 X18 v10075 t2 m q R hR k

/-- Rows 0 to 47 of both units taken off. -/
def popAll (m : Mxu F) : Mxu F :=
  (((((m.pop 0 0 16 fits_0_16).pop 1 0 16 fits_0_16).pop 0 4 16 fits_4_16).pop 1 4 16 fits_4_16).pop 0 8 16 fits_8_16).pop 1 8 16 fits_8_16

theorem popAll_reg (m : Mxu F) : (popAll m).reg = m.reg := rfl

theorem popAll_live (m : Mxu F) (h : ∀ q R, 48 ≤ R.val → m.live q R = false) (q : Fin 2) (R : Fin 1024) : (popAll m).live q R = false := by
  unfold popAll Mxu.pop
  dsimp only
  by_cases hR : 48 ≤ R.val
  · rw [h q R hR]; simp
  · have hq : q = 0 ∨ q = 1 := by revert q; decide
    rcases hq with hq | hq <;> subst hq <;> simp <;> omega

theorem trip2_mx (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (X19 : BufTy.Contents (Elt F) arg19.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (t2 : Fin k0_t2_loop.trips)
    (gmr : Fin 2 → Option (Mxu.Staged F)) (acc : Fin 2 → Fin 1024 → Fin 256 → F .f32) (live : Fin 2 → Fin 1024 → Bool)
    (clean : ∀ q R C, live q R = false → acc q R C = FloatOps.ofBits .f32 0) :
    (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 X19 v10075 v10085_r0 v10197_r0 v10309_r0 v10337_r0 c2_i32_3215_r0 v10339_r0 v10346_r0 v10348_r0 c0_i32_3219_r0 t2 gmr acc live clean).1.1
      = popAll (mx3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 ⟨fun _ _ => none, gmr, acc, live, clean⟩ k0_t3_loop.trips) := by
  unfold trip2
  rfl

/-- The matrix units and the result's rows after k trips. -/
def st2 (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty) : ℕ → Mxu F × BufTy.Contents (Elt F) arg19.view.ty
  | 0 => (m0, X19)
  | k + 1 => if h : k < k0_t2_loop.trips then
        (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 (st2 c X1 X5 X14 X15 X16 X18 v10075 v10085_r0 v10197_r0 v10309_r0 v10337_r0 c2_i32_3215_r0 v10339_r0 v10346_r0 v10348_r0 c0_i32_3219_r0 m0 X19 k).2 v10075 v10085_r0 v10197_r0 v10309_r0 v10337_r0 c2_i32_3215_r0 v10339_r0 v10346_r0 v10348_r0 c0_i32_3219_r0 ⟨k, h⟩ (st2 c X1 X5 X14 X15 X16 X18 v10075 v10085_r0 v10197_r0 v10309_r0 v10337_r0 c2_i32_3215_r0 v10339_r0 v10346_r0 v10348_r0 c0_i32_3219_r0 m0 X19 k).1.gmr (st2 c X1 X5 X14 X15 X16 X18 v10075 v10085_r0 v10197_r0 v10309_r0 v10337_r0 c2_i32_3215_r0 v10339_r0 v10346_r0 v10348_r0 c0_i32_3219_r0 m0 X19 k).1.acc (st2 c X1 X5 X14 X15 X16 X18 v10075 v10085_r0 v10197_r0 v10309_r0 v10337_r0 c2_i32_3215_r0 v10339_r0 v10346_r0 v10348_r0 c0_i32_3219_r0 m0 X19 k).1.live (st2 c X1 X5 X14 X15 X16 X18 v10075 v10085_r0 v10197_r0 v10309_r0 v10337_r0 c2_i32_3215_r0 v10339_r0 v10346_r0 v10348_r0 c0_i32_3219_r0 m0 X19 k).1.clean).1
      else st2 c X1 X5 X14 X15 X16 X18 v10075 v10085_r0 v10197_r0 v10309_r0 v10337_r0 c2_i32_3215_r0 v10339_r0 v10346_r0 v10348_r0 c0_i32_3219_r0 m0 X19 k

theorem st2_reg (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty) (h : m0.reg = fun _ _ => none) :
    ∀ k, (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 k).1.reg = fun _ _ => none
  | 0 => h
  | k + 1 => by
    unfold st2
    split
    · rw [trip2_mx, popAll_reg]; exact mx3_reg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 _ _ rfl _
    · exact st2_reg c X1 X5 X14 X15 X16 X18 v10075 v10085_r0 v10197_r0 v10309_r0 v10337_r0 c2_i32_3215_r0 v10339_r0 v10346_r0 v10348_r0 c0_i32_3219_r0 m0 X19 h k

theorem st2_live (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty) (h : ∀ q R, m0.live q R = false) :
    ∀ k q R, (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 k).1.live q R = false
  | 0 => h
  | k + 1 => by
    intro q R
    unfold st2
    split
    · rw [trip2_mx]
      refine popAll_live _ (fun q R hR => ?_) q R
      rw [mx3_live (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 _ _ q R hR]
      exact st2_live c X1 X5 X14 X15 X16 X18 v10075 v10085_r0 v10197_r0 v10309_r0 v10337_r0 c2_i32_3215_r0 v10339_r0 v10346_r0 v10348_r0 c0_i32_3219_r0 m0 X19 h k q R
    · exact st2_live c X1 X5 X14 X15 X16 X18 v10075 v10085_r0 v10197_r0 v10309_r0 v10337_r0 c2_i32_3215_r0 v10339_r0 v10346_r0 v10348_r0 c0_i32_3219_r0 m0 X19 h k q R

/-- What holds before trip k of the outer loop. -/
abbrev inv2 (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (X10 : BufTy.Contents (Elt F) arg10.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty) (k : ℕ) (acc : BitVec 32 × Mxu F) : sProp 𝕄 :=
  iprop(⌜acc.2.reg = fun _ _ => none⌝ ∗ ⌜acc = (0#32, (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 k).1)⌝
    ∗ (∃ W, owes (c : Thread nD τ) 0 W) ∗ Held2 arg14 arg15 arg16 arg18 c X14 X15 X16 X18 ∗ ring arg1 arg5 arg10 arg20 c X1 X5 X10 (5 * k)
    ∗ (arg19.view.loc (c : Thread nD τ) ↦[arg19.view.set]{fullShare} (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 k).2))

set_option maxHeartbeats 2000000 in
theorem step2 (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (X10 : BufTy.Contents (Elt F) arg10.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty)
    (t2 : Fin k0_t2_loop.trips) (acc : BitVec 32 × Mxu F) :
    inv2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 X10 v10075 v10085_r0 v10197_r0 v10309_r0 v10337_r0 c2_i32_3215_r0 v10339_r0 v10346_r0 v10348_r0 c0_i32_3219_r0 m0 X19 t2.val acc
      ⊢ wp Idealize.ShloMosaic.frame (wpE (defs₀ (F := F)) Variants.none (c : Thread nD τ) none) Set.univ
          (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v10075 v10085_r0 v10197_r0 v10309_r0 v10337_r0 c2_i32_3215_r0 v10339_r0 v10346_r0 v10348_r0 c0_i32_3219_r0 t2 acc)
          (fun r => inv2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 X10 v10075 v10085_r0 v10197_r0 v10309_r0 v10337_r0 c2_i32_3215_r0 v10339_r0 v10346_r0 v10348_r0 c0_i32_3219_r0 m0 X19 (t2.val + 1) r) := by
  obtain ⟨a, m⟩ := acc
  iintro ⟨%hr, %hm, Ho, HH, HR, H19⟩
  icases Ho with ⟨%W, Ho⟩
  replace hm := congrArg Prod.snd hm
  obtain ⟨reg, gmr, acc', live, clean⟩ := m
  dsimp only at hr hm
  subst hr
  have T := (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 t2.val).2 v10075 v10085_r0 v10197_r0 v10309_r0 v10337_r0 c2_i32_3215_r0 v10339_r0 v10346_r0 v10348_r0 c0_i32_3219_r0 t2 gmr acc' live clean).2 W X10 a
  have hnext' : ∀ m' : Mxu F, m' = (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 t2.val).1 → st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 (t2.val + 1)
      = (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 t2.val).2 v10075 v10085_r0 v10197_r0 v10309_r0 v10337_r0 c2_i32_3215_r0 v10339_r0 v10346_r0 v10348_r0 c0_i32_3219_r0 t2 m'.gmr m'.acc m'.live m'.clean).1 := by
    rintro _ rfl
    conv_lhs => unfold st2
    rw [dif_pos t2.isLt]
  have hnext := hnext' _ hm
  dsimp only at hnext
  have hreg : (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 t2.val).2 v10075 v10085_r0 v10197_r0 v10309_r0 v10337_r0 c2_i32_3215_r0 v10339_r0 v10346_r0 v10348_r0 c0_i32_3219_r0 t2 gmr acc' live clean).1.1.reg = fun _ _ => none := by
    rw [trip2_mx, popAll_reg]; exact mx3_reg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 _ _ rfl _
  have S := wp_framed (R := iprop(emp)) (Q' := fun r => inv2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 X10 v10075 v10085_r0 v10197_r0 v10309_r0 v10337_r0 c2_i32_3215_r0 v10339_r0 v10346_r0 v10348_r0 c0_i32_3219_r0 m0 X19 (t2.val + 1) r) T (fun r => by
    dsimp only [inv2]
    rw [hnext]
    iintro ⟨⟨%hres, Ho, HH, HR, H19⟩, HE⟩
    isplitr [Ho HH HR H19 HE]
    · ipureintro
      rw [hres]; exact hreg
    isplitr [Ho HH HR H19 HE]
    · ipureintro
      exact hres
    isplitl [Ho]; · iexact Ho
    isplitl [HH]; · iexact HH
    isplitl [HR]; · iexact HR
    iexact H19)
  iapply S
  isplitl [Ho HH HR H19]
  · isplitl [Ho]; · iexact Ho
    isplitl [HH]; · iexact HH
    isplitl [HR]; · iexact HR
    iexact H19
  exact Entails.rfl

end Cert.Kernel

end
-- ==== Proof.Kernel.Loop1.lean ====
/-
  The preparing loop: one trip stores two kinds of rows, the invariant collects them.
-/
module

public import proofs.«01_k».proof.Proof.Kernel.Outer

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- What one trip reads and writes. -/
abbrev Held1 (c : Dev nD) (X11 : BufTy.Contents (Elt F) arg11.view.ty) (X12 : BufTy.Contents (Elt F) arg12.view.ty) (X17 : BufTy.Contents (Elt F) arg17.view.ty) (f14 : BufTy.Contents (Elt F) arg14.view.ty) (f18 : BufTy.Contents (Elt F) arg18.view.ty) : sProp 𝕄 :=
  iprop((arg11.view.loc (c : Thread nD τ) ↦[arg11.view.set]{fullShare} X11) ∗ (arg12.view.loc (c : Thread nD τ) ↦[arg12.view.set]{fullShare} X12)
    ∗ (arg17.view.loc (c : Thread nD τ) ↦[arg17.view.set]{fullShare} X17) ∗ (arg14.view.loc (c : Thread nD τ) ↦[arg14.view.set]{fullShare} f14)
    ∗ (arg18.view.loc (c : Thread nD τ) ↦[arg18.view.set]{fullShare} f18))

set_option maxHeartbeats 8000000 in
/-- One trip at a symbolic number: the pieces it writes. -/
@[irreducible] def trip1 (c : Dev nD) (X11 : BufTy.Contents (Elt F) arg11.view.ty) (X12 : BufTy.Contents (Elt F) arg12.view.ty) (X17 : BufTy.Contents (Elt F) arg17.view.ty) (k : Fin k0_t1_loop.trips) :
    { p : List (View.Piece (Elt F) S2x4x10x48x256 .bf16) × List (View.Piece (Elt F) S2x4x20x256 .f32) //
      ∀ (f14 : BufTy.Contents (Elt F) arg14.view.ty) (f18 : BufTy.Contents (Elt F) arg18.view.ty),
      Held1 (F := F) arg11 arg12 arg14 arg17 arg18 c X11 X12 X17 f14 f18
      ⊢ wp Idealize.ShloMosaic.frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 k PUnit.unit)
          (fun _ => Held1 (F := F) arg11 arg12 arg14 arg17 arg18 c X11 X12 X17 (arg14.view.writes (Elt F) f14 p.1) (arg18.view.writes (Elt F) f18 p.2)) } := by
  have hk : k.val < 4 := Nat.lt_of_lt_of_le k.isLt k0_t1_abs.2.1
  refine ⟨(?_, ?_), fun f14 f18 => ?run⟩
  case run =>
    dsimp only
    unfold k0_t1_body
    iintro ⟨HR11, HR12, HR17, HW14, HW18⟩
    sl_exec
    sl_step
    sl_close

/-- The pieces of the trips before k, last first. -/
def pb1 (c : Dev nD) (X11 : BufTy.Contents (Elt F) arg11.view.ty) (X12 : BufTy.Contents (Elt F) arg12.view.ty) (X17 : BufTy.Contents (Elt F) arg17.view.ty) : ℕ → List (View.Piece (Elt F) S2x4x10x48x256 .bf16) × List (View.Piece (Elt F) S2x4x20x256 .f32)
  | 0 => ([], [])
  | k + 1 => if h : k < k0_t1_loop.trips then
      ((trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 ⟨k, h⟩).1.1 ++ (pb1 c X11 X12 X17 k).1, (trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 ⟨k, h⟩).1.2 ++ (pb1 c X11 X12 X17 k).2)
    else pb1 c X11 X12 X17 k

theorem pb1_succ (c : Dev nD) (X11 : BufTy.Contents (Elt F) arg11.view.ty) (X12 : BufTy.Contents (Elt F) arg12.view.ty) (X17 : BufTy.Contents (Elt F) arg17.view.ty) (k : Fin k0_t1_loop.trips) :
    pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 (k.val + 1)
      = ((trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).1.1 ++ (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k.val).1,
         (trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).1.2 ++ (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k.val).2) := by
  conv_lhs => unfold pb1
  rw [dif_pos k.isLt]

/-- What holds before trip k. -/
abbrev inv1 (c : Dev nD) (X11 : BufTy.Contents (Elt F) arg11.view.ty) (X12 : BufTy.Contents (Elt F) arg12.view.ty) (X17 : BufTy.Contents (Elt F) arg17.view.ty) (G14 : BufTy.Contents (Elt F) arg14.view.ty) (G18 : BufTy.Contents (Elt F) arg18.view.ty) (k : ℕ) (_u : PUnit) : sProp 𝕄 :=
  Held1 (F := F) arg11 arg12 arg14 arg17 arg18 c X11 X12 X17 (arg14.view.writes (Elt F) G14 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).1)
    (arg18.view.writes (Elt F) G18 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).2)

theorem step1 (c : Dev nD) (X11 : BufTy.Contents (Elt F) arg11.view.ty) (X12 : BufTy.Contents (Elt F) arg12.view.ty) (X17 : BufTy.Contents (Elt F) arg17.view.ty) (G14 : BufTy.Contents (Elt F) arg14.view.ty) (G18 : BufTy.Contents (Elt F) arg18.view.ty) (k : Fin k0_t1_loop.trips) (u : PUnit) :
    inv1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 G14 G18 k.val u
      ⊢ wp Idealize.ShloMosaic.frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 k u)
          (fun r => inv1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 G14 G18 (k.val + 1) r) := by
  dsimp only [inv1]
  rw [pb1_succ, View.writes_append, View.writes_append]
  exact (trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).2 _ _

end Cert.Kernel

end
-- ==== Proof.Halves.lean ====
module

public import Idealize.ShloMosaic.Lib.Ring
public import Idealize.ShloMosaic.Lib.Writes

/-!
A buffer of two planes, held as two halves while each half is filled by a transfer of its own, and whole again afterwards.
-/

@[expose] public section

namespace Cert.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type}
variable (c : Thread nD τ) {sp : Space} {s : Shape} {e : EltTy}

local notation "𝕄" => MT nD τ sig Ix Val Name U Lvl

theorem set_half (m : Memref sig c.2.kind sp s e) (r : Rect s) (hr : ∀ a, r.stride a = 1) {s' : Shape} (h : r.shape.Squeezes s') :
    ((m.slice r hr).squeeze s' h).view.set = (m.access r).set :=
  View.set_reshape (v := (m.slice r hr).view) h.numel_eq

theorem access_disjoint (m : Memref sig c.2.kind sp s e) (r₀ r₁ : Rect s) (hd : Disjoint r₀.set r₁.set) :
    Disjoint (m.access r₀).set (m.access r₁).set := by
  have e0 : (m.access r₀).set = r₀.set.map m.view.emb := View.set_slice (v := m.view) r₀
  have e1 : (m.access r₁).set = r₁.set.map m.view.emb := View.set_slice (v := m.view) r₁
  rw [e0, e1]; exact (Finset.disjoint_map _).mpr hd

theorem access_union (m : Memref sig c.2.kind sp s e) (r₀ r₁ : Rect s) (hc : r₀.set ∪ r₁.set = Finset.univ) :
    (m.access r₀).set ∪ (m.access r₁).set = m.view.set := by
  have e0 : (m.access r₀).set = r₀.set.map m.view.emb := View.set_slice (v := m.view) r₀
  have e1 : (m.access r₁).set = r₁.set.map m.view.emb := View.set_slice (v := m.view) r₁
  rw [e0, e1, ← Finset.map_union, hc]; rfl

/-- A buffer is its two halves. -/
theorem split (m : Memref sig c.2.kind sp s e) (r₀ r₁ : Rect s) (u₀ : ∀ a, r₀.stride a = 1) (u₁ : ∀ a, r₁.stride a = 1)
    {s₀ s₁ : Shape} (h₀ : r₀.shape.Squeezes s₀) (h₁ : r₁.shape.Squeezes s₁)
    (hd : Disjoint r₀.set r₁.set) (hc : r₀.set ∪ r₁.set = Finset.univ) (q : PosShare TreeShare) (f : Buf Val (m.view.loc c)) :
    (m.view.loc c ↦[m.view.set]{q} f : sProp 𝕄)
      ⊢ iprop((((m.slice r₀ u₀).squeeze s₀ h₀).view.loc c ↦[((m.slice r₀ u₀).squeeze s₀ h₀).view.set]{q} f)
          ∗ (((m.slice r₁ u₁).squeeze s₁ h₁).view.loc c ↦[((m.slice r₁ u₁).squeeze s₁ h₁).view.set]{q} f)) := by
  rw [set_half, set_half, ← access_union c m r₀ r₁ hc]
  exact (pointsTo_union (access_disjoint c m r₀ r₁ hd)).1

/-- Two halves, each filled by its own transfer, are the buffer holding both pieces. -/
theorem join (m : Memref sig c.2.kind sp s e) (r₀ r₁ : Rect s) (u₀ : ∀ a, r₀.stride a = 1) (u₁ : ∀ a, r₁.stride a = 1)
    {s₀ s₁ : Shape} (h₀ : r₀.shape.Squeezes s₀) (h₁ : r₁.shape.Squeezes s₁)
    (hd : Disjoint r₀.set r₁.set) (hc : r₀.set ∪ r₁.set = Finset.univ) (q : PosShare TreeShare) (f g h : Buf Val (m.view.loc c))
    (w₀ : s₀.Idx → Val e) (w₁ : s₁.Idx → Val e) :
    iprop((((m.slice r₀ u₀).squeeze s₀ h₀).view.loc c ↦[((m.slice r₀ u₀).squeeze s₀ h₀).view.set]{q}
            ((m.slice r₀ u₀).squeeze s₀ h₀).view.writes Val f [⟨Rect.whole s₀, w₀⟩])
        ∗ (((m.slice r₁ u₁).squeeze s₁ h₁).view.loc c ↦[((m.slice r₁ u₁).squeeze s₁ h₁).view.set]{q}
            ((m.slice r₁ u₁).squeeze s₁ h₁).view.writes Val g [⟨Rect.whole s₁, w₁⟩]))
      ⊢ (m.view.loc c ↦[m.view.set]{q} m.view.writes Val h [⟨r₁, fun x => w₁ ((Shape.reshapeEquiv h₁.numel_eq).symm x)⟩,
          ⟨r₀, fun x => w₀ ((Shape.reshapeEquiv h₀.numel_eq).symm x)⟩] : sProp 𝕄) := by
  rw [set_half, set_half, ← View.write_univ_eq_writes_whole, ← View.write_univ_eq_writes_whole, View.writes_nil, View.writes_nil,
    ← access_union c m r₀ r₁ hc]
  exact Memref.pointsTo_join_writes_reshape c m r₀ r₁ h₀.numel_eq h₁.numel_eq (access_disjoint c m r₀ r₁ hd) q f g h w₀ w₁

end Cert.Halves
end
-- ==== Proof.Kernel.Body.lean ====
module

public import proofs.«01_k».proof.Proof.Kernel.Outer
public import proofs.«01_k».proof.Proof.Kernel.Loop1
public import proofs.«01_k».proof.Proof.Halves

/-!
The whole body: the ten copies it starts with, the activation tiles, the preparation loop, the product loop, and the copy of the result.
-/

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The two planes of a buffer. -/
abbrev scaleHalf (w : ℕ) (h : ∀ a, (![w, 0, 0] : Fin 3 → ℕ) a + S1x20x10240.size a ≤ S2x20x10240.size a) : Memref sig .tc .vmem S20x10240 .bf16 :=
  (arg11.slice (Rect.unit (s := S2x20x10240) ![w, 0, 0] S1x20x10240.size h) (fun _ => rfl)).squeeze S20x10240 squeezes_S1x20x10240_S20x10240
abbrev zeroHalf (w : ℕ) (h : ∀ a, (![w, 0, 0] : Fin 3 → ℕ) a + S1x20x10240.size a ≤ S2x20x10240.size a) : Memref sig .tc .vmem S20x10240 .i8 :=
  (arg12.slice (Rect.unit (s := S2x20x10240) ![w, 0, 0] S1x20x10240.size h) (fun _ => rfl)).squeeze S20x10240 squeezes_S1x20x10240_S20x10240
abbrev resHalf (w : ℕ) (h : ∀ a, (![w, 0, 0] : Fin 3 → ℕ) a + S1x2x10240.size a ≤ S2x2x10240.size a) : Memref sig .tc .vmem S2x10240 .f32 :=
  (arg17.slice (Rect.unit (s := S2x2x10240) ![w, 0, 0] S1x2x10240.size h) (fun _ => rfl)).squeeze S2x10240 squeezes_S1x2x10240_S2x10240
abbrev cell6 (k : ℕ) (h : ∀ a, (![k] : Fin 1 → ℕ) a + S1.size a ≤ S6.size a) : DmaSems sig S_ :=
  (arg21.slice (Rect.unit (s := S6) ![k] S1.size h)).squeeze S_ squeezes_S1_S_

theorem big_disjoint : Disjoint (Rect.unit (s := S2x20x10240) ![0, 0, 0] S1x20x10240.size inb_S2x20x10240_S1x20x10240_0_0_0).set
    (Rect.unit (s := S2x20x10240) ![1, 0, 0] S1x20x10240.size inb_S2x20x10240_S1x20x10240_1_0_0).set :=
  Rect.unit_disjoint (s := S2x20x10240) (0 : Fin 3) (by decide)
theorem big_union : (Rect.unit (s := S2x20x10240) ![0, 0, 0] S1x20x10240.size inb_S2x20x10240_S1x20x10240_0_0_0).set
    ∪ (Rect.unit (s := S2x20x10240) ![1, 0, 0] S1x20x10240.size inb_S2x20x10240_S1x20x10240_1_0_0).set = Finset.univ := by
  ext i
  have h0 : (i (0 : Fin 3)).val < 2 := (i (0 : Fin 3)).isLt
  have h1 : (i (1 : Fin 3)).val < 20 := (i (1 : Fin 3)).isLt
  have h2 : (i (2 : Fin 3)).val < 10240 := (i (2 : Fin 3)).isLt
  simp only [Finset.mem_union, Finset.mem_univ, iff_true, Rect.mem_set_unit]
  rcases (by omega : (i (0 : Fin 3)).val = 0 ∨ (i (0 : Fin 3)).val = 1) with h | h
  · left
    intro (a : Fin 3)
    match a with
    | 0 => exact ⟨Nat.zero_le _, show (i (0 : Fin 3)).val < 0 + 1 by omega⟩
    | 1 => exact ⟨Nat.zero_le _, show (i (1 : Fin 3)).val < 0 + 20 by omega⟩
    | 2 => exact ⟨Nat.zero_le _, show (i (2 : Fin 3)).val < 0 + 10240 by omega⟩
  · right
    intro (a : Fin 3)
    match a with
    | 0 => exact ⟨show 1 ≤ (i (0 : Fin 3)).val by omega, show (i (0 : Fin 3)).val < 1 + 1 by omega⟩
    | 1 => exact ⟨Nat.zero_le _, show (i (1 : Fin 3)).val < 0 + 20 by omega⟩
    | 2 => exact ⟨Nat.zero_le _, show (i (2 : Fin 3)).val < 0 + 10240 by omega⟩
theorem small_disjoint : Disjoint (Rect.unit (s := S2x2x10240) ![0, 0, 0] S1x2x10240.size inb_S2x2x10240_S1x2x10240_0_0_0).set
    (Rect.unit (s := S2x2x10240) ![1, 0, 0] S1x2x10240.size inb_S2x2x10240_S1x2x10240_1_0_0).set :=
  Rect.unit_disjoint (s := S2x2x10240) (0 : Fin 3) (by decide)
theorem small_union : (Rect.unit (s := S2x2x10240) ![0, 0, 0] S1x2x10240.size inb_S2x2x10240_S1x2x10240_0_0_0).set
    ∪ (Rect.unit (s := S2x2x10240) ![1, 0, 0] S1x2x10240.size inb_S2x2x10240_S1x2x10240_1_0_0).set = Finset.univ := by
  ext i
  have h0 : (i (0 : Fin 3)).val < 2 := (i (0 : Fin 3)).isLt
  have h1 : (i (1 : Fin 3)).val < 2 := (i (1 : Fin 3)).isLt
  have h2 : (i (2 : Fin 3)).val < 10240 := (i (2 : Fin 3)).isLt
  simp only [Finset.mem_union, Finset.mem_univ, iff_true, Rect.mem_set_unit]
  rcases (by omega : (i (0 : Fin 3)).val = 0 ∨ (i (0 : Fin 3)).val = 1) with h | h
  · left
    intro (a : Fin 3)
    match a with
    | 0 => exact ⟨Nat.zero_le _, show (i (0 : Fin 3)).val < 0 + 1 by omega⟩
    | 1 => exact ⟨Nat.zero_le _, show (i (1 : Fin 3)).val < 0 + 2 by omega⟩
    | 2 => exact ⟨Nat.zero_le _, show (i (2 : Fin 3)).val < 0 + 10240 by omega⟩
  · right
    intro (a : Fin 3)
    match a with
    | 0 => exact ⟨show 1 ≤ (i (0 : Fin 3)).val by omega, show (i (0 : Fin 3)).val < 1 + 1 by omega⟩
    | 1 => exact ⟨Nat.zero_le _, show (i (1 : Fin 3)).val < 0 + 2 by omega⟩
    | 2 => exact ⟨Nat.zero_le _, show (i (2 : Fin 3)).val < 0 + 10240 by omega⟩

theorem pop_live (m : Mxu F) (q : Fin 2) (A M : ℕ) (h : Mxu.Fits A M) (hm : ∀ q R, m.live q R = false) :
    ∀ q' R, (m.pop q A M h).live q' R = false := by
  intro q' R
  unfold Mxu.pop
  dsimp only
  rw [hm]; simp

/-- The state the product loop starts from: nothing live. -/
abbrev start : Mxu F := ((((((Mxu.init.pop 0 0 16 fits_0_16).pop 0 4 16 fits_4_16).pop 0 8 16 fits_8_16).pop 1 0 16 fits_0_16).pop 1 4 16 fits_4_16).pop 1 8 16 fits_8_16)
theorem start_live : ∀ q R, (start (F := F)).live q R = false :=
  pop_live _ _ _ _ _ (pop_live _ _ _ _ _ (pop_live _ _ _ _ _ (pop_live _ _ _ _ _ (pop_live _ _ _ _ _ (pop_live _ _ _ _ _ fun _ _ => rfl)))))

/-- The scales, zeros and residual products of both arrays, as the six copies leave them. -/
def scales (X2 : BufTy.Contents (Elt F) arg2.view.ty) (X6 : BufTy.Contents (Elt F) arg6.view.ty) : BufTy.Contents (Elt F) arg11.view.ty :=
  arg11.view.writes (Elt F) arg11.view.junk
    [⟨Rect.unit (s := S2x20x10240) ![1, 0, 0] S1x20x10240.size inb_S2x20x10240_S1x20x10240_1_0_0, fun x => ReadAs.same.apply (arg6.view.read (Elt F) X6) ((Shape.reshapeEquiv squeezes_S1x20x10240_S20x10240.numel_eq).symm x)⟩,
     ⟨Rect.unit (s := S2x20x10240) ![0, 0, 0] S1x20x10240.size inb_S2x20x10240_S1x20x10240_0_0_0, fun x => ReadAs.same.apply (arg2.view.read (Elt F) X2) ((Shape.reshapeEquiv squeezes_S1x20x10240_S20x10240.numel_eq).symm x)⟩]
def zeros (X3 : BufTy.Contents (Elt F) arg3.view.ty) (X7 : BufTy.Contents (Elt F) arg7.view.ty) : BufTy.Contents (Elt F) arg12.view.ty :=
  arg12.view.writes (Elt F) arg12.view.junk
    [⟨Rect.unit (s := S2x20x10240) ![1, 0, 0] S1x20x10240.size inb_S2x20x10240_S1x20x10240_1_0_0, fun x => ReadAs.same.apply (arg7.view.read (Elt F) X7) ((Shape.reshapeEquiv squeezes_S1x20x10240_S20x10240.numel_eq).symm x)⟩,
     ⟨Rect.unit (s := S2x20x10240) ![0, 0, 0] S1x20x10240.size inb_S2x20x10240_S1x20x10240_0_0_0, fun x => ReadAs.same.apply (arg3.view.read (Elt F) X3) ((Shape.reshapeEquiv squeezes_S1x20x10240_S20x10240.numel_eq).symm x)⟩]
def resid (X4 : BufTy.Contents (Elt F) arg4.view.ty) (X8 : BufTy.Contents (Elt F) arg8.view.ty) : BufTy.Contents (Elt F) arg17.view.ty :=
  arg17.view.writes (Elt F) arg17.view.junk
    [⟨Rect.unit (s := S2x2x10240) ![1, 0, 0] S1x2x10240.size inb_S2x2x10240_S1x2x10240_1_0_0, fun x => ReadAs.same.apply (arg8.view.read (Elt F) X8) ((Shape.reshapeEquiv squeezes_S1x2x10240_S2x10240.numel_eq).symm x)⟩,
     ⟨Rect.unit (s := S2x2x10240) ![0, 0, 0] S1x2x10240.size inb_S2x2x10240_S1x2x10240_0_0_0, fun x => ReadAs.same.apply (arg4.view.read (Elt F) X4) ((Shape.reshapeEquiv squeezes_S1x2x10240_S2x10240.numel_eq).symm x)⟩]

/-- The six cells of the first copies, at zero. -/
abbrev cells6 (c : Dev nD) : sProp 𝕄 :=
  iprop(semVal (c, .dma (cell6 arg21 0 inb_S6_S1_0).sem) 0 ∗ semVal (c, .dma (cell6 arg21 1 inb_S6_S1_1).sem) 0 ∗ semVal (c, .dma (cell6 arg21 2 inb_S6_S1_2).sem) 0
    ∗ semVal (c, .dma (cell6 arg21 3 inb_S6_S1_3).sem) 0 ∗ semVal (c, .dma (cell6 arg21 4 inb_S6_S1_4).sem) 0 ∗ semVal (c, .dma (cell6 arg21 5 inb_S6_S1_5).sem) 0)

/-- The operands read by whole copies. -/
abbrev sources (c : Dev nD) (X0 : BufTy.Contents (Elt F) arg0.view.ty) (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X8 : BufTy.Contents (Elt F) arg8.view.ty) : sProp 𝕄 :=
  iprop((arg0.view.loc (c : Thread nD τ) ↦[arg0.view.set]{fullShare} X0)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8))

/-- After the last trip every step has landed. -/
theorem ring_done (c : Dev nD) (X1 : BufTy.Contents (Elt F) arg1.view.ty) (X5 : BufTy.Contents (Elt F) arg5.view.ty) (X10 : BufTy.Contents (Elt F) arg10.view.ty) :
    ring arg1 arg5 arg10 arg20 c X1 X5 X10 (5 * k0_t2_loop.trips) ⊢ bigSep (Ring.rangeSet 20 0 20) (landed arg1 arg5 arg10 arg20 c X1 X5) := by
  have e : k0_t2_loop.trips = 4 := by decide
  rw [e]
  unfold ring
  rw [Ring.bigSep_rangeSet_empty (lo := 5 * 4 + 3) (hi := 20) (by omega)]
  have e2 : Ring.rangeSet 20 (5 * 4) (5 * 4 + 3) = Ring.rangeSet 20 20 20 := by decide
  rw [e2, Ring.bigSep_rangeSet_empty (lo := 20) (hi := 20) (by omega)]
  iintro ⟨He, Hf, H⟩
  iexact H

set_option maxHeartbeats 20000000 in
/-- The run of the body. -/
@[irreducible] def body (c : Dev nD)
    (X0 : BufTy.Contents (Elt F) arg0.view.ty) (X1 : BufTy.Contents (Elt F) arg1.view.ty) (X2 : BufTy.Contents (Elt F) arg2.view.ty)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)
    (X12 : BufTy.Contents (Elt F) arg12.view.ty) (X13 : BufTy.Contents (Elt F) arg13.view.ty) (X14 : BufTy.Contents (Elt F) arg14.view.ty)
    (X15 : BufTy.Contents (Elt F) arg15.view.ty) (X16 : BufTy.Contents (Elt F) arg16.view.ty) (X17 : BufTy.Contents (Elt F) arg17.view.ty)
    (X18 : BufTy.Contents (Elt F) arg18.view.ty) (X19 : BufTy.Contents (Elt F) arg19.view.ty) :
    {p : BufTy.Contents (Elt F) arg9.view.ty // ∀ (W : Waits sig Unit),
      iprop(owes (c : Thread nD τ) 0 W ∗ sources arg0 arg2 arg3 arg4 arg6 arg7 arg8 c X0 X2 X3 X4 X6 X7 X8
        ∗ (arg9.view.loc (c : Thread nD τ) ↦[arg9.view.set]{fullShare} X9)
        ∗ (arg11.view.loc (c : Thread nD τ) ↦[arg11.view.set]{fullShare} X11)
        ∗ (arg12.view.loc (c : Thread nD τ) ↦[arg12.view.set]{fullShare} X12)
        ∗ (arg13.view.loc (c : Thread nD τ) ↦[arg13.view.set]{fullShare} X13)
        ∗ (arg14.view.loc (c : Thread nD τ) ↦[arg14.view.set]{fullShare} X14)
        ∗ (arg15.view.loc (c : Thread nD τ) ↦[arg15.view.set]{fullShare} X15)
        ∗ (arg16.view.loc (c : Thread nD τ) ↦[arg16.view.set]{fullShare} X16)
        ∗ (arg17.view.loc (c : Thread nD τ) ↦[arg17.view.set]{fullShare} X17)
        ∗ (arg18.view.loc (c : Thread nD τ) ↦[arg18.view.set]{fullShare} X18)
        ∗ (arg19.view.loc (c : Thread nD τ) ↦[arg19.view.set]{fullShare} X19)
        ∗ bigSep (Ring.rangeSet 20 0 20) (idle arg1 arg5 arg10 arg20 c X1 X5 X10)
        ∗ cells6 arg21 c ∗ semVal (c, .dma arg22.sem) 0 ∗ semVal (c, .dma arg23.sem) 0)
      ⊢ wp Idealize.ShloMosaic.frame (wpE (defs₀ (F := F)) Variants.none (c : Thread nD τ) none) Set.univ
          (cc0_decdec (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23)
          (fun _ => iprop((∃ W, owes (c : Thread nD τ) 0 W) ∗ sources arg0 arg2 arg3 arg4 arg6 arg7 arg8 c X0 X2 X3 X4 X6 X7 X8
            ∗ (arg9.view.loc (c : Thread nD τ) ↦[arg9.view.set]{fullShare} p)
            ∗ (∃ f, arg11.view.loc (c : Thread nD τ) ↦[arg11.view.set]{fullShare} f)
            ∗ (∃ f, arg12.view.loc (c : Thread nD τ) ↦[arg12.view.set]{fullShare} f)
            ∗ (∃ f, arg13.view.loc (c : Thread nD τ) ↦[arg13.view.set]{fullShare} f)
            ∗ (∃ f, arg14.view.loc (c : Thread nD τ) ↦[arg14.view.set]{fullShare} f)
            ∗ (∃ f, arg15.view.loc (c : Thread nD τ) ↦[arg15.view.set]{fullShare} f)
            ∗ (∃ f, arg16.view.loc (c : Thread nD τ) ↦[arg16.view.set]{fullShare} f)
            ∗ (∃ f, arg17.view.loc (c : Thread nD τ) ↦[arg17.view.set]{fullShare} f)
            ∗ (∃ f, arg18.view.loc (c : Thread nD τ) ↦[arg18.view.set]{fullShare} f)
            ∗ (∃ f, arg19.view.loc (c : Thread nD τ) ↦[arg19.view.set]{fullShare} f)
            ∗ bigSep (Ring.rangeSet 20 0 20) (landed arg1 arg5 arg10 arg20 c X1 X5)
            ∗ cells6 arg21 c ∗ semVal (c, .dma arg22.sem) 0 ∗ semVal (c, .dma arg23.sem) 0)) } := by
  refine ⟨?_, fun W => ?run⟩
  case run =>
    rw [Ring.bigSep_rangeSet_head (lo := 0) (hi := 20) (by omega) (by omega), Ring.bigSep_rangeSet_head (lo := 1) (hi := 20) (by omega) (by omega),
      Ring.bigSep_rangeSet_head (lo := 2) (hi := 20) (by omega) (by omega)]
    generalize hR : bigSep (Ring.rangeSet 20 (2 + 1) 20) (idle arg1 arg5 arg10 arg20 c X1 X5 X10) = R
    iintro ⟨HO, ⟨H0, H2, H3, H4, H6, H7, H8⟩, H9, H11, H12, H13, H14, H15, H16, H17, H18, H19, ⟨Hi0, Hi1, Hi2, HR⟩, ⟨Hs0, Hs1, Hs2, Hs3, Hs4, Hs5⟩, Hs22, Hs23⟩
    unfold idle
    icases Hi0 with ⟨⟨Hc00, Hd00, Hw00⟩, ⟨Hc01, Hd01, Hw01⟩⟩
    icases Hi1 with ⟨⟨Hc10, Hd10, Hw10⟩, ⟨Hc11, Hd11, Hw11⟩⟩
    icases Hi2 with ⟨⟨Hc20, Hd20, Hw20⟩, ⟨Hc21, Hd21, Hw21⟩⟩
    ihave Hh := (Halves.split (c : Thread nD τ) arg11 (Rect.unit (s := S2x20x10240) ![0, 0, 0] S1x20x10240.size inb_S2x20x10240_S1x20x10240_0_0_0) (Rect.unit (s := S2x20x10240) ![1, 0, 0] S1x20x10240.size inb_S2x20x10240_S1x20x10240_1_0_0) (fun _ => rfl) (fun _ => rfl)
      squeezes_S1x20x10240_S20x10240 squeezes_S1x20x10240_S20x10240 big_disjoint big_union fullShare X11) $$ H11
    icases Hh with ⟨Ha0, Ha1⟩
    ihave Hh := (Halves.split (c : Thread nD τ) arg12 (Rect.unit (s := S2x20x10240) ![0, 0, 0] S1x20x10240.size inb_S2x20x10240_S1x20x10240_0_0_0) (Rect.unit (s := S2x20x10240) ![1, 0, 0] S1x20x10240.size inb_S2x20x10240_S1x20x10240_1_0_0) (fun _ => rfl) (fun _ => rfl)
      squeezes_S1x20x10240_S20x10240 squeezes_S1x20x10240_S20x10240 big_disjoint big_union fullShare X12) $$ H12
    icases Hh with ⟨Hb0, Hb1⟩
    ihave Hh := (Halves.split (c : Thread nD τ) arg17 (Rect.unit (s := S2x2x10240) ![0, 0, 0] S1x2x10240.size inb_S2x2x10240_S1x2x10240_0_0_0) (Rect.unit (s := S2x2x10240) ![1, 0, 0] S1x2x10240.size inb_S2x2x10240_S1x2x10240_1_0_0) (fun _ => rfl) (fun _ => rfl)
      squeezes_S1x2x10240_S2x10240 squeezes_S1x2x10240_S2x10240 small_disjoint small_union fullShare X17) $$ H17
    icases Hh with ⟨Hg0, Hg1⟩
    rw [cc0_decdec_eq_skeleton]
    unfold cc0_decdec_skel
    sl_exec
    ihave H11 := (Halves.join (c : Thread nD τ) arg11 (Rect.unit (s := S2x20x10240) ![0, 0, 0] S1x20x10240.size inb_S2x20x10240_S1x20x10240_0_0_0) (Rect.unit (s := S2x20x10240) ![1, 0, 0] S1x20x10240.size inb_S2x20x10240_S1x20x10240_1_0_0) (fun _ => rfl) (fun _ => rfl)
      squeezes_S1x20x10240_S20x10240 squeezes_S1x20x10240_S20x10240 big_disjoint big_union fullShare _ _ arg11.view.junk (ReadAs.same.apply (arg2.view.read (Elt F) X2)) (ReadAs.same.apply (arg6.view.read (Elt F) X6))) $$ [Ha0 Ha1]
    · isplitl [Ha0]; · iexact Ha0
      iexact Ha1
    ihave H12 := (Halves.join (c : Thread nD τ) arg12 (Rect.unit (s := S2x20x10240) ![0, 0, 0] S1x20x10240.size inb_S2x20x10240_S1x20x10240_0_0_0) (Rect.unit (s := S2x20x10240) ![1, 0, 0] S1x20x10240.size inb_S2x20x10240_S1x20x10240_1_0_0) (fun _ => rfl) (fun _ => rfl)
      squeezes_S1x20x10240_S20x10240 squeezes_S1x20x10240_S20x10240 big_disjoint big_union fullShare _ _ arg12.view.junk (ReadAs.same.apply (arg3.view.read (Elt F) X3)) (ReadAs.same.apply (arg7.view.read (Elt F) X7))) $$ [Hb0 Hb1]
    · isplitl [Hb0]; · iexact Hb0
      iexact Hb1
    ihave H17 := (Halves.join (c : Thread nD τ) arg17 (Rect.unit (s := S2x2x10240) ![0, 0, 0] S1x2x10240.size inb_S2x2x10240_S1x2x10240_0_0_0) (Rect.unit (s := S2x2x10240) ![1, 0, 0] S1x2x10240.size inb_S2x2x10240_S1x2x10240_1_0_0) (fun _ => rfl) (fun _ => rfl)
      squeezes_S1x2x10240_S2x10240 squeezes_S1x2x10240_S2x10240 small_disjoint small_union fullShare _ _ arg17.view.junk (ReadAs.same.apply (arg4.view.read (Elt F) X4)) (ReadAs.same.apply (arg8.view.read (Elt F) X8))) $$ [Hg0 Hg1]
    · isplitl [Hg0]; · iexact Hg0
      iexact Hg1
    iapply (Scf.wp_for_bind _ _ _ _ _ _ _ _ _ (inv1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) X14 X18)
      (step1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) X14 X18)) $$ [H11 H12 H17 H14 H18]
    · isplitl [H11]; · iexact H11
      isplitl [H12]; · iexact H12
      isplitl [H17]; · iexact H17
      isplitl [H14]; · iexact H14
      iexact H18
    iintro %u ⟨H11, H12, H17, H14, H18⟩
    sl_exec
    iapply (Scf.wp_for_bind _ _ _ _ _ _ _ _ _
      (inv2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 (arg14.view.writes (Elt F) X14 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).1)
        (arg15.view.writes (Elt F) arg15.view.junk (body.sl.H15_80 arg0 arg13 X0)) (arg16.view.writes (Elt F) arg16.view.junk (body.sl.H16_40 arg0 arg13 X0))
        (arg18.view.writes (Elt F) X18 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).2) X10 _ _ _ _ _ _ _ _ _ _ _ X19)
      (step2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 (arg14.view.writes (Elt F) X14 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).1)
        (arg15.view.writes (Elt F) arg15.view.junk (body.sl.H15_80 arg0 arg13 X0)) (arg16.view.writes (Elt F) arg16.view.junk (body.sl.H16_40 arg0 arg13 X0))
        (arg18.view.writes (Elt F) X18 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).2) X10 _ _ _ _ _ _ _ _ _ _ _ X19)) $$ [HO H14 H15 H16 H18 H19 HR Hc00 Hc01 Hc10 Hc11 Hc20 Hc21]
    · isplitr
      · ipureintro; rfl
      isplitr
      · ipureintro; rfl
      isplitl [HO]; · iexists _; iexact HO
      isplitl [H14 H15 H16 H18]
      · isplitl [H14 H15 H16]
        · isplitl [H14]; · iexact H14
          isplitl [H15]; · iexact H15
          iexact H16
        iexact H18
      isplitl [HR Hc00 Hc01 Hc10 Hc11 Hc20 Hc21]
      · unfold ring
        subst hR
        rw [Ring.bigSep_rangeSet_head (lo := 5 * 0) (hi := 5 * 0 + 3) (by omega) (by omega), Ring.bigSep_rangeSet_head (lo := 5 * 0 + 1) (hi := 5 * 0 + 3) (by omega) (by omega),
          Ring.bigSep_rangeSet_head (lo := 5 * 0 + 1 + 1) (hi := 5 * 0 + 3) (by omega) (by omega), Ring.bigSep_rangeSet_empty (lo := 5 * 0 + 1 + 1 + 1) (hi := 5 * 0 + 3) (by omega),
          Ring.bigSep_rangeSet_empty (lo := 0) (hi := 5 * 0) (by omega)]
        isplitl [HR]; · iexact HR
        isplitl [Hc00 Hc01 Hc10 Hc11 Hc20 Hc21]
        · isplitl [Hc00 Hc01]
          · unfold flying; isplitl [Hc00]; · iexact Hc00
            iexact Hc01
          isplitl [Hc10 Hc11]
          · unfold flying; isplitl [Hc10]; · iexact Hc10
            iexact Hc11
          isplitl [Hc20 Hc21]
          · unfold flying; isplitl [Hc20]; · iexact Hc20
            iexact Hc21
          exact Entails.rfl
        exact Entails.rfl
      iexact H19
    iintro %acc2 ⟨%hr, %hacc, HO, HH, HR, H19⟩
    icases HO with ⟨%W', HO⟩
    icases HH with ⟨⟨H14, H15, H16⟩, H18⟩
    have hd : acc2.2.Drained := by
      refine ⟨fun q r => by rw [hr]; rfl, fun q R => ?_⟩
      rw [hacc]
      exact st2_live (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 _ _ _ _ _ _ _ _ _ _ _ _ _ _ _ X19 start_live _ q R
    obtain ⟨a2, m9⟩ := acc2
    dsimp only at hd ⊢
    sl_exec
    sl_step
    isplitl [HO]; · iexists _; iexact HO
    isplitl [H0 H2 H3 H4 H6 H7 H8]
    · isplitl [H0]; · iexact H0
      isplitl [H2]; · iexact H2
      isplitl [H3]; · iexact H3
      isplitl [H4]; · iexact H4
      isplitl [H6]; · iexact H6
      isplitl [H7]; · iexact H7
      iexact H8
    isplitl [H9]; · iexact H9
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HR]; · iapply ring_done $$ HR
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [Hs22]; · iexact Hs22
    iexact Hs23

end Cert.Kernel

end
-- ==== Proof.Kernel.Blocks.lean ====
module

public import proofs.«01_k».proof.Proof.Kernel.Body
public import proofs.«01_k».proof.Proof.Gen.Kernel.Frame
public import Idealize.ShloMosaic.Lib.Pipeline.FrameValue

/-!
The packed weights and their ring buffer, cut into the blocks the forty copies move, and put together again.
-/

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

theorem bigSep_sum {I J : Type} [Fintype I] [DecidableEq I] [Fintype J] [DecidableEq J] (Φ : I ⊕ J → sProp 𝕄) :
    bigSep Finset.univ Φ = iprop(bigSep Finset.univ (fun i => Φ (.inl i)) ∗ bigSep Finset.univ (fun j => Φ (.inr j))) := by
  have e : (Finset.univ : Finset (I ⊕ J)) = Finset.univ.map Function.Embedding.inl ∪ Finset.univ.map Function.Embedding.inr := by
    ext x; rcases x with x | x <;> simp
  have hd : Disjoint (Finset.univ.map (Function.Embedding.inl : I ↪ I ⊕ J)) (Finset.univ.map (Function.Embedding.inr : J ↪ I ⊕ J)) := by
    rw [Finset.disjoint_left]; intro x hx hy
    obtain ⟨a, -, ha⟩ := Finset.mem_map.mp hx; obtain ⟨b, -, hb⟩ := Finset.mem_map.mp hy
    have hab := ha.trans hb.symm
    cases hab
  rw [e, BI.bigSep_union hd, BI.bigSep_map, BI.bigSep_map]; rfl

def atPair {I : Type} (w : Fin 2) : I ↪ I × Fin 2 where
  toFun i := (i, w)
  inj' _ _ h := congrArg Prod.fst h
theorem bigSep_pair {I : Type} [Fintype I] [DecidableEq I] (Φ : I × Fin 2 → sProp 𝕄) :
    bigSep Finset.univ Φ = bigSep Finset.univ (fun i => iprop(Φ (i, 0) ∗ Φ (i, 1))) := by
  have e : (Finset.univ : Finset (I × Fin 2)) = Finset.univ.map (atPair 0) ∪ Finset.univ.map (atPair 1) := by
    ext ⟨x, w⟩
    have hw : w = 0 ∨ w = 1 := by revert w; decide
    rcases hw with rfl | rfl
    · exact iff_of_true (Finset.mem_univ _) (Finset.mem_union_left _ (Finset.mem_map.mpr ⟨x, Finset.mem_univ _, rfl⟩))
    · exact iff_of_true (Finset.mem_univ _) (Finset.mem_union_right _ (Finset.mem_map.mpr ⟨x, Finset.mem_univ _, rfl⟩))
  have hd : Disjoint (Finset.univ.map (atPair 0 : I ↪ I × Fin 2)) (Finset.univ.map (atPair 1)) := by
    rw [Finset.disjoint_left]; intro x hx hy
    obtain ⟨a, -, ha⟩ := Finset.mem_map.mp hx; obtain ⟨b, -, hb⟩ := Finset.mem_map.mp hy
    have h01 : (0 : Fin 2) = 1 := congrArg Prod.snd (ha.trans hb.symm)
    exact absurd h01 (by decide)
  rw [e, BI.bigSep_union hd, BI.bigSep_map, BI.bigSep_map]
  exact (BI.bigSep_sep Finset.univ (fun i => Φ (i, 0)) (fun i => Φ (i, 1))).symm
theorem bigSep_four {I : Type} (s : Finset I) (A B C D : I → sProp 𝕄) :
    bigSep s (fun i => iprop(A i ∗ B i ∗ C i ∗ D i)) = iprop(bigSep s A ∗ bigSep s B ∗ bigSep s C ∗ bigSep s D) := by
  have h1 := BI.bigSep_sep s A (fun i => iprop(B i ∗ C i ∗ D i))
  have h2 := BI.bigSep_sep s B (fun i => iprop(C i ∗ D i))
  have h3 := BI.bigSep_sep s C D
  exact h1.trans (congrArg _ (h2.trans (congrArg _ h3)))

/-! ## The ring buffer's forty slots -/

abbrev wbuf : Memref sig .tc .vmem S2x4x2560x256 .i32 := Memref.whole cc0_scratch0
def slotSet (b : Fin 20 × Fin 2) : Finset S2x4x2560x256.Idx :=
  (Rect.unit (s := S2x4x2560x256) ![b.2.val, b.1.val / 5, 512 * (b.1.val % 5), 0] S1x1x512x256.size (slot_inb b.1 b.2)).set
theorem slotW_set (b : Fin 20 × Fin 2) : (slotW wbuf ![b.2.val, b.1.val / 5, 512 * (b.1.val % 5), 0] (slot_inb b.1 b.2)).view.set = slotSet b := by
  unfold slotW slotSet
  rw [View.set_reshape]
  exact View.set_slice_whole cc0_scratch0 _
theorem mem_slotSet (b : Fin 20 × Fin 2) (i : S2x4x2560x256.Idx) :
    i ∈ slotSet b ↔ (i (0 : Fin 4)).val = b.2.val ∧ (i (1 : Fin 4)).val = b.1.val / 5 ∧ (i (2 : Fin 4)).val / 512 = b.1.val % 5 := by
  unfold slotSet
  rw [Rect.mem_set_unit]
  have h3 : (i (3 : Fin 4)).val < 256 := (i (3 : Fin 4)).isLt
  constructor
  · intro h
    have a0 : b.2.val ≤ (i (0 : Fin 4)).val ∧ (i (0 : Fin 4)).val < b.2.val + 1 := h (0 : Fin 4)
    have a1 : b.1.val / 5 ≤ (i (1 : Fin 4)).val ∧ (i (1 : Fin 4)).val < b.1.val / 5 + 1 := h (1 : Fin 4)
    have a2 : 512 * (b.1.val % 5) ≤ (i (2 : Fin 4)).val ∧ (i (2 : Fin 4)).val < 512 * (b.1.val % 5) + 512 := h (2 : Fin 4)
    omega
  · rintro ⟨e0, e1, e2⟩ (a : Fin 4)
    match a with
    | 0 => exact ⟨show b.2.val ≤ (i (0 : Fin 4)).val by omega, show (i (0 : Fin 4)).val < b.2.val + 1 by omega⟩
    | 1 => exact ⟨show b.1.val / 5 ≤ (i (1 : Fin 4)).val by omega, show (i (1 : Fin 4)).val < b.1.val / 5 + 1 by omega⟩
    | 2 => exact ⟨show 512 * (b.1.val % 5) ≤ (i (2 : Fin 4)).val by omega, show (i (2 : Fin 4)).val < 512 * (b.1.val % 5) + 512 by omega⟩
    | 3 => exact ⟨Nat.zero_le _, show (i (3 : Fin 4)).val < 0 + 256 by omega⟩
theorem slot_disjoint (b b' : Fin 20 × Fin 2) (h : b ≠ b') : Disjoint (slotSet b) (slotSet b') := by
  rw [Finset.disjoint_left]
  intro i hi hi'
  rw [mem_slotSet] at hi hi'
  exact h (Prod.ext (Fin.ext (by omega)) (Fin.ext (by omega)))
theorem slot_cover : Finset.univ.biUnion slotSet = Finset.univ := by
  ext i
  simp only [Finset.mem_biUnion, Finset.mem_univ, _root_.true_and, iff_true]
  have h0 : (i (0 : Fin 4)).val < 2 := (i (0 : Fin 4)).isLt
  have h1 : (i (1 : Fin 4)).val < 4 := (i (1 : Fin 4)).isLt
  have h2 : (i (2 : Fin 4)).val < 2560 := (i (2 : Fin 4)).isLt
  refine ⟨(⟨5 * (i (1 : Fin 4)).val + (i (2 : Fin 4)).val / 512, by omega⟩, ⟨(i (0 : Fin 4)).val, h0⟩), ?_⟩
  rw [mem_slotSet]
  refine ⟨rfl, ?_, ?_⟩ <;> dsimp only <;> omega

/-- The buffer is its slots. -/
theorem slots_eq (c : Dev nD) (f : Buf (Elt F) ((c : Thread nD τ).loc cc0_scratch0)) :
    (((c : Thread nD τ).loc cc0_scratch0) ↦{fullShare} f : sProp 𝕄)
      = bigSep Finset.univ fun s : Fin 20 => iprop(slotAt wbuf c f _ (slot_inb s 0) ∗ slotAt wbuf c f _ (slot_inb s 1)) := by
  rw [Ring.pointsTo_blocks (ℓ := ((c : Thread nD τ).loc cc0_scratch0)) slotSet slot_disjoint slot_cover f, bigSep_pair]
  refine BI.bigSep_congr fun s _ => ?_
  rw [← slotW_set, ← slotW_set]; rfl
/-- Slots at contents of their own are the buffer at some contents. -/
theorem slots_join (c : Dev nD) (fs : Fin 20 × Fin 2 → Buf (Elt F) ((c : Thread nD τ).loc cc0_scratch0)) :
    bigSep Finset.univ (fun s : Fin 20 => iprop(slotAt (F := F) wbuf c (fs (s, 0)) _ (slot_inb s 0) ∗ slotAt wbuf c (fs (s, 1)) _ (slot_inb s 1)))
      ⊢ (iprop(∃ f, ((c : Thread nD τ).loc cc0_scratch0) ↦{fullShare} f) : sProp 𝕄) := by
  have e : bigSep Finset.univ (fun s : Fin 20 => iprop(slotAt (F := F) wbuf c (fs (s, 0)) _ (slot_inb s 0) ∗ slotAt wbuf c (fs (s, 1)) _ (slot_inb s 1)))
      = (bigSep Finset.univ fun b : Fin 20 × Fin 2 => ((c : Thread nD τ).loc cc0_scratch0) ↦[slotSet b]{fullShare} fs b : sProp 𝕄) := by
    rw [bigSep_pair]
    refine BI.bigSep_congr fun s _ => ?_
    rw [← slotW_set, ← slotW_set]; rfl
  rw [e]
  exact Ring.pointsTo_blocks_join (ℓ := ((c : Thread nD τ).loc cc0_scratch0)) slotSet slot_disjoint slot_cover fs (fs (0, 0))

/-! ## The twenty blocks of each array of packed weights -/

def blockSet (s : Fin 20) : Finset S2560x1024.Idx :=
  (Rect.unit (s := S2560x1024) ![512 * (s.val % 5), 256 * (s.val / 5)] S512x256.size (src_inb s)).set
theorem mem_blockSet (s : Fin 20) (i : S2560x1024.Idx) :
    i ∈ blockSet s ↔ (i (0 : Fin 2)).val / 512 = s.val % 5 ∧ (i (1 : Fin 2)).val / 256 = s.val / 5 := by
  unfold blockSet
  rw [Rect.mem_set_unit]
  constructor
  · intro h
    have a0 : 512 * (s.val % 5) ≤ (i (0 : Fin 2)).val ∧ (i (0 : Fin 2)).val < 512 * (s.val % 5) + 512 := h (0 : Fin 2)
    have a1 : 256 * (s.val / 5) ≤ (i (1 : Fin 2)).val ∧ (i (1 : Fin 2)).val < 256 * (s.val / 5) + 256 := h (1 : Fin 2)
    omega
  · rintro ⟨e0, e1⟩ (a : Fin 2)
    match a with
    | 0 => exact ⟨show 512 * (s.val % 5) ≤ (i (0 : Fin 2)).val by omega, show (i (0 : Fin 2)).val < 512 * (s.val % 5) + 512 by omega⟩
    | 1 => exact ⟨show 256 * (s.val / 5) ≤ (i (1 : Fin 2)).val by omega, show (i (1 : Fin 2)).val < 256 * (s.val / 5) + 256 by omega⟩
theorem block_disjoint (s s' : Fin 20) (h : s ≠ s') : Disjoint (blockSet s) (blockSet s') := by
  rw [Finset.disjoint_left]
  intro i hi hi'
  rw [mem_blockSet] at hi hi'
  exact h (Fin.ext (by omega))
theorem block_cover : Finset.univ.biUnion blockSet = Finset.univ := by
  ext i
  simp only [Finset.mem_biUnion, Finset.mem_univ, _root_.true_and, iff_true]
  have h0 : (i (0 : Fin 2)).val < 2560 := (i (0 : Fin 2)).isLt
  have h1 : (i (1 : Fin 2)).val < 1024 := (i (1 : Fin 2)).isLt
  refine ⟨⟨5 * ((i (1 : Fin 2)).val / 256) + (i (0 : Fin 2)).val / 512, by omega⟩, ?_⟩
  rw [mem_blockSet]
  constructor <;> dsimp only <;> omega

theorem gate_eq (c : Dev nD) (f : Buf (Elt F) ((c : Thread nD τ).loc main_arg1)) :
    (((c : Thread nD τ).loc main_arg1) ↦{fullShare} f : sProp 𝕄) = bigSep Finset.univ fun s : Fin 20 => srcAt c (Memref.whole main_arg1) f _ (src_inb s) := by
  rw [Ring.pointsTo_blocks (ℓ := ((c : Thread nD τ).loc main_arg1)) blockSet block_disjoint block_cover f]
  refine BI.bigSep_congr fun s _ => ?_
  have e : (srcW (Memref.whole main_arg1) ![512 * (s.val % 5), 256 * (s.val / 5)] (src_inb s)).view.set = blockSet s := View.set_slice_whole main_arg1 _
  rw [← e]; rfl
theorem up_eq (c : Dev nD) (f : Buf (Elt F) ((c : Thread nD τ).loc main_arg5)) :
    (((c : Thread nD τ).loc main_arg5) ↦{fullShare} f : sProp 𝕄) = bigSep Finset.univ fun s : Fin 20 => srcAt c (Memref.whole main_arg5) f _ (src_inb s) := by
  rw [Ring.pointsTo_blocks (ℓ := ((c : Thread nD τ).loc main_arg5)) blockSet block_disjoint block_cover f]
  refine BI.bigSep_congr fun s _ => ?_
  have e : (srcW (Memref.whole main_arg5) ![512 * (s.val % 5), 256 * (s.val / 5)] (src_inb s)).view.set = blockSet s := View.set_slice_whole main_arg5 _
  rw [← e]; rfl

/-! ## All twenty steps before the first and after the last -/

abbrev cellPair (c : Dev nD) (s : Fin 20) : sProp 𝕄 := iprop(cellAt cc0_scratch10 c _ (cell_inb s 0) ∗ cellAt cc0_scratch10 c _ (cell_inb s 1))

theorem idle_all (c : Dev nD) (X1 : Buf (Elt F) ((c : Thread nD τ).loc main_arg1)) (X5 : Buf (Elt F) ((c : Thread nD τ).loc main_arg5))
    (X10 : Buf (Elt F) ((c : Thread nD τ).loc cc0_scratch0)) :
    iprop(bigSep Finset.univ (cellPair (F := F) c) ∗ (((c : Thread nD τ).loc cc0_scratch0) ↦{fullShare} X10)
        ∗ (((c : Thread nD τ).loc main_arg1) ↦{fullShare} X1) ∗ (((c : Thread nD τ).loc main_arg5) ↦{fullShare} X5))
      ⊢ bigSep (Ring.rangeSet 20 0 20) (idle (Memref.whole main_arg1) (Memref.whole main_arg5) wbuf cc0_scratch10 c X1 X5 X10) := by
  rw [Ring.rangeSet_univ, slots_eq, gate_eq, up_eq, ← bigSep_four]
  have key : ∀ s : Fin 20, (iprop(cellPair (F := F) c s ∗ (slotAt wbuf c X10 _ (slot_inb s 0) ∗ slotAt wbuf c X10 _ (slot_inb s 1))
      ∗ srcAt c (Memref.whole main_arg1) X1 _ (src_inb s) ∗ srcAt c (Memref.whole main_arg5) X5 _ (src_inb s)) : sProp 𝕄)
      ⊢ idle (Memref.whole main_arg1) (Memref.whole main_arg5) wbuf cc0_scratch10 c X1 X5 X10 s := by
    intro s
    unfold idle
    iintro ⟨⟨Ha, Hb⟩, ⟨Hc, Hd⟩, He, Hf⟩
    isplitl [Ha Hc He]
    · isplitl [Ha]; · iexact Ha
      isplitl [Hc]; · iexact Hc
      iexact He
    isplitl [Hb]; · iexact Hb
    isplitl [Hd]; · iexact Hd
    iexact Hf
  exact BI.bigSep_mono fun s _ => key s

/-- What a slot holds once its block has landed. -/
abbrev landedIn (c : Dev nD) (X1 : Buf (Elt F) ((c : Thread nD τ).loc main_arg1)) (X5 : Buf (Elt F) ((c : Thread nD τ).loc main_arg5)) (b : Fin 20 × Fin 2) :
    Buf (Elt F) ((c : Thread nD τ).loc cc0_scratch0) :=
  (slotW wbuf _ (slot_inb b.1 b.2)).view.writes (Elt F) (slotW wbuf _ (slot_inb b.1 b.2)).view.junk
    [⟨Rect.whole _, ReadAs.same.apply (if b.2 = 0 then (srcW (Memref.whole main_arg1) _ (src_inb b.1)).view.read (Elt F) X1 else (srcW (Memref.whole main_arg5) _ (src_inb b.1)).view.read (Elt F) X5)⟩]

theorem landed_all (c : Dev nD) (X1 : Buf (Elt F) ((c : Thread nD τ).loc main_arg1)) (X5 : Buf (Elt F) ((c : Thread nD τ).loc main_arg5)) :
    bigSep (Ring.rangeSet 20 0 20) (landed (Memref.whole main_arg1) (Memref.whole main_arg5) wbuf cc0_scratch10 c X1 X5)
      ⊢ iprop(bigSep Finset.univ (cellPair (F := F) c) ∗ (∃ f, ((c : Thread nD τ).loc cc0_scratch0) ↦{fullShare} f)
        ∗ (((c : Thread nD τ).loc main_arg1) ↦{fullShare} X1) ∗ (((c : Thread nD τ).loc main_arg5) ↦{fullShare} X5)) := by
  have h := slots_join (F := F) c (landedIn c X1 X5)
  rw [gate_eq, up_eq]
  refine BIBase.Entails.trans ?_ (sep_mono_r (sep_mono_l h))
  refine BIBase.Entails.trans ?_ (Entails.of_eq (bigSep_four _ _ _ _ _))
  rw [Ring.rangeSet_univ]
  have key : ∀ s : Fin 20, (landed (Memref.whole main_arg1) (Memref.whole main_arg5) wbuf cc0_scratch10 c X1 X5 s : sProp 𝕄)
      ⊢ iprop(cellPair (F := F) c s ∗ (slotAt wbuf c (landedIn c X1 X5 (s, 0)) _ (slot_inb s 0) ∗ slotAt wbuf c (landedIn c X1 X5 (s, 1)) _ (slot_inb s 1))
      ∗ srcAt c (Memref.whole main_arg1) X1 _ (src_inb s) ∗ srcAt c (Memref.whole main_arg5) X5 _ (src_inb s)) := by
    intro s
    unfold landed
    iintro ⟨⟨Ha, Hc, He⟩, Hb, Hd, Hf⟩
    isplitl [Ha Hb]
    · isplitl [Ha]; · iexact Ha
      iexact Hb
    isplitl [Hc Hd]
    · isplitl [Hc]; · iexact Hc
      iexact Hd
    isplitl [He]; · iexact He
    iexact Hf
  exact BI.bigSep_mono fun s _ => key s

/-! ## The forty-eight cells -/

/-- The body's cells: forty for the blocks, six for the first copies, one each for the activations and the result. -/
def cells : (Fin 20 × Fin 2) ⊕ Fin 8 → SemLoc sig
  | .inl b => .dma (cellW cc0_scratch10 _ (cell_inb b.1 b.2)).sem
  | .inr j => (![.dma (cell6 cc0_scratch11 0 inb_S6_S1_0).sem, .dma (cell6 cc0_scratch11 1 inb_S6_S1_1).sem, .dma (cell6 cc0_scratch11 2 inb_S6_S1_2).sem,
      .dma (cell6 cc0_scratch11 3 inb_S6_S1_3).sem, .dma (cell6 cc0_scratch11 4 inb_S6_S1_4).sem, .dma (cell6 cc0_scratch11 5 inb_S6_S1_5).sem,
      .dma cc0_scratch12.sem, .dma cc0_scratch13.sem] : Fin 8 → SemLoc sig) j
theorem cells_facts : Pipeline.OwnSemFacts cfg0.spec cells := by decide +kernel

theorem cells_eq (c : Dev nD) :
    (Pipeline.ownSems0 (Ix := Unit) (Name := ℕ) (U := Pipeline.UD sig nD τ) (Lvl := ℕ) (Val := Elt F) (τ := τ) cells c : sProp 𝕄)
      = iprop(bigSep Finset.univ (cellPair (F := F) c) ∗ (semVal (c, .dma (cell6 cc0_scratch11 0 inb_S6_S1_0).sem) 0 ∗ semVal (c, .dma (cell6 cc0_scratch11 1 inb_S6_S1_1).sem) 0
        ∗ semVal (c, .dma (cell6 cc0_scratch11 2 inb_S6_S1_2).sem) 0 ∗ semVal (c, .dma (cell6 cc0_scratch11 3 inb_S6_S1_3).sem) 0 ∗ semVal (c, .dma (cell6 cc0_scratch11 4 inb_S6_S1_4).sem) 0
        ∗ semVal (c, .dma (cell6 cc0_scratch11 5 inb_S6_S1_5).sem) 0 ∗ semVal (c, .dma cc0_scratch12.sem) 0 ∗ semVal (c, .dma cc0_scratch13.sem) 0)) := by
  unfold Pipeline.ownSems0
  rw [bigSep_sum, bigSep_pair]
  congr 1
  rw [BI.bigSep_univ_eq_bigSepL [0, 1, 2, 3, 4, 5, 6, 7] (by decide) (by decide)]; rfl

end Cert.Kernel

end
-- ==== Proof.Kernel.Whole.lean ====
module

public import proofs.«01_k».proof.Proof.Kernel.Body

/-!
The run of the body over buffers held whole.
-/

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The result the body leaves. -/
def out (c : Dev nD) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) : BufTy.Contents (Elt F) arg9.view.ty :=
  (body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19).1

set_option maxHeartbeats 2000000 in
theorem body_whole (c : Dev nD) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty)
    (h0 : arg0.view.set = Finset.univ) (h2 : arg2.view.set = Finset.univ) (h3 : arg3.view.set = Finset.univ) (h4 : arg4.view.set = Finset.univ) (h6 : arg6.view.set = Finset.univ) (h7 : arg7.view.set = Finset.univ) (h8 : arg8.view.set = Finset.univ) (h9 : arg9.view.set = Finset.univ) (h11 : arg11.view.set = Finset.univ) (h12 : arg12.view.set = Finset.univ) (h13 : arg13.view.set = Finset.univ) (h14 : arg14.view.set = Finset.univ) (h15 : arg15.view.set = Finset.univ) (h16 : arg16.view.set = Finset.univ) (h17 : arg17.view.set = Finset.univ) (h18 : arg18.view.set = Finset.univ) (h19 : arg19.view.set = Finset.univ) (W : Waits sig Unit) :
    iprop(owes (c : Thread nD τ) 0 W ∗ ((arg0.view.loc (c : Thread nD τ) ↦{fullShare} X0) ∗ (arg2.view.loc (c : Thread nD τ) ↦{fullShare} X2) ∗ (arg3.view.loc (c : Thread nD τ) ↦{fullShare} X3) ∗ (arg4.view.loc (c : Thread nD τ) ↦{fullShare} X4) ∗ (arg6.view.loc (c : Thread nD τ) ↦{fullShare} X6) ∗ (arg7.view.loc (c : Thread nD τ) ↦{fullShare} X7) ∗ (arg8.view.loc (c : Thread nD τ) ↦{fullShare} X8)) ∗ (arg9.view.loc (c : Thread nD τ) ↦{fullShare} X9) ∗ (arg11.view.loc (c : Thread nD τ) ↦{fullShare} X11) ∗ (arg12.view.loc (c : Thread nD τ) ↦{fullShare} X12) ∗ (arg13.view.loc (c : Thread nD τ) ↦{fullShare} X13) ∗ (arg14.view.loc (c : Thread nD τ) ↦{fullShare} X14) ∗ (arg15.view.loc (c : Thread nD τ) ↦{fullShare} X15) ∗ (arg16.view.loc (c : Thread nD τ) ↦{fullShare} X16) ∗ (arg17.view.loc (c : Thread nD τ) ↦{fullShare} X17) ∗ (arg18.view.loc (c : Thread nD τ) ↦{fullShare} X18) ∗ (arg19.view.loc (c : Thread nD τ) ↦{fullShare} X19)
        ∗ bigSep (Ring.rangeSet 20 0 20) (idle arg1 arg5 arg10 arg20 c X1 X5 X10) ∗ cells6 arg21 c ∗ semVal (c, .dma arg22.sem) 0 ∗ semVal (c, .dma arg23.sem) 0)
      ⊢ wp Idealize.ShloMosaic.frame (wpE (defs₀ (F := F)) Variants.none (c : Thread nD τ) none) Set.univ (cc0_decdec (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23)
          (fun _ => iprop((∃ W, owes (c : Thread nD τ) 0 W) ∗ ((arg0.view.loc (c : Thread nD τ) ↦{fullShare} X0) ∗ (arg2.view.loc (c : Thread nD τ) ↦{fullShare} X2) ∗ (arg3.view.loc (c : Thread nD τ) ↦{fullShare} X3) ∗ (arg4.view.loc (c : Thread nD τ) ↦{fullShare} X4) ∗ (arg6.view.loc (c : Thread nD τ) ↦{fullShare} X6) ∗ (arg7.view.loc (c : Thread nD τ) ↦{fullShare} X7) ∗ (arg8.view.loc (c : Thread nD τ) ↦{fullShare} X8)) ∗ (arg9.view.loc (c : Thread nD τ) ↦{fullShare} out arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19)
            ∗ (∃ f, arg11.view.loc (c : Thread nD τ) ↦{fullShare} f) ∗ (∃ f, arg12.view.loc (c : Thread nD τ) ↦{fullShare} f) ∗ (∃ f, arg13.view.loc (c : Thread nD τ) ↦{fullShare} f) ∗ (∃ f, arg14.view.loc (c : Thread nD τ) ↦{fullShare} f) ∗ (∃ f, arg15.view.loc (c : Thread nD τ) ↦{fullShare} f) ∗ (∃ f, arg16.view.loc (c : Thread nD τ) ↦{fullShare} f) ∗ (∃ f, arg17.view.loc (c : Thread nD τ) ↦{fullShare} f) ∗ (∃ f, arg18.view.loc (c : Thread nD τ) ↦{fullShare} f) ∗ (∃ f, arg19.view.loc (c : Thread nD τ) ↦{fullShare} f)
            ∗ bigSep (Ring.rangeSet 20 0 20) (landed arg1 arg5 arg10 arg20 c X1 X5) ∗ cells6 arg21 c ∗ semVal (c, .dma arg22.sem) 0 ∗ semVal (c, .dma arg23.sem) 0)) := by
  have hb := (body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19).2 W
  unfold out
  revert hb
  generalize (body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19).1 = p
  intro hb
  simp only [sources, h0, h2, h3, h4, h6, h7, h8, h9, h11, h12, h13, h14, h15, h16, h17, h18, h19] at hb
  exact hb

end Cert.Kernel

end
-- ==== Proof.Kernel.Frame.lean ====
module

public import proofs.«01_k».proof.Proof.Kernel.Blocks
public import proofs.«01_k».proof.Proof.Kernel.Whole
public import proofs.«01_k».proof.Proof.Gen.Kernel.Points
public import Idealize.ShloMosaic.Lib.Pipeline.FrameBody

/-!
The run of the whole program: what it needs, what it leaves, and that it leaves its arguments as they were.
-/

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

abbrev M0 : Memref sig .tc .hbm S2x2560 .bf16 := Memref.whole main_v0
abbrev M1 : Memref sig .tc .hbm S2560x1024 .i32 := Memref.whole main_arg1
abbrev M2 : Memref sig .tc .hbm S20x10240 .bf16 := Memref.whole main_arg2
abbrev M3 : Memref sig .tc .hbm S20x10240 .i8 := Memref.whole main_arg3
abbrev M4 : Memref sig .tc .hbm S2x10240 .f32 := Memref.whole main_arg4
abbrev M5 : Memref sig .tc .hbm S2560x1024 .i32 := Memref.whole main_arg5
abbrev M6 : Memref sig .tc .hbm S20x10240 .bf16 := Memref.whole main_arg6
abbrev M7 : Memref sig .tc .hbm S20x10240 .i8 := Memref.whole main_arg7
abbrev M8 : Memref sig .tc .hbm S2x10240 .f32 := Memref.whole main_arg8
abbrev M9 : Memref sig .tc .hbm S2x10240 .bf16 := Memref.whole main_v1
abbrev M10 : Memref sig .tc .vmem S2x4x2560x256 .i32 := Memref.whole cc0_scratch0
abbrev M11 : Memref sig .tc .vmem S2x20x10240 .bf16 := Memref.whole cc0_scratch1
abbrev M12 : Memref sig .tc .vmem S2x20x10240 .i8 := Memref.whole cc0_scratch2
abbrev M13 : Memref sig .tc .vmem S2x2560 .bf16 := Memref.whole cc0_scratch3
abbrev M14 : Memref sig .tc .vmem S2x4x10x48x256 .bf16 := Memref.whole cc0_scratch4
abbrev M15 : Memref sig .tc .vmem S16x10240 .bf16 := Memref.whole cc0_scratch5
abbrev M16 : Memref sig .tc .vmem S16x5120 .bf16 := Memref.whole cc0_scratch6
abbrev M17 : Memref sig .tc .vmem S2x2x10240 .f32 := Memref.whole cc0_scratch7
abbrev M18 : Memref sig .tc .vmem S2x4x20x256 .f32 := Memref.whole cc0_scratch8
abbrev M19 : Memref sig .tc .vmem S2x10240 .bf16 := Memref.whole cc0_scratch9

/-- The result the body leaves. -/
def result (c : Dev nD) (X0 : Buf (Elt F) ((c : Thread nD τ).loc main_v0)) (X1 : Buf (Elt F) ((c : Thread nD τ).loc main_arg1)) (X2 : Buf (Elt F) ((c : Thread nD τ).loc main_arg2)) (X3 : Buf (Elt F) ((c : Thread nD τ).loc main_arg3)) (X4 : Buf (Elt F) ((c : Thread nD τ).loc main_arg4)) (X5 : Buf (Elt F) ((c : Thread nD τ).loc main_arg5)) (X6 : Buf (Elt F) ((c : Thread nD τ).loc main_arg6)) (X7 : Buf (Elt F) ((c : Thread nD τ).loc main_arg7)) (X8 : Buf (Elt F) ((c : Thread nD τ).loc main_arg8)) (X9 : Buf (Elt F) ((c : Thread nD τ).loc main_v1)) (X10 : Buf (Elt F) ((c : Thread nD τ).loc cc0_scratch0)) (X11 : Buf (Elt F) ((c : Thread nD τ).loc cc0_scratch1)) (X12 : Buf (Elt F) ((c : Thread nD τ).loc cc0_scratch2)) (X13 : Buf (Elt F) ((c : Thread nD τ).loc cc0_scratch3)) (X14 : Buf (Elt F) ((c : Thread nD τ).loc cc0_scratch4)) (X15 : Buf (Elt F) ((c : Thread nD τ).loc cc0_scratch5)) (X16 : Buf (Elt F) ((c : Thread nD τ).loc cc0_scratch6)) (X17 : Buf (Elt F) ((c : Thread nD τ).loc cc0_scratch7)) (X18 : Buf (Elt F) ((c : Thread nD τ).loc cc0_scratch8)) (X19 : Buf (Elt F) ((c : Thread nD τ).loc cc0_scratch9)) : Buf (Elt F) ((c : Thread nD τ).loc main_v1) :=
  out M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) cc0_scratch10 cc0_scratch11 cc0_scratch12 cc0_scratch13 c X0 X1 X2 X3 X4 X5 X6 X7 X8 X9 X10 X11 X12 X13 X14 X15 X16 X17 X18 X19

/-- The operands the body reads, whole. -/
abbrev hbm (c : Dev nD) (X0 : Buf (Elt F) ((c : Thread nD τ).loc main_v0)) (X1 : Buf (Elt F) ((c : Thread nD τ).loc main_arg1)) (X2 : Buf (Elt F) ((c : Thread nD τ).loc main_arg2)) (X3 : Buf (Elt F) ((c : Thread nD τ).loc main_arg3)) (X4 : Buf (Elt F) ((c : Thread nD τ).loc main_arg4)) (X5 : Buf (Elt F) ((c : Thread nD τ).loc main_arg5)) (X6 : Buf (Elt F) ((c : Thread nD τ).loc main_arg6)) (X7 : Buf (Elt F) ((c : Thread nD τ).loc main_arg7)) (X8 : Buf (Elt F) ((c : Thread nD τ).loc main_arg8)) : sProp 𝕄 :=
  iprop((((c : Thread nD τ).loc main_v0) ↦{fullShare} X0) ∗ (((c : Thread nD τ).loc main_arg1) ↦{fullShare} X1) ∗ (((c : Thread nD τ).loc main_arg2) ↦{fullShare} X2) ∗ (((c : Thread nD τ).loc main_arg3) ↦{fullShare} X3) ∗ (((c : Thread nD τ).loc main_arg4) ↦{fullShare} X4) ∗ (((c : Thread nD τ).loc main_arg5) ↦{fullShare} X5) ∗ (((c : Thread nD τ).loc main_arg6) ↦{fullShare} X6) ∗ (((c : Thread nD τ).loc main_arg7) ↦{fullShare} X7) ∗ (((c : Thread nD τ).loc main_arg8) ↦{fullShare} X8))
/-- The cells at zero. -/
abbrev cellsZero (c : Dev nD) : sProp 𝕄 :=
  iprop(bigSep Finset.univ (cellPair (F := F) c) ∗ (semVal (c, .dma (cell6 cc0_scratch11 0 inb_S6_S1_0).sem) 0 ∗ semVal (c, .dma (cell6 cc0_scratch11 1 inb_S6_S1_1).sem) 0 ∗ semVal (c, .dma (cell6 cc0_scratch11 2 inb_S6_S1_2).sem) 0 ∗ semVal (c, .dma (cell6 cc0_scratch11 3 inb_S6_S1_3).sem) 0 ∗ semVal (c, .dma (cell6 cc0_scratch11 4 inb_S6_S1_4).sem) 0 ∗ semVal (c, .dma (cell6 cc0_scratch11 5 inb_S6_S1_5).sem) 0 ∗ semVal (c, .dma cc0_scratch12.sem) 0 ∗ semVal (c, .dma cc0_scratch13.sem) 0))
/-- The scratch buffers at contents nothing names. -/
abbrev scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))

set_option maxHeartbeats 2000000 in
theorem kernelRun (c : Dev nD) (X0 : Buf (Elt F) ((c : Thread nD τ).loc main_v0)) (X1 : Buf (Elt F) ((c : Thread nD τ).loc main_arg1)) (X2 : Buf (Elt F) ((c : Thread nD τ).loc main_arg2)) (X3 : Buf (Elt F) ((c : Thread nD τ).loc main_arg3)) (X4 : Buf (Elt F) ((c : Thread nD τ).loc main_arg4)) (X5 : Buf (Elt F) ((c : Thread nD τ).loc main_arg5)) (X6 : Buf (Elt F) ((c : Thread nD τ).loc main_arg6)) (X7 : Buf (Elt F) ((c : Thread nD τ).loc main_arg7)) (X8 : Buf (Elt F) ((c : Thread nD τ).loc main_arg8)) (X9 : Buf (Elt F) ((c : Thread nD τ).loc main_v1)) (X10 : Buf (Elt F) ((c : Thread nD τ).loc cc0_scratch0)) (X11 : Buf (Elt F) ((c : Thread nD τ).loc cc0_scratch1)) (X12 : Buf (Elt F) ((c : Thread nD τ).loc cc0_scratch2)) (X13 : Buf (Elt F) ((c : Thread nD τ).loc cc0_scratch3)) (X14 : Buf (Elt F) ((c : Thread nD τ).loc cc0_scratch4)) (X15 : Buf (Elt F) ((c : Thread nD τ).loc cc0_scratch5)) (X16 : Buf (Elt F) ((c : Thread nD τ).loc cc0_scratch6)) (X17 : Buf (Elt F) ((c : Thread nD τ).loc cc0_scratch7)) (X18 : Buf (Elt F) ((c : Thread nD τ).loc cc0_scratch8)) (X19 : Buf (Elt F) ((c : Thread nD τ).loc cc0_scratch9)) (W : Waits sig Unit) (t : Fin cfg0.N) :
    iprop(owes (c : Thread nD τ) 0 W ∗ ((((c : Thread nD τ).loc cc0_scratch0) ↦{fullShare} X10) ∗ (((c : Thread nD τ).loc cc0_scratch1) ↦{fullShare} X11) ∗ (((c : Thread nD τ).loc cc0_scratch2) ↦{fullShare} X12) ∗ (((c : Thread nD τ).loc cc0_scratch3) ↦{fullShare} X13) ∗ (((c : Thread nD τ).loc cc0_scratch4) ↦{fullShare} X14) ∗ (((c : Thread nD τ).loc cc0_scratch5) ↦{fullShare} X15) ∗ (((c : Thread nD τ).loc cc0_scratch6) ↦{fullShare} X16) ∗ (((c : Thread nD τ).loc cc0_scratch7) ↦{fullShare} X17) ∗ (((c : Thread nD τ).loc cc0_scratch8) ↦{fullShare} X18) ∗ (((c : Thread nD τ).loc cc0_scratch9) ↦{fullShare} X19))
        ∗ cellsZero c ∗ hbm c X0 X1 X2 X3 X4 X5 X6 X7 X8 ∗ (((c : Thread nD τ).loc main_v1) ↦{fullShare} X9))
      ⊢ wp Idealize.ShloMosaic.frame (wpE (defs₀ (F := F)) Variants.none (c : Thread nD τ) none) Set.univ (bodyAt0 t)
          (fun _ => iprop((∃ W, owes (c : Thread nD τ) 0 W) ∗ scratch c ∗ cellsZero c
            ∗ hbm c X0 X1 X2 X3 X4 X5 X6 X7 X8 ∗ (((c : Thread nD τ).loc main_v1) ↦{fullShare} result c X0 X1 X2 X3 X4 X5 X6 X7 X8 X9 X10 X11 X12 X13 X14 X15 X16 X17 X18 X19))) := by
  have hb := body_whole M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) cc0_scratch10 cc0_scratch11 cc0_scratch12 cc0_scratch13 c X0 X1 X2 X3 X4 X5 X6 X7 X8 X9 X10 X11 X12 X13 X14 X15 X16 X17 X18 X19 (View.set_whole _) (View.set_whole _) (View.set_whole _) (View.set_whole _) (View.set_whole _) (View.set_whole _) (View.set_whole _) (View.set_whole _) (View.set_whole _) (View.set_whole _) (View.set_whole _) (View.set_whole _) (View.set_whole _) (View.set_whole _) (View.set_whole _) (View.set_whole _) (View.set_whole _) W
  refine BIBase.Entails.trans ?_ (hb.trans (wp_mono _ _ _ fun _ => ?_))
  · iintro ⟨HW, ⟨H10, H11, H12, H13, H14, H15, H16, H17, H18, H19⟩, ⟨Hring, S0, S1, S2, S3, S4, S5, S6, S7⟩, ⟨H0, H1, H2, H3, H4, H5, H6, H7, H8⟩, H9⟩
    isplitl [HW]
    · iexact HW
    isplitl [H0 H2 H3 H4 H6 H7 H8]
    · isplitl [H0]; · iexact H0
      isplitl [H2]; · iexact H2
      isplitl [H3]; · iexact H3
      isplitl [H4]; · iexact H4
      isplitl [H6]; · iexact H6
      isplitl [H7]; · iexact H7
      iexact H8
    isplitl [H9]
    · iexact H9
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [Hring H10 H1 H5]
    · iapply (idle_all c X1 X5 X10)
      isplitl [Hring]; · iexact Hring
      isplitl [H10]; · iexact H10
      isplitl [H1]; · iexact H1
      iexact H5
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [S6]
    · iexact S6
    iexact S7
  · unfold result
    iintro ⟨HW, ⟨H0, H2, H3, H4, H6, H7, H8⟩, H9, H11, H12, H13, H14, H15, H16, H17, H18, H19, HR, ⟨S0, S1, S2, S3, S4, S5⟩, S6, S7⟩
    ihave HL := (landed_all (F := F) c X1 X5) $$ HR
    icases HL with ⟨Hring, H10, H1, H5⟩
    isplitl [HW]
    · iexact HW
    isplitl [H10 H11 H12 H13 H14 H15 H16 H17 H18 H19]
    · isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    isplitl [Hring S0 S1 S2 S3 S4 S5 S6 S7]
    · isplitl [Hring]
      · iexact Hring
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact H9

/-! ## The operands in memory -/

/-- The unscoped buffers the body reads. -/
def H0 : Finset (Ref sig .tc) := {main_v0, main_arg1, main_arg2, main_arg3, main_arg4, main_arg5, main_arg6, main_arg7, main_arg8}
/-- The unscoped buffer the body writes. -/
def R0 : Finset (Ref sig .tc) := {main_v1}
theorem H0_sub : H0 ⊆ Pipeline.restRefs sig cfg0.spec := by decide
theorem R0_sub : R0 ⊆ Pipeline.restRefs sig cfg0.spec \ H0 := by decide

theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

theorem hbm_eq (c : Dev nD) :
    (bigSep H0 (fun b => ((c : Thread nD τ).loc b) ↦{fullShare} Gen.V m c b) : sProp 𝕄)
      = hbm c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8) := by
  rw [BI.bigSep_eq_bigSepL_of_eq [main_v0, main_arg1, main_arg2, main_arg3, main_arg4, main_arg5, main_arg6, main_arg7, main_arg8] (by decide) (by decide)]; rfl
theorem owned_eq (c : Dev nD) :
    (Pipeline.owned R0 c : sProp 𝕄) = iprop(∃ f : Buf (Elt F) ((c : Thread nD τ).loc main_v1), ((c : Thread nD τ).loc main_v1) ↦{fullShare} f) := by
  unfold Pipeline.owned; rw [BI.bigSep_eq_bigSepL_of_eq [main_v1] (by decide) (by decide)]; rfl

theorem held_eq (c : Dev nD) :
    (Pipeline.ΦDR cells cfg0.spec H0 R0 (Gen.V m) c : sProp 𝕄)
      = iprop(scratch c ∗ (∃ r, prngReg c r) ∗ cellsZero c ∗ hbm c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8)
          ∗ (∃ f : Buf (Elt F) ((c : Thread nD τ).loc main_v1), ((c : Thread nD τ).loc main_v1) ↦{fullShare} f)) := by
  rw [Pipeline.ΦDR_eq, scopedRest0_eq, cells_eq, hbm_eq, owned_eq]

def dats (_ : Fin 1) (c : Dev nD) : Dat τ (Elt F) Unit ℕ (Pipeline.UD sig nD τ) ℕ cfg0 c where
  A w := w.elim0
  after w t := w.elim0
  Φ _ := Pipeline.ΦDR cells cfg0.spec H0 R0 (Gen.V m) c
  q _ := fullShare
  owed _ := 0

set_option maxHeartbeats 2000000 in
theorem sound_body (c : Dev nD) (t : Fin cfg0.N) :
    iprop((dats m 0 c).Φ t.castSucc ∗ (dats m 0 c).owesAt () t.castSucc)
      ⊢ wp Idealize.ShloMosaic.frame (wpE (defs₀ (F := F)) Variants.none (c : Thread nD τ) none) Set.univ (bodyAt0 t)
          (fun _ => iprop((dats m 0 c).Φ t.succ ∗ (dats m 0 c).owesAt () t.succ)) := by
  rw [show (dats m 0 c).Φ t.succ = Pipeline.ΦDR cells cfg0.spec H0 R0 (Gen.V m) c from rfl,
    show (dats m 0 c).Φ t.castSucc = Pipeline.ΦDR cells cfg0.spec H0 R0 (Gen.V m) c from rfl, held_eq]
  unfold Dat.owesAt Pipeline.owesWithin
  rw [show (dats m 0 c).owed t.castSucc = 0 from rfl, show (dats m 0 c).owed t.succ = 0 from rfl]
  iintro ⟨⟨⟨⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩, Hg, Hc, Hh, ⟨%X9, H9⟩⟩, ⟨%W, -, HW⟩⟩
  iapply (wp_framed (F := F) (R := iprop(∃ r, prngReg c r)) (kernelRun c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8) X9 X10 X11 X12 X13 X14 X15 X16 X17 X18 X19 W t) (fun _ => ?_))
  rotate_left
  · isplitr [Hg]
    · isplitl [HW]; · iexact HW
      isplitl [H10 H11 H12 H13 H14 H15 H16 H17 H18 H19]
      · isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [Hc]; · iexact Hc
      isplitl [Hh]; · iexact Hh
      iexact H9
    · iexact Hg
  iintro ⟨⟨⟨%W', HW⟩, Hs, Hc, Hh, H9⟩, Hg⟩
  isplitl [Hs Hg Hc Hh H9]
  · isplitl [Hs]; · iexact Hs
    isplitl [Hg]; · iexact Hg
    isplitl [Hc]; · iexact Hc
    isplitl [Hh]; · iexact Hh
    iexists _; iexact H9
  iexists W'; isplitr; · ipureintro; exact fun _ _ => Or.inl trivial
  iexact HW

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [body_row]
  refine triple_restated (sound_body m c t) rfl ?_ fun _ => ?_
  · iintro ⟨H, HW, -⟩
    isplitl [H]; · iexact H
    iexact HW
  · iintro ⟨H, HW⟩
    isplitl [H]; · iexact H
    isplitl [HW]; · iexact HW
    rw [show (Finset.univ : Finset (Fin cfg0.W)) = ∅ from rfl, bigSep_empty]
    iempintro

set_option backward.isDefEq.respectTransparency.types false in
theorem run_main : θ_run defs (onTc (τ := τ) (main (F := F))) (s₀ m ρ) (fun r => Pipeline.FramePostR cfgs (dats m) 0 R0 (Gen.V m) r ∧ r.2.sem = fun _ => 0) :=
  Pipeline.θ_run_frame_dmaR (Q' := _) cfgs (dats m) (0 : Fin 1) launch0 cells defs₀ Variants.none cells_facts H0 R0 H0_sub R0_sub m ρ main
    (hbody := fun c => (body_obligation m c).loose) (hshare := fun c => (dats m 0 c).share_full fun _ => rfl)
    (howed := fun _ _ => rfl) (V := Gen.V m) (hmain := hmain m Variants.none) (hA := fun _ w => w.elim0)
    (hin := fun _ => .rfl) (hout := fun _ => .rfl)

/-- The program runs, leaves its arguments as they were, and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
    ((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    ((h.1 c).2 main_arg8 (Finset.mem_sdiff.mpr ⟨Pipeline.mem_restRefs_of main_arg8 (by decide) (by decide), by decide⟩)).trans (V_main_arg8 m c)⟩, h.2⟩) (run_main m ρ)

end Cert.Kernel

end
-- ==== Proof.KernelIdeal.Trip.lean ====
/-
  One trip of the inner loop: start the copies of the step three ahead, wait for the copies of this step, and feed the
  four groups of the step to the two matrix units.
-/
module

public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Mxu.Lemmas

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Offsets of the windows of one step -/

theorem off46_eq : ∀ (t2 : Fin k0_t2_loop.trips) (t3 : Fin k0_t3_loop.trips), k0_cond1 t2 t3 = 1#1 → k0_off46 t2 t3 = ![0, (5 * t2.val + t3.val + 3) / 5, 512 * ((5 * t2.val + t3.val + 3) % 5), 0] := by decide +kernel
theorem off49_eq : ∀ (t2 : Fin k0_t2_loop.trips) (t3 : Fin k0_t3_loop.trips), k0_cond1 t2 t3 = 1#1 → k0_off49 t2 t3 = ![1, (5 * t2.val + t3.val + 3) / 5, 512 * ((5 * t2.val + t3.val + 3) % 5), 0] := by decide +kernel
theorem off47_eq : ∀ (t2 : Fin k0_t2_loop.trips) (t3 : Fin k0_t3_loop.trips), k0_cond1 t2 t3 = 1#1 → k0_off47 t2 t3 = ![512 * ((5 * t2.val + t3.val + 3) % 5), 256 * ((5 * t2.val + t3.val + 3) / 5)] := by decide +kernel
theorem off51_eq : ∀ (t2 : Fin k0_t2_loop.trips) (t3 : Fin k0_t3_loop.trips), k0_off51 t2 t3 = ![0, t2.val, 512 * t3.val, 0] := by decide +kernel
theorem off54_eq : ∀ (t2 : Fin k0_t2_loop.trips) (t3 : Fin k0_t3_loop.trips), k0_off54 t2 t3 = ![1, t2.val, 512 * t3.val, 0] := by decide +kernel
theorem off52_eq : ∀ (t2 : Fin k0_t2_loop.trips) (t3 : Fin k0_t3_loop.trips), k0_off52 t2 t3 = ![512 * t3.val, 256 * t2.val] := by decide +kernel
theorem cond1_iff : ∀ (t2 : Fin k0_t2_loop.trips) (t3 : Fin k0_t3_loop.trips), k0_cond1 t2 t3 = 1#1 ↔ 5 * t2.val + t3.val + 3 < 20 := by decide +kernel

instance closedOff_off51 (t2 : Fin k0_t2_loop.trips) (t3 : Fin k0_t3_loop.trips) : ClosedOff (k0_off51 t2 t3) := ⟨_, off51_eq t2 t3⟩
instance closedOff_off54 (t2 : Fin k0_t2_loop.trips) (t3 : Fin k0_t3_loop.trips) : ClosedOff (k0_off54 t2 t3) := ⟨_, off54_eq t2 t3⟩

/-! ## The windows a copy goes between, and its semaphore -/

section Windows

variable (arg10 : Memref sig .tc .vmem S2x4x2560x256 .i32) (arg20 : DmaSems sig S20x2)

/-- 512 rows of the block buffer, from the offset. -/
def slotW (off : Fin 4 → ℕ) (h : ∀ a, off a + S1x1x512x256.size a ≤ S2x4x2560x256.size a) : Memref sig .tc .vmem S512x256 .i32 :=
  (arg10.slice (Rect.unit (s := S2x4x2560x256) off S1x1x512x256.size h) (fun _ => rfl)).squeeze S512x256 squeezes_S1x1x512x256_S512x256

/-- 512 × 256 words of a weight array, from the offset. -/
def srcW (arg : Memref sig .tc .hbm S2560x1024 .i32) (off : Fin 2 → ℕ) (h : ∀ a, off a + S512x256.size a ≤ S2560x1024.size a) : Memref sig .tc .hbm S512x256 .i32 :=
  arg.slice (Rect.unit (s := S2560x1024) off S512x256.size h) (fun _ => rfl)

/-- One semaphore of the ring. -/
def cellW (off : Fin 2 → ℕ) (h : ∀ a, off a + S1x1.size a ≤ S20x2.size a) : DmaSems sig S_ :=
  (arg20.slice (Rect.unit (s := S20x2) off S1x1.size h)).squeeze S_ squeezes_S1x1_S_

/-- The window of a weight array, held. -/
abbrev srcAt (c : Dev nD) (arg : Memref sig .tc .hbm S2560x1024 .i32) (X : BufTy.Contents (Elt F) arg.view.ty) (off : Fin 2 → ℕ) (h : ∀ a, off a + S512x256.size a ≤ S2560x1024.size a) : sProp 𝕄 :=
  iprop((srcW arg off h).view.loc (c : Thread nD τ) ↦[(srcW arg off h).view.set]{fullShare} X)

/-- The window of the block buffer, held. -/
abbrev slotAt (c : Dev nD) (f : BufTy.Contents (Elt F) arg10.view.ty) (off : Fin 4 → ℕ) (h : ∀ a, off a + S1x1x512x256.size a ≤ S2x4x2560x256.size a) : sProp 𝕄 :=
  iprop((slotW arg10 off h).view.loc (c : Thread nD τ) ↦[(slotW arg10 off h).view.set]{fullShare} f)

/-- The window of the block buffer, holding what the copy brought. -/
abbrev landedAt (c : Dev nD) (arg : Memref sig .tc .hbm S2560x1024 .i32) (X : BufTy.Contents (Elt F) arg.view.ty)
    (off : Fin 4 → ℕ) (h : ∀ a, off a + S1x1x512x256.size a ≤ S2x4x2560x256.size a) (off' : Fin 2 → ℕ) (h' : ∀ a, off' a + S512x256.size a ≤ S2560x1024.size a) : sProp 𝕄 :=
  iprop((slotW arg10 off h).view.loc (c : Thread nD τ) ↦[(slotW arg10 off h).view.set]{fullShare}
    (slotW arg10 off h).view.writes (Elt F) (slotW arg10 off h).view.junk [⟨Rect.whole _, ReadAs.same.apply ((srcW arg off' h').view.read (Elt F) X)⟩])

/-- A copy under way. -/
abbrev flightAt (c : Dev nD) (arg : Memref sig .tc .hbm S2560x1024 .i32) (X : BufTy.Contents (Elt F) arg.view.ty) (X10 : BufTy.Contents (Elt F) arg10.view.ty)
    (offc : Fin 2 → ℕ) (hc : ∀ a, offc a + S1x1.size a ≤ S20x2.size a)
    (off : Fin 4 → ℕ) (h : ∀ a, off a + S1x1x512x256.size a ≤ S2x4x2560x256.size a) (off' : Fin 2 → ℕ) (h' : ∀ a, off' a + S512x256.size a ≤ S2560x1024.size a) : sProp 𝕄 :=
  Transfers.Flight (countersEmb (U := Pipeline.UD sig nD τ)) (c : Thread nD τ) (.dma (cellW arg20 offc hc).sem) () (slotW arg10 off h).view.dmaCredit
    iprop(((slotW arg10 off h).view.loc (c : Thread nD τ) ↦[(slotW arg10 off h).view.set]{fullShare}
      (slotW arg10 off h).view.writes (Elt F) X10 [⟨Rect.whole _, ReadAs.same.apply ((srcW arg off' h').view.read (Elt F) X)⟩]) ∗ srcAt c arg X off' h')

/-- A semaphore of the ring at zero. -/
abbrev cellAt (c : Dev nD) (offc : Fin 2 → ℕ) (hc : ∀ a, offc a + S1x1.size a ≤ S20x2.size a) : sProp 𝕄 :=
  semVal ((c : Thread nD τ), .dma (cellW arg20 offc hc).sem) 0

end Windows

/-! ## The trip -/

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- What the arithmetic of a trip reads. -/
abbrev Held (c : Dev nD) (X14 : BufTy.Contents (Elt F) arg14.view.ty) (X15 : BufTy.Contents (Elt F) arg15.view.ty) (X16 : BufTy.Contents (Elt F) arg16.view.ty) : sProp 𝕄 :=
  iprop((arg14.view.loc (c : Thread nD τ) ↦[arg14.view.set]{fullShare} X14) ∗ (arg15.view.loc (c : Thread nD τ) ↦[arg15.view.set]{fullShare} X15)
    ∗ (arg16.view.loc (c : Thread nD τ) ↦[arg16.view.set]{fullShare} X16))

/-- The start of the copies of the step three ahead. -/
abbrev issueCall (t2 : Fin k0_t2_loop.trips) (t3 : Fin k0_t3_loop.trips) (a24 : BitVec 32) :=
  k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3

set_option maxHeartbeats 2000000 in
/-- When there is a step three ahead, both its copies are started. -/
theorem issue_some (c : Dev nD) (X1 : BufTy.Contents (Elt F) arg1.view.ty) (X5 : BufTy.Contents (Elt F) arg5.view.ty) (X10 : BufTy.Contents (Elt F) arg10.view.ty)
    (t2 : Fin k0_t2_loop.trips) (t3 : Fin k0_t3_loop.trips) (a24 : BitVec 32) (h : k0_cond1 t2 t3 = 1#1) :
    iprop((cellAt arg20 c (k0_off45 t2 t3) (k0_off45_inb t2 t3 h) ∗ slotAt arg10 c X10 (k0_off46 t2 t3) (k0_off46_inb t2 t3 h) ∗ srcAt c arg1 X1 (k0_off47 t2 t3) (k0_off47_inb t2 t3 h))
        ∗ (cellAt arg20 c (k0_off48 t2 t3) (k0_off48_inb t2 t3 h) ∗ slotAt arg10 c X10 (k0_off49 t2 t3) (k0_off49_inb t2 t3 h) ∗ srcAt c arg5 X5 (k0_off47 t2 t3) (k0_off47_inb t2 t3 h)))
      ⊢ wp Idealize.ShloMosaic.frame (wpE (defs₀ (F := F)) Variants.none (c : Thread nD τ) none) Set.univ
          (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3)
          (fun _ => iprop(flightAt arg10 arg20 c arg1 X1 X10 (k0_off45 t2 t3) (k0_off45_inb t2 t3 h) (k0_off46 t2 t3) (k0_off46_inb t2 t3 h) (k0_off47 t2 t3) (k0_off47_inb t2 t3 h)
            ∗ flightAt arg10 arg20 c arg5 X5 X10 (k0_off48 t2 t3) (k0_off48_inb t2 t3 h) (k0_off49 t2 t3) (k0_off49_inb t2 t3 h) (k0_off47 t2 t3) (k0_off47_inb t2 t3 h))) := by
  iintro ⟨⟨Hc0, Hd0, Hs0⟩, ⟨Hc1, Hd1, Hs1⟩⟩
  rw [k0_part20_eq_skeleton]
  unfold k0_part20_skel
  sl_exec
  sl_step
  isplitl [Hc0]; · iexact Hc0
  iexact Hc1

/-- When there is none, nothing is started. -/
theorem issue_none (c : Dev nD) (t2 : Fin k0_t2_loop.trips) (t3 : Fin k0_t3_loop.trips) (a24 : BitVec 32) (h : ¬ k0_cond1 t2 t3 = 1#1) (R : sProp 𝕄) :
    R
      ⊢ wp Idealize.ShloMosaic.frame (wpE (defs₀ (F := F)) Variants.none (c : Thread nD τ) none) Set.univ
          (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3)
          (fun _ => R) := by
  iintro H
  rw [k0_part20_eq_skeleton]
  unfold k0_part20_skel
  sl_exec
  sl_step
  iexact H

set_option maxHeartbeats 2000000 in
/-- One trip from any state of the matrix units whose staging registers are empty: `R` is what starting the copies of the
    step three ahead takes, `R'` what it leaves. -/
@[irreducible] def trip (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips)
    (gmr : Fin 2 → Option (Mxu.Staged F)) (acc : Fin 2 → Fin 1024 → Fin 256 → F .f32) (live : Fin 2 → Fin 1024 → Bool)
    (clean : ∀ q R C, live q R = false → acc q R C = FloatOps.ofBits .f32 0) :
    {m' : Mxu F // ∀ (W : Waits sig Unit) (R R' : sProp 𝕄) (X10 : BufTy.Contents (Elt F) arg10.view.ty) (v10197 : FVec F S8x256 .f32) (z o a24 a : BitVec 32) (m8 : Mxu F),
      (R ⊢ wp Idealize.ShloMosaic.frame (wpE (defs₀ (F := F)) Variants.none (c : Thread nD τ) none) Set.univ
          (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3) (fun _ => R')) →
      iprop(owes (c : Thread nD τ) 0 W ∗ Held arg14 arg15 arg16 c X14 X15 X16 ∗ R
          ∗ flightAt arg10 arg20 c arg1 X1 X10 (k0_off50 t2 t3) (k0_off50_inb t2 t3) (k0_off51 t2 t3) (k0_off51_inb t2 t3) (k0_off52 t2 t3) (k0_off52_inb t2 t3)
          ∗ flightAt arg10 arg20 c arg5 X5 X10 (k0_off53 t2 t3) (k0_off53_inb t2 t3) (k0_off54 t2 t3) (k0_off54_inb t2 t3) (k0_off52 t2 t3) (k0_off52_inb t2 t3))
      ⊢ wp Idealize.ShloMosaic.frame (wpE (defs₀ (F := F)) Variants.none (c : Thread nD τ) none) Set.univ
          (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v10075 v10197 z o t2 m8 a24 t3 (a, ⟨fun _ _ => none, gmr, acc, live, clean⟩))
          (fun r => iprop(⌜r = (0#32, m')⌝ ∗ (∃ W, owes (c : Thread nD τ) 0 W) ∗ Held arg14 arg15 arg16 c X14 X15 X16 ∗ R'
            ∗ (cellAt arg20 c (k0_off50 t2 t3) (k0_off50_inb t2 t3) ∗ landedAt arg10 c arg1 X1 (k0_off51 t2 t3) (k0_off51_inb t2 t3) (k0_off52 t2 t3) (k0_off52_inb t2 t3) ∗ srcAt c arg1 X1 (k0_off52 t2 t3) (k0_off52_inb t2 t3))
            ∗ (cellAt arg20 c (k0_off53 t2 t3) (k0_off53_inb t2 t3) ∗ landedAt arg10 c arg5 X5 (k0_off54 t2 t3) (k0_off54_inb t2 t3) (k0_off52 t2 t3) (k0_off52_inb t2 t3) ∗ srcAt c arg5 X5 (k0_off52 t2 t3) (k0_off52_inb t2 t3)))) } := by
  have h2 : t2.val < 4 := t2.isLt
  have h3 : t3.val < 5 := t3.isLt
  refine ⟨?_, fun W R R' X10 v10197 z o a24 a m8 hcut => ?run⟩
  case run =>
    iintro ⟨HO, ⟨H14, H15, H16⟩, HR, Hf0, Hf1⟩
    unfold k0_t3_body
    sl_exec
    sl_step
    sl_close

end Cert.KernelIdeal

end
-- ==== Proof.KernelIdeal.Feeds.lean ====
/-
  What one trip of the inner loop does to the two matrix units: forty products, each of a tile of x by a tile of weights,
  pushed and accumulated one after the other.
-/
module

public import proofs.«01_k».proof.Proof.KernelIdeal.Trip

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One product: the unit, its register, the address, the rows of x and the tile of weights. -/
structure Feed (F : FTy → Type) where
  q : Fin 2
  r : Fin 2
  A : ℕ
  lhs : FVec F S16x256 .bf16
  tile : FVec F S256x256 .bf16
  fits : Mxu.Fits A 16

/-- A unit's state after the product. -/
def Feed.go (m : Mxu F) (f : Feed F) : Mxu F := (m.pushed f.q f.r false f.tile).accLhs f.q f.r f.A f.lhs f.fits

theorem Feed.go_reg (m : Mxu F) (f : Feed F) (h : m.reg = fun _ _ => none) : (f.go m).reg = fun _ _ => none := by
  funext q r
  show (if q = f.q ∧ r = f.r then none else (m.pushed f.q f.r false f.tile).reg q r) = none
  split
  · rfl
  · rename_i hne
    rw [Mxu.reg_pushed_ne _ _ _ _ _ _ _ hne, h]

theorem Feed.go_live (m : Mxu F) (f : Feed F) (q : Fin 2) (R : Fin 1024) (hR : 4 * f.A + 16 ≤ R.val) : (f.go m).live q R = m.live q R := by
  show (if q = f.q ∧ 4 * f.A ≤ R.val ∧ R.val < 4 * f.A + 16 then true else (m.pushed f.q f.r false f.tile).live q R) = _
  rw [if_neg (by omega), Mxu.live_pushed]

theorem Feed.goes_reg (l : List (Feed F)) : ∀ (m : Mxu F), (m.reg = fun _ _ => none) → (l.foldl Feed.go m).reg = fun _ _ => none := by
  induction l with
  | nil => intro m h; exact h
  | cons f l ih => intro m h; exact ih _ (f.go_reg m h)

theorem Feed.goes_live (l : List (Feed F)) (q : Fin 2) (R : Fin 1024) (hR : 48 ≤ R.val) (hl : ∀ f ∈ l, f.A ≤ 8) :
    ∀ (m : Mxu F), (l.foldl Feed.go m).live q R = m.live q R := by
  induction l with
  | nil => intro m; rfl
  | cons f l ih =>
    intro m
    have h1 := hl f (List.mem_cons_self ..)
    exact (ih (fun g hg => hl g (List.mem_cons_of_mem _ hg)) _).trans (f.go_live m q R (by omega))

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The rows of x that the products of views 0 and 1 take: group g of the step, half h. -/
def xaOf (X15 : BufTy.Contents (Elt F) arg15.view.ty) (t3 : Fin k0_t3_loop.trips) (g h : BitVec 32) (hh : ∀ a, (k0_off75 t3 g h) a + S16x256.size a ≤ S16x10240.size a) : FVec F S16x256 .bf16 :=
  View.readAt (Elt F) arg15.view (Rect.unit (s := S16x10240) (k0_off75 t3 g h) S16x256.size hh).toLoadRect X15

/-- The rows of x that the products of view 2 take. -/
def xcOf (X16 : BufTy.Contents (Elt F) arg16.view.ty) (t3 : Fin k0_t3_loop.trips) (g : BitVec 32) (hh : ∀ a, (k0_off78 t3 g) a + S16x256.size a ≤ S16x5120.size a) : FVec F S16x256 .bf16 :=
  View.readAt (Elt F) arg16.view (Rect.unit (s := S16x5120) (k0_off78 t3 g) S16x256.size hh).toLoadRect X16

/-- The forty products of a step. -/
def feeds (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) : List (Feed F) := [
    ⟨0, 0, 0, xaOf arg15 X15 t3 0#32 0#32 (k0_off75_inb t3 0 0),
      k0_pay97 (trip.sl.v10609_r0 arg14 X14 v10075 t2 t3) (trip.sl.v10685_r0 arg14 X14 v10075 t2 t3) (trip.sl.v10755_r0 arg1 arg10 X1 t2 t3), fits_0_16⟩,
    ⟨1, 0, 0, xaOf arg15 X15 t3 0#32 0#32 (k0_off75_inb t3 0 0),
      k0_pay98 (trip.sl.v10647_r0 arg14 X14 v10075 t2 t3) (trip.sl.v10723_r0 arg14 X14 v10075 t2 t3) (trip.sl.v10766_r0 arg5 arg10 X5 t2 t3), fits_0_16⟩,
    ⟨0, 1, 4, xaOf arg15 X15 t3 0#32 0#32 (k0_off75_inb t3 0 0),
      k0_pay99 (trip.sl.v10624_r0 arg14 X14 v10075 t2 t3) (trip.sl.v10700_r0 arg14 X14 v10075 t2 t3) (trip.sl.v10755_r0 arg1 arg10 X1 t2 t3), fits_4_16⟩,
    ⟨1, 1, 4, xaOf arg15 X15 t3 0#32 0#32 (k0_off75_inb t3 0 0),
      k0_pay101 (trip.sl.v10662_r0 arg14 X14 v10075 t2 t3) (trip.sl.v10738_r0 arg14 X14 v10075 t2 t3) (trip.sl.r_4 arg5 arg10 X5 t2 t3) 3#32, fits_4_16⟩,
    ⟨0, 0, 0, xaOf arg15 X15 t3 0#32 64#32 (k0_off75_inb t3 0 1),
      k0_pay102 (trip.sl.v10609_r0 arg14 X14 v10075 t2 t3) (trip.sl.v10685_r0 arg14 X14 v10075 t2 t3) (trip.sl.v10808_r0 arg1 arg10 X1 t2 t3), fits_0_16⟩,
    ⟨1, 0, 0, xaOf arg15 X15 t3 0#32 64#32 (k0_off75_inb t3 0 1),
      k0_pay103 (trip.sl.v10647_r0 arg14 X14 v10075 t2 t3) (trip.sl.v10723_r0 arg14 X14 v10075 t2 t3) (trip.sl.v10819_r0 arg5 arg10 X5 t2 t3), fits_0_16⟩,
    ⟨0, 1, 4, xaOf arg15 X15 t3 0#32 64#32 (k0_off75_inb t3 0 1),
      k0_pay104 (trip.sl.v10624_r0 arg14 X14 v10075 t2 t3) (trip.sl.v10700_r0 arg14 X14 v10075 t2 t3) (trip.sl.v10808_r0 arg1 arg10 X1 t2 t3), fits_4_16⟩,
    ⟨1, 1, 4, xaOf arg15 X15 t3 0#32 64#32 (k0_off75_inb t3 0 1),
      k0_pay105 (trip.sl.v10662_r0 arg14 X14 v10075 t2 t3) (trip.sl.v10738_r0 arg14 X14 v10075 t2 t3) (trip.sl.v10819_r0 arg5 arg10 X5 t2 t3), fits_4_16⟩,
    ⟨0, 0, 8, xcOf arg16 X16 t3 0#32 (k0_off78_inb t3 0),
      k0_pay106 (trip.sl.v10632_r0 arg14 X14 t2 t3) (trip.sl.v10708_r0 arg14 X14 t2 t3) (trip.sl.v10859_r0 arg1 arg10 X1 t2 t3), fits_8_16⟩,
    ⟨1, 0, 8, xcOf arg16 X16 t3 0#32 (k0_off78_inb t3 0),
      k0_pay107 (trip.sl.v10670_r0 arg14 X14 t2 t3) (trip.sl.v10746_r0 arg14 X14 t2 t3) (trip.sl.v10871_r0 arg5 arg10 X5 t2 t3), fits_8_16⟩,
    ⟨0, 0, 0, xaOf arg15 X15 t3 1#32 0#32 (k0_off75_inb t3 1 0),
      k0_pay128 (trip.sl.r_14 arg14 X14 v10075 t2 t3) (trip.sl.v10975_r0 arg14 X14 v10075 t2 t3) (trip.sl.v11045_r0 arg1 arg10 X1 t2 t3), fits_0_16⟩,
    ⟨1, 0, 0, xaOf arg15 X15 t3 1#32 0#32 (k0_off75_inb t3 1 0),
      k0_pay129 (trip.sl.v10937_r0 arg14 X14 v10075 t2 t3) (trip.sl.v11013_r0 arg14 X14 v10075 t2 t3) (trip.sl.v11056_r0 arg5 arg10 X5 t2 t3), fits_0_16⟩,
    ⟨0, 1, 4, xaOf arg15 X15 t3 1#32 0#32 (k0_off75_inb t3 1 0),
      trip.sl.r_20 arg1 arg10 arg14 X1 X14 v10075 t2 t3, fits_4_16⟩,
    ⟨1, 1, 4, xaOf arg15 X15 t3 1#32 0#32 (k0_off75_inb t3 1 0),
      k0_pay131 (trip.sl.v10952_r0 arg14 X14 v10075 t2 t3) (trip.sl.v11028_r0 arg14 X14 v10075 t2 t3) (trip.sl.v11056_r0 arg5 arg10 X5 t2 t3), fits_4_16⟩,
    ⟨0, 0, 0, xaOf arg15 X15 t3 1#32 64#32 (k0_off75_inb t3 1 1),
      k0_pay132 (trip.sl.r_14 arg14 X14 v10075 t2 t3) (trip.sl.v10975_r0 arg14 X14 v10075 t2 t3) (trip.sl.v11098_r0 arg1 arg10 X1 t2 t3), fits_0_16⟩,
    ⟨1, 0, 0, xaOf arg15 X15 t3 1#32 64#32 (k0_off75_inb t3 1 1),
      k0_pay134 (trip.sl.v10937_r0 arg14 X14 v10075 t2 t3) (trip.sl.v11013_r0 arg14 X14 v10075 t2 t3) (trip.sl.r_25 arg5 arg10 X5 t2 t3), fits_0_16⟩,
    ⟨0, 1, 4, xaOf arg15 X15 t3 1#32 64#32 (k0_off75_inb t3 1 1),
      k0_pay135 (trip.sl.v10914_r0 arg14 X14 v10075 t2 t3) (trip.sl.v10990_r0 arg14 X14 v10075 t2 t3) (trip.sl.v11098_r0 arg1 arg10 X1 t2 t3), fits_4_16⟩,
    ⟨1, 1, 4, xaOf arg15 X15 t3 1#32 64#32 (k0_off75_inb t3 1 1),
      k0_pay136 (trip.sl.v10952_r0 arg14 X14 v10075 t2 t3) (trip.sl.v11028_r0 arg14 X14 v10075 t2 t3) (trip.sl.v11109_r0 arg5 arg10 X5 t2 t3), fits_4_16⟩,
    ⟨0, 0, 8, xcOf arg16 X16 t3 1#32 (k0_off78_inb t3 1),
      k0_pay138 (trip.sl.v10922_r0 arg14 X14 t2 t3) (trip.sl.v10998_r0 arg14 X14 t2 t3) (trip.sl.r_30 arg1 arg10 X1 t2 t3), fits_8_16⟩,
    ⟨1, 0, 8, xcOf arg16 X16 t3 1#32 (k0_off78_inb t3 1),
      k0_pay139 (trip.sl.v10960_r0 arg14 X14 t2 t3) (trip.sl.v11036_r0 arg14 X14 t2 t3) (trip.sl.v11161_r0 arg5 arg10 X5 t2 t3), fits_8_16⟩,
    ⟨0, 0, 0, xaOf arg15 X15 t3 2#32 0#32 (k0_off75_inb t3 2 0),
      k0_pay158 (trip.sl.r_33 arg14 X14 v10075 t2 t3) (trip.sl.v11265_r0 arg14 X14 v10075 t2 t3) (trip.sl.v11335_r0 arg1 arg10 X1 t2 t3), fits_0_16⟩,
    ⟨1, 0, 0, xaOf arg15 X15 t3 2#32 0#32 (k0_off75_inb t3 2 0),
      k0_pay159 (trip.sl.v11227_r0 arg14 X14 v10075 t2 t3) (trip.sl.v11303_r0 arg14 X14 v10075 t2 t3) (trip.sl.v11346_r0 arg5 arg10 X5 t2 t3), fits_0_16⟩,
    ⟨0, 1, 4, xaOf arg15 X15 t3 2#32 0#32 (k0_off75_inb t3 2 0),
      k0_pay160 (trip.sl.v11204_r0 arg14 X14 v10075 t2 t3) (trip.sl.v11280_r0 arg14 X14 v10075 t2 t3) (trip.sl.v11335_r0 arg1 arg10 X1 t2 t3), fits_4_16⟩,
    ⟨1, 1, 4, xaOf arg15 X15 t3 2#32 0#32 (k0_off75_inb t3 2 0),
      k0_pay161 (trip.sl.v11242_r0 arg14 X14 v10075 t2 t3) (trip.sl.v11318_r0 arg14 X14 v10075 t2 t3) (trip.sl.v11346_r0 arg5 arg10 X5 t2 t3), fits_4_16⟩,
    ⟨0, 0, 0, xaOf arg15 X15 t3 2#32 64#32 (k0_off75_inb t3 2 1),
      k0_pay162 (trip.sl.r_33 arg14 X14 v10075 t2 t3) (trip.sl.v11265_r0 arg14 X14 v10075 t2 t3) (trip.sl.v11388_r0 arg1 arg10 X1 t2 t3), fits_0_16⟩,
    ⟨1, 0, 0, xaOf arg15 X15 t3 2#32 64#32 (k0_off75_inb t3 2 1),
      k0_pay163 (trip.sl.v11227_r0 arg14 X14 v10075 t2 t3) (trip.sl.v11303_r0 arg14 X14 v10075 t2 t3) (trip.sl.v11399_r0 arg5 arg10 X5 t2 t3), fits_0_16⟩,
    ⟨0, 1, 4, xaOf arg15 X15 t3 2#32 64#32 (k0_off75_inb t3 2 1),
      k0_pay164 (trip.sl.v11204_r0 arg14 X14 v10075 t2 t3) (trip.sl.v11280_r0 arg14 X14 v10075 t2 t3) (trip.sl.v11388_r0 arg1 arg10 X1 t2 t3), fits_4_16⟩,
    ⟨1, 1, 4, xaOf arg15 X15 t3 2#32 64#32 (k0_off75_inb t3 2 1),
      k0_pay165 (trip.sl.v11242_r0 arg14 X14 v10075 t2 t3) (trip.sl.v11318_r0 arg14 X14 v10075 t2 t3) (trip.sl.v11399_r0 arg5 arg10 X5 t2 t3), fits_4_16⟩,
    ⟨0, 0, 8, xcOf arg16 X16 t3 2#32 (k0_off78_inb t3 2),
      k0_pay166 (trip.sl.v11212_r0 arg14 X14 t2 t3) (trip.sl.v11288_r0 arg14 X14 t2 t3) (trip.sl.v11439_r0 arg1 arg10 X1 t2 t3), fits_8_16⟩,
    ⟨1, 0, 8, xcOf arg16 X16 t3 2#32 (k0_off78_inb t3 2),
      k0_pay167 (trip.sl.v11250_r0 arg14 X14 t2 t3) (trip.sl.r_37 arg14 X14 t2 t3) (trip.sl.v11451_r0 arg5 arg10 X5 t2 t3), fits_8_16⟩,
    ⟨0, 0, 0, xaOf arg15 X15 t3 3#32 0#32 (k0_off75_inb t3 3 0),
      k0_pay190 (trip.sl.v11479_r0 arg14 X14 v10075 t2 t3) (trip.sl.v11555_r0 arg14 X14 v10075 t2 t3) (trip.sl.v11625_r0 arg1 arg10 X1 t2 t3), fits_0_16⟩,
    ⟨1, 0, 0, xaOf arg15 X15 t3 3#32 0#32 (k0_off75_inb t3 3 0),
      k0_pay192 (trip.sl.v11517_r0 arg14 X14 v10075 t2 t3) (trip.sl.v11593_r0 arg14 X14 v10075 t2 t3) (trip.sl.r_55 arg5 arg10 X5 t2 t3), fits_0_16⟩,
    ⟨0, 1, 4, xaOf arg15 X15 t3 3#32 0#32 (k0_off75_inb t3 3 0),
      k0_pay193 (trip.sl.v11494_r0 arg14 X14 v10075 t2 t3) (trip.sl.v11570_r0 arg14 X14 v10075 t2 t3) (trip.sl.v11625_r0 arg1 arg10 X1 t2 t3), fits_4_16⟩,
    ⟨1, 1, 4, xaOf arg15 X15 t3 3#32 0#32 (k0_off75_inb t3 3 0),
      k0_pay194 (trip.sl.v11532_r0 arg14 X14 v10075 t2 t3) (trip.sl.r_52 arg14 X14 v10075 t2 t3) (trip.sl.v11636_r0 arg5 arg10 X5 t2 t3), fits_4_16⟩,
    ⟨0, 0, 0, xaOf arg15 X15 t3 3#32 64#32 (k0_off75_inb t3 3 1),
      k0_pay196 (trip.sl.v11479_r0 arg14 X14 v10075 t2 t3) (trip.sl.v11555_r0 arg14 X14 v10075 t2 t3) (trip.sl.r_60 arg1 arg10 X1 t2 t3), fits_0_16⟩,
    ⟨1, 0, 0, xaOf arg15 X15 t3 3#32 64#32 (k0_off75_inb t3 3 1),
      k0_pay197 (trip.sl.v11517_r0 arg14 X14 v10075 t2 t3) (trip.sl.v11593_r0 arg14 X14 v10075 t2 t3) (trip.sl.v11689_r0 arg5 arg10 X5 t2 t3), fits_0_16⟩,
    ⟨0, 1, 4, xaOf arg15 X15 t3 3#32 64#32 (k0_off75_inb t3 3 1),
      k0_pay198 (trip.sl.v11494_r0 arg14 X14 v10075 t2 t3) (trip.sl.v11570_r0 arg14 X14 v10075 t2 t3) (trip.sl.v11678_r0 arg1 arg10 X1 t2 t3), fits_4_16⟩,
    ⟨1, 1, 4, xaOf arg15 X15 t3 3#32 64#32 (k0_off75_inb t3 3 1),
      k0_pay200 (trip.sl.v11532_r0 arg14 X14 v10075 t2 t3) (trip.sl.r_52 arg14 X14 v10075 t2 t3) (trip.sl.r_64 arg5 arg10 X5 t2 t3), fits_4_16⟩,
    ⟨0, 0, 8, xcOf arg16 X16 t3 3#32 (k0_off78_inb t3 3),
      k0_pay202 (trip.sl.v11578_r0 arg14 X14 t2 t3) (trip.sl.r_67 arg1 arg10 arg14 X1 X14 t2 t3), fits_8_16⟩,
    ⟨1, 0, 8, xcOf arg16 X16 t3 3#32 (k0_off78_inb t3 3),
      k0_pay203 (trip.sl.v11540_r0 arg14 X14 t2 t3) (trip.sl.r_53 arg14 X14 t2 t3) (trip.sl.v11741_r0 arg5 arg10 X5 t2 t3), fits_8_16⟩]

/-- The matrix units after trip t3 of column block t2. -/
def mxAfter (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) (m : Mxu F) : Mxu F :=
  (trip (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 m.gmr m.acc m.live m.clean).1

theorem mxAfter_eq (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) (m : Mxu F) :
    mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 m
      = (feeds arg1 arg5 arg10 arg14 arg15 arg16 X1 X5 X14 X15 X16 v10075 t2 t3).foldl Feed.go ⟨fun _ _ => none, m.gmr, m.acc, m.live, m.clean⟩ := by
  unfold mxAfter trip
  simp only [trip.sl.r_1, trip.sl.r_2, trip.sl.r_3, trip.sl.r_5, trip.sl.r_6, trip.sl.r_7, trip.sl.r_9, trip.sl.r_10, trip.sl.r_11, trip.sl.r_13, trip.sl.k0_mxu13, trip.sl.k0_mxu15, trip.sl.r_17, trip.sl.k0_mxu17, trip.sl.r_18, trip.sl.k0_mxu19, trip.sl.r_21, trip.sl.k0_mxu21, trip.sl.r_22, trip.sl.r_23, trip.sl.k0_mxu23, trip.sl.k0_mxu25, trip.sl.r_26, trip.sl.r_27, trip.sl.k0_mxu27, trip.sl.r_28, trip.sl.k0_mxu29, trip.sl.r_31, trip.sl.k0_mxu31, trip.sl.r_32, trip.sl.k0_mxu33, trip.sl.r_35, trip.sl.k0_mxu35, trip.sl.r_36, trip.sl.k0_mxu37, trip.sl.r_39, trip.sl.k0_mxu39, trip.sl.r_40, trip.sl.r_41, trip.sl.k0_mxu41, trip.sl.r_43, trip.sl.k0_mxu43, trip.sl.r_44, trip.sl.r_45, trip.sl.k0_mxu45, trip.sl.r_46, trip.sl.r_47, trip.sl.k0_mxu47, trip.sl.k0_mxu49, trip.sl.r_51, trip.sl.k0_mxu51, trip.sl.k0_mxu53, trip.sl.k0_mxu55, trip.sl.r_56, trip.sl.r_57, trip.sl.k0_mxu57, trip.sl.r_58, trip.sl.k0_mxu59, trip.sl.r_61, trip.sl.k0_mxu61, trip.sl.r_62, trip.sl.r_63, trip.sl.k0_mxu63, trip.sl.r_65, trip.sl.k0_mxu65, trip.sl.k0_mxu67, trip.sl.r_68, trip.sl.r_69, trip.sl.k0_mxu69, trip.sl.k0_mxu71, trip.sl.k0_mxu73, trip.sl.k0_mxu75, trip.sl.k0_mxu77, trip.sl.k0_mxu79, trip.sl.k0_mxu81, trip.sl.k0_mxu83, trip.sl.k0_mxu85, trip.sl.k0_mxu87, trip.sl.k0_mxu89, trip.sl.k0_mxu91, feeds, Feed.go, List.foldl_cons, List.foldl_nil]
  rfl

theorem mxAfter_reg (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) (m : Mxu F) :
    (mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 m).reg = fun _ _ => none := by
  rw [mxAfter_eq]; exact Feed.goes_reg _ _ rfl

theorem mxAfter_live (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (t3 : Fin k0_t3_loop.trips) (m : Mxu F) (q : Fin 2) (R : Fin 1024) (hR : 48 ≤ R.val) :
    (mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 m).live q R = m.live q R := by
  rw [mxAfter_eq]
  refine Feed.goes_live _ q R hR ?_ _
  unfold feeds
  simp only [List.mem_cons, List.not_mem_nil, or_false, forall_eq_or_imp, forall_eq]
  omega

end Cert.KernelIdeal

end
-- ==== Proof.KernelIdeal.Ring.lean ====
/-
  The inner loop by its invariant: before trip k of column block t2 the copies of the steps before 5·t2 + k have landed,
  the next three are under way and the rest have not been started; the matrix units' state is the trips' before.
-/
module

public import proofs.«01_k».proof.Proof.KernelIdeal.Feeds

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The windows of step s, for array w -/

theorem cell_inb (s : Fin 20) (w : Fin 2) : ∀ a, (![s.val, w.val] : Fin 2 → ℕ) a + S1x1.size a ≤ S20x2.size a := by revert s w; decide +kernel
theorem slot_inb (s : Fin 20) (w : Fin 2) : ∀ a, (![w.val, s.val / 5, 512 * (s.val % 5), 0] : Fin 4 → ℕ) a + S1x1x512x256.size a ≤ S2x4x2560x256.size a := by revert s w; decide +kernel
theorem src_inb (s : Fin 20) : ∀ a, (![512 * (s.val % 5), 256 * (s.val / 5)] : Fin 2 → ℕ) a + S512x256.size a ≤ S2560x1024.size a := by revert s; decide +kernel

section Families

variable (arg1 : Memref sig .tc .hbm S2560x1024 .i32) (arg5 : Memref sig .tc .hbm S2560x1024 .i32) (arg10 : Memref sig .tc .vmem S2x4x2560x256 .i32) (arg20 : DmaSems sig S20x2)
  (c : Dev nD) (X1 : BufTy.Contents (Elt F) arg1.view.ty) (X5 : BufTy.Contents (Elt F) arg5.view.ty) (X10 : BufTy.Contents (Elt F) arg10.view.ty)

/-- Both copies of a step not started. -/
def idle (s : Fin 20) : sProp 𝕄 :=
  iprop((cellAt arg20 c _ (cell_inb s 0) ∗ slotAt arg10 c X10 _ (slot_inb s 0) ∗ srcAt c arg1 X1 _ (src_inb s))
    ∗ (cellAt arg20 c _ (cell_inb s 1) ∗ slotAt arg10 c X10 _ (slot_inb s 1) ∗ srcAt c arg5 X5 _ (src_inb s)))

/-- Both copies of a step under way. -/
def flying (s : Fin 20) : sProp 𝕄 :=
  iprop(flightAt arg10 arg20 c arg1 X1 X10 _ (cell_inb s 0) _ (slot_inb s 0) _ (src_inb s)
    ∗ flightAt arg10 arg20 c arg5 X5 X10 _ (cell_inb s 1) _ (slot_inb s 1) _ (src_inb s))

/-- Both copies of a step landed. -/
def landed (s : Fin 20) : sProp 𝕄 :=
  iprop((cellAt arg20 c _ (cell_inb s 0) ∗ landedAt arg10 c arg1 X1 _ (slot_inb s 0) _ (src_inb s) ∗ srcAt c arg1 X1 _ (src_inb s))
    ∗ (cellAt arg20 c _ (cell_inb s 1) ∗ landedAt arg10 c arg5 X5 _ (slot_inb s 1) _ (src_inb s) ∗ srcAt c arg5 X5 _ (src_inb s)))

/-- All copies, n steps done. -/
def ring (n : ℕ) : sProp 𝕄 :=
  iprop(bigSep (Ring.rangeSet 20 (n + 3) 20) (idle arg1 arg5 arg10 arg20 c X1 X5 X10)
    ∗ bigSep (Ring.rangeSet 20 n (n + 3)) (flying arg1 arg5 arg10 arg20 c X1 X5 X10)
    ∗ bigSep (Ring.rangeSet 20 0 n) (landed arg1 arg5 arg10 arg20 c X1 X5))

/-- What starting the copies three steps ahead takes. -/
def issueIn (n : ℕ) : sProp 𝕄 := if h : n + 3 < 20 then idle arg1 arg5 arg10 arg20 c X1 X5 X10 ⟨n + 3, h⟩ else iprop(emp)
/-- What it leaves. -/
def issueOut (n : ℕ) : sProp 𝕄 := if h : n + 3 < 20 then flying arg1 arg5 arg10 arg20 c X1 X5 X10 ⟨n + 3, h⟩ else iprop(emp)

/-- The copies but those of step n and three ahead. -/
def ringRest (n : ℕ) : sProp 𝕄 :=
  iprop(bigSep (Ring.rangeSet 20 (n + 4) 20) (idle arg1 arg5 arg10 arg20 c X1 X5 X10)
    ∗ bigSep (Ring.rangeSet 20 (n + 1) (n + 3)) (flying arg1 arg5 arg10 arg20 c X1 X5 X10)
    ∗ bigSep (Ring.rangeSet 20 0 n) (landed arg1 arg5 arg10 arg20 c X1 X5))

theorem ring_here (n : ℕ) (hn : n < 20) : ring arg1 arg5 arg10 arg20 c X1 X5 X10 n
    ⊢ iprop(issueIn arg1 arg5 arg10 arg20 c X1 X5 X10 n ∗ flying arg1 arg5 arg10 arg20 c X1 X5 X10 ⟨n, hn⟩ ∗ ringRest arg1 arg5 arg10 arg20 c X1 X5 X10 n) := by
  unfold ring ringRest issueIn
  rw [Ring.bigSep_rangeSet_head (lo := n) (hi := n + 3) (by omega) hn]
  by_cases h : n + 3 < 20
  · rw [dif_pos h, Ring.bigSep_rangeSet_head (lo := n + 3) (hi := 20) (by omega) h]
    iintro ⟨⟨H1, H2⟩, ⟨H3, H4⟩, H5⟩
    isplitl [H1]; · iexact H1
    isplitl [H3]; · iexact H3
    isplitl [H2]; · iexact H2
    isplitl [H4]; · iexact H4
    iexact H5
  · rw [dif_neg h, Ring.bigSep_rangeSet_empty (lo := n + 3) (hi := 20) (by omega), Ring.bigSep_rangeSet_empty (lo := n + 4) (hi := 20) (by omega)]
    iintro ⟨H1, ⟨H3, H4⟩, H5⟩
    isplitl []; · exact Entails.rfl
    isplitl [H3]; · iexact H3
    isplitl [H1]; · iexact H1
    isplitl [H4]; · iexact H4
    iexact H5

theorem ring_next (n : ℕ) (hn : n < 20) : iprop(issueOut arg1 arg5 arg10 arg20 c X1 X5 X10 n ∗ landed arg1 arg5 arg10 arg20 c X1 X5 ⟨n, hn⟩ ∗ ringRest arg1 arg5 arg10 arg20 c X1 X5 X10 n)
    ⊢ ring arg1 arg5 arg10 arg20 c X1 X5 X10 (n + 1) := by
  unfold ring ringRest issueOut
  rw [Ring.bigSep_rangeSet_last (lo := 0) (hi := n + 1) (by omega) (by omega)]
  by_cases h : n + 3 < 20
  · rw [dif_pos h, Ring.bigSep_rangeSet_last (lo := n + 1) (hi := n + 1 + 3) (by omega) (by omega)]
    iintro ⟨H1, H2, H3, H4, H5⟩
    isplitl [H3]; · iexact H3
    isplitl [H1 H4]
    · isplitl [H1]; · iexact H1
      iexact H4
    isplitl [H2]; · iexact H2
    iexact H5
  · rw [dif_neg h, show Ring.rangeSet 20 (n + 1) (n + 1 + 3) = Ring.rangeSet 20 (n + 1) (n + 3) from by
      ext b; rw [Ring.mem_rangeSet, Ring.mem_rangeSet]; have := b.isLt; omega]
    iintro ⟨H1, H2, H3, H4, H5⟩
    isplitl [H3]; · iexact H3
    isplitl [H4]; · iexact H4
    isplitl [H2]; · iexact H2
    iexact H5

end Families

/-! ## The trip's windows are those of its step -/

theorem flight_congr {arg : Memref sig .tc .hbm S2560x1024 .i32} {arg10 : Memref sig .tc .vmem S2x4x2560x256 .i32} {arg20 : DmaSems sig S20x2} {c : Dev nD}
    {X : BufTy.Contents (Elt F) arg.view.ty} {X10 : BufTy.Contents (Elt F) arg10.view.ty}
    {o₁ p₁ : Fin 2 → ℕ} {o₂ p₂ : Fin 4 → ℕ} {o₃ p₃ : Fin 2 → ℕ} (e₁ : o₁ = p₁) (e₂ : o₂ = p₂) (e₃ : o₃ = p₃) {h₁ h₂ h₃} {k₁ k₂ k₃} :
    flightAt (F := F) arg10 arg20 c arg X X10 o₁ h₁ o₂ h₂ o₃ h₃ = flightAt arg10 arg20 c arg X X10 p₁ k₁ p₂ k₂ p₃ k₃ := by
  subst e₁ e₂ e₃; rfl

theorem idle_congr {arg : Memref sig .tc .hbm S2560x1024 .i32} {arg10 : Memref sig .tc .vmem S2x4x2560x256 .i32} {arg20 : DmaSems sig S20x2} {c : Dev nD}
    {X : BufTy.Contents (Elt F) arg.view.ty} {X10 : BufTy.Contents (Elt F) arg10.view.ty}
    {o₁ p₁ : Fin 2 → ℕ} {o₂ p₂ : Fin 4 → ℕ} {o₃ p₃ : Fin 2 → ℕ} (e₁ : o₁ = p₁) (e₂ : o₂ = p₂) (e₃ : o₃ = p₃) {h₁ h₂ h₃} {k₁ k₂ k₃} :
    iprop(cellAt (F := F) arg20 c o₁ h₁ ∗ slotAt arg10 c X10 o₂ h₂ ∗ srcAt c arg X o₃ h₃) = iprop(cellAt arg20 c p₁ k₁ ∗ slotAt arg10 c X10 p₂ k₂ ∗ srcAt c arg X p₃ k₃) := by
  subst e₁ e₂ e₃; rfl

theorem landed_congr {arg : Memref sig .tc .hbm S2560x1024 .i32} {arg10 : Memref sig .tc .vmem S2x4x2560x256 .i32} {arg20 : DmaSems sig S20x2} {c : Dev nD}
    {X : BufTy.Contents (Elt F) arg.view.ty}
    {o₁ p₁ : Fin 2 → ℕ} {o₂ p₂ : Fin 4 → ℕ} {o₃ p₃ : Fin 2 → ℕ} (e₁ : o₁ = p₁) (e₂ : o₂ = p₂) (e₃ : o₃ = p₃) {h₁ h₂ h₃} {k₁ k₂ k₃} :
    iprop(cellAt (F := F) arg20 c o₁ h₁ ∗ landedAt arg10 c arg X o₂ h₂ o₃ h₃ ∗ srcAt c arg X o₃ h₃) = iprop(cellAt arg20 c p₁ k₁ ∗ landedAt arg10 c arg X p₂ k₂ p₃ k₃ ∗ srcAt c arg X p₃ k₃) := by
  subst e₁ e₂ e₃; rfl

theorem off51_eq' : ∀ (t2 : Fin k0_t2_loop.trips) (t3 : Fin k0_t3_loop.trips), k0_off51 t2 t3 = ![0, (5 * t2.val + t3.val) / 5, 512 * ((5 * t2.val + t3.val) % 5), 0] := by decide +kernel
theorem off54_eq' : ∀ (t2 : Fin k0_t2_loop.trips) (t3 : Fin k0_t3_loop.trips), k0_off54 t2 t3 = ![1, (5 * t2.val + t3.val) / 5, 512 * ((5 * t2.val + t3.val) % 5), 0] := by decide +kernel
theorem off52_eq' : ∀ (t2 : Fin k0_t2_loop.trips) (t3 : Fin k0_t3_loop.trips), k0_off52 t2 t3 = ![512 * ((5 * t2.val + t3.val) % 5), 256 * ((5 * t2.val + t3.val) / 5)] := by decide +kernel
theorem off45_eq' : ∀ (t2 : Fin k0_t2_loop.trips) (t3 : Fin k0_t3_loop.trips), k0_off45 t2 t3 = ![5 * t2.val + t3.val + 3, 0] := by decide +kernel
theorem off48_eq' : ∀ (t2 : Fin k0_t2_loop.trips) (t3 : Fin k0_t3_loop.trips), k0_off48 t2 t3 = ![5 * t2.val + t3.val + 3, 1] := by decide +kernel
theorem off50_eq' : ∀ (t2 : Fin k0_t2_loop.trips) (t3 : Fin k0_t3_loop.trips), k0_off50 t2 t3 = ![5 * t2.val + t3.val, 0] := by decide +kernel
theorem off53_eq' : ∀ (t2 : Fin k0_t2_loop.trips) (t3 : Fin k0_t3_loop.trips), k0_off53 t2 t3 = ![5 * t2.val + t3.val, 1] := by decide +kernel

theorem step_lt (t2 : Fin k0_t2_loop.trips) (t3 : Fin k0_t3_loop.trips) : 5 * t2.val + t3.val < 20 := by revert t2 t3; decide +kernel

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The start of the copies of the step three ahead, whether there is one or not. -/
theorem issue (c : Dev nD) (X1 : BufTy.Contents (Elt F) arg1.view.ty) (X5 : BufTy.Contents (Elt F) arg5.view.ty) (X10 : BufTy.Contents (Elt F) arg10.view.ty)
    (t2 : Fin k0_t2_loop.trips) (t3 : Fin k0_t3_loop.trips) (a24 : BitVec 32) :
    issueIn arg1 arg5 arg10 arg20 c X1 X5 X10 (5 * t2.val + t3.val)
      ⊢ wp Idealize.ShloMosaic.frame (wpE (defs₀ (F := F)) Variants.none (c : Thread nD τ) none) Set.univ
          (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 t2 a24 0#32 1#32 t3)
          (fun _ => issueOut arg1 arg5 arg10 arg20 c X1 X5 X10 (5 * t2.val + t3.val)) := by
  by_cases h : k0_cond1 t2 t3 = 1#1
  · have h' := (cond1_iff t2 t3).mp h
    have e := issue_some (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 t2 t3 a24 h
    unfold issueIn issueOut
    rw [dif_pos h']
    unfold idle
    have w1 := off45_eq' t2 t3
    have w2 := off46_eq t2 t3 h
    have w3 := off47_eq t2 t3 h
    have w4 := off48_eq' t2 t3
    have w5 := off49_eq t2 t3 h
    have I1 : iprop(cellAt (F := F) arg20 c _ (cell_inb ⟨_, h'⟩ 0) ∗ slotAt arg10 c X10 _ (slot_inb ⟨_, h'⟩ 0) ∗ srcAt c arg1 X1 _ (src_inb ⟨_, h'⟩))
        = iprop(cellAt arg20 c _ (k0_off45_inb t2 t3 h) ∗ slotAt arg10 c X10 _ (k0_off46_inb t2 t3 h) ∗ srcAt c arg1 X1 _ (k0_off47_inb t2 t3 h)) := idle_congr w1.symm w2.symm w3.symm
    have I2 : iprop(cellAt (F := F) arg20 c _ (cell_inb ⟨_, h'⟩ 1) ∗ slotAt arg10 c X10 _ (slot_inb ⟨_, h'⟩ 1) ∗ srcAt c arg5 X5 _ (src_inb ⟨_, h'⟩))
        = iprop(cellAt arg20 c _ (k0_off48_inb t2 t3 h) ∗ slotAt arg10 c X10 _ (k0_off49_inb t2 t3 h) ∗ srcAt c arg5 X5 _ (k0_off47_inb t2 t3 h)) := idle_congr w4.symm w5.symm w3.symm
    have F1 : flightAt (F := F) arg10 arg20 c arg1 X1 X10 _ (cell_inb ⟨_, h'⟩ 0) _ (slot_inb ⟨_, h'⟩ 0) _ (src_inb ⟨_, h'⟩)
        = flightAt arg10 arg20 c arg1 X1 X10 _ (k0_off45_inb t2 t3 h) _ (k0_off46_inb t2 t3 h) _ (k0_off47_inb t2 t3 h) := flight_congr w1.symm w2.symm w3.symm
    have F2 : flightAt (F := F) arg10 arg20 c arg5 X5 X10 _ (cell_inb ⟨_, h'⟩ 1) _ (slot_inb ⟨_, h'⟩ 1) _ (src_inb ⟨_, h'⟩)
        = flightAt arg10 arg20 c arg5 X5 X10 _ (k0_off48_inb t2 t3 h) _ (k0_off49_inb t2 t3 h) _ (k0_off47_inb t2 t3 h) := flight_congr w4.symm w5.symm w3.symm
    rw [I1, I2]
    simp only [dif_pos h', flying]
    rw [F1, F2]
    exact e
  · have h' : ¬ 5 * t2.val + t3.val + 3 < 20 := fun q => h ((cond1_iff t2 t3).mpr q)
    have e := issue_none (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c t2 t3 a24 h (issueIn arg1 arg5 arg10 arg20 c X1 X5 X10 (5 * t2.val + t3.val))
    have e1 : issueOut (F := F) arg1 arg5 arg10 arg20 c X1 X5 X10 (5 * t2.val + t3.val) = issueIn arg1 arg5 arg10 arg20 c X1 X5 X10 (5 * t2.val + t3.val) := by
      unfold issueIn issueOut
      rw [dif_neg h', dif_neg h']
    rw [e1]
    exact e

end Cert.KernelIdeal

end
-- ==== Proof.KernelIdeal.Loop3.lean ====
/-
  The inner loop's invariant: before trip k of column block t2 the copies stand as the ring says, and the matrix units
  are as the trips before left them.
-/
module

public import proofs.«01_k».proof.Proof.KernelIdeal.Ring

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The matrix units after k trips of column block t2. -/
def mx3 (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (m : Mxu F) : ℕ → Mxu F
  | 0 => m
  | k + 1 => if h : k < k0_t3_loop.trips then mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 ⟨k, h⟩ (mx3 c X1 X5 X14 X15 X16 v10075 t2 m k)
      else mx3 c X1 X5 X14 X15 X16 v10075 t2 m k

/-- What holds before trip k of the inner loop. -/
abbrev inv3 (c : Dev nD) (X1 : BufTy.Contents (Elt F) arg1.view.ty) (X5 : BufTy.Contents (Elt F) arg5.view.ty) (X10 : BufTy.Contents (Elt F) arg10.view.ty)
    (X14 : BufTy.Contents (Elt F) arg14.view.ty) (X15 : BufTy.Contents (Elt F) arg15.view.ty) (X16 : BufTy.Contents (Elt F) arg16.view.ty)
    (v10075 : IVec S8x256 1) (t2 : Fin k0_t2_loop.trips) (m8 : Mxu F) (k : ℕ) (acc : BitVec 32 × Mxu F) : sProp 𝕄 :=
  iprop(⌜acc.2.reg = fun _ _ => none⌝ ∗ ⌜acc = (0#32, mx3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 m8 k)⌝
    ∗ (∃ W, owes (c : Thread nD τ) 0 W) ∗ Held arg14 arg15 arg16 c X14 X15 X16 ∗ ring arg1 arg5 arg10 arg20 c X1 X5 X10 (5 * t2.val + k))

/-- A run framed by what it does not touch. -/
theorem wp_framed {α : Type} {c : Dev nD} {p : Prog (TpuEff nD τ sig (Elt F) Λ₀ .tc) α} {P R : sProp 𝕄} {Q Q' : α → sProp 𝕄}
    (T : P ⊢ wp Idealize.ShloMosaic.frame (wpE (defs₀ (F := F)) Variants.none (c : Thread nD τ) none) Set.univ p Q)
    (K : ∀ r, iprop(Q r ∗ R) ⊢ Q' r) :
    iprop(P ∗ R) ⊢ wp Idealize.ShloMosaic.frame (wpE (defs₀ (F := F)) Variants.none (c : Thread nD τ) none) Set.univ p Q' :=
  (sep_mono_l T).trans ((wp_frame_r _ _ _).trans (wp_mono _ _ _ K))

set_option maxHeartbeats 2000000 in
theorem step3 (c : Dev nD) (X1 : BufTy.Contents (Elt F) arg1.view.ty) (X5 : BufTy.Contents (Elt F) arg5.view.ty) (X10 : BufTy.Contents (Elt F) arg10.view.ty)
    (X14 : BufTy.Contents (Elt F) arg14.view.ty) (X15 : BufTy.Contents (Elt F) arg15.view.ty) (X16 : BufTy.Contents (Elt F) arg16.view.ty)
    (v10075 : IVec S8x256 1) (v10197_r0 : FVec F S8x256 .f32) (t2 : Fin k0_t2_loop.trips) (m8 : Mxu F) (a24 z o : BitVec 32)
    (t3 : Fin k0_t3_loop.trips) (acc : BitVec 32 × Mxu F) :
    inv3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 t2 m8 t3.val acc
      ⊢ wp Idealize.ShloMosaic.frame (wpE (defs₀ (F := F)) Variants.none (c : Thread nD τ) none) Set.univ
          (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v10075 v10197_r0 z o t2 m8 a24 t3 acc)
          (fun r => inv3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 t2 m8 (t3.val + 1) r) := by
  have w1 := off50_eq' t2 t3
  have w2 := off51_eq' t2 t3
  have w3 := off52_eq' t2 t3
  have w4 := off53_eq' t2 t3
  have w5 := off54_eq' t2 t3
  have hn := step_lt t2 t3
  have F1 : flightAt (F := F) arg10 arg20 c arg1 X1 X10 _ (cell_inb ⟨_, hn⟩ 0) _ (slot_inb ⟨_, hn⟩ 0) _ (src_inb ⟨_, hn⟩)
        = flightAt arg10 arg20 c arg1 X1 X10 _ (k0_off50_inb t2 t3) _ (k0_off51_inb t2 t3) _ (k0_off52_inb t2 t3) := flight_congr w1.symm w2.symm w3.symm
  have F2 : flightAt (F := F) arg10 arg20 c arg5 X5 X10 _ (cell_inb ⟨_, hn⟩ 1) _ (slot_inb ⟨_, hn⟩ 1) _ (src_inb ⟨_, hn⟩)
        = flightAt arg10 arg20 c arg5 X5 X10 _ (k0_off53_inb t2 t3) _ (k0_off54_inb t2 t3) _ (k0_off52_inb t2 t3) := flight_congr w4.symm w5.symm w3.symm
  have L1 : iprop(cellAt (F := F) arg20 c _ (cell_inb ⟨_, hn⟩ 0) ∗ landedAt arg10 c arg1 X1 _ (slot_inb ⟨_, hn⟩ 0) _ (src_inb ⟨_, hn⟩) ∗ srcAt c arg1 X1 _ (src_inb ⟨_, hn⟩))
        = iprop(cellAt arg20 c _ (k0_off50_inb t2 t3) ∗ landedAt arg10 c arg1 X1 _ (k0_off51_inb t2 t3) _ (k0_off52_inb t2 t3) ∗ srcAt c arg1 X1 _ (k0_off52_inb t2 t3)) := landed_congr w1.symm w2.symm w3.symm
  have L2 : iprop(cellAt (F := F) arg20 c _ (cell_inb ⟨_, hn⟩ 1) ∗ landedAt arg10 c arg5 X5 _ (slot_inb ⟨_, hn⟩ 1) _ (src_inb ⟨_, hn⟩) ∗ srcAt c arg5 X5 _ (src_inb ⟨_, hn⟩))
        = iprop(cellAt arg20 c _ (k0_off53_inb t2 t3) ∗ landedAt arg10 c arg5 X5 _ (k0_off54_inb t2 t3) _ (k0_off52_inb t2 t3) ∗ srcAt c arg5 X5 _ (k0_off52_inb t2 t3)) := landed_congr w4.symm w5.symm w3.symm
  obtain ⟨a, m⟩ := acc
  unfold inv3
  iintro ⟨%hr, %hm, Ho, HH, HR⟩
  icases Ho with ⟨%W, Ho⟩
  icases (ring_here arg1 arg5 arg10 arg20 c X1 X5 X10 _ hn) $$ HR with ⟨HI, HF, HR⟩
  unfold flying
  rw [F1, F2]
  icases HF with ⟨HF1, HF2⟩
  obtain ⟨reg, gmr, acc', live, clean⟩ := m
  replace hm := congrArg Prod.snd hm
  dsimp only at hr hm
  subst hr
  have T := (trip (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 gmr acc' live clean).2 W _ _ X10 v10197_r0 z o a24 a m8
    (issue (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 t2 t3 a24)
  have S := wp_framed (R := ringRest arg1 arg5 arg10 arg20 c X1 X5 X10 (5 * t2.val + t3.val)) (Q' := fun r => inv3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 t2 m8 (t3.val + 1) r) T (fun r => by
    unfold inv3
    iintro ⟨⟨%hres, Ho, HH, HI, HL1, HL2⟩, HR⟩
    have hres' : r.2 = mxAfter (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 ⟨fun _ _ => none, gmr, acc', live, clean⟩ := by rw [hres]; rfl
    isplitr [Ho HH HI HL1 HL2 HR]
    · ipureintro
      rw [hres']
      exact mxAfter_reg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 t3 _
    isplitr [Ho HH HI HL1 HL2 HR]
    · ipureintro
      rw [hres, mx3, dif_pos t3.isLt, ← hm]
      rfl
    isplitl [Ho]; · iexact Ho
    isplitl [HH]; · iexact HH
    rw [← Nat.add_assoc]
    iapply (ring_next arg1 arg5 arg10 arg20 c X1 X5 X10 _ hn)
    isplitl [HI]; · iexact HI
    isplitr [HR]
    · unfold landed
      rw [L1, L2]
      isplitl [HL1]; · iexact HL1
      iexact HL2
    iexact HR)
  unfold inv3 at S
  iapply S
  isplitr [HR]
  · isplitl [Ho]; · iexact Ho
    isplitl [HH]; · iexact HH
    isplitl [HI]; · iexact HI
    isplitl [HF1]; · iexact HF1
    iexact HF2
  iexact HR

end Cert.KernelIdeal

end
-- ==== Proof.KernelIdeal.Trip2.lean ====
/-
  One trip of the outer loop: the five trips of the inner loop, then the sums are taken off the matrix units, unscaled,
  joined with the residual products, and the ten pieces of the result are stored.
-/
module

public import proofs.«01_k».proof.Proof.KernelIdeal.Loop3

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- What the outer loop holds besides the copies: what it reads. -/
abbrev Held2 (c : Dev nD) (X14 : BufTy.Contents (Elt F) arg14.view.ty) (X15 : BufTy.Contents (Elt F) arg15.view.ty) (X16 : BufTy.Contents (Elt F) arg16.view.ty) (X18 : BufTy.Contents (Elt F) arg18.view.ty) : sProp 𝕄 :=
  iprop(Held arg14 arg15 arg16 c X14 X15 X16 ∗ (arg18.view.loc (c : Thread nD τ) ↦[arg18.view.set]{fullShare} X18))

set_option maxHeartbeats 2000000 in
@[irreducible] def trip2 (c : Dev nD) (X1 : BufTy.Contents (Elt F) arg1.view.ty) (X5 : BufTy.Contents (Elt F) arg5.view.ty)
    (X14 : BufTy.Contents (Elt F) arg14.view.ty) (X15 : BufTy.Contents (Elt F) arg15.view.ty) (X16 : BufTy.Contents (Elt F) arg16.view.ty)
    (X18 : BufTy.Contents (Elt F) arg18.view.ty) (X19 : BufTy.Contents (Elt F) arg19.view.ty)
    (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32)
    (t2 : Fin k0_t2_loop.trips)
    (gmr : Fin 2 → Option (Mxu.Staged F)) (acc : Fin 2 → Fin 1024 → Fin 256 → F .f32) (live : Fin 2 → Fin 1024 → Bool)
    (clean : ∀ q R C, live q R = false → acc q R C = FloatOps.ofBits .f32 0) :
    {p : Mxu F × BufTy.Contents (Elt F) arg19.view.ty // ∀ (W : Waits sig Unit) (X10 : BufTy.Contents (Elt F) arg10.view.ty) (a : BitVec 32),
      iprop(owes (c : Thread nD τ) 0 W ∗ Held2 arg14 arg15 arg16 arg18 c X14 X15 X16 X18 ∗ ring arg1 arg5 arg10 arg20 c X1 X5 X10 (5 * t2.val + 0)
          ∗ (arg19.view.loc (c : Thread nD τ) ↦[arg19.view.set]{fullShare} X19))
      ⊢ wp Idealize.ShloMosaic.frame (wpE (defs₀ (F := F)) Variants.none (c : Thread nD τ) none) Set.univ
          (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v10075 v10085_r0 v10197_r0 v10309_r0 v10337_r0 c2_i32_3215_r0 v10339_r0 v10346_r0 v10348_r0 c0_i32_3219_r0 t2 (a, ⟨fun _ _ => none, gmr, acc, live, clean⟩))
          (fun r => iprop(⌜r = (0#32, p.1)⌝ ∗ (∃ W, owes (c : Thread nD τ) 0 W) ∗ Held2 arg14 arg15 arg16 arg18 c X14 X15 X16 X18
            ∗ ring arg1 arg5 arg10 arg20 c X1 X5 X10 (5 * t2.val + 5) ∗ (arg19.view.loc (c : Thread nD τ) ↦[arg19.view.set]{fullShare} p.2))) } := by
  have h2 : t2.val < 4 := t2.isLt
  refine ⟨(?m, ?f), fun W X10 a => ?run⟩
  case run =>
    dsimp only
    iintro ⟨HO, ⟨⟨H14, H15, H16⟩, H18⟩, HR, H19⟩
    unfold k0_t2_body
    sl_exec
    iapply (Scf.wp_for_bind _ _ _ _ _ _ _ _ _ (inv3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 t2 ⟨fun _ _ => none, gmr, acc, live, clean⟩) (step3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X10 X14 X15 X16 v10075 v10197_r0 t2 ⟨fun _ _ => none, gmr, acc, live, clean⟩ (Scf.iv 0#32 1#32 t2) 0#32 1#32)) $$ [HO H14 H15 H16 HR]
    · isplitr [HO H14 H15 H16 HR]
      · ipureintro; rfl
      isplitr [HO H14 H15 H16 HR]
      · ipureintro; rfl
      isplitl [HO]
      · iexists W; iexact HO
      isplitr [HR]
      · isplitl [H14]; · iexact H14
        isplitl [H15]; · iexact H15
        iexact H16
      iexact HR
    iintro %acc2 ⟨%hr, %hacc, ⟨%W', HO⟩, ⟨H14, H15, H16⟩, HR⟩
    subst hacc
    sl_exec
    sl_step
    sl_close

end Cert.KernelIdeal

end
-- ==== Proof.KernelIdeal.Outer.lean ====
/-
  The outer loop by its invariant: the matrix units and the result's rows as the trips before left them.
-/
module

public import proofs.«01_k».proof.Proof.KernelIdeal.Trip2

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

theorem mx3_reg (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (t2 : Fin k0_t2_loop.trips) (m : Mxu F) (h : m.reg = fun _ _ => none) :
    ∀ k, (mx3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 m k).reg = fun _ _ => none
  | 0 => h
  | k + 1 => by
    unfold mx3
    split
    · exact mxAfter_reg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 _ _
    · exact mx3_reg c X1 X5 X14 X15 X16 X18 v10075 t2 m h k

theorem mx3_live (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (t2 : Fin k0_t2_loop.trips) (m : Mxu F) (q : Fin 2) (R : Fin 1024) (hR : 48 ≤ R.val) :
    ∀ k, (mx3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 m k).live q R = m.live q R
  | 0 => rfl
  | k + 1 => by
    unfold mx3
    split
    · exact (mxAfter_live (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 _ _ q R hR).trans (mx3_live c X1 X5 X14 X15 X16 X18 v10075 t2 m q R hR k)
    · exact mx3_live c X1 X5 X14 X15 X16 X18 v10075 t2 m q R hR k

/-- Rows 0 to 47 of both units taken off. -/
def popAll (m : Mxu F) : Mxu F :=
  (((((m.pop 0 0 16 fits_0_16).pop 1 0 16 fits_0_16).pop 0 4 16 fits_4_16).pop 1 4 16 fits_4_16).pop 0 8 16 fits_8_16).pop 1 8 16 fits_8_16

theorem popAll_reg (m : Mxu F) : (popAll m).reg = m.reg := rfl

theorem popAll_live (m : Mxu F) (h : ∀ q R, 48 ≤ R.val → m.live q R = false) (q : Fin 2) (R : Fin 1024) : (popAll m).live q R = false := by
  unfold popAll Mxu.pop
  dsimp only
  by_cases hR : 48 ≤ R.val
  · rw [h q R hR]; simp
  · have hq : q = 0 ∨ q = 1 := by revert q; decide
    rcases hq with hq | hq <;> subst hq <;> simp <;> omega

theorem trip2_mx (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (X19 : BufTy.Contents (Elt F) arg19.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (t2 : Fin k0_t2_loop.trips)
    (gmr : Fin 2 → Option (Mxu.Staged F)) (acc : Fin 2 → Fin 1024 → Fin 256 → F .f32) (live : Fin 2 → Fin 1024 → Bool)
    (clean : ∀ q R C, live q R = false → acc q R C = FloatOps.ofBits .f32 0) :
    (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 X19 v10075 v10085_r0 v10197_r0 v10309_r0 v10337_r0 c2_i32_3215_r0 v10339_r0 v10346_r0 v10348_r0 c0_i32_3219_r0 t2 gmr acc live clean).1.1
      = popAll (mx3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 v10075 t2 ⟨fun _ _ => none, gmr, acc, live, clean⟩ k0_t3_loop.trips) := by
  unfold trip2
  rfl

/-- The matrix units and the result's rows after k trips. -/
def st2 (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty) : ℕ → Mxu F × BufTy.Contents (Elt F) arg19.view.ty
  | 0 => (m0, X19)
  | k + 1 => if h : k < k0_t2_loop.trips then
        (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 (st2 c X1 X5 X14 X15 X16 X18 v10075 v10085_r0 v10197_r0 v10309_r0 v10337_r0 c2_i32_3215_r0 v10339_r0 v10346_r0 v10348_r0 c0_i32_3219_r0 m0 X19 k).2 v10075 v10085_r0 v10197_r0 v10309_r0 v10337_r0 c2_i32_3215_r0 v10339_r0 v10346_r0 v10348_r0 c0_i32_3219_r0 ⟨k, h⟩ (st2 c X1 X5 X14 X15 X16 X18 v10075 v10085_r0 v10197_r0 v10309_r0 v10337_r0 c2_i32_3215_r0 v10339_r0 v10346_r0 v10348_r0 c0_i32_3219_r0 m0 X19 k).1.gmr (st2 c X1 X5 X14 X15 X16 X18 v10075 v10085_r0 v10197_r0 v10309_r0 v10337_r0 c2_i32_3215_r0 v10339_r0 v10346_r0 v10348_r0 c0_i32_3219_r0 m0 X19 k).1.acc (st2 c X1 X5 X14 X15 X16 X18 v10075 v10085_r0 v10197_r0 v10309_r0 v10337_r0 c2_i32_3215_r0 v10339_r0 v10346_r0 v10348_r0 c0_i32_3219_r0 m0 X19 k).1.live (st2 c X1 X5 X14 X15 X16 X18 v10075 v10085_r0 v10197_r0 v10309_r0 v10337_r0 c2_i32_3215_r0 v10339_r0 v10346_r0 v10348_r0 c0_i32_3219_r0 m0 X19 k).1.clean).1
      else st2 c X1 X5 X14 X15 X16 X18 v10075 v10085_r0 v10197_r0 v10309_r0 v10337_r0 c2_i32_3215_r0 v10339_r0 v10346_r0 v10348_r0 c0_i32_3219_r0 m0 X19 k

theorem st2_reg (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty) (h : m0.reg = fun _ _ => none) :
    ∀ k, (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 k).1.reg = fun _ _ => none
  | 0 => h
  | k + 1 => by
    unfold st2
    split
    · rw [trip2_mx, popAll_reg]; exact mx3_reg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 _ _ rfl _
    · exact st2_reg c X1 X5 X14 X15 X16 X18 v10075 v10085_r0 v10197_r0 v10309_r0 v10337_r0 c2_i32_3215_r0 v10339_r0 v10346_r0 v10348_r0 c0_i32_3219_r0 m0 X19 h k

theorem st2_live (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty) (h : ∀ q R, m0.live q R = false) :
    ∀ k q R, (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 k).1.live q R = false
  | 0 => h
  | k + 1 => by
    intro q R
    unfold st2
    split
    · rw [trip2_mx]
      refine popAll_live _ (fun q R hR => ?_) q R
      rw [mx3_live (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 _ _ q R hR]
      exact st2_live c X1 X5 X14 X15 X16 X18 v10075 v10085_r0 v10197_r0 v10309_r0 v10337_r0 c2_i32_3215_r0 v10339_r0 v10346_r0 v10348_r0 c0_i32_3219_r0 m0 X19 h k q R
    · exact st2_live c X1 X5 X14 X15 X16 X18 v10075 v10085_r0 v10197_r0 v10309_r0 v10337_r0 c2_i32_3215_r0 v10339_r0 v10346_r0 v10348_r0 c0_i32_3219_r0 m0 X19 h k q R

/-- What holds before trip k of the outer loop. -/
abbrev inv2 (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (X10 : BufTy.Contents (Elt F) arg10.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty) (k : ℕ) (acc : BitVec 32 × Mxu F) : sProp 𝕄 :=
  iprop(⌜acc.2.reg = fun _ _ => none⌝ ∗ ⌜acc = (0#32, (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 k).1)⌝
    ∗ (∃ W, owes (c : Thread nD τ) 0 W) ∗ Held2 arg14 arg15 arg16 arg18 c X14 X15 X16 X18 ∗ ring arg1 arg5 arg10 arg20 c X1 X5 X10 (5 * k)
    ∗ (arg19.view.loc (c : Thread nD τ) ↦[arg19.view.set]{fullShare} (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 k).2))

set_option maxHeartbeats 2000000 in
theorem step2 (c : Dev nD) (X1 : BufTy.Contents (Elt F) arg1.view.ty) (X5 : BufTy.Contents (Elt F) arg5.view.ty) (X14 : BufTy.Contents (Elt F) arg14.view.ty) (X15 : BufTy.Contents (Elt F) arg15.view.ty) (X16 : BufTy.Contents (Elt F) arg16.view.ty) (X18 : BufTy.Contents (Elt F) arg18.view.ty) (X10 : BufTy.Contents (Elt F) arg10.view.ty) (v10075 : IVec S8x256 1) (v10085_r0 : IVec S8x256 32) (v10197_r0 : FVec F S8x256 .f32) (v10309_r0 : FVec F S8x256 .f32) (v10337_r0 : FVec F S8x256 .f32) (c2_i32_3215_r0 : BitVec 32) (v10339_r0 : IVec S8x256 32) (v10346_r0 : IVec S8x256 32) (v10348_r0 : BitVec 32) (c0_i32_3219_r0 : BitVec 32) (m0 : Mxu F) (X19 : BufTy.Contents (Elt F) arg19.view.ty)
    (t2 : Fin k0_t2_loop.trips) (acc : BitVec 32 × Mxu F) :
    inv2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 X10 v10075 v10085_r0 v10197_r0 v10309_r0 v10337_r0 c2_i32_3215_r0 v10339_r0 v10346_r0 v10348_r0 c0_i32_3219_r0 m0 X19 t2.val acc
      ⊢ wp Idealize.ShloMosaic.frame (wpE (defs₀ (F := F)) Variants.none (c : Thread nD τ) none) Set.univ
          (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v10075 v10085_r0 v10197_r0 v10309_r0 v10337_r0 c2_i32_3215_r0 v10339_r0 v10346_r0 v10348_r0 c0_i32_3219_r0 t2 acc)
          (fun r => inv2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 X10 v10075 v10085_r0 v10197_r0 v10309_r0 v10337_r0 c2_i32_3215_r0 v10339_r0 v10346_r0 v10348_r0 c0_i32_3219_r0 m0 X19 (t2.val + 1) r) := by
  obtain ⟨a, m⟩ := acc
  iintro ⟨%hr, %hm, Ho, HH, HR, H19⟩
  icases Ho with ⟨%W, Ho⟩
  replace hm := congrArg Prod.snd hm
  obtain ⟨reg, gmr, acc', live, clean⟩ := m
  dsimp only at hr hm
  subst hr
  have T := (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 t2.val).2 v10075 v10085_r0 v10197_r0 v10309_r0 v10337_r0 c2_i32_3215_r0 v10339_r0 v10346_r0 v10348_r0 c0_i32_3219_r0 t2 gmr acc' live clean).2 W X10 a
  have hnext' : ∀ m' : Mxu F, m' = (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 t2.val).1 → st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 (t2.val + 1)
      = (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 t2.val).2 v10075 v10085_r0 v10197_r0 v10309_r0 v10337_r0 c2_i32_3215_r0 v10339_r0 v10346_r0 v10348_r0 c0_i32_3219_r0 t2 m'.gmr m'.acc m'.live m'.clean).1 := by
    rintro _ rfl
    conv_lhs => unfold st2
    rw [dif_pos t2.isLt]
  have hnext := hnext' _ hm
  dsimp only at hnext
  have hreg : (trip2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 (st2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 v10085_r0 v10197_r0 v10309_r0 v10337_r0 c2_i32_3215_r0 v10339_r0 v10346_r0 v10348_r0 c0_i32_3219_r0 m0 X19 t2.val).2 v10075 v10085_r0 v10197_r0 v10309_r0 v10337_r0 c2_i32_3215_r0 v10339_r0 v10346_r0 v10348_r0 c0_i32_3219_r0 t2 gmr acc' live clean).1.1.reg = fun _ _ => none := by
    rw [trip2_mx, popAll_reg]; exact mx3_reg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 v10075 _ _ rfl _
  have S := wp_framed (R := iprop(emp)) (Q' := fun r => inv2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 X14 X15 X16 X18 X10 v10075 v10085_r0 v10197_r0 v10309_r0 v10337_r0 c2_i32_3215_r0 v10339_r0 v10346_r0 v10348_r0 c0_i32_3219_r0 m0 X19 (t2.val + 1) r) T (fun r => by
    dsimp only [inv2]
    rw [hnext]
    iintro ⟨⟨%hres, Ho, HH, HR, H19⟩, HE⟩
    isplitr [Ho HH HR H19 HE]
    · ipureintro
      rw [hres]; exact hreg
    isplitr [Ho HH HR H19 HE]
    · ipureintro
      exact hres
    isplitl [Ho]; · iexact Ho
    isplitl [HH]; · iexact HH
    isplitl [HR]; · iexact HR
    iexact H19)
  iapply S
  isplitl [Ho HH HR H19]
  · isplitl [Ho]; · iexact Ho
    isplitl [HH]; · iexact HH
    isplitl [HR]; · iexact HR
    iexact H19
  exact Entails.rfl

end Cert.KernelIdeal

end
-- ==== Proof.KernelIdeal.Loop1.lean ====
/-
  The preparing loop: one trip stores two kinds of rows, the invariant collects them.
-/
module

public import proofs.«01_k».proof.Proof.KernelIdeal.Outer

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- What one trip reads and writes. -/
abbrev Held1 (c : Dev nD) (X11 : BufTy.Contents (Elt F) arg11.view.ty) (X12 : BufTy.Contents (Elt F) arg12.view.ty) (X17 : BufTy.Contents (Elt F) arg17.view.ty) (f14 : BufTy.Contents (Elt F) arg14.view.ty) (f18 : BufTy.Contents (Elt F) arg18.view.ty) : sProp 𝕄 :=
  iprop((arg11.view.loc (c : Thread nD τ) ↦[arg11.view.set]{fullShare} X11) ∗ (arg12.view.loc (c : Thread nD τ) ↦[arg12.view.set]{fullShare} X12)
    ∗ (arg17.view.loc (c : Thread nD τ) ↦[arg17.view.set]{fullShare} X17) ∗ (arg14.view.loc (c : Thread nD τ) ↦[arg14.view.set]{fullShare} f14)
    ∗ (arg18.view.loc (c : Thread nD τ) ↦[arg18.view.set]{fullShare} f18))

set_option maxHeartbeats 8000000 in
/-- One trip at a symbolic number: the pieces it writes. -/
@[irreducible] def trip1 (c : Dev nD) (X11 : BufTy.Contents (Elt F) arg11.view.ty) (X12 : BufTy.Contents (Elt F) arg12.view.ty) (X17 : BufTy.Contents (Elt F) arg17.view.ty) (k : Fin k0_t1_loop.trips) :
    { p : List (View.Piece (Elt F) S2x4x10x48x256 .bf16) × List (View.Piece (Elt F) S2x4x20x256 .f32) //
      ∀ (f14 : BufTy.Contents (Elt F) arg14.view.ty) (f18 : BufTy.Contents (Elt F) arg18.view.ty),
      Held1 (F := F) arg11 arg12 arg14 arg17 arg18 c X11 X12 X17 f14 f18
      ⊢ wp Idealize.ShloMosaic.frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 k PUnit.unit)
          (fun _ => Held1 (F := F) arg11 arg12 arg14 arg17 arg18 c X11 X12 X17 (arg14.view.writes (Elt F) f14 p.1) (arg18.view.writes (Elt F) f18 p.2)) } := by
  have hk : k.val < 4 := Nat.lt_of_lt_of_le k.isLt k0_t1_abs.2.1
  refine ⟨(?_, ?_), fun f14 f18 => ?run⟩
  case run =>
    dsimp only
    unfold k0_t1_body
    iintro ⟨HR11, HR12, HR17, HW14, HW18⟩
    sl_exec
    sl_step
    sl_close

/-- The pieces of the trips before k, last first. -/
def pb1 (c : Dev nD) (X11 : BufTy.Contents (Elt F) arg11.view.ty) (X12 : BufTy.Contents (Elt F) arg12.view.ty) (X17 : BufTy.Contents (Elt F) arg17.view.ty) : ℕ → List (View.Piece (Elt F) S2x4x10x48x256 .bf16) × List (View.Piece (Elt F) S2x4x20x256 .f32)
  | 0 => ([], [])
  | k + 1 => if h : k < k0_t1_loop.trips then
      ((trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 ⟨k, h⟩).1.1 ++ (pb1 c X11 X12 X17 k).1, (trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 ⟨k, h⟩).1.2 ++ (pb1 c X11 X12 X17 k).2)
    else pb1 c X11 X12 X17 k

theorem pb1_succ (c : Dev nD) (X11 : BufTy.Contents (Elt F) arg11.view.ty) (X12 : BufTy.Contents (Elt F) arg12.view.ty) (X17 : BufTy.Contents (Elt F) arg17.view.ty) (k : Fin k0_t1_loop.trips) :
    pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 (k.val + 1)
      = ((trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).1.1 ++ (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k.val).1,
         (trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).1.2 ++ (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k.val).2) := by
  conv_lhs => unfold pb1
  rw [dif_pos k.isLt]

/-- What holds before trip k. -/
abbrev inv1 (c : Dev nD) (X11 : BufTy.Contents (Elt F) arg11.view.ty) (X12 : BufTy.Contents (Elt F) arg12.view.ty) (X17 : BufTy.Contents (Elt F) arg17.view.ty) (G14 : BufTy.Contents (Elt F) arg14.view.ty) (G18 : BufTy.Contents (Elt F) arg18.view.ty) (k : ℕ) (_u : PUnit) : sProp 𝕄 :=
  Held1 (F := F) arg11 arg12 arg14 arg17 arg18 c X11 X12 X17 (arg14.view.writes (Elt F) G14 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).1)
    (arg18.view.writes (Elt F) G18 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).2)

theorem step1 (c : Dev nD) (X11 : BufTy.Contents (Elt F) arg11.view.ty) (X12 : BufTy.Contents (Elt F) arg12.view.ty) (X17 : BufTy.Contents (Elt F) arg17.view.ty) (G14 : BufTy.Contents (Elt F) arg14.view.ty) (G18 : BufTy.Contents (Elt F) arg18.view.ty) (k : Fin k0_t1_loop.trips) (u : PUnit) :
    inv1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 G14 G18 k.val u
      ⊢ wp Idealize.ShloMosaic.frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 k u)
          (fun r => inv1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 G14 G18 (k.val + 1) r) := by
  dsimp only [inv1]
  rw [pb1_succ, View.writes_append, View.writes_append]
  exact (trip1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).2 _ _

end Cert.KernelIdeal

end
-- ==== Proof.KernelIdeal.Body.lean ====
module

public import proofs.«01_k».proof.Proof.KernelIdeal.Outer
public import proofs.«01_k».proof.Proof.KernelIdeal.Loop1
public import proofs.«01_k».proof.Proof.Halves

/-!
The whole body: the ten copies it starts with, the activation tiles, the preparation loop, the product loop, and the copy of the result.
-/

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The two planes of a buffer. -/
abbrev scaleHalf (w : ℕ) (h : ∀ a, (![w, 0, 0] : Fin 3 → ℕ) a + S1x20x10240.size a ≤ S2x20x10240.size a) : Memref sig .tc .vmem S20x10240 .bf16 :=
  (arg11.slice (Rect.unit (s := S2x20x10240) ![w, 0, 0] S1x20x10240.size h) (fun _ => rfl)).squeeze S20x10240 squeezes_S1x20x10240_S20x10240
abbrev zeroHalf (w : ℕ) (h : ∀ a, (![w, 0, 0] : Fin 3 → ℕ) a + S1x20x10240.size a ≤ S2x20x10240.size a) : Memref sig .tc .vmem S20x10240 .i8 :=
  (arg12.slice (Rect.unit (s := S2x20x10240) ![w, 0, 0] S1x20x10240.size h) (fun _ => rfl)).squeeze S20x10240 squeezes_S1x20x10240_S20x10240
abbrev resHalf (w : ℕ) (h : ∀ a, (![w, 0, 0] : Fin 3 → ℕ) a + S1x2x10240.size a ≤ S2x2x10240.size a) : Memref sig .tc .vmem S2x10240 .f32 :=
  (arg17.slice (Rect.unit (s := S2x2x10240) ![w, 0, 0] S1x2x10240.size h) (fun _ => rfl)).squeeze S2x10240 squeezes_S1x2x10240_S2x10240
abbrev cell6 (k : ℕ) (h : ∀ a, (![k] : Fin 1 → ℕ) a + S1.size a ≤ S6.size a) : DmaSems sig S_ :=
  (arg21.slice (Rect.unit (s := S6) ![k] S1.size h)).squeeze S_ squeezes_S1_S_

theorem big_disjoint : Disjoint (Rect.unit (s := S2x20x10240) ![0, 0, 0] S1x20x10240.size inb_S2x20x10240_S1x20x10240_0_0_0).set
    (Rect.unit (s := S2x20x10240) ![1, 0, 0] S1x20x10240.size inb_S2x20x10240_S1x20x10240_1_0_0).set :=
  Rect.unit_disjoint (s := S2x20x10240) (0 : Fin 3) (by decide)
theorem big_union : (Rect.unit (s := S2x20x10240) ![0, 0, 0] S1x20x10240.size inb_S2x20x10240_S1x20x10240_0_0_0).set
    ∪ (Rect.unit (s := S2x20x10240) ![1, 0, 0] S1x20x10240.size inb_S2x20x10240_S1x20x10240_1_0_0).set = Finset.univ := by
  ext i
  have h0 : (i (0 : Fin 3)).val < 2 := (i (0 : Fin 3)).isLt
  have h1 : (i (1 : Fin 3)).val < 20 := (i (1 : Fin 3)).isLt
  have h2 : (i (2 : Fin 3)).val < 10240 := (i (2 : Fin 3)).isLt
  simp only [Finset.mem_union, Finset.mem_univ, iff_true, Rect.mem_set_unit]
  rcases (by omega : (i (0 : Fin 3)).val = 0 ∨ (i (0 : Fin 3)).val = 1) with h | h
  · left
    intro (a : Fin 3)
    match a with
    | 0 => exact ⟨Nat.zero_le _, show (i (0 : Fin 3)).val < 0 + 1 by omega⟩
    | 1 => exact ⟨Nat.zero_le _, show (i (1 : Fin 3)).val < 0 + 20 by omega⟩
    | 2 => exact ⟨Nat.zero_le _, show (i (2 : Fin 3)).val < 0 + 10240 by omega⟩
  · right
    intro (a : Fin 3)
    match a with
    | 0 => exact ⟨show 1 ≤ (i (0 : Fin 3)).val by omega, show (i (0 : Fin 3)).val < 1 + 1 by omega⟩
    | 1 => exact ⟨Nat.zero_le _, show (i (1 : Fin 3)).val < 0 + 20 by omega⟩
    | 2 => exact ⟨Nat.zero_le _, show (i (2 : Fin 3)).val < 0 + 10240 by omega⟩
theorem small_disjoint : Disjoint (Rect.unit (s := S2x2x10240) ![0, 0, 0] S1x2x10240.size inb_S2x2x10240_S1x2x10240_0_0_0).set
    (Rect.unit (s := S2x2x10240) ![1, 0, 0] S1x2x10240.size inb_S2x2x10240_S1x2x10240_1_0_0).set :=
  Rect.unit_disjoint (s := S2x2x10240) (0 : Fin 3) (by decide)
theorem small_union : (Rect.unit (s := S2x2x10240) ![0, 0, 0] S1x2x10240.size inb_S2x2x10240_S1x2x10240_0_0_0).set
    ∪ (Rect.unit (s := S2x2x10240) ![1, 0, 0] S1x2x10240.size inb_S2x2x10240_S1x2x10240_1_0_0).set = Finset.univ := by
  ext i
  have h0 : (i (0 : Fin 3)).val < 2 := (i (0 : Fin 3)).isLt
  have h1 : (i (1 : Fin 3)).val < 2 := (i (1 : Fin 3)).isLt
  have h2 : (i (2 : Fin 3)).val < 10240 := (i (2 : Fin 3)).isLt
  simp only [Finset.mem_union, Finset.mem_univ, iff_true, Rect.mem_set_unit]
  rcases (by omega : (i (0 : Fin 3)).val = 0 ∨ (i (0 : Fin 3)).val = 1) with h | h
  · left
    intro (a : Fin 3)
    match a with
    | 0 => exact ⟨Nat.zero_le _, show (i (0 : Fin 3)).val < 0 + 1 by omega⟩
    | 1 => exact ⟨Nat.zero_le _, show (i (1 : Fin 3)).val < 0 + 2 by omega⟩
    | 2 => exact ⟨Nat.zero_le _, show (i (2 : Fin 3)).val < 0 + 10240 by omega⟩
  · right
    intro (a : Fin 3)
    match a with
    | 0 => exact ⟨show 1 ≤ (i (0 : Fin 3)).val by omega, show (i (0 : Fin 3)).val < 1 + 1 by omega⟩
    | 1 => exact ⟨Nat.zero_le _, show (i (1 : Fin 3)).val < 0 + 2 by omega⟩
    | 2 => exact ⟨Nat.zero_le _, show (i (2 : Fin 3)).val < 0 + 10240 by omega⟩

theorem pop_live (m : Mxu F) (q : Fin 2) (A M : ℕ) (h : Mxu.Fits A M) (hm : ∀ q R, m.live q R = false) :
    ∀ q' R, (m.pop q A M h).live q' R = false := by
  intro q' R
  unfold Mxu.pop
  dsimp only
  rw [hm]; simp

/-- The state the product loop starts from: nothing live. -/
abbrev start : Mxu F := ((((((Mxu.init.pop 0 0 16 fits_0_16).pop 0 4 16 fits_4_16).pop 0 8 16 fits_8_16).pop 1 0 16 fits_0_16).pop 1 4 16 fits_4_16).pop 1 8 16 fits_8_16)
theorem start_live : ∀ q R, (start (F := F)).live q R = false :=
  pop_live _ _ _ _ _ (pop_live _ _ _ _ _ (pop_live _ _ _ _ _ (pop_live _ _ _ _ _ (pop_live _ _ _ _ _ (pop_live _ _ _ _ _ fun _ _ => rfl)))))

/-- The scales, zeros and residual products of both arrays, as the six copies leave them. -/
def scales (X2 : BufTy.Contents (Elt F) arg2.view.ty) (X6 : BufTy.Contents (Elt F) arg6.view.ty) : BufTy.Contents (Elt F) arg11.view.ty :=
  arg11.view.writes (Elt F) arg11.view.junk
    [⟨Rect.unit (s := S2x20x10240) ![1, 0, 0] S1x20x10240.size inb_S2x20x10240_S1x20x10240_1_0_0, fun x => ReadAs.same.apply (arg6.view.read (Elt F) X6) ((Shape.reshapeEquiv squeezes_S1x20x10240_S20x10240.numel_eq).symm x)⟩,
     ⟨Rect.unit (s := S2x20x10240) ![0, 0, 0] S1x20x10240.size inb_S2x20x10240_S1x20x10240_0_0_0, fun x => ReadAs.same.apply (arg2.view.read (Elt F) X2) ((Shape.reshapeEquiv squeezes_S1x20x10240_S20x10240.numel_eq).symm x)⟩]
def zeros (X3 : BufTy.Contents (Elt F) arg3.view.ty) (X7 : BufTy.Contents (Elt F) arg7.view.ty) : BufTy.Contents (Elt F) arg12.view.ty :=
  arg12.view.writes (Elt F) arg12.view.junk
    [⟨Rect.unit (s := S2x20x10240) ![1, 0, 0] S1x20x10240.size inb_S2x20x10240_S1x20x10240_1_0_0, fun x => ReadAs.same.apply (arg7.view.read (Elt F) X7) ((Shape.reshapeEquiv squeezes_S1x20x10240_S20x10240.numel_eq).symm x)⟩,
     ⟨Rect.unit (s := S2x20x10240) ![0, 0, 0] S1x20x10240.size inb_S2x20x10240_S1x20x10240_0_0_0, fun x => ReadAs.same.apply (arg3.view.read (Elt F) X3) ((Shape.reshapeEquiv squeezes_S1x20x10240_S20x10240.numel_eq).symm x)⟩]
def resid (X4 : BufTy.Contents (Elt F) arg4.view.ty) (X8 : BufTy.Contents (Elt F) arg8.view.ty) : BufTy.Contents (Elt F) arg17.view.ty :=
  arg17.view.writes (Elt F) arg17.view.junk
    [⟨Rect.unit (s := S2x2x10240) ![1, 0, 0] S1x2x10240.size inb_S2x2x10240_S1x2x10240_1_0_0, fun x => ReadAs.same.apply (arg8.view.read (Elt F) X8) ((Shape.reshapeEquiv squeezes_S1x2x10240_S2x10240.numel_eq).symm x)⟩,
     ⟨Rect.unit (s := S2x2x10240) ![0, 0, 0] S1x2x10240.size inb_S2x2x10240_S1x2x10240_0_0_0, fun x => ReadAs.same.apply (arg4.view.read (Elt F) X4) ((Shape.reshapeEquiv squeezes_S1x2x10240_S2x10240.numel_eq).symm x)⟩]

/-- The six cells of the first copies, at zero. -/
abbrev cells6 (c : Dev nD) : sProp 𝕄 :=
  iprop(semVal (c, .dma (cell6 arg21 0 inb_S6_S1_0).sem) 0 ∗ semVal (c, .dma (cell6 arg21 1 inb_S6_S1_1).sem) 0 ∗ semVal (c, .dma (cell6 arg21 2 inb_S6_S1_2).sem) 0
    ∗ semVal (c, .dma (cell6 arg21 3 inb_S6_S1_3).sem) 0 ∗ semVal (c, .dma (cell6 arg21 4 inb_S6_S1_4).sem) 0 ∗ semVal (c, .dma (cell6 arg21 5 inb_S6_S1_5).sem) 0)

/-- The operands read by whole copies. -/
abbrev sources (c : Dev nD) (X0 : BufTy.Contents (Elt F) arg0.view.ty) (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X8 : BufTy.Contents (Elt F) arg8.view.ty) : sProp 𝕄 :=
  iprop((arg0.view.loc (c : Thread nD τ) ↦[arg0.view.set]{fullShare} X0)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8))

/-- After the last trip every step has landed. -/
theorem ring_done (c : Dev nD) (X1 : BufTy.Contents (Elt F) arg1.view.ty) (X5 : BufTy.Contents (Elt F) arg5.view.ty) (X10 : BufTy.Contents (Elt F) arg10.view.ty) :
    ring arg1 arg5 arg10 arg20 c X1 X5 X10 (5 * k0_t2_loop.trips) ⊢ bigSep (Ring.rangeSet 20 0 20) (landed arg1 arg5 arg10 arg20 c X1 X5) := by
  have e : k0_t2_loop.trips = 4 := by decide
  rw [e]
  unfold ring
  rw [Ring.bigSep_rangeSet_empty (lo := 5 * 4 + 3) (hi := 20) (by omega)]
  have e2 : Ring.rangeSet 20 (5 * 4) (5 * 4 + 3) = Ring.rangeSet 20 20 20 := by decide
  rw [e2, Ring.bigSep_rangeSet_empty (lo := 20) (hi := 20) (by omega)]
  iintro ⟨He, Hf, H⟩
  iexact H

set_option maxHeartbeats 20000000 in
/-- The run of the body. -/
@[irreducible] def body (c : Dev nD)
    (X0 : BufTy.Contents (Elt F) arg0.view.ty) (X1 : BufTy.Contents (Elt F) arg1.view.ty) (X2 : BufTy.Contents (Elt F) arg2.view.ty)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)
    (X12 : BufTy.Contents (Elt F) arg12.view.ty) (X13 : BufTy.Contents (Elt F) arg13.view.ty) (X14 : BufTy.Contents (Elt F) arg14.view.ty)
    (X15 : BufTy.Contents (Elt F) arg15.view.ty) (X16 : BufTy.Contents (Elt F) arg16.view.ty) (X17 : BufTy.Contents (Elt F) arg17.view.ty)
    (X18 : BufTy.Contents (Elt F) arg18.view.ty) (X19 : BufTy.Contents (Elt F) arg19.view.ty) :
    {p : BufTy.Contents (Elt F) arg9.view.ty // ∀ (W : Waits sig Unit),
      iprop(owes (c : Thread nD τ) 0 W ∗ sources arg0 arg2 arg3 arg4 arg6 arg7 arg8 c X0 X2 X3 X4 X6 X7 X8
        ∗ (arg9.view.loc (c : Thread nD τ) ↦[arg9.view.set]{fullShare} X9)
        ∗ (arg11.view.loc (c : Thread nD τ) ↦[arg11.view.set]{fullShare} X11)
        ∗ (arg12.view.loc (c : Thread nD τ) ↦[arg12.view.set]{fullShare} X12)
        ∗ (arg13.view.loc (c : Thread nD τ) ↦[arg13.view.set]{fullShare} X13)
        ∗ (arg14.view.loc (c : Thread nD τ) ↦[arg14.view.set]{fullShare} X14)
        ∗ (arg15.view.loc (c : Thread nD τ) ↦[arg15.view.set]{fullShare} X15)
        ∗ (arg16.view.loc (c : Thread nD τ) ↦[arg16.view.set]{fullShare} X16)
        ∗ (arg17.view.loc (c : Thread nD τ) ↦[arg17.view.set]{fullShare} X17)
        ∗ (arg18.view.loc (c : Thread nD τ) ↦[arg18.view.set]{fullShare} X18)
        ∗ (arg19.view.loc (c : Thread nD τ) ↦[arg19.view.set]{fullShare} X19)
        ∗ bigSep (Ring.rangeSet 20 0 20) (idle arg1 arg5 arg10 arg20 c X1 X5 X10)
        ∗ cells6 arg21 c ∗ semVal (c, .dma arg22.sem) 0 ∗ semVal (c, .dma arg23.sem) 0)
      ⊢ wp Idealize.ShloMosaic.frame (wpE (defs₀ (F := F)) Variants.none (c : Thread nD τ) none) Set.univ
          (cc0_decdec (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23)
          (fun _ => iprop((∃ W, owes (c : Thread nD τ) 0 W) ∗ sources arg0 arg2 arg3 arg4 arg6 arg7 arg8 c X0 X2 X3 X4 X6 X7 X8
            ∗ (arg9.view.loc (c : Thread nD τ) ↦[arg9.view.set]{fullShare} p)
            ∗ (∃ f, arg11.view.loc (c : Thread nD τ) ↦[arg11.view.set]{fullShare} f)
            ∗ (∃ f, arg12.view.loc (c : Thread nD τ) ↦[arg12.view.set]{fullShare} f)
            ∗ (∃ f, arg13.view.loc (c : Thread nD τ) ↦[arg13.view.set]{fullShare} f)
            ∗ (∃ f, arg14.view.loc (c : Thread nD τ) ↦[arg14.view.set]{fullShare} f)
            ∗ (∃ f, arg15.view.loc (c : Thread nD τ) ↦[arg15.view.set]{fullShare} f)
            ∗ (∃ f, arg16.view.loc (c : Thread nD τ) ↦[arg16.view.set]{fullShare} f)
            ∗ (∃ f, arg17.view.loc (c : Thread nD τ) ↦[arg17.view.set]{fullShare} f)
            ∗ (∃ f, arg18.view.loc (c : Thread nD τ) ↦[arg18.view.set]{fullShare} f)
            ∗ (∃ f, arg19.view.loc (c : Thread nD τ) ↦[arg19.view.set]{fullShare} f)
            ∗ bigSep (Ring.rangeSet 20 0 20) (landed arg1 arg5 arg10 arg20 c X1 X5)
            ∗ cells6 arg21 c ∗ semVal (c, .dma arg22.sem) 0 ∗ semVal (c, .dma arg23.sem) 0)) } := by
  refine ⟨?_, fun W => ?run⟩
  case run =>
    rw [Ring.bigSep_rangeSet_head (lo := 0) (hi := 20) (by omega) (by omega), Ring.bigSep_rangeSet_head (lo := 1) (hi := 20) (by omega) (by omega),
      Ring.bigSep_rangeSet_head (lo := 2) (hi := 20) (by omega) (by omega)]
    generalize hR : bigSep (Ring.rangeSet 20 (2 + 1) 20) (idle arg1 arg5 arg10 arg20 c X1 X5 X10) = R
    iintro ⟨HO, ⟨H0, H2, H3, H4, H6, H7, H8⟩, H9, H11, H12, H13, H14, H15, H16, H17, H18, H19, ⟨Hi0, Hi1, Hi2, HR⟩, ⟨Hs0, Hs1, Hs2, Hs3, Hs4, Hs5⟩, Hs22, Hs23⟩
    unfold idle
    icases Hi0 with ⟨⟨Hc00, Hd00, Hw00⟩, ⟨Hc01, Hd01, Hw01⟩⟩
    icases Hi1 with ⟨⟨Hc10, Hd10, Hw10⟩, ⟨Hc11, Hd11, Hw11⟩⟩
    icases Hi2 with ⟨⟨Hc20, Hd20, Hw20⟩, ⟨Hc21, Hd21, Hw21⟩⟩
    ihave Hh := (Halves.split (c : Thread nD τ) arg11 (Rect.unit (s := S2x20x10240) ![0, 0, 0] S1x20x10240.size inb_S2x20x10240_S1x20x10240_0_0_0) (Rect.unit (s := S2x20x10240) ![1, 0, 0] S1x20x10240.size inb_S2x20x10240_S1x20x10240_1_0_0) (fun _ => rfl) (fun _ => rfl)
      squeezes_S1x20x10240_S20x10240 squeezes_S1x20x10240_S20x10240 big_disjoint big_union fullShare X11) $$ H11
    icases Hh with ⟨Ha0, Ha1⟩
    ihave Hh := (Halves.split (c : Thread nD τ) arg12 (Rect.unit (s := S2x20x10240) ![0, 0, 0] S1x20x10240.size inb_S2x20x10240_S1x20x10240_0_0_0) (Rect.unit (s := S2x20x10240) ![1, 0, 0] S1x20x10240.size inb_S2x20x10240_S1x20x10240_1_0_0) (fun _ => rfl) (fun _ => rfl)
      squeezes_S1x20x10240_S20x10240 squeezes_S1x20x10240_S20x10240 big_disjoint big_union fullShare X12) $$ H12
    icases Hh with ⟨Hb0, Hb1⟩
    ihave Hh := (Halves.split (c : Thread nD τ) arg17 (Rect.unit (s := S2x2x10240) ![0, 0, 0] S1x2x10240.size inb_S2x2x10240_S1x2x10240_0_0_0) (Rect.unit (s := S2x2x10240) ![1, 0, 0] S1x2x10240.size inb_S2x2x10240_S1x2x10240_1_0_0) (fun _ => rfl) (fun _ => rfl)
      squeezes_S1x2x10240_S2x10240 squeezes_S1x2x10240_S2x10240 small_disjoint small_union fullShare X17) $$ H17
    icases Hh with ⟨Hg0, Hg1⟩
    rw [cc0_decdec_eq_skeleton]
    unfold cc0_decdec_skel
    sl_exec
    ihave H11 := (Halves.join (c : Thread nD τ) arg11 (Rect.unit (s := S2x20x10240) ![0, 0, 0] S1x20x10240.size inb_S2x20x10240_S1x20x10240_0_0_0) (Rect.unit (s := S2x20x10240) ![1, 0, 0] S1x20x10240.size inb_S2x20x10240_S1x20x10240_1_0_0) (fun _ => rfl) (fun _ => rfl)
      squeezes_S1x20x10240_S20x10240 squeezes_S1x20x10240_S20x10240 big_disjoint big_union fullShare _ _ arg11.view.junk (ReadAs.same.apply (arg2.view.read (Elt F) X2)) (ReadAs.same.apply (arg6.view.read (Elt F) X6))) $$ [Ha0 Ha1]
    · isplitl [Ha0]; · iexact Ha0
      iexact Ha1
    ihave H12 := (Halves.join (c : Thread nD τ) arg12 (Rect.unit (s := S2x20x10240) ![0, 0, 0] S1x20x10240.size inb_S2x20x10240_S1x20x10240_0_0_0) (Rect.unit (s := S2x20x10240) ![1, 0, 0] S1x20x10240.size inb_S2x20x10240_S1x20x10240_1_0_0) (fun _ => rfl) (fun _ => rfl)
      squeezes_S1x20x10240_S20x10240 squeezes_S1x20x10240_S20x10240 big_disjoint big_union fullShare _ _ arg12.view.junk (ReadAs.same.apply (arg3.view.read (Elt F) X3)) (ReadAs.same.apply (arg7.view.read (Elt F) X7))) $$ [Hb0 Hb1]
    · isplitl [Hb0]; · iexact Hb0
      iexact Hb1
    ihave H17 := (Halves.join (c : Thread nD τ) arg17 (Rect.unit (s := S2x2x10240) ![0, 0, 0] S1x2x10240.size inb_S2x2x10240_S1x2x10240_0_0_0) (Rect.unit (s := S2x2x10240) ![1, 0, 0] S1x2x10240.size inb_S2x2x10240_S1x2x10240_1_0_0) (fun _ => rfl) (fun _ => rfl)
      squeezes_S1x2x10240_S2x10240 squeezes_S1x2x10240_S2x10240 small_disjoint small_union fullShare _ _ arg17.view.junk (ReadAs.same.apply (arg4.view.read (Elt F) X4)) (ReadAs.same.apply (arg8.view.read (Elt F) X8))) $$ [Hg0 Hg1]
    · isplitl [Hg0]; · iexact Hg0
      iexact Hg1
    iapply (Scf.wp_for_bind _ _ _ _ _ _ _ _ _ (inv1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) X14 X18)
      (step1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) X14 X18)) $$ [H11 H12 H17 H14 H18]
    · isplitl [H11]; · iexact H11
      isplitl [H12]; · iexact H12
      isplitl [H17]; · iexact H17
      isplitl [H14]; · iexact H14
      iexact H18
    iintro %u ⟨H11, H12, H17, H14, H18⟩
    sl_exec
    iapply (Scf.wp_for_bind _ _ _ _ _ _ _ _ _
      (inv2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 (arg14.view.writes (Elt F) X14 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).1)
        (arg15.view.writes (Elt F) arg15.view.junk (body.sl.H15_80 arg0 arg13 X0)) (arg16.view.writes (Elt F) arg16.view.junk (body.sl.H16_40 arg0 arg13 X0))
        (arg18.view.writes (Elt F) X18 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).2) X10 _ _ _ _ _ _ _ _ _ _ _ X19)
      (step2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 (arg14.view.writes (Elt F) X14 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).1)
        (arg15.view.writes (Elt F) arg15.view.junk (body.sl.H15_80 arg0 arg13 X0)) (arg16.view.writes (Elt F) arg16.view.junk (body.sl.H16_40 arg0 arg13 X0))
        (arg18.view.writes (Elt F) X18 (pb1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).2) X10 _ _ _ _ _ _ _ _ _ _ _ X19)) $$ [HO H14 H15 H16 H18 H19 HR Hc00 Hc01 Hc10 Hc11 Hc20 Hc21]
    · isplitr
      · ipureintro; rfl
      isplitr
      · ipureintro; rfl
      isplitl [HO]; · iexists _; iexact HO
      isplitl [H14 H15 H16 H18]
      · isplitl [H14 H15 H16]
        · isplitl [H14]; · iexact H14
          isplitl [H15]; · iexact H15
          iexact H16
        iexact H18
      isplitl [HR Hc00 Hc01 Hc10 Hc11 Hc20 Hc21]
      · unfold ring
        subst hR
        rw [Ring.bigSep_rangeSet_head (lo := 5 * 0) (hi := 5 * 0 + 3) (by omega) (by omega), Ring.bigSep_rangeSet_head (lo := 5 * 0 + 1) (hi := 5 * 0 + 3) (by omega) (by omega),
          Ring.bigSep_rangeSet_head (lo := 5 * 0 + 1 + 1) (hi := 5 * 0 + 3) (by omega) (by omega), Ring.bigSep_rangeSet_empty (lo := 5 * 0 + 1 + 1 + 1) (hi := 5 * 0 + 3) (by omega),
          Ring.bigSep_rangeSet_empty (lo := 0) (hi := 5 * 0) (by omega)]
        isplitl [HR]; · iexact HR
        isplitl [Hc00 Hc01 Hc10 Hc11 Hc20 Hc21]
        · isplitl [Hc00 Hc01]
          · unfold flying; isplitl [Hc00]; · iexact Hc00
            iexact Hc01
          isplitl [Hc10 Hc11]
          · unfold flying; isplitl [Hc10]; · iexact Hc10
            iexact Hc11
          isplitl [Hc20 Hc21]
          · unfold flying; isplitl [Hc20]; · iexact Hc20
            iexact Hc21
          exact Entails.rfl
        exact Entails.rfl
      iexact H19
    iintro %acc2 ⟨%hr, %hacc, HO, HH, HR, H19⟩
    icases HO with ⟨%W', HO⟩
    icases HH with ⟨⟨H14, H15, H16⟩, H18⟩
    have hd : acc2.2.Drained := by
      refine ⟨fun q r => by rw [hr]; rfl, fun q R => ?_⟩
      rw [hacc]
      exact st2_live (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 _ _ _ _ _ _ _ _ _ _ _ _ _ _ _ X19 start_live _ q R
    obtain ⟨a2, m9⟩ := acc2
    dsimp only at hd ⊢
    sl_exec
    sl_step
    isplitl [HO]; · iexists _; iexact HO
    isplitl [H0 H2 H3 H4 H6 H7 H8]
    · isplitl [H0]; · iexact H0
      isplitl [H2]; · iexact H2
      isplitl [H3]; · iexact H3
      isplitl [H4]; · iexact H4
      isplitl [H6]; · iexact H6
      isplitl [H7]; · iexact H7
      iexact H8
    isplitl [H9]; · iexact H9
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HR]; · iapply ring_done $$ HR
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [Hs22]; · iexact Hs22
    iexact Hs23

end Cert.KernelIdeal

end
-- ==== Proof.KernelIdeal.Blocks.lean ====
module

public import proofs.«01_k».proof.Proof.KernelIdeal.Body
public import proofs.«01_k».proof.Proof.Gen.KernelIdeal.Frame
public import Idealize.ShloMosaic.Lib.Pipeline.FrameValue

/-!
The packed weights and their ring buffer, cut into the blocks the forty copies move, and put together again.
-/

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem bigSep_sum {I J : Type} [Fintype I] [DecidableEq I] [Fintype J] [DecidableEq J] (Φ : I ⊕ J → sProp 𝕄) :
    bigSep Finset.univ Φ = iprop(bigSep Finset.univ (fun i => Φ (.inl i)) ∗ bigSep Finset.univ (fun j => Φ (.inr j))) := by
  have e : (Finset.univ : Finset (I ⊕ J)) = Finset.univ.map Function.Embedding.inl ∪ Finset.univ.map Function.Embedding.inr := by
    ext x; rcases x with x | x <;> simp
  have hd : Disjoint (Finset.univ.map (Function.Embedding.inl : I ↪ I ⊕ J)) (Finset.univ.map (Function.Embedding.inr : J ↪ I ⊕ J)) := by
    rw [Finset.disjoint_left]; intro x hx hy
    obtain ⟨a, -, ha⟩ := Finset.mem_map.mp hx; obtain ⟨b, -, hb⟩ := Finset.mem_map.mp hy
    have hab := ha.trans hb.symm
    cases hab
  rw [e, BI.bigSep_union hd, BI.bigSep_map, BI.bigSep_map]; rfl

def atPair {I : Type} (w : Fin 2) : I ↪ I × Fin 2 where
  toFun i := (i, w)
  inj' _ _ h := congrArg Prod.fst h
theorem bigSep_pair {I : Type} [Fintype I] [DecidableEq I] (Φ : I × Fin 2 → sProp 𝕄) :
    bigSep Finset.univ Φ = bigSep Finset.univ (fun i => iprop(Φ (i, 0) ∗ Φ (i, 1))) := by
  have e : (Finset.univ : Finset (I × Fin 2)) = Finset.univ.map (atPair 0) ∪ Finset.univ.map (atPair 1) := by
    ext ⟨x, w⟩
    have hw : w = 0 ∨ w = 1 := by revert w; decide
    rcases hw with rfl | rfl
    · exact iff_of_true (Finset.mem_univ _) (Finset.mem_union_left _ (Finset.mem_map.mpr ⟨x, Finset.mem_univ _, rfl⟩))
    · exact iff_of_true (Finset.mem_univ _) (Finset.mem_union_right _ (Finset.mem_map.mpr ⟨x, Finset.mem_univ _, rfl⟩))
  have hd : Disjoint (Finset.univ.map (atPair 0 : I ↪ I × Fin 2)) (Finset.univ.map (atPair 1)) := by
    rw [Finset.disjoint_left]; intro x hx hy
    obtain ⟨a, -, ha⟩ := Finset.mem_map.mp hx; obtain ⟨b, -, hb⟩ := Finset.mem_map.mp hy
    have h01 : (0 : Fin 2) = 1 := congrArg Prod.snd (ha.trans hb.symm)
    exact absurd h01 (by decide)
  rw [e, BI.bigSep_union hd, BI.bigSep_map, BI.bigSep_map]
  exact (BI.bigSep_sep Finset.univ (fun i => Φ (i, 0)) (fun i => Φ (i, 1))).symm
theorem bigSep_four {I : Type} (s : Finset I) (A B C D : I → sProp 𝕄) :
    bigSep s (fun i => iprop(A i ∗ B i ∗ C i ∗ D i)) = iprop(bigSep s A ∗ bigSep s B ∗ bigSep s C ∗ bigSep s D) := by
  have h1 := BI.bigSep_sep s A (fun i => iprop(B i ∗ C i ∗ D i))
  have h2 := BI.bigSep_sep s B (fun i => iprop(C i ∗ D i))
  have h3 := BI.bigSep_sep s C D
  exact h1.trans (congrArg _ (h2.trans (congrArg _ h3)))

/-! ## The ring buffer's forty slots -/

abbrev wbuf : Memref sig .tc .vmem S2x4x2560x256 .i32 := Memref.whole cc0_scratch0
def slotSet (b : Fin 20 × Fin 2) : Finset S2x4x2560x256.Idx :=
  (Rect.unit (s := S2x4x2560x256) ![b.2.val, b.1.val / 5, 512 * (b.1.val % 5), 0] S1x1x512x256.size (slot_inb b.1 b.2)).set
theorem slotW_set (b : Fin 20 × Fin 2) : (slotW wbuf ![b.2.val, b.1.val / 5, 512 * (b.1.val % 5), 0] (slot_inb b.1 b.2)).view.set = slotSet b := by
  unfold slotW slotSet
  rw [View.set_reshape]
  exact View.set_slice_whole cc0_scratch0 _
theorem mem_slotSet (b : Fin 20 × Fin 2) (i : S2x4x2560x256.Idx) :
    i ∈ slotSet b ↔ (i (0 : Fin 4)).val = b.2.val ∧ (i (1 : Fin 4)).val = b.1.val / 5 ∧ (i (2 : Fin 4)).val / 512 = b.1.val % 5 := by
  unfold slotSet
  rw [Rect.mem_set_unit]
  have h3 : (i (3 : Fin 4)).val < 256 := (i (3 : Fin 4)).isLt
  constructor
  · intro h
    have a0 : b.2.val ≤ (i (0 : Fin 4)).val ∧ (i (0 : Fin 4)).val < b.2.val + 1 := h (0 : Fin 4)
    have a1 : b.1.val / 5 ≤ (i (1 : Fin 4)).val ∧ (i (1 : Fin 4)).val < b.1.val / 5 + 1 := h (1 : Fin 4)
    have a2 : 512 * (b.1.val % 5) ≤ (i (2 : Fin 4)).val ∧ (i (2 : Fin 4)).val < 512 * (b.1.val % 5) + 512 := h (2 : Fin 4)
    omega
  · rintro ⟨e0, e1, e2⟩ (a : Fin 4)
    match a with
    | 0 => exact ⟨show b.2.val ≤ (i (0 : Fin 4)).val by omega, show (i (0 : Fin 4)).val < b.2.val + 1 by omega⟩
    | 1 => exact ⟨show b.1.val / 5 ≤ (i (1 : Fin 4)).val by omega, show (i (1 : Fin 4)).val < b.1.val / 5 + 1 by omega⟩
    | 2 => exact ⟨show 512 * (b.1.val % 5) ≤ (i (2 : Fin 4)).val by omega, show (i (2 : Fin 4)).val < 512 * (b.1.val % 5) + 512 by omega⟩
    | 3 => exact ⟨Nat.zero_le _, show (i (3 : Fin 4)).val < 0 + 256 by omega⟩
theorem slot_disjoint (b b' : Fin 20 × Fin 2) (h : b ≠ b') : Disjoint (slotSet b) (slotSet b') := by
  rw [Finset.disjoint_left]
  intro i hi hi'
  rw [mem_slotSet] at hi hi'
  exact h (Prod.ext (Fin.ext (by omega)) (Fin.ext (by omega)))
theorem slot_cover : Finset.univ.biUnion slotSet = Finset.univ := by
  ext i
  simp only [Finset.mem_biUnion, Finset.mem_univ, _root_.true_and, iff_true]
  have h0 : (i (0 : Fin 4)).val < 2 := (i (0 : Fin 4)).isLt
  have h1 : (i (1 : Fin 4)).val < 4 := (i (1 : Fin 4)).isLt
  have h2 : (i (2 : Fin 4)).val < 2560 := (i (2 : Fin 4)).isLt
  refine ⟨(⟨5 * (i (1 : Fin 4)).val + (i (2 : Fin 4)).val / 512, by omega⟩, ⟨(i (0 : Fin 4)).val, h0⟩), ?_⟩
  rw [mem_slotSet]
  refine ⟨rfl, ?_, ?_⟩ <;> dsimp only <;> omega

/-- The buffer is its slots. -/
theorem slots_eq (c : Dev nD) (f : Buf (Elt F) ((c : Thread nD τ).loc cc0_scratch0)) :
    (((c : Thread nD τ).loc cc0_scratch0) ↦{fullShare} f : sProp 𝕄)
      = bigSep Finset.univ fun s : Fin 20 => iprop(slotAt wbuf c f _ (slot_inb s 0) ∗ slotAt wbuf c f _ (slot_inb s 1)) := by
  rw [Ring.pointsTo_blocks (ℓ := ((c : Thread nD τ).loc cc0_scratch0)) slotSet slot_disjoint slot_cover f, bigSep_pair]
  refine BI.bigSep_congr fun s _ => ?_
  rw [← slotW_set, ← slotW_set]; rfl
/-- Slots at contents of their own are the buffer at some contents. -/
theorem slots_join (c : Dev nD) (fs : Fin 20 × Fin 2 → Buf (Elt F) ((c : Thread nD τ).loc cc0_scratch0)) :
    bigSep Finset.univ (fun s : Fin 20 => iprop(slotAt (F := F) wbuf c (fs (s, 0)) _ (slot_inb s 0) ∗ slotAt wbuf c (fs (s, 1)) _ (slot_inb s 1)))
      ⊢ (iprop(∃ f, ((c : Thread nD τ).loc cc0_scratch0) ↦{fullShare} f) : sProp 𝕄) := by
  have e : bigSep Finset.univ (fun s : Fin 20 => iprop(slotAt (F := F) wbuf c (fs (s, 0)) _ (slot_inb s 0) ∗ slotAt wbuf c (fs (s, 1)) _ (slot_inb s 1)))
      = (bigSep Finset.univ fun b : Fin 20 × Fin 2 => ((c : Thread nD τ).loc cc0_scratch0) ↦[slotSet b]{fullShare} fs b : sProp 𝕄) := by
    rw [bigSep_pair]
    refine BI.bigSep_congr fun s _ => ?_
    rw [← slotW_set, ← slotW_set]; rfl
  rw [e]
  exact Ring.pointsTo_blocks_join (ℓ := ((c : Thread nD τ).loc cc0_scratch0)) slotSet slot_disjoint slot_cover fs (fs (0, 0))

/-! ## The twenty blocks of each array of packed weights -/

def blockSet (s : Fin 20) : Finset S2560x1024.Idx :=
  (Rect.unit (s := S2560x1024) ![512 * (s.val % 5), 256 * (s.val / 5)] S512x256.size (src_inb s)).set
theorem mem_blockSet (s : Fin 20) (i : S2560x1024.Idx) :
    i ∈ blockSet s ↔ (i (0 : Fin 2)).val / 512 = s.val % 5 ∧ (i (1 : Fin 2)).val / 256 = s.val / 5 := by
  unfold blockSet
  rw [Rect.mem_set_unit]
  constructor
  · intro h
    have a0 : 512 * (s.val % 5) ≤ (i (0 : Fin 2)).val ∧ (i (0 : Fin 2)).val < 512 * (s.val % 5) + 512 := h (0 : Fin 2)
    have a1 : 256 * (s.val / 5) ≤ (i (1 : Fin 2)).val ∧ (i (1 : Fin 2)).val < 256 * (s.val / 5) + 256 := h (1 : Fin 2)
    omega
  · rintro ⟨e0, e1⟩ (a : Fin 2)
    match a with
    | 0 => exact ⟨show 512 * (s.val % 5) ≤ (i (0 : Fin 2)).val by omega, show (i (0 : Fin 2)).val < 512 * (s.val % 5) + 512 by omega⟩
    | 1 => exact ⟨show 256 * (s.val / 5) ≤ (i (1 : Fin 2)).val by omega, show (i (1 : Fin 2)).val < 256 * (s.val / 5) + 256 by omega⟩
theorem block_disjoint (s s' : Fin 20) (h : s ≠ s') : Disjoint (blockSet s) (blockSet s') := by
  rw [Finset.disjoint_left]
  intro i hi hi'
  rw [mem_blockSet] at hi hi'
  exact h (Fin.ext (by omega))
theorem block_cover : Finset.univ.biUnion blockSet = Finset.univ := by
  ext i
  simp only [Finset.mem_biUnion, Finset.mem_univ, _root_.true_and, iff_true]
  have h0 : (i (0 : Fin 2)).val < 2560 := (i (0 : Fin 2)).isLt
  have h1 : (i (1 : Fin 2)).val < 1024 := (i (1 : Fin 2)).isLt
  refine ⟨⟨5 * ((i (1 : Fin 2)).val / 256) + (i (0 : Fin 2)).val / 512, by omega⟩, ?_⟩
  rw [mem_blockSet]
  constructor <;> dsimp only <;> omega

theorem gate_eq (c : Dev nD) (f : Buf (Elt F) ((c : Thread nD τ).loc main_arg1)) :
    (((c : Thread nD τ).loc main_arg1) ↦{fullShare} f : sProp 𝕄) = bigSep Finset.univ fun s : Fin 20 => srcAt c (Memref.whole main_arg1) f _ (src_inb s) := by
  rw [Ring.pointsTo_blocks (ℓ := ((c : Thread nD τ).loc main_arg1)) blockSet block_disjoint block_cover f]
  refine BI.bigSep_congr fun s _ => ?_
  have e : (srcW (Memref.whole main_arg1) ![512 * (s.val % 5), 256 * (s.val / 5)] (src_inb s)).view.set = blockSet s := View.set_slice_whole main_arg1 _
  rw [← e]; rfl
theorem up_eq (c : Dev nD) (f : Buf (Elt F) ((c : Thread nD τ).loc main_arg5)) :
    (((c : Thread nD τ).loc main_arg5) ↦{fullShare} f : sProp 𝕄) = bigSep Finset.univ fun s : Fin 20 => srcAt c (Memref.whole main_arg5) f _ (src_inb s) := by
  rw [Ring.pointsTo_blocks (ℓ := ((c : Thread nD τ).loc main_arg5)) blockSet block_disjoint block_cover f]
  refine BI.bigSep_congr fun s _ => ?_
  have e : (srcW (Memref.whole main_arg5) ![512 * (s.val % 5), 256 * (s.val / 5)] (src_inb s)).view.set = blockSet s := View.set_slice_whole main_arg5 _
  rw [← e]; rfl

/-! ## All twenty steps before the first and after the last -/

abbrev cellPair (c : Dev nD) (s : Fin 20) : sProp 𝕄 := iprop(cellAt cc0_scratch10 c _ (cell_inb s 0) ∗ cellAt cc0_scratch10 c _ (cell_inb s 1))

theorem idle_all (c : Dev nD) (X1 : Buf (Elt F) ((c : Thread nD τ).loc main_arg1)) (X5 : Buf (Elt F) ((c : Thread nD τ).loc main_arg5))
    (X10 : Buf (Elt F) ((c : Thread nD τ).loc cc0_scratch0)) :
    iprop(bigSep Finset.univ (cellPair (F := F) c) ∗ (((c : Thread nD τ).loc cc0_scratch0) ↦{fullShare} X10)
        ∗ (((c : Thread nD τ).loc main_arg1) ↦{fullShare} X1) ∗ (((c : Thread nD τ).loc main_arg5) ↦{fullShare} X5))
      ⊢ bigSep (Ring.rangeSet 20 0 20) (idle (Memref.whole main_arg1) (Memref.whole main_arg5) wbuf cc0_scratch10 c X1 X5 X10) := by
  rw [Ring.rangeSet_univ, slots_eq, gate_eq, up_eq, ← bigSep_four]
  have key : ∀ s : Fin 20, (iprop(cellPair (F := F) c s ∗ (slotAt wbuf c X10 _ (slot_inb s 0) ∗ slotAt wbuf c X10 _ (slot_inb s 1))
      ∗ srcAt c (Memref.whole main_arg1) X1 _ (src_inb s) ∗ srcAt c (Memref.whole main_arg5) X5 _ (src_inb s)) : sProp 𝕄)
      ⊢ idle (Memref.whole main_arg1) (Memref.whole main_arg5) wbuf cc0_scratch10 c X1 X5 X10 s := by
    intro s
    unfold idle
    iintro ⟨⟨Ha, Hb⟩, ⟨Hc, Hd⟩, He, Hf⟩
    isplitl [Ha Hc He]
    · isplitl [Ha]; · iexact Ha
      isplitl [Hc]; · iexact Hc
      iexact He
    isplitl [Hb]; · iexact Hb
    isplitl [Hd]; · iexact Hd
    iexact Hf
  exact BI.bigSep_mono fun s _ => key s

/-- What a slot holds once its block has landed. -/
abbrev landedIn (c : Dev nD) (X1 : Buf (Elt F) ((c : Thread nD τ).loc main_arg1)) (X5 : Buf (Elt F) ((c : Thread nD τ).loc main_arg5)) (b : Fin 20 × Fin 2) :
    Buf (Elt F) ((c : Thread nD τ).loc cc0_scratch0) :=
  (slotW wbuf _ (slot_inb b.1 b.2)).view.writes (Elt F) (slotW wbuf _ (slot_inb b.1 b.2)).view.junk
    [⟨Rect.whole _, ReadAs.same.apply (if b.2 = 0 then (srcW (Memref.whole main_arg1) _ (src_inb b.1)).view.read (Elt F) X1 else (srcW (Memref.whole main_arg5) _ (src_inb b.1)).view.read (Elt F) X5)⟩]

theorem landed_all (c : Dev nD) (X1 : Buf (Elt F) ((c : Thread nD τ).loc main_arg1)) (X5 : Buf (Elt F) ((c : Thread nD τ).loc main_arg5)) :
    bigSep (Ring.rangeSet 20 0 20) (landed (Memref.whole main_arg1) (Memref.whole main_arg5) wbuf cc0_scratch10 c X1 X5)
      ⊢ iprop(bigSep Finset.univ (cellPair (F := F) c) ∗ (∃ f, ((c : Thread nD τ).loc cc0_scratch0) ↦{fullShare} f)
        ∗ (((c : Thread nD τ).loc main_arg1) ↦{fullShare} X1) ∗ (((c : Thread nD τ).loc main_arg5) ↦{fullShare} X5)) := by
  have h := slots_join (F := F) c (landedIn c X1 X5)
  rw [gate_eq, up_eq]
  refine BIBase.Entails.trans ?_ (sep_mono_r (sep_mono_l h))
  refine BIBase.Entails.trans ?_ (Entails.of_eq (bigSep_four _ _ _ _ _))
  rw [Ring.rangeSet_univ]
  have key : ∀ s : Fin 20, (landed (Memref.whole main_arg1) (Memref.whole main_arg5) wbuf cc0_scratch10 c X1 X5 s : sProp 𝕄)
      ⊢ iprop(cellPair (F := F) c s ∗ (slotAt wbuf c (landedIn c X1 X5 (s, 0)) _ (slot_inb s 0) ∗ slotAt wbuf c (landedIn c X1 X5 (s, 1)) _ (slot_inb s 1))
      ∗ srcAt c (Memref.whole main_arg1) X1 _ (src_inb s) ∗ srcAt c (Memref.whole main_arg5) X5 _ (src_inb s)) := by
    intro s
    unfold landed
    iintro ⟨⟨Ha, Hc, He⟩, Hb, Hd, Hf⟩
    isplitl [Ha Hb]
    · isplitl [Ha]; · iexact Ha
      iexact Hb
    isplitl [Hc Hd]
    · isplitl [Hc]; · iexact Hc
      iexact Hd
    isplitl [He]; · iexact He
    iexact Hf
  exact BI.bigSep_mono fun s _ => key s

/-! ## The forty-eight cells -/

/-- The body's cells: forty for the blocks, six for the first copies, one each for the activations and the result. -/
def cells : (Fin 20 × Fin 2) ⊕ Fin 8 → SemLoc sig
  | .inl b => .dma (cellW cc0_scratch10 _ (cell_inb b.1 b.2)).sem
  | .inr j => (![.dma (cell6 cc0_scratch11 0 inb_S6_S1_0).sem, .dma (cell6 cc0_scratch11 1 inb_S6_S1_1).sem, .dma (cell6 cc0_scratch11 2 inb_S6_S1_2).sem,
      .dma (cell6 cc0_scratch11 3 inb_S6_S1_3).sem, .dma (cell6 cc0_scratch11 4 inb_S6_S1_4).sem, .dma (cell6 cc0_scratch11 5 inb_S6_S1_5).sem,
      .dma cc0_scratch12.sem, .dma cc0_scratch13.sem] : Fin 8 → SemLoc sig) j
theorem cells_facts : Pipeline.OwnSemFacts cfg0.spec cells := by decide +kernel

theorem cells_eq (c : Dev nD) :
    (Pipeline.ownSems0 (Ix := Unit) (Name := ℕ) (U := Pipeline.UD sig nD τ) (Lvl := ℕ) (Val := Elt F) (τ := τ) cells c : sProp 𝕄)
      = iprop(bigSep Finset.univ (cellPair (F := F) c) ∗ (semVal (c, .dma (cell6 cc0_scratch11 0 inb_S6_S1_0).sem) 0 ∗ semVal (c, .dma (cell6 cc0_scratch11 1 inb_S6_S1_1).sem) 0
        ∗ semVal (c, .dma (cell6 cc0_scratch11 2 inb_S6_S1_2).sem) 0 ∗ semVal (c, .dma (cell6 cc0_scratch11 3 inb_S6_S1_3).sem) 0 ∗ semVal (c, .dma (cell6 cc0_scratch11 4 inb_S6_S1_4).sem) 0
        ∗ semVal (c, .dma (cell6 cc0_scratch11 5 inb_S6_S1_5).sem) 0 ∗ semVal (c, .dma cc0_scratch12.sem) 0 ∗ semVal (c, .dma cc0_scratch13.sem) 0)) := by
  unfold Pipeline.ownSems0
  rw [bigSep_sum, bigSep_pair]
  congr 1
  rw [BI.bigSep_univ_eq_bigSepL [0, 1, 2, 3, 4, 5, 6, 7] (by decide) (by decide)]; rfl

end Cert.KernelIdeal

end
-- ==== Proof.KernelIdeal.Whole.lean ====
module

public import proofs.«01_k».proof.Proof.KernelIdeal.Body

/-!
The run of the body over buffers held whole.
-/

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The result the body leaves. -/
def out (c : Dev nD) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) : BufTy.Contents (Elt F) arg9.view.ty :=
  (body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19).1

set_option maxHeartbeats 2000000 in
theorem body_whole (c : Dev nD) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty)
    (h0 : arg0.view.set = Finset.univ) (h2 : arg2.view.set = Finset.univ) (h3 : arg3.view.set = Finset.univ) (h4 : arg4.view.set = Finset.univ) (h6 : arg6.view.set = Finset.univ) (h7 : arg7.view.set = Finset.univ) (h8 : arg8.view.set = Finset.univ) (h9 : arg9.view.set = Finset.univ) (h11 : arg11.view.set = Finset.univ) (h12 : arg12.view.set = Finset.univ) (h13 : arg13.view.set = Finset.univ) (h14 : arg14.view.set = Finset.univ) (h15 : arg15.view.set = Finset.univ) (h16 : arg16.view.set = Finset.univ) (h17 : arg17.view.set = Finset.univ) (h18 : arg18.view.set = Finset.univ) (h19 : arg19.view.set = Finset.univ) (W : Waits sig Unit) :
    iprop(owes (c : Thread nD τ) 0 W ∗ ((arg0.view.loc (c : Thread nD τ) ↦{fullShare} X0) ∗ (arg2.view.loc (c : Thread nD τ) ↦{fullShare} X2) ∗ (arg3.view.loc (c : Thread nD τ) ↦{fullShare} X3) ∗ (arg4.view.loc (c : Thread nD τ) ↦{fullShare} X4) ∗ (arg6.view.loc (c : Thread nD τ) ↦{fullShare} X6) ∗ (arg7.view.loc (c : Thread nD τ) ↦{fullShare} X7) ∗ (arg8.view.loc (c : Thread nD τ) ↦{fullShare} X8)) ∗ (arg9.view.loc (c : Thread nD τ) ↦{fullShare} X9) ∗ (arg11.view.loc (c : Thread nD τ) ↦{fullShare} X11) ∗ (arg12.view.loc (c : Thread nD τ) ↦{fullShare} X12) ∗ (arg13.view.loc (c : Thread nD τ) ↦{fullShare} X13) ∗ (arg14.view.loc (c : Thread nD τ) ↦{fullShare} X14) ∗ (arg15.view.loc (c : Thread nD τ) ↦{fullShare} X15) ∗ (arg16.view.loc (c : Thread nD τ) ↦{fullShare} X16) ∗ (arg17.view.loc (c : Thread nD τ) ↦{fullShare} X17) ∗ (arg18.view.loc (c : Thread nD τ) ↦{fullShare} X18) ∗ (arg19.view.loc (c : Thread nD τ) ↦{fullShare} X19)
        ∗ bigSep (Ring.rangeSet 20 0 20) (idle arg1 arg5 arg10 arg20 c X1 X5 X10) ∗ cells6 arg21 c ∗ semVal (c, .dma arg22.sem) 0 ∗ semVal (c, .dma arg23.sem) 0)
      ⊢ wp Idealize.ShloMosaic.frame (wpE (defs₀ (F := F)) Variants.none (c : Thread nD τ) none) Set.univ (cc0_decdec (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23)
          (fun _ => iprop((∃ W, owes (c : Thread nD τ) 0 W) ∗ ((arg0.view.loc (c : Thread nD τ) ↦{fullShare} X0) ∗ (arg2.view.loc (c : Thread nD τ) ↦{fullShare} X2) ∗ (arg3.view.loc (c : Thread nD τ) ↦{fullShare} X3) ∗ (arg4.view.loc (c : Thread nD τ) ↦{fullShare} X4) ∗ (arg6.view.loc (c : Thread nD τ) ↦{fullShare} X6) ∗ (arg7.view.loc (c : Thread nD τ) ↦{fullShare} X7) ∗ (arg8.view.loc (c : Thread nD τ) ↦{fullShare} X8)) ∗ (arg9.view.loc (c : Thread nD τ) ↦{fullShare} out arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19)
            ∗ (∃ f, arg11.view.loc (c : Thread nD τ) ↦{fullShare} f) ∗ (∃ f, arg12.view.loc (c : Thread nD τ) ↦{fullShare} f) ∗ (∃ f, arg13.view.loc (c : Thread nD τ) ↦{fullShare} f) ∗ (∃ f, arg14.view.loc (c : Thread nD τ) ↦{fullShare} f) ∗ (∃ f, arg15.view.loc (c : Thread nD τ) ↦{fullShare} f) ∗ (∃ f, arg16.view.loc (c : Thread nD τ) ↦{fullShare} f) ∗ (∃ f, arg17.view.loc (c : Thread nD τ) ↦{fullShare} f) ∗ (∃ f, arg18.view.loc (c : Thread nD τ) ↦{fullShare} f) ∗ (∃ f, arg19.view.loc (c : Thread nD τ) ↦{fullShare} f)
            ∗ bigSep (Ring.rangeSet 20 0 20) (landed arg1 arg5 arg10 arg20 c X1 X5) ∗ cells6 arg21 c ∗ semVal (c, .dma arg22.sem) 0 ∗ semVal (c, .dma arg23.sem) 0)) := by
  have hb := (body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19).2 W
  unfold out
  revert hb
  generalize (body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19).1 = p
  intro hb
  simp only [sources, h0, h2, h3, h4, h6, h7, h8, h9, h11, h12, h13, h14, h15, h16, h17, h18, h19] at hb
  exact hb

end Cert.KernelIdeal

end
-- ==== Proof.KernelIdeal.Frame.lean ====
module

public import proofs.«01_k».proof.Proof.KernelIdeal.Blocks
public import proofs.«01_k».proof.Proof.KernelIdeal.Whole
public import proofs.«01_k».proof.Proof.Gen.KernelIdeal.Points
public import Idealize.ShloMosaic.Lib.Pipeline.FrameBody

/-!
The run of the whole program: what it needs, what it leaves, and that it leaves its arguments as they were.
-/

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

abbrev M0 : Memref sig .tc .hbm S2x2560 .bf16 := Memref.whole main_v0
abbrev M1 : Memref sig .tc .hbm S2560x1024 .i32 := Memref.whole main_arg1
abbrev M2 : Memref sig .tc .hbm S20x10240 .bf16 := Memref.whole main_arg2
abbrev M3 : Memref sig .tc .hbm S20x10240 .i8 := Memref.whole main_arg3
abbrev M4 : Memref sig .tc .hbm S2x10240 .f32 := Memref.whole main_arg4
abbrev M5 : Memref sig .tc .hbm S2560x1024 .i32 := Memref.whole main_arg5
abbrev M6 : Memref sig .tc .hbm S20x10240 .bf16 := Memref.whole main_arg6
abbrev M7 : Memref sig .tc .hbm S20x10240 .i8 := Memref.whole main_arg7
abbrev M8 : Memref sig .tc .hbm S2x10240 .f32 := Memref.whole main_arg8
abbrev M9 : Memref sig .tc .hbm S2x10240 .bf16 := Memref.whole main_v1
abbrev M10 : Memref sig .tc .vmem S2x4x2560x256 .i32 := Memref.whole cc0_scratch0
abbrev M11 : Memref sig .tc .vmem S2x20x10240 .bf16 := Memref.whole cc0_scratch1
abbrev M12 : Memref sig .tc .vmem S2x20x10240 .i8 := Memref.whole cc0_scratch2
abbrev M13 : Memref sig .tc .vmem S2x2560 .bf16 := Memref.whole cc0_scratch3
abbrev M14 : Memref sig .tc .vmem S2x4x10x48x256 .bf16 := Memref.whole cc0_scratch4
abbrev M15 : Memref sig .tc .vmem S16x10240 .bf16 := Memref.whole cc0_scratch5
abbrev M16 : Memref sig .tc .vmem S16x5120 .bf16 := Memref.whole cc0_scratch6
abbrev M17 : Memref sig .tc .vmem S2x2x10240 .f32 := Memref.whole cc0_scratch7
abbrev M18 : Memref sig .tc .vmem S2x4x20x256 .f32 := Memref.whole cc0_scratch8
abbrev M19 : Memref sig .tc .vmem S2x10240 .bf16 := Memref.whole cc0_scratch9

/-- The result the body leaves. -/
def result (c : Dev nD) (X0 : Buf (Elt F) ((c : Thread nD τ).loc main_v0)) (X1 : Buf (Elt F) ((c : Thread nD τ).loc main_arg1)) (X2 : Buf (Elt F) ((c : Thread nD τ).loc main_arg2)) (X3 : Buf (Elt F) ((c : Thread nD τ).loc main_arg3)) (X4 : Buf (Elt F) ((c : Thread nD τ).loc main_arg4)) (X5 : Buf (Elt F) ((c : Thread nD τ).loc main_arg5)) (X6 : Buf (Elt F) ((c : Thread nD τ).loc main_arg6)) (X7 : Buf (Elt F) ((c : Thread nD τ).loc main_arg7)) (X8 : Buf (Elt F) ((c : Thread nD τ).loc main_arg8)) (X9 : Buf (Elt F) ((c : Thread nD τ).loc main_v1)) (X10 : Buf (Elt F) ((c : Thread nD τ).loc cc0_scratch0)) (X11 : Buf (Elt F) ((c : Thread nD τ).loc cc0_scratch1)) (X12 : Buf (Elt F) ((c : Thread nD τ).loc cc0_scratch2)) (X13 : Buf (Elt F) ((c : Thread nD τ).loc cc0_scratch3)) (X14 : Buf (Elt F) ((c : Thread nD τ).loc cc0_scratch4)) (X15 : Buf (Elt F) ((c : Thread nD τ).loc cc0_scratch5)) (X16 : Buf (Elt F) ((c : Thread nD τ).loc cc0_scratch6)) (X17 : Buf (Elt F) ((c : Thread nD τ).loc cc0_scratch7)) (X18 : Buf (Elt F) ((c : Thread nD τ).loc cc0_scratch8)) (X19 : Buf (Elt F) ((c : Thread nD τ).loc cc0_scratch9)) : Buf (Elt F) ((c : Thread nD τ).loc main_v1) :=
  out M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) cc0_scratch10 cc0_scratch11 cc0_scratch12 cc0_scratch13 c X0 X1 X2 X3 X4 X5 X6 X7 X8 X9 X10 X11 X12 X13 X14 X15 X16 X17 X18 X19

/-- The operands the body reads, whole. -/
abbrev hbm (c : Dev nD) (X0 : Buf (Elt F) ((c : Thread nD τ).loc main_v0)) (X1 : Buf (Elt F) ((c : Thread nD τ).loc main_arg1)) (X2 : Buf (Elt F) ((c : Thread nD τ).loc main_arg2)) (X3 : Buf (Elt F) ((c : Thread nD τ).loc main_arg3)) (X4 : Buf (Elt F) ((c : Thread nD τ).loc main_arg4)) (X5 : Buf (Elt F) ((c : Thread nD τ).loc main_arg5)) (X6 : Buf (Elt F) ((c : Thread nD τ).loc main_arg6)) (X7 : Buf (Elt F) ((c : Thread nD τ).loc main_arg7)) (X8 : Buf (Elt F) ((c : Thread nD τ).loc main_arg8)) : sProp 𝕄 :=
  iprop((((c : Thread nD τ).loc main_v0) ↦{fullShare} X0) ∗ (((c : Thread nD τ).loc main_arg1) ↦{fullShare} X1) ∗ (((c : Thread nD τ).loc main_arg2) ↦{fullShare} X2) ∗ (((c : Thread nD τ).loc main_arg3) ↦{fullShare} X3) ∗ (((c : Thread nD τ).loc main_arg4) ↦{fullShare} X4) ∗ (((c : Thread nD τ).loc main_arg5) ↦{fullShare} X5) ∗ (((c : Thread nD τ).loc main_arg6) ↦{fullShare} X6) ∗ (((c : Thread nD τ).loc main_arg7) ↦{fullShare} X7) ∗ (((c : Thread nD τ).loc main_arg8) ↦{fullShare} X8))
/-- The cells at zero. -/
abbrev cellsZero (c : Dev nD) : sProp 𝕄 :=
  iprop(bigSep Finset.univ (cellPair (F := F) c) ∗ (semVal (c, .dma (cell6 cc0_scratch11 0 inb_S6_S1_0).sem) 0 ∗ semVal (c, .dma (cell6 cc0_scratch11 1 inb_S6_S1_1).sem) 0 ∗ semVal (c, .dma (cell6 cc0_scratch11 2 inb_S6_S1_2).sem) 0 ∗ semVal (c, .dma (cell6 cc0_scratch11 3 inb_S6_S1_3).sem) 0 ∗ semVal (c, .dma (cell6 cc0_scratch11 4 inb_S6_S1_4).sem) 0 ∗ semVal (c, .dma (cell6 cc0_scratch11 5 inb_S6_S1_5).sem) 0 ∗ semVal (c, .dma cc0_scratch12.sem) 0 ∗ semVal (c, .dma cc0_scratch13.sem) 0))
/-- The scratch buffers at contents nothing names. -/
abbrev scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))

set_option maxHeartbeats 2000000 in
theorem kernelRun (c : Dev nD) (X0 : Buf (Elt F) ((c : Thread nD τ).loc main_v0)) (X1 : Buf (Elt F) ((c : Thread nD τ).loc main_arg1)) (X2 : Buf (Elt F) ((c : Thread nD τ).loc main_arg2)) (X3 : Buf (Elt F) ((c : Thread nD τ).loc main_arg3)) (X4 : Buf (Elt F) ((c : Thread nD τ).loc main_arg4)) (X5 : Buf (Elt F) ((c : Thread nD τ).loc main_arg5)) (X6 : Buf (Elt F) ((c : Thread nD τ).loc main_arg6)) (X7 : Buf (Elt F) ((c : Thread nD τ).loc main_arg7)) (X8 : Buf (Elt F) ((c : Thread nD τ).loc main_arg8)) (X9 : Buf (Elt F) ((c : Thread nD τ).loc main_v1)) (X10 : Buf (Elt F) ((c : Thread nD τ).loc cc0_scratch0)) (X11 : Buf (Elt F) ((c : Thread nD τ).loc cc0_scratch1)) (X12 : Buf (Elt F) ((c : Thread nD τ).loc cc0_scratch2)) (X13 : Buf (Elt F) ((c : Thread nD τ).loc cc0_scratch3)) (X14 : Buf (Elt F) ((c : Thread nD τ).loc cc0_scratch4)) (X15 : Buf (Elt F) ((c : Thread nD τ).loc cc0_scratch5)) (X16 : Buf (Elt F) ((c : Thread nD τ).loc cc0_scratch6)) (X17 : Buf (Elt F) ((c : Thread nD τ).loc cc0_scratch7)) (X18 : Buf (Elt F) ((c : Thread nD τ).loc cc0_scratch8)) (X19 : Buf (Elt F) ((c : Thread nD τ).loc cc0_scratch9)) (W : Waits sig Unit) (t : Fin cfg0.N) :
    iprop(owes (c : Thread nD τ) 0 W ∗ ((((c : Thread nD τ).loc cc0_scratch0) ↦{fullShare} X10) ∗ (((c : Thread nD τ).loc cc0_scratch1) ↦{fullShare} X11) ∗ (((c : Thread nD τ).loc cc0_scratch2) ↦{fullShare} X12) ∗ (((c : Thread nD τ).loc cc0_scratch3) ↦{fullShare} X13) ∗ (((c : Thread nD τ).loc cc0_scratch4) ↦{fullShare} X14) ∗ (((c : Thread nD τ).loc cc0_scratch5) ↦{fullShare} X15) ∗ (((c : Thread nD τ).loc cc0_scratch6) ↦{fullShare} X16) ∗ (((c : Thread nD τ).loc cc0_scratch7) ↦{fullShare} X17) ∗ (((c : Thread nD τ).loc cc0_scratch8) ↦{fullShare} X18) ∗ (((c : Thread nD τ).loc cc0_scratch9) ↦{fullShare} X19))
        ∗ cellsZero c ∗ hbm c X0 X1 X2 X3 X4 X5 X6 X7 X8 ∗ (((c : Thread nD τ).loc main_v1) ↦{fullShare} X9))
      ⊢ wp Idealize.ShloMosaic.frame (wpE (defs₀ (F := F)) Variants.none (c : Thread nD τ) none) Set.univ (bodyAt0 t)
          (fun _ => iprop((∃ W, owes (c : Thread nD τ) 0 W) ∗ scratch c ∗ cellsZero c
            ∗ hbm c X0 X1 X2 X3 X4 X5 X6 X7 X8 ∗ (((c : Thread nD τ).loc main_v1) ↦{fullShare} result c X0 X1 X2 X3 X4 X5 X6 X7 X8 X9 X10 X11 X12 X13 X14 X15 X16 X17 X18 X19))) := by
  have hb := body_whole M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) cc0_scratch10 cc0_scratch11 cc0_scratch12 cc0_scratch13 c X0 X1 X2 X3 X4 X5 X6 X7 X8 X9 X10 X11 X12 X13 X14 X15 X16 X17 X18 X19 (View.set_whole _) (View.set_whole _) (View.set_whole _) (View.set_whole _) (View.set_whole _) (View.set_whole _) (View.set_whole _) (View.set_whole _) (View.set_whole _) (View.set_whole _) (View.set_whole _) (View.set_whole _) (View.set_whole _) (View.set_whole _) (View.set_whole _) (View.set_whole _) (View.set_whole _) W
  refine BIBase.Entails.trans ?_ (hb.trans (wp_mono _ _ _ fun _ => ?_))
  · iintro ⟨HW, ⟨H10, H11, H12, H13, H14, H15, H16, H17, H18, H19⟩, ⟨Hring, S0, S1, S2, S3, S4, S5, S6, S7⟩, ⟨H0, H1, H2, H3, H4, H5, H6, H7, H8⟩, H9⟩
    isplitl [HW]
    · iexact HW
    isplitl [H0 H2 H3 H4 H6 H7 H8]
    · isplitl [H0]; · iexact H0
      isplitl [H2]; · iexact H2
      isplitl [H3]; · iexact H3
      isplitl [H4]; · iexact H4
      isplitl [H6]; · iexact H6
      isplitl [H7]; · iexact H7
      iexact H8
    isplitl [H9]
    · iexact H9
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [Hring H10 H1 H5]
    · iapply (idle_all c X1 X5 X10)
      isplitl [Hring]; · iexact Hring
      isplitl [H10]; · iexact H10
      isplitl [H1]; · iexact H1
      iexact H5
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [S6]
    · iexact S6
    iexact S7
  · unfold result
    iintro ⟨HW, ⟨H0, H2, H3, H4, H6, H7, H8⟩, H9, H11, H12, H13, H14, H15, H16, H17, H18, H19, HR, ⟨S0, S1, S2, S3, S4, S5⟩, S6, S7⟩
    ihave HL := (landed_all (F := F) c X1 X5) $$ HR
    icases HL with ⟨Hring, H10, H1, H5⟩
    isplitl [HW]
    · iexact HW
    isplitl [H10 H11 H12 H13 H14 H15 H16 H17 H18 H19]
    · isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    isplitl [Hring S0 S1 S2 S3 S4 S5 S6 S7]
    · isplitl [Hring]
      · iexact Hring
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact H9

/-! ## The operands in memory -/

/-- The unscoped buffers the body reads. -/
def H0 : Finset (Ref sig .tc) := {main_v0, main_arg1, main_arg2, main_arg3, main_arg4, main_arg5, main_arg6, main_arg7, main_arg8}
/-- The unscoped buffer the body writes. -/
def R0 : Finset (Ref sig .tc) := {main_v1}
theorem H0_sub : H0 ⊆ Pipeline.restRefs sig cfg0.spec := by decide
theorem R0_sub : R0 ⊆ Pipeline.restRefs sig cfg0.spec \ H0 := by decide

theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

theorem hbm_eq (c : Dev nD) :
    (bigSep H0 (fun b => ((c : Thread nD τ).loc b) ↦{fullShare} Gen.V m c b) : sProp 𝕄)
      = hbm c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8) := by
  rw [BI.bigSep_eq_bigSepL_of_eq [main_v0, main_arg1, main_arg2, main_arg3, main_arg4, main_arg5, main_arg6, main_arg7, main_arg8] (by decide) (by decide)]; rfl
theorem owned_eq (c : Dev nD) :
    (Pipeline.owned R0 c : sProp 𝕄) = iprop(∃ f : Buf (Elt F) ((c : Thread nD τ).loc main_v1), ((c : Thread nD τ).loc main_v1) ↦{fullShare} f) := by
  unfold Pipeline.owned; rw [BI.bigSep_eq_bigSepL_of_eq [main_v1] (by decide) (by decide)]; rfl

theorem held_eq (c : Dev nD) :
    (Pipeline.ΦDR cells cfg0.spec H0 R0 (Gen.V m) c : sProp 𝕄)
      = iprop(scratch c ∗ (∃ r, prngReg c r) ∗ cellsZero c ∗ hbm c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8)
          ∗ (∃ f : Buf (Elt F) ((c : Thread nD τ).loc main_v1), ((c : Thread nD τ).loc main_v1) ↦{fullShare} f)) := by
  rw [Pipeline.ΦDR_eq, scopedRest0_eq, cells_eq, hbm_eq, owned_eq]

def dats (_ : Fin 1) (c : Dev nD) : Dat τ (Elt F) Unit ℕ (Pipeline.UD sig nD τ) ℕ cfg0 c where
  A w := w.elim0
  after w t := w.elim0
  Φ _ := Pipeline.ΦDR cells cfg0.spec H0 R0 (Gen.V m) c
  q _ := fullShare
  owed _ := 0

set_option maxHeartbeats 2000000 in
theorem sound_body (c : Dev nD) (t : Fin cfg0.N) :
    iprop((dats m 0 c).Φ t.castSucc ∗ (dats m 0 c).owesAt () t.castSucc)
      ⊢ wp Idealize.ShloMosaic.frame (wpE (defs₀ (F := F)) Variants.none (c : Thread nD τ) none) Set.univ (bodyAt0 t)
          (fun _ => iprop((dats m 0 c).Φ t.succ ∗ (dats m 0 c).owesAt () t.succ)) := by
  rw [show (dats m 0 c).Φ t.succ = Pipeline.ΦDR cells cfg0.spec H0 R0 (Gen.V m) c from rfl,
    show (dats m 0 c).Φ t.castSucc = Pipeline.ΦDR cells cfg0.spec H0 R0 (Gen.V m) c from rfl, held_eq]
  unfold Dat.owesAt Pipeline.owesWithin
  rw [show (dats m 0 c).owed t.castSucc = 0 from rfl, show (dats m 0 c).owed t.succ = 0 from rfl]
  iintro ⟨⟨⟨⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩, Hg, Hc, Hh, ⟨%X9, H9⟩⟩, ⟨%W, -, HW⟩⟩
  iapply (wp_framed (F := F) (R := iprop(∃ r, prngReg c r)) (kernelRun c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8) X9 X10 X11 X12 X13 X14 X15 X16 X17 X18 X19 W t) (fun _ => ?_))
  rotate_left
  · isplitr [Hg]
    · isplitl [HW]; · iexact HW
      isplitl [H10 H11 H12 H13 H14 H15 H16 H17 H18 H19]
      · isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [Hc]; · iexact Hc
      isplitl [Hh]; · iexact Hh
      iexact H9
    · iexact Hg
  iintro ⟨⟨⟨%W', HW⟩, Hs, Hc, Hh, H9⟩, Hg⟩
  isplitl [Hs Hg Hc Hh H9]
  · isplitl [Hs]; · iexact Hs
    isplitl [Hg]; · iexact Hg
    isplitl [Hc]; · iexact Hc
    isplitl [Hh]; · iexact Hh
    iexists _; iexact H9
  iexists W'; isplitr; · ipureintro; exact fun _ _ => Or.inl trivial
  iexact HW

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [body_row]
  refine triple_restated (sound_body m c t) rfl ?_ fun _ => ?_
  · iintro ⟨H, HW, -⟩
    isplitl [H]; · iexact H
    iexact HW
  · iintro ⟨H, HW⟩
    isplitl [H]; · iexact H
    isplitl [HW]; · iexact HW
    rw [show (Finset.univ : Finset (Fin cfg0.W)) = ∅ from rfl, bigSep_empty]
    iempintro

set_option backward.isDefEq.respectTransparency.types false in
theorem run_main : θ_run defs (onTc (τ := τ) (main (F := F))) (s₀ m ρ) (fun r => Pipeline.FramePostR cfgs (dats m) 0 R0 (Gen.V m) r ∧ r.2.sem = fun _ => 0) :=
  Pipeline.θ_run_frame_dmaR (Q' := _) cfgs (dats m) (0 : Fin 1) launch0 cells defs₀ Variants.none cells_facts H0 R0 H0_sub R0_sub m ρ main
    (hbody := fun c => (body_obligation m c).loose) (hshare := fun c => (dats m 0 c).share_full fun _ => rfl)
    (howed := fun _ _ => rfl) (V := Gen.V m) (hmain := hmain m Variants.none) (hA := fun _ w => w.elim0)
    (hin := fun _ => .rfl) (hout := fun _ => .rfl)

/-- The program runs, leaves its arguments as they were, and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
    ((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    ((h.1 c).2 main_arg8 (Finset.mem_sdiff.mpr ⟨Pipeline.mem_restRefs_of main_arg8 (by decide) (by decide), by decide⟩)).trans (V_main_arg8 m c)⟩, h.2⟩) (run_main m ρ)

end Cert.KernelIdeal

end
-- ==== Proof.At.lean ====
/-
  Arrays read at natural-number coordinates, and the two tables that say which field of a packed word each pair of rows holds.
-/
module

public import Idealize.ShloMosaic.Lib.Pointwise
public import Idealize.ShloMosaic.Lib.IdealHost
public import Idealize.ShloMosaic.Lib.ValueIdx
public import Idealize.ShloMosaic.Lib.Writes
public import Idealize.ShloMosaic.Lib.WritesUnit
public import Idealize.ShloMosaic.Lib.Pipeline.ValueKit.Geometry
public import Idealize.ShloMosaic.Lib.Pipeline.Value
public import Idealize.ShloMosaic.Lib.BitcastFour
public import Idealize.ShloMosaic.Lib.Bf16Pair

@[expose] public section

noncomputable section

namespace Cert.Value

open Idealize.ShloMosaic

section At
variable {α : Type} {a b c d e : ℕ}

def at2 [NeZero a] [NeZero b] (f : (⟨2, ![a, b]⟩ : Shape).Idx → α) (i j : ℕ) : α := f (ValueIdx.ix2 (Fin.ofNat a i) (Fin.ofNat b j))
def at3 [NeZero a] [NeZero b] [NeZero c] (f : (⟨3, ![a, b, c]⟩ : Shape).Idx → α) (i j k : ℕ) : α :=
  f (ValueIdx.ix3 (Fin.ofNat a i) (Fin.ofNat b j) (Fin.ofNat c k))
def at4 [NeZero a] [NeZero b] [NeZero c] [NeZero d] (f : (⟨4, ![a, b, c, d]⟩ : Shape).Idx → α) (i j k l : ℕ) : α :=
  f (ValueIdx.ix4 (Fin.ofNat a i) (Fin.ofNat b j) (Fin.ofNat c k) (Fin.ofNat d l))
def at5 [NeZero a] [NeZero b] [NeZero c] [NeZero d] [NeZero e] (f : (⟨5, ![a, b, c, d, e]⟩ : Shape).Idx → α) (i j k l m : ℕ) : α :=
  f (ValueIdx.ix5 (Fin.ofNat a i) (Fin.ofNat b j) (Fin.ofNat c k) (Fin.ofNat d l) (Fin.ofNat e m))

theorem ofNat_eq [NeZero a] (x : Fin a) (i : ℕ) (h : x.val = i) : Fin.ofNat a i = x := by
  subst h; exact Fin.ext (Nat.mod_eq_of_lt x.isLt)

theorem at2_of [NeZero a] [NeZero b] (f : (⟨2, ![a, b]⟩ : Shape).Idx → α) (x : (⟨2, ![a, b]⟩ : Shape).Idx) {i j : ℕ}
    (hi : (x 0).val = i) (hj : (x 1).val = j) : f x = at2 f i j := by
  unfold at2; rw [ofNat_eq (a := a) (x 0) i hi, ofNat_eq (a := b) (x 1) j hj]; exact congrArg f (ValueIdx.eq_ix2 x)

theorem at3_of [NeZero a] [NeZero b] [NeZero c] (f : (⟨3, ![a, b, c]⟩ : Shape).Idx → α) (x : (⟨3, ![a, b, c]⟩ : Shape).Idx) {i j k : ℕ}
    (hi : (x 0).val = i) (hj : (x 1).val = j) (hk : (x 2).val = k) : f x = at3 f i j k := by
  unfold at3; rw [ofNat_eq (a := a) (x 0) i hi, ofNat_eq (a := b) (x 1) j hj, ofNat_eq (a := c) (x 2) k hk]; exact congrArg f (ValueIdx.eq_ix3 x)

theorem at4_of [NeZero a] [NeZero b] [NeZero c] [NeZero d] (f : (⟨4, ![a, b, c, d]⟩ : Shape).Idx → α) (x : (⟨4, ![a, b, c, d]⟩ : Shape).Idx) {i j k l : ℕ}
    (hi : (x 0).val = i) (hj : (x 1).val = j) (hk : (x 2).val = k) (hl : (x 3).val = l) : f x = at4 f i j k l := by
  unfold at4; rw [ofNat_eq (a := a) (x 0) i hi, ofNat_eq (a := b) (x 1) j hj, ofNat_eq (a := c) (x 2) k hk, ofNat_eq (a := d) (x 3) l hl]; exact congrArg f (ValueIdx.eq_ix4 x)

theorem at5_of [NeZero a] [NeZero b] [NeZero c] [NeZero d] [NeZero e] (f : (⟨5, ![a, b, c, d, e]⟩ : Shape).Idx → α) (x : (⟨5, ![a, b, c, d, e]⟩ : Shape).Idx)
    {i j k l m : ℕ} (hi : (x 0).val = i) (hj : (x 1).val = j) (hk : (x 2).val = k) (hl : (x 3).val = l) (hm : (x 4).val = m) : f x = at5 f i j k l m := by
  unfold at5; rw [ofNat_eq (a := a) (x 0) i hi, ofNat_eq (a := b) (x 1) j hj, ofNat_eq (a := c) (x 2) k hk, ofNat_eq (a := d) (x 3) l hl, ofNat_eq (a := e) (x 4) m hm]; exact congrArg f (ValueIdx.eq_ix5 x)

end At

/-- The field of the packed words that pair of rows r of an accumulator group holds. -/
def rowField (r : ℕ) : ℕ := [0, 3, 6, 8, 2, 5, 7, 9, 1, 4].getD r 0

/-- How far left of the byte's end that field stands. -/
def rowOff (r : ℕ) : ℕ := [0, 1, 2, 0, 3, 4, 2, 0, 3, 4].getD r 0

/-- A power of two. -/
def two (o : ℕ) : EReal := ((2 ^ o : ℝ) : EReal)

/-- A byte read as a number. -/
def num (b : BitVec 8) : EReal := ((b.toNat : ℝ) : EReal)

/-- What the table of prepared zeros and scales holds: pair p < 5 the zeros, unscaled; pair p ≥ 5 the scales. -/
def prepAt (S : ℕ → ℕ → ℕ → EReal) (Z : ℕ → ℕ → ℕ → EReal) (w jt p r n : ℕ) : EReal :=
  if p < 5 then Z w (r / 2) (rowField (2 * p + r % 2) * 1024 + 256 * jt + n) * two (rowOff (2 * p + r % 2))
  else S w (r / 2) (rowField (2 * (p - 5) + r % 2) * 1024 + 256 * jt + n)

theorem sitofp_num (b : BitVec 8) : (((b.setWidth 32).toInt : ℝ) : EReal) = num b := by
  have : (b.setWidth 32).toInt = (b.toNat : ℤ) := by
    rw [BitVec.toInt_eq_toNat_of_lt (by simp only [BitVec.toNat_setWidth]; omega)]
    simp only [BitVec.toNat_setWidth]; omega
  rw [this]; simp [num]

theorem ofBits_two0 : Ideal.ofBits .f32 1065353216#32 = two 0 := by
  simp [two, Ideal.ofBits, Ideal.ieee, -EReal.coe_mul]; norm_num
theorem ofBits_two1 : Ideal.ofBits .f32 1073741824#32 = two 1 := by
  simp [two, Ideal.ofBits, Ideal.ieee, -EReal.coe_mul]; norm_num
theorem ofBits_two2 : Ideal.ofBits .f32 1082130432#32 = two 2 := by
  simp [two, Ideal.ofBits, Ideal.ieee, -EReal.coe_mul, -EReal.coe_pow]; norm_num
theorem ofBits_two3 : Ideal.ofBits .f32 1090519040#32 = two 3 := by
  simp [two, Ideal.ofBits, Ideal.ieee, -EReal.coe_mul, -EReal.coe_pow]; norm_num
theorem ofBits_two4 : Ideal.ofBits .f32 1098907648#32 = two 4 := by
  simp [two, Ideal.ofBits, Ideal.ieee, -EReal.coe_mul, -EReal.coe_pow]; norm_num

/-! ## Reads of a window and re-indexings, at natural-number coordinates -/

section Reads
variable {sig : RefSig} {κ : Kind} {sp : Space} {el : EltTy} {Val : EltTy → Type}
open Idealize.ShloMosaic.ValueKit (rect_emb_unit_val)

theorem at2_readAt {n0 n1 s0 s1 : ℕ} [NeZero n0] [NeZero s0] [NeZero n1] [NeZero s1] (v : View sig κ sp (⟨2, ![n0, n1]⟩ : Shape) el) (X : v.ty.Contents Val) {off : Fin 2 → ℕ}
    (inb : ∀ a, off a + (![s0, s1] : Fin 2 → ℕ) a ≤ (⟨2, ![n0, n1]⟩ : Shape).size a) {o p : ℕ} (h : off = ![o, p])
    {i j : ℕ} (h0 : i < s0) (h1 : j < s1) :
    at2 (View.readAt Val v (Rect.unit (s := ⟨2, ![n0, n1]⟩) off ![s0, s1] inb).toLoadRect X : (⟨2, ![s0, s1]⟩ : Shape).Idx → Val el) i j = at2 (v.read Val X) (o + i) (p + j) := by
  subst h
  have key : ∀ a, (((Rect.unit (s := ⟨2, ![n0, n1]⟩) ![o, p] ![s0, s1] inb).emb (ValueIdx.ix2 (Fin.ofNat s0 i) (Fin.ofNat s1 j))) a).val = (![o, p] : Fin 2 → ℕ) a + (ValueIdx.ix2 (Fin.ofNat s0 i) (Fin.ofNat s1 j) a).val :=
    fun a => rect_emb_unit_val (s := ⟨2, ![n0, n1]⟩) ![o, p] ![s0, s1] inb _ a
  exact at2_of (v.read Val X) ((Rect.unit (s := ⟨2, ![n0, n1]⟩) ![o, p] ![s0, s1] inb).emb (ValueIdx.ix2 (Fin.ofNat s0 i) (Fin.ofNat s1 j))) (by rw [key 0]; show _ + i % s0 = _; rw [Nat.mod_eq_of_lt h0]; rfl) (by rw [key 1]; show _ + j % s1 = _; rw [Nat.mod_eq_of_lt h1]; rfl)

theorem at3_readAt {n0 n1 n2 s0 s1 s2 : ℕ} [NeZero n0] [NeZero s0] [NeZero n1] [NeZero s1] [NeZero n2] [NeZero s2] (v : View sig κ sp (⟨3, ![n0, n1, n2]⟩ : Shape) el) (X : v.ty.Contents Val) {off : Fin 3 → ℕ}
    (inb : ∀ a, off a + (![s0, s1, s2] : Fin 3 → ℕ) a ≤ (⟨3, ![n0, n1, n2]⟩ : Shape).size a) {o p q : ℕ} (h : off = ![o, p, q])
    {i j k : ℕ} (h0 : i < s0) (h1 : j < s1) (h2 : k < s2) :
    at3 (View.readAt Val v (Rect.unit (s := ⟨3, ![n0, n1, n2]⟩) off ![s0, s1, s2] inb).toLoadRect X : (⟨3, ![s0, s1, s2]⟩ : Shape).Idx → Val el) i j k = at3 (v.read Val X) (o + i) (p + j) (q + k) := by
  subst h
  have key : ∀ a, (((Rect.unit (s := ⟨3, ![n0, n1, n2]⟩) ![o, p, q] ![s0, s1, s2] inb).emb (ValueIdx.ix3 (Fin.ofNat s0 i) (Fin.ofNat s1 j) (Fin.ofNat s2 k))) a).val = (![o, p, q] : Fin 3 → ℕ) a + (ValueIdx.ix3 (Fin.ofNat s0 i) (Fin.ofNat s1 j) (Fin.ofNat s2 k) a).val :=
    fun a => rect_emb_unit_val (s := ⟨3, ![n0, n1, n2]⟩) ![o, p, q] ![s0, s1, s2] inb _ a
  exact at3_of (v.read Val X) ((Rect.unit (s := ⟨3, ![n0, n1, n2]⟩) ![o, p, q] ![s0, s1, s2] inb).emb (ValueIdx.ix3 (Fin.ofNat s0 i) (Fin.ofNat s1 j) (Fin.ofNat s2 k))) (by rw [key 0]; show _ + i % s0 = _; rw [Nat.mod_eq_of_lt h0]; rfl) (by rw [key 1]; show _ + j % s1 = _; rw [Nat.mod_eq_of_lt h1]; rfl) (by rw [key 2]; show _ + k % s2 = _; rw [Nat.mod_eq_of_lt h2]; rfl)

theorem at4_readAt {n0 n1 n2 n3 s0 s1 s2 s3 : ℕ} [NeZero n0] [NeZero s0] [NeZero n1] [NeZero s1] [NeZero n2] [NeZero s2] [NeZero n3] [NeZero s3] (v : View sig κ sp (⟨4, ![n0, n1, n2, n3]⟩ : Shape) el) (X : v.ty.Contents Val) {off : Fin 4 → ℕ}
    (inb : ∀ a, off a + (![s0, s1, s2, s3] : Fin 4 → ℕ) a ≤ (⟨4, ![n0, n1, n2, n3]⟩ : Shape).size a) {o p q r : ℕ} (h : off = ![o, p, q, r])
    {i j k l : ℕ} (h0 : i < s0) (h1 : j < s1) (h2 : k < s2) (h3 : l < s3) :
    at4 (View.readAt Val v (Rect.unit (s := ⟨4, ![n0, n1, n2, n3]⟩) off ![s0, s1, s2, s3] inb).toLoadRect X : (⟨4, ![s0, s1, s2, s3]⟩ : Shape).Idx → Val el) i j k l = at4 (v.read Val X) (o + i) (p + j) (q + k) (r + l) := by
  subst h
  have key : ∀ a, (((Rect.unit (s := ⟨4, ![n0, n1, n2, n3]⟩) ![o, p, q, r] ![s0, s1, s2, s3] inb).emb (ValueIdx.ix4 (Fin.ofNat s0 i) (Fin.ofNat s1 j) (Fin.ofNat s2 k) (Fin.ofNat s3 l))) a).val = (![o, p, q, r] : Fin 4 → ℕ) a + (ValueIdx.ix4 (Fin.ofNat s0 i) (Fin.ofNat s1 j) (Fin.ofNat s2 k) (Fin.ofNat s3 l) a).val :=
    fun a => rect_emb_unit_val (s := ⟨4, ![n0, n1, n2, n3]⟩) ![o, p, q, r] ![s0, s1, s2, s3] inb _ a
  exact at4_of (v.read Val X) ((Rect.unit (s := ⟨4, ![n0, n1, n2, n3]⟩) ![o, p, q, r] ![s0, s1, s2, s3] inb).emb (ValueIdx.ix4 (Fin.ofNat s0 i) (Fin.ofNat s1 j) (Fin.ofNat s2 k) (Fin.ofNat s3 l))) (by rw [key 0]; show _ + i % s0 = _; rw [Nat.mod_eq_of_lt h0]; rfl) (by rw [key 1]; show _ + j % s1 = _; rw [Nat.mod_eq_of_lt h1]; rfl) (by rw [key 2]; show _ + k % s2 = _; rw [Nat.mod_eq_of_lt h2]; rfl) (by rw [key 3]; show _ + l % s3 = _; rw [Nat.mod_eq_of_lt h3]; rfl)

theorem at5_readAt {n0 n1 n2 n3 n4 s0 s1 s2 s3 s4 : ℕ} [NeZero n0] [NeZero s0] [NeZero n1] [NeZero s1] [NeZero n2] [NeZero s2] [NeZero n3] [NeZero s3] [NeZero n4] [NeZero s4] (v : View sig κ sp (⟨5, ![n0, n1, n2, n3, n4]⟩ : Shape) el) (X : v.ty.Contents Val) {off : Fin 5 → ℕ}
    (inb : ∀ a, off a + (![s0, s1, s2, s3, s4] : Fin 5 → ℕ) a ≤ (⟨5, ![n0, n1, n2, n3, n4]⟩ : Shape).size a) {o p q r t : ℕ} (h : off = ![o, p, q, r, t])
    {i j k l m : ℕ} (h0 : i < s0) (h1 : j < s1) (h2 : k < s2) (h3 : l < s3) (h4 : m < s4) :
    at5 (View.readAt Val v (Rect.unit (s := ⟨5, ![n0, n1, n2, n3, n4]⟩) off ![s0, s1, s2, s3, s4] inb).toLoadRect X : (⟨5, ![s0, s1, s2, s3, s4]⟩ : Shape).Idx → Val el) i j k l m = at5 (v.read Val X) (o + i) (p + j) (q + k) (r + l) (t + m) := by
  subst h
  have key : ∀ a, (((Rect.unit (s := ⟨5, ![n0, n1, n2, n3, n4]⟩) ![o, p, q, r, t] ![s0, s1, s2, s3, s4] inb).emb (ValueIdx.ix5 (Fin.ofNat s0 i) (Fin.ofNat s1 j) (Fin.ofNat s2 k) (Fin.ofNat s3 l) (Fin.ofNat s4 m))) a).val = (![o, p, q, r, t] : Fin 5 → ℕ) a + (ValueIdx.ix5 (Fin.ofNat s0 i) (Fin.ofNat s1 j) (Fin.ofNat s2 k) (Fin.ofNat s3 l) (Fin.ofNat s4 m) a).val :=
    fun a => rect_emb_unit_val (s := ⟨5, ![n0, n1, n2, n3, n4]⟩) ![o, p, q, r, t] ![s0, s1, s2, s3, s4] inb _ a
  exact at5_of (v.read Val X) ((Rect.unit (s := ⟨5, ![n0, n1, n2, n3, n4]⟩) ![o, p, q, r, t] ![s0, s1, s2, s3, s4] inb).emb (ValueIdx.ix5 (Fin.ofNat s0 i) (Fin.ofNat s1 j) (Fin.ofNat s2 k) (Fin.ofNat s3 l) (Fin.ofNat s4 m))) (by rw [key 0]; show _ + i % s0 = _; rw [Nat.mod_eq_of_lt h0]; rfl) (by rw [key 1]; show _ + j % s1 = _; rw [Nat.mod_eq_of_lt h1]; rfl) (by rw [key 2]; show _ + k % s2 = _; rw [Nat.mod_eq_of_lt h2]; rfl) (by rw [key 3]; show _ + l % s3 = _; rw [Nat.mod_eq_of_lt h3]; rfl) (by rw [key 4]; show _ + m % s4 = _; rw [Nat.mod_eq_of_lt h4]; rfl)

end Reads

section Casts
variable {α : Type} {a b : ℕ} [NeZero a] [NeZero b]
open Idealize.ShloMosaic.ValueKit in
theorem cast_drop1 (v : (⟨3, ![1, a, b]⟩ : Shape).Idx → α) (h : (⟨3, ![1, a, b]⟩ : Shape).ShapeCasts ⟨2, ![a, b]⟩) (x : (⟨2, ![a, b]⟩ : Shape).Idx) :
    shapeCast ⟨2, ![a, b]⟩ v h x = at3 v 0 (x 0).val (x 1).val := by
  rw [shapeCast_apply v h x (ValueIdx.ix3 (0 : Fin 1) (x 0 : Fin a) (x 1 : Fin b)) (by
    rw [Shape.rowMajor_val_three, Shape.rowMajor_val_two]; show (0 * a + (x 0).val) * b + (x 1).val = (x 0).val * b + (x 1).val; rw [Nat.zero_mul, Nat.zero_add])]
  exact at3_of v _ rfl rfl rfl

theorem cast_drop2 (v : (⟨4, ![1, 1, a, b]⟩ : Shape).Idx → α) (h : (⟨4, ![1, 1, a, b]⟩ : Shape).ShapeCasts ⟨2, ![a, b]⟩) (x : (⟨2, ![a, b]⟩ : Shape).Idx) :
    shapeCast ⟨2, ![a, b]⟩ v h x = at4 v 0 0 (x 0).val (x 1).val := by
  rw [shapeCast_apply v h x (ValueIdx.ix4 (0 : Fin 1) (0 : Fin 1) (x 0 : Fin a) (x 1 : Fin b)) (by
    rw [Shape.rowMajor_val_four, Shape.rowMajor_val_two]; show ((0 * 1 + 0) * a + (x 0).val) * b + (x 1).val = (x 0).val * b + (x 1).val; simp)]
  exact at4_of v _ rfl rfl rfl rfl

theorem cast_drop3 (v : (⟨5, ![1, 1, 1, a, b]⟩ : Shape).Idx → α) (h : (⟨5, ![1, 1, 1, a, b]⟩ : Shape).ShapeCasts ⟨2, ![a, b]⟩) (x : (⟨2, ![a, b]⟩ : Shape).Idx) :
    shapeCast ⟨2, ![a, b]⟩ v h x = at5 v 0 0 0 (x 0).val (x 1).val := by
  rw [shapeCast_apply v h x (ValueIdx.ix5 (0 : Fin 1) (0 : Fin 1) (0 : Fin 1) (x 0 : Fin a) (x 1 : Fin b)) (by
    rw [Shape.rowMajor_val_five, Shape.rowMajor_val_two]; show (((0 * 1 + 0) * 1 + 0) * a + (x 0).val) * b + (x 1).val = (x 0).val * b + (x 1).val; simp)]
  exact at5_of v _ rfl rfl rfl rfl rfl

theorem cast_add2 (v : (⟨2, ![a, b]⟩ : Shape).Idx → α) (h : (⟨2, ![a, b]⟩ : Shape).ShapeCasts ⟨4, ![1, 1, a, b]⟩) (x : (⟨4, ![1, 1, a, b]⟩ : Shape).Idx) :
    shapeCast ⟨4, ![1, 1, a, b]⟩ v h x = at2 v (x 2).val (x 3).val := by
  have h0 : (x 0).val = 0 := Nat.lt_one_iff.mp (x 0).isLt
  have h1 : (x 1).val = 0 := Nat.lt_one_iff.mp (x 1).isLt
  rw [shapeCast_apply v h x (ValueIdx.ix2 (x 2 : Fin a) (x 3 : Fin b)) (by
    rw [Shape.rowMajor_val_four, Shape.rowMajor_val_two, h0, h1]; show (x 2).val * b + (x 3).val = ((0 * 1 + 0) * a + (x 2).val) * b + (x 3).val; simp)]
  exact at2_of v _ rfl rfl

theorem cast_add3 (v : (⟨2, ![a, b]⟩ : Shape).Idx → α) (h : (⟨2, ![a, b]⟩ : Shape).ShapeCasts ⟨5, ![1, 1, 1, a, b]⟩) (x : (⟨5, ![1, 1, 1, a, b]⟩ : Shape).Idx) :
    shapeCast ⟨5, ![1, 1, 1, a, b]⟩ v h x = at2 v (x 3).val (x 4).val := by
  have h0 : (x 0).val = 0 := Nat.lt_one_iff.mp (x 0).isLt
  have h1 : (x 1).val = 0 := Nat.lt_one_iff.mp (x 1).isLt
  have h2 : (x 2).val = 0 := Nat.lt_one_iff.mp (x 2).isLt
  rw [shapeCast_apply v h x (ValueIdx.ix2 (x 3 : Fin a) (x 4 : Fin b)) (by
    rw [Shape.rowMajor_val_five, Shape.rowMajor_val_two, h0, h1, h2]; show (x 3).val * b + (x 4).val = (((0 * 1 + 0) * 1 + 0) * a + (x 3).val) * b + (x 4).val; simp)]
  exact at2_of v _ rfl rfl
end Casts

end Cert.Value

end
-- ==== Proof.KernelIdeal.Tiles.lean ====
/-
  The weight tiles of the products: which field of which packed word each entry decodes, and the rows of zeros and scales repeated down a tile.
-/
module

public import proofs.«01_k».proof.Proof.KernelIdeal.Feeds
public import proofs.«01_k».proof.Proof.At
public import Idealize.ShloMosaic.Lib.BitcastPair

@[expose] public section

set_option maxRecDepth 16384

noncomputable section

namespace Cert.KernelIdeal

open Gen Cert.Value
open Idealize.ShloMosaic Idealize.ShloMosaic.TcCoe Idealize.ShloMosaic.Tactic

/-- Row p of a pair of rows, eight times. -/
def rowP (p : Fin 2) (u : Vec Ideal S1x1x1x2x256 .bf16) : S8x256.Idx → EReal :=
  concatenate S8x256 0 (List.replicate 8 ⟨S1x256, shapeCast S1x256 (rowsOfParity p S1x1x1x1x256 u bitcasts_S1x1x1x2x256_w16_S1x1x1x1x256_w32) shapeCasts_S1x1x1x1x256_S1x256⟩)
    concatenates_S1x256_S1x256_S1x256_S1x256_S1x256_S1x256_S1x256_S1x256_S8x256_d0

theorem rowP_at (p : Fin 2) (u : Vec Ideal S1x1x1x2x256 .bf16) (x : S8x256.Idx) : rowP p u x = at5 u 0 0 0 p.val (x 1).val := by
  unfold rowP
  have key := concatenate_replicate_apply (α := EReal) (t := S8x256) (s₁ := S1x256) (0 : Fin 2) 8 (shapeCast S1x256 (rowsOfParity p S1x1x1x1x256 u bitcasts_S1x1x1x2x256_w16_S1x1x1x1x256_w32) shapeCasts_S1x1x1x1x256_S1x256)
    concatenates_S1x256_S1x256_S1x256_S1x256_S1x256_S1x256_S1x256_S1x256_S8x256_d0 rfl x (ValueIdx.ix2 (0 : Fin 1) (x 1 : Fin 256)) (Nat.mod_one _).symm
    (by intro b hb; match b, hb with | 0, hb => exact absurd rfl hb | 1, _ => rfl)
  refine key.trans ?_
  refine (cast_drop3 (a := 1) (b := 256) _ _ _).trans ?_
  refine at5_of u _ rfl rfl rfl ?_ ?_
  · show 2 * (0 % 1) + p.val = p.val; omega
  · show (x 1).val % 256 = (x 1).val
    exact Nat.mod_eq_of_lt (x 1).isLt

/-- Two blocks of eight rows interleaved, sixteen times. -/
def laneTile (lo hi : S8x256.Idx → EReal) : S256x256.Idx → EReal :=
  concatenate S256x256 0 (List.replicate 16 ⟨S16x256, interleaveRows S16x256 lo hi bitcasts_S16x256_w16_S8x256_w32⟩)
    concatenates_S16x256_S16x256_S16x256_S16x256_S16x256_S16x256_S16x256_S16x256_S16x256_S16x256_S16x256_S16x256_S16x256_S16x256_S16x256_S16x256_S256x256_d0

theorem laneTile_at (lo hi : S8x256.Idx → EReal) (x : S256x256.Idx) :
    laneTile lo hi x = if (x 0).val % 2 = 0 then lo (ValueIdx.ix2 (⟨(x 0).val % 16 / 2, by omega⟩ : Fin 8) (x 1 : Fin 256)) else hi (ValueIdx.ix2 (⟨(x 0).val % 16 / 2, by omega⟩ : Fin 8) (x 1 : Fin 256)) := by
  unfold laneTile
  have key := concatenate_replicate_apply (α := EReal) (t := S256x256) (s₁ := S16x256) (0 : Fin 2) 16 (interleaveRows S16x256 lo hi bitcasts_S16x256_w16_S8x256_w32)
    concatenates_S16x256_S16x256_S16x256_S16x256_S16x256_S16x256_S16x256_S16x256_S16x256_S16x256_S16x256_S16x256_S16x256_S16x256_S16x256_S16x256_S256x256_d0 rfl x
    (ValueIdx.ix2 (⟨(x 0).val % 16, by omega⟩ : Fin 16) (x 1 : Fin 256)) rfl (by intro b hb; match b, hb with | 0, hb => exact absurd rfl hb | 1, _ => rfl)
  refine key.trans ?_
  unfold interleaveRows
  show (if (x 0).val % 16 % 2 = 0 then lo _ else hi _) = _
  have e : (x 0).val % 16 % 2 = (x 0).val % 2 := by omega
  have ei : ∀ f : S8x256.Idx → EReal, ∀ y : S8x256.Idx, (y 0).val = (x 0).val % 16 / 2 → (y 1).val = (x 1).val → f y = f (ValueIdx.ix2 (⟨(x 0).val % 16 / 2, by omega⟩ : Fin 8) (x 1 : Fin 256)) := by
    intro f y h0 h1
    exact (at2_of f y h0 h1).trans (at2_of f (ValueIdx.ix2 (⟨(x 0).val % 16 / 2, by omega⟩ : Fin 8) (x 1 : Fin 256)) (i := (x 0).val % 16 / 2) (j := (x 1).val) rfl rfl).symm
  rw [e]
  split
  · exact ei lo _ rfl rfl
  · exact ei hi _ rfl rfl

/-- The mask of the even rows. -/
def EvenMask (m : IVec S8x256 1) : Prop := ∀ y : S8x256.Idx, m y = if (y 0).val % 2 = 0 then 1#1 else 0#1

/-- A tile of the rows of two pairs. -/
def pairTile (m : IVec S8x256 1) (u v : Vec Ideal S1x1x1x2x256 .bf16) : S256x256.Idx → EReal :=
  laneTile (select m (rowP 0 u) (rowP 0 v)) (select m (rowP 1 u) (rowP 1 v))

/-- A tile of the rows of one pair. -/
def oneTile (u : Vec Ideal S1x1x1x2x256 .bf16) : S256x256.Idx → EReal := laneTile (rowP 0 u) (rowP 1 u)

theorem oneTile_at (u : Vec Ideal S1x1x1x2x256 .bf16) (x : S256x256.Idx) : oneTile u x = at5 u 0 0 0 ((x 0).val % 2) (x 1).val := by
  unfold oneTile
  rw [laneTile_at, rowP_at, rowP_at]
  have : (x 0).val % 2 = 0 ∨ (x 0).val % 2 = 1 := by omega
  rcases this with h | h <;> rw [h] <;> rfl

theorem pairTile_at (m : IVec S8x256 1) (hm : EvenMask m) (u v : Vec Ideal S1x1x1x2x256 .bf16) (x : S256x256.Idx) :
    pairTile m u v x = if (x 0).val % 4 / 2 = 0 then at5 u 0 0 0 ((x 0).val % 2) (x 1).val else at5 v 0 0 0 ((x 0).val % 2) (x 1).val := by
  unfold pairTile
  rw [laneTile_at]
  have gen : ∀ (p : Fin 2) (y : S8x256.Idx), select m (rowP p u) (rowP p v) y = if (y 0).val % 2 = 0 then at5 u 0 0 0 p.val (y 1).val else at5 v 0 0 0 p.val (y 1).val := by
    intro p y
    show (if m y = 1#1 then rowP p u y else rowP p v y) = _
    rw [hm, rowP_at, rowP_at]
    by_cases h : (y 0).val % 2 = 0
    · rw [if_pos h, if_pos rfl, if_pos h]
    · rw [if_neg h, if_neg (by decide), if_neg h]
  have e : (x 0).val % 16 / 2 % 2 = (x 0).val % 4 / 2 := by omega
  have key : ∀ p : Fin 2, select m (rowP p u) (rowP p v) (ValueIdx.ix2 (⟨(x 0).val % 16 / 2, by omega⟩ : Fin 8) (x 1 : Fin 256))
      = if (x 0).val % 4 / 2 = 0 then at5 u 0 0 0 p.val (x 1).val else at5 v 0 0 0 p.val (x 1).val := by
    intro p
    refine (gen p _).trans ?_
    show (if (x 0).val % 16 / 2 % 2 = 0 then at5 u 0 0 0 p.val (x 1).val else at5 v 0 0 0 p.val (x 1).val) = _
    rw [e]
  rw [key 0, key 1]
  have : (x 0).val % 2 = 0 ∨ (x 0).val % 2 = 1 := by omega
  rcases this with h | h <;> rw [h] <;> rfl

/-- Field f of a packed word. -/
def fld (f : ℕ) (w : BitVec 32) : BitVec 3 := w.extractLsb' (3 * f) 3

/-- Field f of a packed word as a number. -/
def cd (f : ℕ) (w : BitVec 32) : EReal := (((fld f w).toNat : ℝ) : EReal)

theorem toInt_shift : ∀ (c : BitVec 3) (o : Fin 5), ((c.setWidth 8) <<< o.val).toInt = ((c.toNat * 2 ^ o.val : ℕ) : ℤ) := by decide

theorem byte_value (b : BitVec 8) (f o : ℕ) (w : BitVec 32) (ho : o < 5) (h : b = ((fld f w).setWidth 8) <<< o) : ((b.toInt : ℝ) : EReal) = cd f w * two o := by
  subst h
  rw [toInt_shift (fld f w) ⟨o, ho⟩]
  unfold cd two
  rw [← EReal.coe_mul]
  push_cast
  rfl

theorem byteA (w : BitVec 32) (b : ℕ) (hb : b < 4) : (w &&& 119279111#32).extractLsb' (8 * b) 8 = ((fld (rowField b) w).setWidth 8) <<< (rowOff b) := by
  have : b = 0 ∨ b = 1 ∨ b = 2 ∨ b = 3 := by omega
  rcases this with rfl | rfl | rfl | rfl <;>
  · apply BitVec.eq_of_getLsbD_eq
    intro i hi
    interval_cases i <;> simp [fld, rowField, rowOff, BitVec.getLsbD_extractLsb', BitVec.getLsbD_shiftLeft, BitVec.getLsbD_setWidth]

theorem byteB (w : BitVec 32) (b : ℕ) (hb : b < 4) : ((w >>> 3) &&& 119304248#32).extractLsb' (8 * b) 8 = ((fld (rowField (4 + b)) w).setWidth 8) <<< (rowOff (4 + b)) := by
  have : b = 0 ∨ b = 1 ∨ b = 2 ∨ b = 3 := by omega
  rcases this with rfl | rfl | rfl | rfl <;>
  · apply BitVec.eq_of_getLsbD_eq
    intro i hi
    interval_cases i <;> simp [fld, rowField, rowOff, BitVec.getLsbD_extractLsb', BitVec.getLsbD_shiftLeft, BitVec.getLsbD_setWidth]

theorem byteC (w : BitVec 32) (b : ℕ) (hb : b < 2) : ((w.setWidth 16) &&& 28728#16).extractLsb' (8 * b) 8 = ((fld (rowField (8 + b)) w).setWidth 8) <<< (rowOff (8 + b)) := by
  have : b = 0 ∨ b = 1 := by omega
  rcases this with rfl | rfl <;>
  · apply BitVec.eq_of_getLsbD_eq
    intro i hi
    interval_cases i <;> simp [fld, rowField, rowOff, BitVec.getLsbD_extractLsb', BitVec.getLsbD_shiftLeft, BitVec.getLsbD_setWidth]

/-- Bytes of words. -/
theorem bytes_at (w : IVec S64x256 32) (x : S256x256.Idx) :
    bitcast S256x256 8 w bitcasts_S64x256_w32_S256x256_w8 x = (at2 w ((x 0).val / 4) (x 1).val).extractLsb' (8 * ((x 0).val % 4)) 8 := by
  apply BitVec.eq_of_getLsbD_eq
  intro q hq
  rw [bitcast_getLsbD w bitcasts_S64x256_w32_S256x256_w8 x q hq (by decide), BitVec.getLsbD_extractLsb']
  have hrow : S256x256.row x = (x 0).val := rfl
  simp only [hrow, hq, decide_true, Bool.true_and]
  have e1 : ((x 0).val * 8 + q) % 32 = 8 * ((x 0).val % 4) + q := by omega
  rw [e1]
  congr 1
  refine at2_of w _ ?_ ?_
  · show ((x 0).val * 8 + q) / 32 = _; omega
  · rfl

/-- Words of pairs of 16-bit rows. -/
theorem halves_at (w : IVec S128x256 16) (x : S64x256.Idx) (q : ℕ) (hq : q < 32) :
    (bitcast S64x256 32 w bitcasts_S128x256_w16_S64x256_w32 x).getLsbD q = (at2 w (2 * (x 0).val + q / 16) (x 1).val).getLsbD (q % 16) := by
  rw [bitcast_getLsbD w bitcasts_S128x256_w16_S64x256_w32 x q hq (by decide)]
  have hrow : S64x256.row x = (x 0).val := rfl
  simp only [hrow]
  have e1 : ((x 0).val * 32 + q) % 16 = q % 16 := by omega
  rw [e1]
  congr 1
  refine at2_of w _ ?_ ?_
  · show ((x 0).val * 32 + q) / 16 = _; omega
  · rfl

/-- A tile of fields 0, 3, 6, 8. -/
def tileA (z s : S256x256.Idx → EReal) (w : IVec S64x256 32) : FVec Ideal S256x256 .bf16 :=
  mulf (subf (sitofp .bf16 (bitcast S256x256 8 (andi w (broadcast S64x256 119279111#32)) bitcasts_S64x256_w32_S256x256_w8)) z) s

/-- A tile of fields 2, 5, 7, 9. -/
def tileB (z s : S256x256.Idx → EReal) (w : IVec S64x256 32) : FVec Ideal S256x256 .bf16 :=
  mulf (subf (sitofp .bf16 (bitcast S256x256 8 (andi (shrui w (broadcast S64x256 3#32)) (broadcast S64x256 119304248#32)) bitcasts_S64x256_w32_S256x256_w8)) z) s

/-- A tile of fields 1, 4. -/
def tileC (z s : S256x256.Idx → EReal) (w : IVec S128x256 32) : FVec Ideal S256x256 .bf16 :=
  mulf (subf (sitofp .bf16 (bitcast S256x256 8 (bitcast S64x256 32 (andi (trunci 16 w natLt_16_32) (broadcast S128x256 28728#16)) bitcasts_S128x256_w16_S64x256_w32) bitcasts_S64x256_w32_S256x256_w8)) z) s

theorem tileA_at (z s : S256x256.Idx → EReal) (w : IVec S64x256 32) (x : S256x256.Idx) :
    tileA z s w x = (cd (rowField ((x 0).val % 4)) (at2 w ((x 0).val / 4) (x 1).val) * two (rowOff ((x 0).val % 4)) - z x) * s x := by
  show ((((bitcast S256x256 8 (andi w (broadcast S64x256 119279111#32)) bitcasts_S64x256_w32_S256x256_w8 x).toInt : ℝ) : EReal) - z x) * s x = _
  rw [byte_value _ (rowField ((x 0).val % 4)) (rowOff ((x 0).val % 4)) (at2 w ((x 0).val / 4) (x 1).val) ?_ ?_]
  · have : (x 0).val % 4 = 0 ∨ (x 0).val % 4 = 1 ∨ (x 0).val % 4 = 2 ∨ (x 0).val % 4 = 3 := by omega
    rcases this with h | h | h | h <;> rw [h] <;> decide
  · rw [bytes_at]
    exact byteA _ _ (by omega)

theorem tileB_at (z s : S256x256.Idx → EReal) (w : IVec S64x256 32) (x : S256x256.Idx) :
    tileB z s w x = (cd (rowField (4 + (x 0).val % 4)) (at2 w ((x 0).val / 4) (x 1).val) * two (rowOff (4 + (x 0).val % 4)) - z x) * s x := by
  show ((((bitcast S256x256 8 (andi (shrui w (broadcast S64x256 3#32)) (broadcast S64x256 119304248#32)) bitcasts_S64x256_w32_S256x256_w8 x).toInt : ℝ) : EReal) - z x) * s x = _
  rw [byte_value _ (rowField (4 + (x 0).val % 4)) (rowOff (4 + (x 0).val % 4)) (at2 w ((x 0).val / 4) (x 1).val) ?_ ?_]
  · have : (x 0).val % 4 = 0 ∨ (x 0).val % 4 = 1 ∨ (x 0).val % 4 = 2 ∨ (x 0).val % 4 = 3 := by omega
    rcases this with h | h | h | h <;> rw [h] <;> decide
  · rw [bytes_at]
    exact byteB _ _ (by omega)

theorem tileC_at (z s : S256x256.Idx → EReal) (w : IVec S128x256 32) (x : S256x256.Idx) :
    tileC z s w x = (cd (rowField (8 + (x 0).val % 2)) (at2 w ((x 0).val / 2) (x 1).val) * two (rowOff (8 + (x 0).val % 2)) - z x) * s x := by
  show ((((bitcast S256x256 8 (bitcast S64x256 32 (andi (trunci 16 w natLt_16_32) (broadcast S128x256 28728#16)) bitcasts_S128x256_w16_S64x256_w32) bitcasts_S64x256_w32_S256x256_w8 x).toInt : ℝ) : EReal) - z x) * s x = _
  rw [byte_value _ (rowField (8 + (x 0).val % 2)) (rowOff (8 + (x 0).val % 2)) (at2 w ((x 0).val / 2) (x 1).val) ?_ ?_]
  · have : (x 0).val % 2 = 0 ∨ (x 0).val % 2 = 1 := by omega
    rcases this with h | h <;> rw [h] <;> decide
  · rw [bytes_at, ← byteC _ _ (by omega)]
    apply BitVec.eq_of_getLsbD_eq
    intro q hq
    rw [BitVec.getLsbD_extractLsb', BitVec.getLsbD_extractLsb']
    simp only [hq, decide_true, Bool.true_and]
    have h0 : (x 0).val < 256 := (x 0).isLt
    unfold at2
    rw [halves_at _ _ _ (by omega)]
    show (at2 (andi (trunci 16 w natLt_16_32) (broadcast S128x256 28728#16)) (2 * ((x 0).val / 4 % 64) + (8 * ((x 0).val % 4) + q) / 16) ((x 1).val % 256)).getLsbD ((8 * ((x 0).val % 4) + q) % 16) = _
    have e1 : 2 * ((x 0).val / 4 % 64) + (8 * ((x 0).val % 4) + q) / 16 = (x 0).val / 2 := by omega
    have e2 : (8 * ((x 0).val % 4) + q) % 16 = 8 * ((x 0).val % 2) + q := by omega
    have h1 : (x 1).val < 256 := (x 1).isLt
    rw [e1, e2, Nat.mod_eq_of_lt h1]
    rfl

end Cert.KernelIdeal

end
-- ==== Proof.KernelIdeal.Canon.lean ====
/-
  The products of a step in one form for its four groups, and the words they decode as the words of the weight arrays.
-/
module

public import proofs.«01_k».proof.Proof.KernelIdeal.Tiles

@[expose] public section

set_option maxRecDepth 16384

noncomputable section

namespace Cert.KernelIdeal

open Gen Cert.Value
open Idealize.ShloMosaic Idealize.ShloMosaic.TcCoe Idealize.ShloMosaic.Tactic

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- A pair of rows of the prepared table. -/
def preT (X14 : BufTy.Contents (Elt Ideal) arg14.view.ty) (off : Fin 5 → ℕ) (inb : ∀ a, off a + S1x1x1x2x256.size a ≤ S2x4x10x48x256.size a) : Vec Ideal S1x1x1x2x256 .bf16 :=
  View.readAt (Elt Ideal) arg14.view (Rect.unit (s := S2x4x10x48x256) off S1x1x1x2x256.size inb).toLoadRect X14

/-- The ring of words with one window of a weight array written in it. -/
def stored (src : Memref sig .tc .hbm S2560x1024 .i32) (X : BufTy.Contents (Elt Ideal) src.view.ty) (off : Fin 4 → ℕ) (h : ∀ a, off a + S1x1x512x256.size a ≤ S2x4x2560x256.size a)
    (off2 : Fin 2 → ℕ) (h2 : ∀ a, off2 a + S512x256.size a ≤ S2560x1024.size a) : BufTy.Contents (Elt Ideal) arg10.view.ty :=
  (slotW arg10 off h).view.writes (Elt Ideal) (slotW arg10 off h).view.junk [⟨Rect.whole S512x256, ReadAs.same.apply (View.read (Elt Ideal) (srcW src off2 h2).view X)⟩]

/-- 64 rows of words. -/
def wordsA (off : Fin 4 → ℕ) (inb : ∀ a, off a + S1x1x64x256.size a ≤ S2x4x2560x256.size a) (X : BufTy.Contents (Elt Ideal) arg10.view.ty) : IVec S64x256 32 :=
  shapeCast S64x256 (View.readAt (Elt Ideal) arg10.view (Rect.unit (s := S2x4x2560x256) off S1x1x64x256.size inb).toLoadRect X : Vec Ideal S1x1x64x256 .i32) shapeCasts_S1x1x64x256_S64x256

/-- 128 rows of words. -/
def wordsC (off : Fin 4 → ℕ) (inb : ∀ a, off a + S1x1x128x256.size a ≤ S2x4x2560x256.size a) (X : BufTy.Contents (Elt Ideal) arg10.view.ty) : IVec S128x256 32 :=
  shapeCast S128x256 (View.readAt (Elt Ideal) arg10.view (Rect.unit (s := S2x4x2560x256) off S1x1x128x256.size inb).toLoadRect X : Vec Ideal S1x1x128x256 .i32) shapeCasts_S1x1x128x256_S128x256

theorem stored_at (src : Memref sig .tc .hbm S2560x1024 .i32) (X : BufTy.Contents (Elt Ideal) src.view.ty) {off : Fin 4 → ℕ} (h : ∀ a, off a + S1x1x512x256.size a ≤ S2x4x2560x256.size a)
    {off2 : Fin 2 → ℕ} (h2 : ∀ a, off2 a + S512x256.size a ≤ S2560x1024.size a) (w jt o o2 : ℕ) (e : off = ![w, jt, o, 0]) (e2 : off2 = ![o, o2]) (r c : ℕ) (hr : r < 512) (hc : c < 256) :
    at4 (arg10.view.read (Elt Ideal) (stored arg10 src X off h off2 h2) : S2x4x2560x256.Idx → BitVec 32) w jt (o + r) c = at2 (src.view.read (Elt Ideal) X : S2560x1024.Idx → BitVec 32) (o + r) (o2 + c) := by
  subst e e2
  have hw : (slotW arg10 ![w, jt, o, 0] h).view.read (Elt Ideal) (stored arg10 src X ![w, jt, o, 0] h ![o, o2] h2) (ValueIdx.ix2 (⟨r, hr⟩ : Fin 512) (⟨c, hc⟩ : Fin 256))
      = (View.read (Elt Ideal) (srcW src ![o, o2] h2).view X) (ValueIdx.ix2 (⟨r, hr⟩ : Fin 512) (⟨c, hc⟩ : Fin 256)) := by
    unfold stored
    refine View.read_writes_apply_of_pieces (Val := Elt Ideal) (e := .i32) _ _ (View.read (Elt Ideal) (srcW src ![o, o2] h2).view X) _ ?_ _ ?_
    · intro p hp x
      obtain rfl := List.mem_singleton.mp hp
      have : (Rect.whole S512x256).emb x = x := by simp
      show View.read (Elt Ideal) (srcW src ![o, o2] h2).view X x = _
      exact (congrArg (View.read (Elt Ideal) (srcW src ![o, o2] h2).view X) this).symm
    · refine ⟨_, List.mem_singleton.mpr rfl, ?_⟩
      refine (Rect.mem_set_unit (s := S512x256) (off := fun _ => 0) (size := S512x256.size) (inb := fun _ => by simp)).mpr fun a => ⟨Nat.zero_le _, ?_⟩
      rw [Nat.zero_add]
      exact (ValueIdx.ix2 (⟨r, hr⟩ : Fin 512) (⟨c, hc⟩ : Fin 256) a).isLt
  have e4 : Shape.reshapeEquiv squeezes_S1x1x512x256_S512x256.numel_eq (ValueIdx.ix2 (⟨r, hr⟩ : Fin 512) (⟨c, hc⟩ : Fin 256))
      = ValueIdx.ix4 (0 : Fin 1) (0 : Fin 1) (⟨r, hr⟩ : Fin 512) (⟨c, hc⟩ : Fin 256) := by
    refine Shape.reshapeEquiv_eq_of_rowMajor _ ?_
    rw [Shape.rowMajor_val_four, Shape.rowMajor_val_two]
    show ((0 * 1 + 0) * 512 + r) * 256 + c = r * 256 + c
    omega
  have key := ValueKit.rect_emb_unit_val (s := S2x4x2560x256) ![w, jt, o, 0] S1x1x512x256.size h (ValueIdx.ix4 (0 : Fin 1) (0 : Fin 1) (⟨r, hr⟩ : Fin 512) (⟨c, hc⟩ : Fin 256))
  have key2 := ValueKit.rect_emb_unit_val (s := S2560x1024) ![o, o2] S512x256.size h2 (ValueIdx.ix2 (⟨r, hr⟩ : Fin 512) (⟨c, hc⟩ : Fin 256))
  have L : at4 (arg10.view.read (Elt Ideal) (stored arg10 src X ![w, jt, o, 0] h ![o, o2] h2) : S2x4x2560x256.Idx → BitVec 32) w jt (o + r) c
      = (slotW arg10 ![w, jt, o, 0] h).view.read (Elt Ideal) (stored arg10 src X ![w, jt, o, 0] h ![o, o2] h2) (ValueIdx.ix2 (⟨r, hr⟩ : Fin 512) (⟨c, hc⟩ : Fin 256)) := by
    show _ = arg10.view.read (Elt Ideal) (stored arg10 src X ![w, jt, o, 0] h ![o, o2] h2) ((Rect.unit (s := S2x4x2560x256) ![w, jt, o, 0] S1x1x512x256.size h).emb (Shape.reshapeEquiv squeezes_S1x1x512x256_S512x256.numel_eq (ValueIdx.ix2 (⟨r, hr⟩ : Fin 512) (⟨c, hc⟩ : Fin 256))))
    refine Eq.trans ?_ (congrArg (fun z => arg10.view.read (Elt Ideal) (stored arg10 src X ![w, jt, o, 0] h ![o, o2] h2) ((Rect.unit (s := S2x4x2560x256) ![w, jt, o, 0] S1x1x512x256.size h).emb z)) e4).symm
    refine (at4_of (arg10.view.read (Elt Ideal) (stored arg10 src X ![w, jt, o, 0] h ![o, o2] h2) : S2x4x2560x256.Idx → BitVec 32) _ ?_ ?_ ?_ ?_).symm
    · exact (key 0).trans (Nat.add_zero _)
    · exact (key 1).trans (Nat.add_zero _)
    · exact key 2
    · exact (key 3).trans (Nat.zero_add _)
  rw [L, hw]
  exact at2_of (src.view.read (Elt Ideal) X : S2560x1024.Idx → BitVec 32) ((Rect.unit (s := S2560x1024) ![o, o2] S512x256.size h2).emb (ValueIdx.ix2 (⟨r, hr⟩ : Fin 512) (⟨c, hc⟩ : Fin 256))) (key2 0) (key2 1)

theorem wordsA_at (X : BufTy.Contents (Elt Ideal) arg10.view.ty) {off : Fin 4 → ℕ} (inb : ∀ a, off a + S1x1x64x256.size a ≤ S2x4x2560x256.size a) (w jt o : ℕ) (e : off = ![w, jt, o, 0]) (r c : ℕ) (hr : r < 64) (hc : c < 256) :
    at2 (wordsA arg10 off inb X) r c = at4 (arg10.view.read (Elt Ideal) X : S2x4x2560x256.Idx → BitVec 32) w jt (o + r) c := by
  unfold wordsA
  refine (cast_drop2 (a := 64) (b := 256) _ _ _).trans ?_
  show at4 _ 0 0 (r % 64) (c % 256) = _
  rw [Nat.mod_eq_of_lt hr, Nat.mod_eq_of_lt hc]
  refine (at4_readAt (n0 := 2) (n1 := 4) (n2 := 2560) (n3 := 256) (s0 := 1) (s1 := 1) (s2 := 64) (s3 := 256) arg10.view X inb e (by omega) (by omega) hr hc).trans ?_
  simp

theorem wordsC_at (X : BufTy.Contents (Elt Ideal) arg10.view.ty) {off : Fin 4 → ℕ} (inb : ∀ a, off a + S1x1x128x256.size a ≤ S2x4x2560x256.size a) (w jt o : ℕ) (e : off = ![w, jt, o, 0]) (r c : ℕ) (hr : r < 128) (hc : c < 256) :
    at2 (wordsC arg10 off inb X) r c = at4 (arg10.view.read (Elt Ideal) X : S2x4x2560x256.Idx → BitVec 32) w jt (o + r) c := by
  unfold wordsC
  refine (cast_drop2 (a := 128) (b := 256) _ _ _).trans ?_
  show at4 _ 0 0 (r % 128) (c % 256) = _
  rw [Nat.mod_eq_of_lt hr, Nat.mod_eq_of_lt hc]
  refine (at4_readAt (n0 := 2) (n1 := 4) (n2 := 2560) (n3 := 256) (s0 := 1) (s1 := 1) (s2 := 128) (s3 := 256) arg10.view X inb e (by omega) (by omega) hr hc).trans ?_
  simp

/-- The ten products of group g of a step. -/
def grp (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips) (t3 : Fin k0_t3_loop.trips) (g : Fin 4) : List (Feed Ideal) := [
    ⟨0, 0, 0, xaOf arg15 X15 t3 (BitVec.ofNat 32 g.val) (BitVec.ofNat 32 (64 * ((0 : Fin 2)).val)) (k0_off75_inb t3 g 0),
      tileA (pairTile m (preT arg14 X14 (k0_off55 t2 t3 (BitVec.ofNat 32 g.val)) (k0_off55_inb t2 t3 g)) (preT arg14 X14 (k0_off56 t2 t3 (BitVec.ofNat 32 g.val)) (k0_off56_inb t2 t3 g))) (pairTile m (preT arg14 X14 (k0_off65 t2 t3 (BitVec.ofNat 32 g.val)) (k0_off65_inb t2 t3 g)) (preT arg14 X14 (k0_off66 t2 t3 (BitVec.ofNat 32 g.val)) (k0_off66_inb t2 t3 g)))
        (wordsA arg10 (k0_off76 t2 t3 (BitVec.ofNat 32 g.val) (BitVec.ofNat 32 (64 * ((0 : Fin 2)).val))) (k0_off76_inb t2 t3 g 0) (stored arg10 arg1 X1 (k0_off51 t2 t3) (k0_off51_inb t2 t3) (k0_off52 t2 t3) (k0_off52_inb t2 t3))), fits_0_16⟩,
    ⟨1, 0, 0, xaOf arg15 X15 t3 (BitVec.ofNat 32 g.val) (BitVec.ofNat 32 (64 * ((0 : Fin 2)).val)) (k0_off75_inb t3 g 0),
      tileA (pairTile m (preT arg14 X14 (k0_off60 t2 t3 (BitVec.ofNat 32 g.val)) (k0_off60_inb t2 t3 g)) (preT arg14 X14 (k0_off61 t2 t3 (BitVec.ofNat 32 g.val)) (k0_off61_inb t2 t3 g))) (pairTile m (preT arg14 X14 (k0_off70 t2 t3 (BitVec.ofNat 32 g.val)) (k0_off70_inb t2 t3 g)) (preT arg14 X14 (k0_off71 t2 t3 (BitVec.ofNat 32 g.val)) (k0_off71_inb t2 t3 g)))
        (wordsA arg10 (k0_off77 t2 t3 (BitVec.ofNat 32 g.val) (BitVec.ofNat 32 (64 * ((0 : Fin 2)).val))) (k0_off77_inb t2 t3 g 0) (stored arg10 arg5 X5 (k0_off54 t2 t3) (k0_off54_inb t2 t3) (k0_off52 t2 t3) (k0_off52_inb t2 t3))), fits_0_16⟩,
    ⟨0, 1, 4, xaOf arg15 X15 t3 (BitVec.ofNat 32 g.val) (BitVec.ofNat 32 (64 * ((0 : Fin 2)).val)) (k0_off75_inb t3 g 0),
      tileB (pairTile m (preT arg14 X14 (k0_off57 t2 t3 (BitVec.ofNat 32 g.val)) (k0_off57_inb t2 t3 g)) (preT arg14 X14 (k0_off58 t2 t3 (BitVec.ofNat 32 g.val)) (k0_off58_inb t2 t3 g))) (pairTile m (preT arg14 X14 (k0_off67 t2 t3 (BitVec.ofNat 32 g.val)) (k0_off67_inb t2 t3 g)) (preT arg14 X14 (k0_off68 t2 t3 (BitVec.ofNat 32 g.val)) (k0_off68_inb t2 t3 g)))
        (wordsA arg10 (k0_off76 t2 t3 (BitVec.ofNat 32 g.val) (BitVec.ofNat 32 (64 * ((0 : Fin 2)).val))) (k0_off76_inb t2 t3 g 0) (stored arg10 arg1 X1 (k0_off51 t2 t3) (k0_off51_inb t2 t3) (k0_off52 t2 t3) (k0_off52_inb t2 t3))), fits_4_16⟩,
    ⟨1, 1, 4, xaOf arg15 X15 t3 (BitVec.ofNat 32 g.val) (BitVec.ofNat 32 (64 * ((0 : Fin 2)).val)) (k0_off75_inb t3 g 0),
      tileB (pairTile m (preT arg14 X14 (k0_off62 t2 t3 (BitVec.ofNat 32 g.val)) (k0_off62_inb t2 t3 g)) (preT arg14 X14 (k0_off63 t2 t3 (BitVec.ofNat 32 g.val)) (k0_off63_inb t2 t3 g))) (pairTile m (preT arg14 X14 (k0_off72 t2 t3 (BitVec.ofNat 32 g.val)) (k0_off72_inb t2 t3 g)) (preT arg14 X14 (k0_off73 t2 t3 (BitVec.ofNat 32 g.val)) (k0_off73_inb t2 t3 g)))
        (wordsA arg10 (k0_off77 t2 t3 (BitVec.ofNat 32 g.val) (BitVec.ofNat 32 (64 * ((0 : Fin 2)).val))) (k0_off77_inb t2 t3 g 0) (stored arg10 arg5 X5 (k0_off54 t2 t3) (k0_off54_inb t2 t3) (k0_off52 t2 t3) (k0_off52_inb t2 t3))), fits_4_16⟩,
    ⟨0, 0, 0, xaOf arg15 X15 t3 (BitVec.ofNat 32 g.val) (BitVec.ofNat 32 (64 * ((1 : Fin 2)).val)) (k0_off75_inb t3 g 1),
      tileA (pairTile m (preT arg14 X14 (k0_off55 t2 t3 (BitVec.ofNat 32 g.val)) (k0_off55_inb t2 t3 g)) (preT arg14 X14 (k0_off56 t2 t3 (BitVec.ofNat 32 g.val)) (k0_off56_inb t2 t3 g))) (pairTile m (preT arg14 X14 (k0_off65 t2 t3 (BitVec.ofNat 32 g.val)) (k0_off65_inb t2 t3 g)) (preT arg14 X14 (k0_off66 t2 t3 (BitVec.ofNat 32 g.val)) (k0_off66_inb t2 t3 g)))
        (wordsA arg10 (k0_off76 t2 t3 (BitVec.ofNat 32 g.val) (BitVec.ofNat 32 (64 * ((1 : Fin 2)).val))) (k0_off76_inb t2 t3 g 1) (stored arg10 arg1 X1 (k0_off51 t2 t3) (k0_off51_inb t2 t3) (k0_off52 t2 t3) (k0_off52_inb t2 t3))), fits_0_16⟩,
    ⟨1, 0, 0, xaOf arg15 X15 t3 (BitVec.ofNat 32 g.val) (BitVec.ofNat 32 (64 * ((1 : Fin 2)).val)) (k0_off75_inb t3 g 1),
      tileA (pairTile m (preT arg14 X14 (k0_off60 t2 t3 (BitVec.ofNat 32 g.val)) (k0_off60_inb t2 t3 g)) (preT arg14 X14 (k0_off61 t2 t3 (BitVec.ofNat 32 g.val)) (k0_off61_inb t2 t3 g))) (pairTile m (preT arg14 X14 (k0_off70 t2 t3 (BitVec.ofNat 32 g.val)) (k0_off70_inb t2 t3 g)) (preT arg14 X14 (k0_off71 t2 t3 (BitVec.ofNat 32 g.val)) (k0_off71_inb t2 t3 g)))
        (wordsA arg10 (k0_off77 t2 t3 (BitVec.ofNat 32 g.val) (BitVec.ofNat 32 (64 * ((1 : Fin 2)).val))) (k0_off77_inb t2 t3 g 1) (stored arg10 arg5 X5 (k0_off54 t2 t3) (k0_off54_inb t2 t3) (k0_off52 t2 t3) (k0_off52_inb t2 t3))), fits_0_16⟩,
    ⟨0, 1, 4, xaOf arg15 X15 t3 (BitVec.ofNat 32 g.val) (BitVec.ofNat 32 (64 * ((1 : Fin 2)).val)) (k0_off75_inb t3 g 1),
      tileB (pairTile m (preT arg14 X14 (k0_off57 t2 t3 (BitVec.ofNat 32 g.val)) (k0_off57_inb t2 t3 g)) (preT arg14 X14 (k0_off58 t2 t3 (BitVec.ofNat 32 g.val)) (k0_off58_inb t2 t3 g))) (pairTile m (preT arg14 X14 (k0_off67 t2 t3 (BitVec.ofNat 32 g.val)) (k0_off67_inb t2 t3 g)) (preT arg14 X14 (k0_off68 t2 t3 (BitVec.ofNat 32 g.val)) (k0_off68_inb t2 t3 g)))
        (wordsA arg10 (k0_off76 t2 t3 (BitVec.ofNat 32 g.val) (BitVec.ofNat 32 (64 * ((1 : Fin 2)).val))) (k0_off76_inb t2 t3 g 1) (stored arg10 arg1 X1 (k0_off51 t2 t3) (k0_off51_inb t2 t3) (k0_off52 t2 t3) (k0_off52_inb t2 t3))), fits_4_16⟩,
    ⟨1, 1, 4, xaOf arg15 X15 t3 (BitVec.ofNat 32 g.val) (BitVec.ofNat 32 (64 * ((1 : Fin 2)).val)) (k0_off75_inb t3 g 1),
      tileB (pairTile m (preT arg14 X14 (k0_off62 t2 t3 (BitVec.ofNat 32 g.val)) (k0_off62_inb t2 t3 g)) (preT arg14 X14 (k0_off63 t2 t3 (BitVec.ofNat 32 g.val)) (k0_off63_inb t2 t3 g))) (pairTile m (preT arg14 X14 (k0_off72 t2 t3 (BitVec.ofNat 32 g.val)) (k0_off72_inb t2 t3 g)) (preT arg14 X14 (k0_off73 t2 t3 (BitVec.ofNat 32 g.val)) (k0_off73_inb t2 t3 g)))
        (wordsA arg10 (k0_off77 t2 t3 (BitVec.ofNat 32 g.val) (BitVec.ofNat 32 (64 * ((1 : Fin 2)).val))) (k0_off77_inb t2 t3 g 1) (stored arg10 arg5 X5 (k0_off54 t2 t3) (k0_off54_inb t2 t3) (k0_off52 t2 t3) (k0_off52_inb t2 t3))), fits_4_16⟩,
    ⟨0, 0, 8, xcOf arg16 X16 t3 (BitVec.ofNat 32 g.val) (k0_off78_inb t3 g),
      tileC (oneTile (preT arg14 X14 (k0_off59 t2 t3 (BitVec.ofNat 32 g.val)) (k0_off59_inb t2 t3 g))) (oneTile (preT arg14 X14 (k0_off69 t2 t3 (BitVec.ofNat 32 g.val)) (k0_off69_inb t2 t3 g)))
        (wordsC arg10 (k0_off79 t2 t3 (BitVec.ofNat 32 g.val)) (k0_off79_inb t2 t3 g) (stored arg10 arg1 X1 (k0_off51 t2 t3) (k0_off51_inb t2 t3) (k0_off52 t2 t3) (k0_off52_inb t2 t3))), fits_8_16⟩,
    ⟨1, 0, 8, xcOf arg16 X16 t3 (BitVec.ofNat 32 g.val) (k0_off78_inb t3 g),
      tileC (oneTile (preT arg14 X14 (k0_off64 t2 t3 (BitVec.ofNat 32 g.val)) (k0_off64_inb t2 t3 g))) (oneTile (preT arg14 X14 (k0_off74 t2 t3 (BitVec.ofNat 32 g.val)) (k0_off74_inb t2 t3 g)))
        (wordsC arg10 (k0_off80 t2 t3 (BitVec.ofNat 32 g.val)) (k0_off80_inb t2 t3 g) (stored arg10 arg5 X5 (k0_off54 t2 t3) (k0_off54_inb t2 t3) (k0_off52 t2 t3) (k0_off52_inb t2 t3))), fits_8_16⟩]

set_option maxHeartbeats 4000000 in
theorem feeds_eq (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips) (t3 : Fin k0_t3_loop.trips) :
    feeds (F := Ideal) arg1 arg5 arg10 arg14 arg15 arg16 X1 X5 X14 X15 X16 m t2 t3
      = grp arg1 arg5 arg10 arg14 arg15 arg16 X1 X5 X14 X15 X16 m t2 t3 0 ++ grp arg1 arg5 arg10 arg14 arg15 arg16 X1 X5 X14 X15 X16 m t2 t3 1
        ++ grp arg1 arg5 arg10 arg14 arg15 arg16 X1 X5 X14 X15 X16 m t2 t3 2 ++ grp arg1 arg5 arg10 arg14 arg15 arg16 X1 X5 X14 X15 X16 m t2 t3 3 := by
  rfl

end Cert.KernelIdeal

end
-- ==== Proof.KernelIdeal.Prep.lean ====
/-
  What the preparing loop stores: the zeros, scaled to the field's place in its byte, the scales and the residual products.
-/
module

public import proofs.«01_k».proof.Proof.KernelIdeal.Loop1
public import proofs.«01_k».proof.Proof.At

@[expose] public section

set_option maxRecDepth 16384

noncomputable section

namespace Cert.KernelIdeal

open Gen Cert.Value
open Idealize.ShloMosaic Idealize.ShloMosaic.TcCoe Idealize.ShloMosaic.Tactic

/-- Two halves interleaved by rows. -/
def il (lo hi : FVec Ideal S20x256 .bf16) : S1x1x1x40x256.Idx → EReal :=
  interleaveRows S1x1x1x40x256 (shapeCast S1x1x1x20x256 lo shapeCasts_S20x256_S1x1x1x20x256) (shapeCast S1x1x1x20x256 hi shapeCasts_S20x256_S1x1x1x20x256)
    bitcasts_S1x1x1x40x256_w16_S1x1x1x20x256_w32

theorem il_at (lo hi : FVec Ideal S20x256 .bf16) (x : S1x1x1x40x256.Idx) :
    il lo hi x = if (x 3).val % 2 = 0 then at2 lo ((x 3).val / 2) (x 4).val else at2 hi ((x 3).val / 2) (x 4).val := by
  unfold il interleaveRows
  dsimp only
  have hr : S1x1x1x40x256.row x = (x 3).val := rfl
  rw [hr]
  split
  · exact cast_add3 (a := 20) (b := 256) lo shapeCasts_S20x256_S1x1x1x20x256 _
  · exact cast_add3 (a := 20) (b := 256) hi shapeCasts_S20x256_S1x1x1x20x256 _

/-- A row of zeros, scaled. -/
def zq (c : BitVec 32) (v : IVec S1x20x256 8) : FVec Ideal S20x256 .bf16 :=
  truncf (F := Ideal) .bf16 (mulf (sitofp (F := Ideal) .f32 (extui 32 (shapeCast S20x256 v shapeCasts_S1x20x256_S20x256) natLt_8_32)) (broadcast S20x256 (FloatOps.ofBits (F := Ideal) .f32 c))) k0_pay6._proof_1

/-- A row of scales. -/
def sq (v : FVec Ideal S1x20x256 .bf16) : FVec Ideal S20x256 .bf16 :=
  truncf (F := Ideal) .bf16 (extf (F := Ideal) .f32 (shapeCast S20x256 v shapeCasts_S1x20x256_S20x256) k0_pay6._proof_1) k0_pay6._proof_1

theorem zq_at (c : BitVec 32) (o : ℕ) (ho : Ideal.ofBits .f32 c = two o) (v : IVec S1x20x256 8) (x : S20x256.Idx) :
    zq c v x = num (at3 v 0 (x 0).val (x 1).val) * two o := by
  show (((((shapeCast S20x256 v shapeCasts_S1x20x256_S20x256 x).setWidth 32).toInt : ℝ) : EReal)) * Ideal.ofBits .f32 c = _
  rw [sitofp_num, ho]
  exact congrArg (fun b => num b * two o) (cast_drop1 (a := 20) (b := 256) v shapeCasts_S1x20x256_S20x256 x)

theorem sq_at (v : FVec Ideal S1x20x256 .bf16) (x : S20x256.Idx) :
    sq v x = at3 v 0 (x 0).val (x 1).val := by
  show shapeCast S20x256 v shapeCasts_S1x20x256_S20x256 x = _
  exact cast_drop1 (a := 20) (b := 256) v shapeCasts_S1x20x256_S20x256 x

/-- What the table holds at an index. -/
def prepF (S Z : ℕ → ℕ → ℕ → EReal) (y : S2x4x10x48x256.Idx) : EReal := prepAt S Z (y 0).val (y 1).val (y 2).val (y 3).val (y 4).val

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

def zF (X12 : BufTy.Contents (Elt Ideal) arg12.view.ty) (w g n : ℕ) : EReal := num (at3 (arg12.view.read (Elt Ideal) X12 : S2x20x10240.Idx → BitVec 8) w g n)
def sF (X11 : BufTy.Contents (Elt Ideal) arg11.view.ty) (w g n : ℕ) : EReal := at3 (arg11.view.read (Elt Ideal) X11 : S2x20x10240.Idx → EReal) w g n
def rF (X17 : BufTy.Contents (Elt Ideal) arg17.view.ty) (w b n : ℕ) : EReal := at3 (arg17.view.read (Elt Ideal) X17 : S2x2x10240.Idx → EReal) w b n

theorem x3_lt {off : Fin 5 → ℕ} {inb} (x : (Rect.unit (s := S2x4x10x48x256) off S1x1x1x40x256.size inb).shape.Idx) : (x 3).val < 40 ∧ (x 4).val < 256 ∧ (x 0).val = 0 ∧ (x 1).val = 0 ∧ (x 2).val = 0 :=
  ⟨(x 3).isLt, (x 4).isLt, Nat.lt_one_iff.mp (x 0).isLt, Nat.lt_one_iff.mp (x 1).isLt, Nat.lt_one_iff.mp (x 2).isLt⟩

theorem prepF_emb (S Z : ℕ → ℕ → ℕ → EReal) {off : Fin 5 → ℕ} {inb} (x : (Rect.unit (s := S2x4x10x48x256) off S1x1x1x40x256.size inb).shape.Idx)
    {w jt p : ℕ} (h : off = ![w, jt, p, 0, 0]) :
    prepF S Z ((Rect.unit (s := S2x4x10x48x256) off S1x1x1x40x256.size inb).emb x) = prepAt S Z w jt p (x 3).val (x 4).val := by
  subst h
  have key := Idealize.ShloMosaic.ValueKit.rect_emb_unit_val (s := S2x4x10x48x256) ![w, jt, p, 0, 0] S1x1x1x40x256.size inb x
  obtain ⟨_, _, h0, h1, h2⟩ := x3_lt x
  unfold prepF
  rw [key 0, key 1, key 2, key 3, key 4, h0, h1, h2]
  show prepAt S Z (w + 0) (jt + 0) (p + 0) (0 + (x 3).val) (0 + (x 4).val) = _
  simp

theorem zpiece (S : ℕ → ℕ → ℕ → EReal) (X12 : BufTy.Contents (Elt Ideal) arg12.view.ty) {off : Fin 5 → ℕ} {inb} {o1 o2 : Fin 3 → ℕ} {i1 i2} {c1 c2 : BitVec 32} (w jt p : ℕ) (hp : p < 5)
    (h : off = ![w, jt, p, 0, 0]) (h1 : o1 = ![w, 0, rowField (2 * p) * 1024 + 256 * jt]) (h2 : o2 = ![w, 0, rowField (2 * p + 1) * 1024 + 256 * jt])
    (hc1 : Ideal.ofBits .f32 c1 = two (rowOff (2 * p))) (hc2 : Ideal.ofBits .f32 c2 = two (rowOff (2 * p + 1)))
    (x : (Rect.unit (s := S2x4x10x48x256) off S1x1x1x40x256.size inb).shape.Idx) :
    il (zq c1 (View.readAt (Elt Ideal) arg12.view (Rect.unit (s := S2x20x10240) o1 S1x20x256.size i1).toLoadRect X12))
       (zq c2 (View.readAt (Elt Ideal) arg12.view (Rect.unit (s := S2x20x10240) o2 S1x20x256.size i2).toLoadRect X12)) x
      = prepF S (zF arg12 X12) ((Rect.unit (s := S2x4x10x48x256) off S1x1x1x40x256.size inb).emb x) := by
  rw [prepF_emb S _ x h, prepAt, if_pos hp, il_at]
  obtain ⟨h3, h4, _, _, _⟩ := x3_lt x
  have e4 : (x 4).val % 256 = (x 4).val := Nat.mod_eq_of_lt h4
  have e3 : (x 3).val / 2 % 20 = (x 3).val / 2 := Nat.mod_eq_of_lt (by omega)
  split
  · rename_i hr
    rw [hr, at2, zq_at c1 _ hc1]
    show num (at3 _ 0 ((x 3).val / 2 % 20) ((x 4).val % 256)) * _ = _
    rw [e3, e4, at3_readAt (n0 := 2) (n1 := 20) (n2 := 10240) (s0 := 1) (s1 := 20) (s2 := 256) arg12.view X12 i1 h1 (by omega) (by omega) h4]
    simp [zF]
  · rename_i hr
    have hr : (x 3).val % 2 = 1 := by omega
    rw [hr, at2, zq_at c2 _ hc2]
    show num (at3 _ 0 ((x 3).val / 2 % 20) ((x 4).val % 256)) * _ = _
    rw [e3, e4, at3_readAt (n0 := 2) (n1 := 20) (n2 := 10240) (s0 := 1) (s1 := 20) (s2 := 256) arg12.view X12 i2 h2 (by omega) (by omega) h4]
    simp [zF]

theorem spiece (Z : ℕ → ℕ → ℕ → EReal) (X11 : BufTy.Contents (Elt Ideal) arg11.view.ty) {off : Fin 5 → ℕ} {inb} {o1 o2 : Fin 3 → ℕ} {i1 i2} (w jt p : ℕ) (hp : ¬ p < 5)
    (h : off = ![w, jt, p, 0, 0]) (h1 : o1 = ![w, 0, rowField (2 * (p - 5)) * 1024 + 256 * jt]) (h2 : o2 = ![w, 0, rowField (2 * (p - 5) + 1) * 1024 + 256 * jt])
    (x : (Rect.unit (s := S2x4x10x48x256) off S1x1x1x40x256.size inb).shape.Idx) :
    il (sq (View.readAt (Elt Ideal) arg11.view (Rect.unit (s := S2x20x10240) o1 S1x20x256.size i1).toLoadRect X11))
       (sq (View.readAt (Elt Ideal) arg11.view (Rect.unit (s := S2x20x10240) o2 S1x20x256.size i2).toLoadRect X11)) x
      = prepF (sF arg11 X11) Z ((Rect.unit (s := S2x4x10x48x256) off S1x1x1x40x256.size inb).emb x) := by
  rw [prepF_emb _ Z x h, prepAt, if_neg hp, il_at]
  obtain ⟨h3, h4, _, _, _⟩ := x3_lt x
  have e4 : (x 4).val % 256 = (x 4).val := Nat.mod_eq_of_lt h4
  have e3 : (x 3).val / 2 % 20 = (x 3).val / 2 := Nat.mod_eq_of_lt (by omega)
  split
  · rename_i hr
    rw [hr, at2, sq_at]
    show at3 _ 0 ((x 3).val / 2 % 20) ((x 4).val % 256) = _
    rw [e3, e4, at3_readAt (n0 := 2) (n1 := 20) (n2 := 10240) (s0 := 1) (s1 := 20) (s2 := 256) arg11.view X11 i1 h1 (by omega) (by omega) h4]
    simp [sF]
  · rename_i hr
    have hr : (x 3).val % 2 = 1 := by omega
    rw [hr, at2, sq_at]
    show at3 _ 0 ((x 3).val / 2 % 20) ((x 4).val % 256) = _
    rw [e3, e4, at3_readAt (n0 := 2) (n1 := 20) (n2 := 10240) (s0 := 1) (s1 := 20) (s2 := 256) arg11.view X11 i2 h2 (by omega) (by omega) h4]
    simp [sF]

/-- What the rows of residual products hold at an index. -/
def residF (R : ℕ → ℕ → ℕ → EReal) (y : S2x4x20x256.Idx) : EReal :=
  R (y 0).val ((y 2).val % 2) (rowField ((y 2).val / 2) * 1024 + 256 * (y 1).val + (y 3).val)

/-- Two rows of residual products. -/
def rq (v : FVec Ideal S1x2x256 .f32) : S1x1x2x256.Idx → EReal :=
  shapeCast S1x1x2x256 (shapeCast S2x256 v shapeCasts_S1x2x256_S2x256) shapeCasts_S2x256_S1x1x2x256

theorem rpiece (X17 : BufTy.Contents (Elt Ideal) arg17.view.ty) {off : Fin 4 → ℕ} {inb} {o1 : Fin 3 → ℕ} {i1} (w jt r : ℕ)
    (h : off = ![w, jt, 2 * r, 0]) (h1 : o1 = ![w, 0, rowField r * 1024 + 256 * jt])
    (x : (Rect.unit (s := S2x4x20x256) off S1x1x2x256.size inb).shape.Idx) :
    rq (View.readAt (Elt Ideal) arg17.view (Rect.unit (s := S2x2x10240) o1 S1x2x256.size i1).toLoadRect X17) x
      = residF (rF arg17 X17) ((Rect.unit (s := S2x4x20x256) off S1x1x2x256.size inb).emb x) := by
  subst h
  have key := Idealize.ShloMosaic.ValueKit.rect_emb_unit_val (s := S2x4x20x256) ![w, jt, 2 * r, 0] S1x1x2x256.size inb x
  have h0 : (x 0).val = 0 := Nat.lt_one_iff.mp (x 0).isLt
  have h1' : (x 1).val = 0 := Nat.lt_one_iff.mp (x 1).isLt
  have h2 : (x 2).val < 2 := (x 2).isLt
  have h3 : (x 3).val < 256 := (x 3).isLt
  unfold residF
  rw [key 0, key 1, key 2, key 3, h0, h1']
  show _ = rF arg17 X17 (w + 0) ((2 * r + (x 2).val) % 2) (rowField ((2 * r + (x 2).val) / 2) * 1024 + 256 * (jt + 0) + (0 + (x 3).val))
  have e1 : (2 * r + (x 2).val) % 2 = (x 2).val := by omega
  have e2 : (2 * r + (x 2).val) / 2 = r := by omega
  rw [e1, e2]
  unfold rq
  refine (cast_add2 (a := 2) (b := 256) _ shapeCasts_S2x256_S1x1x2x256 x).trans ?_
  rw [at2]
  refine (cast_drop1 (a := 2) (b := 256) _ shapeCasts_S1x2x256_S2x256 _).trans ?_
  show at3 _ 0 ((x 2).val % 2) ((x 3).val % 256) = _
  rw [Nat.mod_eq_of_lt h2, Nat.mod_eq_of_lt h3, at3_readAt (n0 := 2) (n1 := 2) (n2 := 10240) (s0 := 1) (s1 := 2) (s2 := 256) arg17.view X17 i1 h1 (by omega) h2 h3]
  simp [rF]

theorem poff2 (k : Fin k0_t1_loop.trips) : k0_off2 k = ![0, k.val, 0, 0, 0] := by revert k; decide +kernel
theorem poff24 (k : Fin k0_t1_loop.trips) : k0_off24 k = ![1, k.val, 0, 0, 0] := by revert k; decide +kernel
theorem poff13 (k : Fin k0_t1_loop.trips) : k0_off13 k = ![0, k.val, 0, 0] := by revert k; decide +kernel
theorem poff35 (k : Fin k0_t1_loop.trips) : k0_off35 k = ![1, k.val, 0, 0] := by revert k; decide +kernel
theorem poff3 (k : Fin k0_t1_loop.trips) : k0_off3 k = ![0, k.val, 5, 0, 0] := by revert k; decide +kernel
theorem poff25 (k : Fin k0_t1_loop.trips) : k0_off25 k = ![1, k.val, 5, 0, 0] := by revert k; decide +kernel
theorem poff14 (k : Fin k0_t1_loop.trips) : k0_off14 k = ![0, k.val, 16, 0] := by revert k; decide +kernel
theorem poff36 (k : Fin k0_t1_loop.trips) : k0_off36 k = ![1, k.val, 16, 0] := by revert k; decide +kernel
theorem poff4 (k : Fin k0_t1_loop.trips) : k0_off4 k = ![0, k.val, 1, 0, 0] := by revert k; decide +kernel
theorem poff26 (k : Fin k0_t1_loop.trips) : k0_off26 k = ![1, k.val, 1, 0, 0] := by revert k; decide +kernel
theorem poff15 (k : Fin k0_t1_loop.trips) : k0_off15 k = ![0, k.val, 8, 0] := by revert k; decide +kernel
theorem poff37 (k : Fin k0_t1_loop.trips) : k0_off37 k = ![1, k.val, 8, 0] := by revert k; decide +kernel
theorem poff5 (k : Fin k0_t1_loop.trips) : k0_off5 k = ![0, k.val, 6, 0, 0] := by revert k; decide +kernel
theorem poff27 (k : Fin k0_t1_loop.trips) : k0_off27 k = ![1, k.val, 6, 0, 0] := by revert k; decide +kernel
theorem poff16 (k : Fin k0_t1_loop.trips) : k0_off16 k = ![0, k.val, 2, 0] := by revert k; decide +kernel
theorem poff38 (k : Fin k0_t1_loop.trips) : k0_off38 k = ![1, k.val, 2, 0] := by revert k; decide +kernel
theorem poff6 (k : Fin k0_t1_loop.trips) : k0_off6 k = ![0, k.val, 2, 0, 0] := by revert k; decide +kernel
theorem poff28 (k : Fin k0_t1_loop.trips) : k0_off28 k = ![1, k.val, 2, 0, 0] := by revert k; decide +kernel
theorem poff17 (k : Fin k0_t1_loop.trips) : k0_off17 k = ![0, k.val, 18, 0] := by revert k; decide +kernel
theorem poff39 (k : Fin k0_t1_loop.trips) : k0_off39 k = ![1, k.val, 18, 0] := by revert k; decide +kernel
theorem poff7 (k : Fin k0_t1_loop.trips) : k0_off7 k = ![0, k.val, 7, 0, 0] := by revert k; decide +kernel
theorem poff29 (k : Fin k0_t1_loop.trips) : k0_off29 k = ![1, k.val, 7, 0, 0] := by revert k; decide +kernel
theorem poff18 (k : Fin k0_t1_loop.trips) : k0_off18 k = ![0, k.val, 10, 0] := by revert k; decide +kernel
theorem poff40 (k : Fin k0_t1_loop.trips) : k0_off40 k = ![1, k.val, 10, 0] := by revert k; decide +kernel
theorem poff8 (k : Fin k0_t1_loop.trips) : k0_off8 k = ![0, k.val, 3, 0, 0] := by revert k; decide +kernel
theorem poff30 (k : Fin k0_t1_loop.trips) : k0_off30 k = ![1, k.val, 3, 0, 0] := by revert k; decide +kernel
theorem poff19 (k : Fin k0_t1_loop.trips) : k0_off19 k = ![0, k.val, 4, 0] := by revert k; decide +kernel
theorem poff41 (k : Fin k0_t1_loop.trips) : k0_off41 k = ![1, k.val, 4, 0] := by revert k; decide +kernel
theorem poff9 (k : Fin k0_t1_loop.trips) : k0_off9 k = ![0, k.val, 8, 0, 0] := by revert k; decide +kernel
theorem poff31 (k : Fin k0_t1_loop.trips) : k0_off31 k = ![1, k.val, 8, 0, 0] := by revert k; decide +kernel
theorem poff20 (k : Fin k0_t1_loop.trips) : k0_off20 k = ![0, k.val, 12, 0] := by revert k; decide +kernel
theorem poff42 (k : Fin k0_t1_loop.trips) : k0_off42 k = ![1, k.val, 12, 0] := by revert k; decide +kernel
theorem poff10 (k : Fin k0_t1_loop.trips) : k0_off10 k = ![0, k.val, 4, 0, 0] := by revert k; decide +kernel
theorem poff32 (k : Fin k0_t1_loop.trips) : k0_off32 k = ![1, k.val, 4, 0, 0] := by revert k; decide +kernel
theorem poff21 (k : Fin k0_t1_loop.trips) : k0_off21 k = ![0, k.val, 6, 0] := by revert k; decide +kernel
theorem poff43 (k : Fin k0_t1_loop.trips) : k0_off43 k = ![1, k.val, 6, 0] := by revert k; decide +kernel
theorem poff11 (k : Fin k0_t1_loop.trips) : k0_off11 k = ![0, k.val, 9, 0, 0] := by revert k; decide +kernel
theorem poff33 (k : Fin k0_t1_loop.trips) : k0_off33 k = ![1, k.val, 9, 0, 0] := by revert k; decide +kernel
theorem poff22 (k : Fin k0_t1_loop.trips) : k0_off22 k = ![0, k.val, 14, 0] := by revert k; decide +kernel
theorem poff44 (k : Fin k0_t1_loop.trips) : k0_off44 k = ![1, k.val, 14, 0] := by revert k; decide +kernel
theorem roff1_0 (k : Fin k0_t1_loop.trips) : k0_off1 k 0#32 = ![0, 0, 0 * 1024 + 256 * k.val] := by revert k; decide +kernel
theorem roff23_0 (k : Fin k0_t1_loop.trips) : k0_off23 k 0#32 = ![1, 0, 0 * 1024 + 256 * k.val] := by revert k; decide +kernel
theorem roff12_0 (k : Fin k0_t1_loop.trips) : k0_off12 k 0#32 = ![0, 0, 0 * 1024 + 256 * k.val] := by revert k; decide +kernel
theorem roff34_0 (k : Fin k0_t1_loop.trips) : k0_off34 k 0#32 = ![1, 0, 0 * 1024 + 256 * k.val] := by revert k; decide +kernel
theorem roff1_1 (k : Fin k0_t1_loop.trips) : k0_off1 k 1024#32 = ![0, 0, 1 * 1024 + 256 * k.val] := by revert k; decide +kernel
theorem roff23_1 (k : Fin k0_t1_loop.trips) : k0_off23 k 1024#32 = ![1, 0, 1 * 1024 + 256 * k.val] := by revert k; decide +kernel
theorem roff12_1 (k : Fin k0_t1_loop.trips) : k0_off12 k 1024#32 = ![0, 0, 1 * 1024 + 256 * k.val] := by revert k; decide +kernel
theorem roff34_1 (k : Fin k0_t1_loop.trips) : k0_off34 k 1024#32 = ![1, 0, 1 * 1024 + 256 * k.val] := by revert k; decide +kernel
theorem roff1_2 (k : Fin k0_t1_loop.trips) : k0_off1 k 2048#32 = ![0, 0, 2 * 1024 + 256 * k.val] := by revert k; decide +kernel
theorem roff23_2 (k : Fin k0_t1_loop.trips) : k0_off23 k 2048#32 = ![1, 0, 2 * 1024 + 256 * k.val] := by revert k; decide +kernel
theorem roff12_2 (k : Fin k0_t1_loop.trips) : k0_off12 k 2048#32 = ![0, 0, 2 * 1024 + 256 * k.val] := by revert k; decide +kernel
theorem roff34_2 (k : Fin k0_t1_loop.trips) : k0_off34 k 2048#32 = ![1, 0, 2 * 1024 + 256 * k.val] := by revert k; decide +kernel
theorem roff1_3 (k : Fin k0_t1_loop.trips) : k0_off1 k 3072#32 = ![0, 0, 3 * 1024 + 256 * k.val] := by revert k; decide +kernel
theorem roff23_3 (k : Fin k0_t1_loop.trips) : k0_off23 k 3072#32 = ![1, 0, 3 * 1024 + 256 * k.val] := by revert k; decide +kernel
theorem roff12_3 (k : Fin k0_t1_loop.trips) : k0_off12 k 3072#32 = ![0, 0, 3 * 1024 + 256 * k.val] := by revert k; decide +kernel
theorem roff34_3 (k : Fin k0_t1_loop.trips) : k0_off34 k 3072#32 = ![1, 0, 3 * 1024 + 256 * k.val] := by revert k; decide +kernel
theorem roff1_4 (k : Fin k0_t1_loop.trips) : k0_off1 k 4096#32 = ![0, 0, 4 * 1024 + 256 * k.val] := by revert k; decide +kernel
theorem roff23_4 (k : Fin k0_t1_loop.trips) : k0_off23 k 4096#32 = ![1, 0, 4 * 1024 + 256 * k.val] := by revert k; decide +kernel
theorem roff12_4 (k : Fin k0_t1_loop.trips) : k0_off12 k 4096#32 = ![0, 0, 4 * 1024 + 256 * k.val] := by revert k; decide +kernel
theorem roff34_4 (k : Fin k0_t1_loop.trips) : k0_off34 k 4096#32 = ![1, 0, 4 * 1024 + 256 * k.val] := by revert k; decide +kernel
theorem roff1_5 (k : Fin k0_t1_loop.trips) : k0_off1 k 5120#32 = ![0, 0, 5 * 1024 + 256 * k.val] := by revert k; decide +kernel
theorem roff23_5 (k : Fin k0_t1_loop.trips) : k0_off23 k 5120#32 = ![1, 0, 5 * 1024 + 256 * k.val] := by revert k; decide +kernel
theorem roff12_5 (k : Fin k0_t1_loop.trips) : k0_off12 k 5120#32 = ![0, 0, 5 * 1024 + 256 * k.val] := by revert k; decide +kernel
theorem roff34_5 (k : Fin k0_t1_loop.trips) : k0_off34 k 5120#32 = ![1, 0, 5 * 1024 + 256 * k.val] := by revert k; decide +kernel
theorem roff1_6 (k : Fin k0_t1_loop.trips) : k0_off1 k 6144#32 = ![0, 0, 6 * 1024 + 256 * k.val] := by revert k; decide +kernel
theorem roff23_6 (k : Fin k0_t1_loop.trips) : k0_off23 k 6144#32 = ![1, 0, 6 * 1024 + 256 * k.val] := by revert k; decide +kernel
theorem roff12_6 (k : Fin k0_t1_loop.trips) : k0_off12 k 6144#32 = ![0, 0, 6 * 1024 + 256 * k.val] := by revert k; decide +kernel
theorem roff34_6 (k : Fin k0_t1_loop.trips) : k0_off34 k 6144#32 = ![1, 0, 6 * 1024 + 256 * k.val] := by revert k; decide +kernel
theorem roff1_7 (k : Fin k0_t1_loop.trips) : k0_off1 k 7168#32 = ![0, 0, 7 * 1024 + 256 * k.val] := by revert k; decide +kernel
theorem roff23_7 (k : Fin k0_t1_loop.trips) : k0_off23 k 7168#32 = ![1, 0, 7 * 1024 + 256 * k.val] := by revert k; decide +kernel
theorem roff12_7 (k : Fin k0_t1_loop.trips) : k0_off12 k 7168#32 = ![0, 0, 7 * 1024 + 256 * k.val] := by revert k; decide +kernel
theorem roff34_7 (k : Fin k0_t1_loop.trips) : k0_off34 k 7168#32 = ![1, 0, 7 * 1024 + 256 * k.val] := by revert k; decide +kernel
theorem roff1_8 (k : Fin k0_t1_loop.trips) : k0_off1 k 8192#32 = ![0, 0, 8 * 1024 + 256 * k.val] := by revert k; decide +kernel
theorem roff23_8 (k : Fin k0_t1_loop.trips) : k0_off23 k 8192#32 = ![1, 0, 8 * 1024 + 256 * k.val] := by revert k; decide +kernel
theorem roff12_8 (k : Fin k0_t1_loop.trips) : k0_off12 k 8192#32 = ![0, 0, 8 * 1024 + 256 * k.val] := by revert k; decide +kernel
theorem roff34_8 (k : Fin k0_t1_loop.trips) : k0_off34 k 8192#32 = ![1, 0, 8 * 1024 + 256 * k.val] := by revert k; decide +kernel
theorem roff1_9 (k : Fin k0_t1_loop.trips) : k0_off1 k 9216#32 = ![0, 0, 9 * 1024 + 256 * k.val] := by revert k; decide +kernel
theorem roff23_9 (k : Fin k0_t1_loop.trips) : k0_off23 k 9216#32 = ![1, 0, 9 * 1024 + 256 * k.val] := by revert k; decide +kernel
theorem roff12_9 (k : Fin k0_t1_loop.trips) : k0_off12 k 9216#32 = ![0, 0, 9 * 1024 + 256 * k.val] := by revert k; decide +kernel
theorem roff34_9 (k : Fin k0_t1_loop.trips) : k0_off34 k 9216#32 = ![1, 0, 9 * 1024 + 256 * k.val] := by revert k; decide +kernel

/-- The rows of zeros and scales one trip stores, last first. -/
def pieces14 (X11 : BufTy.Contents (Elt Ideal) arg11.view.ty) (X12 : BufTy.Contents (Elt Ideal) arg12.view.ty) (X17 : BufTy.Contents (Elt Ideal) arg17.view.ty) (k : Fin k0_t1_loop.trips) : List (View.Piece (Elt Ideal) S2x4x10x48x256 .bf16) :=
  [⟨Rect.unit (s := S2x4x10x48x256) (k0_off33 k) S1x1x1x40x256.size (k0_off33_inb k), il (sq (View.readAt (Elt Ideal) arg11.view (Rect.unit (s := S2x20x10240) (k0_off23 k 1024#32) S1x20x256.size (k0_off23_inb k 1)).toLoadRect X11)) (sq (View.readAt (Elt Ideal) arg11.view (Rect.unit (s := S2x20x10240) (k0_off23 k 4096#32) S1x20x256.size (k0_off23_inb k 4)).toLoadRect X11))⟩,
   ⟨Rect.unit (s := S2x4x10x48x256) (k0_off32 k) S1x1x1x40x256.size (k0_off32_inb k), il (zq 1090519040#32 (View.readAt (Elt Ideal) arg12.view (Rect.unit (s := S2x20x10240) (k0_off23 k 1024#32) S1x20x256.size (k0_off23_inb k 1)).toLoadRect X12)) (zq 1098907648#32 (View.readAt (Elt Ideal) arg12.view (Rect.unit (s := S2x20x10240) (k0_off23 k 4096#32) S1x20x256.size (k0_off23_inb k 4)).toLoadRect X12))⟩,
   ⟨Rect.unit (s := S2x4x10x48x256) (k0_off31 k) S1x1x1x40x256.size (k0_off31_inb k), il (sq (View.readAt (Elt Ideal) arg11.view (Rect.unit (s := S2x20x10240) (k0_off23 k 7168#32) S1x20x256.size (k0_off23_inb k 7)).toLoadRect X11)) (sq (View.readAt (Elt Ideal) arg11.view (Rect.unit (s := S2x20x10240) (k0_off23 k 9216#32) S1x20x256.size (k0_off23_inb k 9)).toLoadRect X11))⟩,
   ⟨Rect.unit (s := S2x4x10x48x256) (k0_off30 k) S1x1x1x40x256.size (k0_off30_inb k), il (zq 1082130432#32 (View.readAt (Elt Ideal) arg12.view (Rect.unit (s := S2x20x10240) (k0_off23 k 7168#32) S1x20x256.size (k0_off23_inb k 7)).toLoadRect X12)) (zq 1065353216#32 (View.readAt (Elt Ideal) arg12.view (Rect.unit (s := S2x20x10240) (k0_off23 k 9216#32) S1x20x256.size (k0_off23_inb k 9)).toLoadRect X12))⟩,
   ⟨Rect.unit (s := S2x4x10x48x256) (k0_off29 k) S1x1x1x40x256.size (k0_off29_inb k), il (sq (View.readAt (Elt Ideal) arg11.view (Rect.unit (s := S2x20x10240) (k0_off23 k 2048#32) S1x20x256.size (k0_off23_inb k 2)).toLoadRect X11)) (sq (View.readAt (Elt Ideal) arg11.view (Rect.unit (s := S2x20x10240) (k0_off23 k 5120#32) S1x20x256.size (k0_off23_inb k 5)).toLoadRect X11))⟩,
   ⟨Rect.unit (s := S2x4x10x48x256) (k0_off28 k) S1x1x1x40x256.size (k0_off28_inb k), il (zq 1090519040#32 (View.readAt (Elt Ideal) arg12.view (Rect.unit (s := S2x20x10240) (k0_off23 k 2048#32) S1x20x256.size (k0_off23_inb k 2)).toLoadRect X12)) (zq 1098907648#32 (View.readAt (Elt Ideal) arg12.view (Rect.unit (s := S2x20x10240) (k0_off23 k 5120#32) S1x20x256.size (k0_off23_inb k 5)).toLoadRect X12))⟩,
   ⟨Rect.unit (s := S2x4x10x48x256) (k0_off27 k) S1x1x1x40x256.size (k0_off27_inb k), il (sq (View.readAt (Elt Ideal) arg11.view (Rect.unit (s := S2x20x10240) (k0_off23 k 6144#32) S1x20x256.size (k0_off23_inb k 6)).toLoadRect X11)) (sq (View.readAt (Elt Ideal) arg11.view (Rect.unit (s := S2x20x10240) (k0_off23 k 8192#32) S1x20x256.size (k0_off23_inb k 8)).toLoadRect X11))⟩,
   ⟨Rect.unit (s := S2x4x10x48x256) (k0_off26 k) S1x1x1x40x256.size (k0_off26_inb k), il (zq 1082130432#32 (View.readAt (Elt Ideal) arg12.view (Rect.unit (s := S2x20x10240) (k0_off23 k 6144#32) S1x20x256.size (k0_off23_inb k 6)).toLoadRect X12)) (zq 1065353216#32 (View.readAt (Elt Ideal) arg12.view (Rect.unit (s := S2x20x10240) (k0_off23 k 8192#32) S1x20x256.size (k0_off23_inb k 8)).toLoadRect X12))⟩,
   ⟨Rect.unit (s := S2x4x10x48x256) (k0_off25 k) S1x1x1x40x256.size (k0_off25_inb k), il (sq (View.readAt (Elt Ideal) arg11.view (Rect.unit (s := S2x20x10240) (k0_off23 k 0#32) S1x20x256.size (k0_off23_inb k 0)).toLoadRect X11)) (sq (View.readAt (Elt Ideal) arg11.view (Rect.unit (s := S2x20x10240) (k0_off23 k 3072#32) S1x20x256.size (k0_off23_inb k 3)).toLoadRect X11))⟩,
   ⟨Rect.unit (s := S2x4x10x48x256) (k0_off24 k) S1x1x1x40x256.size (k0_off24_inb k), il (zq 1065353216#32 (View.readAt (Elt Ideal) arg12.view (Rect.unit (s := S2x20x10240) (k0_off23 k 0#32) S1x20x256.size (k0_off23_inb k 0)).toLoadRect X12)) (zq 1073741824#32 (View.readAt (Elt Ideal) arg12.view (Rect.unit (s := S2x20x10240) (k0_off23 k 3072#32) S1x20x256.size (k0_off23_inb k 3)).toLoadRect X12))⟩,
   ⟨Rect.unit (s := S2x4x10x48x256) (k0_off11 k) S1x1x1x40x256.size (k0_off11_inb k), il (sq (View.readAt (Elt Ideal) arg11.view (Rect.unit (s := S2x20x10240) (k0_off1 k 1024#32) S1x20x256.size (k0_off1_inb k 1)).toLoadRect X11)) (sq (View.readAt (Elt Ideal) arg11.view (Rect.unit (s := S2x20x10240) (k0_off1 k 4096#32) S1x20x256.size (k0_off1_inb k 4)).toLoadRect X11))⟩,
   ⟨Rect.unit (s := S2x4x10x48x256) (k0_off10 k) S1x1x1x40x256.size (k0_off10_inb k), il (zq 1090519040#32 (View.readAt (Elt Ideal) arg12.view (Rect.unit (s := S2x20x10240) (k0_off1 k 1024#32) S1x20x256.size (k0_off1_inb k 1)).toLoadRect X12)) (zq 1098907648#32 (View.readAt (Elt Ideal) arg12.view (Rect.unit (s := S2x20x10240) (k0_off1 k 4096#32) S1x20x256.size (k0_off1_inb k 4)).toLoadRect X12))⟩,
   ⟨Rect.unit (s := S2x4x10x48x256) (k0_off9 k) S1x1x1x40x256.size (k0_off9_inb k), il (sq (View.readAt (Elt Ideal) arg11.view (Rect.unit (s := S2x20x10240) (k0_off1 k 7168#32) S1x20x256.size (k0_off1_inb k 7)).toLoadRect X11)) (sq (View.readAt (Elt Ideal) arg11.view (Rect.unit (s := S2x20x10240) (k0_off1 k 9216#32) S1x20x256.size (k0_off1_inb k 9)).toLoadRect X11))⟩,
   ⟨Rect.unit (s := S2x4x10x48x256) (k0_off8 k) S1x1x1x40x256.size (k0_off8_inb k), il (zq 1082130432#32 (View.readAt (Elt Ideal) arg12.view (Rect.unit (s := S2x20x10240) (k0_off1 k 7168#32) S1x20x256.size (k0_off1_inb k 7)).toLoadRect X12)) (zq 1065353216#32 (View.readAt (Elt Ideal) arg12.view (Rect.unit (s := S2x20x10240) (k0_off1 k 9216#32) S1x20x256.size (k0_off1_inb k 9)).toLoadRect X12))⟩,
   ⟨Rect.unit (s := S2x4x10x48x256) (k0_off7 k) S1x1x1x40x256.size (k0_off7_inb k), il (sq (View.readAt (Elt Ideal) arg11.view (Rect.unit (s := S2x20x10240) (k0_off1 k 2048#32) S1x20x256.size (k0_off1_inb k 2)).toLoadRect X11)) (sq (View.readAt (Elt Ideal) arg11.view (Rect.unit (s := S2x20x10240) (k0_off1 k 5120#32) S1x20x256.size (k0_off1_inb k 5)).toLoadRect X11))⟩,
   ⟨Rect.unit (s := S2x4x10x48x256) (k0_off6 k) S1x1x1x40x256.size (k0_off6_inb k), il (zq 1090519040#32 (View.readAt (Elt Ideal) arg12.view (Rect.unit (s := S2x20x10240) (k0_off1 k 2048#32) S1x20x256.size (k0_off1_inb k 2)).toLoadRect X12)) (zq 1098907648#32 (View.readAt (Elt Ideal) arg12.view (Rect.unit (s := S2x20x10240) (k0_off1 k 5120#32) S1x20x256.size (k0_off1_inb k 5)).toLoadRect X12))⟩,
   ⟨Rect.unit (s := S2x4x10x48x256) (k0_off5 k) S1x1x1x40x256.size (k0_off5_inb k), il (sq (View.readAt (Elt Ideal) arg11.view (Rect.unit (s := S2x20x10240) (k0_off1 k 6144#32) S1x20x256.size (k0_off1_inb k 6)).toLoadRect X11)) (sq (View.readAt (Elt Ideal) arg11.view (Rect.unit (s := S2x20x10240) (k0_off1 k 8192#32) S1x20x256.size (k0_off1_inb k 8)).toLoadRect X11))⟩,
   ⟨Rect.unit (s := S2x4x10x48x256) (k0_off4 k) S1x1x1x40x256.size (k0_off4_inb k), il (zq 1082130432#32 (View.readAt (Elt Ideal) arg12.view (Rect.unit (s := S2x20x10240) (k0_off1 k 6144#32) S1x20x256.size (k0_off1_inb k 6)).toLoadRect X12)) (zq 1065353216#32 (View.readAt (Elt Ideal) arg12.view (Rect.unit (s := S2x20x10240) (k0_off1 k 8192#32) S1x20x256.size (k0_off1_inb k 8)).toLoadRect X12))⟩,
   ⟨Rect.unit (s := S2x4x10x48x256) (k0_off3 k) S1x1x1x40x256.size (k0_off3_inb k), il (sq (View.readAt (Elt Ideal) arg11.view (Rect.unit (s := S2x20x10240) (k0_off1 k 0#32) S1x20x256.size (k0_off1_inb k 0)).toLoadRect X11)) (sq (View.readAt (Elt Ideal) arg11.view (Rect.unit (s := S2x20x10240) (k0_off1 k 3072#32) S1x20x256.size (k0_off1_inb k 3)).toLoadRect X11))⟩,
   ⟨Rect.unit (s := S2x4x10x48x256) (k0_off2 k) S1x1x1x40x256.size (k0_off2_inb k), il (zq 1065353216#32 (View.readAt (Elt Ideal) arg12.view (Rect.unit (s := S2x20x10240) (k0_off1 k 0#32) S1x20x256.size (k0_off1_inb k 0)).toLoadRect X12)) (zq 1073741824#32 (View.readAt (Elt Ideal) arg12.view (Rect.unit (s := S2x20x10240) (k0_off1 k 3072#32) S1x20x256.size (k0_off1_inb k 3)).toLoadRect X12))⟩]

/-- The rows of residual products one trip stores, last first. -/
def pieces18 (X11 : BufTy.Contents (Elt Ideal) arg11.view.ty) (X12 : BufTy.Contents (Elt Ideal) arg12.view.ty) (X17 : BufTy.Contents (Elt Ideal) arg17.view.ty) (k : Fin k0_t1_loop.trips) : List (View.Piece (Elt Ideal) S2x4x20x256 .f32) :=
  [⟨Rect.unit (s := S2x4x20x256) (k0_off44 k) S1x1x2x256.size (k0_off44_inb k), rq (View.readAt (Elt Ideal) arg17.view (Rect.unit (s := S2x2x10240) (k0_off34 k 9216#32) S1x2x256.size (k0_off34_inb k 9)).toLoadRect X17)⟩,
   ⟨Rect.unit (s := S2x4x20x256) (k0_off43 k) S1x1x2x256.size (k0_off43_inb k), rq (View.readAt (Elt Ideal) arg17.view (Rect.unit (s := S2x2x10240) (k0_off34 k 8192#32) S1x2x256.size (k0_off34_inb k 8)).toLoadRect X17)⟩,
   ⟨Rect.unit (s := S2x4x20x256) (k0_off42 k) S1x1x2x256.size (k0_off42_inb k), rq (View.readAt (Elt Ideal) arg17.view (Rect.unit (s := S2x2x10240) (k0_off34 k 7168#32) S1x2x256.size (k0_off34_inb k 7)).toLoadRect X17)⟩,
   ⟨Rect.unit (s := S2x4x20x256) (k0_off41 k) S1x1x2x256.size (k0_off41_inb k), rq (View.readAt (Elt Ideal) arg17.view (Rect.unit (s := S2x2x10240) (k0_off34 k 6144#32) S1x2x256.size (k0_off34_inb k 6)).toLoadRect X17)⟩,
   ⟨Rect.unit (s := S2x4x20x256) (k0_off40 k) S1x1x2x256.size (k0_off40_inb k), rq (View.readAt (Elt Ideal) arg17.view (Rect.unit (s := S2x2x10240) (k0_off34 k 5120#32) S1x2x256.size (k0_off34_inb k 5)).toLoadRect X17)⟩,
   ⟨Rect.unit (s := S2x4x20x256) (k0_off39 k) S1x1x2x256.size (k0_off39_inb k), rq (View.readAt (Elt Ideal) arg17.view (Rect.unit (s := S2x2x10240) (k0_off34 k 4096#32) S1x2x256.size (k0_off34_inb k 4)).toLoadRect X17)⟩,
   ⟨Rect.unit (s := S2x4x20x256) (k0_off38 k) S1x1x2x256.size (k0_off38_inb k), rq (View.readAt (Elt Ideal) arg17.view (Rect.unit (s := S2x2x10240) (k0_off34 k 3072#32) S1x2x256.size (k0_off34_inb k 3)).toLoadRect X17)⟩,
   ⟨Rect.unit (s := S2x4x20x256) (k0_off37 k) S1x1x2x256.size (k0_off37_inb k), rq (View.readAt (Elt Ideal) arg17.view (Rect.unit (s := S2x2x10240) (k0_off34 k 2048#32) S1x2x256.size (k0_off34_inb k 2)).toLoadRect X17)⟩,
   ⟨Rect.unit (s := S2x4x20x256) (k0_off36 k) S1x1x2x256.size (k0_off36_inb k), rq (View.readAt (Elt Ideal) arg17.view (Rect.unit (s := S2x2x10240) (k0_off34 k 1024#32) S1x2x256.size (k0_off34_inb k 1)).toLoadRect X17)⟩,
   ⟨Rect.unit (s := S2x4x20x256) (k0_off35 k) S1x1x2x256.size (k0_off35_inb k), rq (View.readAt (Elt Ideal) arg17.view (Rect.unit (s := S2x2x10240) (k0_off34 k 0#32) S1x2x256.size (k0_off34_inb k 0)).toLoadRect X17)⟩,
   ⟨Rect.unit (s := S2x4x20x256) (k0_off22 k) S1x1x2x256.size (k0_off22_inb k), rq (View.readAt (Elt Ideal) arg17.view (Rect.unit (s := S2x2x10240) (k0_off12 k 9216#32) S1x2x256.size (k0_off12_inb k 9)).toLoadRect X17)⟩,
   ⟨Rect.unit (s := S2x4x20x256) (k0_off21 k) S1x1x2x256.size (k0_off21_inb k), rq (View.readAt (Elt Ideal) arg17.view (Rect.unit (s := S2x2x10240) (k0_off12 k 8192#32) S1x2x256.size (k0_off12_inb k 8)).toLoadRect X17)⟩,
   ⟨Rect.unit (s := S2x4x20x256) (k0_off20 k) S1x1x2x256.size (k0_off20_inb k), rq (View.readAt (Elt Ideal) arg17.view (Rect.unit (s := S2x2x10240) (k0_off12 k 7168#32) S1x2x256.size (k0_off12_inb k 7)).toLoadRect X17)⟩,
   ⟨Rect.unit (s := S2x4x20x256) (k0_off19 k) S1x1x2x256.size (k0_off19_inb k), rq (View.readAt (Elt Ideal) arg17.view (Rect.unit (s := S2x2x10240) (k0_off12 k 6144#32) S1x2x256.size (k0_off12_inb k 6)).toLoadRect X17)⟩,
   ⟨Rect.unit (s := S2x4x20x256) (k0_off18 k) S1x1x2x256.size (k0_off18_inb k), rq (View.readAt (Elt Ideal) arg17.view (Rect.unit (s := S2x2x10240) (k0_off12 k 5120#32) S1x2x256.size (k0_off12_inb k 5)).toLoadRect X17)⟩,
   ⟨Rect.unit (s := S2x4x20x256) (k0_off17 k) S1x1x2x256.size (k0_off17_inb k), rq (View.readAt (Elt Ideal) arg17.view (Rect.unit (s := S2x2x10240) (k0_off12 k 4096#32) S1x2x256.size (k0_off12_inb k 4)).toLoadRect X17)⟩,
   ⟨Rect.unit (s := S2x4x20x256) (k0_off16 k) S1x1x2x256.size (k0_off16_inb k), rq (View.readAt (Elt Ideal) arg17.view (Rect.unit (s := S2x2x10240) (k0_off12 k 3072#32) S1x2x256.size (k0_off12_inb k 3)).toLoadRect X17)⟩,
   ⟨Rect.unit (s := S2x4x20x256) (k0_off15 k) S1x1x2x256.size (k0_off15_inb k), rq (View.readAt (Elt Ideal) arg17.view (Rect.unit (s := S2x2x10240) (k0_off12 k 2048#32) S1x2x256.size (k0_off12_inb k 2)).toLoadRect X17)⟩,
   ⟨Rect.unit (s := S2x4x20x256) (k0_off14 k) S1x1x2x256.size (k0_off14_inb k), rq (View.readAt (Elt Ideal) arg17.view (Rect.unit (s := S2x2x10240) (k0_off12 k 1024#32) S1x2x256.size (k0_off12_inb k 1)).toLoadRect X17)⟩,
   ⟨Rect.unit (s := S2x4x20x256) (k0_off13 k) S1x1x2x256.size (k0_off13_inb k), rq (View.readAt (Elt Ideal) arg17.view (Rect.unit (s := S2x2x10240) (k0_off12 k 0#32) S1x2x256.size (k0_off12_inb k 0)).toLoadRect X17)⟩]

set_option maxHeartbeats 4000000 in
theorem trip1_pieces (c : Dev nD) (X11 : BufTy.Contents (Elt Ideal) arg11.view.ty) (X12 : BufTy.Contents (Elt Ideal) arg12.view.ty) (X17 : BufTy.Contents (Elt Ideal) arg17.view.ty) (k : Fin k0_t1_loop.trips) :
    (trip1 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 k).1 = (pieces14 arg11 arg12 arg17 X11 X12 X17 k, pieces18 arg11 arg12 arg17 X11 X12 X17 k) := by
  unfold trip1
  rfl

set_option maxHeartbeats 4000000 in
theorem pieces14_agree (X11 : BufTy.Contents (Elt Ideal) arg11.view.ty) (X12 : BufTy.Contents (Elt Ideal) arg12.view.ty) (X17 : BufTy.Contents (Elt Ideal) arg17.view.ty) (k : Fin k0_t1_loop.trips) : ∀ p ∈ pieces14 arg11 arg12 arg17 X11 X12 X17 k, ∀ x : p.1.shape.Idx, p.2 x = prepF (sF arg11 X11) (zF arg12 X12) (p.1.emb x) := by
  intro p hp
  unfold pieces14 at hp
  rcases List.mem_cons.mp hp with h | hp
  · clear hp; subst h; intro x; exact spiece (inb := k0_off33_inb k) arg11 _ X11 1 k.val 9 (by decide) (poff33 k) (roff23_1 k) (roff23_4 k) x
  rcases List.mem_cons.mp hp with h | hp
  · clear hp; subst h; intro x; exact zpiece (inb := k0_off32_inb k) arg12 _ X12 1 k.val 4 (by decide) (poff32 k) (roff23_1 k) (roff23_4 k) ofBits_two3 ofBits_two4 x
  rcases List.mem_cons.mp hp with h | hp
  · clear hp; subst h; intro x; exact spiece (inb := k0_off31_inb k) arg11 _ X11 1 k.val 8 (by decide) (poff31 k) (roff23_7 k) (roff23_9 k) x
  rcases List.mem_cons.mp hp with h | hp
  · clear hp; subst h; intro x; exact zpiece (inb := k0_off30_inb k) arg12 _ X12 1 k.val 3 (by decide) (poff30 k) (roff23_7 k) (roff23_9 k) ofBits_two2 ofBits_two0 x
  rcases List.mem_cons.mp hp with h | hp
  · clear hp; subst h; intro x; exact spiece (inb := k0_off29_inb k) arg11 _ X11 1 k.val 7 (by decide) (poff29 k) (roff23_2 k) (roff23_5 k) x
  rcases List.mem_cons.mp hp with h | hp
  · clear hp; subst h; intro x; exact zpiece (inb := k0_off28_inb k) arg12 _ X12 1 k.val 2 (by decide) (poff28 k) (roff23_2 k) (roff23_5 k) ofBits_two3 ofBits_two4 x
  rcases List.mem_cons.mp hp with h | hp
  · clear hp; subst h; intro x; exact spiece (inb := k0_off27_inb k) arg11 _ X11 1 k.val 6 (by decide) (poff27 k) (roff23_6 k) (roff23_8 k) x
  rcases List.mem_cons.mp hp with h | hp
  · clear hp; subst h; intro x; exact zpiece (inb := k0_off26_inb k) arg12 _ X12 1 k.val 1 (by decide) (poff26 k) (roff23_6 k) (roff23_8 k) ofBits_two2 ofBits_two0 x
  rcases List.mem_cons.mp hp with h | hp
  · clear hp; subst h; intro x; exact spiece (inb := k0_off25_inb k) arg11 _ X11 1 k.val 5 (by decide) (poff25 k) (roff23_0 k) (roff23_3 k) x
  rcases List.mem_cons.mp hp with h | hp
  · clear hp; subst h; intro x; exact zpiece (inb := k0_off24_inb k) arg12 _ X12 1 k.val 0 (by decide) (poff24 k) (roff23_0 k) (roff23_3 k) ofBits_two0 ofBits_two1 x
  rcases List.mem_cons.mp hp with h | hp
  · clear hp; subst h; intro x; exact spiece (inb := k0_off11_inb k) arg11 _ X11 0 k.val 9 (by decide) (poff11 k) (roff1_1 k) (roff1_4 k) x
  rcases List.mem_cons.mp hp with h | hp
  · clear hp; subst h; intro x; exact zpiece (inb := k0_off10_inb k) arg12 _ X12 0 k.val 4 (by decide) (poff10 k) (roff1_1 k) (roff1_4 k) ofBits_two3 ofBits_two4 x
  rcases List.mem_cons.mp hp with h | hp
  · clear hp; subst h; intro x; exact spiece (inb := k0_off9_inb k) arg11 _ X11 0 k.val 8 (by decide) (poff9 k) (roff1_7 k) (roff1_9 k) x
  rcases List.mem_cons.mp hp with h | hp
  · clear hp; subst h; intro x; exact zpiece (inb := k0_off8_inb k) arg12 _ X12 0 k.val 3 (by decide) (poff8 k) (roff1_7 k) (roff1_9 k) ofBits_two2 ofBits_two0 x
  rcases List.mem_cons.mp hp with h | hp
  · clear hp; subst h; intro x; exact spiece (inb := k0_off7_inb k) arg11 _ X11 0 k.val 7 (by decide) (poff7 k) (roff1_2 k) (roff1_5 k) x
  rcases List.mem_cons.mp hp with h | hp
  · clear hp; subst h; intro x; exact zpiece (inb := k0_off6_inb k) arg12 _ X12 0 k.val 2 (by decide) (poff6 k) (roff1_2 k) (roff1_5 k) ofBits_two3 ofBits_two4 x
  rcases List.mem_cons.mp hp with h | hp
  · clear hp; subst h; intro x; exact spiece (inb := k0_off5_inb k) arg11 _ X11 0 k.val 6 (by decide) (poff5 k) (roff1_6 k) (roff1_8 k) x
  rcases List.mem_cons.mp hp with h | hp
  · clear hp; subst h; intro x; exact zpiece (inb := k0_off4_inb k) arg12 _ X12 0 k.val 1 (by decide) (poff4 k) (roff1_6 k) (roff1_8 k) ofBits_two2 ofBits_two0 x
  rcases List.mem_cons.mp hp with h | hp
  · clear hp; subst h; intro x; exact spiece (inb := k0_off3_inb k) arg11 _ X11 0 k.val 5 (by decide) (poff3 k) (roff1_0 k) (roff1_3 k) x
  rcases List.mem_cons.mp hp with h | hp
  · clear hp; subst h; intro x; exact zpiece (inb := k0_off2_inb k) arg12 _ X12 0 k.val 0 (by decide) (poff2 k) (roff1_0 k) (roff1_3 k) ofBits_two0 ofBits_two1 x
  cases hp

set_option maxHeartbeats 4000000 in
theorem pieces18_agree (X11 : BufTy.Contents (Elt Ideal) arg11.view.ty) (X12 : BufTy.Contents (Elt Ideal) arg12.view.ty) (X17 : BufTy.Contents (Elt Ideal) arg17.view.ty) (k : Fin k0_t1_loop.trips) : ∀ p ∈ pieces18 arg11 arg12 arg17 X11 X12 X17 k, ∀ x : p.1.shape.Idx, p.2 x = residF (rF arg17 X17) (p.1.emb x) := by
  intro p hp
  unfold pieces18 at hp
  rcases List.mem_cons.mp hp with h | hp
  · clear hp; subst h; intro x; exact rpiece (inb := k0_off44_inb k) arg17 X17 1 k.val 7 (poff44 k) (roff34_9 k) x
  rcases List.mem_cons.mp hp with h | hp
  · clear hp; subst h; intro x; exact rpiece (inb := k0_off43_inb k) arg17 X17 1 k.val 3 (poff43 k) (roff34_8 k) x
  rcases List.mem_cons.mp hp with h | hp
  · clear hp; subst h; intro x; exact rpiece (inb := k0_off42_inb k) arg17 X17 1 k.val 6 (poff42 k) (roff34_7 k) x
  rcases List.mem_cons.mp hp with h | hp
  · clear hp; subst h; intro x; exact rpiece (inb := k0_off41_inb k) arg17 X17 1 k.val 2 (poff41 k) (roff34_6 k) x
  rcases List.mem_cons.mp hp with h | hp
  · clear hp; subst h; intro x; exact rpiece (inb := k0_off40_inb k) arg17 X17 1 k.val 5 (poff40 k) (roff34_5 k) x
  rcases List.mem_cons.mp hp with h | hp
  · clear hp; subst h; intro x; exact rpiece (inb := k0_off39_inb k) arg17 X17 1 k.val 9 (poff39 k) (roff34_4 k) x
  rcases List.mem_cons.mp hp with h | hp
  · clear hp; subst h; intro x; exact rpiece (inb := k0_off38_inb k) arg17 X17 1 k.val 1 (poff38 k) (roff34_3 k) x
  rcases List.mem_cons.mp hp with h | hp
  · clear hp; subst h; intro x; exact rpiece (inb := k0_off37_inb k) arg17 X17 1 k.val 4 (poff37 k) (roff34_2 k) x
  rcases List.mem_cons.mp hp with h | hp
  · clear hp; subst h; intro x; exact rpiece (inb := k0_off36_inb k) arg17 X17 1 k.val 8 (poff36 k) (roff34_1 k) x
  rcases List.mem_cons.mp hp with h | hp
  · clear hp; subst h; intro x; exact rpiece (inb := k0_off35_inb k) arg17 X17 1 k.val 0 (poff35 k) (roff34_0 k) x
  rcases List.mem_cons.mp hp with h | hp
  · clear hp; subst h; intro x; exact rpiece (inb := k0_off22_inb k) arg17 X17 0 k.val 7 (poff22 k) (roff12_9 k) x
  rcases List.mem_cons.mp hp with h | hp
  · clear hp; subst h; intro x; exact rpiece (inb := k0_off21_inb k) arg17 X17 0 k.val 3 (poff21 k) (roff12_8 k) x
  rcases List.mem_cons.mp hp with h | hp
  · clear hp; subst h; intro x; exact rpiece (inb := k0_off20_inb k) arg17 X17 0 k.val 6 (poff20 k) (roff12_7 k) x
  rcases List.mem_cons.mp hp with h | hp
  · clear hp; subst h; intro x; exact rpiece (inb := k0_off19_inb k) arg17 X17 0 k.val 2 (poff19 k) (roff12_6 k) x
  rcases List.mem_cons.mp hp with h | hp
  · clear hp; subst h; intro x; exact rpiece (inb := k0_off18_inb k) arg17 X17 0 k.val 5 (poff18 k) (roff12_5 k) x
  rcases List.mem_cons.mp hp with h | hp
  · clear hp; subst h; intro x; exact rpiece (inb := k0_off17_inb k) arg17 X17 0 k.val 9 (poff17 k) (roff12_4 k) x
  rcases List.mem_cons.mp hp with h | hp
  · clear hp; subst h; intro x; exact rpiece (inb := k0_off16_inb k) arg17 X17 0 k.val 1 (poff16 k) (roff12_3 k) x
  rcases List.mem_cons.mp hp with h | hp
  · clear hp; subst h; intro x; exact rpiece (inb := k0_off15_inb k) arg17 X17 0 k.val 4 (poff15 k) (roff12_2 k) x
  rcases List.mem_cons.mp hp with h | hp
  · clear hp; subst h; intro x; exact rpiece (inb := k0_off14_inb k) arg17 X17 0 k.val 8 (poff14 k) (roff12_1 k) x
  rcases List.mem_cons.mp hp with h | hp
  · clear hp; subst h; intro x; exact rpiece (inb := k0_off13_inb k) arg17 X17 0 k.val 0 (poff13 k) (roff12_0 k) x
  cases hp

theorem mem14 {off : Fin 5 → ℕ} {inb} {w jt p : ℕ} (h : off = ![w, jt, p, 0, 0]) (y : S2x4x10x48x256.Idx) (h0 : (y 0).val = w) (h1 : (y 1).val = jt) (h2 : (y 2).val = p)
    (h3 : (y 3).val < 40) : y ∈ (Rect.unit (s := S2x4x10x48x256) off S1x1x1x40x256.size inb).set := by
  subst h h0 h1 h2
  rw [Rect.mem_set_unit]
  have h4 : (y 4).val < 256 := (y 4).isLt
  intro a
  fin_cases a
  · exact ⟨le_refl _, Nat.lt_succ_self _⟩
  · exact ⟨le_refl _, Nat.lt_succ_self _⟩
  · exact ⟨le_refl _, Nat.lt_succ_self _⟩
  · exact ⟨Nat.zero_le _, by show (y 3).val < 0 + 40; omega⟩
  · exact ⟨Nat.zero_le _, by show (y 4).val < 0 + 256; omega⟩

theorem mem18 {off : Fin 4 → ℕ} {inb} {w jt r : ℕ} (h : off = ![w, jt, 2 * r, 0]) (y : S2x4x20x256.Idx) (h0 : (y 0).val = w) (h1 : (y 1).val = jt) (h2 : (y 2).val / 2 = r) :
    y ∈ (Rect.unit (s := S2x4x20x256) off S1x1x2x256.size inb).set := by
  subst h h0 h1 h2
  rw [Rect.mem_set_unit]
  have h4 : (y 3).val < 256 := (y 3).isLt
  intro a
  fin_cases a
  · exact ⟨le_refl _, Nat.lt_succ_self _⟩
  · exact ⟨le_refl _, Nat.lt_succ_self _⟩
  · exact ⟨by show 2 * ((y 2).val / 2) ≤ (y 2).val; omega, by show (y 2).val < 2 * ((y 2).val / 2) + 2; omega⟩
  · exact ⟨Nat.zero_le _, by show (y 3).val < 0 + 256; omega⟩

theorem cover14 (X11 : BufTy.Contents (Elt Ideal) arg11.view.ty) (X12 : BufTy.Contents (Elt Ideal) arg12.view.ty) (X17 : BufTy.Contents (Elt Ideal) arg17.view.ty) (k : Fin k0_t1_loop.trips) (y : S2x4x10x48x256.Idx) (h1 : (y 1).val = k.val) (h3 : (y 3).val < 40) : ∃ p ∈ pieces14 arg11 arg12 arg17 X11 X12 X17 k, y ∈ p.1.set := by
  have hw : (y 0).val < 2 := (y 0).isLt
  have hp : (y 2).val < 10 := (y 2).isLt
  unfold pieces14
  have c0 : (y 0).val = 0 ∨ (y 0).val = 1 := by omega
  have c2 : (y 2).val = 0 ∨ (y 2).val = 1 ∨ (y 2).val = 2 ∨ (y 2).val = 3 ∨ (y 2).val = 4 ∨ (y 2).val = 5 ∨ (y 2).val = 6 ∨ (y 2).val = 7 ∨ (y 2).val = 8 ∨ (y 2).val = 9 := by omega
  rcases c0 with h0 | h0
  · rcases c2 with h2 | h2 | h2 | h2 | h2 | h2 | h2 | h2 | h2 | h2
    · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem14 (inb := k0_off2_inb k) (poff2 k) y h0 h1 h2 h3⟩
    · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), mem14 (inb := k0_off4_inb k) (poff4 k) y h0 h1 h2 h3⟩
    · exact ⟨_, (.tail _ (.tail _ (.tail _ (.tail _ (.tail _ (.tail _ (.tail _ (.tail _ (.tail _ (.tail _ (.tail _ (.tail _ (.tail _ (.tail _ (.tail _ (.head _)))))))))))))))), mem14 (inb := k0_off6_inb k) (poff6 k) y h0 h1 h2 h3⟩
    · exact ⟨_, (.tail _ (.tail _ (.tail _ (.tail _ (.tail _ (.tail _ (.tail _ (.tail _ (.tail _ (.tail _ (.tail _ (.tail _ (.tail _ (.head _)))))))))))))), mem14 (inb := k0_off8_inb k) (poff8 k) y h0 h1 h2 h3⟩
    · exact ⟨_, (.tail _ (.tail _ (.tail _ (.tail _ (.tail _ (.tail _ (.tail _ (.tail _ (.tail _ (.tail _ (.tail _ (.head _)))))))))))), mem14 (inb := k0_off10_inb k) (poff10 k) y h0 h1 h2 h3⟩
    · exact ⟨_, (.tail _ (.tail _ (.tail _ (.tail _ (.tail _ (.tail _ (.tail _ (.tail _ (.tail _ (.tail _ (.tail _ (.tail _ (.tail _ (.tail _ (.tail _ (.tail _ (.tail _ (.tail _ (.head _))))))))))))))))))), mem14 (inb := k0_off3_inb k) (poff3 k) y h0 h1 h2 h3⟩
    · exact ⟨_, (.tail _ (.tail _ (.tail _ (.tail _ (.tail _ (.tail _ (.tail _ (.tail _ (.tail _ (.tail _ (.tail _ (.tail _ (.tail _ (.tail _ (.tail _ (.tail _ (.head _))))))))))))))))), mem14 (inb := k0_off5_inb k) (poff5 k) y h0 h1 h2 h3⟩
    · exact ⟨_, (.tail _ (.tail _ (.tail _ (.tail _ (.tail _ (.tail _ (.tail _ (.tail _ (.tail _ (.tail _ (.tail _ (.tail _ (.tail _ (.tail _ (.head _))))))))))))))), mem14 (inb := k0_off7_inb k) (poff7 k) y h0 h1 h2 h3⟩
    · exact ⟨_, (.tail _ (.tail _ (.tail _ (.tail _ (.tail _ (.tail _ (.tail _ (.tail _ (.tail _ (.tail _ (.tail _ (.tail _ (.head _))))))))))))), mem14 (inb := k0_off9_inb k) (poff9 k) y h0 h1 h2 h3⟩
    · exact ⟨_, (.tail _ (.tail _ (.tail _ (.tail _ (.tail _ (.tail _ (.tail _ (.tail _ (.tail _ (.tail _ (.head _))))))))))), mem14 (inb := k0_off11_inb k) (poff11 k) y h0 h1 h2 h3⟩
  · rcases c2 with h2 | h2 | h2 | h2 | h2 | h2 | h2 | h2 | h2 | h2
    · exact ⟨_, (.tail _ (.tail _ (.tail _ (.tail _ (.tail _ (.tail _ (.tail _ (.tail _ (.tail _ (.head _)))))))))), mem14 (inb := k0_off24_inb k) (poff24 k) y h0 h1 h2 h3⟩
    · exact ⟨_, (.tail _ (.tail _ (.tail _ (.tail _ (.tail _ (.tail _ (.tail _ (.head _)))))))), mem14 (inb := k0_off26_inb k) (poff26 k) y h0 h1 h2 h3⟩
    · exact ⟨_, (.tail _ (.tail _ (.tail _ (.tail _ (.tail _ (.head _)))))), mem14 (inb := k0_off28_inb k) (poff28 k) y h0 h1 h2 h3⟩
    · exact ⟨_, (.tail _ (.tail _ (.tail _ (.head _)))), mem14 (inb := k0_off30_inb k) (poff30 k) y h0 h1 h2 h3⟩
    · exact ⟨_, (.tail _ (.head _)), mem14 (inb := k0_off32_inb k) (poff32 k) y h0 h1 h2 h3⟩
    · exact ⟨_, (.tail _ (.tail _ (.tail _ (.tail _ (.tail _ (.tail _ (.tail _ (.tail _ (.head _))))))))), mem14 (inb := k0_off25_inb k) (poff25 k) y h0 h1 h2 h3⟩
    · exact ⟨_, (.tail _ (.tail _ (.tail _ (.tail _ (.tail _ (.tail _ (.head _))))))), mem14 (inb := k0_off27_inb k) (poff27 k) y h0 h1 h2 h3⟩
    · exact ⟨_, (.tail _ (.tail _ (.tail _ (.tail _ (.head _))))), mem14 (inb := k0_off29_inb k) (poff29 k) y h0 h1 h2 h3⟩
    · exact ⟨_, (.tail _ (.tail _ (.head _))), mem14 (inb := k0_off31_inb k) (poff31 k) y h0 h1 h2 h3⟩
    · exact ⟨_, (.head _), mem14 (inb := k0_off33_inb k) (poff33 k) y h0 h1 h2 h3⟩

theorem cover18 (X11 : BufTy.Contents (Elt Ideal) arg11.view.ty) (X12 : BufTy.Contents (Elt Ideal) arg12.view.ty) (X17 : BufTy.Contents (Elt Ideal) arg17.view.ty) (k : Fin k0_t1_loop.trips) (y : S2x4x20x256.Idx) (h1 : (y 1).val = k.val) : ∃ p ∈ pieces18 arg11 arg12 arg17 X11 X12 X17 k, y ∈ p.1.set := by
  have hw : (y 0).val < 2 := (y 0).isLt
  have hp : (y 2).val < 20 := (y 2).isLt
  unfold pieces18
  have c0 : (y 0).val = 0 ∨ (y 0).val = 1 := by omega
  have c2 : (y 2).val / 2 = 0 ∨ (y 2).val / 2 = 1 ∨ (y 2).val / 2 = 2 ∨ (y 2).val / 2 = 3 ∨ (y 2).val / 2 = 4 ∨ (y 2).val / 2 = 5 ∨ (y 2).val / 2 = 6 ∨ (y 2).val / 2 = 7 ∨ (y 2).val / 2 = 8 ∨ (y 2).val / 2 = 9 := by omega
  rcases c0 with h0 | h0
  · rcases c2 with h2 | h2 | h2 | h2 | h2 | h2 | h2 | h2 | h2 | h2
    · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem18 (inb := k0_off13_inb k) (poff13 k) y h0 h1 h2⟩
    · exact ⟨_, (.tail _ (.tail _ (.tail _ (.tail _ (.tail _ (.tail _ (.tail _ (.tail _ (.tail _ (.tail _ (.tail _ (.tail _ (.tail _ (.tail _ (.tail _ (.tail _ (.head _))))))))))))))))), mem18 (inb := k0_off16_inb k) (poff16 k) y h0 h1 h2⟩
    · exact ⟨_, (.tail _ (.tail _ (.tail _ (.tail _ (.tail _ (.tail _ (.tail _ (.tail _ (.tail _ (.tail _ (.tail _ (.tail _ (.tail _ (.head _)))))))))))))), mem18 (inb := k0_off19_inb k) (poff19 k) y h0 h1 h2⟩
    · exact ⟨_, (.tail _ (.tail _ (.tail _ (.tail _ (.tail _ (.tail _ (.tail _ (.tail _ (.tail _ (.tail _ (.tail _ (.head _)))))))))))), mem18 (inb := k0_off21_inb k) (poff21 k) y h0 h1 h2⟩
    · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), mem18 (inb := k0_off15_inb k) (poff15 k) y h0 h1 h2⟩
    · exact ⟨_, (.tail _ (.tail _ (.tail _ (.tail _ (.tail _ (.tail _ (.tail _ (.tail _ (.tail _ (.tail _ (.tail _ (.tail _ (.tail _ (.tail _ (.head _))))))))))))))), mem18 (inb := k0_off18_inb k) (poff18 k) y h0 h1 h2⟩
    · exact ⟨_, (.tail _ (.tail _ (.tail _ (.tail _ (.tail _ (.tail _ (.tail _ (.tail _ (.tail _ (.tail _ (.tail _ (.tail _ (.head _))))))))))))), mem18 (inb := k0_off20_inb k) (poff20 k) y h0 h1 h2⟩
    · exact ⟨_, (.tail _ (.tail _ (.tail _ (.tail _ (.tail _ (.tail _ (.tail _ (.tail _ (.tail _ (.tail _ (.head _))))))))))), mem18 (inb := k0_off22_inb k) (poff22 k) y h0 h1 h2⟩
    · exact ⟨_, (.tail _ (.tail _ (.tail _ (.tail _ (.tail _ (.tail _ (.tail _ (.tail _ (.tail _ (.tail _ (.tail _ (.tail _ (.tail _ (.tail _ (.tail _ (.tail _ (.tail _ (.tail _ (.head _))))))))))))))))))), mem18 (inb := k0_off14_inb k) (poff14 k) y h0 h1 h2⟩
    · exact ⟨_, (.tail _ (.tail _ (.tail _ (.tail _ (.tail _ (.tail _ (.tail _ (.tail _ (.tail _ (.tail _ (.tail _ (.tail _ (.tail _ (.tail _ (.tail _ (.head _)))))))))))))))), mem18 (inb := k0_off17_inb k) (poff17 k) y h0 h1 h2⟩
  · rcases c2 with h2 | h2 | h2 | h2 | h2 | h2 | h2 | h2 | h2 | h2
    · exact ⟨_, (.tail _ (.tail _ (.tail _ (.tail _ (.tail _ (.tail _ (.tail _ (.tail _ (.tail _ (.head _)))))))))), mem18 (inb := k0_off35_inb k) (poff35 k) y h0 h1 h2⟩
    · exact ⟨_, (.tail _ (.tail _ (.tail _ (.tail _ (.tail _ (.tail _ (.head _))))))), mem18 (inb := k0_off38_inb k) (poff38 k) y h0 h1 h2⟩
    · exact ⟨_, (.tail _ (.tail _ (.tail _ (.head _)))), mem18 (inb := k0_off41_inb k) (poff41 k) y h0 h1 h2⟩
    · exact ⟨_, (.tail _ (.head _)), mem18 (inb := k0_off43_inb k) (poff43 k) y h0 h1 h2⟩
    · exact ⟨_, (.tail _ (.tail _ (.tail _ (.tail _ (.tail _ (.tail _ (.tail _ (.head _)))))))), mem18 (inb := k0_off37_inb k) (poff37 k) y h0 h1 h2⟩
    · exact ⟨_, (.tail _ (.tail _ (.tail _ (.tail _ (.head _))))), mem18 (inb := k0_off40_inb k) (poff40 k) y h0 h1 h2⟩
    · exact ⟨_, (.tail _ (.tail _ (.head _))), mem18 (inb := k0_off42_inb k) (poff42 k) y h0 h1 h2⟩
    · exact ⟨_, (.head _), mem18 (inb := k0_off44_inb k) (poff44 k) y h0 h1 h2⟩
    · exact ⟨_, (.tail _ (.tail _ (.tail _ (.tail _ (.tail _ (.tail _ (.tail _ (.tail _ (.head _))))))))), mem18 (inb := k0_off36_inb k) (poff36 k) y h0 h1 h2⟩
    · exact ⟨_, (.tail _ (.tail _ (.tail _ (.tail _ (.tail _ (.head _)))))), mem18 (inb := k0_off39_inb k) (poff39 k) y h0 h1 h2⟩

theorem pb1_mem (c : Dev nD) (X11 : BufTy.Contents (Elt Ideal) arg11.view.ty) (X12 : BufTy.Contents (Elt Ideal) arg12.view.ty) (X17 : BufTy.Contents (Elt Ideal) arg17.view.ty) : ∀ n : ℕ, n ≤ k0_t1_loop.trips →
    (∀ p, p ∈ (pb1 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 n).1 ↔ ∃ k : Fin k0_t1_loop.trips, k.val < n ∧ p ∈ pieces14 arg11 arg12 arg17 X11 X12 X17 k) ∧ (∀ p, p ∈ (pb1 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 n).2 ↔ ∃ k : Fin k0_t1_loop.trips, k.val < n ∧ p ∈ pieces18 arg11 arg12 arg17 X11 X12 X17 k)
  | 0, _ => by
    constructor
    · intro p; constructor
      · intro h; unfold pb1 at h; cases h
      · rintro ⟨k, hk, _⟩; exact absurd hk (Nat.not_lt_zero _)
    · intro p; constructor
      · intro h; unfold pb1 at h; cases h
      · rintro ⟨k, hk, _⟩; exact absurd hk (Nat.not_lt_zero _)
  | n + 1, hn => by
    obtain ⟨ih1, ih2⟩ := pb1_mem c X11 X12 X17 n (by omega)
    have e := pb1_succ (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 ⟨n, by omega⟩
    rw [trip1_pieces] at e
    simp only at e
    rw [e]
    constructor
    · intro p
      rw [List.mem_append, ih1]
      constructor
      · rintro (h | ⟨k, hk, h⟩)
        · exact ⟨⟨n, by omega⟩, Nat.lt_succ_self _, h⟩
        · exact ⟨k, by omega, h⟩
      · rintro ⟨k, hk, h⟩
        by_cases hkn : k.val = n
        · left; have : k = ⟨n, by omega⟩ := Fin.ext hkn
          rw [← this]; exact h
        · right; exact ⟨k, by omega, h⟩
    · intro p
      rw [List.mem_append, ih2]
      constructor
      · rintro (h | ⟨k, hk, h⟩)
        · exact ⟨⟨n, by omega⟩, Nat.lt_succ_self _, h⟩
        · exact ⟨k, by omega, h⟩
      · rintro ⟨k, hk, h⟩
        by_cases hkn : k.val = n
        · left; have : k = ⟨n, by omega⟩ := Fin.ext hkn
          rw [← this]; exact h
        · right; exact ⟨k, by omega, h⟩

/-- The table of zeros and scales after the loop. -/
theorem read14 (c : Dev nD) (X11 : BufTy.Contents (Elt Ideal) arg11.view.ty) (X12 : BufTy.Contents (Elt Ideal) arg12.view.ty) (X17 : BufTy.Contents (Elt Ideal) arg17.view.ty) (f : BufTy.Contents (Elt Ideal) arg14.view.ty) (y : S2x4x10x48x256.Idx) (h3 : (y 3).val < 40) :
    arg14.view.read (Elt Ideal) (arg14.view.writes (Elt Ideal) f (pb1 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 4).1) y = prepF (sF arg11 X11) (zF arg12 X12) y := by
  have ht : k0_t1_loop.trips = 4 := by decide +kernel
  refine View.read_writes_apply_of_pieces (Val := Elt Ideal) (e := .bf16) _ _ (prepF (sF arg11 X11) (zF arg12 X12)) _ ?_ y ?_
  · intro p hp x
    obtain ⟨k, _, h⟩ := ((pb1_mem arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 4 (by omega)).1 p).mp hp
    exact pieces14_agree arg11 arg12 arg17 X11 X12 X17 k p h x
  · have h1 : (y 1).val < 4 := (y 1).isLt
    obtain ⟨p, hp, hy⟩ := cover14 arg11 arg12 arg17 X11 X12 X17 ⟨(y 1).val, by omega⟩ y rfl h3
    exact ⟨p, ((pb1_mem arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 4 (by omega)).1 p).mpr ⟨_, h1, hp⟩, hy⟩

/-- The rows of residual products after the loop. -/
theorem read18 (c : Dev nD) (X11 : BufTy.Contents (Elt Ideal) arg11.view.ty) (X12 : BufTy.Contents (Elt Ideal) arg12.view.ty) (X17 : BufTy.Contents (Elt Ideal) arg17.view.ty) (f : BufTy.Contents (Elt Ideal) arg18.view.ty) (y : S2x4x20x256.Idx) :
    arg18.view.read (Elt Ideal) (arg18.view.writes (Elt Ideal) f (pb1 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 4).2) y = residF (rF arg17 X17) y := by
  have ht : k0_t1_loop.trips = 4 := by decide +kernel
  refine View.read_writes_apply_of_pieces (Val := Elt Ideal) (e := .f32) _ _ (residF (rF arg17 X17)) _ ?_ y ?_
  · intro p hp x
    obtain ⟨k, _, h⟩ := ((pb1_mem arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 4 (by omega)).2 p).mp hp
    exact pieces18_agree arg11 arg12 arg17 X11 X12 X17 k p h x
  · have h1 : (y 1).val < 4 := (y 1).isLt
    obtain ⟨p, hp, hy⟩ := cover18 arg11 arg12 arg17 X11 X12 X17 ⟨(y 1).val, by omega⟩ y rfl
    exact ⟨p, ((pb1_mem arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X11 X12 X17 4 (by omega)).2 p).mpr ⟨_, h1, hp⟩, hy⟩

end Cert.KernelIdeal

end
-- ==== Proof.KernelIdeal.SpreadIdx.lean ====
/-
  The lanes the straight part of the kernel gathers from, and the mask of the rows it keeps: closed integer tables, evaluated.
-/
module

public import proofs.«01_k».proof.Proof.KernelIdeal.Body
public import proofs.«01_k».proof.Proof.At

@[expose] public section

set_option maxRecDepth 16384

noncomputable section

namespace Cert.KernelIdeal

open Gen Cert.Value
open Idealize.ShloMosaic Idealize.ShloMosaic.TcCoe Idealize.ShloMosaic.Tactic

/-- The row a column belongs to: pairs of rows, one pair per residue. -/
noncomputable def maskOf (m : IVec S8x128 32) : IVec S8x128 1 :=
  cmpi .eq m (select (andi body.sl.v4205 body.sl.v225) (subi (divsi body.sl.v67 body.sl.v123) (broadcast S8x128 1#32)) (divsi body.sl.v67 body.sl.v123))

/-- One block of 128 columns of the spread activations. -/
noncomputable def gq (src : FVec Ideal S8x2560 .f32) (o : ℕ) (hs : S8x2560.Slices ![0, o] S8x128) (idx : IVec S8x128 32) (m : IVec S8x128 1) : FVec Ideal S16x128 .bf16 :=
  shapeCast S16x128 (truncf (F := Ideal) .bf16 (concatenate S16x128 0
    [⟨S8x128, select m (dynamicGather 1 (extractStridedSlice S8x128 ![0, o] src hs) idx) (broadcast S8x128 (FloatOps.ofBits (F := Ideal) .f32 0#32))⟩, ⟨S8x128, k0_pay218⟩]
    concatenates_S8x128_S8x128_S16x128_d0) bitsLt_bf16_f32) shapeCasts_S16x128_S16x128

theorem mask4 : ∀ (r : Fin 8) (l : Fin 128), maskOf body.sl.v4023 (ValueIdx.ix2 r l) = if l.val % 4 = r.val / 2 then 1#1 else 0#1 := by decide +kernel
theorem mask2 : ∀ (r : Fin 8) (l : Fin 128), maskOf body.sl.v7011 (ValueIdx.ix2 r l) = if l.val % 2 = r.val / 2 then 1#1 else 0#1 := by decide +kernel
theorem idx4_0 : ∀ (r : Fin 8) (l : Fin 128), body.sl.v6413 (ValueIdx.ix2 r l) = BitVec.ofNat 32 (32 * 0 + l.val / 4) := by decide +kernel
theorem idx4_1 : ∀ (r : Fin 8) (l : Fin 128), body.sl.v6496 (ValueIdx.ix2 r l) = BitVec.ofNat 32 (32 * 1 + l.val / 4) := by decide +kernel
theorem idx4_2 : ∀ (r : Fin 8) (l : Fin 128), body.sl.v6579 (ValueIdx.ix2 r l) = BitVec.ofNat 32 (32 * 2 + l.val / 4) := by decide +kernel
theorem idx4_3 : ∀ (r : Fin 8) (l : Fin 128), body.sl.v6662 (ValueIdx.ix2 r l) = BitVec.ofNat 32 (32 * 3 + l.val / 4) := by decide +kernel
theorem idx2_0 : ∀ (r : Fin 8) (l : Fin 128), body.sl.v9899 (ValueIdx.ix2 r l) = BitVec.ofNat 32 (64 * 0 + l.val / 2) := by decide +kernel
theorem idx2_1 : ∀ (r : Fin 8) (l : Fin 128), body.sl.v9982 (ValueIdx.ix2 r l) = BitVec.ofNat 32 (64 * 1 + l.val / 2) := by decide +kernel

end Cert.KernelIdeal

end
-- ==== Proof.KernelIdeal.Spread.lean ====
/-
  What the straight part of the kernel stores in the spread activations: row 2 b + r holds batch r at every column of residue b.
-/
module

public import proofs.«01_k».proof.Proof.KernelIdeal.SpreadIdx
public import Idealize.ShloMosaic.Lib.VecWindow

@[expose] public section

set_option maxRecDepth 16384

noncomputable section

namespace Cert.KernelIdeal

open Gen Cert.Value
open Idealize.ShloMosaic Idealize.ShloMosaic.TcCoe Idealize.ShloMosaic.Tactic

/-- The spread activations, for words of n fields: row 2 b + r at column n d + b is batch r at d. -/
def spread (n : ℕ) (x : ℕ → ℕ → EReal) (r c : ℕ) : EReal := if r < 8 ∧ c % n = r / 2 then x (r % 2) (c / n) else 0

theorem gq_at (n c0 : ℕ) (hn : 0 < n) (src : FVec Ideal S8x2560 .f32) (o : ℕ) (hs : S8x2560.Slices ![0, o] S8x128) (idx : IVec S8x128 32) (m : IVec S8x128 1)
    (hm : ∀ (r : Fin 8) (l : Fin 128), m (ValueIdx.ix2 r l) = if l.val % n = r.val / 2 then 1#1 else 0#1)
    (hi : ∀ (r : Fin 8) (l : Fin 128), idx (ValueIdx.ix2 r l) = BitVec.ofNat 32 (c0 + l.val / n)) (hc : c0 + 127 / n < 128) (x : S16x128.Idx) :
    gq src o hs idx m x = if (x 0).val < 8 ∧ (x 1).val % n = (x 0).val / 2 then at2 src (x 0).val (o + (c0 + (x 1).val / n)) else 0 := by
  have hx1 : (x 1).val < 128 := (x 1).isLt
  have hx0 : (x 0).val < 16 := (x 0).isLt
  have hd : (x 1).val / n ≤ 127 / n := Nat.div_le_div_right (by omega)
  unfold gq
  rw [shapeCast_apply _ _ x x rfl]
  by_cases h : (x 0).val < 8
  · have hc1 := concatenate_pair_apply_left (t := S16x128) (0 : Fin 2) (select m (dynamicGather (s := S8x128) (1 : Fin 2) (extractStridedSlice S8x128 ![0, o] src hs) idx) (broadcast S8x128 (FloatOps.ofBits (F := Ideal) .f32 0#32))) (k0_pay218 (F := Ideal))
      concatenates_S8x128_S8x128_S16x128_d0 x rfl (ValueIdx.ix2 (⟨(x 0).val, h⟩ : Fin 8) (⟨(x 1).val, hx1⟩ : Fin 128)) (by intro b; fin_cases b <;> rfl)
    refine hc1.trans ?_
    show (if m (ValueIdx.ix2 (⟨(x 0).val, h⟩ : Fin 8) (⟨(x 1).val, hx1⟩ : Fin 128)) = 1#1 then dynamicGather (s := S8x128) (1 : Fin 2) (extractStridedSlice S8x128 ![0, o] src hs) idx (ValueIdx.ix2 (⟨(x 0).val, h⟩ : Fin 8) (⟨(x 1).val, hx1⟩ : Fin 128)) else Ideal.ofBits .f32 0#32) = _
    rw [hm]
    show (if (if (x 1).val % n = (x 0).val / 2 then 1#1 else 0#1) = 1#1 then _ else _) = _
    by_cases hh : (x 1).val % n = (x 0).val / 2
    · rw [show (if (x 1).val % n = (x 0).val / 2 then 1#1 else 0#1) = 1#1 from if_pos hh, if_pos rfl, if_pos (And.intro h hh)]
      refine at2_of src _ (i := (x 0).val) (j := o + (c0 + (x 1).val / n)) ?_ ?_
      · show 0 + (x 0).val = _
        omega
      · show o + (idx (ValueIdx.ix2 (⟨(x 0).val, h⟩ : Fin 8) (⟨(x 1).val, hx1⟩ : Fin 128))).toNat % 128 = _
        rw [hi, BitVec.toNat_ofNat, Nat.mod_eq_of_lt (a := c0 + (x 1).val / n) (by omega), Nat.mod_eq_of_lt (by omega)]
    · rw [show (if (x 1).val % n = (x 0).val / 2 then 1#1 else 0#1) = 0#1 from if_neg hh, if_neg (by decide), if_neg (fun hq : _ ∧ _ => hh hq.2)]
      simp
  · rw [if_neg (fun hq => h hq.1)]
    have hc1 := concatenate_pair_apply_right (α := EReal) (t := S16x128) (0 : Fin 2) (select m (dynamicGather (s := S8x128) (1 : Fin 2) (extractStridedSlice S8x128 ![0, o] src hs) idx) (broadcast S8x128 (FloatOps.ofBits (F := Ideal) .f32 0#32))) (k0_pay218 (F := Ideal))
      concatenates_S8x128_S8x128_S16x128_d0 x rfl rfl (ValueIdx.ix2 (⟨(x 0).val - 8, by omega⟩ : Fin 8) (⟨(x 1).val, hx1⟩ : Fin 128)) (by intro b hb; match b, hb with | 0, hb => exact absurd rfl hb | 1, _ => rfl) (by show (x 0).val - 8 + 8 = (x 0).val; omega)
    refine hc1.trans ?_
    show Ideal.ofBits .f32 0#32 = 0
    simp

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The activations in fast memory, all rows. -/
def xF (X0 : BufTy.Contents (Elt Ideal) arg0.view.ty) (r d : ℕ) : EReal := at2 (arg0.view.read (Elt Ideal) X0 : S2x2560.Idx → EReal) r d

theorem r_at (X0 : BufTy.Contents (Elt Ideal) arg0.view.ty) (x : S8x2560.Idx) : body.sl.r (F := Ideal) arg0 arg13 X0 x = xF arg0 X0 ((x 0).val % 2) (x 1).val := by
  have e68 : body.sl.v68 (F := Ideal) arg0 arg13 X0 = (arg0.view.read (Elt Ideal) X0 : S2x2560.Idx → EReal) := by
    unfold body.sl.v68
    exact Idealize.ShloMosaic.View.readCov_full (Val := Elt Ideal) (e := .bf16) arg13.view inb_S2x2560_S2x2560_0_0 (fun a => by simp) (body.sl.dma0 arg0 X0) []
  show k0_pay217 (F := Ideal) (body.sl.v68 (F := Ideal) arg0 arg13 X0) x = _
  rw [e68]
  have h0 : (x 0).val < 8 := (x 0).isLt
  have := concatenate_replicate_apply (t := S8x2560) (s₁ := S2x2560) (0 : Fin 2) 4 (arg0.view.read (Elt Ideal) X0 : S2x2560.Idx → EReal) concatenates_S2x2560_S2x2560_S2x2560_S2x2560_S8x2560_d0 rfl x
    (ValueIdx.ix2 (⟨(x 0).val % 2, by omega⟩ : Fin 2) (x 1 : Fin 2560)) rfl (by intro b hb; match b, hb with | 0, hb => exact absurd rfl hb | 1, _ => rfl)
  refine Eq.trans this ?_
  exact at2_of (arg0.view.read (Elt Ideal) X0 : S2x2560.Idx → EReal) _ rfl rfl

noncomputable def idx4 : ℕ → IVec S8x128 32
  | 0 => body.sl.v6413
  | 1 => body.sl.v6496
  | 2 => body.sl.v6579
  | _ => body.sl.v6662

noncomputable def idx2 : ℕ → IVec S8x128 32
  | 0 => body.sl.v9899
  | _ => body.sl.v9982

theorem idx4_at (j : ℕ) (hj : j < 4) (r : Fin 8) (l : Fin 128) : idx4 j (ValueIdx.ix2 r l) = BitVec.ofNat 32 (32 * j + l.val / 4) := by
  have : j = 0 ∨ j = 1 ∨ j = 2 ∨ j = 3 := by omega
  rcases this with rfl | rfl | rfl | rfl
  · exact idx4_0 r l
  · exact idx4_1 r l
  · exact idx4_2 r l
  · exact idx4_3 r l

theorem idx2_at (j : ℕ) (hj : j < 2) (r : Fin 8) (l : Fin 128) : idx2 j (ValueIdx.ix2 r l) = BitVec.ofNat 32 (64 * j + l.val / 2) := by
  have : j = 0 ∨ j = 1 := by omega
  rcases this with rfl | rfl
  · exact idx2_0 r l
  · exact idx2_1 r l

theorem slices_at (o : ℕ) (h : o + 128 ≤ 2560) : S8x2560.Slices ![0, o] S8x128 := by
  refine ⟨rfl, fun b => ?_⟩
  fin_cases b
  · show 0 + 8 ≤ 8; omega
  · show o + 128 ≤ 2560; omega

theorem inb15 (t : ℕ) (h : t < 80) : ∀ a, (![0, 128 * t] : Fin 2 → ℕ) a + S16x128.size a ≤ S16x10240.size a := by
  intro a
  fin_cases a
  · exact le_refl 16
  · show 128 * t + 128 ≤ 10240; omega

theorem inb16 (t : ℕ) (h : t < 40) : ∀ a, (![0, 128 * t] : Fin 2 → ℕ) a + S16x128.size a ≤ S16x5120.size a := by
  intro a
  fin_cases a
  · exact le_refl 16
  · show 128 * t + 128 ≤ 5120; omega

/-- Block t of the spread activations for four fields. -/
noncomputable def xaP (X0 : BufTy.Contents (Elt Ideal) arg0.view.ty) (t : ℕ) (h : t < 80) : View.Piece (Elt Ideal) S16x10240 .bf16 :=
  ⟨Rect.unit (s := S16x10240) ![0, 128 * t] S16x128.size (inb15 t h),
    gq (body.sl.r (F := Ideal) arg0 arg13 X0) (128 * (t / 4)) (slices_at _ (by omega)) (idx4 (t % 4)) (maskOf body.sl.v4023)⟩

/-- Block t of the spread activations for two fields. -/
noncomputable def xcP (X0 : BufTy.Contents (Elt Ideal) arg0.view.ty) (t : ℕ) (h : t < 40) : View.Piece (Elt Ideal) S16x5120 .bf16 :=
  ⟨Rect.unit (s := S16x5120) ![0, 128 * t] S16x128.size (inb16 t h),
    gq (body.sl.r (F := Ideal) arg0 arg13 X0) (128 * (t / 2)) (slices_at _ (by omega)) (idx2 (t % 2)) (maskOf body.sl.v7011)⟩

theorem xaP_agree (X0 : BufTy.Contents (Elt Ideal) arg0.view.ty) (t : ℕ) (h : t < 80) (x : S16x128.Idx) :
    (xaP arg0 arg13 X0 t h).2 x = spread 4 (xF arg0 X0) (((xaP arg0 arg13 X0 t h).1.emb x) 0).val (((xaP arg0 arg13 X0 t h).1.emb x) 1).val := by
  have key := Idealize.ShloMosaic.ValueKit.rect_emb_unit_val (s := S16x10240) ![0, 128 * t] S16x128.size (inb15 t h) x
  have e0 : (((xaP arg0 arg13 X0 t h).1.emb x) 0).val = (x 0).val := (key 0).trans (Nat.zero_add _)
  have e1 : (((xaP arg0 arg13 X0 t h).1.emb x) 1).val = 128 * t + (x 1).val := key 1
  have hx1 : (x 1).val < 128 := (x 1).isLt
  rw [e0, e1]
  refine (gq_at 4 (32 * (t % 4)) (by omega) _ _ _ _ _ mask4 (idx4_at (t % 4) (by omega)) (by omega) x).trans ?_
  unfold spread
  have m1 : (128 * t + (x 1).val) % 4 = (x 1).val % 4 := by omega
  have d1 : (128 * t + (x 1).val) / 4 = 128 * (t / 4) + (32 * (t % 4) + (x 1).val / 4) := by omega
  rw [m1, d1]
  split
  · rename_i hh
    unfold at2
    rw [r_at]
    have a0 : (x 0).val % 8 = (x 0).val := Nat.mod_eq_of_lt hh.1
    show xF arg0 X0 ((x 0).val % 8 % 2) ((128 * (t / 4) + (32 * (t % 4) + (x 1).val / 4)) % 2560) = _
    rw [a0, Nat.mod_eq_of_lt (a := 128 * (t / 4) + (32 * (t % 4) + (x 1).val / 4)) (by omega)]
  · rfl

theorem xcP_agree (X0 : BufTy.Contents (Elt Ideal) arg0.view.ty) (t : ℕ) (h : t < 40) (x : S16x128.Idx) :
    (xcP arg0 arg13 X0 t h).2 x = spread 2 (xF arg0 X0) (((xcP arg0 arg13 X0 t h).1.emb x) 0).val (((xcP arg0 arg13 X0 t h).1.emb x) 1).val := by
  have key := Idealize.ShloMosaic.ValueKit.rect_emb_unit_val (s := S16x5120) ![0, 128 * t] S16x128.size (inb16 t h) x
  have e0 : (((xcP arg0 arg13 X0 t h).1.emb x) 0).val = (x 0).val := (key 0).trans (Nat.zero_add _)
  have e1 : (((xcP arg0 arg13 X0 t h).1.emb x) 1).val = 128 * t + (x 1).val := key 1
  have hx1 : (x 1).val < 128 := (x 1).isLt
  rw [e0, e1]
  refine (gq_at 2 (64 * (t % 2)) (by omega) _ _ _ _ _ mask2 (idx2_at (t % 2) (by omega)) (by omega) x).trans ?_
  unfold spread
  have m1 : (128 * t + (x 1).val) % 2 = (x 1).val % 2 := by omega
  have d1 : (128 * t + (x 1).val) / 2 = 128 * (t / 2) + (64 * (t % 2) + (x 1).val / 2) := by omega
  rw [m1, d1]
  split
  · rename_i hh
    unfold at2
    rw [r_at]
    have a0 : (x 0).val % 8 = (x 0).val := Nat.mod_eq_of_lt hh.1
    show xF arg0 X0 ((x 0).val % 8 % 2) ((128 * (t / 2) + (64 * (t % 2) + (x 1).val / 2)) % 2560) = _
    rw [a0, Nat.mod_eq_of_lt (a := 128 * (t / 2) + (64 * (t % 2) + (x 1).val / 2)) (by omega)]
  · rfl

noncomputable def xaL (X0 : BufTy.Contents (Elt Ideal) arg0.view.ty) : ∀ n : ℕ, n ≤ 80 → List (View.Piece (Elt Ideal) S16x10240 .bf16)
  | 0, _ => []
  | n + 1, h => xaP arg0 arg13 X0 n h :: xaL X0 n (Nat.le_of_succ_le h)

noncomputable def xcL (X0 : BufTy.Contents (Elt Ideal) arg0.view.ty) : ∀ n : ℕ, n ≤ 40 → List (View.Piece (Elt Ideal) S16x5120 .bf16)
  | 0, _ => []
  | n + 1, h => xcP arg0 arg13 X0 n h :: xcL X0 n (Nat.le_of_succ_le h)

theorem mem_xaL (X0 : BufTy.Contents (Elt Ideal) arg0.view.ty) (p) : ∀ (n : ℕ) (hn : n ≤ 80), p ∈ xaL arg0 arg13 X0 n hn ↔ ∃ (t : ℕ) (h : t < 80), t < n ∧ p = xaP arg0 arg13 X0 t h
  | 0, _ => by simp [xaL]
  | n + 1, hn => by
    rw [xaL, List.mem_cons, mem_xaL X0 p n]
    constructor
    · rintro (h | ⟨t, h, h1, h2⟩)
      · exact ⟨n, hn, Nat.lt_succ_self _, h⟩
      · exact ⟨t, h, by omega, h2⟩
    · rintro ⟨t, h, h1, h2⟩
      by_cases e : t = n
      · left; subst e; exact h2
      · right; exact ⟨t, h, by omega, h2⟩

theorem mem_xcL (X0 : BufTy.Contents (Elt Ideal) arg0.view.ty) (p) : ∀ (n : ℕ) (hn : n ≤ 40), p ∈ xcL arg0 arg13 X0 n hn ↔ ∃ (t : ℕ) (h : t < 40), t < n ∧ p = xcP arg0 arg13 X0 t h
  | 0, _ => by simp [xcL]
  | n + 1, hn => by
    rw [xcL, List.mem_cons, mem_xcL X0 p n]
    constructor
    · rintro (h | ⟨t, h, h1, h2⟩)
      · exact ⟨n, hn, Nat.lt_succ_self _, h⟩
      · exact ⟨t, h, by omega, h2⟩
    · rintro ⟨t, h, h1, h2⟩
      by_cases e : t = n
      · left; subst e; exact h2
      · right; exact ⟨t, h, by omega, h2⟩

set_option maxHeartbeats 4000000 in
theorem H15_eq (X0 : BufTy.Contents (Elt Ideal) arg0.view.ty) : body.sl.H15_80 (F := Ideal) arg0 arg13 X0 = xaL arg0 arg13 X0 80 (le_refl _) := by
  rfl

set_option maxHeartbeats 4000000 in
theorem H16_eq (X0 : BufTy.Contents (Elt Ideal) arg0.view.ty) : body.sl.H16_40 (F := Ideal) arg0 arg13 X0 = xcL arg0 arg13 X0 40 (le_refl _) := by
  rfl

/-- The spread activations for four fields, read. -/
theorem read15 (X0 : BufTy.Contents (Elt Ideal) arg0.view.ty) (f : BufTy.Contents (Elt Ideal) arg15.view.ty) (y : S16x10240.Idx) :
    arg15.view.read (Elt Ideal) (arg15.view.writes (Elt Ideal) f (body.sl.H15_80 (F := Ideal) arg0 arg13 X0)) y = spread 4 (xF arg0 X0) (y 0).val (y 1).val := by
  rw [H15_eq]
  refine View.read_writes_apply_of_pieces (Val := Elt Ideal) (e := .bf16) _ _ (fun y : S16x10240.Idx => spread 4 (xF arg0 X0) (y 0).val (y 1).val) _ ?_ y ?_
  · intro p hp
    obtain ⟨t, h, _, rfl⟩ := (mem_xaL arg0 arg13 X0 p 80 (le_refl _)).mp hp
    exact xaP_agree arg0 arg13 X0 t h
  · have h1 : (y 1).val < 10240 := (y 1).isLt
    have h0 : (y 0).val < 16 := (y 0).isLt
    refine ⟨_, (mem_xaL arg0 arg13 X0 _ 80 (le_refl _)).mpr ⟨(y 1).val / 128, by omega, by omega, rfl⟩, ?_⟩
    refine (Rect.mem_set_unit (inb := inb15 ((y 1).val / 128) (by omega))).mpr ?_
    intro a
    fin_cases a
    · exact ⟨Nat.zero_le _, by show (y 0).val < 0 + 16; omega⟩
    · exact ⟨by show 128 * ((y 1).val / 128) ≤ (y 1).val; omega, by show (y 1).val < 128 * ((y 1).val / 128) + 128; omega⟩

/-- The spread activations for two fields, read. -/
theorem read16 (X0 : BufTy.Contents (Elt Ideal) arg0.view.ty) (f : BufTy.Contents (Elt Ideal) arg16.view.ty) (y : S16x5120.Idx) :
    arg16.view.read (Elt Ideal) (arg16.view.writes (Elt Ideal) f (body.sl.H16_40 (F := Ideal) arg0 arg13 X0)) y = spread 2 (xF arg0 X0) (y 0).val (y 1).val := by
  rw [H16_eq]
  refine View.read_writes_apply_of_pieces (Val := Elt Ideal) (e := .bf16) _ _ (fun y : S16x5120.Idx => spread 2 (xF arg0 X0) (y 0).val (y 1).val) _ ?_ y ?_
  · intro p hp
    obtain ⟨t, h, _, rfl⟩ := (mem_xcL arg0 arg13 X0 p 40 (le_refl _)).mp hp
    exact xcP_agree arg0 arg13 X0 t h
  · have h1 : (y 1).val < 5120 := (y 1).isLt
    have h0 : (y 0).val < 16 := (y 0).isLt
    refine ⟨_, (mem_xcL arg0 arg13 X0 _ 40 (le_refl _)).mpr ⟨(y 1).val / 128, by omega, by omega, rfl⟩, ?_⟩
    refine (Rect.mem_set_unit (inb := inb16 ((y 1).val / 128) (by omega))).mpr ?_
    intro a
    fin_cases a
    · exact ⟨Nat.zero_le _, by show (y 0).val < 0 + 16; omega⟩
    · exact ⟨by show 128 * ((y 1).val / 128) ≤ (y 1).val; omega, by show (y 1).val < 128 * ((y 1).val / 128) + 128; omega⟩

end Cert.KernelIdeal

end
-- ==== Proof.KernelIdeal.Acc.lean ====
/-
  What the products of a step leave in the matrix units' rows: sums of activations times scaled codes over the rows of x.
-/
module

public import proofs.«01_k».proof.Proof.KernelIdeal.Canon
public import proofs.«01_k».proof.Proof.KernelIdeal.Prep
public import proofs.«01_k».proof.Proof.KernelIdeal.Spread
public import Idealize.ShloMosaic.Lib.MatmulPlain

@[expose] public section

set_option maxRecDepth 16384

noncomputable section

namespace Cert.KernelIdeal

open Gen Cert.Value
open Idealize.ShloMosaic Idealize.ShloMosaic.TcCoe Idealize.ShloMosaic.Tactic

/-- What a product adds to an element of a unit's rows. -/
def Feed.add (q : Fin 2) (R C : ℕ) (f : Feed Ideal) : EReal :=
  if q = f.q ∧ 4 * f.A ≤ R ∧ R < 4 * f.A + 16 then ∑ k ∈ Finset.range 256, at2 (f.lhs : S16x256.Idx → EReal) (R - 4 * f.A) k * at2 (f.tile : S256x256.Idx → EReal) k C else 0

theorem pass_at (lhs : FVec Ideal S16x256 .bf16) (t : FVec Ideal S256x256 .bf16) (r : Fin 16) (c : Fin 256) :
    (⟨.bf16, false, t⟩ : Mxu.Staged Ideal).pass lhs (ValueIdx.ix2 r c) = ∑ k ∈ Finset.range 256, at2 (lhs : S16x256.Idx → EReal) r.val k * at2 (t : S256x256.Idx → EReal) k c.val := by
  have h := Ideal.matmul_plain_apply (M := 16) (K := 256) (N := 256) none lhs t (fun _ => (0 : EReal)) r c
  have h2 : (⟨.bf16, false, t⟩ : Mxu.Staged Ideal).pass lhs (ValueIdx.ix2 r c) = FloatOps.matmul (F := Ideal) (DotDims.plain 16 256 256) none lhs t (fun _ => (0 : EReal)) (ValueIdx.ix2 r c) := by
    rw [Ideal.matmul_apply, zero_add]; rfl
  rw [h2, h, zero_add, Finset.sum_range]
  refine Finset.sum_congr rfl fun k _ => ?_
  exact congrArg₂ (· * ·) (at2_of (lhs : S16x256.Idx → EReal) _ rfl rfl) (at2_of (t : S256x256.Idx → EReal) _ rfl rfl)

theorem Feed.go_acc (m : Mxu Ideal) (f : Feed Ideal) (h : m.reg = fun _ _ => none) (q : Fin 2) (R : Fin 1024) (C : Fin 256) :
    (f.go m).acc q R C = (m.acc q R C + Feed.add q R.val C.val f : EReal) := by
  have hs : (m.pushed f.q f.r false f.tile).staged f.q f.r = ⟨.bf16, false, f.tile⟩ := by
    unfold Mxu.staged
    rw [Mxu.reg_pushed_of_none _ _ _ _ _ (by rw [h])]; rfl
  show (if hq : q = f.q ∧ 4 * f.A ≤ R.val ∧ R.val < 4 * f.A + 16 then
      Mxu.deposit ((m.pushed f.q f.r false f.tile).live q R) ((m.pushed f.q f.r false f.tile).acc q R C)
        (((m.pushed f.q f.r false f.tile).staged f.q f.r).pass f.lhs (Mxu.ix ⟨R.val - 4 * f.A, by omega⟩ C))
    else (m.pushed f.q f.r false f.tile).acc q R C) = _
  rw [Mxu.live_pushed, Mxu.acc_pushed, hs]
  unfold Feed.add
  split
  · rename_i hq
    have hix : ∀ a : Fin 16, (Mxu.ix a C : (⟨2, ![16, 256]⟩ : Shape).Idx) = ValueIdx.ix2 a C := fun a => by
      funext b; match b with | 0 => rfl | 1 => rfl
    rw [hix]
    have hp := pass_at f.lhs f.tile ⟨R.val - 4 * f.A, by omega⟩ C
    refine Eq.trans ?_ (congrArg (fun z : EReal => (m.acc q R C + z : EReal)) hp)
    cases hl : m.live q R
    · have hz : m.acc q R C = (0 : EReal) := (m.clean q R C hl).trans Ideal.ofBits_zero_f32
      rw [hz, zero_add]; rfl
    · rfl
  · exact (add_zero (m.acc q R C : EReal)).symm

theorem Feed.goes_acc (l : List (Feed Ideal)) (q : Fin 2) (R : Fin 1024) (C : Fin 256) : ∀ (m : Mxu Ideal), (m.reg = fun _ _ => none) →
    (l.foldl Feed.go m).acc q R C = (m.acc q R C + (l.map (Feed.add q R.val C.val)).sum : EReal) := by
  induction l with
  | nil => intro m h; exact (add_zero (m.acc q R C : EReal)).symm
  | cons f l ih =>
    intro m h
    show (l.foldl Feed.go (f.go m)).acc q R C = _
    rw [ih _ (f.go_reg m h), Feed.go_acc m f h, List.map_cons, List.sum_cons, add_assoc]

theorem sum_mod4 (F : ℕ → EReal) (b : ℕ) (hb : b < 4) (m : ℕ) : ∑ k ∈ Finset.range (4 * m), (if k % 4 = b then F k else 0) = ∑ i ∈ Finset.range m, F (4 * i + b) := by
  induction m with
  | zero => rfl
  | succ m ih =>
    rw [show 4 * (m + 1) = 4 * m + 1 + 1 + 1 + 1 from rfl, Finset.sum_range_succ, Finset.sum_range_succ, Finset.sum_range_succ, Finset.sum_range_succ, ih, Finset.sum_range_succ]
    have e : ∀ j, j < 4 → (4 * m + j) % 4 = j := by intro j hj; omega
    have e0 := e 0 (by omega)
    have e1 := e 1 (by omega)
    have e2 := e 2 (by omega)
    have e3 := e 3 (by omega)
    have hb' : b = 0 ∨ b = 1 ∨ b = 2 ∨ b = 3 := by omega
    show ∑ i ∈ Finset.range m, F (4 * i + b) + (if (4 * m + 0) % 4 = b then F (4 * m + 0) else 0) + (if (4 * m + 1) % 4 = b then F (4 * m + 1) else 0) + (if (4 * m + 2) % 4 = b then F (4 * m + 2) else 0) + (if (4 * m + 3) % 4 = b then F (4 * m + 3) else 0) = _
    rw [e0, e1, e2, e3]
    rcases hb' with h | h | h | h <;> subst h <;> simp

theorem sum_mod2 (F : ℕ → EReal) (b : ℕ) (hb : b < 2) (m : ℕ) : ∑ k ∈ Finset.range (2 * m), (if k % 2 = b then F k else 0) = ∑ i ∈ Finset.range m, F (2 * i + b) := by
  induction m with
  | zero => rfl
  | succ m ih =>
    rw [show 2 * (m + 1) = 2 * m + 1 + 1 from rfl, Finset.sum_range_succ, Finset.sum_range_succ, ih, Finset.sum_range_succ]
    have e0 : (2 * m + 0) % 2 = 0 := by omega
    have e1 : (2 * m + 1) % 2 = 1 := by omega
    have hb' : b = 0 ∨ b = 1 := by omega
    show ∑ i ∈ Finset.range m, F (2 * i + b) + (if (2 * m + 0) % 2 = b then F (2 * m + 0) else 0) + (if (2 * m + 1) % 2 = b then F (2 * m + 1) else 0) = _
    rw [e0, e1]
    rcases hb' with h | h <;> subst h <;> simp

theorem sum_blocks (T : ℕ → EReal) (n : ℕ) : ∀ m, ∑ a ∈ Finset.range m, ∑ b ∈ Finset.range n, T (n * a + b) = ∑ d ∈ Finset.range (n * m), T d
  | 0 => rfl
  | m + 1 => by rw [Finset.sum_range_succ, sum_blocks T n m, Nat.mul_succ, Finset.sum_range_add]

/-- One summand of a base product: field f of the word of row d and column n, in its own power of two. -/
def term (x : ℕ → ℕ → EReal) (S Z : ℕ → ℕ → ℕ → EReal) (W : ℕ → ℕ → ℕ → BitVec 32) (w jt f br c d : ℕ) : EReal :=
  x br d * ((cd (rowField f) (W w d (256 * jt + c)) * two (rowOff f) - Z w (d / 128) (rowField f * 1024 + 256 * jt + c) * two (rowOff f)) * S w (d / 128) (rowField f * 1024 + 256 * jt + c))

theorem sumA (lhs : S16x256.Idx → EReal) (tile : S256x256.Idx → EReal) (x : ℕ → ℕ → EReal) (r c o : ℕ) (hr : r < 8) (hl : ∀ k < 256, at2 lhs r k = spread 4 x r (4 * o + k))
    (T : ℕ → EReal) (ht : ∀ i < 64, x (r % 2) (o + i) * at2 tile (4 * i + r / 2) c = T (o + i)) : ∑ k ∈ Finset.range 256, at2 lhs r k * at2 tile k c = ∑ i ∈ Finset.range 64, T (o + i) := by
  have h1 : ∑ k ∈ Finset.range 256, at2 lhs r k * at2 tile k c = ∑ k ∈ Finset.range (4 * 64), (if k % 4 = r / 2 then x (r % 2) (o + k / 4) * at2 tile k c else 0) := by
    refine Finset.sum_congr rfl fun k hk => ?_
    rw [hl k (Finset.mem_range.mp hk)]
    unfold spread
    rw [show (4 * o + k) % 4 = k % 4 by omega, show (4 * o + k) / 4 = o + k / 4 by omega]
    by_cases h : k % 4 = r / 2
    · rw [if_pos ⟨hr, h⟩, if_pos h]
    · rw [if_neg (fun e => h e.2), if_neg h, zero_mul]
  rw [h1, sum_mod4 (fun k => x (r % 2) (o + k / 4) * at2 tile k c) (r / 2) (by omega) 64]
  refine Finset.sum_congr rfl fun i hi => ?_
  rw [← ht i (Finset.mem_range.mp hi)]
  have : (4 * i + r / 2) / 4 = i := by omega
  rw [this]

theorem sumC (lhs : S16x256.Idx → EReal) (tile : S256x256.Idx → EReal) (x : ℕ → ℕ → EReal) (r c o : ℕ) (hr : r < 4) (hl : ∀ k < 256, at2 lhs r k = spread 2 x r (2 * o + k))
    (T : ℕ → EReal) (ht : ∀ i < 128, x (r % 2) (o + i) * at2 tile (2 * i + r / 2) c = T (o + i)) : ∑ k ∈ Finset.range 256, at2 lhs r k * at2 tile k c = ∑ i ∈ Finset.range 128, T (o + i) := by
  have h1 : ∑ k ∈ Finset.range 256, at2 lhs r k * at2 tile k c = ∑ k ∈ Finset.range (2 * 128), (if k % 2 = r / 2 then x (r % 2) (o + k / 2) * at2 tile k c else 0) := by
    refine Finset.sum_congr rfl fun k hk => ?_
    rw [hl k (Finset.mem_range.mp hk)]
    unfold spread
    rw [show (2 * o + k) % 2 = k % 2 by omega, show (2 * o + k) / 2 = o + k / 2 by omega]
    by_cases h : k % 2 = r / 2
    · rw [if_pos ⟨by omega, h⟩, if_pos h]
    · rw [if_neg (fun e => h e.2), if_neg h, zero_mul]
  rw [h1, sum_mod2 (fun k => x (r % 2) (o + k / 2) * at2 tile k c) (r / 2) (by omega) 128]
  refine Finset.sum_congr rfl fun i hi => ?_
  rw [← ht i (Finset.mem_range.mp hi)]
  have : (2 * i + r / 2) / 2 = i := by omega
  rw [this]

/-- An entry of a tile of group g0 (= 4 t3 + g): word row d, field f. -/
theorem prep_lo (S Z : ℕ → ℕ → ℕ → EReal) (w jt f g0 c : ℕ) (hf : f < 10) :
    prepAt S Z w jt (f / 2) (2 * g0 + f % 2) c = Z w g0 (rowField f * 1024 + 256 * jt + c) * two (rowOff f) := by
  unfold prepAt
  rw [if_pos (by omega), show (2 * g0 + f % 2) / 2 = g0 by omega, show 2 * (f / 2) + (2 * g0 + f % 2) % 2 = f by omega]

theorem prep_hi (S Z : ℕ → ℕ → ℕ → EReal) (w jt f g0 c : ℕ) (hf : f < 10) :
    prepAt S Z w jt (f / 2 + 5) (2 * g0 + f % 2) c = S w g0 (rowField f * 1024 + 256 * jt + c) := by
  unfold prepAt
  rw [if_neg (by omega), show (2 * g0 + f % 2) / 2 = g0 by omega, show 2 * (f / 2 + 5 - 5) + (2 * g0 + f % 2) % 2 = f by omega]

/-- That a pair of table rows holds the prepared rows of pair p. -/
def Holds (u : Vec Ideal S1x1x1x2x256 .bf16) (S Z : ℕ → ℕ → ℕ → EReal) (w jt p g0 : ℕ) : Prop :=
  ∀ e c, e < 2 → c < 256 → at5 (u : S1x1x1x2x256.Idx → EReal) 0 0 0 e c = prepAt S Z w jt p (2 * g0 + e) c

theorem pair_at (m : IVec S8x256 1) (hm : EvenMask m) (u v : Vec Ideal S1x1x1x2x256 .bf16) (S Z : ℕ → ℕ → ℕ → EReal) (w jt p g0 : ℕ)
    (hu : Holds u S Z w jt p g0) (hv : Holds v S Z w jt (p + 1) g0) (i b c : ℕ) (hi : i < 64) (hb : b < 4) (hc : c < 256) :
    at2 (pairTile m u v : S256x256.Idx → EReal) (4 * i + b) c = prepAt S Z w jt (p + b / 2) (2 * g0 + b % 2) c := by
  refine (pairTile_at m hm u v _).trans ?_
  show (if (4 * i + b) % 256 % 4 / 2 = 0 then at5 (u : S1x1x1x2x256.Idx → EReal) 0 0 0 ((4 * i + b) % 256 % 2) (c % 256) else at5 (v : S1x1x1x2x256.Idx → EReal) 0 0 0 ((4 * i + b) % 256 % 2) (c % 256)) = _
  rw [Nat.mod_eq_of_lt hc, show (4 * i + b) % 256 % 4 / 2 = b / 2 by omega, show (4 * i + b) % 256 % 2 = b % 2 by omega]
  have : b / 2 = 0 ∨ b / 2 = 1 := by omega
  rcases this with h | h
  · rw [if_pos h, h]; exact hu _ _ (by omega) hc
  · rw [if_neg (by omega), h]; exact hv _ _ (by omega) hc

theorem one_at (u : Vec Ideal S1x1x1x2x256 .bf16) (S Z : ℕ → ℕ → ℕ → EReal) (w jt p g0 : ℕ)
    (hu : Holds u S Z w jt p g0) (i b c : ℕ) (hi : i < 128) (hb : b < 2) (hc : c < 256) :
    at2 (oneTile u : S256x256.Idx → EReal) (2 * i + b) c = prepAt S Z w jt p (2 * g0 + b) c := by
  refine (oneTile_at u _).trans ?_
  show at5 (u : S1x1x1x2x256.Idx → EReal) 0 0 0 ((2 * i + b) % 256 % 2) (c % 256) = _
  rw [Nat.mod_eq_of_lt hc, show (2 * i + b) % 256 % 2 = b by omega]
  exact hu _ _ hb hc

theorem entA (m : IVec S8x256 1) (hm : EvenMask m) (z0 z1 s0 s1 : Vec Ideal S1x1x1x2x256 .bf16) (wd : IVec S64x256 32) (x : ℕ → ℕ → EReal) (S Z : ℕ → ℕ → ℕ → EReal) (W : ℕ → ℕ → ℕ → BitVec 32) (w jt g0 o : ℕ)
    (hz0 : Holds z0 S Z w jt 0 g0) (hz1 : Holds z1 S Z w jt 1 g0) (hs0 : Holds s0 S Z w jt 5 g0) (hs1 : Holds s1 S Z w jt 6 g0)
    (hw : ∀ i c, i < 64 → c < 256 → at2 wd i c = W w (o + i) (256 * jt + c)) (ho : ∀ i < 64, (o + i) / 128 = g0) (r c i : ℕ) (hr : r < 8) (hc : c < 256) (hi : i < 64) :
    x (r % 2) (o + i) * at2 (tileA (pairTile m z0 z1) (pairTile m s0 s1) wd : S256x256.Idx → EReal) (4 * i + r / 2) c = term x S Z W w jt (r / 2) (r % 2) c (o + i) := by
  have hb : r / 2 < 4 := by omega
  generalize r / 2 = b at hb
  unfold term
  rw [ho i hi]
  refine congrArg (x (r % 2) (o + i) * ·) ?_
  have zz := pair_at m hm z0 z1 S Z w jt 0 g0 hz0 hz1 i b c hi hb hc
  have ss := pair_at m hm s0 s1 S Z w jt 5 g0 hs0 hs1 i b c hi hb hc
  rw [Nat.zero_add, prep_lo S Z w jt b g0 c (by omega)] at zz
  rw [Nat.add_comm 5, prep_hi S Z w jt b g0 c (by omega)] at ss
  refine (tileA_at _ _ _ _).trans ?_
  show (cd (rowField ((4 * i + b) % 256 % 4)) (at2 wd ((4 * i + b) % 256 / 4) (c % 256)) * two (rowOff ((4 * i + b) % 256 % 4)) - at2 (pairTile m z0 z1 : S256x256.Idx → EReal) (4 * i + b) c) * at2 (pairTile m s0 s1 : S256x256.Idx → EReal) (4 * i + b) c = _
  rw [zz, ss, show (4 * i + b) % 256 % 4 = b by omega, show (4 * i + b) % 256 / 4 = i by omega, Nat.mod_eq_of_lt hc, hw i c hi hc]

theorem entB (m : IVec S8x256 1) (hm : EvenMask m) (z0 z1 s0 s1 : Vec Ideal S1x1x1x2x256 .bf16) (wd : IVec S64x256 32) (x : ℕ → ℕ → EReal) (S Z : ℕ → ℕ → ℕ → EReal) (W : ℕ → ℕ → ℕ → BitVec 32) (w jt g0 o : ℕ)
    (hz0 : Holds z0 S Z w jt 2 g0) (hz1 : Holds z1 S Z w jt 3 g0) (hs0 : Holds s0 S Z w jt 7 g0) (hs1 : Holds s1 S Z w jt 8 g0)
    (hw : ∀ i c, i < 64 → c < 256 → at2 wd i c = W w (o + i) (256 * jt + c)) (ho : ∀ i < 64, (o + i) / 128 = g0) (r c i : ℕ) (hr : r < 8) (hc : c < 256) (hi : i < 64) :
    x (r % 2) (o + i) * at2 (tileB (pairTile m z0 z1) (pairTile m s0 s1) wd : S256x256.Idx → EReal) (4 * i + r / 2) c = term x S Z W w jt (4 + r / 2) (r % 2) c (o + i) := by
  have hb : r / 2 < 4 := by omega
  generalize r / 2 = b at hb
  unfold term
  rw [ho i hi]
  refine congrArg (x (r % 2) (o + i) * ·) ?_
  have zz := pair_at m hm z0 z1 S Z w jt 2 g0 hz0 hz1 i b c hi hb hc
  have ss := pair_at m hm s0 s1 S Z w jt 7 g0 hs0 hs1 i b c hi hb hc
  have pz := prep_lo S Z w jt (4 + b) g0 c (by omega)
  have ps := prep_hi S Z w jt (4 + b) g0 c (by omega)
  rw [show (4 + b) / 2 = 2 + b / 2 by omega, show (4 + b) % 2 = b % 2 by omega] at pz
  rw [show (4 + b) / 2 + 5 = 7 + b / 2 by omega, show (4 + b) % 2 = b % 2 by omega] at ps
  rw [pz] at zz
  rw [ps] at ss
  refine (tileB_at _ _ _ _).trans ?_
  show (cd (rowField (4 + (4 * i + b) % 256 % 4)) (at2 wd ((4 * i + b) % 256 / 4) (c % 256)) * two (rowOff (4 + (4 * i + b) % 256 % 4)) - at2 (pairTile m z0 z1 : S256x256.Idx → EReal) (4 * i + b) c) * at2 (pairTile m s0 s1 : S256x256.Idx → EReal) (4 * i + b) c = _
  rw [zz, ss, show (4 * i + b) % 256 % 4 = b by omega, show (4 * i + b) % 256 / 4 = i by omega, Nat.mod_eq_of_lt hc, hw i c hi hc]

theorem entC (z s : Vec Ideal S1x1x1x2x256 .bf16) (wd : IVec S128x256 32) (x : ℕ → ℕ → EReal) (S Z : ℕ → ℕ → ℕ → EReal) (W : ℕ → ℕ → ℕ → BitVec 32) (w jt g0 o : ℕ)
    (hz : Holds z S Z w jt 4 g0) (hs : Holds s S Z w jt 9 g0)
    (hw : ∀ i c, i < 128 → c < 256 → at2 wd i c = W w (o + i) (256 * jt + c)) (ho : ∀ i < 128, (o + i) / 128 = g0) (r c i : ℕ) (hr : r < 4) (hc : c < 256) (hi : i < 128) :
    x (r % 2) (o + i) * at2 (tileC (oneTile z) (oneTile s) wd : S256x256.Idx → EReal) (2 * i + r / 2) c = term x S Z W w jt (8 + r / 2) (r % 2) c (o + i) := by
  have hb : r / 2 < 2 := by omega
  generalize r / 2 = b at hb
  unfold term
  rw [ho i hi]
  refine congrArg (x (r % 2) (o + i) * ·) ?_
  have zz := one_at z S Z w jt 4 g0 hz i b c hi hb hc
  have ss := one_at s S Z w jt 9 g0 hs i b c hi hb hc
  have pz := prep_lo S Z w jt (8 + b) g0 c (by omega)
  have ps := prep_hi S Z w jt (8 + b) g0 c (by omega)
  rw [show (8 + b) / 2 = 4 by omega, show (8 + b) % 2 = b by omega] at pz
  rw [show (8 + b) / 2 + 5 = 9 by omega, show (8 + b) % 2 = b by omega] at ps
  rw [pz] at zz
  rw [ps] at ss
  refine (tileC_at _ _ _ _).trans ?_
  show (cd (rowField (8 + (2 * i + b) % 256 % 2)) (at2 wd ((2 * i + b) % 256 / 2) (c % 256)) * two (rowOff (8 + (2 * i + b) % 256 % 2)) - at2 (oneTile z : S256x256.Idx → EReal) (2 * i + b) c) * at2 (oneTile s : S256x256.Idx → EReal) (2 * i + b) c = _
  rw [zz, ss, show (2 * i + b) % 256 % 2 = b by omega, show (2 * i + b) % 256 / 2 = i by omega, Nat.mod_eq_of_lt hc, hw i c hi hc]

end Cert.KernelIdeal

end
-- ==== Proof.KernelIdeal.Sums.lean ====
/-
  The sums that the matrix units hold when a block of columns is done.
-/
module

public import proofs.«01_k».proof.Proof.KernelIdeal.Acc
public import proofs.«01_k».proof.Proof.KernelIdeal.Outer

@[expose] public section

set_option maxRecDepth 16384

noncomputable section

namespace Cert.KernelIdeal

open Gen Cert.Value
open Idealize.ShloMosaic Idealize.ShloMosaic.TcCoe Idealize.ShloMosaic.Tactic

theorem Feed.add_ne (q : Fin 2) (R C : ℕ) (f : Feed Ideal) (h : ¬ (q = f.q ∧ 4 * f.A ≤ R ∧ R < 4 * f.A + 16)) : Feed.add q R C f = 0 := if_neg h

theorem Feed.add_at (q : Fin 2) (R C : ℕ) (f : Feed Ideal) (r : ℕ) (hq : q = f.q) (hR : R = 4 * f.A + r) (hr : r < 16) :
    Feed.add q R C f = ∑ k ∈ Finset.range 256, at2 (f.lhs : S16x256.Idx → EReal) r k * at2 (f.tile : S256x256.Idx → EReal) k C := by
  subst hR
  unfold Feed.add
  rw [if_pos ⟨hq, by omega, by omega⟩, Nat.add_sub_cancel_left]

theorem list10 (φ : Feed Ideal → EReal) (f0 f1 f2 f3 f4 f5 f6 f7 f8 f9 : Feed Ideal) (b0 b1 b2 b3 b4 b5 b6 b7 b8 b9 : EReal)
    (h0 : φ f0 = b0) (h1 : φ f1 = b1) (h2 : φ f2 = b2) (h3 : φ f3 = b3) (h4 : φ f4 = b4) (h5 : φ f5 = b5) (h6 : φ f6 = b6) (h7 : φ f7 = b7) (h8 : φ f8 = b8) (h9 : φ f9 = b9) :
    ([f0, f1, f2, f3, f4, f5, f6, f7, f8, f9].map φ).sum = b0 + (b1 + (b2 + (b3 + (b4 + (b5 + (b6 + (b7 + (b8 + (b9 + 0))))))))) := by
  subst h0 h1 h2 h3 h4 h5 h6 h7 h8 h9; rfl

theorem sum_halves (T : ℕ → EReal) (o : ℕ) : ∑ i ∈ Finset.range 64, T (o + 64 * 0 + i) + ∑ i ∈ Finset.range 64, T (o + 64 * 1 + i) = ∑ i ∈ Finset.range 128, T (o + i) := by
  rw [show (128 : ℕ) = 64 + 64 from rfl, Finset.sum_range_add]
  refine congrArg₂ (· + ·) rfl (Finset.sum_congr rfl fun i _ => congrArg T (by omega))

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

/-- The words of the two weight arrays. -/
def wF (X1 : BufTy.Contents (Elt Ideal) arg1.view.ty) (X5 : BufTy.Contents (Elt Ideal) arg5.view.ty) (w d n : ℕ) : BitVec 32 :=
  if w = 0 then at2 (arg1.view.read (Elt Ideal) X1 : S2560x1024.Idx → BitVec 32) d n else at2 (arg5.view.read (Elt Ideal) X5 : S2560x1024.Idx → BitVec 32) d n

theorem t3_lt (t3 : Fin k0_t3_loop.trips) : t3.val < 5 := t3.isLt
theorem t2_lt (t2 : Fin k0_t2_loop.trips) : t2.val < 4 := t2.isLt

theorem holds_pre (X14 : BufTy.Contents (Elt Ideal) arg14.view.ty) (S Z : ℕ → ℕ → ℕ → EReal)
    (h14 : ∀ y : S2x4x10x48x256.Idx, (y 3).val < 40 → arg14.view.read (Elt Ideal) X14 y = prepF S Z y)
    {off : Fin 5 → ℕ} (inb : ∀ a, off a + S1x1x1x2x256.size a ≤ S2x4x10x48x256.size a) (w jt p g0 : ℕ) (e : off = ![w, jt, p, 2 * g0, 0])
    (hw : w < 2) (hjt : jt < 4) (hp : p < 10) (hg : g0 < 20) : Holds (preT arg14 X14 off inb) S Z w jt p g0 := by
  intro i c hi hc
  unfold preT
  refine (at5_readAt (n0 := 2) (n1 := 4) (n2 := 10) (n3 := 48) (n4 := 256) (s0 := 1) (s1 := 1) (s2 := 1) (s3 := 2) (s4 := 256) arg14.view X14 inb e (by omega) (by omega) (by omega) hi hc).trans ?_
  refine (h14 _ ?_).trans ?_
  · show (2 * g0 + i) % 48 < 40
    omega
  · show prepAt S Z ((w + 0) % 2) ((jt + 0) % 4) ((p + 0) % 10) ((2 * g0 + i) % 48) ((0 + c) % 256) = _
    rw [show (w + 0) % 2 = w by omega, show (jt + 0) % 4 = jt by omega, show (p + 0) % 10 = p by omega, show (2 * g0 + i) % 48 = 2 * g0 + i by omega, show (0 + c) % 256 = c by omega]

theorem xa_at (X15 : BufTy.Contents (Elt Ideal) arg15.view.ty) (x : ℕ → ℕ → EReal)
    (h15 : ∀ y : S16x10240.Idx, arg15.view.read (Elt Ideal) X15 y = spread 4 x (y 0).val (y 1).val) (t3 : Fin k0_t3_loop.trips) (g : Fin 4) (h : Fin 2) (r k : ℕ) (hr : r < 16) (hk : k < 256) :
    at2 (xaOf arg15 X15 t3 (BitVec.ofNat 32 g.val) (BitVec.ofNat 32 (64 * h.val)) (k0_off75_inb t3 g h) : S16x256.Idx → EReal) r k = spread 4 x r (4 * (512 * t3.val + 128 * g.val + 64 * h.val) + k) := by
  have a3 := t3_lt t3
  unfold xaOf
  refine (at2_readAt (n0 := 16) (n1 := 10240) (s0 := 16) (s1 := 256) arg15.view X15 (k0_off75_inb t3 g h) (k0_off75_eq t3 g h) hr hk).trans ?_
  refine (h15 _).trans ?_
  show spread 4 x ((0 + r) % 16) ((2048 * t3.val + 512 * g.val + 256 * h.val + k) % 10240) = _
  rw [show (0 + r) % 16 = r by omega, show (2048 * t3.val + 512 * g.val + 256 * h.val + k) % 10240 = 4 * (512 * t3.val + 128 * g.val + 64 * h.val) + k by omega]

theorem xc_at (X16 : BufTy.Contents (Elt Ideal) arg16.view.ty) (x : ℕ → ℕ → EReal)
    (h16 : ∀ y : S16x5120.Idx, arg16.view.read (Elt Ideal) X16 y = spread 2 x (y 0).val (y 1).val) (t3 : Fin k0_t3_loop.trips) (g : Fin 4) (r k : ℕ) (hr : r < 16) (hk : k < 256) :
    at2 (xcOf arg16 X16 t3 (BitVec.ofNat 32 g.val) (k0_off78_inb t3 g) : S16x256.Idx → EReal) r k = spread 2 x r (2 * (512 * t3.val + 128 * g.val) + k) := by
  have a3 := t3_lt t3
  unfold xcOf
  refine (at2_readAt (n0 := 16) (n1 := 5120) (s0 := 16) (s1 := 256) arg16.view X16 (k0_off78_inb t3 g) (k0_off78_eq t3 g) hr hk).trans ?_
  refine (h16 _).trans ?_
  show spread 2 x ((0 + r) % 16) ((1024 * t3.val + 256 * g.val + k) % 5120) = _
  rw [show (0 + r) % 16 = r by omega, show (1024 * t3.val + 256 * g.val + k) % 5120 = 2 * (512 * t3.val + 128 * g.val) + k by omega]

theorem wordsA0_at (X1 : BufTy.Contents (Elt Ideal) arg1.view.ty) (X5 : BufTy.Contents (Elt Ideal) arg5.view.ty) (t2 : Fin k0_t2_loop.trips) (t3 : Fin k0_t3_loop.trips) (g : Fin 4) (h : Fin 2) (i c : ℕ) (hi : i < 64) (hc : c < 256) :
    at2 (wordsA arg10 (k0_off76 t2 t3 (BitVec.ofNat 32 g.val) (BitVec.ofNat 32 (64 * h.val))) (k0_off76_inb t2 t3 g h) (stored arg10 arg1 X1 (k0_off51 t2 t3) (k0_off51_inb t2 t3) (k0_off52 t2 t3) (k0_off52_inb t2 t3))) i c = wF arg1 arg5 X1 X5 0 (512 * t3.val + 128 * g.val + 64 * h.val + i) (256 * t2.val + c) := by
  have a3 := t3_lt t3
  refine (wordsA_at arg10 _ (k0_off76_inb t2 t3 g h) 0 t2.val (512 * t3.val + 128 * g.val + 64 * h.val) (k0_off76_eq t2 t3 g h) i c hi hc).trans ?_
  rw [show 512 * t3.val + 128 * g.val + 64 * h.val + i = 512 * t3.val + (128 * g.val + 64 * h.val + i) by omega]
  refine (stored_at arg10 arg1 X1 (k0_off51_inb t2 t3) (k0_off52_inb t2 t3) 0 t2.val (512 * t3.val) (256 * t2.val) (off51_eq t2 t3) (off52_eq t2 t3) (128 * g.val + 64 * h.val + i) c (by omega) hc).trans ?_
  unfold wF
  first | exact (if_pos rfl).symm | exact (if_neg (by decide)).symm

theorem wordsC0_at (X1 : BufTy.Contents (Elt Ideal) arg1.view.ty) (X5 : BufTy.Contents (Elt Ideal) arg5.view.ty) (t2 : Fin k0_t2_loop.trips) (t3 : Fin k0_t3_loop.trips) (g : Fin 4) (i c : ℕ) (hi : i < 128) (hc : c < 256) :
    at2 (wordsC arg10 (k0_off79 t2 t3 (BitVec.ofNat 32 g.val)) (k0_off79_inb t2 t3 g) (stored arg10 arg1 X1 (k0_off51 t2 t3) (k0_off51_inb t2 t3) (k0_off52 t2 t3) (k0_off52_inb t2 t3))) i c = wF arg1 arg5 X1 X5 0 (512 * t3.val + 128 * g.val + i) (256 * t2.val + c) := by
  have a3 := t3_lt t3
  refine (wordsC_at arg10 _ (k0_off79_inb t2 t3 g) 0 t2.val (512 * t3.val + 128 * g.val) (k0_off79_eq t2 t3 g) i c hi hc).trans ?_
  rw [show 512 * t3.val + 128 * g.val + i = 512 * t3.val + (128 * g.val + i) by omega]
  refine (stored_at arg10 arg1 X1 (k0_off51_inb t2 t3) (k0_off52_inb t2 t3) 0 t2.val (512 * t3.val) (256 * t2.val) (off51_eq t2 t3) (off52_eq t2 t3) (128 * g.val + i) c (by omega) hc).trans ?_
  unfold wF
  first | exact (if_pos rfl).symm | exact (if_neg (by decide)).symm

theorem wordsA1_at (X1 : BufTy.Contents (Elt Ideal) arg1.view.ty) (X5 : BufTy.Contents (Elt Ideal) arg5.view.ty) (t2 : Fin k0_t2_loop.trips) (t3 : Fin k0_t3_loop.trips) (g : Fin 4) (h : Fin 2) (i c : ℕ) (hi : i < 64) (hc : c < 256) :
    at2 (wordsA arg10 (k0_off77 t2 t3 (BitVec.ofNat 32 g.val) (BitVec.ofNat 32 (64 * h.val))) (k0_off77_inb t2 t3 g h) (stored arg10 arg5 X5 (k0_off54 t2 t3) (k0_off54_inb t2 t3) (k0_off52 t2 t3) (k0_off52_inb t2 t3))) i c = wF arg1 arg5 X1 X5 1 (512 * t3.val + 128 * g.val + 64 * h.val + i) (256 * t2.val + c) := by
  have a3 := t3_lt t3
  refine (wordsA_at arg10 _ (k0_off77_inb t2 t3 g h) 1 t2.val (512 * t3.val + 128 * g.val + 64 * h.val) (k0_off77_eq t2 t3 g h) i c hi hc).trans ?_
  rw [show 512 * t3.val + 128 * g.val + 64 * h.val + i = 512 * t3.val + (128 * g.val + 64 * h.val + i) by omega]
  refine (stored_at arg10 arg5 X5 (k0_off54_inb t2 t3) (k0_off52_inb t2 t3) 1 t2.val (512 * t3.val) (256 * t2.val) (off54_eq t2 t3) (off52_eq t2 t3) (128 * g.val + 64 * h.val + i) c (by omega) hc).trans ?_
  unfold wF
  first | exact (if_pos rfl).symm | exact (if_neg (by decide)).symm

theorem wordsC1_at (X1 : BufTy.Contents (Elt Ideal) arg1.view.ty) (X5 : BufTy.Contents (Elt Ideal) arg5.view.ty) (t2 : Fin k0_t2_loop.trips) (t3 : Fin k0_t3_loop.trips) (g : Fin 4) (i c : ℕ) (hi : i < 128) (hc : c < 256) :
    at2 (wordsC arg10 (k0_off80 t2 t3 (BitVec.ofNat 32 g.val)) (k0_off80_inb t2 t3 g) (stored arg10 arg5 X5 (k0_off54 t2 t3) (k0_off54_inb t2 t3) (k0_off52 t2 t3) (k0_off52_inb t2 t3))) i c = wF arg1 arg5 X1 X5 1 (512 * t3.val + 128 * g.val + i) (256 * t2.val + c) := by
  have a3 := t3_lt t3
  refine (wordsC_at arg10 _ (k0_off80_inb t2 t3 g) 1 t2.val (512 * t3.val + 128 * g.val) (k0_off80_eq t2 t3 g) i c hi hc).trans ?_
  rw [show 512 * t3.val + 128 * g.val + i = 512 * t3.val + (128 * g.val + i) by omega]
  refine (stored_at arg10 arg5 X5 (k0_off54_inb t2 t3) (k0_off52_inb t2 t3) 1 t2.val (512 * t3.val) (256 * t2.val) (off54_eq t2 t3) (off52_eq t2 t3) (128 * g.val + i) c (by omega) hc).trans ?_
  unfold wF
  first | exact (if_pos rfl).symm | exact (if_neg (by decide)).symm

set_option maxHeartbeats 1000000 in
theorem grp0_0 (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips) (t3 : Fin k0_t3_loop.trips) (g : Fin 4)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (r c : ℕ) (hr : r < 8) (hc : c < 256) :
    ((grp arg1 arg5 arg10 arg14 arg15 arg16 X1 X5 X14 X15 X16 m t2 t3 g).map (Feed.add 0 (4 * 0 + r) c)).sum = ∑ i ∈ Finset.range 128, (fun d => term x S Z (wF arg1 arg5 X1 X5) 0 t2.val (0 + r / 2) (r % 2) c d) (512 * t3.val + 128 * g.val + i) := by
  have a3 := t3_lt t3
  have a2 := t2_lt t2
  have ag := g.isLt
  unfold grp
  refine Eq.trans (list10 (Feed.add 0 (4 * 0 + r) c) _ _ _ _ _ _ _ _ _ _ (∑ i ∈ Finset.range 64, (fun d => term x S Z (wF arg1 arg5 X1 X5) 0 t2.val (0 + r / 2) (r % 2) c d) ((512 * t3.val + 128 * g.val + 64 * 0) + i)) 0 0 0 (∑ i ∈ Finset.range 64, (fun d => term x S Z (wF arg1 arg5 X1 X5) 0 t2.val (0 + r / 2) (r % 2) c d) ((512 * t3.val + 128 * g.val + 64 * 1) + i)) 0 0 0 0 0 ?_ ?_ ?_ ?_ ?_ ?_ ?_ ?_ ?_ ?_) ?_
  · refine (Feed.add_at _ _ _ _ r ?_ ?_ ?_).trans ?_
    · rfl
    · rfl
    · omega
    · dsimp only
      refine sumA _ _ x r c (512 * t3.val + 128 * g.val + 64 * 0) hr (fun k hk => ?_) (fun d => term x S Z (wF arg1 arg5 X1 X5) 0 t2.val (0 + r / 2) (r % 2) c d) (fun i hi => ?_)
      · exact xa_at arg15 X15 x h15 t3 g 0 r k (by omega) hk
      · refine (entA m hm _ _ _ _ _ x S Z (wF arg1 arg5 X1 X5) 0 t2.val (4 * t3.val + g.val) (512 * t3.val + 128 * g.val + 64 * 0) ?_ ?_ ?_ ?_ ?_ (fun i hi => by omega) r c i hr hc hi).trans ?_
        · exact (holds_pre arg14 X14 S Z h14 (k0_off55_inb t2 t3 g) 0 t2.val 0 (4 * t3.val + g.val) ((k0_off55_eq t2 t3 g).trans (by rw [show 8 * t3.val + 2 * g.val = 2 * (4 * t3.val + g.val) by omega])) (by omega) a2 (by omega) (by omega))
        · exact (holds_pre arg14 X14 S Z h14 (k0_off56_inb t2 t3 g) 0 t2.val 1 (4 * t3.val + g.val) ((k0_off56_eq t2 t3 g).trans (by rw [show 8 * t3.val + 2 * g.val = 2 * (4 * t3.val + g.val) by omega])) (by omega) a2 (by omega) (by omega))
        · exact (holds_pre arg14 X14 S Z h14 (k0_off65_inb t2 t3 g) 0 t2.val 5 (4 * t3.val + g.val) ((k0_off65_eq t2 t3 g).trans (by rw [show 8 * t3.val + 2 * g.val = 2 * (4 * t3.val + g.val) by omega])) (by omega) a2 (by omega) (by omega))
        · exact (holds_pre arg14 X14 S Z h14 (k0_off66_inb t2 t3 g) 0 t2.val 6 (4 * t3.val + g.val) ((k0_off66_eq t2 t3 g).trans (by rw [show 8 * t3.val + 2 * g.val = 2 * (4 * t3.val + g.val) by omega])) (by omega) a2 (by omega) (by omega))
        · exact (fun i c hi hc => wordsA0_at arg1 arg5 arg10 X1 X5 t2 t3 g 0 i c hi hc)
        · exact (congrArg (fun z => term x S Z (wF arg1 arg5 X1 X5) 0 t2.val z (r % 2) c ((512 * t3.val + 128 * g.val + 64 * 0) + i)) (Nat.zero_add _).symm)
  · exact (Feed.add_ne _ _ _ _ (fun e => (show ¬ ((0 : Fin 2) = 1) by decide) e.1))
  · exact (Feed.add_ne _ _ _ _ (fun e => by have h1 : 4 * 4 ≤ 4 * 0 + r := e.2.1; omega))
  · exact (Feed.add_ne _ _ _ _ (fun e => (show ¬ ((0 : Fin 2) = 1) by decide) e.1))
  · refine (Feed.add_at _ _ _ _ r ?_ ?_ ?_).trans ?_
    · rfl
    · rfl
    · omega
    · dsimp only
      refine sumA _ _ x r c (512 * t3.val + 128 * g.val + 64 * 1) hr (fun k hk => ?_) (fun d => term x S Z (wF arg1 arg5 X1 X5) 0 t2.val (0 + r / 2) (r % 2) c d) (fun i hi => ?_)
      · exact xa_at arg15 X15 x h15 t3 g 1 r k (by omega) hk
      · refine (entA m hm _ _ _ _ _ x S Z (wF arg1 arg5 X1 X5) 0 t2.val (4 * t3.val + g.val) (512 * t3.val + 128 * g.val + 64 * 1) ?_ ?_ ?_ ?_ ?_ (fun i hi => by omega) r c i hr hc hi).trans ?_
        · exact (holds_pre arg14 X14 S Z h14 (k0_off55_inb t2 t3 g) 0 t2.val 0 (4 * t3.val + g.val) ((k0_off55_eq t2 t3 g).trans (by rw [show 8 * t3.val + 2 * g.val = 2 * (4 * t3.val + g.val) by omega])) (by omega) a2 (by omega) (by omega))
        · exact (holds_pre arg14 X14 S Z h14 (k0_off56_inb t2 t3 g) 0 t2.val 1 (4 * t3.val + g.val) ((k0_off56_eq t2 t3 g).trans (by rw [show 8 * t3.val + 2 * g.val = 2 * (4 * t3.val + g.val) by omega])) (by omega) a2 (by omega) (by omega))
        · exact (holds_pre arg14 X14 S Z h14 (k0_off65_inb t2 t3 g) 0 t2.val 5 (4 * t3.val + g.val) ((k0_off65_eq t2 t3 g).trans (by rw [show 8 * t3.val + 2 * g.val = 2 * (4 * t3.val + g.val) by omega])) (by omega) a2 (by omega) (by omega))
        · exact (holds_pre arg14 X14 S Z h14 (k0_off66_inb t2 t3 g) 0 t2.val 6 (4 * t3.val + g.val) ((k0_off66_eq t2 t3 g).trans (by rw [show 8 * t3.val + 2 * g.val = 2 * (4 * t3.val + g.val) by omega])) (by omega) a2 (by omega) (by omega))
        · exact (fun i c hi hc => wordsA0_at arg1 arg5 arg10 X1 X5 t2 t3 g 1 i c hi hc)
        · exact (congrArg (fun z => term x S Z (wF arg1 arg5 X1 X5) 0 t2.val z (r % 2) c ((512 * t3.val + 128 * g.val + 64 * 1) + i)) (Nat.zero_add _).symm)
  · exact (Feed.add_ne _ _ _ _ (fun e => (show ¬ ((0 : Fin 2) = 1) by decide) e.1))
  · exact (Feed.add_ne _ _ _ _ (fun e => by have h1 : 4 * 4 ≤ 4 * 0 + r := e.2.1; omega))
  · exact (Feed.add_ne _ _ _ _ (fun e => (show ¬ ((0 : Fin 2) = 1) by decide) e.1))
  · exact (Feed.add_ne _ _ _ _ (fun e => by have h1 : 4 * 8 ≤ 4 * 0 + r := e.2.1; omega))
  · exact (Feed.add_ne _ _ _ _ (fun e => (show ¬ ((0 : Fin 2) = 1) by decide) e.1))
  · have key := sum_halves (fun d => term x S Z (wF arg1 arg5 X1 X5) 0 t2.val (0 + r / 2) (r % 2) c d) (512 * t3.val + 128 * g.val)
    simp only [add_zero, zero_add] at key ⊢
    exact key

set_option maxHeartbeats 1000000 in
theorem grp4_0 (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips) (t3 : Fin k0_t3_loop.trips) (g : Fin 4)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (r c : ℕ) (hr : r < 8) (hc : c < 256) :
    ((grp arg1 arg5 arg10 arg14 arg15 arg16 X1 X5 X14 X15 X16 m t2 t3 g).map (Feed.add 0 (4 * 4 + r) c)).sum = ∑ i ∈ Finset.range 128, (fun d => term x S Z (wF arg1 arg5 X1 X5) 0 t2.val (4 + r / 2) (r % 2) c d) (512 * t3.val + 128 * g.val + i) := by
  have a3 := t3_lt t3
  have a2 := t2_lt t2
  have ag := g.isLt
  unfold grp
  refine Eq.trans (list10 (Feed.add 0 (4 * 4 + r) c) _ _ _ _ _ _ _ _ _ _ 0 0 (∑ i ∈ Finset.range 64, (fun d => term x S Z (wF arg1 arg5 X1 X5) 0 t2.val (4 + r / 2) (r % 2) c d) ((512 * t3.val + 128 * g.val + 64 * 0) + i)) 0 0 0 (∑ i ∈ Finset.range 64, (fun d => term x S Z (wF arg1 arg5 X1 X5) 0 t2.val (4 + r / 2) (r % 2) c d) ((512 * t3.val + 128 * g.val + 64 * 1) + i)) 0 0 0 ?_ ?_ ?_ ?_ ?_ ?_ ?_ ?_ ?_ ?_) ?_
  · exact (Feed.add_ne _ _ _ _ (fun e => by have h1 : 4 * 4 + r < 4 * 0 + 16 := e.2.2; omega))
  · exact (Feed.add_ne _ _ _ _ (fun e => (show ¬ ((0 : Fin 2) = 1) by decide) e.1))
  · refine (Feed.add_at _ _ _ _ r ?_ ?_ ?_).trans ?_
    · rfl
    · rfl
    · omega
    · dsimp only
      refine sumA _ _ x r c (512 * t3.val + 128 * g.val + 64 * 0) hr (fun k hk => ?_) (fun d => term x S Z (wF arg1 arg5 X1 X5) 0 t2.val (4 + r / 2) (r % 2) c d) (fun i hi => ?_)
      · exact xa_at arg15 X15 x h15 t3 g 0 r k (by omega) hk
      · refine entB m hm _ _ _ _ _ x S Z (wF arg1 arg5 X1 X5) 0 t2.val (4 * t3.val + g.val) (512 * t3.val + 128 * g.val + 64 * 0) ?_ ?_ ?_ ?_ ?_ (fun i hi => by omega) r c i hr hc hi
        · exact (holds_pre arg14 X14 S Z h14 (k0_off57_inb t2 t3 g) 0 t2.val 2 (4 * t3.val + g.val) ((k0_off57_eq t2 t3 g).trans (by rw [show 8 * t3.val + 2 * g.val = 2 * (4 * t3.val + g.val) by omega])) (by omega) a2 (by omega) (by omega))
        · exact (holds_pre arg14 X14 S Z h14 (k0_off58_inb t2 t3 g) 0 t2.val 3 (4 * t3.val + g.val) ((k0_off58_eq t2 t3 g).trans (by rw [show 8 * t3.val + 2 * g.val = 2 * (4 * t3.val + g.val) by omega])) (by omega) a2 (by omega) (by omega))
        · exact (holds_pre arg14 X14 S Z h14 (k0_off67_inb t2 t3 g) 0 t2.val 7 (4 * t3.val + g.val) ((k0_off67_eq t2 t3 g).trans (by rw [show 8 * t3.val + 2 * g.val = 2 * (4 * t3.val + g.val) by omega])) (by omega) a2 (by omega) (by omega))
        · exact (holds_pre arg14 X14 S Z h14 (k0_off68_inb t2 t3 g) 0 t2.val 8 (4 * t3.val + g.val) ((k0_off68_eq t2 t3 g).trans (by rw [show 8 * t3.val + 2 * g.val = 2 * (4 * t3.val + g.val) by omega])) (by omega) a2 (by omega) (by omega))
        · exact (fun i c hi hc => wordsA0_at arg1 arg5 arg10 X1 X5 t2 t3 g 0 i c hi hc)
  · exact (Feed.add_ne _ _ _ _ (fun e => (show ¬ ((0 : Fin 2) = 1) by decide) e.1))
  · exact (Feed.add_ne _ _ _ _ (fun e => by have h1 : 4 * 4 + r < 4 * 0 + 16 := e.2.2; omega))
  · exact (Feed.add_ne _ _ _ _ (fun e => (show ¬ ((0 : Fin 2) = 1) by decide) e.1))
  · refine (Feed.add_at _ _ _ _ r ?_ ?_ ?_).trans ?_
    · rfl
    · rfl
    · omega
    · dsimp only
      refine sumA _ _ x r c (512 * t3.val + 128 * g.val + 64 * 1) hr (fun k hk => ?_) (fun d => term x S Z (wF arg1 arg5 X1 X5) 0 t2.val (4 + r / 2) (r % 2) c d) (fun i hi => ?_)
      · exact xa_at arg15 X15 x h15 t3 g 1 r k (by omega) hk
      · refine entB m hm _ _ _ _ _ x S Z (wF arg1 arg5 X1 X5) 0 t2.val (4 * t3.val + g.val) (512 * t3.val + 128 * g.val + 64 * 1) ?_ ?_ ?_ ?_ ?_ (fun i hi => by omega) r c i hr hc hi
        · exact (holds_pre arg14 X14 S Z h14 (k0_off57_inb t2 t3 g) 0 t2.val 2 (4 * t3.val + g.val) ((k0_off57_eq t2 t3 g).trans (by rw [show 8 * t3.val + 2 * g.val = 2 * (4 * t3.val + g.val) by omega])) (by omega) a2 (by omega) (by omega))
        · exact (holds_pre arg14 X14 S Z h14 (k0_off58_inb t2 t3 g) 0 t2.val 3 (4 * t3.val + g.val) ((k0_off58_eq t2 t3 g).trans (by rw [show 8 * t3.val + 2 * g.val = 2 * (4 * t3.val + g.val) by omega])) (by omega) a2 (by omega) (by omega))
        · exact (holds_pre arg14 X14 S Z h14 (k0_off67_inb t2 t3 g) 0 t2.val 7 (4 * t3.val + g.val) ((k0_off67_eq t2 t3 g).trans (by rw [show 8 * t3.val + 2 * g.val = 2 * (4 * t3.val + g.val) by omega])) (by omega) a2 (by omega) (by omega))
        · exact (holds_pre arg14 X14 S Z h14 (k0_off68_inb t2 t3 g) 0 t2.val 8 (4 * t3.val + g.val) ((k0_off68_eq t2 t3 g).trans (by rw [show 8 * t3.val + 2 * g.val = 2 * (4 * t3.val + g.val) by omega])) (by omega) a2 (by omega) (by omega))
        · exact (fun i c hi hc => wordsA0_at arg1 arg5 arg10 X1 X5 t2 t3 g 1 i c hi hc)
  · exact (Feed.add_ne _ _ _ _ (fun e => (show ¬ ((0 : Fin 2) = 1) by decide) e.1))
  · exact (Feed.add_ne _ _ _ _ (fun e => by have h1 : 4 * 8 ≤ 4 * 4 + r := e.2.1; omega))
  · exact (Feed.add_ne _ _ _ _ (fun e => (show ¬ ((0 : Fin 2) = 1) by decide) e.1))
  · have key := sum_halves (fun d => term x S Z (wF arg1 arg5 X1 X5) 0 t2.val (4 + r / 2) (r % 2) c d) (512 * t3.val + 128 * g.val)
    simp only [add_zero, zero_add] at key ⊢
    exact key

set_option maxHeartbeats 1000000 in
theorem grp8_0 (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips) (t3 : Fin k0_t3_loop.trips) (g : Fin 4)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (r c : ℕ) (hr : r < 4) (hc : c < 256) :
    ((grp arg1 arg5 arg10 arg14 arg15 arg16 X1 X5 X14 X15 X16 m t2 t3 g).map (Feed.add 0 (4 * 8 + r) c)).sum = ∑ i ∈ Finset.range 128, (fun d => term x S Z (wF arg1 arg5 X1 X5) 0 t2.val (8 + r / 2) (r % 2) c d) (512 * t3.val + 128 * g.val + i) := by
  have a3 := t3_lt t3
  have a2 := t2_lt t2
  have ag := g.isLt
  unfold grp
  refine Eq.trans (list10 (Feed.add 0 (4 * 8 + r) c) _ _ _ _ _ _ _ _ _ _ 0 0 0 0 0 0 0 0 (∑ i ∈ Finset.range 128, (fun d => term x S Z (wF arg1 arg5 X1 X5) 0 t2.val (8 + r / 2) (r % 2) c d) ((512 * t3.val + 128 * g.val) + i)) 0 ?_ ?_ ?_ ?_ ?_ ?_ ?_ ?_ ?_ ?_) ?_
  · exact (Feed.add_ne _ _ _ _ (fun e => by have h1 : 4 * 8 + r < 4 * 0 + 16 := e.2.2; omega))
  · exact (Feed.add_ne _ _ _ _ (fun e => (show ¬ ((0 : Fin 2) = 1) by decide) e.1))
  · exact (Feed.add_ne _ _ _ _ (fun e => by have h1 : 4 * 8 + r < 4 * 4 + 16 := e.2.2; omega))
  · exact (Feed.add_ne _ _ _ _ (fun e => (show ¬ ((0 : Fin 2) = 1) by decide) e.1))
  · exact (Feed.add_ne _ _ _ _ (fun e => by have h1 : 4 * 8 + r < 4 * 0 + 16 := e.2.2; omega))
  · exact (Feed.add_ne _ _ _ _ (fun e => (show ¬ ((0 : Fin 2) = 1) by decide) e.1))
  · exact (Feed.add_ne _ _ _ _ (fun e => by have h1 : 4 * 8 + r < 4 * 4 + 16 := e.2.2; omega))
  · exact (Feed.add_ne _ _ _ _ (fun e => (show ¬ ((0 : Fin 2) = 1) by decide) e.1))
  · refine (Feed.add_at _ _ _ _ r ?_ ?_ ?_).trans ?_
    · rfl
    · rfl
    · omega
    · dsimp only
      refine sumC _ _ x r c (512 * t3.val + 128 * g.val) hr (fun k hk => ?_) (fun d => term x S Z (wF arg1 arg5 X1 X5) 0 t2.val (8 + r / 2) (r % 2) c d) (fun i hi => ?_)
      · exact xc_at arg16 X16 x h16 t3 g r k (by omega) hk
      · refine entC _ _ _ x S Z (wF arg1 arg5 X1 X5) 0 t2.val (4 * t3.val + g.val) (512 * t3.val + 128 * g.val) ?_ ?_ ?_ (fun i hi => by omega) r c i hr hc hi
        · exact (holds_pre arg14 X14 S Z h14 (k0_off59_inb t2 t3 g) 0 t2.val 4 (4 * t3.val + g.val) ((k0_off59_eq t2 t3 g).trans (by rw [show 8 * t3.val + 2 * g.val = 2 * (4 * t3.val + g.val) by omega])) (by omega) a2 (by omega) (by omega))
        · exact (holds_pre arg14 X14 S Z h14 (k0_off69_inb t2 t3 g) 0 t2.val 9 (4 * t3.val + g.val) ((k0_off69_eq t2 t3 g).trans (by rw [show 8 * t3.val + 2 * g.val = 2 * (4 * t3.val + g.val) by omega])) (by omega) a2 (by omega) (by omega))
        · exact (fun i c hi hc => wordsC0_at arg1 arg5 arg10 X1 X5 t2 t3 g i c hi hc)
  · exact (Feed.add_ne _ _ _ _ (fun e => (show ¬ ((0 : Fin 2) = 1) by decide) e.1))
  · simp only [add_zero, zero_add]

set_option maxHeartbeats 1000000 in
theorem grp0_1 (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips) (t3 : Fin k0_t3_loop.trips) (g : Fin 4)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (r c : ℕ) (hr : r < 8) (hc : c < 256) :
    ((grp arg1 arg5 arg10 arg14 arg15 arg16 X1 X5 X14 X15 X16 m t2 t3 g).map (Feed.add 1 (4 * 0 + r) c)).sum = ∑ i ∈ Finset.range 128, (fun d => term x S Z (wF arg1 arg5 X1 X5) 1 t2.val (0 + r / 2) (r % 2) c d) (512 * t3.val + 128 * g.val + i) := by
  have a3 := t3_lt t3
  have a2 := t2_lt t2
  have ag := g.isLt
  unfold grp
  refine Eq.trans (list10 (Feed.add 1 (4 * 0 + r) c) _ _ _ _ _ _ _ _ _ _ 0 (∑ i ∈ Finset.range 64, (fun d => term x S Z (wF arg1 arg5 X1 X5) 1 t2.val (0 + r / 2) (r % 2) c d) ((512 * t3.val + 128 * g.val + 64 * 0) + i)) 0 0 0 (∑ i ∈ Finset.range 64, (fun d => term x S Z (wF arg1 arg5 X1 X5) 1 t2.val (0 + r / 2) (r % 2) c d) ((512 * t3.val + 128 * g.val + 64 * 1) + i)) 0 0 0 0 ?_ ?_ ?_ ?_ ?_ ?_ ?_ ?_ ?_ ?_) ?_
  · exact (Feed.add_ne _ _ _ _ (fun e => (show ¬ ((1 : Fin 2) = 0) by decide) e.1))
  · refine (Feed.add_at _ _ _ _ r ?_ ?_ ?_).trans ?_
    · rfl
    · rfl
    · omega
    · dsimp only
      refine sumA _ _ x r c (512 * t3.val + 128 * g.val + 64 * 0) hr (fun k hk => ?_) (fun d => term x S Z (wF arg1 arg5 X1 X5) 1 t2.val (0 + r / 2) (r % 2) c d) (fun i hi => ?_)
      · exact xa_at arg15 X15 x h15 t3 g 0 r k (by omega) hk
      · refine (entA m hm _ _ _ _ _ x S Z (wF arg1 arg5 X1 X5) 1 t2.val (4 * t3.val + g.val) (512 * t3.val + 128 * g.val + 64 * 0) ?_ ?_ ?_ ?_ ?_ (fun i hi => by omega) r c i hr hc hi).trans ?_
        · exact (holds_pre arg14 X14 S Z h14 (k0_off60_inb t2 t3 g) 1 t2.val 0 (4 * t3.val + g.val) ((k0_off60_eq t2 t3 g).trans (by rw [show 8 * t3.val + 2 * g.val = 2 * (4 * t3.val + g.val) by omega])) (by omega) a2 (by omega) (by omega))
        · exact (holds_pre arg14 X14 S Z h14 (k0_off61_inb t2 t3 g) 1 t2.val 1 (4 * t3.val + g.val) ((k0_off61_eq t2 t3 g).trans (by rw [show 8 * t3.val + 2 * g.val = 2 * (4 * t3.val + g.val) by omega])) (by omega) a2 (by omega) (by omega))
        · exact (holds_pre arg14 X14 S Z h14 (k0_off70_inb t2 t3 g) 1 t2.val 5 (4 * t3.val + g.val) ((k0_off70_eq t2 t3 g).trans (by rw [show 8 * t3.val + 2 * g.val = 2 * (4 * t3.val + g.val) by omega])) (by omega) a2 (by omega) (by omega))
        · exact (holds_pre arg14 X14 S Z h14 (k0_off71_inb t2 t3 g) 1 t2.val 6 (4 * t3.val + g.val) ((k0_off71_eq t2 t3 g).trans (by rw [show 8 * t3.val + 2 * g.val = 2 * (4 * t3.val + g.val) by omega])) (by omega) a2 (by omega) (by omega))
        · exact (fun i c hi hc => wordsA1_at arg1 arg5 arg10 X1 X5 t2 t3 g 0 i c hi hc)
        · exact (congrArg (fun z => term x S Z (wF arg1 arg5 X1 X5) 1 t2.val z (r % 2) c ((512 * t3.val + 128 * g.val + 64 * 0) + i)) (Nat.zero_add _).symm)
  · exact (Feed.add_ne _ _ _ _ (fun e => (show ¬ ((1 : Fin 2) = 0) by decide) e.1))
  · exact (Feed.add_ne _ _ _ _ (fun e => by have h1 : 4 * 4 ≤ 4 * 0 + r := e.2.1; omega))
  · exact (Feed.add_ne _ _ _ _ (fun e => (show ¬ ((1 : Fin 2) = 0) by decide) e.1))
  · refine (Feed.add_at _ _ _ _ r ?_ ?_ ?_).trans ?_
    · rfl
    · rfl
    · omega
    · dsimp only
      refine sumA _ _ x r c (512 * t3.val + 128 * g.val + 64 * 1) hr (fun k hk => ?_) (fun d => term x S Z (wF arg1 arg5 X1 X5) 1 t2.val (0 + r / 2) (r % 2) c d) (fun i hi => ?_)
      · exact xa_at arg15 X15 x h15 t3 g 1 r k (by omega) hk
      · refine (entA m hm _ _ _ _ _ x S Z (wF arg1 arg5 X1 X5) 1 t2.val (4 * t3.val + g.val) (512 * t3.val + 128 * g.val + 64 * 1) ?_ ?_ ?_ ?_ ?_ (fun i hi => by omega) r c i hr hc hi).trans ?_
        · exact (holds_pre arg14 X14 S Z h14 (k0_off60_inb t2 t3 g) 1 t2.val 0 (4 * t3.val + g.val) ((k0_off60_eq t2 t3 g).trans (by rw [show 8 * t3.val + 2 * g.val = 2 * (4 * t3.val + g.val) by omega])) (by omega) a2 (by omega) (by omega))
        · exact (holds_pre arg14 X14 S Z h14 (k0_off61_inb t2 t3 g) 1 t2.val 1 (4 * t3.val + g.val) ((k0_off61_eq t2 t3 g).trans (by rw [show 8 * t3.val + 2 * g.val = 2 * (4 * t3.val + g.val) by omega])) (by omega) a2 (by omega) (by omega))
        · exact (holds_pre arg14 X14 S Z h14 (k0_off70_inb t2 t3 g) 1 t2.val 5 (4 * t3.val + g.val) ((k0_off70_eq t2 t3 g).trans (by rw [show 8 * t3.val + 2 * g.val = 2 * (4 * t3.val + g.val) by omega])) (by omega) a2 (by omega) (by omega))
        · exact (holds_pre arg14 X14 S Z h14 (k0_off71_inb t2 t3 g) 1 t2.val 6 (4 * t3.val + g.val) ((k0_off71_eq t2 t3 g).trans (by rw [show 8 * t3.val + 2 * g.val = 2 * (4 * t3.val + g.val) by omega])) (by omega) a2 (by omega) (by omega))
        · exact (fun i c hi hc => wordsA1_at arg1 arg5 arg10 X1 X5 t2 t3 g 1 i c hi hc)
        · exact (congrArg (fun z => term x S Z (wF arg1 arg5 X1 X5) 1 t2.val z (r % 2) c ((512 * t3.val + 128 * g.val + 64 * 1) + i)) (Nat.zero_add _).symm)
  · exact (Feed.add_ne _ _ _ _ (fun e => (show ¬ ((1 : Fin 2) = 0) by decide) e.1))
  · exact (Feed.add_ne _ _ _ _ (fun e => by have h1 : 4 * 4 ≤ 4 * 0 + r := e.2.1; omega))
  · exact (Feed.add_ne _ _ _ _ (fun e => (show ¬ ((1 : Fin 2) = 0) by decide) e.1))
  · exact (Feed.add_ne _ _ _ _ (fun e => by have h1 : 4 * 8 ≤ 4 * 0 + r := e.2.1; omega))
  · have key := sum_halves (fun d => term x S Z (wF arg1 arg5 X1 X5) 1 t2.val (0 + r / 2) (r % 2) c d) (512 * t3.val + 128 * g.val)
    simp only [add_zero, zero_add] at key ⊢
    exact key

set_option maxHeartbeats 1000000 in
theorem grp4_1 (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips) (t3 : Fin k0_t3_loop.trips) (g : Fin 4)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (r c : ℕ) (hr : r < 8) (hc : c < 256) :
    ((grp arg1 arg5 arg10 arg14 arg15 arg16 X1 X5 X14 X15 X16 m t2 t3 g).map (Feed.add 1 (4 * 4 + r) c)).sum = ∑ i ∈ Finset.range 128, (fun d => term x S Z (wF arg1 arg5 X1 X5) 1 t2.val (4 + r / 2) (r % 2) c d) (512 * t3.val + 128 * g.val + i) := by
  have a3 := t3_lt t3
  have a2 := t2_lt t2
  have ag := g.isLt
  unfold grp
  refine Eq.trans (list10 (Feed.add 1 (4 * 4 + r) c) _ _ _ _ _ _ _ _ _ _ 0 0 0 (∑ i ∈ Finset.range 64, (fun d => term x S Z (wF arg1 arg5 X1 X5) 1 t2.val (4 + r / 2) (r % 2) c d) ((512 * t3.val + 128 * g.val + 64 * 0) + i)) 0 0 0 (∑ i ∈ Finset.range 64, (fun d => term x S Z (wF arg1 arg5 X1 X5) 1 t2.val (4 + r / 2) (r % 2) c d) ((512 * t3.val + 128 * g.val + 64 * 1) + i)) 0 0 ?_ ?_ ?_ ?_ ?_ ?_ ?_ ?_ ?_ ?_) ?_
  · exact (Feed.add_ne _ _ _ _ (fun e => (show ¬ ((1 : Fin 2) = 0) by decide) e.1))
  · exact (Feed.add_ne _ _ _ _ (fun e => by have h1 : 4 * 4 + r < 4 * 0 + 16 := e.2.2; omega))
  · exact (Feed.add_ne _ _ _ _ (fun e => (show ¬ ((1 : Fin 2) = 0) by decide) e.1))
  · refine (Feed.add_at _ _ _ _ r ?_ ?_ ?_).trans ?_
    · rfl
    · rfl
    · omega
    · dsimp only
      refine sumA _ _ x r c (512 * t3.val + 128 * g.val + 64 * 0) hr (fun k hk => ?_) (fun d => term x S Z (wF arg1 arg5 X1 X5) 1 t2.val (4 + r / 2) (r % 2) c d) (fun i hi => ?_)
      · exact xa_at arg15 X15 x h15 t3 g 0 r k (by omega) hk
      · refine entB m hm _ _ _ _ _ x S Z (wF arg1 arg5 X1 X5) 1 t2.val (4 * t3.val + g.val) (512 * t3.val + 128 * g.val + 64 * 0) ?_ ?_ ?_ ?_ ?_ (fun i hi => by omega) r c i hr hc hi
        · exact (holds_pre arg14 X14 S Z h14 (k0_off62_inb t2 t3 g) 1 t2.val 2 (4 * t3.val + g.val) ((k0_off62_eq t2 t3 g).trans (by rw [show 8 * t3.val + 2 * g.val = 2 * (4 * t3.val + g.val) by omega])) (by omega) a2 (by omega) (by omega))
        · exact (holds_pre arg14 X14 S Z h14 (k0_off63_inb t2 t3 g) 1 t2.val 3 (4 * t3.val + g.val) ((k0_off63_eq t2 t3 g).trans (by rw [show 8 * t3.val + 2 * g.val = 2 * (4 * t3.val + g.val) by omega])) (by omega) a2 (by omega) (by omega))
        · exact (holds_pre arg14 X14 S Z h14 (k0_off72_inb t2 t3 g) 1 t2.val 7 (4 * t3.val + g.val) ((k0_off72_eq t2 t3 g).trans (by rw [show 8 * t3.val + 2 * g.val = 2 * (4 * t3.val + g.val) by omega])) (by omega) a2 (by omega) (by omega))
        · exact (holds_pre arg14 X14 S Z h14 (k0_off73_inb t2 t3 g) 1 t2.val 8 (4 * t3.val + g.val) ((k0_off73_eq t2 t3 g).trans (by rw [show 8 * t3.val + 2 * g.val = 2 * (4 * t3.val + g.val) by omega])) (by omega) a2 (by omega) (by omega))
        · exact (fun i c hi hc => wordsA1_at arg1 arg5 arg10 X1 X5 t2 t3 g 0 i c hi hc)
  · exact (Feed.add_ne _ _ _ _ (fun e => (show ¬ ((1 : Fin 2) = 0) by decide) e.1))
  · exact (Feed.add_ne _ _ _ _ (fun e => by have h1 : 4 * 4 + r < 4 * 0 + 16 := e.2.2; omega))
  · exact (Feed.add_ne _ _ _ _ (fun e => (show ¬ ((1 : Fin 2) = 0) by decide) e.1))
  · refine (Feed.add_at _ _ _ _ r ?_ ?_ ?_).trans ?_
    · rfl
    · rfl
    · omega
    · dsimp only
      refine sumA _ _ x r c (512 * t3.val + 128 * g.val + 64 * 1) hr (fun k hk => ?_) (fun d => term x S Z (wF arg1 arg5 X1 X5) 1 t2.val (4 + r / 2) (r % 2) c d) (fun i hi => ?_)
      · exact xa_at arg15 X15 x h15 t3 g 1 r k (by omega) hk
      · refine entB m hm _ _ _ _ _ x S Z (wF arg1 arg5 X1 X5) 1 t2.val (4 * t3.val + g.val) (512 * t3.val + 128 * g.val + 64 * 1) ?_ ?_ ?_ ?_ ?_ (fun i hi => by omega) r c i hr hc hi
        · exact (holds_pre arg14 X14 S Z h14 (k0_off62_inb t2 t3 g) 1 t2.val 2 (4 * t3.val + g.val) ((k0_off62_eq t2 t3 g).trans (by rw [show 8 * t3.val + 2 * g.val = 2 * (4 * t3.val + g.val) by omega])) (by omega) a2 (by omega) (by omega))
        · exact (holds_pre arg14 X14 S Z h14 (k0_off63_inb t2 t3 g) 1 t2.val 3 (4 * t3.val + g.val) ((k0_off63_eq t2 t3 g).trans (by rw [show 8 * t3.val + 2 * g.val = 2 * (4 * t3.val + g.val) by omega])) (by omega) a2 (by omega) (by omega))
        · exact (holds_pre arg14 X14 S Z h14 (k0_off72_inb t2 t3 g) 1 t2.val 7 (4 * t3.val + g.val) ((k0_off72_eq t2 t3 g).trans (by rw [show 8 * t3.val + 2 * g.val = 2 * (4 * t3.val + g.val) by omega])) (by omega) a2 (by omega) (by omega))
        · exact (holds_pre arg14 X14 S Z h14 (k0_off73_inb t2 t3 g) 1 t2.val 8 (4 * t3.val + g.val) ((k0_off73_eq t2 t3 g).trans (by rw [show 8 * t3.val + 2 * g.val = 2 * (4 * t3.val + g.val) by omega])) (by omega) a2 (by omega) (by omega))
        · exact (fun i c hi hc => wordsA1_at arg1 arg5 arg10 X1 X5 t2 t3 g 1 i c hi hc)
  · exact (Feed.add_ne _ _ _ _ (fun e => (show ¬ ((1 : Fin 2) = 0) by decide) e.1))
  · exact (Feed.add_ne _ _ _ _ (fun e => by have h1 : 4 * 8 ≤ 4 * 4 + r := e.2.1; omega))
  · have key := sum_halves (fun d => term x S Z (wF arg1 arg5 X1 X5) 1 t2.val (4 + r / 2) (r % 2) c d) (512 * t3.val + 128 * g.val)
    simp only [add_zero, zero_add] at key ⊢
    exact key

set_option maxHeartbeats 1000000 in
theorem grp8_1 (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips) (t3 : Fin k0_t3_loop.trips) (g : Fin 4)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (r c : ℕ) (hr : r < 4) (hc : c < 256) :
    ((grp arg1 arg5 arg10 arg14 arg15 arg16 X1 X5 X14 X15 X16 m t2 t3 g).map (Feed.add 1 (4 * 8 + r) c)).sum = ∑ i ∈ Finset.range 128, (fun d => term x S Z (wF arg1 arg5 X1 X5) 1 t2.val (8 + r / 2) (r % 2) c d) (512 * t3.val + 128 * g.val + i) := by
  have a3 := t3_lt t3
  have a2 := t2_lt t2
  have ag := g.isLt
  unfold grp
  refine Eq.trans (list10 (Feed.add 1 (4 * 8 + r) c) _ _ _ _ _ _ _ _ _ _ 0 0 0 0 0 0 0 0 0 (∑ i ∈ Finset.range 128, (fun d => term x S Z (wF arg1 arg5 X1 X5) 1 t2.val (8 + r / 2) (r % 2) c d) ((512 * t3.val + 128 * g.val) + i)) ?_ ?_ ?_ ?_ ?_ ?_ ?_ ?_ ?_ ?_) ?_
  · exact (Feed.add_ne _ _ _ _ (fun e => (show ¬ ((1 : Fin 2) = 0) by decide) e.1))
  · exact (Feed.add_ne _ _ _ _ (fun e => by have h1 : 4 * 8 + r < 4 * 0 + 16 := e.2.2; omega))
  · exact (Feed.add_ne _ _ _ _ (fun e => (show ¬ ((1 : Fin 2) = 0) by decide) e.1))
  · exact (Feed.add_ne _ _ _ _ (fun e => by have h1 : 4 * 8 + r < 4 * 4 + 16 := e.2.2; omega))
  · exact (Feed.add_ne _ _ _ _ (fun e => (show ¬ ((1 : Fin 2) = 0) by decide) e.1))
  · exact (Feed.add_ne _ _ _ _ (fun e => by have h1 : 4 * 8 + r < 4 * 0 + 16 := e.2.2; omega))
  · exact (Feed.add_ne _ _ _ _ (fun e => (show ¬ ((1 : Fin 2) = 0) by decide) e.1))
  · exact (Feed.add_ne _ _ _ _ (fun e => by have h1 : 4 * 8 + r < 4 * 4 + 16 := e.2.2; omega))
  · exact (Feed.add_ne _ _ _ _ (fun e => (show ¬ ((1 : Fin 2) = 0) by decide) e.1))
  · refine (Feed.add_at _ _ _ _ r ?_ ?_ ?_).trans ?_
    · rfl
    · rfl
    · omega
    · dsimp only
      refine sumC _ _ x r c (512 * t3.val + 128 * g.val) hr (fun k hk => ?_) (fun d => term x S Z (wF arg1 arg5 X1 X5) 1 t2.val (8 + r / 2) (r % 2) c d) (fun i hi => ?_)
      · exact xc_at arg16 X16 x h16 t3 g r k (by omega) hk
      · refine entC _ _ _ x S Z (wF arg1 arg5 X1 X5) 1 t2.val (4 * t3.val + g.val) (512 * t3.val + 128 * g.val) ?_ ?_ ?_ (fun i hi => by omega) r c i hr hc hi
        · exact (holds_pre arg14 X14 S Z h14 (k0_off64_inb t2 t3 g) 1 t2.val 4 (4 * t3.val + g.val) ((k0_off64_eq t2 t3 g).trans (by rw [show 8 * t3.val + 2 * g.val = 2 * (4 * t3.val + g.val) by omega])) (by omega) a2 (by omega) (by omega))
        · exact (holds_pre arg14 X14 S Z h14 (k0_off74_inb t2 t3 g) 1 t2.val 9 (4 * t3.val + g.val) ((k0_off74_eq t2 t3 g).trans (by rw [show 8 * t3.val + 2 * g.val = 2 * (4 * t3.val + g.val) by omega])) (by omega) a2 (by omega) (by omega))
        · exact (fun i c hi hc => wordsC1_at arg1 arg5 arg10 X1 X5 t2 t3 g i c hi hc)
  · simp only [add_zero, zero_add]

/-- The rows of an accumulator that hold results: address A, row r. -/
def Row (A r : ℕ) : Prop := (A = 0 ∧ r < 8) ∨ (A = 4 ∧ r < 8) ∨ (A = 8 ∧ r < 4)

theorem grp_sum (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips) (t3 : Fin k0_t3_loop.trips) (g : Fin 4)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (q : Fin 2) (A r c : ℕ) (hA : Row A r) (hc : c < 256) :
    ((grp arg1 arg5 arg10 arg14 arg15 arg16 X1 X5 X14 X15 X16 m t2 t3 g).map (Feed.add q (4 * A + r) c)).sum = ∑ i ∈ Finset.range 128, term x S Z (wF arg1 arg5 X1 X5) q.val t2.val (A + r / 2) (r % 2) c (512 * t3.val + 128 * g.val + i) := by
  have hq : q = 0 ∨ q = 1 := by revert q; decide
  rcases hq with rfl | rfl <;> rcases hA with ⟨rfl, hr⟩ | ⟨rfl, hr⟩ | ⟨rfl, hr⟩
  · exact grp0_0 arg1 arg5 arg10 arg14 arg15 arg16 X1 X5 X14 X15 X16 m t2 t3 g x S Z hm h14 h15 h16 r c hr hc
  · exact grp4_0 arg1 arg5 arg10 arg14 arg15 arg16 X1 X5 X14 X15 X16 m t2 t3 g x S Z hm h14 h15 h16 r c hr hc
  · exact grp8_0 arg1 arg5 arg10 arg14 arg15 arg16 X1 X5 X14 X15 X16 m t2 t3 g x S Z hm h14 h15 h16 r c hr hc
  · exact grp0_1 arg1 arg5 arg10 arg14 arg15 arg16 X1 X5 X14 X15 X16 m t2 t3 g x S Z hm h14 h15 h16 r c hr hc
  · exact grp4_1 arg1 arg5 arg10 arg14 arg15 arg16 X1 X5 X14 X15 X16 m t2 t3 g x S Z hm h14 h15 h16 r c hr hc
  · exact grp8_1 arg1 arg5 arg10 arg14 arg15 arg16 X1 X5 X14 X15 X16 m t2 t3 g x S Z hm h14 h15 h16 r c hr hc

theorem step_sum (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (t3 : Fin k0_t3_loop.trips) (q : Fin 2) (A r c : ℕ) (hA : Row A r) (hc : c < 256) :
    ((feeds (F := Ideal) arg1 arg5 arg10 arg14 arg15 arg16 X1 X5 X14 X15 X16 m t2 t3).map (Feed.add q (4 * A + r) c)).sum = ∑ i ∈ Finset.range 512, term x S Z (wF arg1 arg5 X1 X5) q.val t2.val (A + r / 2) (r % 2) c (512 * t3.val + i) := by
  rw [feeds_eq, List.map_append, List.map_append, List.map_append, List.sum_append, List.sum_append, List.sum_append]
  rw [grp_sum arg1 arg5 arg10 arg14 arg15 arg16 X1 X5 X14 X15 X16 m t2 t3 0 x S Z hm h14 h15 h16 q A r c hA hc, grp_sum arg1 arg5 arg10 arg14 arg15 arg16 X1 X5 X14 X15 X16 m t2 t3 1 x S Z hm h14 h15 h16 q A r c hA hc,
    grp_sum arg1 arg5 arg10 arg14 arg15 arg16 X1 X5 X14 X15 X16 m t2 t3 2 x S Z hm h14 h15 h16 q A r c hA hc, grp_sum arg1 arg5 arg10 arg14 arg15 arg16 X1 X5 X14 X15 X16 m t2 t3 3 x S Z hm h14 h15 h16 q A r c hA hc]
  generalize (term x S Z (wF arg1 arg5 X1 X5) q.val t2.val (A + r / 2) (r % 2) c) = T
  have key := sum_blocks (fun d => T (512 * t3.val + d)) 128 4
  refine Eq.trans ?_ key
  refine Eq.trans ?_ (Finset.sum_range_succ _ 3).symm
  refine congrArg₂ (· + ·) (Eq.trans ?_ (Finset.sum_range_succ _ 2).symm) (Finset.sum_congr rfl fun i _ => congrArg T (Nat.add_assoc _ _ _))
  refine congrArg₂ (· + ·) (Eq.trans ?_ (Finset.sum_range_succ _ 1).symm) (Finset.sum_congr rfl fun i _ => congrArg T (Nat.add_assoc _ _ _))
  refine congrArg₂ (· + ·) (Eq.trans ?_ (Finset.sum_range_one _).symm) (Finset.sum_congr rfl fun i _ => congrArg T (Nat.add_assoc _ _ _))
  exact Finset.sum_congr rfl fun i _ => congrArg T (Nat.add_assoc _ _ _)

theorem mx3_acc (dev : Dev nD) (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (u : Mxu Ideal) (hu : u.reg = fun _ _ => none) (q : Fin 2) (R : Fin 1024) (C : Fin 256) (A r : ℕ) (hA : Row A r) (hR : R.val = 4 * A + r) :
    ∀ k, k ≤ 5 → (mx3 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 m t2 u k).acc q R C
      = (u.acc q R C + ∑ a ∈ Finset.range k, ∑ i ∈ Finset.range 512, term x S Z (wF arg1 arg5 X1 X5) q.val t2.val (A + r / 2) (r % 2) C.val (512 * a + i) : EReal)
  | 0, _ => (add_zero (u.acc q R C : EReal)).symm
  | k + 1, hk => by
    have h3 : k < k0_t3_loop.trips := (show k < 5 by omega)
    conv_lhs => unfold mx3
    rw [dif_pos h3, mxAfter_eq, Feed.goes_acc _ q R C _ rfl, hR,
      step_sum arg1 arg5 arg10 arg14 arg15 arg16 X1 X5 X14 X15 X16 m t2 x S Z hm h14 h15 h16 ⟨k, h3⟩ q A r C.val hA C.isLt]
    have ih := mx3_acc dev X1 X5 X14 X15 X16 m t2 x S Z hm h14 h15 h16 u hu q R C A r hA hR k (by omega)
    refine Eq.trans (congrArg (fun z : EReal => z + _) ih) ?_
    exact (add_assoc _ _ _).trans (congrArg (fun z : EReal => (u.acc q R C + z : EReal)) (Finset.sum_range_succ _ k).symm)

/-- What a row of a unit holds when the block is done: one field's base product. -/
theorem block_acc (dev : Dev nD) (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (m : IVec S8x256 1) (t2 : Fin k0_t2_loop.trips)
    (x : ℕ → ℕ → EReal) (S Z : ℕ → ℕ → ℕ → EReal) (hm : EvenMask m)
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val) (u : Mxu Ideal) (hu : u.reg = fun _ _ => none) (hl : ∀ q R, u.live q R = false) (q : Fin 2) (R : Fin 1024) (C : Fin 256) (A r : ℕ) (hA : Row A r) (hR : R.val = 4 * A + r) :
    (mx3 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 m t2 u k0_t3_loop.trips).acc q R C
      = (∑ d ∈ Finset.range 2560, term x S Z (wF arg1 arg5 X1 X5) q.val t2.val (A + r / 2) (r % 2) C.val d : EReal) := by
  refine (mx3_acc arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 m t2 x S Z hm h14 h15 h16 u hu q R C A r hA hR 5 (le_refl _)).trans ?_
  have hz : u.acc q R C = (0 : EReal) := (u.clean q R C (hl q R)).trans Ideal.ofBits_zero_f32
  rw [hz, zero_add]
  exact sum_blocks _ 512 5

end Cert.KernelIdeal

end
-- ==== Proof.KernelIdeal.Scale.lean ====
/-
  Scaling the matrix units' sums back, and the factors that do it.
-/
module

public import proofs.«01_k».proof.Proof.KernelIdeal.Sums
public import proofs.«01_k».proof.Proof.KernelIdeal.Body

@[expose] public section

set_option maxRecDepth 16384

noncomputable section

namespace Cert.KernelIdeal

open Gen Cert.Value
open Idealize.ShloMosaic Idealize.ShloMosaic.TcCoe Idealize.ShloMosaic.Tactic

/-- One over a power of two. -/
def inv (o : ℕ) : EReal := (((2 ^ o : ℝ)⁻¹ : ℝ) : EReal)

theorem two_inv (o : ℕ) : two o * inv o = 1 := by
  unfold two inv
  rw [← EReal.coe_mul, mul_inv_cancel₀ (by positivity)]; rfl

theorem two_sum (o n : ℕ) (u : ℕ → EReal) : ∑ d ∈ Finset.range n, two o * u d = two o * ∑ d ∈ Finset.range n, u d := by
  induction n with
  | zero => simp
  | succ n ih =>
    refine (Finset.sum_range_succ _ n).trans ?_
    rw [ih]
    refine ((congrArg (two o * ·) (Finset.sum_range_succ u n)).trans ?_).symm
    exact EReal.left_distrib_of_nonneg_of_ne_top (EReal.coe_nonneg.mpr (by positivity)) (EReal.coe_ne_top _) _ _

theorem scaled_back (o n : ℕ) (u : ℕ → EReal) : (∑ d ∈ Finset.range n, two o * u d) * inv o = ∑ d ∈ Finset.range n, u d := by
  rw [two_sum, mul_comm, ← mul_assoc, mul_comm (inv o), two_inv, one_mul]

/-- The product of a row of x with a column of the weights. -/
def baseV (x : ℕ → ℕ → EReal) (S Z : ℕ → ℕ → ℕ → EReal) (W : ℕ → ℕ → ℕ → BitVec 32) (w br n : ℕ) : EReal :=
  ∑ d ∈ Finset.range 2560, x br d * ((cd (n / 1024) (W w d (n % 1024)) - Z w (d / 128) n) * S w (d / 128) n)

theorem rowField_lt (f : ℕ) : rowField f < 10 := by
  unfold rowField
  rcases (by omega : f = 0 ∨ f = 1 ∨ f = 2 ∨ f = 3 ∨ f = 4 ∨ f = 5 ∨ f = 6 ∨ f = 7 ∨ f = 8 ∨ f = 9 ∨ 10 ≤ f) with h | h | h | h | h | h | h | h | h | h | h
  all_goals first | (subst h; decide) | skip
  obtain ⟨g, rfl⟩ : ∃ g, f = g + 10 := ⟨f - 10, by omega⟩
  exact (show (0 : ℕ) < 10 by decide)

theorem base_scale (x : ℕ → ℕ → EReal) (S Z : ℕ → ℕ → ℕ → EReal) (W : ℕ → ℕ → ℕ → BitVec 32) (hZ : ∀ w g n, ∃ z : ℝ, Z w g n = (z : EReal))
    (w jt f br c : ℕ) (hjt : jt < 4) (hc : c < 256) :
    (∑ d ∈ Finset.range 2560, term x S Z W w jt f br c d) * inv (rowOff f) = baseV x S Z W w br (rowField f * 1024 + 256 * jt + c) := by
  have e : ∀ d, term x S Z W w jt f br c d = two (rowOff f) * (x br d * ((cd ((rowField f * 1024 + 256 * jt + c) / 1024) (W w d ((rowField f * 1024 + 256 * jt + c) % 1024)) - Z w (d / 128) (rowField f * 1024 + 256 * jt + c)) * S w (d / 128) (rowField f * 1024 + 256 * jt + c))) := by
    intro d
    rw [show (rowField f * 1024 + 256 * jt + c) / 1024 = rowField f by omega, show (rowField f * 1024 + 256 * jt + c) % 1024 = 256 * jt + c by omega]
    unfold term
    obtain ⟨z, hz⟩ := hZ w (d / 128) (rowField f * 1024 + 256 * jt + c)
    rw [hz]
    generalize S w (d / 128) (rowField f * 1024 + 256 * jt + c) = s
    generalize x br d = a
    unfold cd two
    generalize ((fld (rowField f) (W w d (256 * jt + c))).toNat : ℝ) = k
    generalize (2 ^ rowOff f : ℝ) = t
    have h : ((k : EReal) * (t : EReal) - (z : EReal) * (t : EReal)) = (t : EReal) * ((k : EReal) - (z : EReal)) := by
      rw [← EReal.coe_mul, ← EReal.coe_mul, ← EReal.coe_sub, ← EReal.coe_sub, ← EReal.coe_mul]
      congr 1; ring
    rw [h, mul_assoc, ← mul_assoc a, mul_comm a, mul_assoc]
  refine (congrArg (· * inv (rowOff f)) (Finset.sum_congr rfl fun d _ => e d)).trans ?_
  exact scaled_back _ _ _

/-! ## The factors and the mask, row by row -/

theorem ofBits_inv0 : Ideal.ofBits .f32 1065353216#32 = inv 0 := by
  simp [inv, Ideal.ofBits, Ideal.ieee, -EReal.coe_mul]; norm_num
theorem ofBits_inv1 : Ideal.ofBits .f32 1056964608#32 = inv 1 := by
  simp [inv, Ideal.ofBits, Ideal.ieee, -EReal.coe_mul]; norm_num
theorem ofBits_inv2 : Ideal.ofBits .f32 1048576000#32 = inv 2 := by
  simp [inv, Ideal.ofBits, Ideal.ieee, -EReal.coe_mul, -EReal.coe_pow]; norm_num
theorem ofBits_inv3 : Ideal.ofBits .f32 1040187392#32 = inv 3 := by
  simp [inv, Ideal.ofBits, Ideal.ieee, -EReal.coe_mul, -EReal.coe_pow]; norm_num
theorem ofBits_inv4 : Ideal.ofBits .f32 1031798784#32 = inv 4 := by
  simp [inv, Ideal.ofBits, Ideal.ieee, -EReal.coe_mul, -EReal.coe_pow]; norm_num

/-- A statement of every index of eight rows holds if it holds on every row. -/
theorem rows8 (P : S8x256.Idx → Prop) (h : ∀ (r : Fin 8) (c : Fin 256), P (ValueIdx.ix2 r c)) (y : S8x256.Idx) : P y :=
  (ValueIdx.eq_ix2 y) ▸ h (y 0) (y 1)

theorem mask_even : EvenMask body.sl.r_121 := by
  unfold EvenMask
  refine rows8 _ fun r c => ?_
  refine (show body.sl.r_121 (ValueIdx.ix2 r c) = body.sl.r_121 (ValueIdx.ix2 r (0 : Fin 256)) from rfl).trans ?_
  have key : ∀ r : Fin 8, body.sl.r_121 (ValueIdx.ix2 r (0 : Fin 256)) = if r.val % 2 = 0 then 1#1 else 0#1 := by decide +kernel
  exact key r

theorem facA (y : S8x256.Idx) : (body.sl.r_123 (F := Ideal) y : EReal) = inv (rowOff ((y 0).val / 2)) := by
  revert y
  refine rows8 _ fun r c => ?_
  match r with
  | 0 => exact ((show (body.sl.r_123 (F := Ideal) (ValueIdx.ix2 (0 : Fin 8) c) : EReal) = (body.sl.r_123 (F := Ideal) (ValueIdx.ix2 (0 : Fin 8) (0 : Fin 256)) : EReal) from rfl).trans ((show (body.sl.r_123 (F := Ideal) (ValueIdx.ix2 (0 : Fin 8) (0 : Fin 256)) : EReal) = Ideal.ofBits .f32 1065353216#32 by cbv).trans ofBits_inv0)).trans (congrArg inv (show 0 = rowOff ((0 : Fin 8).val / 2) by decide))
  | 1 => exact ((show (body.sl.r_123 (F := Ideal) (ValueIdx.ix2 (1 : Fin 8) c) : EReal) = (body.sl.r_123 (F := Ideal) (ValueIdx.ix2 (1 : Fin 8) (0 : Fin 256)) : EReal) from rfl).trans ((show (body.sl.r_123 (F := Ideal) (ValueIdx.ix2 (1 : Fin 8) (0 : Fin 256)) : EReal) = Ideal.ofBits .f32 1065353216#32 by cbv).trans ofBits_inv0)).trans (congrArg inv (show 0 = rowOff ((1 : Fin 8).val / 2) by decide))
  | 2 => exact ((show (body.sl.r_123 (F := Ideal) (ValueIdx.ix2 (2 : Fin 8) c) : EReal) = (body.sl.r_123 (F := Ideal) (ValueIdx.ix2 (2 : Fin 8) (0 : Fin 256)) : EReal) from rfl).trans ((show (body.sl.r_123 (F := Ideal) (ValueIdx.ix2 (2 : Fin 8) (0 : Fin 256)) : EReal) = Ideal.ofBits .f32 1056964608#32 by cbv).trans ofBits_inv1)).trans (congrArg inv (show 1 = rowOff ((2 : Fin 8).val / 2) by decide))
  | 3 => exact ((show (body.sl.r_123 (F := Ideal) (ValueIdx.ix2 (3 : Fin 8) c) : EReal) = (body.sl.r_123 (F := Ideal) (ValueIdx.ix2 (3 : Fin 8) (0 : Fin 256)) : EReal) from rfl).trans ((show (body.sl.r_123 (F := Ideal) (ValueIdx.ix2 (3 : Fin 8) (0 : Fin 256)) : EReal) = Ideal.ofBits .f32 1056964608#32 by cbv).trans ofBits_inv1)).trans (congrArg inv (show 1 = rowOff ((3 : Fin 8).val / 2) by decide))
  | 4 => exact ((show (body.sl.r_123 (F := Ideal) (ValueIdx.ix2 (4 : Fin 8) c) : EReal) = (body.sl.r_123 (F := Ideal) (ValueIdx.ix2 (4 : Fin 8) (0 : Fin 256)) : EReal) from rfl).trans ((show (body.sl.r_123 (F := Ideal) (ValueIdx.ix2 (4 : Fin 8) (0 : Fin 256)) : EReal) = Ideal.ofBits .f32 1048576000#32 by cbv).trans ofBits_inv2)).trans (congrArg inv (show 2 = rowOff ((4 : Fin 8).val / 2) by decide))
  | 5 => exact ((show (body.sl.r_123 (F := Ideal) (ValueIdx.ix2 (5 : Fin 8) c) : EReal) = (body.sl.r_123 (F := Ideal) (ValueIdx.ix2 (5 : Fin 8) (0 : Fin 256)) : EReal) from rfl).trans ((show (body.sl.r_123 (F := Ideal) (ValueIdx.ix2 (5 : Fin 8) (0 : Fin 256)) : EReal) = Ideal.ofBits .f32 1048576000#32 by cbv).trans ofBits_inv2)).trans (congrArg inv (show 2 = rowOff ((5 : Fin 8).val / 2) by decide))
  | 6 => exact ((show (body.sl.r_123 (F := Ideal) (ValueIdx.ix2 (6 : Fin 8) c) : EReal) = (body.sl.r_123 (F := Ideal) (ValueIdx.ix2 (6 : Fin 8) (0 : Fin 256)) : EReal) from rfl).trans ((show (body.sl.r_123 (F := Ideal) (ValueIdx.ix2 (6 : Fin 8) (0 : Fin 256)) : EReal) = Ideal.ofBits .f32 1065353216#32 by cbv).trans ofBits_inv0)).trans (congrArg inv (show 0 = rowOff ((6 : Fin 8).val / 2) by decide))
  | 7 => exact ((show (body.sl.r_123 (F := Ideal) (ValueIdx.ix2 (7 : Fin 8) c) : EReal) = (body.sl.r_123 (F := Ideal) (ValueIdx.ix2 (7 : Fin 8) (0 : Fin 256)) : EReal) from rfl).trans ((show (body.sl.r_123 (F := Ideal) (ValueIdx.ix2 (7 : Fin 8) (0 : Fin 256)) : EReal) = Ideal.ofBits .f32 1065353216#32 by cbv).trans ofBits_inv0)).trans (congrArg inv (show 0 = rowOff ((7 : Fin 8).val / 2) by decide))

theorem facB (y : S8x256.Idx) : (body.sl.r_126 (F := Ideal) y : EReal) = inv (rowOff (4 + (y 0).val / 2)) := by
  revert y
  refine rows8 _ fun r c => ?_
  match r with
  | 0 => exact ((show (body.sl.r_126 (F := Ideal) (ValueIdx.ix2 (0 : Fin 8) c) : EReal) = (body.sl.r_126 (F := Ideal) (ValueIdx.ix2 (0 : Fin 8) (0 : Fin 256)) : EReal) from rfl).trans ((show (body.sl.r_126 (F := Ideal) (ValueIdx.ix2 (0 : Fin 8) (0 : Fin 256)) : EReal) = Ideal.ofBits .f32 1040187392#32 by cbv).trans ofBits_inv3)).trans (congrArg inv (show 3 = rowOff (4 + (0 : Fin 8).val / 2) by decide))
  | 1 => exact ((show (body.sl.r_126 (F := Ideal) (ValueIdx.ix2 (1 : Fin 8) c) : EReal) = (body.sl.r_126 (F := Ideal) (ValueIdx.ix2 (1 : Fin 8) (0 : Fin 256)) : EReal) from rfl).trans ((show (body.sl.r_126 (F := Ideal) (ValueIdx.ix2 (1 : Fin 8) (0 : Fin 256)) : EReal) = Ideal.ofBits .f32 1040187392#32 by cbv).trans ofBits_inv3)).trans (congrArg inv (show 3 = rowOff (4 + (1 : Fin 8).val / 2) by decide))
  | 2 => exact ((show (body.sl.r_126 (F := Ideal) (ValueIdx.ix2 (2 : Fin 8) c) : EReal) = (body.sl.r_126 (F := Ideal) (ValueIdx.ix2 (2 : Fin 8) (0 : Fin 256)) : EReal) from rfl).trans ((show (body.sl.r_126 (F := Ideal) (ValueIdx.ix2 (2 : Fin 8) (0 : Fin 256)) : EReal) = Ideal.ofBits .f32 1031798784#32 by cbv).trans ofBits_inv4)).trans (congrArg inv (show 4 = rowOff (4 + (2 : Fin 8).val / 2) by decide))
  | 3 => exact ((show (body.sl.r_126 (F := Ideal) (ValueIdx.ix2 (3 : Fin 8) c) : EReal) = (body.sl.r_126 (F := Ideal) (ValueIdx.ix2 (3 : Fin 8) (0 : Fin 256)) : EReal) from rfl).trans ((show (body.sl.r_126 (F := Ideal) (ValueIdx.ix2 (3 : Fin 8) (0 : Fin 256)) : EReal) = Ideal.ofBits .f32 1031798784#32 by cbv).trans ofBits_inv4)).trans (congrArg inv (show 4 = rowOff (4 + (3 : Fin 8).val / 2) by decide))
  | 4 => exact ((show (body.sl.r_126 (F := Ideal) (ValueIdx.ix2 (4 : Fin 8) c) : EReal) = (body.sl.r_126 (F := Ideal) (ValueIdx.ix2 (4 : Fin 8) (0 : Fin 256)) : EReal) from rfl).trans ((show (body.sl.r_126 (F := Ideal) (ValueIdx.ix2 (4 : Fin 8) (0 : Fin 256)) : EReal) = Ideal.ofBits .f32 1048576000#32 by cbv).trans ofBits_inv2)).trans (congrArg inv (show 2 = rowOff (4 + (4 : Fin 8).val / 2) by decide))
  | 5 => exact ((show (body.sl.r_126 (F := Ideal) (ValueIdx.ix2 (5 : Fin 8) c) : EReal) = (body.sl.r_126 (F := Ideal) (ValueIdx.ix2 (5 : Fin 8) (0 : Fin 256)) : EReal) from rfl).trans ((show (body.sl.r_126 (F := Ideal) (ValueIdx.ix2 (5 : Fin 8) (0 : Fin 256)) : EReal) = Ideal.ofBits .f32 1048576000#32 by cbv).trans ofBits_inv2)).trans (congrArg inv (show 2 = rowOff (4 + (5 : Fin 8).val / 2) by decide))
  | 6 => exact ((show (body.sl.r_126 (F := Ideal) (ValueIdx.ix2 (6 : Fin 8) c) : EReal) = (body.sl.r_126 (F := Ideal) (ValueIdx.ix2 (6 : Fin 8) (0 : Fin 256)) : EReal) from rfl).trans ((show (body.sl.r_126 (F := Ideal) (ValueIdx.ix2 (6 : Fin 8) (0 : Fin 256)) : EReal) = Ideal.ofBits .f32 1065353216#32 by cbv).trans ofBits_inv0)).trans (congrArg inv (show 0 = rowOff (4 + (6 : Fin 8).val / 2) by decide))
  | 7 => exact ((show (body.sl.r_126 (F := Ideal) (ValueIdx.ix2 (7 : Fin 8) c) : EReal) = (body.sl.r_126 (F := Ideal) (ValueIdx.ix2 (7 : Fin 8) (0 : Fin 256)) : EReal) from rfl).trans ((show (body.sl.r_126 (F := Ideal) (ValueIdx.ix2 (7 : Fin 8) (0 : Fin 256)) : EReal) = Ideal.ofBits .f32 1065353216#32 by cbv).trans ofBits_inv0)).trans (congrArg inv (show 0 = rowOff (4 + (7 : Fin 8).val / 2) by decide))

/-- The factors of the last four rows. -/
def lastFac : FVec Ideal S8x256 .f32 := k0_pay1 body.sl.v10085_r0 body.sl.r_127 2#32 (k0_pay1024 body.sl.v10085_r0) (k0_pay1026 body.sl.v10085_r0 (k0_pay1025 body.sl.v10085_r0)) 1#32 0#32

theorem facC (y : S8x256.Idx) (h : (y 0).val < 4) : (lastFac y : EReal) = inv (rowOff (8 + (y 0).val / 2)) := by
  revert y
  refine rows8 _ fun r c h => ?_
  match r, h with
  | 0, _ => exact ((show (lastFac (ValueIdx.ix2 (0 : Fin 8) c) : EReal) = (lastFac (ValueIdx.ix2 (0 : Fin 8) (0 : Fin 256)) : EReal) from rfl).trans ((show (lastFac (ValueIdx.ix2 (0 : Fin 8) (0 : Fin 256)) : EReal) = Ideal.ofBits .f32 1040187392#32 by cbv).trans ofBits_inv3)).trans (congrArg inv (show 3 = rowOff (8 + (0 : Fin 8).val / 2) by decide))
  | 1, _ => exact ((show (lastFac (ValueIdx.ix2 (1 : Fin 8) c) : EReal) = (lastFac (ValueIdx.ix2 (1 : Fin 8) (0 : Fin 256)) : EReal) from rfl).trans ((show (lastFac (ValueIdx.ix2 (1 : Fin 8) (0 : Fin 256)) : EReal) = Ideal.ofBits .f32 1040187392#32 by cbv).trans ofBits_inv3)).trans (congrArg inv (show 3 = rowOff (8 + (1 : Fin 8).val / 2) by decide))
  | 2, _ => exact ((show (lastFac (ValueIdx.ix2 (2 : Fin 8) c) : EReal) = (lastFac (ValueIdx.ix2 (2 : Fin 8) (0 : Fin 256)) : EReal) from rfl).trans ((show (lastFac (ValueIdx.ix2 (2 : Fin 8) (0 : Fin 256)) : EReal) = Ideal.ofBits .f32 1031798784#32 by cbv).trans ofBits_inv4)).trans (congrArg inv (show 4 = rowOff (8 + (2 : Fin 8).val / 2) by decide))
  | 3, _ => exact ((show (lastFac (ValueIdx.ix2 (3 : Fin 8) c) : EReal) = (lastFac (ValueIdx.ix2 (3 : Fin 8) (0 : Fin 256)) : EReal) from rfl).trans ((show (lastFac (ValueIdx.ix2 (3 : Fin 8) (0 : Fin 256)) : EReal) = Ideal.ofBits .f32 1031798784#32 by cbv).trans ofBits_inv4)).trans (congrArg inv (show 4 = rowOff (8 + (3 : Fin 8).val / 2) by decide))
  | 4, h => exact absurd (show (4 : Fin 8).val < 4 from h) (by decide)
  | 5, h => exact absurd (show (5 : Fin 8).val < 4 from h) (by decide)
  | 6, h => exact absurd (show (6 : Fin 8).val < 4 from h) (by decide)
  | 7, h => exact absurd (show (7 : Fin 8).val < 4 from h) (by decide)

end Cert.KernelIdeal

end
-- ==== Proof.KernelIdeal.Cells.lean ====
/-
  What one trip of the outer loop writes to the result's rows.
-/
module

public import proofs.«01_k».proof.Proof.KernelIdeal.Scale

@[expose] public section

set_option maxRecDepth 16384

noncomputable section

namespace Cert.KernelIdeal

open Gen Cert.Value
open Idealize.ShloMosaic Idealize.ShloMosaic.TcCoe Idealize.ShloMosaic.Tactic

/-- The gated product of two numbers. -/
def sil (g u : EReal) : EReal := (g * Ideal.logistic g) * u

/-- The result's entry: the two products with their residual products added, gated. -/
def outV (x : ℕ → ℕ → EReal) (S Z : ℕ → ℕ → ℕ → EReal) (W : ℕ → ℕ → ℕ → BitVec 32) (R : ℕ → ℕ → ℕ → EReal) (b n : ℕ) : EReal :=
  sil (baseV x S Z W 0 b n + R 0 b n) (baseV x S Z W 1 b n + R 1 b n)

theorem cut_at {a : ℕ} [NeZero a] (v : (⟨2, ![a, 256]⟩ : Shape).Idx → EReal) (o : ℕ) (h : (⟨2, ![a, 256]⟩ : Shape).Slices ![o, 0] S2x256) (hc : S2x256.ShapeCasts S2x256) (x : S2x256.Idx) :
    shapeCast S2x256 (extractStridedSlice S2x256 ![o, 0] v h) hc x = at2 v (o + (x 0).val) (x 1).val := by
  refine (shapeCast_apply _ hc x x rfl).trans ?_
  refine at2_of v _ rfl ?_
  exact Nat.zero_add _

theorem top_at {a b : ℕ} [NeZero a] [NeZero b] (v : (⟨2, ![a, 256]⟩ : Shape).Idx → EReal) (h : (⟨2, ![a, 256]⟩ : Shape).Slices ![0, 0] (⟨2, ![b, 256]⟩ : Shape)) (i c : ℕ) (hi : i < b) (hc : c < 256) :
    extractStridedSlice (⟨2, ![b, 256]⟩ : Shape) ![0, 0] v h (ValueIdx.ix2 (Fin.ofNat b i) (Fin.ofNat 256 c)) = at2 v i c := by
  refine at2_of v _ ?_ ?_
  · show 0 + i % b = i
    rw [Nat.mod_eq_of_lt hi, Nat.zero_add]
  · show 0 + c % 256 = c
    omega

theorem res_at {b : ℕ} [NeZero b] (v : (⟨4, ![1, 1, b, 256]⟩ : Shape).Idx → EReal) (h : (⟨4, ![1, 1, b, 256]⟩ : Shape).ShapeCasts (⟨2, ![b, 256]⟩ : Shape)) (i c : ℕ) (hi : i < b) (hc : c < 256) :
    shapeCast (⟨2, ![b, 256]⟩ : Shape) v h (ValueIdx.ix2 (Fin.ofNat b i) (Fin.ofNat 256 c)) = at4 v 0 0 i c := by
  refine (cast_drop2 (a := b) (b := 256) v h _).trans ?_
  show at4 v 0 0 (i % b) (c % 256) = _
  rw [Nat.mod_eq_of_lt hi, Nat.mod_eq_of_lt hc]

theorem pay204_at (fa : FVec Ideal S8x256 .f32) (a0 : FVec Ideal S16x256 .f32) (r0 : Vec Ideal S1x1x8x256 .f32) (a1 : FVec Ideal S16x256 .f32) (r1 : Vec Ideal S1x1x8x256 .f32) (i c : ℕ) (hi : i < 8) (hc : c < 256) :
    at2 (k0_pay204 fa a0 r0 a1 r1 : S8x256.Idx → EReal) i c
      = sil (at2 (a0 : S16x256.Idx → EReal) i c * at2 (fa : S8x256.Idx → EReal) i c + at4 (r0 : S1x1x8x256.Idx → EReal) 0 0 i c)
          (at2 (a1 : S16x256.Idx → EReal) i c * at2 (fa : S8x256.Idx → EReal) i c + at4 (r1 : S1x1x8x256.Idx → EReal) 0 0 i c) := by
  rw [← top_at (a := 16) (b := 8) (a0 : S16x256.Idx → EReal) slices_S16x256_o0_0_S8x256 i c hi hc, ← top_at (a := 16) (b := 8) (a1 : S16x256.Idx → EReal) slices_S16x256_o0_0_S8x256 i c hi hc,
    ← res_at (b := 8) (r0 : S1x1x8x256.Idx → EReal) shapeCasts_S1x1x8x256_S8x256 i c hi hc, ← res_at (b := 8) (r1 : S1x1x8x256.Idx → EReal) shapeCasts_S1x1x8x256_S8x256 i c hi hc]
  rfl

theorem pay209_at (fa : FVec Ideal S8x256 .f32) (a0 : FVec Ideal S16x256 .f32) (r0 : Vec Ideal S1x1x8x256 .f32) (a1 : FVec Ideal S16x256 .f32) (r1 : Vec Ideal S1x1x8x256 .f32) (i c : ℕ) (hi : i < 8) (hc : c < 256) :
    at2 (k0_pay209 fa a0 r0 a1 r1 : S8x256.Idx → EReal) i c
      = sil (at2 (a0 : S16x256.Idx → EReal) i c * at2 (fa : S8x256.Idx → EReal) i c + at4 (r0 : S1x1x8x256.Idx → EReal) 0 0 i c)
          (at2 (a1 : S16x256.Idx → EReal) i c * at2 (fa : S8x256.Idx → EReal) i c + at4 (r1 : S1x1x8x256.Idx → EReal) 0 0 i c) := by
  rw [← top_at (a := 16) (b := 8) (a0 : S16x256.Idx → EReal) slices_S16x256_o0_0_S8x256 i c hi hc, ← top_at (a := 16) (b := 8) (a1 : S16x256.Idx → EReal) slices_S16x256_o0_0_S8x256 i c hi hc,
    ← res_at (b := 8) (r0 : S1x1x8x256.Idx → EReal) shapeCasts_S1x1x8x256_S8x256 i c hi hc, ← res_at (b := 8) (r1 : S1x1x8x256.Idx → EReal) shapeCasts_S1x1x8x256_S8x256 i c hi hc]
  rfl

theorem pay2_at (fa : FVec Ideal S8x256 .f32) (a0 : FVec Ideal S16x256 .f32) (r0 : Vec Ideal S1x1x4x256 .f32) (a1 : FVec Ideal S16x256 .f32) (r1 : Vec Ideal S1x1x4x256 .f32) (i c : ℕ) (hi : i < 4) (hc : c < 256) :
    at2 (k0_pay2 (k0_pay215 fa a0 r0) (k0_pay216 fa a1) r1 : S4x256.Idx → EReal) i c
      = sil (at2 (a0 : S16x256.Idx → EReal) i c * at2 (fa : S8x256.Idx → EReal) i c + at4 (r0 : S1x1x4x256.Idx → EReal) 0 0 i c)
          (at2 (a1 : S16x256.Idx → EReal) i c * at2 (fa : S8x256.Idx → EReal) i c + at4 (r1 : S1x1x4x256.Idx → EReal) 0 0 i c) := by
  rw [← top_at (a := 16) (b := 4) (a0 : S16x256.Idx → EReal) slices_S16x256_o0_0_S4x256 i c hi hc, ← top_at (a := 16) (b := 4) (a1 : S16x256.Idx → EReal) slices_S16x256_o0_0_S4x256 i c hi hc, ← top_at (a := 8) (b := 4) (fa : S8x256.Idx → EReal) slices_S8x256_o0_0_S4x256 i c hi hc,
    ← res_at (b := 4) (r0 : S1x1x4x256.Idx → EReal) shapeCasts_S1x1x4x256_S4x256 i c hi hc, ← res_at (b := 4) (r1 : S1x1x4x256.Idx → EReal) shapeCasts_S1x1x4x256_S4x256 i c hi hc]
  rfl

theorem pop_read (u : Mxu Ideal) (q q' : Fin 2) (A B : ℕ) (hA : Mxu.Fits A 16) (hB : Mxu.Fits B 16) (h : q' ≠ q ∨ A + 4 ≤ B ∨ B + 4 ≤ A) : (u.pop q A 16 hA).read q' B hB = u.read q' B hB := by
  funext i
  unfold Mxu.read Mxu.pop
  dsimp only
  refine if_neg ?_
  rintro ⟨h1, h2, h3⟩
  have hi : (i 0).val < 16 := (i 0).isLt
  have e : (Mxu.row hB (i 0)).val = 4 * B + (i 0).val := rfl
  rw [e] at h2 h3
  rcases h with h | h | h
  · exact h h1
  · omega
  · omega

theorem read_at2 (u : Mxu Ideal) (q : Fin 2) (A : ℕ) (hA : Mxu.Fits A 16) (i c : ℕ) (hi : i < 16) (hc : c < 256) (v : EReal)
    (h : ∀ (R : Fin 1024) (C : Fin 256), R.val = 4 * A + i → C.val = c → (u.acc q R C : EReal) = v) : at2 (u.read q A hA : S16x256.Idx → EReal) i c = v := by
  refine h (Mxu.row hA (Fin.ofNat 16 i)) (Fin.ofNat 256 c) ?_ ?_
  · show 4 * A + i % 16 = _
    omega
  · show c % 256 = c
    omega

theorem cell (x : ℕ → ℕ → EReal) (S Z : ℕ → ℕ → ℕ → EReal) (W : ℕ → ℕ → ℕ → BitVec 32) (hZ : ∀ w g n, ∃ z : ℝ, Z w g n = (z : EReal))
    (w jt f br i c : ℕ) (hjt : jt < 4) (hc : c < 256) (a : FVec Ideal S16x256 .f32) (fa : FVec Ideal S8x256 .f32)
    (ha : at2 (a : S16x256.Idx → EReal) i c = ∑ d ∈ Finset.range 2560, term x S Z W w jt f br c d) (hf : at2 (fa : S8x256.Idx → EReal) i c = inv (rowOff f)) :
    at2 (a : S16x256.Idx → EReal) i c * at2 (fa : S8x256.Idx → EReal) i c = baseV x S Z W w br (rowField f * 1024 + 256 * jt + c) := by
  rw [ha, hf]; exact base_scale x S Z W hZ w jt f br c hjt hc

variable (arg18 : Memref sig .tc .vmem S2x4x20x256 .f32)

theorem resid_at (X18 : BufTy.Contents (Elt Ideal) arg18.view.ty) (R : ℕ → ℕ → ℕ → EReal) (h18 : ∀ y : S2x4x20x256.Idx, arg18.view.read (Elt Ideal) X18 y = residF R y)
    {n : ℕ} [NeZero n] {off : Fin 4 → ℕ} (inb : ∀ a, off a + (![1, 1, n, 256] : Fin 4 → ℕ) a ≤ S2x4x20x256.size a) (w jt o : ℕ) (e : off = ![w, jt, o, 0]) (i c : ℕ) (hw : w < 2) (hjt : jt < 4) (ho : o + i < 20) (hi : i < n) (hc : c < 256)
    (f : ℕ) (hf : (o + i) / 2 = f) (br : ℕ) (hb : (o + i) % 2 = br) :
    at4 (View.readAt (Elt Ideal) arg18.view (Rect.unit (s := S2x4x20x256) off ![1, 1, n, 256] inb).toLoadRect X18 : (⟨4, ![1, 1, n, 256]⟩ : Shape).Idx → EReal) 0 0 i c = R w br (rowField f * 1024 + 256 * jt + c) := by
  refine (at4_readAt (n0 := 2) (n1 := 4) (n2 := 20) (n3 := 256) (s0 := 1) (s1 := 1) (s2 := n) (s3 := 256) arg18.view X18 inb e (by omega) (by omega) hi hc).trans ?_
  refine (h18 _).trans ?_
  show R ((w + 0) % 2) ((o + i) % 20 % 2) (rowField ((o + i) % 20 / 2) * 1024 + 256 * ((jt + 0) % 4) + (0 + c) % 256) = _
  rw [show (w + 0) % 2 = w by omega, show (jt + 0) % 4 = jt by omega, show (0 + c) % 256 = c by omega, show (o + i) % 20 = o + i by omega, hf, hb]

variable (X18 : BufTy.Contents (Elt Ideal) arg18.view.ty) (t2 : Fin k0_t2_loop.trips) (u : Mxu Ideal)
  (x : ℕ → ℕ → EReal) (S Z : ℕ → ℕ → ℕ → EReal) (W : ℕ → ℕ → ℕ → BitVec 32) (R : ℕ → ℕ → ℕ → EReal) (hZ : ∀ w g n, ∃ z : ℝ, Z w g n = (z : EReal))
  (h18 : ∀ y : S2x4x20x256.Idx, arg18.view.read (Elt Ideal) X18 y = residF R y)
  (hacc : ∀ (q : Fin 2) (R' : Fin 1024) (C : Fin 256) (A r : ℕ), Row A r → R'.val = 4 * A + r → (u.acc q R' C : EReal) = ∑ d ∈ Finset.range 2560, term x S Z W q.val t2.val (A + r / 2) (r % 2) C.val d)
include hZ h18 hacc

theorem rowsA (fa : FVec Ideal S8x256 .f32) (hf : ∀ i c, i < 8 → c < 256 → at2 (fa : S8x256.Idx → EReal) i c = inv (rowOff (i / 2))) (i c : ℕ) (hi : i < 8) (hc : c < 256) :
    at2 (k0_pay204 fa (u.read 0 0 fits_0_16) (View.readAt (Elt Ideal) arg18.view (Rect.unit (s := S2x4x20x256) (k0_off81 t2) S1x1x8x256.size (k0_off81_inb t2)).toLoadRect X18) (u.read 1 0 fits_0_16) (View.readAt (Elt Ideal) arg18.view (Rect.unit (s := S2x4x20x256) (k0_off82 t2) S1x1x8x256.size (k0_off82_inb t2)).toLoadRect X18) : S8x256.Idx → EReal) i c = outV x S Z W R (i % 2) (rowField (i / 2) * 1024 + 256 * t2.val + c) := by
  have h2 := t2_lt t2
  refine (pay204_at fa _ _ _ _ i c hi hc).trans ?_
  unfold outV
  exact congrArg₂ sil (congrArg₂ (· + ·) (cell x S Z W hZ 0 t2.val (i / 2) (i % 2) i c h2 hc (u.read 0 0 fits_0_16) fa
      (read_at2 u 0 0 fits_0_16 i c (by omega) hc _ fun R' C' e1 e2 => (hacc 0 R' C' 0 i (Or.inl ⟨rfl, hi⟩) e1).trans (by rw [e2]; rw [Nat.zero_add]; rfl))
      (hf i c hi hc)) (resid_at arg18 X18 R h18 (k0_off81_inb t2) 0 t2.val 0 (k0_off81_eq t2) (n := 8) i c (by decide) h2 (by omega) hi hc (i / 2) (by omega) (i % 2) (by omega)))
    (congrArg₂ (· + ·) (cell x S Z W hZ 1 t2.val (i / 2) (i % 2) i c h2 hc (u.read 1 0 fits_0_16) fa
      (read_at2 u 1 0 fits_0_16 i c (by omega) hc _ fun R' C' e1 e2 => (hacc 1 R' C' 0 i (Or.inl ⟨rfl, hi⟩) e1).trans (by rw [e2]; rw [Nat.zero_add]; rfl))
      (hf i c hi hc)) (resid_at arg18 X18 R h18 (k0_off82_inb t2) 1 t2.val 0 (k0_off82_eq t2) (n := 8) i c (by decide) h2 (by omega) hi hc (i / 2) (by omega) (i % 2) (by omega)))

theorem rowsB (fa : FVec Ideal S8x256 .f32) (hf : ∀ i c, i < 8 → c < 256 → at2 (fa : S8x256.Idx → EReal) i c = inv (rowOff (4 + i / 2))) (i c : ℕ) (hi : i < 8) (hc : c < 256) :
    at2 (k0_pay209 fa (u.read 0 4 fits_4_16) (View.readAt (Elt Ideal) arg18.view (Rect.unit (s := S2x4x20x256) (k0_off84 t2) S1x1x8x256.size (k0_off84_inb t2)).toLoadRect X18) (u.read 1 4 fits_4_16) (View.readAt (Elt Ideal) arg18.view (Rect.unit (s := S2x4x20x256) (k0_off85 t2) S1x1x8x256.size (k0_off85_inb t2)).toLoadRect X18) : S8x256.Idx → EReal) i c = outV x S Z W R (i % 2) (rowField (4 + i / 2) * 1024 + 256 * t2.val + c) := by
  have h2 := t2_lt t2
  refine (pay209_at fa _ _ _ _ i c hi hc).trans ?_
  unfold outV
  exact congrArg₂ sil (congrArg₂ (· + ·) (cell x S Z W hZ 0 t2.val (4 + i / 2) (i % 2) i c h2 hc (u.read 0 4 fits_4_16) fa
      (read_at2 u 0 4 fits_4_16 i c (by omega) hc _ fun R' C' e1 e2 => (hacc 0 R' C' 4 i (Or.inr (Or.inl ⟨rfl, hi⟩)) e1).trans (by rw [e2]; rfl))
      (hf i c hi hc)) (resid_at arg18 X18 R h18 (k0_off84_inb t2) 0 t2.val 8 (k0_off84_eq t2) (n := 8) i c (by decide) h2 (by omega) hi hc (4 + i / 2) (by omega) (i % 2) (by omega)))
    (congrArg₂ (· + ·) (cell x S Z W hZ 1 t2.val (4 + i / 2) (i % 2) i c h2 hc (u.read 1 4 fits_4_16) fa
      (read_at2 u 1 4 fits_4_16 i c (by omega) hc _ fun R' C' e1 e2 => (hacc 1 R' C' 4 i (Or.inr (Or.inl ⟨rfl, hi⟩)) e1).trans (by rw [e2]; rfl))
      (hf i c hi hc)) (resid_at arg18 X18 R h18 (k0_off85_inb t2) 1 t2.val 8 (k0_off85_eq t2) (n := 8) i c (by decide) h2 (by omega) hi hc (4 + i / 2) (by omega) (i % 2) (by omega)))

theorem rowsC (fa : FVec Ideal S8x256 .f32) (hf : ∀ i c, i < 4 → c < 256 → at2 (fa : S8x256.Idx → EReal) i c = inv (rowOff (8 + i / 2))) (i c : ℕ) (hi : i < 4) (hc : c < 256) :
    at2 (k0_pay2 (k0_pay215 fa (u.read 0 8 fits_8_16) (View.readAt (Elt Ideal) arg18.view (Rect.unit (s := S2x4x20x256) (k0_off86 t2) S1x1x4x256.size (k0_off86_inb t2)).toLoadRect X18)) (k0_pay216 fa (u.read 1 8 fits_8_16)) (View.readAt (Elt Ideal) arg18.view (Rect.unit (s := S2x4x20x256) (k0_off87 t2) S1x1x4x256.size (k0_off87_inb t2)).toLoadRect X18) : S4x256.Idx → EReal) i c = outV x S Z W R (i % 2) (rowField (8 + i / 2) * 1024 + 256 * t2.val + c) := by
  have h2 := t2_lt t2
  refine (pay2_at fa _ _ _ _ i c hi hc).trans ?_
  unfold outV
  exact congrArg₂ sil (congrArg₂ (· + ·) (cell x S Z W hZ 0 t2.val (8 + i / 2) (i % 2) i c h2 hc (u.read 0 8 fits_8_16) fa
      (read_at2 u 0 8 fits_8_16 i c (by omega) hc _ fun R' C' e1 e2 => (hacc 0 R' C' 8 i (Or.inr (Or.inr ⟨rfl, hi⟩)) e1).trans (by rw [e2]; rfl))
      (hf i c hi hc)) (resid_at arg18 X18 R h18 (k0_off86_inb t2) 0 t2.val 16 (k0_off86_eq t2) (n := 4) i c (by decide) h2 (by omega) hi hc (8 + i / 2) (by omega) (i % 2) (by omega)))
    (congrArg₂ (· + ·) (cell x S Z W hZ 1 t2.val (8 + i / 2) (i % 2) i c h2 hc (u.read 1 8 fits_8_16) fa
      (read_at2 u 1 8 fits_8_16 i c (by omega) hc _ fun R' C' e1 e2 => (hacc 1 R' C' 8 i (Or.inr (Or.inr ⟨rfl, hi⟩)) e1).trans (by rw [e2]; rfl))
      (hf i c hi hc)) (resid_at arg18 X18 R h18 (k0_off87_inb t2) 1 t2.val 16 (k0_off87_eq t2) (n := 4) i c (by decide) h2 (by omega) hi hc (8 + i / 2) (by omega) (i % 2) (by omega)))

end Cert.KernelIdeal

end
-- ==== Proof.KernelIdeal.Pieces.lean ====
/-
  The ten pieces one trip of the outer loop writes to the result, and the result's rows after the loop.
-/
module

public import proofs.«01_k».proof.Proof.KernelIdeal.Cells

@[expose] public section

set_option maxRecDepth 16384

noncomputable section

namespace Cert.KernelIdeal

open Gen Cert.Value
open Idealize.ShloMosaic Idealize.ShloMosaic.TcCoe Idealize.ShloMosaic.Tactic

/-- The pieces that one trip stores: two rows each, one field and one block of columns. -/
def pieces (t2 : Fin k0_t2_loop.trips) (yA yB : S8x256.Idx → EReal) (yC : S4x256.Idx → EReal) : List (View.Piece (Elt Ideal) S2x10240 .bf16) :=
  [⟨Rect.unit (s := S2x10240) (k0_off83 t2 4096#32) S2x256.size (k0_off83_inb t2 4), shapeCast S2x256 (extractStridedSlice S2x256 ![2, 0] yC slices_S4x256_o2_0_S2x256) shapeCasts_S2x256_S2x256⟩,
   ⟨Rect.unit (s := S2x10240) (k0_off83 t2 1024#32) S2x256.size (k0_off83_inb t2 1), shapeCast S2x256 (extractStridedSlice S2x256 ![0, 0] yC slices_S4x256_o0_0_S2x256) shapeCasts_S2x256_S2x256⟩,
   ⟨Rect.unit (s := S2x10240) (k0_off83 t2 9216#32) S2x256.size (k0_off83_inb t2 9), shapeCast S2x256 (extractStridedSlice S2x256 ![6, 0] yB slices_S8x256_o6_0_S2x256) shapeCasts_S2x256_S2x256⟩,
   ⟨Rect.unit (s := S2x10240) (k0_off83 t2 7168#32) S2x256.size (k0_off83_inb t2 7), shapeCast S2x256 (extractStridedSlice S2x256 ![4, 0] yB slices_S8x256_o4_0_S2x256) shapeCasts_S2x256_S2x256⟩,
   ⟨Rect.unit (s := S2x10240) (k0_off83 t2 5120#32) S2x256.size (k0_off83_inb t2 5), shapeCast S2x256 (extractStridedSlice S2x256 ![2, 0] yB slices_S8x256_o2_0_S2x256) shapeCasts_S2x256_S2x256⟩,
   ⟨Rect.unit (s := S2x10240) (k0_off83 t2 2048#32) S2x256.size (k0_off83_inb t2 2), shapeCast S2x256 (extractStridedSlice S2x256 ![0, 0] yB slices_S8x256_o0_0_S2x256) shapeCasts_S2x256_S2x256⟩,
   ⟨Rect.unit (s := S2x10240) (k0_off83 t2 8192#32) S2x256.size (k0_off83_inb t2 8), shapeCast S2x256 (extractStridedSlice S2x256 ![6, 0] yA slices_S8x256_o6_0_S2x256) shapeCasts_S2x256_S2x256⟩,
   ⟨Rect.unit (s := S2x10240) (k0_off83 t2 6144#32) S2x256.size (k0_off83_inb t2 6), shapeCast S2x256 (extractStridedSlice S2x256 ![4, 0] yA slices_S8x256_o4_0_S2x256) shapeCasts_S2x256_S2x256⟩,
   ⟨Rect.unit (s := S2x10240) (k0_off83 t2 3072#32) S2x256.size (k0_off83_inb t2 3), shapeCast S2x256 (extractStridedSlice S2x256 ![2, 0] yA slices_S8x256_o2_0_S2x256) shapeCasts_S2x256_S2x256⟩,
   ⟨Rect.unit (s := S2x10240) (k0_off83 t2 0#32) S2x256.size (k0_off83_inb t2 0), shapeCast S2x256 (extractStridedSlice S2x256 ![0, 0] yA slices_S8x256_o0_0_S2x256) shapeCasts_S2x256_S2x256⟩]

/-- A piece holds the result's entries of its rectangle. -/
theorem piece_at {a : ℕ} [NeZero a] (x : ℕ → ℕ → EReal) (S Z : ℕ → ℕ → ℕ → EReal) (W : ℕ → ℕ → ℕ → BitVec 32) (R : ℕ → ℕ → ℕ → EReal) (t2 : Fin k0_t2_loop.trips) (v : (⟨2, ![a, 256]⟩ : Shape).Idx → EReal) (b o g : ℕ) (r : Fin 10)
    (H : ∀ i c, i < a → c < 256 → at2 v i c = outV x S Z W R (i % 2) (rowField (b + i / 2) * 1024 + 256 * t2.val + c)) (ho : o = 2 * g) (hoa : o + 2 ≤ a) (hr : rowField (b + g) = r.val)
    (h : (⟨2, ![a, 256]⟩ : Shape).Slices ![o, 0] S2x256) (hc : S2x256.ShapeCasts S2x256) (y : S2x256.Idx) :
    shapeCast S2x256 (extractStridedSlice S2x256 ![o, 0] v h) hc y
      = outV x S Z W R ((Rect.unit (s := S2x10240) (k0_off83 t2 (BitVec.ofNat 32 (1024 * r.val))) S2x256.size (k0_off83_inb t2 r)).emb y 0).val ((Rect.unit (s := S2x10240) (k0_off83 t2 (BitVec.ofNat 32 (1024 * r.val))) S2x256.size (k0_off83_inb t2 r)).emb y 1).val := by
  have h0 : (y 0).val < 2 := (y 0).isLt
  have h1 : (y 1).val < 256 := (y 1).isLt
  rw [cut_at v o h hc y, H _ _ (by omega) h1]
  have e0 := (ValueKit.rect_emb_unit_val (s := S2x10240) (k0_off83 t2 (BitVec.ofNat 32 (1024 * r.val))) S2x256.size (k0_off83_inb t2 r) y 0).trans (congrArg (· + (y 0).val) (congrFun (k0_off83_eq t2 r) 0))
  have e1 := (ValueKit.rect_emb_unit_val (s := S2x10240) (k0_off83 t2 (BitVec.ofNat 32 (1024 * r.val))) S2x256.size (k0_off83_inb t2 r) y 1).trans (congrArg (· + (y 1).val) (congrFun (k0_off83_eq t2 r) 1))
  rw [e0, e1, show (o + (y 0).val) / 2 = g by omega, hr, show (o + (y 0).val) % 2 = (y 0).val by omega]
  show outV x S Z W R (y 0).val (r.val * 1024 + 256 * t2.val + (y 1).val) = outV x S Z W R (0 + (y 0).val) (1024 * r.val + 256 * t2.val + (y 1).val)
  rw [Nat.zero_add, Nat.mul_comm 1024]

theorem in_piece (t2 : Fin k0_t2_loop.trips) (r : Fin 10) (y : S2x10240.Idx) (h : (y 1).val / 1024 = r.val) (hj : (y 1).val % 1024 / 256 = t2.val) :
    y ∈ (Rect.unit (s := S2x10240) (k0_off83 t2 (BitVec.ofNat 32 (1024 * r.val))) S2x256.size (k0_off83_inb t2 r)).set := by
  have h0 : (y 0).val < 2 := (y 0).isLt
  rw [Rect.mem_set_unit (s := S2x10240)]
  rw [k0_off83_eq t2 r]
  intro b
  match b with
  | 0 => exact ⟨Nat.zero_le _, (Nat.zero_add 2).symm ▸ h0⟩
  | 1 => exact ⟨(by omega : 1024 * r.val + 256 * t2.val ≤ (y 1).val), (by omega : (y 1).val < 1024 * r.val + 256 * t2.val + 256)⟩

variable (arg19 : Memref sig .tc .vmem S2x10240 .bf16) (X19 : BufTy.Contents (Elt Ideal) arg19.view.ty)

/-- Outside the trip's blocks of columns the rows are unchanged. -/
theorem pieces_miss (t2 : Fin k0_t2_loop.trips) (yA yB : S8x256.Idx → EReal) (yC : S4x256.Idx → EReal) (y : S2x10240.Idx) (hj : (y 1).val % 1024 / 256 ≠ t2.val) :
    arg19.view.read (Elt Ideal) (arg19.view.writes (Elt Ideal) X19 (pieces t2 yA yB yC)) y = arg19.view.read (Elt Ideal) X19 y := by
  have h2 := t2_lt t2
  have key : ∀ (r : Fin 10), (y 1).val < (![0, 1024 * r.val + 256 * t2.val] : Fin 2 → ℕ) 1 ∨ (![0, 1024 * r.val + 256 * t2.val] : Fin 2 → ℕ) 1 + 256 ≤ (y 1).val := fun r => by
    show (y 1).val < 1024 * r.val + 256 * t2.val ∨ 1024 * r.val + 256 * t2.val + 256 ≤ (y 1).val
    omega
  unfold pieces
  refine (View.read_writes_cons_unit_of_not_mem arg19.view X19 (k0_off83_inb t2 4) _ _ y (k0_off83_eq t2 4) 1 (key 4)).trans ?_
  refine (View.read_writes_cons_unit_of_not_mem arg19.view X19 (k0_off83_inb t2 1) _ _ y (k0_off83_eq t2 1) 1 (key 1)).trans ?_
  refine (View.read_writes_cons_unit_of_not_mem arg19.view X19 (k0_off83_inb t2 9) _ _ y (k0_off83_eq t2 9) 1 (key 9)).trans ?_
  refine (View.read_writes_cons_unit_of_not_mem arg19.view X19 (k0_off83_inb t2 7) _ _ y (k0_off83_eq t2 7) 1 (key 7)).trans ?_
  refine (View.read_writes_cons_unit_of_not_mem arg19.view X19 (k0_off83_inb t2 5) _ _ y (k0_off83_eq t2 5) 1 (key 5)).trans ?_
  refine (View.read_writes_cons_unit_of_not_mem arg19.view X19 (k0_off83_inb t2 2) _ _ y (k0_off83_eq t2 2) 1 (key 2)).trans ?_
  refine (View.read_writes_cons_unit_of_not_mem arg19.view X19 (k0_off83_inb t2 8) _ _ y (k0_off83_eq t2 8) 1 (key 8)).trans ?_
  refine (View.read_writes_cons_unit_of_not_mem arg19.view X19 (k0_off83_inb t2 6) _ _ y (k0_off83_eq t2 6) 1 (key 6)).trans ?_
  refine (View.read_writes_cons_unit_of_not_mem arg19.view X19 (k0_off83_inb t2 3) _ _ y (k0_off83_eq t2 3) 1 (key 3)).trans ?_
  refine (View.read_writes_cons_unit_of_not_mem arg19.view X19 (k0_off83_inb t2 0) _ _ y (k0_off83_eq t2 0) 1 (key 0)).trans ?_
  rfl

/-- In the trip's blocks of columns the rows hold the result's entries. -/
theorem pieces_hit (x : ℕ → ℕ → EReal) (S Z : ℕ → ℕ → ℕ → EReal) (W : ℕ → ℕ → ℕ → BitVec 32) (R : ℕ → ℕ → ℕ → EReal) (t2 : Fin k0_t2_loop.trips) (yA yB : S8x256.Idx → EReal) (yC : S4x256.Idx → EReal)
    (hA : ∀ i c, i < 8 → c < 256 → at2 yA i c = outV x S Z W R (i % 2) (rowField (0 + i / 2) * 1024 + 256 * t2.val + c))
    (hB : ∀ i c, i < 8 → c < 256 → at2 yB i c = outV x S Z W R (i % 2) (rowField (4 + i / 2) * 1024 + 256 * t2.val + c))
    (hC : ∀ i c, i < 4 → c < 256 → at2 yC i c = outV x S Z W R (i % 2) (rowField (8 + i / 2) * 1024 + 256 * t2.val + c))
    (y : S2x10240.Idx) (hj : (y 1).val % 1024 / 256 = t2.val) :
    arg19.view.read (Elt Ideal) (arg19.view.writes (Elt Ideal) X19 (pieces t2 yA yB yC)) y = outV x S Z W R (y 0).val (y 1).val := by
  have hy : (y 1).val < 10240 := (y 1).isLt
  refine View.read_writes_apply_of_pieces (Val := Elt Ideal) (e := .bf16) _ _ (fun z : S2x10240.Idx => outV x S Z W R (z 0).val (z 1).val) (pieces t2 yA yB yC) ?_ y ?_
  · intro p hp
    unfold pieces at hp
    simp only [List.mem_cons, List.not_mem_nil, or_false] at hp
    rcases hp with rfl | rfl | rfl | rfl | rfl | rfl | rfl | rfl | rfl | rfl
    · exact fun z => piece_at (a := 4) x S Z W R t2 yC 8 2 1 4 hC rfl (by decide) (by decide) slices_S4x256_o2_0_S2x256 shapeCasts_S2x256_S2x256 z
    · exact fun z => piece_at (a := 4) x S Z W R t2 yC 8 0 0 1 hC rfl (by decide) (by decide) slices_S4x256_o0_0_S2x256 shapeCasts_S2x256_S2x256 z
    · exact fun z => piece_at (a := 8) x S Z W R t2 yB 4 6 3 9 hB rfl (by decide) (by decide) slices_S8x256_o6_0_S2x256 shapeCasts_S2x256_S2x256 z
    · exact fun z => piece_at (a := 8) x S Z W R t2 yB 4 4 2 7 hB rfl (by decide) (by decide) slices_S8x256_o4_0_S2x256 shapeCasts_S2x256_S2x256 z
    · exact fun z => piece_at (a := 8) x S Z W R t2 yB 4 2 1 5 hB rfl (by decide) (by decide) slices_S8x256_o2_0_S2x256 shapeCasts_S2x256_S2x256 z
    · exact fun z => piece_at (a := 8) x S Z W R t2 yB 4 0 0 2 hB rfl (by decide) (by decide) slices_S8x256_o0_0_S2x256 shapeCasts_S2x256_S2x256 z
    · exact fun z => piece_at (a := 8) x S Z W R t2 yA 0 6 3 8 hA rfl (by decide) (by decide) slices_S8x256_o6_0_S2x256 shapeCasts_S2x256_S2x256 z
    · exact fun z => piece_at (a := 8) x S Z W R t2 yA 0 4 2 6 hA rfl (by decide) (by decide) slices_S8x256_o4_0_S2x256 shapeCasts_S2x256_S2x256 z
    · exact fun z => piece_at (a := 8) x S Z W R t2 yA 0 2 1 3 hA rfl (by decide) (by decide) slices_S8x256_o2_0_S2x256 shapeCasts_S2x256_S2x256 z
    · exact fun z => piece_at (a := 8) x S Z W R t2 yA 0 0 0 0 hA rfl (by decide) (by decide) slices_S8x256_o0_0_S2x256 shapeCasts_S2x256_S2x256 z
  · have hq : (y 1).val / 1024 < 10 := by omega
    have hm := in_piece t2 ⟨(y 1).val / 1024, hq⟩ y rfl hj
    generalize hr : (⟨(y 1).val / 1024, hq⟩ : Fin 10) = r at hm
    unfold pieces
    match r, hm with
    | 0, hm => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), hm⟩
    | 1, hm => exact ⟨_, List.mem_cons_of_mem _ (List.mem_cons_self), hm⟩
    | 2, hm => exact ⟨_, List.mem_cons_of_mem _ (List.mem_cons_of_mem _ (List.mem_cons_of_mem _ (List.mem_cons_of_mem _ (List.mem_cons_of_mem _ (List.mem_cons_self))))), hm⟩
    | 3, hm => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), hm⟩
    | 4, hm => exact ⟨_, List.mem_cons_self, hm⟩
    | 5, hm => exact ⟨_, List.mem_cons_of_mem _ (List.mem_cons_of_mem _ (List.mem_cons_of_mem _ (List.mem_cons_of_mem _ (List.mem_cons_self)))), hm⟩
    | 6, hm => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hm⟩
    | 7, hm => exact ⟨_, List.mem_cons_of_mem _ (List.mem_cons_of_mem _ (List.mem_cons_of_mem _ (List.mem_cons_self))), hm⟩
    | 8, hm => exact ⟨_, List.mem_cons_of_mem _ (List.mem_cons_of_mem _ (List.mem_cons_of_mem _ (List.mem_cons_of_mem _ (List.mem_cons_of_mem _ (List.mem_cons_of_mem _ (List.mem_cons_self)))))), hm⟩
    | 9, hm => exact ⟨_, List.mem_cons_of_mem _ (List.mem_cons_of_mem _ (List.mem_cons_self)), hm⟩

end Cert.KernelIdeal

end
-- ==== Proof.KernelIdeal.Out.lean ====
/-
  The result's rows after the trips of the outer loop.
-/
module

public import proofs.«01_k».proof.Proof.KernelIdeal.Pieces

@[expose] public section

set_option maxRecDepth 16384

noncomputable section

namespace Cert.KernelIdeal

open Gen Cert.Value
open Idealize.ShloMosaic Idealize.ShloMosaic.TcCoe Idealize.ShloMosaic.Tactic

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

set_option maxHeartbeats 2000000 in
/-- What one trip stores, as its ten pieces. -/
theorem trip_pieces (dev : Dev nD) (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty) (m : IVec S8x256 1) (v85 : IVec S8x256 32) (fa fb v337 : FVec Ideal S8x256 .f32) (c2 : BitVec 32) (v339 v346 : IVec S8x256 32) (v348 c0 : BitVec 32) (t2 : Fin k0_t2_loop.trips) (gmr : Fin 2 → Option (Mxu.Staged Ideal)) (acc : Fin 2 → Fin 1024 → Fin 256 → Ideal .f32) (live : Fin 2 → Fin 1024 → Bool) (clean : ∀ q R C, live q R = false → acc q R C = FloatOps.ofBits .f32 0) (u : Mxu Ideal) (hu : u = (mx3 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 m t2 ⟨fun _ _ => none, gmr, acc, live, clean⟩ k0_t3_loop.trips)) :
    (trip2 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 X18 X19 m v85 fa fb v337 c2 v339 v346 v348 c0 t2 gmr acc live clean).1.2
      = arg19.view.writes (Elt Ideal) X19 (pieces t2 (k0_pay204 fa (u.read 0 0 fits_0_16) (View.readAt (Elt Ideal) arg18.view (Rect.unit (s := S2x4x20x256) (k0_off81 t2) S1x1x8x256.size (k0_off81_inb t2)).toLoadRect X18) ((u.pop 0 0 16 fits_0_16).read 1 0 fits_0_16) (View.readAt (Elt Ideal) arg18.view (Rect.unit (s := S2x4x20x256) (k0_off82 t2) S1x1x8x256.size (k0_off82_inb t2)).toLoadRect X18)) (k0_pay209 fb (((u.pop 0 0 16 fits_0_16).pop 1 0 16 fits_0_16).read 0 4 fits_4_16) (View.readAt (Elt Ideal) arg18.view (Rect.unit (s := S2x4x20x256) (k0_off84 t2) S1x1x8x256.size (k0_off84_inb t2)).toLoadRect X18) ((((u.pop 0 0 16 fits_0_16).pop 1 0 16 fits_0_16).pop 0 4 16 fits_4_16).read 1 4 fits_4_16) (View.readAt (Elt Ideal) arg18.view (Rect.unit (s := S2x4x20x256) (k0_off85 t2) S1x1x8x256.size (k0_off85_inb t2)).toLoadRect X18)) (k0_pay2 (k0_pay215 (k0_pay1 v85 v337 c2 v339 v346 v348 c0) (((((u.pop 0 0 16 fits_0_16).pop 1 0 16 fits_0_16).pop 0 4 16 fits_4_16).pop 1 4 16 fits_4_16).read 0 8 fits_8_16) (View.readAt (Elt Ideal) arg18.view (Rect.unit (s := S2x4x20x256) (k0_off86 t2) S1x1x4x256.size (k0_off86_inb t2)).toLoadRect X18)) (k0_pay216 (k0_pay1 v85 v337 c2 v339 v346 v348 c0) ((((((u.pop 0 0 16 fits_0_16).pop 1 0 16 fits_0_16).pop 0 4 16 fits_4_16).pop 1 4 16 fits_4_16).pop 0 8 16 fits_8_16).read 1 8 fits_8_16)) (View.readAt (Elt Ideal) arg18.view (Rect.unit (s := S2x4x20x256) (k0_off87 t2) S1x1x4x256.size (k0_off87_inb t2)).toLoadRect X18))) := by
  subst hu
  unfold trip2
  rfl

/-- One trip fills its blocks of columns with the result's entries and leaves the others. -/
theorem trip_out (dev : Dev nD) (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty) (m : IVec S8x256 1) (v85 : IVec S8x256 32) (fa fb v337 : FVec Ideal S8x256 .f32) (c2 : BitVec 32) (v339 v346 : IVec S8x256 32) (v348 c0 : BitVec 32) (x : ℕ → ℕ → EReal) (S Z : ℕ → ℕ → ℕ → EReal) (R : ℕ → ℕ → ℕ → EReal) (hm : EvenMask m) (hZ : ∀ w g n, ∃ z : ℝ, Z w g n = (z : EReal))
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val)
    (h18 : ∀ y : S2x4x20x256.Idx, arg18.view.read (Elt Ideal) X18 y = residF R y)
    (hfA : ∀ i c, i < 8 → c < 256 → at2 (fa : S8x256.Idx → EReal) i c = inv (rowOff (i / 2)))
    (hfB : ∀ i c, i < 8 → c < 256 → at2 (fb : S8x256.Idx → EReal) i c = inv (rowOff (4 + i / 2)))
    (hfC : ∀ i c, i < 4 → c < 256 → at2 (k0_pay1 v85 v337 c2 v339 v346 v348 c0 : S8x256.Idx → EReal) i c = inv (rowOff (8 + i / 2))) (t2 : Fin k0_t2_loop.trips) (gmr : Fin 2 → Option (Mxu.Staged Ideal)) (acc : Fin 2 → Fin 1024 → Fin 256 → Ideal .f32) (live : Fin 2 → Fin 1024 → Bool) (clean : ∀ q R C, live q R = false → acc q R C = FloatOps.ofBits .f32 0) (hl : ∀ q R, live q R = false) (y : S2x10240.Idx) :
    arg19.view.read (Elt Ideal) (trip2 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 X18 X19 m v85 fa fb v337 c2 v339 v346 v348 c0 t2 gmr acc live clean).1.2 y
      = if (y 1).val % 1024 / 256 = t2.val then outV x S Z (wF arg1 arg5 X1 X5) R (y 0).val (y 1).val else arg19.view.read (Elt Ideal) X19 y := by
  obtain ⟨u, hu⟩ : ∃ u : Mxu Ideal, u = (mx3 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 m t2 ⟨fun _ _ => none, gmr, acc, live, clean⟩ k0_t3_loop.trips) := ⟨_, rfl⟩
  have hacc : ∀ (q : Fin 2) (R' : Fin 1024) (C : Fin 256) (A r : ℕ), Row A r → R'.val = 4 * A + r → (u.acc q R' C : EReal) = ∑ d ∈ Finset.range 2560, term x S Z (wF arg1 arg5 X1 X5) q.val t2.val (A + r / 2) (r % 2) C.val d := by
    intro q R' C A r hA hR
    rw [hu]
    exact block_acc arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 m t2 x S Z hm h14 h15 h16 _ rfl hl q R' C A r hA hR
  have e1 : (u.pop 0 0 16 fits_0_16).read 1 0 fits_0_16 = u.read 1 0 fits_0_16 := (pop_read _ 0 1 0 0 fits_0_16 fits_0_16 (by decide))
  have e2 : ((u.pop 0 0 16 fits_0_16).pop 1 0 16 fits_0_16).read 0 4 fits_4_16 = u.read 0 4 fits_4_16 := ((pop_read _ 1 0 0 4 fits_0_16 fits_4_16 (by decide)).trans (pop_read _ 0 0 0 4 fits_0_16 fits_4_16 (by decide)))
  have e3 : (((u.pop 0 0 16 fits_0_16).pop 1 0 16 fits_0_16).pop 0 4 16 fits_4_16).read 1 4 fits_4_16 = u.read 1 4 fits_4_16 := (((pop_read _ 0 1 4 4 fits_4_16 fits_4_16 (by decide)).trans (pop_read _ 1 1 0 4 fits_0_16 fits_4_16 (by decide))).trans (pop_read _ 0 1 0 4 fits_0_16 fits_4_16 (by decide)))
  have e4 : ((((u.pop 0 0 16 fits_0_16).pop 1 0 16 fits_0_16).pop 0 4 16 fits_4_16).pop 1 4 16 fits_4_16).read 0 8 fits_8_16 = u.read 0 8 fits_8_16 := ((((pop_read _ 1 0 4 8 fits_4_16 fits_8_16 (by decide)).trans (pop_read _ 0 0 4 8 fits_4_16 fits_8_16 (by decide))).trans (pop_read _ 1 0 0 8 fits_0_16 fits_8_16 (by decide))).trans (pop_read _ 0 0 0 8 fits_0_16 fits_8_16 (by decide)))
  have e5 : (((((u.pop 0 0 16 fits_0_16).pop 1 0 16 fits_0_16).pop 0 4 16 fits_4_16).pop 1 4 16 fits_4_16).pop 0 8 16 fits_8_16).read 1 8 fits_8_16 = u.read 1 8 fits_8_16 := (((((pop_read _ 0 1 8 8 fits_8_16 fits_8_16 (by decide)).trans (pop_read _ 1 1 4 8 fits_4_16 fits_8_16 (by decide))).trans (pop_read _ 0 1 4 8 fits_4_16 fits_8_16 (by decide))).trans (pop_read _ 1 1 0 8 fits_0_16 fits_8_16 (by decide))).trans (pop_read _ 0 1 0 8 fits_0_16 fits_8_16 (by decide)))
  rw [trip_pieces arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 X18 X19 m v85 fa fb v337 c2 v339 v346 v348 c0 t2 gmr acc live clean u hu, e1, e2, e3, e4, e5]
  by_cases hj : (y 1).val % 1024 / 256 = t2.val
  · rw [if_pos hj]
    refine pieces_hit arg19 X19 x S Z (wF arg1 arg5 X1 X5) R t2 _ _ _ ?_ ?_ ?_ y hj
    · intro i c hi hc
      rw [Nat.zero_add]
      exact rowsA arg18 X18 t2 u x S Z (wF arg1 arg5 X1 X5) R hZ h18 hacc fa hfA i c hi hc
    · exact rowsB arg18 X18 t2 u x S Z (wF arg1 arg5 X1 X5) R hZ h18 hacc fb hfB
    · exact rowsC arg18 X18 t2 u x S Z (wF arg1 arg5 X1 X5) R hZ h18 hacc _ hfC
  · rw [if_neg hj]
    exact pieces_miss arg19 X19 t2 _ _ _ y hj

/-- After k trips the first k blocks of columns of every field hold the result's entries. -/
theorem st2_out (dev : Dev nD) (X1 : BufTy.Contents (Elt Ideal) arg1.view.ty) (X5 : BufTy.Contents (Elt Ideal) arg5.view.ty) (X14 : BufTy.Contents (Elt Ideal) arg14.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty) (m : IVec S8x256 1) (v85 : IVec S8x256 32) (fa fb v337 : FVec Ideal S8x256 .f32) (c2 : BitVec 32) (v339 v346 : IVec S8x256 32) (v348 c0 : BitVec 32) (x : ℕ → ℕ → EReal) (S Z : ℕ → ℕ → ℕ → EReal) (R : ℕ → ℕ → ℕ → EReal) (hm : EvenMask m) (hZ : ∀ w g n, ∃ z : ℝ, Z w g n = (z : EReal))
    (h14 : ∀ y : S2x4x10x48x256.Idx, (y 3).val < 40 → arg14.view.read (Elt Ideal) X14 y = prepF S Z y)
    (h15 : ∀ y : S16x10240.Idx, arg15.view.read (Elt Ideal) X15 y = spread 4 x (y 0).val (y 1).val)
    (h16 : ∀ y : S16x5120.Idx, arg16.view.read (Elt Ideal) X16 y = spread 2 x (y 0).val (y 1).val)
    (h18 : ∀ y : S2x4x20x256.Idx, arg18.view.read (Elt Ideal) X18 y = residF R y)
    (hfA : ∀ i c, i < 8 → c < 256 → at2 (fa : S8x256.Idx → EReal) i c = inv (rowOff (i / 2)))
    (hfB : ∀ i c, i < 8 → c < 256 → at2 (fb : S8x256.Idx → EReal) i c = inv (rowOff (4 + i / 2)))
    (hfC : ∀ i c, i < 4 → c < 256 → at2 (k0_pay1 v85 v337 c2 v339 v346 v348 c0 : S8x256.Idx → EReal) i c = inv (rowOff (8 + i / 2))) (m0 : Mxu Ideal) (hl : ∀ q R, m0.live q R = false) (k : ℕ) (hk : k ≤ 4) (y : S2x10240.Idx) (hy : (y 1).val % 1024 / 256 < k) :
    arg19.view.read (Elt Ideal) (st2 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 X18 m v85 fa fb v337 c2 v339 v346 v348 c0 m0 X19 k).2 y = outV x S Z (wF arg1 arg5 X1 X5) R (y 0).val (y 1).val := by
  induction k with
  | zero => exact absurd hy (Nat.not_lt_zero _)
  | succ k ih =>
    have hlt : k < k0_t2_loop.trips := Nat.lt_of_succ_le hk
    have hlv := st2_live (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 X18 m v85 fa fb v337 c2 v339 v346 v348 c0 m0 X19 hl k
    unfold st2
    rw [dif_pos hlt]
    refine (trip_out arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 dev X1 X5 X14 X15 X16 X18 _ m v85 fa fb v337 c2 v339 v346 v348 c0 x S Z R hm hZ h14 h15 h16 h18 hfA hfB hfC ⟨k, hlt⟩ _ _ _ _ hlv y).trans ?_
    by_cases hj : (y 1).val % 1024 / 256 = k
    · rw [if_pos hj]
    · rw [if_neg hj]
      exact ih (by omega) (by omega)

end Cert.KernelIdeal

end
-- ==== Proof.KernelIdeal.Result.lean ====
/-
  The result's entries, in terms of the operands.
-/
module

public import proofs.«01_k».proof.Proof.KernelIdeal.Out
public import proofs.«01_k».proof.Proof.KernelIdeal.Whole

@[expose] public section

set_option maxRecDepth 16384

noncomputable section

namespace Cert.KernelIdeal

open Gen Cert.Value
open Idealize.ShloMosaic Idealize.ShloMosaic.TcCoe Idealize.ShloMosaic.Tactic

/-! ### The halves of the arrays that hold both operands -/

section Halves
variable {sp : Space} {e : EltTy} {n : ℕ} [NeZero n] (v : View sig .tc sp (⟨3, ![2, n, 10240]⟩ : Shape) e) (f : v.ty.Contents (Elt Ideal))

theorem half_cast (p : (⟨2, ![n, 10240]⟩ : Shape).Idx → Elt Ideal e) (hq : (⟨2, ![n, 10240]⟩ : Shape).numel = (⟨3, ![1, n, 10240]⟩ : Shape).numel) (x : (⟨3, ![1, n, 10240]⟩ : Shape).Idx) (i k : ℕ) (hi : (x 1).val = i) (hk : (x 2).val = k) :
    p ((Shape.reshapeEquiv hq).symm x) = at2 p i k := by
  have hi' : i < n := hi ▸ (x 1).isLt
  have hk' : k < 10240 := hk ▸ (x 2).isLt
  have h0 : (x 0).val = 0 := Nat.lt_one_iff.mp (x 0).isLt
  unfold at2
  refine congrArg p ((Equiv.symm_apply_eq _).mpr (Shape.reshapeEquiv_eq_of_rowMajor _ ?_).symm)
  refine (Shape.rowMajor_val_three _).trans (Eq.trans ?_ (Shape.rowMajor_val_two _).symm)
  show ((x 0).val * n + (x 1).val) * 10240 + (x 2).val = (i % n) * 10240 + k % 10240
  rw [h0, hi, hk, Nat.mod_eq_of_lt hi', Nat.mod_eq_of_lt hk', Nat.zero_mul, Nat.zero_add]

variable (inb1 : ∀ a, (![1, 0, 0] : Fin 3 → ℕ) a + (![1, n, 10240] : Fin 3 → ℕ) a ≤ (⟨3, ![2, n, 10240]⟩ : Shape).size a)
  (inb0 : ∀ a, (![0, 0, 0] : Fin 3 → ℕ) a + (![1, n, 10240] : Fin 3 → ℕ) a ≤ (⟨3, ![2, n, 10240]⟩ : Shape).size a)
  (p1 p0 : (⟨2, ![n, 10240]⟩ : Shape).Idx → Elt Ideal e) (hq : (⟨2, ![n, 10240]⟩ : Shape).numel = (⟨3, ![1, n, 10240]⟩ : Shape).numel) (i k : ℕ) (hi : i < n) (hk : k < 10240)
include hi hk

theorem half_one :
    at3 (v.read (Elt Ideal) (v.writes (Elt Ideal) f [⟨Rect.unit (s := ⟨3, ![2, n, 10240]⟩) ![1, 0, 0] ![1, n, 10240] inb1, fun x => p1 ((Shape.reshapeEquiv hq).symm x)⟩,
      ⟨Rect.unit (s := ⟨3, ![2, n, 10240]⟩) ![0, 0, 0] ![1, n, 10240] inb0, fun x => p0 ((Shape.reshapeEquiv hq).symm x)⟩])) 1 i k = at2 p1 i k := by
  unfold at3
  refine (View.read_writes_cons_unit_of_mem v f inb1 _ _ _ (ValueIdx.ix3 (0 : Fin 1) ⟨i, hi⟩ (⟨k, hk⟩ : Fin 10240)) rfl ?_).trans (half_cast p1 hq _ i k rfl rfl)
  intro a
  match a with
  | 0 => rfl
  | 1 => exact (Nat.mod_eq_of_lt hi).trans (Nat.zero_add i).symm
  | 2 => exact (Nat.mod_eq_of_lt hk).trans (Nat.zero_add k).symm

theorem half_zero :
    at3 (v.read (Elt Ideal) (v.writes (Elt Ideal) f [⟨Rect.unit (s := ⟨3, ![2, n, 10240]⟩) ![1, 0, 0] ![1, n, 10240] inb1, fun x => p1 ((Shape.reshapeEquiv hq).symm x)⟩,
      ⟨Rect.unit (s := ⟨3, ![2, n, 10240]⟩) ![0, 0, 0] ![1, n, 10240] inb0, fun x => p0 ((Shape.reshapeEquiv hq).symm x)⟩])) 0 i k = at2 p0 i k := by
  unfold at3
  refine (View.read_writes_cons_unit_of_not_mem v f inb1 _ _ _ rfl 0 (Or.inl (show 0 % 2 < 1 by decide))).trans ?_
  refine (View.read_writes_cons_unit_of_mem v f inb0 _ _ _ (ValueIdx.ix3 (0 : Fin 1) ⟨i, hi⟩ (⟨k, hk⟩ : Fin 10240)) rfl ?_).trans (half_cast p0 hq _ i k rfl rfl)
  intro a
  match a with
  | 0 => rfl
  | 1 => exact (Nat.mod_eq_of_lt hi).trans (Nat.zero_add i).symm
  | 2 => exact (Nat.mod_eq_of_lt hk).trans (Nat.zero_add k).symm

end Halves

/-- The base product of one operand, over its own arrays. -/
def baseK (x : ℕ → ℕ → EReal) (w : S2560x1024.Idx → BitVec 32) (z : S20x10240.Idx → BitVec 8) (s : S20x10240.Idx → EReal) (b n : ℕ) : EReal :=
  ∑ d ∈ Finset.range 2560, x b d * ((cd (n / 1024) (at2 w d (n % 1024)) - num (at2 z (d / 128) n)) * at2 s (d / 128) n)

variable
    (arg0 : Memref sig .tc .hbm S2x2560 .bf16) (harg0 : arg0.IsWhole) (arg1 : Memref sig .tc .hbm S2560x1024 .i32)
    (harg1 : arg1.IsWhole) (arg2 : Memref sig .tc .hbm S20x10240 .bf16) (harg2 : arg2.IsWhole)
    (arg3 : Memref sig .tc .hbm S20x10240 .i8) (harg3 : arg3.IsWhole) (arg4 : Memref sig .tc .hbm S2x10240 .f32)
    (harg4 : arg4.IsWhole) (arg5 : Memref sig .tc .hbm S2560x1024 .i32) (harg5 : arg5.IsWhole)
    (arg6 : Memref sig .tc .hbm S20x10240 .bf16) (harg6 : arg6.IsWhole) (arg7 : Memref sig .tc .hbm S20x10240 .i8)
    (harg7 : arg7.IsWhole) (arg8 : Memref sig .tc .hbm S2x10240 .f32) (harg8 : arg8.IsWhole)
    (arg9 : Memref sig .tc .hbm S2x10240 .bf16) (harg9 : arg9.IsWhole)
    (arg10 : Memref sig .tc .vmem S2x4x2560x256 .i32) (harg10 : arg10.IsWhole)
    (arg11 : Memref sig .tc .vmem S2x20x10240 .bf16) (harg11 : arg11.IsWhole)
    (arg12 : Memref sig .tc .vmem S2x20x10240 .i8) (harg12 : arg12.IsWhole)
    (arg13 : Memref sig .tc .vmem S2x2560 .bf16) (harg13 : arg13.IsWhole)
    (arg14 : Memref sig .tc .vmem S2x4x10x48x256 .bf16) (harg14 : arg14.IsWhole)
    (arg15 : Memref sig .tc .vmem S16x10240 .bf16) (harg15 : arg15.IsWhole)
    (arg16 : Memref sig .tc .vmem S16x5120 .bf16) (harg16 : arg16.IsWhole)
    (arg17 : Memref sig .tc .vmem S2x2x10240 .f32) (harg17 : arg17.IsWhole)
    (arg18 : Memref sig .tc .vmem S2x4x20x256 .f32) (harg18 : arg18.IsWhole)
    (arg19 : Memref sig .tc .vmem S2x10240 .bf16) (harg19 : arg19.IsWhole) (arg20 : DmaSems sig S20x2)
    (arg21 : DmaSems sig S6) (arg22 : DmaSems sig S_) (arg23 : DmaSems sig S_)

theorem num_real (z : BitVec 8) : ∃ r : ℝ, num z = (r : EReal) := ⟨_, rfl⟩

set_option maxHeartbeats 2000000 in
theorem out_eq (c : Dev nD) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) :
    arg9.view.read (Elt Ideal) (out (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19) = arg19.view.read (Elt Ideal) (st2 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 (arg14.view.writes (Elt Ideal) X14 (pb1 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).1) (arg15.view.writes (Elt Ideal) arg15.view.junk (body.sl.H15_80 arg0 arg13 X0)) (arg16.view.writes (Elt Ideal) arg16.view.junk (body.sl.H16_40 arg0 arg13 X0)) (arg18.view.writes (Elt Ideal) X18 (pb1 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) k0_t1_loop.trips).2) body.sl.r_121 body.sl.v10085_r0 body.sl.r_123 body.sl.r_126 body.sl.r_127 2#32 (k0_pay1024 body.sl.v10085_r0) (k0_pay1026 body.sl.v10085_r0 (k0_pay1025 body.sl.v10085_r0)) 1#32 0#32 start X19 k0_t2_loop.trips).2 := by
  have key : ∀ d : S2x10240.Idx → Elt Ideal .bf16, arg9.view.read (Elt Ideal) (arg9.view.writes (Elt Ideal) X9 [⟨Rect.whole S2x10240, d⟩]) = d := fun d => View.read_writes_whole (Val := Elt Ideal) arg9.view X9 d
  unfold out body
  dsimp only
  rw [key]
  unfold body.sl.dma0_13
  rfl

theorem out_read (c : Dev nD) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (y : S2x10240.Idx) :
    (arg9.view.read (Elt Ideal) (out (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19) : S2x10240.Idx → EReal) y = outV (xF arg0 X0) (sF arg11 (scales arg2 arg6 arg11 X2 X6)) (zF arg12 (zeros arg3 arg7 arg12 X3 X7)) (wF arg1 arg5 X1 X5) (rF arg17 (resid arg4 arg8 arg17 X4 X8)) (y 0).val (y 1).val := by
  have ht : k0_t1_loop.trips = 4 := by decide +kernel
  have hy : (y 1).val < 10240 := (y 1).isLt
  rw [out_eq]
  refine st2_out arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X1 X5 _ _ _ _ X19 body.sl.r_121 body.sl.v10085_r0 body.sl.r_123 body.sl.r_126 body.sl.r_127 2#32 (k0_pay1024 body.sl.v10085_r0) (k0_pay1026 body.sl.v10085_r0 (k0_pay1025 body.sl.v10085_r0)) 1#32 0#32 (xF arg0 X0) (sF arg11 (scales arg2 arg6 arg11 X2 X6)) (zF arg12 (zeros arg3 arg7 arg12 X3 X7)) (rF arg17 (resid arg4 arg8 arg17 X4 X8)) mask_even ?_ ?_ ?_ ?_ ?_ ?_ ?_ ?_ start start_live 4 (le_refl _) y (by omega)
  · exact fun w g n => num_real _
  · intro z h3
    rw [ht]
    exact read14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) X14 z h3
  · exact fun z => read15 arg0 arg13 arg15 X0 _ z
  · exact fun z => read16 arg0 arg13 arg16 X0 _ z
  · intro z
    rw [ht]
    exact read18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c (scales arg2 arg6 arg11 X2 X6) (zeros arg3 arg7 arg12 X3 X7) (resid arg4 arg8 arg17 X4 X8) X18 z
  · intro i k hi hk
    unfold at2
    exact (facA _).trans (congrArg (fun r => inv (rowOff (r / 2))) (show i % 8 = i from Nat.mod_eq_of_lt hi))
  · intro i k hi hk
    unfold at2
    exact (facB _).trans (congrArg (fun r => inv (rowOff (4 + r / 2))) (show i % 8 = i from Nat.mod_eq_of_lt hi))
  · intro i k hi hk
    unfold at2
    have e : i % 8 = i := Nat.mod_eq_of_lt (by omega)
    exact (facC _ (show i % 8 < 4 by omega)).trans (congrArg (fun r => inv (rowOff (8 + r / 2))) e)

theorem out_value (c : Dev nD) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (y : S2x10240.Idx) :
    (arg9.view.read (Elt Ideal) (out (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19) : S2x10240.Idx → EReal) y
      = sil (baseK (xF arg0 X0) (arg1.view.read (Elt Ideal) X1) (arg3.view.read (Elt Ideal) X3) (arg2.view.read (Elt Ideal) X2) (y 0).val (y 1).val + at2 (arg4.view.read (Elt Ideal) X4 : S2x10240.Idx → EReal) (y 0).val (y 1).val)
          (baseK (xF arg0 X0) (arg5.view.read (Elt Ideal) X5) (arg7.view.read (Elt Ideal) X7) (arg6.view.read (Elt Ideal) X6) (y 0).val (y 1).val + at2 (arg8.view.read (Elt Ideal) X8 : S2x10240.Idx → EReal) (y 0).val (y 1).val) := by
  have h0 : (y 0).val < 2 := (y 0).isLt
  have h1 : (y 1).val < 10240 := (y 1).isLt
  refine (out_read arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 c X0 X1 X2 X3 X4 X5 X6 X7 X8 X9 X10 X11 X12 X13 X14 X15 X16 X17 X18 X19 y).trans ?_
  unfold outV
  refine congrArg₂ sil (congrArg₂ (· + ·) ?_ ?_) (congrArg₂ (· + ·) ?_ ?_)
  · unfold baseV baseK
    refine Finset.sum_congr rfl fun d hd => ?_
    have hd' : d / 128 < 20 := by have := Finset.mem_range.mp hd; omega
    have es : sF arg11 (scales arg2 arg6 arg11 X2 X6) 0 (d / 128) (y 1).val = at2 (arg2.view.read (Elt Ideal) X2 : S20x10240.Idx → EReal) (d / 128) (y 1).val := half_zero (n := 20) arg11.view _ _ _ _ _ _ _ _ hd' h1
    have ez : zF arg12 (zeros arg3 arg7 arg12 X3 X7) 0 (d / 128) (y 1).val = num (at2 (arg3.view.read (Elt Ideal) X3 : S20x10240.Idx → BitVec 8) (d / 128) (y 1).val) := congrArg num (half_zero (n := 20) arg12.view _ _ _ _ _ _ _ _ hd' h1)
    rw [es, ez]
    rfl
  · exact half_zero (n := 2) arg17.view _ _ _ _ _ _ _ _ h0 h1
  · unfold baseV baseK
    refine Finset.sum_congr rfl fun d hd => ?_
    have hd' : d / 128 < 20 := by have := Finset.mem_range.mp hd; omega
    have es : sF arg11 (scales arg2 arg6 arg11 X2 X6) 1 (d / 128) (y 1).val = at2 (arg6.view.read (Elt Ideal) X6 : S20x10240.Idx → EReal) (d / 128) (y 1).val := half_one (n := 20) arg11.view _ _ _ _ _ _ _ _ hd' h1
    have ez : zF arg12 (zeros arg3 arg7 arg12 X3 X7) 1 (d / 128) (y 1).val = num (at2 (arg7.view.read (Elt Ideal) X7 : S20x10240.Idx → BitVec 8) (d / 128) (y 1).val) := congrArg num (half_one (n := 20) arg12.view _ _ _ _ _ _ _ _ hd' h1)
    rw [es, ez]
    rfl
  · exact half_one (n := 2) arg17.view _ _ _ _ _ _ _ _ h0 h1

end Cert.KernelIdeal

end
-- ==== Proof.KernelIdeal.Value.lean ====
/-
  The run of the whole program at exact numbers, with the result's contents named.
-/
module

public import proofs.«01_k».proof.Proof.KernelIdeal.Result
public import proofs.«01_k».proof.Proof.KernelIdeal.Frame
public import Idealize.ShloMosaic.Lib.Pipeline.FrameValue

@[expose] public section

set_option maxRecDepth 16384

noncomputable section

namespace Cert.KernelIdeal

open Gen Cert.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

open Idealize.ShloMosaic.Pipeline (Dat Cfg Window BodyObligation cellOf)

variable (m : (ℓ : Loc nD τ sig) → Buf (Elt Ideal) ℓ) (ρ : Dev nD → PrngReg)

/-- The result's entries from the operands' contents. -/
def valueOf (x : S2x2560.Idx → EReal) (w1 : S2560x1024.Idx → BitVec 32) (s1 : S20x10240.Idx → EReal) (z1 : S20x10240.Idx → BitVec 8) (r1 : S2x10240.Idx → EReal) (w2 : S2560x1024.Idx → BitVec 32) (s2 : S20x10240.Idx → EReal) (z2 : S20x10240.Idx → BitVec 8) (r2 : S2x10240.Idx → EReal) (y : S2x10240.Idx) : EReal :=
  sil (baseK (at2 x) w1 z1 s1 (y 0).val (y 1).val + at2 r1 (y 0).val (y 1).val) (baseK (at2 x) w2 z2 s2 (y 0).val (y 1).val + at2 r2 (y 0).val (y 1).val)

/-- The result as a buffer. -/
def resV (c : Dev nD) (X0 : Buf (Elt Ideal) ((c : Thread nD τ).loc main_v0)) (X1 : Buf (Elt Ideal) ((c : Thread nD τ).loc main_arg1)) (X2 : Buf (Elt Ideal) ((c : Thread nD τ).loc main_arg2)) (X3 : Buf (Elt Ideal) ((c : Thread nD τ).loc main_arg3)) (X4 : Buf (Elt Ideal) ((c : Thread nD τ).loc main_arg4)) (X5 : Buf (Elt Ideal) ((c : Thread nD τ).loc main_arg5)) (X6 : Buf (Elt Ideal) ((c : Thread nD τ).loc main_arg6)) (X7 : Buf (Elt Ideal) ((c : Thread nD τ).loc main_arg7)) (X8 : Buf (Elt Ideal) ((c : Thread nD τ).loc main_arg8)) : Buf (Elt Ideal) ((c : Thread nD τ).loc main_v1) :=
  fun y : S2x10240.Idx => valueOf X0 X1 X2 X3 X4 X5 X6 X7 X8 y

/-- Whatever the scratch buffers held, the body leaves the result. -/
theorem result_eq (c : Dev nD) (X0 : Buf (Elt Ideal) ((c : Thread nD τ).loc main_v0)) (X1 : Buf (Elt Ideal) ((c : Thread nD τ).loc main_arg1)) (X2 : Buf (Elt Ideal) ((c : Thread nD τ).loc main_arg2)) (X3 : Buf (Elt Ideal) ((c : Thread nD τ).loc main_arg3)) (X4 : Buf (Elt Ideal) ((c : Thread nD τ).loc main_arg4)) (X5 : Buf (Elt Ideal) ((c : Thread nD τ).loc main_arg5)) (X6 : Buf (Elt Ideal) ((c : Thread nD τ).loc main_arg6)) (X7 : Buf (Elt Ideal) ((c : Thread nD τ).loc main_arg7)) (X8 : Buf (Elt Ideal) ((c : Thread nD τ).loc main_arg8)) (X9 : Buf (Elt Ideal) ((c : Thread nD τ).loc main_v1)) (X10 : Buf (Elt Ideal) ((c : Thread nD τ).loc cc0_scratch0)) (X11 : Buf (Elt Ideal) ((c : Thread nD τ).loc cc0_scratch1)) (X12 : Buf (Elt Ideal) ((c : Thread nD τ).loc cc0_scratch2)) (X13 : Buf (Elt Ideal) ((c : Thread nD τ).loc cc0_scratch3)) (X14 : Buf (Elt Ideal) ((c : Thread nD τ).loc cc0_scratch4)) (X15 : Buf (Elt Ideal) ((c : Thread nD τ).loc cc0_scratch5)) (X16 : Buf (Elt Ideal) ((c : Thread nD τ).loc cc0_scratch6)) (X17 : Buf (Elt Ideal) ((c : Thread nD τ).loc cc0_scratch7)) (X18 : Buf (Elt Ideal) ((c : Thread nD τ).loc cc0_scratch8)) (X19 : Buf (Elt Ideal) ((c : Thread nD τ).loc cc0_scratch9)) :
    result (F := Ideal) c X0 X1 X2 X3 X4 X5 X6 X7 X8 X9 X10 X11 X12 X13 X14 X15 X16 X17 X18 X19 = resV c X0 X1 X2 X3 X4 X5 X6 X7 X8 := by
  funext y
  exact out_value M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) cc0_scratch10 cc0_scratch11 cc0_scratch12 cc0_scratch13 c X0 X1 X2 X3 X4 X5 X6 X7 X8 X9 X10 X11 X12 X13 X14 X15 X16 X17 X18 X19 y

/-- The buffers after the run: the result's contents, and every other as the region found it. -/
def G (c : Dev nD) (b : Ref sig .tc) : Buf (Elt Ideal) ((c : Thread nD τ).loc b) :=
  Function.update (Gen.V m c) main_v1 (resV c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8)) b

theorem G_result (c : Dev nD) : G m c main_v1 = resV c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8) := by
  unfold G; exact Function.update_self _ _ _

theorem routed_eq (c : Dev nD) (W : (b : Ref sig .tc) → Buf (Elt Ideal) ((c : Thread nD τ).loc b)) :
    (Pipeline.routed R0 c W : sProp 𝕄) = iprop(((c : Thread nD τ).loc main_v1) ↦{fullShare} W main_v1) := by
  unfold Pipeline.routed; rw [BI.bigSep_eq_bigSepL_of_eq [main_v1] (by decide) (by decide)]; rfl

theorem heldG_eq (c : Dev nD) :
    (Pipeline.ΦDRG cells cfg0.spec H0 R0 (Gen.V m) (G m) c : sProp 𝕄)
      = iprop(scratch c ∗ (∃ r, prngReg c r) ∗ cellsZero c ∗ hbm c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8)
          ∗ (((c : Thread nD τ).loc main_v1) ↦{fullShare} resV c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8))) := by
  rw [Pipeline.ΦDRG_eq, scopedRest0_eq, cells_eq, hbm_eq, routed_eq, G_result]

/-- The invariant: before the body the buffers as the region finds them, after it the result in place. -/
def datsG (_ : Fin 1) (c : Dev nD) : Dat τ (Elt Ideal) Unit ℕ (Pipeline.UD sig nD τ) ℕ cfg0 c where
  A w := w.elim0
  after w t := w.elim0
  Φ t := if t.val = 0 then Pipeline.ΦDRG cells cfg0.spec H0 R0 (Gen.V m) (Gen.V m) c else Pipeline.ΦDRG cells cfg0.spec H0 R0 (Gen.V m) (G m) c
  q _ := fullShare
  owed _ := 0

theorem datsG_first (c : Dev nD) : (datsG m 0 c).Φ 0 = Pipeline.ΦDRG cells cfg0.spec H0 R0 (Gen.V m) (Gen.V m) c := by
  show (if (0 : Fin (cfg0.N + 1)).val = 0 then Pipeline.ΦDRG cells cfg0.spec H0 R0 (Gen.V m) (Gen.V m) c else Pipeline.ΦDRG cells cfg0.spec H0 R0 (Gen.V m) (G m) c) = Pipeline.ΦDRG cells cfg0.spec H0 R0 (Gen.V m) (Gen.V m) c
  exact if_pos rfl
theorem datsG_last (c : Dev nD) : (datsG m 0 c).Φ (Fin.last cfg0.N) = Pipeline.ΦDRG cells cfg0.spec H0 R0 (Gen.V m) (G m) c := by
  show (if (Fin.last cfg0.N).val = 0 then Pipeline.ΦDRG cells cfg0.spec H0 R0 (Gen.V m) (Gen.V m) c else Pipeline.ΦDRG cells cfg0.spec H0 R0 (Gen.V m) (G m) c) = Pipeline.ΦDRG cells cfg0.spec H0 R0 (Gen.V m) (G m) c
  exact if_neg (show ¬ (Fin.last cfg0.N).val = 0 by decide)

set_option maxHeartbeats 2000000 in
theorem sound_bodyG (c : Dev nD) (t : Fin cfg0.N) :
    iprop((datsG m 0 c).Φ t.castSucc ∗ (datsG m 0 c).owesAt () t.castSucc)
      ⊢ wp Idealize.ShloMosaic.frame (wpE (defs₀ (F := Ideal)) Variants.none (c : Thread nD τ) none) Set.univ (bodyAt0 t)
          (fun _ => iprop((datsG m 0 c).Φ t.succ ∗ (datsG m 0 c).owesAt () t.succ)) := by
  have ht : t.val = 0 := Nat.lt_one_iff.mp t.isLt
  have h1 : (datsG m 0 c).Φ t.succ = Pipeline.ΦDRG cells cfg0.spec H0 R0 (Gen.V m) (G m) c := by
    show (if t.succ.val = 0 then Pipeline.ΦDRG cells cfg0.spec H0 R0 (Gen.V m) (Gen.V m) c else Pipeline.ΦDRG cells cfg0.spec H0 R0 (Gen.V m) (G m) c) = Pipeline.ΦDRG cells cfg0.spec H0 R0 (Gen.V m) (G m) c
    exact if_neg (show ¬ t.succ.val = 0 from Nat.succ_ne_zero t.val)
  have h0 : (datsG m 0 c).Φ t.castSucc = Pipeline.ΦDRG cells cfg0.spec H0 R0 (Gen.V m) (Gen.V m) c := by
    show (if t.castSucc.val = 0 then Pipeline.ΦDRG cells cfg0.spec H0 R0 (Gen.V m) (Gen.V m) c else Pipeline.ΦDRG cells cfg0.spec H0 R0 (Gen.V m) (G m) c) = Pipeline.ΦDRG cells cfg0.spec H0 R0 (Gen.V m) (Gen.V m) c
    exact if_pos ht
  rw [h1, h0, heldG_eq]
  have hs := (Pipeline.ΦDRG_ΦDR cells cfg0.spec H0 R0 (Gen.V m) (Gen.V m) c).trans (BIBase.Entails.of_eq (held_eq (F := Ideal) m c))
  refine BIBase.Entails.trans (Q := iprop((scratch c ∗ (∃ r, prngReg c r) ∗ cellsZero c ∗ hbm c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8)
          ∗ (∃ f : Buf (Elt Ideal) ((c : Thread nD τ).loc main_v1), ((c : Thread nD τ).loc main_v1) ↦{fullShare} f)) ∗ (datsG m 0 c).owesAt () t.castSucc)) ?_ ?_
  · iintro ⟨HD, HW⟩
    isplitl [HD]
    · iapply hs; iexact HD
    iexact HW
  unfold Dat.owesAt Pipeline.owesWithin
  rw [show (datsG m 0 c).owed t.castSucc = 0 from rfl, show (datsG m 0 c).owed t.succ = 0 from rfl]
  iintro ⟨⟨⟨⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩, Hg, Hc, Hh, ⟨%X9, H9⟩⟩, ⟨%W, -, HW⟩⟩
  iapply (wp_framed (F := Ideal) (R := iprop(∃ r, prngReg c r)) (kernelRun c (Gen.V m c main_v0) (Gen.V m c main_arg1) (Gen.V m c main_arg2) (Gen.V m c main_arg3) (Gen.V m c main_arg4) (Gen.V m c main_arg5) (Gen.V m c main_arg6) (Gen.V m c main_arg7) (Gen.V m c main_arg8) X9 X10 X11 X12 X13 X14 X15 X16 X17 X18 X19 W t) (fun _ => ?_))
  rotate_left
  · isplitr [Hg]
    · isplitl [HW]; · iexact HW
      isplitl [H10 H11 H12 H13 H14 H15 H16 H17 H18 H19]
      · isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      isplitl [Hc]; · iexact Hc
      isplitl [Hh]; · iexact Hh
      iexact H9
    · iexact Hg
  iintro ⟨⟨⟨%W', HW⟩, Hs, Hc, Hh, H9⟩, Hg⟩
  isplitl [Hs Hg Hc Hh H9]
  · isplitl [Hs]; · iexact Hs
    isplitl [Hg]; · iexact Hg
    isplitl [Hc]; · iexact Hc
    isplitl [Hh]; · iexact Hh
    rw [result_eq]; iexact H9
  iexists W'; isplitr; · ipureintro; exact fun _ _ => Or.inl trivial
  iexact HW

theorem body_obligationG (c : Dev nD) : BodyObligation (datsG m 0 c) (defs₀ (F := Ideal)) Variants.none () Set.univ := fun t => by
  rw [body_row]
  refine triple_restated (sound_bodyG m c t) rfl ?_ fun _ => ?_
  · iintro ⟨H, HW, -⟩
    isplitl [H]; · iexact H
    iexact HW
  · iintro ⟨H, HW⟩
    isplitl [H]; · iexact H
    isplitl [HW]; · iexact HW
    rw [show (Finset.univ : Finset (Fin cfg0.W)) = ∅ from rfl, bigSep_empty]
    iempintro

set_option backward.isDefEq.respectTransparency.types false in
theorem run_mainG : θ_run defs (onTc (τ := τ) (main (F := Ideal))) (s₀ m ρ) (fun r => Pipeline.FramePostRG cfgs (datsG m) 0 R0 (Gen.V m) (G m) r ∧ r.2.sem = fun _ => 0) :=
  Pipeline.θ_run_frame_dmaRG (Q' := _) cfgs (datsG m) (0 : Fin 1) launch0 cells defs₀ Variants.none cells_facts H0 R0 H0_sub R0_sub m ρ main
    (hbody := fun c => (body_obligationG m c).loose) (hshare := fun c => (datsG m 0 c).share_full fun _ => rfl)
    (howed := fun _ _ => rfl) (V := Gen.V m) (hmain := hmain m Variants.none) (hA := fun _ w => w.elim0)
    (G := G m) (hin := fun c => BIBase.Entails.of_eq (datsG_first m c).symm) (hout := fun c => BIBase.Entails.of_eq (datsG_last m c))

theorem V_main_v0 (c : Dev nD) : Gen.V m c main_v0 = (shapeCast S2x2560 (m ((c : Thread nD τ).loc main_arg0) : S2x1x2560.Idx → EReal) shapeCasts_S2x1x2560_S2x2560 : S2x2560.Idx → EReal) := by
  simp only [Gen.V, hostOps0]
  after_results_simp <;> rfl

/-- The program runs, leaves the result, and leaves its arguments as they were. -/
theorem valued : θ_run defs (onTc (τ := τ) (main (F := Ideal))) ⟨m, fun _ => 0, ρ⟩ (fun r => ∀ c : Dev nD,
      r.2.mem ((c.tc : Thread nD τ).loc main_v1) = resV c (shapeCast S2x2560 (m ((c.tc : Thread nD τ).loc main_arg0) : S2x1x2560.Idx → EReal) shapeCasts_S2x1x2560_S2x2560 : S2x2560.Idx → EReal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h.1.2 c main_v1 (by decide)).trans ((G_result m c).trans (by rw [V_main_v0, V_main_arg1, V_main_arg2, V_main_arg3, V_main_arg4, V_main_arg5, V_main_arg6, V_main_arg7, V_main_arg8])),
    ((h.1.1 c).2 main_arg0 (Finset.mem_sdiff.mpr ⟨Pipeline.mem_restRefs_of main_arg0 (by decide) (by decide), by decide⟩)).trans (V_main_arg0 m c),
    ((h.1.1 c).2 main_arg1 (Finset.mem_sdiff.mpr ⟨Pipeline.mem_restRefs_of main_arg1 (by decide) (by decide), by decide⟩)).trans (V_main_arg1 m c),
    ((h.1.1 c).2 main_arg2 (Finset.mem_sdiff.mpr ⟨Pipeline.mem_restRefs_of main_arg2 (by decide) (by decide), by decide⟩)).trans (V_main_arg2 m c),
    ((h.1.1 c).2 main_arg3 (Finset.mem_sdiff.mpr ⟨Pipeline.mem_restRefs_of main_arg3 (by decide) (by decide), by decide⟩)).trans (V_main_arg3 m c),
    ((h.1.1 c).2 main_arg4 (Finset.mem_sdiff.mpr ⟨Pipeline.mem_restRefs_of main_arg4 (by decide) (by decide), by decide⟩)).trans (V_main_arg4 m c),
    ((h.1.1 c).2 main_arg5 (Finset.mem_sdiff.mpr ⟨Pipeline.mem_restRefs_of main_arg5 (by decide) (by decide), by decide⟩)).trans (V_main_arg5 m c),
    ((h.1.1 c).2 main_arg6 (Finset.mem_sdiff.mpr ⟨Pipeline.mem_restRefs_of main_arg6 (by decide) (by decide), by decide⟩)).trans (V_main_arg6 m c),
    ((h.1.1 c).2 main_arg7 (Finset.mem_sdiff.mpr ⟨Pipeline.mem_restRefs_of main_arg7 (by decide) (by decide), by decide⟩)).trans (V_main_arg7 m c),
    ((h.1.1 c).2 main_arg8 (Finset.mem_sdiff.mpr ⟨Pipeline.mem_restRefs_of main_arg8 (by decide) (by decide), by decide⟩)).trans (V_main_arg8 m c)⟩) (run_mainG m ρ)

end Cert.KernelIdeal

end
-- ==== Proof.RefValue.lean ====
/-
  The reference's result, entry by entry.
-/
module

public import proofs.«01_k».proof.Proof.KernelIdeal.Scale
public import proofs.«01_k».proof.Proof.Gen.ReferenceIdeal.Run

@[expose] public section

set_option maxRecDepth 16384

noncomputable section

namespace Cert.RefValue

open Cert.ReferenceIdeal Cert.ReferenceIdeal.Gen Cert.Value
open Cert.KernelIdeal (cd fld baseV)
open Idealize.ShloMosaic Idealize.ShloMosaic.TcCoe

/-- Every field of every packed word. -/
def codesR (w : S2560x1024.Idx → BitVec 32) : S10x2560x1024.Idx → BitVec 32 :=
  andi (Host.shrui (broadcastInDim S10x2560x1024 ![0, 1, 2] bcast_S1x2560x1024_S10x2560x1024_0_1_2 (broadcastInDim S1x2560x1024 ![1, 2] bcast_S2560x1024_S1x2560x1024_1_2 w)) (broadcastInDim S10x2560x1024 ![0, 1, 2] bcast_S10x1x1_S10x2560x1024_0_1_2 (broadcastInDim S10x1x1 ![0] bcast_S10_S10x1x1_0 (muli (iotaInDim S10 32 0) (broadcastInDim S10 ![] bcast_S_S10 (constantI S_ 32 3#32)))))) (broadcastInDim S10x2560x1024 ![] bcast_S_S10x2560x1024 (constantI S_ 32 7#32))

/-- The zeros by field, group and column. -/
def zerosR (z : S20x10240.Idx → BitVec 8) : S10x20x1024.Idx → EReal :=
  (truncf .bf16 (sitofp .f32 (extui 32 (transpose S10x20x1024 [1, 0, 2] (shapeCast _ z shapeCasts_S20x10240_S20x10x1024) transposes_S20x10x1024_S10x20x1024_1_0_2) natLt_8_32)) bitsLt_bf16_f32 : FVec Ideal S10x20x1024 .bf16)

/-- The scales by field, group and column. -/
def scalesR (s : S20x10240.Idx → EReal) : S10x20x1024.Idx → EReal :=
  transpose S10x20x1024 [1, 0, 2] (shapeCast _ s shapeCasts_S20x10240_S20x10x1024) transposes_S20x10x1024_S10x20x1024_1_0_2

/-- The weights. -/
def deqR (w : S2560x1024.Idx → BitVec 32) (z : S20x10240.Idx → BitVec 8) (s : S20x10240.Idx → EReal) : FVec Ideal S10x2560x1024 .bf16 :=
  shapeCast _ (mulf (subf (shapeCast _ (truncf .bf16 (sitofp .f32 (codesR w)) bitsLt_bf16_f32 : FVec Ideal S10x2560x1024 .bf16) shapeCasts_S10x2560x1024_S10x20x128x1024) (broadcastInDim S10x20x128x1024 ![0, 1, 2, 3] bcast_S10x20x1x1024_S10x20x128x1024_0_1_2_3 (broadcastInDim S10x20x1x1024 ![0, 1, 3] bcast_S10x20x1024_S10x20x1x1024_0_1_3 (zerosR z))) : FVec Ideal S10x20x128x1024 .bf16) (broadcastInDim S10x20x128x1024 ![0, 1, 2, 3] bcast_S10x20x1x1024_S10x20x128x1024_0_1_2_3 (broadcastInDim S10x20x1x1024 ![0, 1, 3] bcast_S10x20x1024_S10x20x1x1024_0_1_3 (scalesR s)))) shapeCasts_S10x20x128x1024_S10x2560x1024

/-- The products, one row per batch entry. -/
def baseR (x : S2x1x2560.Idx → EReal) (w : S2560x1024.Idx → BitVec 32) (z : S20x10240.Idx → BitVec 8) (s : S20x10240.Idx → EReal) : FVec Ideal S2x10240 .f32 :=
  shapeCast _ (shapeCast _ (Host.dotGeneral (F := Ideal) (φ₁ := .bf16) (φ₂ := .bf16) dot_S2x1x2560_S10x2560x1024_S2x1x10x1024_2_1_01_02_n_n none x (deqR w z s)) shapeCasts_S2x1x10x1024_S2x1x10240) shapeCasts_S2x1x10240_S2x10240

theorem word_field (w : BitVec 32) (f : Fin 10) : (((w >>> (3 * f.val)) &&& 7#32).toInt : ℤ) = ((fld f.val w).toNat : ℤ) := by
  have h : ((w >>> (3 * f.val)) &&& 7#32).toNat = (fld f.val w).toNat := by
    unfold fld
    rw [BitVec.toNat_and, BitVec.extractLsb'_toNat, BitVec.toNat_ushiftRight]
    exact Nat.and_two_pow_sub_one_eq_mod _ 3
  have hlt : (fld f.val w).toNat < 8 := (fld f.val w).isLt
  rw [BitVec.toInt_eq_toNat_of_lt (by omega), h]

theorem shift_word (w : BitVec 32) : ∀ f : Fin 10, IntOp.shrui .host w (IntOp.muli (BitVec.ofNat 32 f.val) 3#32) = w >>> (3 * f.val) := by
  intro f
  match f with
  | 0 => rfl
  | 1 => rfl
  | 2 => rfl
  | 3 => rfl
  | 4 => rfl
  | 5 => rfl
  | 6 => rfl
  | 7 => rfl
  | 8 => rfl
  | 9 => rfl

theorem codesR_at (w : S2560x1024.Idx → BitVec 32) (f : Fin 10) (d : Fin 2560) (n : Fin 1024) :
    (((codesR w (ValueIdx.ix3 f d n)).toInt : ℝ) : EReal) = cd f.val (w (ValueIdx.ix2 d n)) := by
  have h : codesR w (ValueIdx.ix3 f d n) = IntOp.shrui .host (w (ValueIdx.ix2 d n)) (IntOp.muli (BitVec.ofNat 32 f.val) 3#32) &&& 7#32 := by
    refine congrArg (fun t => IntOp.shrui .host (w t) (IntOp.muli (BitVec.ofNat 32 f.val) 3#32) &&& 7#32) ?_
    funext a
    match a with
    | 0 => rfl
    | 1 => rfl
  rw [h, shift_word, word_field]
  unfold cd
  norm_cast

theorem cast_field {α : Type} (z : S20x10240.Idx → α) (f : Fin 10) (g : Fin 20) (n : Fin 1024) :
    transpose S10x20x1024 [1, 0, 2] (shapeCast _ z shapeCasts_S20x10240_S20x10x1024) transposes_S20x10x1024_S10x20x1024_1_0_2 (ValueIdx.ix3 f g n)
      = z (ValueIdx.ix2 g (⟨1024 * f.val + n.val, by omega⟩ : Fin 10240)) := by
  refine (shapeCast_apply z shapeCasts_S20x10240_S20x10x1024 _ (ValueIdx.ix2 g (⟨1024 * f.val + n.val, by omega⟩ : Fin 10240)) ?_)
  refine (Shape.rowMajor_val_two _).trans (Eq.trans ?_ (Shape.rowMajor_val_three _).symm)
  show g.val * 10240 + (1024 * f.val + n.val) = (g.val * 10 + f.val) * 1024 + n.val
  omega

theorem zerosR_at (z : S20x10240.Idx → BitVec 8) (f : Fin 10) (g : Fin 20) (n : Fin 1024) :
    zerosR z (ValueIdx.ix3 f g n) = num (z (ValueIdx.ix2 g (⟨1024 * f.val + n.val, by omega⟩ : Fin 10240))) := by
  have h : zerosR z (ValueIdx.ix3 f g n) = (((transpose S10x20x1024 [1, 0, 2] (shapeCast _ z shapeCasts_S20x10240_S20x10x1024) transposes_S20x10x1024_S10x20x1024_1_0_2 (ValueIdx.ix3 f g n)).setWidth 32).toInt : ℝ) := rfl
  rw [h, cast_field]
  generalize z _ = b
  unfold num
  have e : ((b.setWidth 32).toInt : ℤ) = (b.toNat : ℤ) := by
    have hb := b.isLt
    have h2 : (b.setWidth 32).toNat = b.toNat := by rw [BitVec.toNat_setWidth]; omega
    rw [BitVec.toInt_eq_toNat_of_lt (by omega), h2]
  rw [e]
  norm_cast

theorem deqR_at (w : S2560x1024.Idx → BitVec 32) (z : S20x10240.Idx → BitVec 8) (s : S20x10240.Idx → EReal) (f : Fin 10) (d : Fin 2560) (n : Fin 1024) :
    (deqR w z s (ValueIdx.ix3 f d n) : EReal) = (cd f.val (w (ValueIdx.ix2 d n)) - num (z (ValueIdx.ix2 (⟨d.val / 128, by omega⟩ : Fin 20) (⟨1024 * f.val + n.val, by omega⟩ : Fin 10240))))
      * s (ValueIdx.ix2 (⟨d.val / 128, by omega⟩ : Fin 20) (⟨1024 * f.val + n.val, by omega⟩ : Fin 10240)) := by
  unfold deqR
  refine (shapeCast_apply _ shapeCasts_S10x20x128x1024_S10x2560x1024 _ (ValueIdx.ix4 f (⟨d.val / 128, by omega⟩ : Fin 20) (⟨d.val % 128, by omega⟩ : Fin 128) n) ?_).trans ?_
  · refine (Shape.rowMajor_val_four _).trans (Eq.trans ?_ (Shape.rowMajor_val_three _).symm)
    show ((f.val * 20 + d.val / 128) * 128 + d.val % 128) * 1024 + n.val = (f.val * 2560 + d.val) * 1024 + n.val
    omega
  refine congrArg₂ (· * ·) (congrArg₂ (· - ·) ?_ ?_) ?_
  · refine (shapeCast_apply _ shapeCasts_S10x2560x1024_S10x20x128x1024 _ (ValueIdx.ix3 f d n) ?_).trans ?_
    · refine (Shape.rowMajor_val_three _).trans (Eq.trans ?_ (Shape.rowMajor_val_four _).symm)
      show (f.val * 2560 + d.val) * 1024 + n.val = ((f.val * 20 + d.val / 128) * 128 + d.val % 128) * 1024 + n.val
      omega
    · exact codesR_at w f d n
  · refine Eq.trans ?_ (zerosR_at z f (⟨d.val / 128, by omega⟩ : Fin 20) n)
    refine congrArg (zerosR z) ?_
    funext a
    match a with
    | 0 => rfl
    | 1 => rfl
    | 2 => rfl
  · refine Eq.trans ?_ (cast_field s f (⟨d.val / 128, by omega⟩ : Fin 20) n)
    refine congrArg (scalesR s) ?_
    funext a
    match a with
    | 0 => rfl
    | 1 => rfl
    | 2 => rfl

theorem dotR_at (x : S2x1x2560.Idx → EReal) (v : FVec Ideal S10x2560x1024 .bf16) (b : Fin 2) (f : Fin 10) (n : Fin 1024) :
    (Host.dotGeneral (F := Ideal) (φ₁ := .bf16) (φ₂ := .bf16) dot_S2x1x2560_S10x2560x1024_S2x1x10x1024_2_1_01_02_n_n none x v (ValueIdx.ix4 b (0 : Fin 1) f n) : EReal)
      = ∑ d : Fin 2560, x (ValueIdx.ix3 b (0 : Fin 1) d) * v (ValueIdx.ix3 f d n) := by
  show FloatOps.dotGeneral _ none _ (x : FVec Ideal S2x1x2560 .bf16) v (ValueIdx.ix4 b (0 : Fin 1) f n) = _
  rw [Ideal.dotGeneral_apply, ← Equiv.sum_comp (ValueIdx.contrEquiv1 (dot_S2x1x2560_S10x2560x1024_S2x1x10x1024_2_1_01_02_n_n) 2560 rfl rfl).symm]
  refine Finset.sum_congr rfl fun d _ => ?_
  have c2 := ValueIdx.contrEquiv1_symm_val (dot_S2x1x2560_S10x2560x1024_S2x1x10x1024_2_1_01_02_n_n) 2560 rfl rfl d
  refine congrArg₂ (· * ·) (congrArg x ?_) (congrArg v ?_)
  · funext ax; apply Fin.ext
    match ax with
    | ⟨0, _⟩ => rfl
    | ⟨1, _⟩ => rfl
    | ⟨2, _⟩ => exact c2
  · funext ax; apply Fin.ext
    match ax with
    | ⟨0, _⟩ => rfl
    | ⟨1, _⟩ => exact c2
    | ⟨2, _⟩ => rfl

theorem baseR_at (x : S2x1x2560.Idx → EReal) (w : S2560x1024.Idx → BitVec 32) (z : S20x10240.Idx → BitVec 8) (s : S20x10240.Idx → EReal) (b : Fin 2) (n : Fin 10240) :
    (baseR x w z s (ValueIdx.ix2 b n) : EReal) = ∑ d ∈ Finset.range 2560, at3 x b.val 0 d * ((cd (n.val / 1024) (at2 w d (n.val % 1024)) - num (at2 z (d / 128) n.val)) * at2 s (d / 128) n.val) := by
  unfold baseR
  refine (shapeCast_apply _ shapeCasts_S2x1x10240_S2x10240 _ (ValueIdx.ix3 b (0 : Fin 1) n) ?_).trans ?_
  · refine (Shape.rowMajor_val_three _).trans (Eq.trans ?_ (Shape.rowMajor_val_two _).symm)
    show (b.val * 1 + 0) * 10240 + n.val = b.val * 10240 + n.val
    omega
  refine (shapeCast_apply _ shapeCasts_S2x1x10x1024_S2x1x10240 _ (ValueIdx.ix4 b (0 : Fin 1) (⟨n.val / 1024, by omega⟩ : Fin 10) (⟨n.val % 1024, by omega⟩ : Fin 1024)) ?_).trans ?_
  · refine (Shape.rowMajor_val_four _).trans (Eq.trans ?_ (Shape.rowMajor_val_three _).symm)
    show ((b.val * 1 + 0) * 10 + n.val / 1024) * 1024 + n.val % 1024 = (b.val * 1 + 0) * 10240 + n.val
    omega
  refine (dotR_at x (deqR w z s) b _ _).trans ?_
  refine Eq.trans ?_ (Finset.sum_range (fun d => at3 x b.val 0 d * ((cd (n.val / 1024) (at2 w d (n.val % 1024)) - num (at2 z (d / 128) n.val)) * at2 s (d / 128) n.val))).symm
  refine Finset.sum_congr rfl fun d _ => ?_
  rw [deqR_at]
  have hn : 1024 * (n.val / 1024) + n.val % 1024 = n.val := by omega
  refine congrArg₂ (· * ·) ?_ (congrArg₂ (· * ·) (congrArg₂ (· - ·) (congrArg (cd _) ?_) (congrArg num ?_)) ?_)
  · exact at3_of x _ rfl rfl rfl
  · exact at2_of w _ rfl rfl
  · exact at2_of z _ rfl hn
  · exact at2_of s _ rfl hn

/-- The result, entry by entry. -/
theorem result_at (m : (ℓ : Loc nD τ sig) → Buf (Elt Ideal) ℓ) (c : Dev nD) (b : Fin 2) (n : Fin 10240) (yg yu : EReal)
    (hg : (baseR (m ((c.tc : Thread nD τ).loc main_arg0)) (m ((c.tc : Thread nD τ).loc main_arg1)) (m ((c.tc : Thread nD τ).loc main_arg3)) (m ((c.tc : Thread nD τ).loc main_arg2)) (ValueIdx.ix2 b n) : EReal) + (m ((c.tc : Thread nD τ).loc main_arg4) (ValueIdx.ix2 b n) : EReal) = yg)
    (hu : (baseR (m ((c.tc : Thread nD τ).loc main_arg0)) (m ((c.tc : Thread nD τ).loc main_arg5)) (m ((c.tc : Thread nD τ).loc main_arg7)) (m ((c.tc : Thread nD τ).loc main_arg6)) (ValueIdx.ix2 b n) : EReal) + (m ((c.tc : Thread nD τ).loc main_arg8) (ValueIdx.ix2 b n) : EReal) = yu) :
    (Cert.ReferenceIdeal.Value.res_main_v66 m c (ValueIdx.ix2 b n) : EReal) = (yg * Ideal.logistic yg) * yu := by
  subst hg hu
  unfold Cert.ReferenceIdeal.Value.res_main_v66
  have h1 : Ideal.ofBits .f32 0x3F800000#32 = 1 := ofBits_two0.trans (by unfold two; norm_num)
  unfold Ideal.logistic
  rw [← h1]
  rfl

end Cert.RefValue

end
-- ==== Proof.KernelIdeal.Match.lean ====
/-
The value of the kernel's result and the reference's, cell by cell.
-/
module

public import proofs.«01_k».proof.Proof.KernelIdeal.Value
public import proofs.«01_k».proof.Proof.RefValue

@[expose] public section

noncomputable section

namespace Cert.KernelIdeal

open Gen Cert.Value
open Idealize.ShloMosaic Idealize.ShloMosaic.TcCoe

/-- Dropping the unit axis of x keeps every entry. -/
theorem flat_at (x : S2x1x2560.Idx → EReal) (b d : ℕ) (hb : b < 2) (hd : d < 2560) :
    at2 (shapeCast S2x2560 x shapeCasts_S2x1x2560_S2x2560 : S2x2560.Idx → EReal) b d = at3 x b 0 d := by
  unfold at2 at3
  refine shapeCast_apply x shapeCasts_S2x1x2560_S2x2560 _ _ ?_
  refine (Shape.rowMajor_val_three _).trans (Eq.trans ?_ (Shape.rowMajor_val_two _).symm)
  show (b % 2 * 1 + 0 % 1) * 2560 + d % 2560 = b % 2 * 2560 + d % 2560
  omega

/-- The two base products agree. -/
theorem base_match (x : S2x1x2560.Idx → EReal) (w : S2560x1024.Idx → BitVec 32) (z : S20x10240.Idx → BitVec 8) (s : S20x10240.Idx → EReal) (b : Fin 2) (n : Fin 10240) :
    (Cert.RefValue.baseR x w z s (ValueIdx.ix2 b n) : EReal)
      = baseK (at2 (shapeCast S2x2560 x shapeCasts_S2x1x2560_S2x2560 : S2x2560.Idx → EReal)) w z s b.val n.val := by
  refine (Cert.RefValue.baseR_at x w z s b n).trans ?_
  unfold baseK
  refine Finset.sum_congr rfl fun d hd => ?_
  rw [flat_at x b.val d b.isLt (Finset.mem_range.mp hd)]

/-- From equal arguments the reference computes the kernel's result. -/
theorem result_match (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)) :
    Cert.ReferenceIdeal.Value.res_main_v66 m' c = resV c (shapeCast S2x2560 (m ((c.tc : Thread nD τ).loc main_arg0) : S2x1x2560.Idx → EReal) shapeCasts_S2x1x2560_S2x2560 : S2x2560.Idx → EReal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  obtain ⟨h0, h1, h2, h3, h4, h5, h6, h7, h8⟩ := h
  refine funext fun y : S2x10240.Idx => ?_
  obtain ⟨b, n, rfl⟩ : ∃ (b : Fin 2) (n : Fin 10240), y = ValueIdx.ix2 b n := ⟨y 0, y 1, ValueIdx.eq_ix2 y⟩
  refine Cert.RefValue.result_at m' c b n _ _ ?_ ?_
  · show _ = baseK (at2 (shapeCast S2x2560 (m ((c.tc : Thread nD τ).loc main_arg0) : S2x1x2560.Idx → EReal) shapeCasts_S2x1x2560_S2x2560 : S2x2560.Idx → EReal)) (m ((c.tc : Thread nD τ).loc main_arg1)) (m ((c.tc : Thread nD τ).loc main_arg3)) (m ((c.tc : Thread nD τ).loc main_arg2)) b.val n.val + at2 ((m ((c.tc : Thread nD τ).loc main_arg4)) : S2x10240.Idx → EReal) b.val n.val
    rw [h0, h1, h3, h2, h4]
    exact congrArg₂ (· + ·) (base_match (m ((c.tc : Thread nD τ).loc main_arg0)) (m ((c.tc : Thread nD τ).loc main_arg1)) (m ((c.tc : Thread nD τ).loc main_arg3)) (m ((c.tc : Thread nD τ).loc main_arg2)) b n) (at2_of (m ((c.tc : Thread nD τ).loc main_arg4)) (ValueIdx.ix2 b n) rfl rfl)
  · show _ = baseK (at2 (shapeCast S2x2560 (m ((c.tc : Thread nD τ).loc main_arg0) : S2x1x2560.Idx → EReal) shapeCasts_S2x1x2560_S2x2560 : S2x2560.Idx → EReal)) (m ((c.tc : Thread nD τ).loc main_arg5)) (m ((c.tc : Thread nD τ).loc main_arg7)) (m ((c.tc : Thread nD τ).loc main_arg6)) b.val n.val + at2 ((m ((c.tc : Thread nD τ).loc main_arg8)) : S2x10240.Idx → EReal) b.val n.val
    rw [h0, h5, h7, h6, h8]
    exact congrArg₂ (· + ·) (base_match (m ((c.tc : Thread nD τ).loc main_arg0)) (m ((c.tc : Thread nD τ).loc main_arg5)) (m ((c.tc : Thread nD τ).loc main_arg7)) (m ((c.tc : Thread nD τ).loc main_arg6)) b n) (at2_of (m ((c.tc : Thread nD τ).loc main_arg8)) (ValueIdx.ix2 b n) rfl rfl)

end Cert.KernelIdeal

end
-- ==== Proof.lean ====
/-
The proof of the certificate's claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.Match
public import Idealize.ShloMosaic.Lib.Bf16Pair

@[expose] public section

noncomputable section

namespace Cert.Proof

open Idealize.ShloMosaic Idealize.SL.Sem Cert.Kernel

theorem kernel_frame : Cert.quiescent_Kernel := fun m g _ => Cert.Kernel.quiet m g
theorem ideal_frame : Cert.quiescent_KernelIdeal := fun m g _ => Cert.KernelIdeal.quiet m g
theorem reference_frame : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

theorem preserves : Cert.preserves_Kernel_KernelIdeal :=
  ⟨IdealRules.bf16_pair.packStatement Cert.KernelIdeal.S20x256,
    IdealRules.bf16_pair.statement Cert.KernelIdeal.S1x1x1x40x256 Cert.KernelIdeal.S1x1x1x20x256,
    IdealRules.bf16_pair.statement Cert.KernelIdeal.S1x1x1x2x256 Cert.KernelIdeal.S1x1x1x1x256,
    IdealRules.bf16_pair.statement Cert.KernelIdeal.S16x256 Cert.KernelIdeal.S8x256⟩

theorem algebraic : Cert.algebraic_KernelIdeal_ReferenceIdeal := fun m g m' g' _ h =>
  ⟨_, Cert.KernelIdeal.valued m g,
    (θ_run Cert.ReferenceIdeal.defs _ _).mono (fun _ hr c => ⟨(hr c).1.trans (Cert.KernelIdeal.result_match m m' c (h c)), (hr c).2⟩)
      (Cert.ReferenceIdeal.Value.run (F := Ideal) m' g')⟩

theorem claim : Cert.Claim := ⟨Cert.Kernel.Gen.facts, Cert.KernelIdeal.Gen.facts, Cert.ReferenceIdeal.Gen.facts,
  kernel_frame, ideal_frame, reference_frame, preserves, algebraic⟩

end Cert.Proof

end
